-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2.2 = (fun _ => 1#1)

def Pre_InAbDx (m : (ℓ : Loc Cert.InAbDx.nD Cert.InAbDx.τ Cert.InAbDx.sig) → Buf (Elt Bits) ℓ) : Prop :=
  True

def Pre_InAbDxIdeal (m : (ℓ : Loc Cert.InAbDxIdeal.nD Cert.InAbDxIdeal.τ Cert.InAbDxIdeal.sig) → Buf (Elt Ideal) ℓ) : Prop :=
  True

def Pre_InAbDxRefIdeal (m : (ℓ : Loc Cert.InAbDxRefIdeal.nD Cert.InAbDxRefIdeal.τ Cert.InAbDxRefIdeal.sig) → Buf (Elt Ideal) ℓ) : Prop :=
  True

def Pre_InAbDw (m : (ℓ : Loc Cert.InAbDw.nD Cert.InAbDw.τ Cert.InAbDw.sig) → Buf (Elt Bits) ℓ) : Prop :=
  True

def Pre_InAbDwIdeal (m : (ℓ : Loc Cert.InAbDwIdeal.nD Cert.InAbDwIdeal.τ Cert.InAbDwIdeal.sig) → Buf (Elt Ideal) ℓ) : Prop :=
  True

def Pre_InAbDwRefIdeal (m : (ℓ : Loc Cert.InAbDwRefIdeal.nD Cert.InAbDwRefIdeal.τ Cert.InAbDwRefIdeal.sig) → Buf (Elt Ideal) ℓ) : Prop :=
  True

def Pre_InCdDx (m : (ℓ : Loc Cert.InCdDx.nD Cert.InCdDx.τ Cert.InCdDx.sig) → Buf (Elt Bits) ℓ) : Prop :=
  True

def Pre_InCdDxIdeal (m : (ℓ : Loc Cert.InCdDxIdeal.nD Cert.InCdDxIdeal.τ Cert.InCdDxIdeal.sig) → Buf (Elt Ideal) ℓ) : Prop :=
  True

def Pre_InCdDxRefIdeal (m : (ℓ : Loc Cert.InCdDxRefIdeal.nD Cert.InCdDxRefIdeal.τ Cert.InCdDxRefIdeal.sig) → Buf (Elt Ideal) ℓ) : Prop :=
  True

def Pre_InCdDw (m : (ℓ : Loc Cert.InCdDw.nD Cert.InCdDw.τ Cert.InCdDw.sig) → Buf (Elt Bits) ℓ) : Prop :=
  True

def Pre_InCdDwIdeal (m : (ℓ : Loc Cert.InCdDwIdeal.nD Cert.InCdDwIdeal.τ Cert.InCdDwIdeal.sig) → Buf (Elt Ideal) ℓ) : Prop :=
  True

def Pre_InCdDwRefIdeal (m : (ℓ : Loc Cert.InCdDwRefIdeal.nD Cert.InCdDwRefIdeal.τ Cert.InCdDwRefIdeal.sig) → Buf (Elt Ideal) ℓ) : Prop :=
  True

def Pre_OutAbDx (m : (ℓ : Loc Cert.OutAbDx.nD Cert.OutAbDx.τ Cert.OutAbDx.sig) → Buf (Elt Bits) ℓ) : Prop :=
  True

def Pre_OutAbDxIdeal (m : (ℓ : Loc Cert.OutAbDxIdeal.nD Cert.OutAbDxIdeal.τ Cert.OutAbDxIdeal.sig) → Buf (Elt Ideal) ℓ) : Prop :=
  True

def Pre_OutAbDxRefIdeal (m : (ℓ : Loc Cert.OutAbDxRefIdeal.nD Cert.OutAbDxRefIdeal.τ Cert.OutAbDxRefIdeal.sig) → Buf (Elt Ideal) ℓ) : Prop :=
  True

def Pre_OutAbDw (m : (ℓ : Loc Cert.OutAbDw.nD Cert.OutAbDw.τ Cert.OutAbDw.sig) → Buf (Elt Bits) ℓ) : Prop :=
  True

def Pre_OutAbDwIdeal (m : (ℓ : Loc Cert.OutAbDwIdeal.nD Cert.OutAbDwIdeal.τ Cert.OutAbDwIdeal.sig) → Buf (Elt Ideal) ℓ) : Prop :=
  True

def Pre_OutAbDwRefIdeal (m : (ℓ : Loc Cert.OutAbDwRefIdeal.nD Cert.OutAbDwRefIdeal.τ Cert.OutAbDwRefIdeal.sig) → Buf (Elt Ideal) ℓ) : Prop :=
  True

def Pre_OutCdDx (m : (ℓ : Loc Cert.OutCdDx.nD Cert.OutCdDx.τ Cert.OutCdDx.sig) → Buf (Elt Bits) ℓ) : Prop :=
  True

def Pre_OutCdDxIdeal (m : (ℓ : Loc Cert.OutCdDxIdeal.nD Cert.OutCdDxIdeal.τ Cert.OutCdDxIdeal.sig) → Buf (Elt Ideal) ℓ) : Prop :=
  True

def Pre_OutCdDxRefIdeal (m : (ℓ : Loc Cert.OutCdDxRefIdeal.nD Cert.OutCdDxRefIdeal.τ Cert.OutCdDxRefIdeal.sig) → Buf (Elt Ideal) ℓ) : Prop :=
  True

def Pre_OutCdDw (m : (ℓ : Loc Cert.OutCdDw.nD Cert.OutCdDw.τ Cert.OutCdDw.sig) → Buf (Elt Bits) ℓ) : Prop :=
  True

def Pre_OutCdDwIdeal (m : (ℓ : Loc Cert.OutCdDwIdeal.nD Cert.OutCdDwIdeal.τ Cert.OutCdDwIdeal.sig) → Buf (Elt Ideal) ℓ) : Prop :=
  True

def Pre_OutCdDwRefIdeal (m : (ℓ : Loc Cert.OutCdDwRefIdeal.nD Cert.OutCdDwRefIdeal.τ Cert.OutCdDwRefIdeal.sig) → Buf (Elt Ideal) ℓ) : Prop :=
  True

def Pre_XoDx (m : (ℓ : Loc Cert.XoDx.nD Cert.XoDx.τ Cert.XoDx.sig) → Buf (Elt Bits) ℓ) : Prop :=
  True

def Pre_XoDxIdeal (m : (ℓ : Loc Cert.XoDxIdeal.nD Cert.XoDxIdeal.τ Cert.XoDxIdeal.sig) → Buf (Elt Ideal) ℓ) : Prop :=
  True

def Pre_XoDxRefIdeal (m : (ℓ : Loc Cert.XoDxRefIdeal.nD Cert.XoDxRefIdeal.τ Cert.XoDxRefIdeal.sig) → Buf (Elt Ideal) ℓ) : Prop :=
  True

def Pre_XoDw (m : (ℓ : Loc Cert.XoDw.nD Cert.XoDw.τ Cert.XoDw.sig) → Buf (Elt Bits) ℓ) : Prop :=
  True

def Pre_XoDwIdeal (m : (ℓ : Loc Cert.XoDwIdeal.nD Cert.XoDwIdeal.τ Cert.XoDwIdeal.sig) → Buf (Elt Ideal) ℓ) : Prop :=
  True

def Pre_XoDwRefIdeal (m : (ℓ : Loc Cert.XoDwRefIdeal.nD Cert.XoDwRefIdeal.τ Cert.XoDwRefIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_XqDxRefIdeal (m : (ℓ : Loc Cert.XqDxRefIdeal.nD Cert.XqDxRefIdeal.τ Cert.XqDxRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_XkvDx (m : (ℓ : Loc Cert.XkvDx.nD Cert.XkvDx.τ Cert.XkvDx.sig) → Buf (Elt Bits) ℓ) : Prop :=
  True

def Pre_XkvDxIdeal (m : (ℓ : Loc Cert.XkvDxIdeal.nD Cert.XkvDxIdeal.τ Cert.XkvDxIdeal.sig) → Buf (Elt Ideal) ℓ) : Prop :=
  True

def Pre_XkvDxRefIdeal (m : (ℓ : Loc Cert.XkvDxRefIdeal.nD Cert.XkvDxRefIdeal.τ Cert.XkvDxRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_InCd (m : (ℓ : Loc Cert.InCd.nD Cert.InCd.τ Cert.InCd.sig) → Buf (Elt Bits) ℓ) : Prop :=
  True

def Pre_InCdIdeal (m : (ℓ : Loc Cert.InCdIdeal.nD Cert.InCdIdeal.τ Cert.InCdIdeal.sig) → Buf (Elt Ideal) ℓ) : Prop :=
  True

def Pre_InCdRefIdeal (m : (ℓ : Loc Cert.InCdRefIdeal.nD Cert.InCdRefIdeal.τ Cert.InCdRefIdeal.sig) → Buf (Elt Ideal) ℓ) : Prop :=
  True

def Pre_OutCd (m : (ℓ : Loc Cert.OutCd.nD Cert.OutCd.τ Cert.OutCd.sig) → Buf (Elt Bits) ℓ) : Prop :=
  True

def Pre_OutCdIdeal (m : (ℓ : Loc Cert.OutCdIdeal.nD Cert.OutCdIdeal.τ Cert.OutCdIdeal.sig) → Buf (Elt Ideal) ℓ) : Prop :=
  True

def Pre_OutCdRefIdeal (m : (ℓ : Loc Cert.OutCdRefIdeal.nD Cert.OutCdRefIdeal.τ Cert.OutCdRefIdeal.sig) → Buf (Elt Ideal) ℓ) : Prop :=
  True

def Pre_GluT (m : (ℓ : Loc Cert.GluT.nD Cert.GluT.τ Cert.GluT.sig) → Buf (Elt Bits) ℓ) : Prop :=
  True

def Pre_GluTIdeal (m : (ℓ : Loc Cert.GluTIdeal.nD Cert.GluTIdeal.τ Cert.GluTIdeal.sig) → Buf (Elt Ideal) ℓ) : Prop :=
  True

def Pre_GluTRefIdeal (m : (ℓ : Loc Cert.GluTRefIdeal.nD Cert.GluTRefIdeal.τ Cert.GluTRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_XkvDxTop (m : (ℓ : Loc Cert.XkvDxTop.nD Cert.XkvDxTop.τ Cert.XkvDxTop.sig) → Buf (Elt Bits) ℓ) : Prop :=
  True

def Pre_XkvDxTopIdeal (m : (ℓ : Loc Cert.XkvDxTopIdeal.nD Cert.XkvDxTopIdeal.τ Cert.XkvDxTopIdeal.sig) → Buf (Elt Ideal) ℓ) : Prop :=
  True

def Pre_XkvDxTopRefIdeal (m : (ℓ : Loc Cert.XkvDxTopRefIdeal.nD Cert.XkvDxTopRefIdeal.τ Cert.XkvDxTopRefIdeal.sig) → Buf (Elt Ideal) ℓ) : Prop :=
  True

def Pre_AdamInAb (m : (ℓ : Loc Cert.AdamInAb.nD Cert.AdamInAb.τ Cert.AdamInAb.sig) → Buf (Elt Bits) ℓ) : Prop :=
  True

def Pre_AdamInAbIdeal (m : (ℓ : Loc Cert.AdamInAbIdeal.nD Cert.AdamInAbIdeal.τ Cert.AdamInAbIdeal.sig) → Buf (Elt Ideal) ℓ) : Prop :=
  True

def Pre_AdamInAbRefIdeal (m : (ℓ : Loc Cert.AdamInAbRefIdeal.nD Cert.AdamInAbRefIdeal.τ Cert.AdamInAbRefIdeal.sig) → Buf (Elt Ideal) ℓ) : Prop :=
  True

def Pre_AdamInCd (m : (ℓ : Loc Cert.AdamInCd.nD Cert.AdamInCd.τ Cert.AdamInCd.sig) → Buf (Elt Bits) ℓ) : Prop :=
  True

def Pre_AdamInCdIdeal (m : (ℓ : Loc Cert.AdamInCdIdeal.nD Cert.AdamInCdIdeal.τ Cert.AdamInCdIdeal.sig) → Buf (Elt Ideal) ℓ) : Prop :=
  True

def Pre_AdamInCdRefIdeal (m : (ℓ : Loc Cert.AdamInCdRefIdeal.nD Cert.AdamInCdRefIdeal.τ Cert.AdamInCdRefIdeal.sig) → Buf (Elt Ideal) ℓ) : Prop :=
  True

def Pre_AdamOutAb (m : (ℓ : Loc Cert.AdamOutAb.nD Cert.AdamOutAb.τ Cert.AdamOutAb.sig) → Buf (Elt Bits) ℓ) : Prop :=
  True

def Pre_AdamOutAbIdeal (m : (ℓ : Loc Cert.AdamOutAbIdeal.nD Cert.AdamOutAbIdeal.τ Cert.AdamOutAbIdeal.sig) → Buf (Elt Ideal) ℓ) : Prop :=
  True

def Pre_AdamOutAbRefIdeal (m : (ℓ : Loc Cert.AdamOutAbRefIdeal.nD Cert.AdamOutAbRefIdeal.τ Cert.AdamOutAbRefIdeal.sig) → Buf (Elt Ideal) ℓ) : Prop :=
  True

def Pre_AdamOutCd (m : (ℓ : Loc Cert.AdamOutCd.nD Cert.AdamOutCd.τ Cert.AdamOutCd.sig) → Buf (Elt Bits) ℓ) : Prop :=
  True

def Pre_AdamOutCdIdeal (m : (ℓ : Loc Cert.AdamOutCdIdeal.nD Cert.AdamOutCdIdeal.τ Cert.AdamOutCdIdeal.sig) → Buf (Elt Ideal) ℓ) : Prop :=
  True

def Pre_AdamOutCdRefIdeal (m : (ℓ : Loc Cert.AdamOutCdRefIdeal.nD Cert.AdamOutCdRefIdeal.τ Cert.AdamOutCdRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_rms_finite [hPre_rms_finite : Cert.Pre_rms_finite.Facts] (m : (ℓ : Loc Cert.RmsIdeal.nD Cert.RmsIdeal.τ Cert.RmsIdeal.sig) → Buf (Elt Ideal) ℓ) : Prop :=
  ∀ c : Dev Cert.RmsIdeal.nD,
    (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_finite [hPre_rms_finite : Cert.Pre_rms_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.2 = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))).2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_InAbDx [hInAbDx : Cert.InAbDx.Facts] : Prop :=
  ∀ (m : (ℓ : Loc Cert.InAbDx.nD Cert.InAbDx.τ Cert.InAbDx.sig) → Buf (Elt Bits) ℓ) (g : Dev Cert.InAbDx.nD → PrngReg), Pre_InAbDx m →
    θ_run (Cert.InAbDx.defs (F := Bits)) (onTc (τ := Cert.InAbDx.τ) (Cert.InAbDx.main (F := Bits))) ⟨m, fun _ => 0, g⟩ (fun r => (∀ c : Dev Cert.InAbDx.nD,
      r.2.mem ((c.tc : Thread Cert.InAbDx.nD Cert.InAbDx.τ).loc Cert.InAbDx.main_arg0) = m ((c.tc : Thread Cert.InAbDx.nD Cert.InAbDx.τ).loc Cert.InAbDx.main_arg0)
      ∧ r.2.mem ((c.tc : Thread Cert.InAbDx.nD Cert.InAbDx.τ).loc Cert.InAbDx.main_arg1) = m ((c.tc : Thread Cert.InAbDx.nD Cert.InAbDx.τ).loc Cert.InAbDx.main_arg1))
      ∧ r.2.sem = fun _ => 0)

def quiescent_InAbDxIdeal [hInAbDxIdeal : Cert.InAbDxIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg), Pre_InAbDxIdeal m →
    θ_run (Cert.InAbDxIdeal.defs (F := Ideal)) (onTc (τ := Cert.InAbDxIdeal.τ) (Cert.InAbDxIdeal.main (F := Ideal))) ⟨m, fun _ => 0, g⟩ (fun r => (∀ c : Dev Cert.InAbDxIdeal.nD,
      r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
      ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ r.2.sem = fun _ => 0)

def quiescent_InAbDxRefIdeal [hInAbDxRefIdeal : Cert.InAbDxRefIdeal.Facts] : Prop :=
  ∀ (m : (ℓ : Loc Cert.InAbDxRefIdeal.nD Cert.InAbDxRefIdeal.τ Cert.InAbDxRefIdeal.sig) → Buf (Elt Ideal) ℓ) (g : Dev Cert.InAbDxRefIdeal.nD → PrngReg), Pre_InAbDxRefIdeal m →
    θ_run (Cert.InAbDxRefIdeal.defs (F := Ideal)) (onTc (τ := Cert.InAbDxRefIdeal.τ) (Cert.InAbDxRefIdeal.main (F := Ideal))) ⟨m, fun _ => 0, g⟩ (fun r => (∀ c : Dev Cert.InAbDxRefIdeal.nD,
      r.2.mem ((c.tc : Thread Cert.InAbDxRefIdeal.nD Cert.InAbDxRefIdeal.τ).loc Cert.InAbDxRefIdeal.main_arg0) = m ((c.tc : Thread Cert.InAbDxRefIdeal.nD Cert.InAbDxRefIdeal.τ).loc Cert.InAbDxRefIdeal.main_arg0)
      ∧ r.2.mem ((c.tc : Thread Cert.InAbDxRefIdeal.nD Cert.InAbDxRefIdeal.τ).loc Cert.InAbDxRefIdeal.main_arg1) = m ((c.tc : Thread Cert.InAbDxRefIdeal.nD Cert.InAbDxRefIdeal.τ).loc Cert.InAbDxRefIdeal.main_arg1))
      ∧ r.2.sem = fun _ => 0)

def quiescent_InAbDw [hInAbDw : Cert.InAbDw.Facts] : Prop :=
  ∀ (m : (ℓ : Loc Cert.InAbDw.nD Cert.InAbDw.τ Cert.InAbDw.sig) → Buf (Elt Bits) ℓ) (g : Dev Cert.InAbDw.nD → PrngReg), Pre_InAbDw m →
    θ_run (Cert.InAbDw.defs (F := Bits)) (onTc (τ := Cert.InAbDw.τ) (Cert.InAbDw.main (F := Bits))) ⟨m, fun _ => 0, g⟩ (fun r => (∀ c : Dev Cert.InAbDw.nD,
      r.2.mem ((c.tc : Thread Cert.InAbDw.nD Cert.InAbDw.τ).loc Cert.InAbDw.main_arg0) = m ((c.tc : Thread Cert.InAbDw.nD Cert.InAbDw.τ).loc Cert.InAbDw.main_arg0)
      ∧ r.2.mem ((c.tc : Thread Cert.InAbDw.nD Cert.InAbDw.τ).loc Cert.InAbDw.main_arg1) = m ((c.tc : Thread Cert.InAbDw.nD Cert.InAbDw.τ).loc Cert.InAbDw.main_arg1))
      ∧ r.2.sem = fun _ => 0)

def quiescent_InAbDwIdeal [hInAbDwIdeal : Cert.InAbDwIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg), Pre_InAbDwIdeal m →
    θ_run (Cert.InAbDwIdeal.defs (F := Ideal)) (onTc (τ := Cert.InAbDwIdeal.τ) (Cert.InAbDwIdeal.main (F := Ideal))) ⟨m, fun _ => 0, g⟩ (fun r => (∀ c : Dev Cert.InAbDwIdeal.nD,
      r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
      ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ r.2.sem = fun _ => 0)

def quiescent_InAbDwRefIdeal [hInAbDwRefIdeal : Cert.InAbDwRefIdeal.Facts] : Prop :=
  ∀ (m : (ℓ : Loc Cert.InAbDwRefIdeal.nD Cert.InAbDwRefIdeal.τ Cert.InAbDwRefIdeal.sig) → Buf (Elt Ideal) ℓ) (g : Dev Cert.InAbDwRefIdeal.nD → PrngReg), Pre_InAbDwRefIdeal m →
    θ_run (Cert.InAbDwRefIdeal.defs (F := Ideal)) (onTc (τ := Cert.InAbDwRefIdeal.τ) (Cert.InAbDwRefIdeal.main (F := Ideal))) ⟨m, fun _ => 0, g⟩ (fun r => (∀ c : Dev Cert.InAbDwRefIdeal.nD,
      r.2.mem ((c.tc : Thread Cert.InAbDwRefIdeal.nD Cert.InAbDwRefIdeal.τ).loc Cert.InAbDwRefIdeal.main_arg0) = m ((c.tc : Thread Cert.InAbDwRefIdeal.nD Cert.InAbDwRefIdeal.τ).loc Cert.InAbDwRefIdeal.main_arg0)
      ∧ r.2.mem ((c.tc : Thread Cert.InAbDwRefIdeal.nD Cert.InAbDwRefIdeal.τ).loc Cert.InAbDwRefIdeal.main_arg1) = m ((c.tc : Thread Cert.InAbDwRefIdeal.nD Cert.InAbDwRefIdeal.τ).loc Cert.InAbDwRefIdeal.main_arg1))
      ∧ r.2.sem = fun _ => 0)

def quiescent_InCdDx [hInCdDx : Cert.InCdDx.Facts] : Prop :=
  ∀ (m : (ℓ : Loc Cert.InCdDx.nD Cert.InCdDx.τ Cert.InCdDx.sig) → Buf (Elt Bits) ℓ) (g : Dev Cert.InCdDx.nD → PrngReg), Pre_InCdDx m →
    θ_run (Cert.InCdDx.defs (F := Bits)) (onTc (τ := Cert.InCdDx.τ) (Cert.InCdDx.main (F := Bits))) ⟨m, fun _ => 0, g⟩ (fun r => (∀ c : Dev Cert.InCdDx.nD,
      r.2.mem ((c.tc : Thread Cert.InCdDx.nD Cert.InCdDx.τ).loc Cert.InCdDx.main_arg0) = m ((c.tc : Thread Cert.InCdDx.nD Cert.InCdDx.τ).loc Cert.InCdDx.main_arg0)
      ∧ r.2.mem ((c.tc : Thread Cert.InCdDx.nD Cert.InCdDx.τ).loc Cert.InCdDx.main_arg1) = m ((c.tc : Thread Cert.InCdDx.nD Cert.InCdDx.τ).loc Cert.InCdDx.main_arg1))
      ∧ r.2.sem = fun _ => 0)

def quiescent_InCdDxIdeal [hInCdDxIdeal : Cert.InCdDxIdeal.Facts] : Prop :=
  ∀ (m : (ℓ : Loc Cert.InCdDxIdeal.nD Cert.InCdDxIdeal.τ Cert.InCdDxIdeal.sig) → Buf (Elt Ideal) ℓ) (g : Dev Cert.InCdDxIdeal.nD → PrngReg), Pre_InCdDxIdeal m →
    θ_run (Cert.InCdDxIdeal.defs (F := Ideal)) (onTc (τ := Cert.InCdDxIdeal.τ) (Cert.InCdDxIdeal.main (F := Ideal))) ⟨m, fun _ => 0, g⟩ (fun r => (∀ c : Dev Cert.InCdDxIdeal.nD,
      r.2.mem ((c.tc : Thread Cert.InCdDxIdeal.nD Cert.InCdDxIdeal.τ).loc Cert.InCdDxIdeal.main_arg0) = m ((c.tc : Thread Cert.InCdDxIdeal.nD Cert.InCdDxIdeal.τ).loc Cert.InCdDxIdeal.main_arg0)
      ∧ r.2.mem ((c.tc : Thread Cert.InCdDxIdeal.nD Cert.InCdDxIdeal.τ).loc Cert.InCdDxIdeal.main_arg1) = m ((c.tc : Thread Cert.InCdDxIdeal.nD Cert.InCdDxIdeal.τ).loc Cert.InCdDxIdeal.main_arg1))
      ∧ r.2.sem = fun _ => 0)

def quiescent_InCdDxRefIdeal [hInCdDxRefIdeal : Cert.InCdDxRefIdeal.Facts] : Prop :=
  ∀ (m : (ℓ : Loc Cert.InCdDxRefIdeal.nD Cert.InCdDxRefIdeal.τ Cert.InCdDxRefIdeal.sig) → Buf (Elt Ideal) ℓ) (g : Dev Cert.InCdDxRefIdeal.nD → PrngReg), Pre_InCdDxRefIdeal m →
    θ_run (Cert.InCdDxRefIdeal.defs (F := Ideal)) (onTc (τ := Cert.InCdDxRefIdeal.τ) (Cert.InCdDxRefIdeal.main (F := Ideal))) ⟨m, fun _ => 0, g⟩ (fun r => (∀ c : Dev Cert.InCdDxRefIdeal.nD,
      r.2.mem ((c.tc : Thread Cert.InCdDxRefIdeal.nD Cert.InCdDxRefIdeal.τ).loc Cert.InCdDxRefIdeal.main_arg0) = m ((c.tc : Thread Cert.InCdDxRefIdeal.nD Cert.InCdDxRefIdeal.τ).loc Cert.InCdDxRefIdeal.main_arg0)
      ∧ r.2.mem ((c.tc : Thread Cert.InCdDxRefIdeal.nD Cert.InCdDxRefIdeal.τ).loc Cert.InCdDxRefIdeal.main_arg1) = m ((c.tc : Thread Cert.InCdDxRefIdeal.nD Cert.InCdDxRefIdeal.τ).loc Cert.InCdDxRefIdeal.main_arg1))
      ∧ r.2.sem = fun _ => 0)

def quiescent_InCdDw [hInCdDw : Cert.InCdDw.Facts] : Prop :=
  ∀ (m : (ℓ : Loc Cert.InCdDw.nD Cert.InCdDw.τ Cert.InCdDw.sig) → Buf (Elt Bits) ℓ) (g : Dev Cert.InCdDw.nD → PrngReg), Pre_InCdDw m →
    θ_run (Cert.InCdDw.defs (F := Bits)) (onTc (τ := Cert.InCdDw.τ) (Cert.InCdDw.main (F := Bits))) ⟨m, fun _ => 0, g⟩ (fun r => (∀ c : Dev Cert.InCdDw.nD,
      r.2.mem ((c.tc : Thread Cert.InCdDw.nD Cert.InCdDw.τ).loc Cert.InCdDw.main_arg0) = m ((c.tc : Thread Cert.InCdDw.nD Cert.InCdDw.τ).loc Cert.InCdDw.main_arg0)
      ∧ r.2.mem ((c.tc : Thread Cert.InCdDw.nD Cert.InCdDw.τ).loc Cert.InCdDw.main_arg1) = m ((c.tc : Thread Cert.InCdDw.nD Cert.InCdDw.τ).loc Cert.InCdDw.main_arg1))
      ∧ r.2.sem = fun _ => 0)

def quiescent_InCdDwIdeal [hInCdDwIdeal : Cert.InCdDwIdeal.Facts] : Prop :=
  ∀ (m : (ℓ : Loc Cert.InCdDwIdeal.nD Cert.InCdDwIdeal.τ Cert.InCdDwIdeal.sig) → Buf (Elt Ideal) ℓ) (g : Dev Cert.InCdDwIdeal.nD → PrngReg), Pre_InCdDwIdeal m →
    θ_run (Cert.InCdDwIdeal.defs (F := Ideal)) (onTc (τ := Cert.InCdDwIdeal.τ) (Cert.InCdDwIdeal.main (F := Ideal))) ⟨m, fun _ => 0, g⟩ (fun r => (∀ c : Dev Cert.InCdDwIdeal.nD,
      r.2.mem ((c.tc : Thread Cert.InCdDwIdeal.nD Cert.InCdDwIdeal.τ).loc Cert.InCdDwIdeal.main_arg0) = m ((c.tc : Thread Cert.InCdDwIdeal.nD Cert.InCdDwIdeal.τ).loc Cert.InCdDwIdeal.main_arg0)
      ∧ r.2.mem ((c.tc : Thread Cert.InCdDwIdeal.nD Cert.InCdDwIdeal.τ).loc Cert.InCdDwIdeal.main_arg1) = m ((c.tc : Thread Cert.InCdDwIdeal.nD Cert.InCdDwIdeal.τ).loc Cert.InCdDwIdeal.main_arg1))
      ∧ r.2.sem = fun _ => 0)

def quiescent_InCdDwRefIdeal [hInCdDwRefIdeal : Cert.InCdDwRefIdeal.Facts] : Prop :=
  ∀ (m : (ℓ : Loc Cert.InCdDwRefIdeal.nD Cert.InCdDwRefIdeal.τ Cert.InCdDwRefIdeal.sig) → Buf (Elt Ideal) ℓ) (g : Dev Cert.InCdDwRefIdeal.nD → PrngReg), Pre_InCdDwRefIdeal m →
    θ_run (Cert.InCdDwRefIdeal.defs (F := Ideal)) (onTc (τ := Cert.InCdDwRefIdeal.τ) (Cert.InCdDwRefIdeal.main (F := Ideal))) ⟨m, fun _ => 0, g⟩ (fun r => (∀ c : Dev Cert.InCdDwRefIdeal.nD,
      r.2.mem ((c.tc : Thread Cert.InCdDwRefIdeal.nD Cert.InCdDwRefIdeal.τ).loc Cert.InCdDwRefIdeal.main_arg0) = m ((c.tc : Thread Cert.InCdDwRefIdeal.nD Cert.InCdDwRefIdeal.τ).loc Cert.InCdDwRefIdeal.main_arg0)
      ∧ r.2.mem ((c.tc : Thread Cert.InCdDwRefIdeal.nD Cert.InCdDwRefIdeal.τ).loc Cert.InCdDwRefIdeal.main_arg1) = m ((c.tc : Thread Cert.InCdDwRefIdeal.nD Cert.InCdDwRefIdeal.τ).loc Cert.InCdDwRefIdeal.main_arg1))
      ∧ r.2.sem = fun _ => 0)

def quiescent_OutAbDx [hOutAbDx : Cert.OutAbDx.Facts] : Prop :=
  ∀ (m : (ℓ : Loc Cert.OutAbDx.nD Cert.OutAbDx.τ Cert.OutAbDx.sig) → Buf (Elt Bits) ℓ) (g : Dev Cert.OutAbDx.nD → PrngReg), Pre_OutAbDx m →
    θ_run (Cert.OutAbDx.defs (F := Bits)) (onTc (τ := Cert.OutAbDx.τ) (Cert.OutAbDx.main (F := Bits))) ⟨m, fun _ => 0, g⟩ (fun r => (∀ c : Dev Cert.OutAbDx.nD,
      r.2.mem ((c.tc : Thread Cert.OutAbDx.nD Cert.OutAbDx.τ).loc Cert.OutAbDx.main_arg0) = m ((c.tc : Thread Cert.OutAbDx.nD Cert.OutAbDx.τ).loc Cert.OutAbDx.main_arg0)
      ∧ r.2.mem ((c.tc : Thread Cert.OutAbDx.nD Cert.OutAbDx.τ).loc Cert.OutAbDx.main_arg1) = m ((c.tc : Thread Cert.OutAbDx.nD Cert.OutAbDx.τ).loc Cert.OutAbDx.main_arg1))
      ∧ r.2.sem = fun _ => 0)

def quiescent_OutAbDxIdeal [hOutAbDxIdeal : Cert.OutAbDxIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg), Pre_OutAbDxIdeal m →
    θ_run (Cert.OutAbDxIdeal.defs (F := Ideal)) (onTc (τ := Cert.OutAbDxIdeal.τ) (Cert.OutAbDxIdeal.main (F := Ideal))) ⟨m, fun _ => 0, g⟩ (fun r => (∀ c : Dev Cert.OutAbDxIdeal.nD,
      r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
      ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ r.2.sem = fun _ => 0)

def quiescent_OutAbDxRefIdeal [hOutAbDxRefIdeal : Cert.OutAbDxRefIdeal.Facts] : Prop :=
  ∀ (m : (ℓ : Loc Cert.OutAbDxRefIdeal.nD Cert.OutAbDxRefIdeal.τ Cert.OutAbDxRefIdeal.sig) → Buf (Elt Ideal) ℓ) (g : Dev Cert.OutAbDxRefIdeal.nD → PrngReg), Pre_OutAbDxRefIdeal m →
    θ_run (Cert.OutAbDxRefIdeal.defs (F := Ideal)) (onTc (τ := Cert.OutAbDxRefIdeal.τ) (Cert.OutAbDxRefIdeal.main (F := Ideal))) ⟨m, fun _ => 0, g⟩ (fun r => (∀ c : Dev Cert.OutAbDxRefIdeal.nD,
      r.2.mem ((c.tc : Thread Cert.OutAbDxRefIdeal.nD Cert.OutAbDxRefIdeal.τ).loc Cert.OutAbDxRefIdeal.main_arg0) = m ((c.tc : Thread Cert.OutAbDxRefIdeal.nD Cert.OutAbDxRefIdeal.τ).loc Cert.OutAbDxRefIdeal.main_arg0)
      ∧ r.2.mem ((c.tc : Thread Cert.OutAbDxRefIdeal.nD Cert.OutAbDxRefIdeal.τ).loc Cert.OutAbDxRefIdeal.main_arg1) = m ((c.tc : Thread Cert.OutAbDxRefIdeal.nD Cert.OutAbDxRefIdeal.τ).loc Cert.OutAbDxRefIdeal.main_arg1))
      ∧ r.2.sem = fun _ => 0)

def quiescent_OutAbDw [hOutAbDw : Cert.OutAbDw.Facts] : Prop :=
  ∀ (m : (ℓ : Loc Cert.OutAbDw.nD Cert.OutAbDw.τ Cert.OutAbDw.sig) → Buf (Elt Bits) ℓ) (g : Dev Cert.OutAbDw.nD → PrngReg), Pre_OutAbDw m →
    θ_run (Cert.OutAbDw.defs (F := Bits)) (onTc (τ := Cert.OutAbDw.τ) (Cert.OutAbDw.main (F := Bits))) ⟨m, fun _ => 0, g⟩ (fun r => (∀ c : Dev Cert.OutAbDw.nD,
      r.2.mem ((c.tc : Thread Cert.OutAbDw.nD Cert.OutAbDw.τ).loc Cert.OutAbDw.main_arg0) = m ((c.tc : Thread Cert.OutAbDw.nD Cert.OutAbDw.τ).loc Cert.OutAbDw.main_arg0)
      ∧ r.2.mem ((c.tc : Thread Cert.OutAbDw.nD Cert.OutAbDw.τ).loc Cert.OutAbDw.main_arg1) = m ((c.tc : Thread Cert.OutAbDw.nD Cert.OutAbDw.τ).loc Cert.OutAbDw.main_arg1))
      ∧ r.2.sem = fun _ => 0)

def quiescent_OutAbDwIdeal [hOutAbDwIdeal : Cert.OutAbDwIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg), Pre_OutAbDwIdeal m →
    θ_run (Cert.OutAbDwIdeal.defs (F := Ideal)) (onTc (τ := Cert.OutAbDwIdeal.τ) (Cert.OutAbDwIdeal.main (F := Ideal))) ⟨m, fun _ => 0, g⟩ (fun r => (∀ c : Dev Cert.OutAbDwIdeal.nD,
      r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
      ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ r.2.sem = fun _ => 0)

def quiescent_OutAbDwRefIdeal [hOutAbDwRefIdeal : Cert.OutAbDwRefIdeal.Facts] : Prop :=
  ∀ (m : (ℓ : Loc Cert.OutAbDwRefIdeal.nD Cert.OutAbDwRefIdeal.τ Cert.OutAbDwRefIdeal.sig) → Buf (Elt Ideal) ℓ) (g : Dev Cert.OutAbDwRefIdeal.nD → PrngReg), Pre_OutAbDwRefIdeal m →
    θ_run (Cert.OutAbDwRefIdeal.defs (F := Ideal)) (onTc (τ := Cert.OutAbDwRefIdeal.τ) (Cert.OutAbDwRefIdeal.main (F := Ideal))) ⟨m, fun _ => 0, g⟩ (fun r => (∀ c : Dev Cert.OutAbDwRefIdeal.nD,
      r.2.mem ((c.tc : Thread Cert.OutAbDwRefIdeal.nD Cert.OutAbDwRefIdeal.τ).loc Cert.OutAbDwRefIdeal.main_arg0) = m ((c.tc : Thread Cert.OutAbDwRefIdeal.nD Cert.OutAbDwRefIdeal.τ).loc Cert.OutAbDwRefIdeal.main_arg0)
      ∧ r.2.mem ((c.tc : Thread Cert.OutAbDwRefIdeal.nD Cert.OutAbDwRefIdeal.τ).loc Cert.OutAbDwRefIdeal.main_arg1) = m ((c.tc : Thread Cert.OutAbDwRefIdeal.nD Cert.OutAbDwRefIdeal.τ).loc Cert.OutAbDwRefIdeal.main_arg1))
      ∧ r.2.sem = fun _ => 0)

def quiescent_OutCdDx [hOutCdDx : Cert.OutCdDx.Facts] : Prop :=
  ∀ (m : (ℓ : Loc Cert.OutCdDx.nD Cert.OutCdDx.τ Cert.OutCdDx.sig) → Buf (Elt Bits) ℓ) (g : Dev Cert.OutCdDx.nD → PrngReg), Pre_OutCdDx m →
    θ_run (Cert.OutCdDx.defs (F := Bits)) (onTc (τ := Cert.OutCdDx.τ) (Cert.OutCdDx.main (F := Bits))) ⟨m, fun _ => 0, g⟩ (fun r => (∀ c : Dev Cert.OutCdDx.nD,
      r.2.mem ((c.tc : Thread Cert.OutCdDx.nD Cert.OutCdDx.τ).loc Cert.OutCdDx.main_arg0) = m ((c.tc : Thread Cert.OutCdDx.nD Cert.OutCdDx.τ).loc Cert.OutCdDx.main_arg0)
      ∧ r.2.mem ((c.tc : Thread Cert.OutCdDx.nD Cert.OutCdDx.τ).loc Cert.OutCdDx.main_arg1) = m ((c.tc : Thread Cert.OutCdDx.nD Cert.OutCdDx.τ).loc Cert.OutCdDx.main_arg1))
      ∧ r.2.sem = fun _ => 0)

def quiescent_OutCdDxIdeal [hOutCdDxIdeal : Cert.OutCdDxIdeal.Facts] : Prop :=
  ∀ (m : (ℓ : Loc Cert.OutCdDxIdeal.nD Cert.OutCdDxIdeal.τ Cert.OutCdDxIdeal.sig) → Buf (Elt Ideal) ℓ) (g : Dev Cert.OutCdDxIdeal.nD → PrngReg), Pre_OutCdDxIdeal m →
    θ_run (Cert.OutCdDxIdeal.defs (F := Ideal)) (onTc (τ := Cert.OutCdDxIdeal.τ) (Cert.OutCdDxIdeal.main (F := Ideal))) ⟨m, fun _ => 0, g⟩ (fun r => (∀ c : Dev Cert.OutCdDxIdeal.nD,
      r.2.mem ((c.tc : Thread Cert.OutCdDxIdeal.nD Cert.OutCdDxIdeal.τ).loc Cert.OutCdDxIdeal.main_arg0) = m ((c.tc : Thread Cert.OutCdDxIdeal.nD Cert.OutCdDxIdeal.τ).loc Cert.OutCdDxIdeal.main_arg0)
      ∧ r.2.mem ((c.tc : Thread Cert.OutCdDxIdeal.nD Cert.OutCdDxIdeal.τ).loc Cert.OutCdDxIdeal.main_arg1) = m ((c.tc : Thread Cert.OutCdDxIdeal.nD Cert.OutCdDxIdeal.τ).loc Cert.OutCdDxIdeal.main_arg1))
      ∧ r.2.sem = fun _ => 0)

def quiescent_OutCdDxRefIdeal [hOutCdDxRefIdeal : Cert.OutCdDxRefIdeal.Facts] : Prop :=
  ∀ (m : (ℓ : Loc Cert.OutCdDxRefIdeal.nD Cert.OutCdDxRefIdeal.τ Cert.OutCdDxRefIdeal.sig) → Buf (Elt Ideal) ℓ) (g : Dev Cert.OutCdDxRefIdeal.nD → PrngReg), Pre_OutCdDxRefIdeal m →
    θ_run (Cert.OutCdDxRefIdeal.defs (F := Ideal)) (onTc (τ := Cert.OutCdDxRefIdeal.τ) (Cert.OutCdDxRefIdeal.main (F := Ideal))) ⟨m, fun _ => 0, g⟩ (fun r => (∀ c : Dev Cert.OutCdDxRefIdeal.nD,
      r.2.mem ((c.tc : Thread Cert.OutCdDxRefIdeal.nD Cert.OutCdDxRefIdeal.τ).loc Cert.OutCdDxRefIdeal.main_arg0) = m ((c.tc : Thread Cert.OutCdDxRefIdeal.nD Cert.OutCdDxRefIdeal.τ).loc Cert.OutCdDxRefIdeal.main_arg0)
      ∧ r.2.mem ((c.tc : Thread Cert.OutCdDxRefIdeal.nD Cert.OutCdDxRefIdeal.τ).loc Cert.OutCdDxRefIdeal.main_arg1) = m ((c.tc : Thread Cert.OutCdDxRefIdeal.nD Cert.OutCdDxRefIdeal.τ).loc Cert.OutCdDxRefIdeal.main_arg1))
      ∧ r.2.sem = fun _ => 0)

def quiescent_OutCdDw [hOutCdDw : Cert.OutCdDw.Facts] : Prop :=
  ∀ (m : (ℓ : Loc Cert.OutCdDw.nD Cert.OutCdDw.τ Cert.OutCdDw.sig) → Buf (Elt Bits) ℓ) (g : Dev Cert.OutCdDw.nD → PrngReg), Pre_OutCdDw m →
    θ_run (Cert.OutCdDw.defs (F := Bits)) (onTc (τ := Cert.OutCdDw.τ) (Cert.OutCdDw.main (F := Bits))) ⟨m, fun _ => 0, g⟩ (fun r => (∀ c : Dev Cert.OutCdDw.nD,
      r.2.mem ((c.tc : Thread Cert.OutCdDw.nD Cert.OutCdDw.τ).loc Cert.OutCdDw.main_arg0) = m ((c.tc : Thread Cert.OutCdDw.nD Cert.OutCdDw.τ).loc Cert.OutCdDw.main_arg0)
      ∧ r.2.mem ((c.tc : Thread Cert.OutCdDw.nD Cert.OutCdDw.τ).loc Cert.OutCdDw.main_arg1) = m ((c.tc : Thread Cert.OutCdDw.nD Cert.OutCdDw.τ).loc Cert.OutCdDw.main_arg1))
      ∧ r.2.sem = fun _ => 0)

def quiescent_OutCdDwIdeal [hOutCdDwIdeal : Cert.OutCdDwIdeal.Facts] : Prop :=
  ∀ (m : (ℓ : Loc Cert.OutCdDwIdeal.nD Cert.OutCdDwIdeal.τ Cert.OutCdDwIdeal.sig) → Buf (Elt Ideal) ℓ) (g : Dev Cert.OutCdDwIdeal.nD → PrngReg), Pre_OutCdDwIdeal m →
    θ_run (Cert.OutCdDwIdeal.defs (F := Ideal)) (onTc (τ := Cert.OutCdDwIdeal.τ) (Cert.OutCdDwIdeal.main (F := Ideal))) ⟨m, fun _ => 0, g⟩ (fun r => (∀ c : Dev Cert.OutCdDwIdeal.nD,
      r.2.mem ((c.tc : Thread Cert.OutCdDwIdeal.nD Cert.OutCdDwIdeal.τ).loc Cert.OutCdDwIdeal.main_arg0) = m ((c.tc : Thread Cert.OutCdDwIdeal.nD Cert.OutCdDwIdeal.τ).loc Cert.OutCdDwIdeal.main_arg0)
      ∧ r.2.mem ((c.tc : Thread Cert.OutCdDwIdeal.nD Cert.OutCdDwIdeal.τ).loc Cert.OutCdDwIdeal.main_arg1) = m ((c.tc : Thread Cert.OutCdDwIdeal.nD Cert.OutCdDwIdeal.τ).loc Cert.OutCdDwIdeal.main_arg1))
      ∧ r.2.sem = fun _ => 0)

def quiescent_OutCdDwRefIdeal [hOutCdDwRefIdeal : Cert.OutCdDwRefIdeal.Facts] : Prop :=
  ∀ (m : (ℓ : Loc Cert.OutCdDwRefIdeal.nD Cert.OutCdDwRefIdeal.τ Cert.OutCdDwRefIdeal.sig) → Buf (Elt Ideal) ℓ) (g : Dev Cert.OutCdDwRefIdeal.nD → PrngReg), Pre_OutCdDwRefIdeal m →
    θ_run (Cert.OutCdDwRefIdeal.defs (F := Ideal)) (onTc (τ := Cert.OutCdDwRefIdeal.τ) (Cert.OutCdDwRefIdeal.main (F := Ideal))) ⟨m, fun _ => 0, g⟩ (fun r => (∀ c : Dev Cert.OutCdDwRefIdeal.nD,
      r.2.mem ((c.tc : Thread Cert.OutCdDwRefIdeal.nD Cert.OutCdDwRefIdeal.τ).loc Cert.OutCdDwRefIdeal.main_arg0) = m ((c.tc : Thread Cert.OutCdDwRefIdeal.nD Cert.OutCdDwRefIdeal.τ).loc Cert.OutCdDwRefIdeal.main_arg0)
      ∧ r.2.mem ((c.tc : Thread Cert.OutCdDwRefIdeal.nD Cert.OutCdDwRefIdeal.τ).loc Cert.OutCdDwRefIdeal.main_arg1) = m ((c.tc : Thread Cert.OutCdDwRefIdeal.nD Cert.OutCdDwRefIdeal.τ).loc Cert.OutCdDwRefIdeal.main_arg1))
      ∧ r.2.sem = fun _ => 0)

def quiescent_XoDx [hXoDx : Cert.XoDx.Facts] : Prop :=
  ∀ (m : (ℓ : Loc Cert.XoDx.nD Cert.XoDx.τ Cert.XoDx.sig) → Buf (Elt Bits) ℓ) (g : Dev Cert.XoDx.nD → PrngReg), Pre_XoDx m →
    θ_run (Cert.XoDx.defs (F := Bits)) (onTc (τ := Cert.XoDx.τ) (Cert.XoDx.main (F := Bits))) ⟨m, fun _ => 0, g⟩ (fun r => (∀ c : Dev Cert.XoDx.nD,
      r.2.mem ((c.tc : Thread Cert.XoDx.nD Cert.XoDx.τ).loc Cert.XoDx.main_arg0) = m ((c.tc : Thread Cert.XoDx.nD Cert.XoDx.τ).loc Cert.XoDx.main_arg0)
      ∧ r.2.mem ((c.tc : Thread Cert.XoDx.nD Cert.XoDx.τ).loc Cert.XoDx.main_arg1) = m ((c.tc : Thread Cert.XoDx.nD Cert.XoDx.τ).loc Cert.XoDx.main_arg1))
      ∧ r.2.sem = fun _ => 0)

def quiescent_XoDxIdeal [hXoDxIdeal : Cert.XoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg), Pre_XoDxIdeal m →
    θ_run (Cert.XoDxIdeal.defs (F := Ideal)) (onTc (τ := Cert.XoDxIdeal.τ) (Cert.XoDxIdeal.main (F := Ideal))) ⟨m, fun _ => 0, g⟩ (fun r => (∀ c : Dev Cert.XoDxIdeal.nD,
      r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
      ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ r.2.sem = fun _ => 0)

def quiescent_XoDxRefIdeal [hXoDxRefIdeal : Cert.XoDxRefIdeal.Facts] : Prop :=
  ∀ (m : (ℓ : Loc Cert.XoDxRefIdeal.nD Cert.XoDxRefIdeal.τ Cert.XoDxRefIdeal.sig) → Buf (Elt Ideal) ℓ) (g : Dev Cert.XoDxRefIdeal.nD → PrngReg), Pre_XoDxRefIdeal m →
    θ_run (Cert.XoDxRefIdeal.defs (F := Ideal)) (onTc (τ := Cert.XoDxRefIdeal.τ) (Cert.XoDxRefIdeal.main (F := Ideal))) ⟨m, fun _ => 0, g⟩ (fun r => (∀ c : Dev Cert.XoDxRefIdeal.nD,
      r.2.mem ((c.tc : Thread Cert.XoDxRefIdeal.nD Cert.XoDxRefIdeal.τ).loc Cert.XoDxRefIdeal.main_arg0) = m ((c.tc : Thread Cert.XoDxRefIdeal.nD Cert.XoDxRefIdeal.τ).loc Cert.XoDxRefIdeal.main_arg0)
      ∧ r.2.mem ((c.tc : Thread Cert.XoDxRefIdeal.nD Cert.XoDxRefIdeal.τ).loc Cert.XoDxRefIdeal.main_arg1) = m ((c.tc : Thread Cert.XoDxRefIdeal.nD Cert.XoDxRefIdeal.τ).loc Cert.XoDxRefIdeal.main_arg1))
      ∧ r.2.sem = fun _ => 0)

def quiescent_XoDw [hXoDw : Cert.XoDw.Facts] : Prop :=
  ∀ (m : (ℓ : Loc Cert.XoDw.nD Cert.XoDw.τ Cert.XoDw.sig) → Buf (Elt Bits) ℓ) (g : Dev Cert.XoDw.nD → PrngReg), Pre_XoDw m →
    θ_run (Cert.XoDw.defs (F := Bits)) (onTc (τ := Cert.XoDw.τ) (Cert.XoDw.main (F := Bits))) ⟨m, fun _ => 0, g⟩ (fun r => (∀ c : Dev Cert.XoDw.nD,
      r.2.mem ((c.tc : Thread Cert.XoDw.nD Cert.XoDw.τ).loc Cert.XoDw.main_arg0) = m ((c.tc : Thread Cert.XoDw.nD Cert.XoDw.τ).loc Cert.XoDw.main_arg0)
      ∧ r.2.mem ((c.tc : Thread Cert.XoDw.nD Cert.XoDw.τ).loc Cert.XoDw.main_arg1) = m ((c.tc : Thread Cert.XoDw.nD Cert.XoDw.τ).loc Cert.XoDw.main_arg1))
      ∧ r.2.sem = fun _ => 0)

def quiescent_XoDwIdeal [hXoDwIdeal : Cert.XoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg), Pre_XoDwIdeal m →
    θ_run (Cert.XoDwIdeal.defs (F := Ideal)) (onTc (τ := Cert.XoDwIdeal.τ) (Cert.XoDwIdeal.main (F := Ideal))) ⟨m, fun _ => 0, g⟩ (fun r => (∀ c : Dev Cert.XoDwIdeal.nD,
      r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
      ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ r.2.sem = fun _ => 0)

def quiescent_XoDwRefIdeal [hXoDwRefIdeal : Cert.XoDwRefIdeal.Facts] : Prop :=
  ∀ (m : (ℓ : Loc Cert.XoDwRefIdeal.nD Cert.XoDwRefIdeal.τ Cert.XoDwRefIdeal.sig) → Buf (Elt Ideal) ℓ) (g : Dev Cert.XoDwRefIdeal.nD → PrngReg), Pre_XoDwRefIdeal m →
    θ_run (Cert.XoDwRefIdeal.defs (F := Ideal)) (onTc (τ := Cert.XoDwRefIdeal.τ) (Cert.XoDwRefIdeal.main (F := Ideal))) ⟨m, fun _ => 0, g⟩ (fun r => (∀ c : Dev Cert.XoDwRefIdeal.nD,
      r.2.mem ((c.tc : Thread Cert.XoDwRefIdeal.nD Cert.XoDwRefIdeal.τ).loc Cert.XoDwRefIdeal.main_arg0) = m ((c.tc : Thread Cert.XoDwRefIdeal.nD Cert.XoDwRefIdeal.τ).loc Cert.XoDwRefIdeal.main_arg0)
      ∧ r.2.mem ((c.tc : Thread Cert.XoDwRefIdeal.nD Cert.XoDwRefIdeal.τ).loc Cert.XoDwRefIdeal.main_arg1) = m ((c.tc : Thread Cert.XoDwRefIdeal.nD Cert.XoDwRefIdeal.τ).loc Cert.XoDwRefIdeal.main_arg1))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ r.2.sem = fun _ => 0)

def quiescent_XqDxRefIdeal [hXqDxRefIdeal : Cert.XqDxRefIdeal.Facts] : Prop :=
  ∀ (m : (ℓ : Loc Cert.XqDxRefIdeal.nD Cert.XqDxRefIdeal.τ Cert.XqDxRefIdeal.sig) → Buf (Elt Ideal) ℓ) (g : Dev Cert.XqDxRefIdeal.nD → PrngReg), Pre_XqDxRefIdeal m →
    θ_run (Cert.XqDxRefIdeal.defs (F := Ideal)) (onTc (τ := Cert.XqDxRefIdeal.τ) (Cert.XqDxRefIdeal.main (F := Ideal))) ⟨m, fun _ => 0, g⟩ (fun r => (∀ c : Dev Cert.XqDxRefIdeal.nD,
      r.2.mem ((c.tc : Thread Cert.XqDxRefIdeal.nD Cert.XqDxRefIdeal.τ).loc Cert.XqDxRefIdeal.main_arg0) = m ((c.tc : Thread Cert.XqDxRefIdeal.nD Cert.XqDxRefIdeal.τ).loc Cert.XqDxRefIdeal.main_arg0)
      ∧ r.2.mem ((c.tc : Thread Cert.XqDxRefIdeal.nD Cert.XqDxRefIdeal.τ).loc Cert.XqDxRefIdeal.main_arg1) = m ((c.tc : Thread Cert.XqDxRefIdeal.nD Cert.XqDxRefIdeal.τ).loc Cert.XqDxRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_XkvDx [hXkvDx : Cert.XkvDx.Facts] : Prop :=
  ∀ (m : (ℓ : Loc Cert.XkvDx.nD Cert.XkvDx.τ Cert.XkvDx.sig) → Buf (Elt Bits) ℓ) (g : Dev Cert.XkvDx.nD → PrngReg), Pre_XkvDx m →
    θ_run (Cert.XkvDx.defs (F := Bits)) (onTc (τ := Cert.XkvDx.τ) (Cert.XkvDx.main (F := Bits))) ⟨m, fun _ => 0, g⟩ (fun r => (∀ c : Dev Cert.XkvDx.nD,
      r.2.mem ((c.tc : Thread Cert.XkvDx.nD Cert.XkvDx.τ).loc Cert.XkvDx.main_arg0) = m ((c.tc : Thread Cert.XkvDx.nD Cert.XkvDx.τ).loc Cert.XkvDx.main_arg0)
      ∧ r.2.mem ((c.tc : Thread Cert.XkvDx.nD Cert.XkvDx.τ).loc Cert.XkvDx.main_arg1) = m ((c.tc : Thread Cert.XkvDx.nD Cert.XkvDx.τ).loc Cert.XkvDx.main_arg1)
      ∧ r.2.mem ((c.tc : Thread Cert.XkvDx.nD Cert.XkvDx.τ).loc Cert.XkvDx.main_arg2) = m ((c.tc : Thread Cert.XkvDx.nD Cert.XkvDx.τ).loc Cert.XkvDx.main_arg2))
      ∧ r.2.sem = fun _ => 0)

def quiescent_XkvDxIdeal [hXkvDxIdeal : Cert.XkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg), Pre_XkvDxIdeal m →
    θ_run (Cert.XkvDxIdeal.defs (F := Ideal)) (onTc (τ := Cert.XkvDxIdeal.τ) (Cert.XkvDxIdeal.main (F := Ideal))) ⟨m, fun _ => 0, g⟩ (fun r => (∀ c : Dev Cert.XkvDxIdeal.nD,
      r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
      ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1)
      ∧ r.2.mem ((c.tc : Thread Cert.XkvDxIdeal.nD Cert.XkvDxIdeal.τ).loc Cert.XkvDxIdeal.main_arg2) = m ((c.tc : Thread Cert.XkvDxIdeal.nD Cert.XkvDxIdeal.τ).loc Cert.XkvDxIdeal.main_arg2))
      ∧ r.2.sem = fun _ => 0)

def quiescent_XkvDxRefIdeal [hXkvDxRefIdeal : Cert.XkvDxRefIdeal.Facts] : Prop :=
  ∀ (m : (ℓ : Loc Cert.XkvDxRefIdeal.nD Cert.XkvDxRefIdeal.τ Cert.XkvDxRefIdeal.sig) → Buf (Elt Ideal) ℓ) (g : Dev Cert.XkvDxRefIdeal.nD → PrngReg), Pre_XkvDxRefIdeal m →
    θ_run (Cert.XkvDxRefIdeal.defs (F := Ideal)) (onTc (τ := Cert.XkvDxRefIdeal.τ) (Cert.XkvDxRefIdeal.main (F := Ideal))) ⟨m, fun _ => 0, g⟩ (fun r => (∀ c : Dev Cert.XkvDxRefIdeal.nD,
      r.2.mem ((c.tc : Thread Cert.XkvDxRefIdeal.nD Cert.XkvDxRefIdeal.τ).loc Cert.XkvDxRefIdeal.main_arg0) = m ((c.tc : Thread Cert.XkvDxRefIdeal.nD Cert.XkvDxRefIdeal.τ).loc Cert.XkvDxRefIdeal.main_arg0)
      ∧ r.2.mem ((c.tc : Thread Cert.XkvDxRefIdeal.nD Cert.XkvDxRefIdeal.τ).loc Cert.XkvDxRefIdeal.main_arg1) = m ((c.tc : Thread Cert.XkvDxRefIdeal.nD Cert.XkvDxRefIdeal.τ).loc Cert.XkvDxRefIdeal.main_arg1)
      ∧ r.2.mem ((c.tc : Thread Cert.XkvDxRefIdeal.nD Cert.XkvDxRefIdeal.τ).loc Cert.XkvDxRefIdeal.main_arg2) = m ((c.tc : Thread Cert.XkvDxRefIdeal.nD Cert.XkvDxRefIdeal.τ).loc Cert.XkvDxRefIdeal.main_arg2))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2))
      ∧ r.2.sem = fun _ => 0)

def quiescent_InCd [hInCd : Cert.InCd.Facts] : Prop :=
  ∀ (m : (ℓ : Loc Cert.InCd.nD Cert.InCd.τ Cert.InCd.sig) → Buf (Elt Bits) ℓ) (g : Dev Cert.InCd.nD → PrngReg), Pre_InCd m →
    θ_run (Cert.InCd.defs (F := Bits)) (onTc (τ := Cert.InCd.τ) (Cert.InCd.main (F := Bits))) ⟨m, fun _ => 0, g⟩ (fun r => (∀ c : Dev Cert.InCd.nD,
      r.2.mem ((c.tc : Thread Cert.InCd.nD Cert.InCd.τ).loc Cert.InCd.main_arg0) = m ((c.tc : Thread Cert.InCd.nD Cert.InCd.τ).loc Cert.InCd.main_arg0)
      ∧ r.2.mem ((c.tc : Thread Cert.InCd.nD Cert.InCd.τ).loc Cert.InCd.main_arg1) = m ((c.tc : Thread Cert.InCd.nD Cert.InCd.τ).loc Cert.InCd.main_arg1))
      ∧ r.2.sem = fun _ => 0)

def quiescent_InCdIdeal [hInCdIdeal : Cert.InCdIdeal.Facts] : Prop :=
  ∀ (m : (ℓ : Loc Cert.InCdIdeal.nD Cert.InCdIdeal.τ Cert.InCdIdeal.sig) → Buf (Elt Ideal) ℓ) (g : Dev Cert.InCdIdeal.nD → PrngReg), Pre_InCdIdeal m →
    θ_run (Cert.InCdIdeal.defs (F := Ideal)) (onTc (τ := Cert.InCdIdeal.τ) (Cert.InCdIdeal.main (F := Ideal))) ⟨m, fun _ => 0, g⟩ (fun r => (∀ c : Dev Cert.InCdIdeal.nD,
      r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
      ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1))
      ∧ r.2.sem = fun _ => 0)

def quiescent_InCdRefIdeal [hInCdRefIdeal : Cert.InCdRefIdeal.Facts] : Prop :=
  ∀ (m : (ℓ : Loc Cert.InCdRefIdeal.nD Cert.InCdRefIdeal.τ Cert.InCdRefIdeal.sig) → Buf (Elt Ideal) ℓ) (g : Dev Cert.InCdRefIdeal.nD → PrngReg), Pre_InCdRefIdeal m →
    θ_run (Cert.InCdRefIdeal.defs (F := Ideal)) (onTc (τ := Cert.InCdRefIdeal.τ) (Cert.InCdRefIdeal.main (F := Ideal))) ⟨m, fun _ => 0, g⟩ (fun r => (∀ c : Dev Cert.InCdRefIdeal.nD,
      r.2.mem ((c.tc : Thread Cert.InCdRefIdeal.nD Cert.InCdRefIdeal.τ).loc Cert.InCdRefIdeal.main_arg0) = m ((c.tc : Thread Cert.InCdRefIdeal.nD Cert.InCdRefIdeal.τ).loc Cert.InCdRefIdeal.main_arg0)
      ∧ r.2.mem ((c.tc : Thread Cert.InCdRefIdeal.nD Cert.InCdRefIdeal.τ).loc Cert.InCdRefIdeal.main_arg1) = m ((c.tc : Thread Cert.InCdRefIdeal.nD Cert.InCdRefIdeal.τ).loc Cert.InCdRefIdeal.main_arg1))
      ∧ r.2.sem = fun _ => 0)

def quiescent_OutCd [hOutCd : Cert.OutCd.Facts] : Prop :=
  ∀ (m : (ℓ : Loc Cert.OutCd.nD Cert.OutCd.τ Cert.OutCd.sig) → Buf (Elt Bits) ℓ) (g : Dev Cert.OutCd.nD → PrngReg), Pre_OutCd m →
    θ_run (Cert.OutCd.defs (F := Bits)) (onTc (τ := Cert.OutCd.τ) (Cert.OutCd.main (F := Bits))) ⟨m, fun _ => 0, g⟩ (fun r => (∀ c : Dev Cert.OutCd.nD,
      r.2.mem ((c.tc : Thread Cert.OutCd.nD Cert.OutCd.τ).loc Cert.OutCd.main_arg0) = m ((c.tc : Thread Cert.OutCd.nD Cert.OutCd.τ).loc Cert.OutCd.main_arg0)
      ∧ r.2.mem ((c.tc : Thread Cert.OutCd.nD Cert.OutCd.τ).loc Cert.OutCd.main_arg1) = m ((c.tc : Thread Cert.OutCd.nD Cert.OutCd.τ).loc Cert.OutCd.main_arg1)
      ∧ r.2.mem ((c.tc : Thread Cert.OutCd.nD Cert.OutCd.τ).loc Cert.OutCd.main_arg2) = m ((c.tc : Thread Cert.OutCd.nD Cert.OutCd.τ).loc Cert.OutCd.main_arg2))
      ∧ r.2.sem = fun _ => 0)

def quiescent_OutCdIdeal [hOutCdIdeal : Cert.OutCdIdeal.Facts] : Prop :=
  ∀ (m : (ℓ : Loc Cert.OutCdIdeal.nD Cert.OutCdIdeal.τ Cert.OutCdIdeal.sig) → Buf (Elt Ideal) ℓ) (g : Dev Cert.OutCdIdeal.nD → PrngReg), Pre_OutCdIdeal m →
    θ_run (Cert.OutCdIdeal.defs (F := Ideal)) (onTc (τ := Cert.OutCdIdeal.τ) (Cert.OutCdIdeal.main (F := Ideal))) ⟨m, fun _ => 0, g⟩ (fun r => (∀ c : Dev Cert.OutCdIdeal.nD,
      r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
      ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
      ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ r.2.sem = fun _ => 0)

def quiescent_OutCdRefIdeal [hOutCdRefIdeal : Cert.OutCdRefIdeal.Facts] : Prop :=
  ∀ (m : (ℓ : Loc Cert.OutCdRefIdeal.nD Cert.OutCdRefIdeal.τ Cert.OutCdRefIdeal.sig) → Buf (Elt Ideal) ℓ) (g : Dev Cert.OutCdRefIdeal.nD → PrngReg), Pre_OutCdRefIdeal m →
    θ_run (Cert.OutCdRefIdeal.defs (F := Ideal)) (onTc (τ := Cert.OutCdRefIdeal.τ) (Cert.OutCdRefIdeal.main (F := Ideal))) ⟨m, fun _ => 0, g⟩ (fun r => (∀ c : Dev Cert.OutCdRefIdeal.nD,
      r.2.mem ((c.tc : Thread Cert.OutCdRefIdeal.nD Cert.OutCdRefIdeal.τ).loc Cert.OutCdRefIdeal.main_arg0) = m ((c.tc : Thread Cert.OutCdRefIdeal.nD Cert.OutCdRefIdeal.τ).loc Cert.OutCdRefIdeal.main_arg0)
      ∧ r.2.mem ((c.tc : Thread Cert.OutCdRefIdeal.nD Cert.OutCdRefIdeal.τ).loc Cert.OutCdRefIdeal.main_arg1) = m ((c.tc : Thread Cert.OutCdRefIdeal.nD Cert.OutCdRefIdeal.τ).loc Cert.OutCdRefIdeal.main_arg1)
      ∧ r.2.mem ((c.tc : Thread Cert.OutCdRefIdeal.nD Cert.OutCdRefIdeal.τ).loc Cert.OutCdRefIdeal.main_arg2) = m ((c.tc : Thread Cert.OutCdRefIdeal.nD Cert.OutCdRefIdeal.τ).loc Cert.OutCdRefIdeal.main_arg2))
      ∧ r.2.sem = fun _ => 0)

def quiescent_GluT [hGluT : Cert.GluT.Facts] : Prop :=
  ∀ (m : (ℓ : Loc Cert.GluT.nD Cert.GluT.τ Cert.GluT.sig) → Buf (Elt Bits) ℓ) (g : Dev Cert.GluT.nD → PrngReg), Pre_GluT m →
    θ_run (Cert.GluT.defs (F := Bits)) (onTc (τ := Cert.GluT.τ) (Cert.GluT.main (F := Bits))) ⟨m, fun _ => 0, g⟩ (fun r => (∀ c : Dev Cert.GluT.nD,
      r.2.mem ((c.tc : Thread Cert.GluT.nD Cert.GluT.τ).loc Cert.GluT.main_arg0) = m ((c.tc : Thread Cert.GluT.nD Cert.GluT.τ).loc Cert.GluT.main_arg0)
      ∧ r.2.mem ((c.tc : Thread Cert.GluT.nD Cert.GluT.τ).loc Cert.GluT.main_arg1) = m ((c.tc : Thread Cert.GluT.nD Cert.GluT.τ).loc Cert.GluT.main_arg1))
      ∧ r.2.sem = fun _ => 0)

def quiescent_GluTIdeal [hGluTIdeal : Cert.GluTIdeal.Facts] : Prop :=
  ∀ (m : (ℓ : Loc Cert.GluTIdeal.nD Cert.GluTIdeal.τ Cert.GluTIdeal.sig) → Buf (Elt Ideal) ℓ) (g : Dev Cert.GluTIdeal.nD → PrngReg), Pre_GluTIdeal m →
    θ_run (Cert.GluTIdeal.defs (F := Ideal)) (onTc (τ := Cert.GluTIdeal.τ) (Cert.GluTIdeal.main (F := Ideal))) ⟨m, fun _ => 0, g⟩ (fun r => (∀ c : Dev Cert.GluTIdeal.nD,
      r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
      ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1))
      ∧ r.2.sem = fun _ => 0)

def quiescent_GluTRefIdeal [hGluTRefIdeal : Cert.GluTRefIdeal.Facts] : Prop :=
  ∀ (m : (ℓ : Loc Cert.GluTRefIdeal.nD Cert.GluTRefIdeal.τ Cert.GluTRefIdeal.sig) → Buf (Elt Ideal) ℓ) (g : Dev Cert.GluTRefIdeal.nD → PrngReg), Pre_GluTRefIdeal m →
    θ_run (Cert.GluTRefIdeal.defs (F := Ideal)) (onTc (τ := Cert.GluTRefIdeal.τ) (Cert.GluTRefIdeal.main (F := Ideal))) ⟨m, fun _ => 0, g⟩ (fun r => (∀ c : Dev Cert.GluTRefIdeal.nD,
      r.2.mem ((c.tc : Thread Cert.GluTRefIdeal.nD Cert.GluTRefIdeal.τ).loc Cert.GluTRefIdeal.main_arg0) = m ((c.tc : Thread Cert.GluTRefIdeal.nD Cert.GluTRefIdeal.τ).loc Cert.GluTRefIdeal.main_arg0)
      ∧ r.2.mem ((c.tc : Thread Cert.GluTRefIdeal.nD Cert.GluTRefIdeal.τ).loc Cert.GluTRefIdeal.main_arg1) = m ((c.tc : Thread Cert.GluTRefIdeal.nD Cert.GluTRefIdeal.τ).loc Cert.GluTRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_XkvDxTop [hXkvDxTop : Cert.XkvDxTop.Facts] : Prop :=
  ∀ (m : (ℓ : Loc Cert.XkvDxTop.nD Cert.XkvDxTop.τ Cert.XkvDxTop.sig) → Buf (Elt Bits) ℓ) (g : Dev Cert.XkvDxTop.nD → PrngReg), Pre_XkvDxTop m →
    θ_run (Cert.XkvDxTop.defs (F := Bits)) (onTc (τ := Cert.XkvDxTop.τ) (Cert.XkvDxTop.main (F := Bits))) ⟨m, fun _ => 0, g⟩ (fun r => (∀ c : Dev Cert.XkvDxTop.nD,
      r.2.mem ((c.tc : Thread Cert.XkvDxTop.nD Cert.XkvDxTop.τ).loc Cert.XkvDxTop.main_arg0) = m ((c.tc : Thread Cert.XkvDxTop.nD Cert.XkvDxTop.τ).loc Cert.XkvDxTop.main_arg0)
      ∧ r.2.mem ((c.tc : Thread Cert.XkvDxTop.nD Cert.XkvDxTop.τ).loc Cert.XkvDxTop.main_arg1) = m ((c.tc : Thread Cert.XkvDxTop.nD Cert.XkvDxTop.τ).loc Cert.XkvDxTop.main_arg1))
      ∧ r.2.sem = fun _ => 0)

def quiescent_XkvDxTopIdeal [hXkvDxTopIdeal : Cert.XkvDxTopIdeal.Facts] : Prop :=
  ∀ (m : (ℓ : Loc Cert.XkvDxTopIdeal.nD Cert.XkvDxTopIdeal.τ Cert.XkvDxTopIdeal.sig) → Buf (Elt Ideal) ℓ) (g : Dev Cert.XkvDxTopIdeal.nD → PrngReg), Pre_XkvDxTopIdeal m →
    θ_run (Cert.XkvDxTopIdeal.defs (F := Ideal)) (onTc (τ := Cert.XkvDxTopIdeal.τ) (Cert.XkvDxTopIdeal.main (F := Ideal))) ⟨m, fun _ => 0, g⟩ (fun r => (∀ c : Dev Cert.XkvDxTopIdeal.nD,
      r.2.mem ((c.tc : Thread Cert.XkvDxTopIdeal.nD Cert.XkvDxTopIdeal.τ).loc Cert.XkvDxTopIdeal.main_arg0) = m ((c.tc : Thread Cert.XkvDxTopIdeal.nD Cert.XkvDxTopIdeal.τ).loc Cert.XkvDxTopIdeal.main_arg0)
      ∧ r.2.mem ((c.tc : Thread Cert.XkvDxTopIdeal.nD Cert.XkvDxTopIdeal.τ).loc Cert.XkvDxTopIdeal.main_arg1) = m ((c.tc : Thread Cert.XkvDxTopIdeal.nD Cert.XkvDxTopIdeal.τ).loc Cert.XkvDxTopIdeal.main_arg1))
      ∧ r.2.sem = fun _ => 0)

def quiescent_XkvDxTopRefIdeal [hXkvDxTopRefIdeal : Cert.XkvDxTopRefIdeal.Facts] : Prop :=
  ∀ (m : (ℓ : Loc Cert.XkvDxTopRefIdeal.nD Cert.XkvDxTopRefIdeal.τ Cert.XkvDxTopRefIdeal.sig) → Buf (Elt Ideal) ℓ) (g : Dev Cert.XkvDxTopRefIdeal.nD → PrngReg), Pre_XkvDxTopRefIdeal m →
    θ_run (Cert.XkvDxTopRefIdeal.defs (F := Ideal)) (onTc (τ := Cert.XkvDxTopRefIdeal.τ) (Cert.XkvDxTopRefIdeal.main (F := Ideal))) ⟨m, fun _ => 0, g⟩ (fun r => (∀ c : Dev Cert.XkvDxTopRefIdeal.nD,
      r.2.mem ((c.tc : Thread Cert.XkvDxTopRefIdeal.nD Cert.XkvDxTopRefIdeal.τ).loc Cert.XkvDxTopRefIdeal.main_arg0) = m ((c.tc : Thread Cert.XkvDxTopRefIdeal.nD Cert.XkvDxTopRefIdeal.τ).loc Cert.XkvDxTopRefIdeal.main_arg0)
      ∧ r.2.mem ((c.tc : Thread Cert.XkvDxTopRefIdeal.nD Cert.XkvDxTopRefIdeal.τ).loc Cert.XkvDxTopRefIdeal.main_arg1) = m ((c.tc : Thread Cert.XkvDxTopRefIdeal.nD Cert.XkvDxTopRefIdeal.τ).loc Cert.XkvDxTopRefIdeal.main_arg1))
      ∧ r.2.sem = fun _ => 0)

def quiescent_AdamInAb [hAdamInAb : Cert.AdamInAb.Facts] : Prop :=
  ∀ (m : (ℓ : Loc Cert.AdamInAb.nD Cert.AdamInAb.τ Cert.AdamInAb.sig) → Buf (Elt Bits) ℓ) (g : Dev Cert.AdamInAb.nD → PrngReg), Pre_AdamInAb m →
    θ_run (Cert.AdamInAb.defs (F := Bits)) (onTc (τ := Cert.AdamInAb.τ) (Cert.AdamInAb.main (F := Bits))) ⟨m, fun _ => 0, g⟩ (fun r => (∀ c : Dev Cert.AdamInAb.nD,
      r.2.mem ((c.tc : Thread Cert.AdamInAb.nD Cert.AdamInAb.τ).loc Cert.AdamInAb.main_arg0) = m ((c.tc : Thread Cert.AdamInAb.nD Cert.AdamInAb.τ).loc Cert.AdamInAb.main_arg0)
      ∧ r.2.mem ((c.tc : Thread Cert.AdamInAb.nD Cert.AdamInAb.τ).loc Cert.AdamInAb.main_arg1) = m ((c.tc : Thread Cert.AdamInAb.nD Cert.AdamInAb.τ).loc Cert.AdamInAb.main_arg1)
      ∧ r.2.mem ((c.tc : Thread Cert.AdamInAb.nD Cert.AdamInAb.τ).loc Cert.AdamInAb.main_arg2) = m ((c.tc : Thread Cert.AdamInAb.nD Cert.AdamInAb.τ).loc Cert.AdamInAb.main_arg2)
      ∧ r.2.mem ((c.tc : Thread Cert.AdamInAb.nD Cert.AdamInAb.τ).loc Cert.AdamInAb.main_arg3) = m ((c.tc : Thread Cert.AdamInAb.nD Cert.AdamInAb.τ).loc Cert.AdamInAb.main_arg3))
      ∧ r.2.sem = fun _ => 0)

def quiescent_AdamInAbIdeal [hAdamInAbIdeal : Cert.AdamInAbIdeal.Facts] : Prop :=
  ∀ (m : (ℓ : Loc Cert.AdamInAbIdeal.nD Cert.AdamInAbIdeal.τ Cert.AdamInAbIdeal.sig) → Buf (Elt Ideal) ℓ) (g : Dev Cert.AdamInAbIdeal.nD → PrngReg), Pre_AdamInAbIdeal m →
    θ_run (Cert.AdamInAbIdeal.defs (F := Ideal)) (onTc (τ := Cert.AdamInAbIdeal.τ) (Cert.AdamInAbIdeal.main (F := Ideal))) ⟨m, fun _ => 0, g⟩ (fun r => (∀ c : Dev Cert.AdamInAbIdeal.nD,
      r.2.mem ((c.tc : Thread Cert.AdamInAbIdeal.nD Cert.AdamInAbIdeal.τ).loc Cert.AdamInAbIdeal.main_arg0) = m ((c.tc : Thread Cert.AdamInAbIdeal.nD Cert.AdamInAbIdeal.τ).loc Cert.AdamInAbIdeal.main_arg0)
      ∧ r.2.mem ((c.tc : Thread Cert.AdamInAbIdeal.nD Cert.AdamInAbIdeal.τ).loc Cert.AdamInAbIdeal.main_arg1) = m ((c.tc : Thread Cert.AdamInAbIdeal.nD Cert.AdamInAbIdeal.τ).loc Cert.AdamInAbIdeal.main_arg1)
      ∧ r.2.mem ((c.tc : Thread Cert.AdamInAbIdeal.nD Cert.AdamInAbIdeal.τ).loc Cert.AdamInAbIdeal.main_arg2) = m ((c.tc : Thread Cert.AdamInAbIdeal.nD Cert.AdamInAbIdeal.τ).loc Cert.AdamInAbIdeal.main_arg2)
      ∧ r.2.mem ((c.tc : Thread Cert.AdamInAbIdeal.nD Cert.AdamInAbIdeal.τ).loc Cert.AdamInAbIdeal.main_arg3) = m ((c.tc : Thread Cert.AdamInAbIdeal.nD Cert.AdamInAbIdeal.τ).loc Cert.AdamInAbIdeal.main_arg3))
      ∧ r.2.sem = fun _ => 0)

def quiescent_AdamInAbRefIdeal [hAdamInAbRefIdeal : Cert.AdamInAbRefIdeal.Facts] : Prop :=
  ∀ (m : (ℓ : Loc Cert.AdamInAbRefIdeal.nD Cert.AdamInAbRefIdeal.τ Cert.AdamInAbRefIdeal.sig) → Buf (Elt Ideal) ℓ) (g : Dev Cert.AdamInAbRefIdeal.nD → PrngReg), Pre_AdamInAbRefIdeal m →
    θ_run (Cert.AdamInAbRefIdeal.defs (F := Ideal)) (onTc (τ := Cert.AdamInAbRefIdeal.τ) (Cert.AdamInAbRefIdeal.main (F := Ideal))) ⟨m, fun _ => 0, g⟩ (fun r => (∀ c : Dev Cert.AdamInAbRefIdeal.nD,
      r.2.mem ((c.tc : Thread Cert.AdamInAbRefIdeal.nD Cert.AdamInAbRefIdeal.τ).loc Cert.AdamInAbRefIdeal.main_arg0) = m ((c.tc : Thread Cert.AdamInAbRefIdeal.nD Cert.AdamInAbRefIdeal.τ).loc Cert.AdamInAbRefIdeal.main_arg0)
      ∧ r.2.mem ((c.tc : Thread Cert.AdamInAbRefIdeal.nD Cert.AdamInAbRefIdeal.τ).loc Cert.AdamInAbRefIdeal.main_arg1) = m ((c.tc : Thread Cert.AdamInAbRefIdeal.nD Cert.AdamInAbRefIdeal.τ).loc Cert.AdamInAbRefIdeal.main_arg1)
      ∧ r.2.mem ((c.tc : Thread Cert.AdamInAbRefIdeal.nD Cert.AdamInAbRefIdeal.τ).loc Cert.AdamInAbRefIdeal.main_arg2) = m ((c.tc : Thread Cert.AdamInAbRefIdeal.nD Cert.AdamInAbRefIdeal.τ).loc Cert.AdamInAbRefIdeal.main_arg2)
      ∧ r.2.mem ((c.tc : Thread Cert.AdamInAbRefIdeal.nD Cert.AdamInAbRefIdeal.τ).loc Cert.AdamInAbRefIdeal.main_arg3) = m ((c.tc : Thread Cert.AdamInAbRefIdeal.nD Cert.AdamInAbRefIdeal.τ).loc Cert.AdamInAbRefIdeal.main_arg3))
      ∧ r.2.sem = fun _ => 0)

def quiescent_AdamInCd [hAdamInCd : Cert.AdamInCd.Facts] : Prop :=
  ∀ (m : (ℓ : Loc Cert.AdamInCd.nD Cert.AdamInCd.τ Cert.AdamInCd.sig) → Buf (Elt Bits) ℓ) (g : Dev Cert.AdamInCd.nD → PrngReg), Pre_AdamInCd m →
    θ_run (Cert.AdamInCd.defs (F := Bits)) (onTc (τ := Cert.AdamInCd.τ) (Cert.AdamInCd.main (F := Bits))) ⟨m, fun _ => 0, g⟩ (fun r => (∀ c : Dev Cert.AdamInCd.nD,
      r.2.mem ((c.tc : Thread Cert.AdamInCd.nD Cert.AdamInCd.τ).loc Cert.AdamInCd.main_arg0) = m ((c.tc : Thread Cert.AdamInCd.nD Cert.AdamInCd.τ).loc Cert.AdamInCd.main_arg0)
      ∧ r.2.mem ((c.tc : Thread Cert.AdamInCd.nD Cert.AdamInCd.τ).loc Cert.AdamInCd.main_arg1) = m ((c.tc : Thread Cert.AdamInCd.nD Cert.AdamInCd.τ).loc Cert.AdamInCd.main_arg1)
      ∧ r.2.mem ((c.tc : Thread Cert.AdamInCd.nD Cert.AdamInCd.τ).loc Cert.AdamInCd.main_arg2) = m ((c.tc : Thread Cert.AdamInCd.nD Cert.AdamInCd.τ).loc Cert.AdamInCd.main_arg2)
      ∧ r.2.mem ((c.tc : Thread Cert.AdamInCd.nD Cert.AdamInCd.τ).loc Cert.AdamInCd.main_arg3) = m ((c.tc : Thread Cert.AdamInCd.nD Cert.AdamInCd.τ).loc Cert.AdamInCd.main_arg3))
      ∧ r.2.sem = fun _ => 0)

def quiescent_AdamInCdIdeal [hAdamInCdIdeal : Cert.AdamInCdIdeal.Facts] : Prop :=
  ∀ (m : (ℓ : Loc Cert.AdamInCdIdeal.nD Cert.AdamInCdIdeal.τ Cert.AdamInCdIdeal.sig) → Buf (Elt Ideal) ℓ) (g : Dev Cert.AdamInCdIdeal.nD → PrngReg), Pre_AdamInCdIdeal m →
    θ_run (Cert.AdamInCdIdeal.defs (F := Ideal)) (onTc (τ := Cert.AdamInCdIdeal.τ) (Cert.AdamInCdIdeal.main (F := Ideal))) ⟨m, fun _ => 0, g⟩ (fun r => (∀ c : Dev Cert.AdamInCdIdeal.nD,
      r.2.mem ((c.tc : Thread Cert.AdamInCdIdeal.nD Cert.AdamInCdIdeal.τ).loc Cert.AdamInCdIdeal.main_arg0) = m ((c.tc : Thread Cert.AdamInCdIdeal.nD Cert.AdamInCdIdeal.τ).loc Cert.AdamInCdIdeal.main_arg0)
      ∧ r.2.mem ((c.tc : Thread Cert.AdamInCdIdeal.nD Cert.AdamInCdIdeal.τ).loc Cert.AdamInCdIdeal.main_arg1) = m ((c.tc : Thread Cert.AdamInCdIdeal.nD Cert.AdamInCdIdeal.τ).loc Cert.AdamInCdIdeal.main_arg1)
      ∧ r.2.mem ((c.tc : Thread Cert.AdamInCdIdeal.nD Cert.AdamInCdIdeal.τ).loc Cert.AdamInCdIdeal.main_arg2) = m ((c.tc : Thread Cert.AdamInCdIdeal.nD Cert.AdamInCdIdeal.τ).loc Cert.AdamInCdIdeal.main_arg2)
      ∧ r.2.mem ((c.tc : Thread Cert.AdamInCdIdeal.nD Cert.AdamInCdIdeal.τ).loc Cert.AdamInCdIdeal.main_arg3) = m ((c.tc : Thread Cert.AdamInCdIdeal.nD Cert.AdamInCdIdeal.τ).loc Cert.AdamInCdIdeal.main_arg3))
      ∧ r.2.sem = fun _ => 0)

def quiescent_AdamInCdRefIdeal [hAdamInCdRefIdeal : Cert.AdamInCdRefIdeal.Facts] : Prop :=
  ∀ (m : (ℓ : Loc Cert.AdamInCdRefIdeal.nD Cert.AdamInCdRefIdeal.τ Cert.AdamInCdRefIdeal.sig) → Buf (Elt Ideal) ℓ) (g : Dev Cert.AdamInCdRefIdeal.nD → PrngReg), Pre_AdamInCdRefIdeal m →
    θ_run (Cert.AdamInCdRefIdeal.defs (F := Ideal)) (onTc (τ := Cert.AdamInCdRefIdeal.τ) (Cert.AdamInCdRefIdeal.main (F := Ideal))) ⟨m, fun _ => 0, g⟩ (fun r => (∀ c : Dev Cert.AdamInCdRefIdeal.nD,
      r.2.mem ((c.tc : Thread Cert.AdamInCdRefIdeal.nD Cert.AdamInCdRefIdeal.τ).loc Cert.AdamInCdRefIdeal.main_arg0) = m ((c.tc : Thread Cert.AdamInCdRefIdeal.nD Cert.AdamInCdRefIdeal.τ).loc Cert.AdamInCdRefIdeal.main_arg0)
      ∧ r.2.mem ((c.tc : Thread Cert.AdamInCdRefIdeal.nD Cert.AdamInCdRefIdeal.τ).loc Cert.AdamInCdRefIdeal.main_arg1) = m ((c.tc : Thread Cert.AdamInCdRefIdeal.nD Cert.AdamInCdRefIdeal.τ).loc Cert.AdamInCdRefIdeal.main_arg1)
      ∧ r.2.mem ((c.tc : Thread Cert.AdamInCdRefIdeal.nD Cert.AdamInCdRefIdeal.τ).loc Cert.AdamInCdRefIdeal.main_arg2) = m ((c.tc : Thread Cert.AdamInCdRefIdeal.nD Cert.AdamInCdRefIdeal.τ).loc Cert.AdamInCdRefIdeal.main_arg2)
      ∧ r.2.mem ((c.tc : Thread Cert.AdamInCdRefIdeal.nD Cert.AdamInCdRefIdeal.τ).loc Cert.AdamInCdRefIdeal.main_arg3) = m ((c.tc : Thread Cert.AdamInCdRefIdeal.nD Cert.AdamInCdRefIdeal.τ).loc Cert.AdamInCdRefIdeal.main_arg3))
      ∧ r.2.sem = fun _ => 0)

def quiescent_AdamOutAb [hAdamOutAb : Cert.AdamOutAb.Facts] : Prop :=
  ∀ (m : (ℓ : Loc Cert.AdamOutAb.nD Cert.AdamOutAb.τ Cert.AdamOutAb.sig) → Buf (Elt Bits) ℓ) (g : Dev Cert.AdamOutAb.nD → PrngReg), Pre_AdamOutAb m →
    θ_run (Cert.AdamOutAb.defs (F := Bits)) (onTc (τ := Cert.AdamOutAb.τ) (Cert.AdamOutAb.main (F := Bits))) ⟨m, fun _ => 0, g⟩ (fun r => (∀ c : Dev Cert.AdamOutAb.nD,
      r.2.mem ((c.tc : Thread Cert.AdamOutAb.nD Cert.AdamOutAb.τ).loc Cert.AdamOutAb.main_arg0) = m ((c.tc : Thread Cert.AdamOutAb.nD Cert.AdamOutAb.τ).loc Cert.AdamOutAb.main_arg0)
      ∧ r.2.mem ((c.tc : Thread Cert.AdamOutAb.nD Cert.AdamOutAb.τ).loc Cert.AdamOutAb.main_arg1) = m ((c.tc : Thread Cert.AdamOutAb.nD Cert.AdamOutAb.τ).loc Cert.AdamOutAb.main_arg1)
      ∧ r.2.mem ((c.tc : Thread Cert.AdamOutAb.nD Cert.AdamOutAb.τ).loc Cert.AdamOutAb.main_arg2) = m ((c.tc : Thread Cert.AdamOutAb.nD Cert.AdamOutAb.τ).loc Cert.AdamOutAb.main_arg2)
      ∧ r.2.mem ((c.tc : Thread Cert.AdamOutAb.nD Cert.AdamOutAb.τ).loc Cert.AdamOutAb.main_arg3) = m ((c.tc : Thread Cert.AdamOutAb.nD Cert.AdamOutAb.τ).loc Cert.AdamOutAb.main_arg3))
      ∧ r.2.sem = fun _ => 0)

def quiescent_AdamOutAbIdeal [hAdamOutAbIdeal : Cert.AdamOutAbIdeal.Facts] : Prop :=
  ∀ (m : (ℓ : Loc Cert.AdamOutAbIdeal.nD Cert.AdamOutAbIdeal.τ Cert.AdamOutAbIdeal.sig) → Buf (Elt Ideal) ℓ) (g : Dev Cert.AdamOutAbIdeal.nD → PrngReg), Pre_AdamOutAbIdeal m →
    θ_run (Cert.AdamOutAbIdeal.defs (F := Ideal)) (onTc (τ := Cert.AdamOutAbIdeal.τ) (Cert.AdamOutAbIdeal.main (F := Ideal))) ⟨m, fun _ => 0, g⟩ (fun r => (∀ c : Dev Cert.AdamOutAbIdeal.nD,
      r.2.mem ((c.tc : Thread Cert.AdamOutAbIdeal.nD Cert.AdamOutAbIdeal.τ).loc Cert.AdamOutAbIdeal.main_arg0) = m ((c.tc : Thread Cert.AdamOutAbIdeal.nD Cert.AdamOutAbIdeal.τ).loc Cert.AdamOutAbIdeal.main_arg0)
      ∧ r.2.mem ((c.tc : Thread Cert.AdamOutAbIdeal.nD Cert.AdamOutAbIdeal.τ).loc Cert.AdamOutAbIdeal.main_arg1) = m ((c.tc : Thread Cert.AdamOutAbIdeal.nD Cert.AdamOutAbIdeal.τ).loc Cert.AdamOutAbIdeal.main_arg1)
      ∧ r.2.mem ((c.tc : Thread Cert.AdamOutAbIdeal.nD Cert.AdamOutAbIdeal.τ).loc Cert.AdamOutAbIdeal.main_arg2) = m ((c.tc : Thread Cert.AdamOutAbIdeal.nD Cert.AdamOutAbIdeal.τ).loc Cert.AdamOutAbIdeal.main_arg2)
      ∧ r.2.mem ((c.tc : Thread Cert.AdamOutAbIdeal.nD Cert.AdamOutAbIdeal.τ).loc Cert.AdamOutAbIdeal.main_arg3) = m ((c.tc : Thread Cert.AdamOutAbIdeal.nD Cert.AdamOutAbIdeal.τ).loc Cert.AdamOutAbIdeal.main_arg3))
      ∧ r.2.sem = fun _ => 0)

def quiescent_AdamOutAbRefIdeal [hAdamOutAbRefIdeal : Cert.AdamOutAbRefIdeal.Facts] : Prop :=
  ∀ (m : (ℓ : Loc Cert.AdamOutAbRefIdeal.nD Cert.AdamOutAbRefIdeal.τ Cert.AdamOutAbRefIdeal.sig) → Buf (Elt Ideal) ℓ) (g : Dev Cert.AdamOutAbRefIdeal.nD → PrngReg), Pre_AdamOutAbRefIdeal m →
    θ_run (Cert.AdamOutAbRefIdeal.defs (F := Ideal)) (onTc (τ := Cert.AdamOutAbRefIdeal.τ) (Cert.AdamOutAbRefIdeal.main (F := Ideal))) ⟨m, fun _ => 0, g⟩ (fun r => (∀ c : Dev Cert.AdamOutAbRefIdeal.nD,
      r.2.mem ((c.tc : Thread Cert.AdamOutAbRefIdeal.nD Cert.AdamOutAbRefIdeal.τ).loc Cert.AdamOutAbRefIdeal.main_arg0) = m ((c.tc : Thread Cert.AdamOutAbRefIdeal.nD Cert.AdamOutAbRefIdeal.τ).loc Cert.AdamOutAbRefIdeal.main_arg0)
      ∧ r.2.mem ((c.tc : Thread Cert.AdamOutAbRefIdeal.nD Cert.AdamOutAbRefIdeal.τ).loc Cert.AdamOutAbRefIdeal.main_arg1) = m ((c.tc : Thread Cert.AdamOutAbRefIdeal.nD Cert.AdamOutAbRefIdeal.τ).loc Cert.AdamOutAbRefIdeal.main_arg1)
      ∧ r.2.mem ((c.tc : Thread Cert.AdamOutAbRefIdeal.nD Cert.AdamOutAbRefIdeal.τ).loc Cert.AdamOutAbRefIdeal.main_arg2) = m ((c.tc : Thread Cert.AdamOutAbRefIdeal.nD Cert.AdamOutAbRefIdeal.τ).loc Cert.AdamOutAbRefIdeal.main_arg2)
      ∧ r.2.mem ((c.tc : Thread Cert.AdamOutAbRefIdeal.nD Cert.AdamOutAbRefIdeal.τ).loc Cert.AdamOutAbRefIdeal.main_arg3) = m ((c.tc : Thread Cert.AdamOutAbRefIdeal.nD Cert.AdamOutAbRefIdeal.τ).loc Cert.AdamOutAbRefIdeal.main_arg3))
      ∧ r.2.sem = fun _ => 0)

def quiescent_AdamOutCd [hAdamOutCd : Cert.AdamOutCd.Facts] : Prop :=
  ∀ (m : (ℓ : Loc Cert.AdamOutCd.nD Cert.AdamOutCd.τ Cert.AdamOutCd.sig) → Buf (Elt Bits) ℓ) (g : Dev Cert.AdamOutCd.nD → PrngReg), Pre_AdamOutCd m →
    θ_run (Cert.AdamOutCd.defs (F := Bits)) (onTc (τ := Cert.AdamOutCd.τ) (Cert.AdamOutCd.main (F := Bits))) ⟨m, fun _ => 0, g⟩ (fun r => (∀ c : Dev Cert.AdamOutCd.nD,
      r.2.mem ((c.tc : Thread Cert.AdamOutCd.nD Cert.AdamOutCd.τ).loc Cert.AdamOutCd.main_arg0) = m ((c.tc : Thread Cert.AdamOutCd.nD Cert.AdamOutCd.τ).loc Cert.AdamOutCd.main_arg0)
      ∧ r.2.mem ((c.tc : Thread Cert.AdamOutCd.nD Cert.AdamOutCd.τ).loc Cert.AdamOutCd.main_arg1) = m ((c.tc : Thread Cert.AdamOutCd.nD Cert.AdamOutCd.τ).loc Cert.AdamOutCd.main_arg1)
      ∧ r.2.mem ((c.tc : Thread Cert.AdamOutCd.nD Cert.AdamOutCd.τ).loc Cert.AdamOutCd.main_arg2) = m ((c.tc : Thread Cert.AdamOutCd.nD Cert.AdamOutCd.τ).loc Cert.AdamOutCd.main_arg2)
      ∧ r.2.mem ((c.tc : Thread Cert.AdamOutCd.nD Cert.AdamOutCd.τ).loc Cert.AdamOutCd.main_arg3) = m ((c.tc : Thread Cert.AdamOutCd.nD Cert.AdamOutCd.τ).loc Cert.AdamOutCd.main_arg3))
      ∧ r.2.sem = fun _ => 0)

def quiescent_AdamOutCdIdeal [hAdamOutCdIdeal : Cert.AdamOutCdIdeal.Facts] : Prop :=
  ∀ (m : (ℓ : Loc Cert.AdamOutCdIdeal.nD Cert.AdamOutCdIdeal.τ Cert.AdamOutCdIdeal.sig) → Buf (Elt Ideal) ℓ) (g : Dev Cert.AdamOutCdIdeal.nD → PrngReg), Pre_AdamOutCdIdeal m →
    θ_run (Cert.AdamOutCdIdeal.defs (F := Ideal)) (onTc (τ := Cert.AdamOutCdIdeal.τ) (Cert.AdamOutCdIdeal.main (F := Ideal))) ⟨m, fun _ => 0, g⟩ (fun r => (∀ c : Dev Cert.AdamOutCdIdeal.nD,
      r.2.mem ((c.tc : Thread Cert.AdamOutCdIdeal.nD Cert.AdamOutCdIdeal.τ).loc Cert.AdamOutCdIdeal.main_arg0) = m ((c.tc : Thread Cert.AdamOutCdIdeal.nD Cert.AdamOutCdIdeal.τ).loc Cert.AdamOutCdIdeal.main_arg0)
      ∧ r.2.mem ((c.tc : Thread Cert.AdamOutCdIdeal.nD Cert.AdamOutCdIdeal.τ).loc Cert.AdamOutCdIdeal.main_arg1) = m ((c.tc : Thread Cert.AdamOutCdIdeal.nD Cert.AdamOutCdIdeal.τ).loc Cert.AdamOutCdIdeal.main_arg1)
      ∧ r.2.mem ((c.tc : Thread Cert.AdamOutCdIdeal.nD Cert.AdamOutCdIdeal.τ).loc Cert.AdamOutCdIdeal.main_arg2) = m ((c.tc : Thread Cert.AdamOutCdIdeal.nD Cert.AdamOutCdIdeal.τ).loc Cert.AdamOutCdIdeal.main_arg2)
      ∧ r.2.mem ((c.tc : Thread Cert.AdamOutCdIdeal.nD Cert.AdamOutCdIdeal.τ).loc Cert.AdamOutCdIdeal.main_arg3) = m ((c.tc : Thread Cert.AdamOutCdIdeal.nD Cert.AdamOutCdIdeal.τ).loc Cert.AdamOutCdIdeal.main_arg3))
      ∧ r.2.sem = fun _ => 0)

def quiescent_AdamOutCdRefIdeal [hAdamOutCdRefIdeal : Cert.AdamOutCdRefIdeal.Facts] : Prop :=
  ∀ (m : (ℓ : Loc Cert.AdamOutCdRefIdeal.nD Cert.AdamOutCdRefIdeal.τ Cert.AdamOutCdRefIdeal.sig) → Buf (Elt Ideal) ℓ) (g : Dev Cert.AdamOutCdRefIdeal.nD → PrngReg), Pre_AdamOutCdRefIdeal m →
    θ_run (Cert.AdamOutCdRefIdeal.defs (F := Ideal)) (onTc (τ := Cert.AdamOutCdRefIdeal.τ) (Cert.AdamOutCdRefIdeal.main (F := Ideal))) ⟨m, fun _ => 0, g⟩ (fun r => (∀ c : Dev Cert.AdamOutCdRefIdeal.nD,
      r.2.mem ((c.tc : Thread Cert.AdamOutCdRefIdeal.nD Cert.AdamOutCdRefIdeal.τ).loc Cert.AdamOutCdRefIdeal.main_arg0) = m ((c.tc : Thread Cert.AdamOutCdRefIdeal.nD Cert.AdamOutCdRefIdeal.τ).loc Cert.AdamOutCdRefIdeal.main_arg0)
      ∧ r.2.mem ((c.tc : Thread Cert.AdamOutCdRefIdeal.nD Cert.AdamOutCdRefIdeal.τ).loc Cert.AdamOutCdRefIdeal.main_arg1) = m ((c.tc : Thread Cert.AdamOutCdRefIdeal.nD Cert.AdamOutCdRefIdeal.τ).loc Cert.AdamOutCdRefIdeal.main_arg1)
      ∧ r.2.mem ((c.tc : Thread Cert.AdamOutCdRefIdeal.nD Cert.AdamOutCdRefIdeal.τ).loc Cert.AdamOutCdRefIdeal.main_arg2) = m ((c.tc : Thread Cert.AdamOutCdRefIdeal.nD Cert.AdamOutCdRefIdeal.τ).loc Cert.AdamOutCdRefIdeal.main_arg2)
      ∧ r.2.mem ((c.tc : Thread Cert.AdamOutCdRefIdeal.nD Cert.AdamOutCdRefIdeal.τ).loc Cert.AdamOutCdRefIdeal.main_arg3) = m ((c.tc : Thread Cert.AdamOutCdRefIdeal.nD Cert.AdamOutCdRefIdeal.τ).loc Cert.AdamOutCdRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_rms_finite [hRmsIdeal : Cert.RmsIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_rms_finite m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_rms_finite [hRmsRefIdeal : Cert.RmsRefIdeal.Facts] [hPre_rms_finite : Cert.Pre_rms_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v73) = v0 c
          ∧ r.2.mem ((c.tc : Thread Cert.XattnRefIdeal.nD Cert.XattnRefIdeal.τ).loc Cert.XattnRefIdeal.main_v71) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_InAbDx_InAbDxIdeal : Prop :=
  True

def algebraic_InAbDxIdeal_InAbDxRefIdeal [hInAbDxIdeal : Cert.InAbDxIdeal.Facts] [hInAbDxRefIdeal : Cert.InAbDxRefIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg)
    (m' : (ℓ : Loc Cert.InAbDxRefIdeal.nD Cert.InAbDxRefIdeal.τ Cert.InAbDxRefIdeal.sig) → Buf (Elt Ideal) ℓ) (g' : Dev Cert.InAbDxRefIdeal.nD → PrngReg), Pre_InAbDxIdeal m →
    (∀ c : Dev Cert.InAbDxIdeal.nD,
      m' ((c.tc : Thread Cert.InAbDxRefIdeal.nD Cert.InAbDxRefIdeal.τ).loc Cert.InAbDxRefIdeal.main_arg0) = m ((c.tc : Thread Cert.InAbDxIdeal.nD Cert.InAbDxIdeal.τ).loc Cert.InAbDxIdeal.main_arg0)
      ∧ m' ((c.tc : Thread Cert.InAbDxRefIdeal.nD Cert.InAbDxRefIdeal.τ).loc Cert.InAbDxRefIdeal.main_arg1) = m ((c.tc : Thread Cert.InAbDxIdeal.nD Cert.InAbDxIdeal.τ).loc Cert.InAbDxIdeal.main_arg1)) →
    ∃ (v0 : (c : Dev Cert.InAbDxIdeal.nD) → Buf (Elt Ideal) ((c.tc : Thread Cert.InAbDxIdeal.nD Cert.InAbDxIdeal.τ).loc Cert.InAbDxIdeal.main_v0)),
      θ_run (Cert.InAbDxIdeal.defs (F := Ideal)) (onTc (τ := Cert.InAbDxIdeal.τ) (Cert.InAbDxIdeal.main (F := Ideal))) ⟨m, fun _ => 0, g⟩ (fun r => ∀ c : Dev Cert.InAbDxIdeal.nD,
          r.2.mem ((c.tc : Thread Cert.InAbDxIdeal.nD Cert.InAbDxIdeal.τ).loc Cert.InAbDxIdeal.main_v0) = v0 c
          ∧ r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
          ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ θ_run (Cert.InAbDxRefIdeal.defs (F := Ideal)) (onTc (τ := Cert.InAbDxRefIdeal.τ) (Cert.InAbDxRefIdeal.main (F := Ideal))) ⟨m', fun _ => 0, g'⟩ (fun r => ∀ c : Dev Cert.InAbDxRefIdeal.nD,
          r.2.mem ((c.tc : Thread Cert.InAbDxRefIdeal.nD Cert.InAbDxRefIdeal.τ).loc Cert.InAbDxRefIdeal.main_v6) = v0 c
          ∧ r.2.mem ((c.tc : Thread Cert.InAbDxRefIdeal.nD Cert.InAbDxRefIdeal.τ).loc Cert.InAbDxRefIdeal.main_arg0) = m' ((c.tc : Thread Cert.InAbDxRefIdeal.nD Cert.InAbDxRefIdeal.τ).loc Cert.InAbDxRefIdeal.main_arg0)
          ∧ r.2.mem ((c.tc : Thread Cert.InAbDxRefIdeal.nD Cert.InAbDxRefIdeal.τ).loc Cert.InAbDxRefIdeal.main_arg1) = m' ((c.tc : Thread Cert.InAbDxRefIdeal.nD Cert.InAbDxRefIdeal.τ).loc Cert.InAbDxRefIdeal.main_arg1))

def preserves_InAbDw_InAbDwIdeal : Prop :=
  True

def algebraic_InAbDwIdeal_InAbDwRefIdeal [hInAbDwIdeal : Cert.InAbDwIdeal.Facts] [hInAbDwRefIdeal : Cert.InAbDwRefIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg)
    (m' : (ℓ : Loc Cert.InAbDwRefIdeal.nD Cert.InAbDwRefIdeal.τ Cert.InAbDwRefIdeal.sig) → Buf (Elt Ideal) ℓ) (g' : Dev Cert.InAbDwRefIdeal.nD → PrngReg), Pre_InAbDwIdeal m →
    (∀ c : Dev Cert.InAbDwIdeal.nD,
      m' ((c.tc : Thread Cert.InAbDwRefIdeal.nD Cert.InAbDwRefIdeal.τ).loc Cert.InAbDwRefIdeal.main_arg0) = m ((c.tc : Thread Cert.InAbDwIdeal.nD Cert.InAbDwIdeal.τ).loc Cert.InAbDwIdeal.main_arg0)
      ∧ m' ((c.tc : Thread Cert.InAbDwRefIdeal.nD Cert.InAbDwRefIdeal.τ).loc Cert.InAbDwRefIdeal.main_arg1) = m ((c.tc : Thread Cert.InAbDwIdeal.nD Cert.InAbDwIdeal.τ).loc Cert.InAbDwIdeal.main_arg1)) →
    ∃ (v0 : (c : Dev Cert.InAbDwIdeal.nD) → Buf (Elt Ideal) ((c.tc : Thread Cert.InAbDwIdeal.nD Cert.InAbDwIdeal.τ).loc Cert.InAbDwIdeal.main_v0)),
      θ_run (Cert.InAbDwIdeal.defs (F := Ideal)) (onTc (τ := Cert.InAbDwIdeal.τ) (Cert.InAbDwIdeal.main (F := Ideal))) ⟨m, fun _ => 0, g⟩ (fun r => ∀ c : Dev Cert.InAbDwIdeal.nD,
          r.2.mem ((c.tc : Thread Cert.InAbDwIdeal.nD Cert.InAbDwIdeal.τ).loc Cert.InAbDwIdeal.main_v0) = v0 c
          ∧ r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
          ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ θ_run (Cert.InAbDwRefIdeal.defs (F := Ideal)) (onTc (τ := Cert.InAbDwRefIdeal.τ) (Cert.InAbDwRefIdeal.main (F := Ideal))) ⟨m', fun _ => 0, g'⟩ (fun r => ∀ c : Dev Cert.InAbDwRefIdeal.nD,
          r.2.mem ((c.tc : Thread Cert.InAbDwRefIdeal.nD Cert.InAbDwRefIdeal.τ).loc Cert.InAbDwRefIdeal.main_v7) = v0 c
          ∧ r.2.mem ((c.tc : Thread Cert.InAbDwRefIdeal.nD Cert.InAbDwRefIdeal.τ).loc Cert.InAbDwRefIdeal.main_arg0) = m' ((c.tc : Thread Cert.InAbDwRefIdeal.nD Cert.InAbDwRefIdeal.τ).loc Cert.InAbDwRefIdeal.main_arg0)
          ∧ r.2.mem ((c.tc : Thread Cert.InAbDwRefIdeal.nD Cert.InAbDwRefIdeal.τ).loc Cert.InAbDwRefIdeal.main_arg1) = m' ((c.tc : Thread Cert.InAbDwRefIdeal.nD Cert.InAbDwRefIdeal.τ).loc Cert.InAbDwRefIdeal.main_arg1))

def preserves_InCdDx_InCdDxIdeal : Prop :=
  True

def algebraic_InCdDxIdeal_InCdDxRefIdeal [hInCdDxIdeal : Cert.InCdDxIdeal.Facts] [hInCdDxRefIdeal : Cert.InCdDxRefIdeal.Facts] : Prop :=
  ∀ (m : (ℓ : Loc Cert.InCdDxIdeal.nD Cert.InCdDxIdeal.τ Cert.InCdDxIdeal.sig) → Buf (Elt Ideal) ℓ) (g : Dev Cert.InCdDxIdeal.nD → PrngReg)
    (m' : (ℓ : Loc Cert.InCdDxRefIdeal.nD Cert.InCdDxRefIdeal.τ Cert.InCdDxRefIdeal.sig) → Buf (Elt Ideal) ℓ) (g' : Dev Cert.InCdDxRefIdeal.nD → PrngReg), Pre_InCdDxIdeal m →
    (∀ c : Dev Cert.InCdDxIdeal.nD,
      m' ((c.tc : Thread Cert.InCdDxRefIdeal.nD Cert.InCdDxRefIdeal.τ).loc Cert.InCdDxRefIdeal.main_arg0) = m ((c.tc : Thread Cert.InCdDxIdeal.nD Cert.InCdDxIdeal.τ).loc Cert.InCdDxIdeal.main_arg0)
      ∧ m' ((c.tc : Thread Cert.InCdDxRefIdeal.nD Cert.InCdDxRefIdeal.τ).loc Cert.InCdDxRefIdeal.main_arg1) = m ((c.tc : Thread Cert.InCdDxIdeal.nD Cert.InCdDxIdeal.τ).loc Cert.InCdDxIdeal.main_arg1)) →
    ∃ (v0 : (c : Dev Cert.InCdDxIdeal.nD) → Buf (Elt Ideal) ((c.tc : Thread Cert.InCdDxIdeal.nD Cert.InCdDxIdeal.τ).loc Cert.InCdDxIdeal.main_v0)),
      θ_run (Cert.InCdDxIdeal.defs (F := Ideal)) (onTc (τ := Cert.InCdDxIdeal.τ) (Cert.InCdDxIdeal.main (F := Ideal))) ⟨m, fun _ => 0, g⟩ (fun r => ∀ c : Dev Cert.InCdDxIdeal.nD,
          r.2.mem ((c.tc : Thread Cert.InCdDxIdeal.nD Cert.InCdDxIdeal.τ).loc Cert.InCdDxIdeal.main_v0) = v0 c
          ∧ r.2.mem ((c.tc : Thread Cert.InCdDxIdeal.nD Cert.InCdDxIdeal.τ).loc Cert.InCdDxIdeal.main_arg0) = m ((c.tc : Thread Cert.InCdDxIdeal.nD Cert.InCdDxIdeal.τ).loc Cert.InCdDxIdeal.main_arg0)
          ∧ r.2.mem ((c.tc : Thread Cert.InCdDxIdeal.nD Cert.InCdDxIdeal.τ).loc Cert.InCdDxIdeal.main_arg1) = m ((c.tc : Thread Cert.InCdDxIdeal.nD Cert.InCdDxIdeal.τ).loc Cert.InCdDxIdeal.main_arg1))
      ∧ θ_run (Cert.InCdDxRefIdeal.defs (F := Ideal)) (onTc (τ := Cert.InCdDxRefIdeal.τ) (Cert.InCdDxRefIdeal.main (F := Ideal))) ⟨m', fun _ => 0, g'⟩ (fun r => ∀ c : Dev Cert.InCdDxRefIdeal.nD,
          r.2.mem ((c.tc : Thread Cert.InCdDxRefIdeal.nD Cert.InCdDxRefIdeal.τ).loc Cert.InCdDxRefIdeal.main_v6) = v0 c
          ∧ r.2.mem ((c.tc : Thread Cert.InCdDxRefIdeal.nD Cert.InCdDxRefIdeal.τ).loc Cert.InCdDxRefIdeal.main_arg0) = m' ((c.tc : Thread Cert.InCdDxRefIdeal.nD Cert.InCdDxRefIdeal.τ).loc Cert.InCdDxRefIdeal.main_arg0)
          ∧ r.2.mem ((c.tc : Thread Cert.InCdDxRefIdeal.nD Cert.InCdDxRefIdeal.τ).loc Cert.InCdDxRefIdeal.main_arg1) = m' ((c.tc : Thread Cert.InCdDxRefIdeal.nD Cert.InCdDxRefIdeal.τ).loc Cert.InCdDxRefIdeal.main_arg1))

def preserves_InCdDw_InCdDwIdeal : Prop :=
  True

def algebraic_InCdDwIdeal_InCdDwRefIdeal [hInCdDwIdeal : Cert.InCdDwIdeal.Facts] [hInCdDwRefIdeal : Cert.InCdDwRefIdeal.Facts] : Prop :=
  ∀ (m : (ℓ : Loc Cert.InCdDwIdeal.nD Cert.InCdDwIdeal.τ Cert.InCdDwIdeal.sig) → Buf (Elt Ideal) ℓ) (g : Dev Cert.InCdDwIdeal.nD → PrngReg)
    (m' : (ℓ : Loc Cert.InCdDwRefIdeal.nD Cert.InCdDwRefIdeal.τ Cert.InCdDwRefIdeal.sig) → Buf (Elt Ideal) ℓ) (g' : Dev Cert.InCdDwRefIdeal.nD → PrngReg), Pre_InCdDwIdeal m →
    (∀ c : Dev Cert.InCdDwIdeal.nD,
      m' ((c.tc : Thread Cert.InCdDwRefIdeal.nD Cert.InCdDwRefIdeal.τ).loc Cert.InCdDwRefIdeal.main_arg0) = m ((c.tc : Thread Cert.InCdDwIdeal.nD Cert.InCdDwIdeal.τ).loc Cert.InCdDwIdeal.main_arg0)
      ∧ m' ((c.tc : Thread Cert.InCdDwRefIdeal.nD Cert.InCdDwRefIdeal.τ).loc Cert.InCdDwRefIdeal.main_arg1) = m ((c.tc : Thread Cert.InCdDwIdeal.nD Cert.InCdDwIdeal.τ).loc Cert.InCdDwIdeal.main_arg1)) →
    ∃ (v0 : (c : Dev Cert.InCdDwIdeal.nD) → Buf (Elt Ideal) ((c.tc : Thread Cert.InCdDwIdeal.nD Cert.InCdDwIdeal.τ).loc Cert.InCdDwIdeal.main_v0)),
      θ_run (Cert.InCdDwIdeal.defs (F := Ideal)) (onTc (τ := Cert.InCdDwIdeal.τ) (Cert.InCdDwIdeal.main (F := Ideal))) ⟨m, fun _ => 0, g⟩ (fun r => ∀ c : Dev Cert.InCdDwIdeal.nD,
          r.2.mem ((c.tc : Thread Cert.InCdDwIdeal.nD Cert.InCdDwIdeal.τ).loc Cert.InCdDwIdeal.main_v0) = v0 c
          ∧ r.2.mem ((c.tc : Thread Cert.InCdDwIdeal.nD Cert.InCdDwIdeal.τ).loc Cert.InCdDwIdeal.main_arg0) = m ((c.tc : Thread Cert.InCdDwIdeal.nD Cert.InCdDwIdeal.τ).loc Cert.InCdDwIdeal.main_arg0)
          ∧ r.2.mem ((c.tc : Thread Cert.InCdDwIdeal.nD Cert.InCdDwIdeal.τ).loc Cert.InCdDwIdeal.main_arg1) = m ((c.tc : Thread Cert.InCdDwIdeal.nD Cert.InCdDwIdeal.τ).loc Cert.InCdDwIdeal.main_arg1))
      ∧ θ_run (Cert.InCdDwRefIdeal.defs (F := Ideal)) (onTc (τ := Cert.InCdDwRefIdeal.τ) (Cert.InCdDwRefIdeal.main (F := Ideal))) ⟨m', fun _ => 0, g'⟩ (fun r => ∀ c : Dev Cert.InCdDwRefIdeal.nD,
          r.2.mem ((c.tc : Thread Cert.InCdDwRefIdeal.nD Cert.InCdDwRefIdeal.τ).loc Cert.InCdDwRefIdeal.main_v7) = v0 c
          ∧ r.2.mem ((c.tc : Thread Cert.InCdDwRefIdeal.nD Cert.InCdDwRefIdeal.τ).loc Cert.InCdDwRefIdeal.main_arg0) = m' ((c.tc : Thread Cert.InCdDwRefIdeal.nD Cert.InCdDwRefIdeal.τ).loc Cert.InCdDwRefIdeal.main_arg0)
          ∧ r.2.mem ((c.tc : Thread Cert.InCdDwRefIdeal.nD Cert.InCdDwRefIdeal.τ).loc Cert.InCdDwRefIdeal.main_arg1) = m' ((c.tc : Thread Cert.InCdDwRefIdeal.nD Cert.InCdDwRefIdeal.τ).loc Cert.InCdDwRefIdeal.main_arg1))

def preserves_OutAbDx_OutAbDxIdeal : Prop :=
  True

def algebraic_OutAbDxIdeal_OutAbDxRefIdeal [hOutAbDxIdeal : Cert.OutAbDxIdeal.Facts] [hOutAbDxRefIdeal : Cert.OutAbDxRefIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg)
    (m' : (ℓ : Loc Cert.OutAbDxRefIdeal.nD Cert.OutAbDxRefIdeal.τ Cert.OutAbDxRefIdeal.sig) → Buf (Elt Ideal) ℓ) (g' : Dev Cert.OutAbDxRefIdeal.nD → PrngReg), Pre_OutAbDxIdeal m →
    (∀ c : Dev Cert.OutAbDxIdeal.nD,
      m' ((c.tc : Thread Cert.OutAbDxRefIdeal.nD Cert.OutAbDxRefIdeal.τ).loc Cert.OutAbDxRefIdeal.main_arg0) = m ((c.tc : Thread Cert.OutAbDxIdeal.nD Cert.OutAbDxIdeal.τ).loc Cert.OutAbDxIdeal.main_arg0)
      ∧ m' ((c.tc : Thread Cert.OutAbDxRefIdeal.nD Cert.OutAbDxRefIdeal.τ).loc Cert.OutAbDxRefIdeal.main_arg1) = m ((c.tc : Thread Cert.OutAbDxIdeal.nD Cert.OutAbDxIdeal.τ).loc Cert.OutAbDxIdeal.main_arg1)) →
    ∃ (v0 : (c : Dev Cert.OutAbDxIdeal.nD) → Buf (Elt Ideal) ((c.tc : Thread Cert.OutAbDxIdeal.nD Cert.OutAbDxIdeal.τ).loc Cert.OutAbDxIdeal.main_v0)),
      θ_run (Cert.OutAbDxIdeal.defs (F := Ideal)) (onTc (τ := Cert.OutAbDxIdeal.τ) (Cert.OutAbDxIdeal.main (F := Ideal))) ⟨m, fun _ => 0, g⟩ (fun r => ∀ c : Dev Cert.OutAbDxIdeal.nD,
          r.2.mem ((c.tc : Thread Cert.OutAbDxIdeal.nD Cert.OutAbDxIdeal.τ).loc Cert.OutAbDxIdeal.main_v0) = v0 c
          ∧ r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
          ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ θ_run (Cert.OutAbDxRefIdeal.defs (F := Ideal)) (onTc (τ := Cert.OutAbDxRefIdeal.τ) (Cert.OutAbDxRefIdeal.main (F := Ideal))) ⟨m', fun _ => 0, g'⟩ (fun r => ∀ c : Dev Cert.OutAbDxRefIdeal.nD,
          r.2.mem ((c.tc : Thread Cert.OutAbDxRefIdeal.nD Cert.OutAbDxRefIdeal.τ).loc Cert.OutAbDxRefIdeal.main_v3) = v0 c
          ∧ r.2.mem ((c.tc : Thread Cert.OutAbDxRefIdeal.nD Cert.OutAbDxRefIdeal.τ).loc Cert.OutAbDxRefIdeal.main_arg0) = m' ((c.tc : Thread Cert.OutAbDxRefIdeal.nD Cert.OutAbDxRefIdeal.τ).loc Cert.OutAbDxRefIdeal.main_arg0)
          ∧ r.2.mem ((c.tc : Thread Cert.OutAbDxRefIdeal.nD Cert.OutAbDxRefIdeal.τ).loc Cert.OutAbDxRefIdeal.main_arg1) = m' ((c.tc : Thread Cert.OutAbDxRefIdeal.nD Cert.OutAbDxRefIdeal.τ).loc Cert.OutAbDxRefIdeal.main_arg1))

def preserves_OutAbDw_OutAbDwIdeal : Prop :=
  True

def algebraic_OutAbDwIdeal_OutAbDwRefIdeal [hOutAbDwIdeal : Cert.OutAbDwIdeal.Facts] [hOutAbDwRefIdeal : Cert.OutAbDwRefIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg)
    (m' : (ℓ : Loc Cert.OutAbDwRefIdeal.nD Cert.OutAbDwRefIdeal.τ Cert.OutAbDwRefIdeal.sig) → Buf (Elt Ideal) ℓ) (g' : Dev Cert.OutAbDwRefIdeal.nD → PrngReg), Pre_OutAbDwIdeal m →
    (∀ c : Dev Cert.OutAbDwIdeal.nD,
      m' ((c.tc : Thread Cert.OutAbDwRefIdeal.nD Cert.OutAbDwRefIdeal.τ).loc Cert.OutAbDwRefIdeal.main_arg0) = m ((c.tc : Thread Cert.OutAbDwIdeal.nD Cert.OutAbDwIdeal.τ).loc Cert.OutAbDwIdeal.main_arg0)
      ∧ m' ((c.tc : Thread Cert.OutAbDwRefIdeal.nD Cert.OutAbDwRefIdeal.τ).loc Cert.OutAbDwRefIdeal.main_arg1) = m ((c.tc : Thread Cert.OutAbDwIdeal.nD Cert.OutAbDwIdeal.τ).loc Cert.OutAbDwIdeal.main_arg1)) →
    ∃ (v0 : (c : Dev Cert.OutAbDwIdeal.nD) → Buf (Elt Ideal) ((c.tc : Thread Cert.OutAbDwIdeal.nD Cert.OutAbDwIdeal.τ).loc Cert.OutAbDwIdeal.main_v0)),
      θ_run (Cert.OutAbDwIdeal.defs (F := Ideal)) (onTc (τ := Cert.OutAbDwIdeal.τ) (Cert.OutAbDwIdeal.main (F := Ideal))) ⟨m, fun _ => 0, g⟩ (fun r => ∀ c : Dev Cert.OutAbDwIdeal.nD,
          r.2.mem ((c.tc : Thread Cert.OutAbDwIdeal.nD Cert.OutAbDwIdeal.τ).loc Cert.OutAbDwIdeal.main_v0) = v0 c
          ∧ r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
          ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ θ_run (Cert.OutAbDwRefIdeal.defs (F := Ideal)) (onTc (τ := Cert.OutAbDwRefIdeal.τ) (Cert.OutAbDwRefIdeal.main (F := Ideal))) ⟨m', fun _ => 0, g'⟩ (fun r => ∀ c : Dev Cert.OutAbDwRefIdeal.nD,
          r.2.mem ((c.tc : Thread Cert.OutAbDwRefIdeal.nD Cert.OutAbDwRefIdeal.τ).loc Cert.OutAbDwRefIdeal.main_v4) = v0 c
          ∧ r.2.mem ((c.tc : Thread Cert.OutAbDwRefIdeal.nD Cert.OutAbDwRefIdeal.τ).loc Cert.OutAbDwRefIdeal.main_arg0) = m' ((c.tc : Thread Cert.OutAbDwRefIdeal.nD Cert.OutAbDwRefIdeal.τ).loc Cert.OutAbDwRefIdeal.main_arg0)
          ∧ r.2.mem ((c.tc : Thread Cert.OutAbDwRefIdeal.nD Cert.OutAbDwRefIdeal.τ).loc Cert.OutAbDwRefIdeal.main_arg1) = m' ((c.tc : Thread Cert.OutAbDwRefIdeal.nD Cert.OutAbDwRefIdeal.τ).loc Cert.OutAbDwRefIdeal.main_arg1))

def preserves_OutCdDx_OutCdDxIdeal : Prop :=
  True

def algebraic_OutCdDxIdeal_OutCdDxRefIdeal [hOutCdDxIdeal : Cert.OutCdDxIdeal.Facts] [hOutCdDxRefIdeal : Cert.OutCdDxRefIdeal.Facts] : Prop :=
  ∀ (m : (ℓ : Loc Cert.OutCdDxIdeal.nD Cert.OutCdDxIdeal.τ Cert.OutCdDxIdeal.sig) → Buf (Elt Ideal) ℓ) (g : Dev Cert.OutCdDxIdeal.nD → PrngReg)
    (m' : (ℓ : Loc Cert.OutCdDxRefIdeal.nD Cert.OutCdDxRefIdeal.τ Cert.OutCdDxRefIdeal.sig) → Buf (Elt Ideal) ℓ) (g' : Dev Cert.OutCdDxRefIdeal.nD → PrngReg), Pre_OutCdDxIdeal m →
    (∀ c : Dev Cert.OutCdDxIdeal.nD,
      m' ((c.tc : Thread Cert.OutCdDxRefIdeal.nD Cert.OutCdDxRefIdeal.τ).loc Cert.OutCdDxRefIdeal.main_arg0) = m ((c.tc : Thread Cert.OutCdDxIdeal.nD Cert.OutCdDxIdeal.τ).loc Cert.OutCdDxIdeal.main_arg0)
      ∧ m' ((c.tc : Thread Cert.OutCdDxRefIdeal.nD Cert.OutCdDxRefIdeal.τ).loc Cert.OutCdDxRefIdeal.main_arg1) = m ((c.tc : Thread Cert.OutCdDxIdeal.nD Cert.OutCdDxIdeal.τ).loc Cert.OutCdDxIdeal.main_arg1)) →
    ∃ (v0 : (c : Dev Cert.OutCdDxIdeal.nD) → Buf (Elt Ideal) ((c.tc : Thread Cert.OutCdDxIdeal.nD Cert.OutCdDxIdeal.τ).loc Cert.OutCdDxIdeal.main_v0)),
      θ_run (Cert.OutCdDxIdeal.defs (F := Ideal)) (onTc (τ := Cert.OutCdDxIdeal.τ) (Cert.OutCdDxIdeal.main (F := Ideal))) ⟨m, fun _ => 0, g⟩ (fun r => ∀ c : Dev Cert.OutCdDxIdeal.nD,
          r.2.mem ((c.tc : Thread Cert.OutCdDxIdeal.nD Cert.OutCdDxIdeal.τ).loc Cert.OutCdDxIdeal.main_v0) = v0 c
          ∧ r.2.mem ((c.tc : Thread Cert.OutCdDxIdeal.nD Cert.OutCdDxIdeal.τ).loc Cert.OutCdDxIdeal.main_arg0) = m ((c.tc : Thread Cert.OutCdDxIdeal.nD Cert.OutCdDxIdeal.τ).loc Cert.OutCdDxIdeal.main_arg0)
          ∧ r.2.mem ((c.tc : Thread Cert.OutCdDxIdeal.nD Cert.OutCdDxIdeal.τ).loc Cert.OutCdDxIdeal.main_arg1) = m ((c.tc : Thread Cert.OutCdDxIdeal.nD Cert.OutCdDxIdeal.τ).loc Cert.OutCdDxIdeal.main_arg1))
      ∧ θ_run (Cert.OutCdDxRefIdeal.defs (F := Ideal)) (onTc (τ := Cert.OutCdDxRefIdeal.τ) (Cert.OutCdDxRefIdeal.main (F := Ideal))) ⟨m', fun _ => 0, g'⟩ (fun r => ∀ c : Dev Cert.OutCdDxRefIdeal.nD,
          r.2.mem ((c.tc : Thread Cert.OutCdDxRefIdeal.nD Cert.OutCdDxRefIdeal.τ).loc Cert.OutCdDxRefIdeal.main_v3) = v0 c
          ∧ r.2.mem ((c.tc : Thread Cert.OutCdDxRefIdeal.nD Cert.OutCdDxRefIdeal.τ).loc Cert.OutCdDxRefIdeal.main_arg0) = m' ((c.tc : Thread Cert.OutCdDxRefIdeal.nD Cert.OutCdDxRefIdeal.τ).loc Cert.OutCdDxRefIdeal.main_arg0)
          ∧ r.2.mem ((c.tc : Thread Cert.OutCdDxRefIdeal.nD Cert.OutCdDxRefIdeal.τ).loc Cert.OutCdDxRefIdeal.main_arg1) = m' ((c.tc : Thread Cert.OutCdDxRefIdeal.nD Cert.OutCdDxRefIdeal.τ).loc Cert.OutCdDxRefIdeal.main_arg1))

def preserves_OutCdDw_OutCdDwIdeal : Prop :=
  True

def algebraic_OutCdDwIdeal_OutCdDwRefIdeal [hOutCdDwIdeal : Cert.OutCdDwIdeal.Facts] [hOutCdDwRefIdeal : Cert.OutCdDwRefIdeal.Facts] : Prop :=
  ∀ (m : (ℓ : Loc Cert.OutCdDwIdeal.nD Cert.OutCdDwIdeal.τ Cert.OutCdDwIdeal.sig) → Buf (Elt Ideal) ℓ) (g : Dev Cert.OutCdDwIdeal.nD → PrngReg)
    (m' : (ℓ : Loc Cert.OutCdDwRefIdeal.nD Cert.OutCdDwRefIdeal.τ Cert.OutCdDwRefIdeal.sig) → Buf (Elt Ideal) ℓ) (g' : Dev Cert.OutCdDwRefIdeal.nD → PrngReg), Pre_OutCdDwIdeal m →
    (∀ c : Dev Cert.OutCdDwIdeal.nD,
      m' ((c.tc : Thread Cert.OutCdDwRefIdeal.nD Cert.OutCdDwRefIdeal.τ).loc Cert.OutCdDwRefIdeal.main_arg0) = m ((c.tc : Thread Cert.OutCdDwIdeal.nD Cert.OutCdDwIdeal.τ).loc Cert.OutCdDwIdeal.main_arg0)
      ∧ m' ((c.tc : Thread Cert.OutCdDwRefIdeal.nD Cert.OutCdDwRefIdeal.τ).loc Cert.OutCdDwRefIdeal.main_arg1) = m ((c.tc : Thread Cert.OutCdDwIdeal.nD Cert.OutCdDwIdeal.τ).loc Cert.OutCdDwIdeal.main_arg1)) →
    ∃ (v0 : (c : Dev Cert.OutCdDwIdeal.nD) → Buf (Elt Ideal) ((c.tc : Thread Cert.OutCdDwIdeal.nD Cert.OutCdDwIdeal.τ).loc Cert.OutCdDwIdeal.main_v0)),
      θ_run (Cert.OutCdDwIdeal.defs (F := Ideal)) (onTc (τ := Cert.OutCdDwIdeal.τ) (Cert.OutCdDwIdeal.main (F := Ideal))) ⟨m, fun _ => 0, g⟩ (fun r => ∀ c : Dev Cert.OutCdDwIdeal.nD,
          r.2.mem ((c.tc : Thread Cert.OutCdDwIdeal.nD Cert.OutCdDwIdeal.τ).loc Cert.OutCdDwIdeal.main_v0) = v0 c
          ∧ r.2.mem ((c.tc : Thread Cert.OutCdDwIdeal.nD Cert.OutCdDwIdeal.τ).loc Cert.OutCdDwIdeal.main_arg0) = m ((c.tc : Thread Cert.OutCdDwIdeal.nD Cert.OutCdDwIdeal.τ).loc Cert.OutCdDwIdeal.main_arg0)
          ∧ r.2.mem ((c.tc : Thread Cert.OutCdDwIdeal.nD Cert.OutCdDwIdeal.τ).loc Cert.OutCdDwIdeal.main_arg1) = m ((c.tc : Thread Cert.OutCdDwIdeal.nD Cert.OutCdDwIdeal.τ).loc Cert.OutCdDwIdeal.main_arg1))
      ∧ θ_run (Cert.OutCdDwRefIdeal.defs (F := Ideal)) (onTc (τ := Cert.OutCdDwRefIdeal.τ) (Cert.OutCdDwRefIdeal.main (F := Ideal))) ⟨m', fun _ => 0, g'⟩ (fun r => ∀ c : Dev Cert.OutCdDwRefIdeal.nD,
          r.2.mem ((c.tc : Thread Cert.OutCdDwRefIdeal.nD Cert.OutCdDwRefIdeal.τ).loc Cert.OutCdDwRefIdeal.main_v4) = v0 c
          ∧ r.2.mem ((c.tc : Thread Cert.OutCdDwRefIdeal.nD Cert.OutCdDwRefIdeal.τ).loc Cert.OutCdDwRefIdeal.main_arg0) = m' ((c.tc : Thread Cert.OutCdDwRefIdeal.nD Cert.OutCdDwRefIdeal.τ).loc Cert.OutCdDwRefIdeal.main_arg0)
          ∧ r.2.mem ((c.tc : Thread Cert.OutCdDwRefIdeal.nD Cert.OutCdDwRefIdeal.τ).loc Cert.OutCdDwRefIdeal.main_arg1) = m' ((c.tc : Thread Cert.OutCdDwRefIdeal.nD Cert.OutCdDwRefIdeal.τ).loc Cert.OutCdDwRefIdeal.main_arg1))

def preserves_XoDx_XoDxIdeal : Prop :=
  True

def algebraic_XoDxIdeal_XoDxRefIdeal [hXoDxIdeal : Cert.XoDxIdeal.Facts] [hXoDxRefIdeal : Cert.XoDxRefIdeal.Facts] : Prop :=
  ∀ (m : (ℓ : Loc Cert.XoDxIdeal.nD Cert.XoDxIdeal.τ Cert.XoDxIdeal.sig) → Buf (Elt Ideal) ℓ) (g : Dev Cert.XoDxIdeal.nD → PrngReg)
    (m' : (ℓ : Loc Cert.XoDxRefIdeal.nD Cert.XoDxRefIdeal.τ Cert.XoDxRefIdeal.sig) → Buf (Elt Ideal) ℓ) (g' : Dev Cert.XoDxRefIdeal.nD → PrngReg), Pre_XoDxIdeal m →
    (∀ c : Dev Cert.XoDxIdeal.nD,
      m' ((c.tc : Thread Cert.XoDxRefIdeal.nD Cert.XoDxRefIdeal.τ).loc Cert.XoDxRefIdeal.main_arg0) = m ((c.tc : Thread Cert.XoDxIdeal.nD Cert.XoDxIdeal.τ).loc Cert.XoDxIdeal.main_arg0)
      ∧ m' ((c.tc : Thread Cert.XoDxRefIdeal.nD Cert.XoDxRefIdeal.τ).loc Cert.XoDxRefIdeal.main_arg1) = m ((c.tc : Thread Cert.XoDxIdeal.nD Cert.XoDxIdeal.τ).loc Cert.XoDxIdeal.main_arg1)) →
    ∃ (v0 : (c : Dev Cert.XoDxIdeal.nD) → Buf (Elt Ideal) ((c.tc : Thread Cert.XoDxIdeal.nD Cert.XoDxIdeal.τ).loc Cert.XoDxIdeal.main_v0)),
      θ_run (Cert.XoDxIdeal.defs (F := Ideal)) (onTc (τ := Cert.XoDxIdeal.τ) (Cert.XoDxIdeal.main (F := Ideal))) ⟨m, fun _ => 0, g⟩ (fun r => ∀ c : Dev Cert.XoDxIdeal.nD,
          r.2.mem ((c.tc : Thread Cert.XoDxIdeal.nD Cert.XoDxIdeal.τ).loc Cert.XoDxIdeal.main_v0) = v0 c
          ∧ r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
          ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ θ_run (Cert.XoDxRefIdeal.defs (F := Ideal)) (onTc (τ := Cert.XoDxRefIdeal.τ) (Cert.XoDxRefIdeal.main (F := Ideal))) ⟨m', fun _ => 0, g'⟩ (fun r => ∀ c : Dev Cert.XoDxRefIdeal.nD,
          r.2.mem ((c.tc : Thread Cert.XoDxRefIdeal.nD Cert.XoDxRefIdeal.τ).loc Cert.XoDxRefIdeal.main_v4) = v0 c
          ∧ r.2.mem ((c.tc : Thread Cert.XoDxRefIdeal.nD Cert.XoDxRefIdeal.τ).loc Cert.XoDxRefIdeal.main_arg0) = m' ((c.tc : Thread Cert.XoDxRefIdeal.nD Cert.XoDxRefIdeal.τ).loc Cert.XoDxRefIdeal.main_arg0)
          ∧ r.2.mem ((c.tc : Thread Cert.XoDxRefIdeal.nD Cert.XoDxRefIdeal.τ).loc Cert.XoDxRefIdeal.main_arg1) = m' ((c.tc : Thread Cert.XoDxRefIdeal.nD Cert.XoDxRefIdeal.τ).loc Cert.XoDxRefIdeal.main_arg1))

def preserves_XoDw_XoDwIdeal : Prop :=
  True

def algebraic_XoDwIdeal_XoDwRefIdeal [hXoDwIdeal : Cert.XoDwIdeal.Facts] [hXoDwRefIdeal : Cert.XoDwRefIdeal.Facts] : Prop :=
  ∀ (m : (ℓ : Loc Cert.XoDwIdeal.nD Cert.XoDwIdeal.τ Cert.XoDwIdeal.sig) → Buf (Elt Ideal) ℓ) (g : Dev Cert.XoDwIdeal.nD → PrngReg)
    (m' : (ℓ : Loc Cert.XoDwRefIdeal.nD Cert.XoDwRefIdeal.τ Cert.XoDwRefIdeal.sig) → Buf (Elt Ideal) ℓ) (g' : Dev Cert.XoDwRefIdeal.nD → PrngReg), Pre_XoDwIdeal m →
    (∀ c : Dev Cert.XoDwIdeal.nD,
      m' ((c.tc : Thread Cert.XoDwRefIdeal.nD Cert.XoDwRefIdeal.τ).loc Cert.XoDwRefIdeal.main_arg0) = m ((c.tc : Thread Cert.XoDwIdeal.nD Cert.XoDwIdeal.τ).loc Cert.XoDwIdeal.main_arg0)
      ∧ m' ((c.tc : Thread Cert.XoDwRefIdeal.nD Cert.XoDwRefIdeal.τ).loc Cert.XoDwRefIdeal.main_arg1) = m ((c.tc : Thread Cert.XoDwIdeal.nD Cert.XoDwIdeal.τ).loc Cert.XoDwIdeal.main_arg1)) →
    ∃ (v0 : (c : Dev Cert.XoDwIdeal.nD) → Buf (Elt Ideal) ((c.tc : Thread Cert.XoDwIdeal.nD Cert.XoDwIdeal.τ).loc Cert.XoDwIdeal.main_v0)),
      θ_run (Cert.XoDwIdeal.defs (F := Ideal)) (onTc (τ := Cert.XoDwIdeal.τ) (Cert.XoDwIdeal.main (F := Ideal))) ⟨m, fun _ => 0, g⟩ (fun r => ∀ c : Dev Cert.XoDwIdeal.nD,
          r.2.mem ((c.tc : Thread Cert.XoDwIdeal.nD Cert.XoDwIdeal.τ).loc Cert.XoDwIdeal.main_v0) = v0 c
          ∧ r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
          ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ θ_run (Cert.XoDwRefIdeal.defs (F := Ideal)) (onTc (τ := Cert.XoDwRefIdeal.τ) (Cert.XoDwRefIdeal.main (F := Ideal))) ⟨m', fun _ => 0, g'⟩ (fun r => ∀ c : Dev Cert.XoDwRefIdeal.nD,
          r.2.mem ((c.tc : Thread Cert.XoDwRefIdeal.nD Cert.XoDwRefIdeal.τ).loc Cert.XoDwRefIdeal.main_v4) = v0 c
          ∧ r.2.mem ((c.tc : Thread Cert.XoDwRefIdeal.nD Cert.XoDwRefIdeal.τ).loc Cert.XoDwRefIdeal.main_arg0) = m' ((c.tc : Thread Cert.XoDwRefIdeal.nD Cert.XoDwRefIdeal.τ).loc Cert.XoDwRefIdeal.main_arg0)
          ∧ r.2.mem ((c.tc : Thread Cert.XoDwRefIdeal.nD Cert.XoDwRefIdeal.τ).loc Cert.XoDwRefIdeal.main_arg1) = m' ((c.tc : Thread Cert.XoDwRefIdeal.nD Cert.XoDwRefIdeal.τ).loc Cert.XoDwRefIdeal.main_arg1))

def preserves_XqDx_XqDxIdeal : Prop :=
  True

def algebraic_XqDxIdeal_XqDxRefIdeal [hXqDxIdeal : Cert.XqDxIdeal.Facts] [hXqDxRefIdeal : Cert.XqDxRefIdeal.Facts] : Prop :=
  ∀ (m : (ℓ : Loc Cert.XqDxIdeal.nD Cert.XqDxIdeal.τ Cert.XqDxIdeal.sig) → Buf (Elt Ideal) ℓ) (g : Dev Cert.XqDxIdeal.nD → PrngReg)
    (m' : (ℓ : Loc Cert.XqDxRefIdeal.nD Cert.XqDxRefIdeal.τ Cert.XqDxRefIdeal.sig) → Buf (Elt Ideal) ℓ) (g' : Dev Cert.XqDxRefIdeal.nD → PrngReg), Pre_XqDxIdeal m →
    (∀ c : Dev Cert.XqDxIdeal.nD,
      m' ((c.tc : Thread Cert.XqDxRefIdeal.nD Cert.XqDxRefIdeal.τ).loc Cert.XqDxRefIdeal.main_arg0) = m ((c.tc : Thread Cert.XqDxIdeal.nD Cert.XqDxIdeal.τ).loc Cert.XqDxIdeal.main_arg0)
      ∧ m' ((c.tc : Thread Cert.XqDxRefIdeal.nD Cert.XqDxRefIdeal.τ).loc Cert.XqDxRefIdeal.main_arg1) = m ((c.tc : Thread Cert.XqDxIdeal.nD Cert.XqDxIdeal.τ).loc Cert.XqDxIdeal.main_arg1)) →
    ∃ (v0 : (c : Dev Cert.XqDxIdeal.nD) → Buf (Elt Ideal) ((c.tc : Thread Cert.XqDxIdeal.nD Cert.XqDxIdeal.τ).loc Cert.XqDxIdeal.main_v0)),
      θ_run (Cert.XqDxIdeal.defs (F := Ideal)) (onTc (τ := Cert.XqDxIdeal.τ) (Cert.XqDxIdeal.main (F := Ideal))) ⟨m, fun _ => 0, g⟩ (fun r => ∀ c : Dev Cert.XqDxIdeal.nD,
          r.2.mem ((c.tc : Thread Cert.XqDxIdeal.nD Cert.XqDxIdeal.τ).loc Cert.XqDxIdeal.main_v0) = v0 c
          ∧ r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
          ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ θ_run (Cert.XqDxRefIdeal.defs (F := Ideal)) (onTc (τ := Cert.XqDxRefIdeal.τ) (Cert.XqDxRefIdeal.main (F := Ideal))) ⟨m', fun _ => 0, g'⟩ (fun r => ∀ c : Dev Cert.XqDxRefIdeal.nD,
          r.2.mem ((c.tc : Thread Cert.XqDxRefIdeal.nD Cert.XqDxRefIdeal.τ).loc Cert.XqDxRefIdeal.main_v4) = v0 c
          ∧ r.2.mem ((c.tc : Thread Cert.XqDxRefIdeal.nD Cert.XqDxRefIdeal.τ).loc Cert.XqDxRefIdeal.main_arg0) = m' ((c.tc : Thread Cert.XqDxRefIdeal.nD Cert.XqDxRefIdeal.τ).loc Cert.XqDxRefIdeal.main_arg0)
          ∧ r.2.mem ((c.tc : Thread Cert.XqDxRefIdeal.nD Cert.XqDxRefIdeal.τ).loc Cert.XqDxRefIdeal.main_arg1) = m' ((c.tc : Thread Cert.XqDxRefIdeal.nD Cert.XqDxRefIdeal.τ).loc Cert.XqDxRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v5) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_XkvDx_XkvDxIdeal : Prop :=
  True

def algebraic_XkvDxIdeal_XkvDxRefIdeal [hXkvDxIdeal : Cert.XkvDxIdeal.Facts] [hXkvDxRefIdeal : Cert.XkvDxRefIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg)
    (m' : (ℓ : Loc Cert.XkvDxRefIdeal.nD Cert.XkvDxRefIdeal.τ Cert.XkvDxRefIdeal.sig) → Buf (Elt Ideal) ℓ) (g' : Dev Cert.XkvDxRefIdeal.nD → PrngReg), Pre_XkvDxIdeal m →
    (∀ c : Dev Cert.XkvDxIdeal.nD,
      m' ((c.tc : Thread Cert.XkvDxRefIdeal.nD Cert.XkvDxRefIdeal.τ).loc Cert.XkvDxRefIdeal.main_arg0) = m ((c.tc : Thread Cert.XkvDxIdeal.nD Cert.XkvDxIdeal.τ).loc Cert.XkvDxIdeal.main_arg0)
      ∧ m' ((c.tc : Thread Cert.XkvDxRefIdeal.nD Cert.XkvDxRefIdeal.τ).loc Cert.XkvDxRefIdeal.main_arg1) = m ((c.tc : Thread Cert.XkvDxIdeal.nD Cert.XkvDxIdeal.τ).loc Cert.XkvDxIdeal.main_arg1)
      ∧ m' ((c.tc : Thread Cert.XkvDxRefIdeal.nD Cert.XkvDxRefIdeal.τ).loc Cert.XkvDxRefIdeal.main_arg2) = m ((c.tc : Thread Cert.XkvDxIdeal.nD Cert.XkvDxIdeal.τ).loc Cert.XkvDxIdeal.main_arg2)) →
    ∃ (v0 : (c : Dev Cert.XkvDxIdeal.nD) → Buf (Elt Ideal) ((c.tc : Thread Cert.XkvDxIdeal.nD Cert.XkvDxIdeal.τ).loc Cert.XkvDxIdeal.main_v0)),
      θ_run (Cert.XkvDxIdeal.defs (F := Ideal)) (onTc (τ := Cert.XkvDxIdeal.τ) (Cert.XkvDxIdeal.main (F := Ideal))) ⟨m, fun _ => 0, g⟩ (fun r => ∀ c : Dev Cert.XkvDxIdeal.nD,
          r.2.mem ((c.tc : Thread Cert.XkvDxIdeal.nD Cert.XkvDxIdeal.τ).loc Cert.XkvDxIdeal.main_v0) = v0 c
          ∧ r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
          ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1)
          ∧ r.2.mem ((c.tc : Thread Cert.XkvDxIdeal.nD Cert.XkvDxIdeal.τ).loc Cert.XkvDxIdeal.main_arg2) = m ((c.tc : Thread Cert.XkvDxIdeal.nD Cert.XkvDxIdeal.τ).loc Cert.XkvDxIdeal.main_arg2))
      ∧ θ_run (Cert.XkvDxRefIdeal.defs (F := Ideal)) (onTc (τ := Cert.XkvDxRefIdeal.τ) (Cert.XkvDxRefIdeal.main (F := Ideal))) ⟨m', fun _ => 0, g'⟩ (fun r => ∀ c : Dev Cert.XkvDxRefIdeal.nD,
          r.2.mem ((c.tc : Thread Cert.XkvDxRefIdeal.nD Cert.XkvDxRefIdeal.τ).loc Cert.XkvDxRefIdeal.main_v6) = v0 c
          ∧ r.2.mem ((c.tc : Thread Cert.XkvDxRefIdeal.nD Cert.XkvDxRefIdeal.τ).loc Cert.XkvDxRefIdeal.main_arg0) = m' ((c.tc : Thread Cert.XkvDxRefIdeal.nD Cert.XkvDxRefIdeal.τ).loc Cert.XkvDxRefIdeal.main_arg0)
          ∧ r.2.mem ((c.tc : Thread Cert.XkvDxRefIdeal.nD Cert.XkvDxRefIdeal.τ).loc Cert.XkvDxRefIdeal.main_arg1) = m' ((c.tc : Thread Cert.XkvDxRefIdeal.nD Cert.XkvDxRefIdeal.τ).loc Cert.XkvDxRefIdeal.main_arg1)
          ∧ r.2.mem ((c.tc : Thread Cert.XkvDxRefIdeal.nD Cert.XkvDxRefIdeal.τ).loc Cert.XkvDxRefIdeal.main_arg2) = m' ((c.tc : Thread Cert.XkvDxRefIdeal.nD Cert.XkvDxRefIdeal.τ).loc Cert.XkvDxRefIdeal.main_arg2))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v6) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v4) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v0)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v0) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v4) = v0 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)) →
    ∃ (v0 : (c : Dev Cert.OutAbIdeal.nD) → Buf (Elt Ideal) ((c.tc : Thread Cert.OutAbIdeal.nD Cert.OutAbIdeal.τ).loc Cert.OutAbIdeal.main_v0)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v0) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v3) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2))

def preserves_InCd_InCdIdeal : Prop :=
  True

def algebraic_InCdIdeal_InCdRefIdeal [hInCdIdeal : Cert.InCdIdeal.Facts] [hInCdRefIdeal : Cert.InCdRefIdeal.Facts] : Prop :=
  ∀ (m : (ℓ : Loc Cert.InCdIdeal.nD Cert.InCdIdeal.τ Cert.InCdIdeal.sig) → Buf (Elt Ideal) ℓ) (g : Dev Cert.InCdIdeal.nD → PrngReg)
    (m' : (ℓ : Loc Cert.InCdRefIdeal.nD Cert.InCdRefIdeal.τ Cert.InCdRefIdeal.sig) → Buf (Elt Ideal) ℓ) (g' : Dev Cert.InCdRefIdeal.nD → PrngReg), Pre_InCdIdeal m →
    (∀ c : Dev Cert.InCdIdeal.nD,
      m' ((c.tc : Thread Cert.InCdRefIdeal.nD Cert.InCdRefIdeal.τ).loc Cert.InCdRefIdeal.main_arg0) = m ((c.tc : Thread Cert.InCdIdeal.nD Cert.InCdIdeal.τ).loc Cert.InCdIdeal.main_arg0)
      ∧ m' ((c.tc : Thread Cert.InCdRefIdeal.nD Cert.InCdRefIdeal.τ).loc Cert.InCdRefIdeal.main_arg1) = m ((c.tc : Thread Cert.InCdIdeal.nD Cert.InCdIdeal.τ).loc Cert.InCdIdeal.main_arg1)) →
    ∃ (v0 : (c : Dev Cert.InCdIdeal.nD) → Buf (Elt Ideal) ((c.tc : Thread Cert.InCdIdeal.nD Cert.InCdIdeal.τ).loc Cert.InCdIdeal.main_v0)),
      θ_run (Cert.InCdIdeal.defs (F := Ideal)) (onTc (τ := Cert.InCdIdeal.τ) (Cert.InCdIdeal.main (F := Ideal))) ⟨m, fun _ => 0, g⟩ (fun r => ∀ c : Dev Cert.InCdIdeal.nD,
          r.2.mem ((c.tc : Thread Cert.InCdIdeal.nD Cert.InCdIdeal.τ).loc Cert.InCdIdeal.main_v0) = v0 c
          ∧ r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
          ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1))
      ∧ θ_run (Cert.InCdRefIdeal.defs (F := Ideal)) (onTc (τ := Cert.InCdRefIdeal.τ) (Cert.InCdRefIdeal.main (F := Ideal))) ⟨m', fun _ => 0, g'⟩ (fun r => ∀ c : Dev Cert.InCdRefIdeal.nD,
          r.2.mem ((c.tc : Thread Cert.InCdRefIdeal.nD Cert.InCdRefIdeal.τ).loc Cert.InCdRefIdeal.main_v4) = v0 c
          ∧ r.2.mem ((c.tc : Thread Cert.InCdRefIdeal.nD Cert.InCdRefIdeal.τ).loc Cert.InCdRefIdeal.main_arg0) = m' ((c.tc : Thread Cert.InCdRefIdeal.nD Cert.InCdRefIdeal.τ).loc Cert.InCdRefIdeal.main_arg0)
          ∧ r.2.mem ((c.tc : Thread Cert.InCdRefIdeal.nD Cert.InCdRefIdeal.τ).loc Cert.InCdRefIdeal.main_arg1) = m' ((c.tc : Thread Cert.InCdRefIdeal.nD Cert.InCdRefIdeal.τ).loc Cert.InCdRefIdeal.main_arg1))

def preserves_OutCd_OutCdIdeal : Prop :=
  True

def algebraic_OutCdIdeal_OutCdRefIdeal [hOutCdIdeal : Cert.OutCdIdeal.Facts] [hOutCdRefIdeal : Cert.OutCdRefIdeal.Facts] : Prop :=
  ∀ (m : (ℓ : Loc Cert.OutCdIdeal.nD Cert.OutCdIdeal.τ Cert.OutCdIdeal.sig) → Buf (Elt Ideal) ℓ) (g : Dev Cert.OutCdIdeal.nD → PrngReg)
    (m' : (ℓ : Loc Cert.OutCdRefIdeal.nD Cert.OutCdRefIdeal.τ Cert.OutCdRefIdeal.sig) → Buf (Elt Ideal) ℓ) (g' : Dev Cert.OutCdRefIdeal.nD → PrngReg), Pre_OutCdIdeal m →
    (∀ c : Dev Cert.OutCdIdeal.nD,
      m' ((c.tc : Thread Cert.OutCdRefIdeal.nD Cert.OutCdRefIdeal.τ).loc Cert.OutCdRefIdeal.main_arg0) = m ((c.tc : Thread Cert.OutCdIdeal.nD Cert.OutCdIdeal.τ).loc Cert.OutCdIdeal.main_arg0)
      ∧ m' ((c.tc : Thread Cert.OutCdRefIdeal.nD Cert.OutCdRefIdeal.τ).loc Cert.OutCdRefIdeal.main_arg1) = m ((c.tc : Thread Cert.OutCdIdeal.nD Cert.OutCdIdeal.τ).loc Cert.OutCdIdeal.main_arg1)
      ∧ m' ((c.tc : Thread Cert.OutCdRefIdeal.nD Cert.OutCdRefIdeal.τ).loc Cert.OutCdRefIdeal.main_arg2) = m ((c.tc : Thread Cert.OutCdIdeal.nD Cert.OutCdIdeal.τ).loc Cert.OutCdIdeal.main_arg2)) →
    ∃ (v0 : (c : Dev Cert.OutCdIdeal.nD) → Buf (Elt Ideal) ((c.tc : Thread Cert.OutCdIdeal.nD Cert.OutCdIdeal.τ).loc Cert.OutCdIdeal.main_v0)),
      θ_run (Cert.OutCdIdeal.defs (F := Ideal)) (onTc (τ := Cert.OutCdIdeal.τ) (Cert.OutCdIdeal.main (F := Ideal))) ⟨m, fun _ => 0, g⟩ (fun r => ∀ c : Dev Cert.OutCdIdeal.nD,
          r.2.mem ((c.tc : Thread Cert.OutCdIdeal.nD Cert.OutCdIdeal.τ).loc Cert.OutCdIdeal.main_v0) = v0 c
          ∧ r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
          ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
          ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ θ_run (Cert.OutCdRefIdeal.defs (F := Ideal)) (onTc (τ := Cert.OutCdRefIdeal.τ) (Cert.OutCdRefIdeal.main (F := Ideal))) ⟨m', fun _ => 0, g'⟩ (fun r => ∀ c : Dev Cert.OutCdRefIdeal.nD,
          r.2.mem ((c.tc : Thread Cert.OutCdRefIdeal.nD Cert.OutCdRefIdeal.τ).loc Cert.OutCdRefIdeal.main_v3) = v0 c
          ∧ r.2.mem ((c.tc : Thread Cert.OutCdRefIdeal.nD Cert.OutCdRefIdeal.τ).loc Cert.OutCdRefIdeal.main_arg0) = m' ((c.tc : Thread Cert.OutCdRefIdeal.nD Cert.OutCdRefIdeal.τ).loc Cert.OutCdRefIdeal.main_arg0)
          ∧ r.2.mem ((c.tc : Thread Cert.OutCdRefIdeal.nD Cert.OutCdRefIdeal.τ).loc Cert.OutCdRefIdeal.main_arg1) = m' ((c.tc : Thread Cert.OutCdRefIdeal.nD Cert.OutCdRefIdeal.τ).loc Cert.OutCdRefIdeal.main_arg1)
          ∧ r.2.mem ((c.tc : Thread Cert.OutCdRefIdeal.nD Cert.OutCdRefIdeal.τ).loc Cert.OutCdRefIdeal.main_arg2) = m' ((c.tc : Thread Cert.OutCdRefIdeal.nD Cert.OutCdRefIdeal.τ).loc Cert.OutCdRefIdeal.main_arg2))

def preserves_GluT_GluTIdeal : Prop :=
  True

def algebraic_GluTIdeal_GluTRefIdeal [hGluTIdeal : Cert.GluTIdeal.Facts] [hGluTRefIdeal : Cert.GluTRefIdeal.Facts] : Prop :=
  ∀ (m : (ℓ : Loc Cert.GluTIdeal.nD Cert.GluTIdeal.τ Cert.GluTIdeal.sig) → Buf (Elt Ideal) ℓ) (g : Dev Cert.GluTIdeal.nD → PrngReg)
    (m' : (ℓ : Loc Cert.GluTRefIdeal.nD Cert.GluTRefIdeal.τ Cert.GluTRefIdeal.sig) → Buf (Elt Ideal) ℓ) (g' : Dev Cert.GluTRefIdeal.nD → PrngReg), Pre_GluTIdeal m →
    (∀ c : Dev Cert.GluTIdeal.nD,
      m' ((c.tc : Thread Cert.GluTRefIdeal.nD Cert.GluTRefIdeal.τ).loc Cert.GluTRefIdeal.main_arg0) = m ((c.tc : Thread Cert.GluTIdeal.nD Cert.GluTIdeal.τ).loc Cert.GluTIdeal.main_arg0)
      ∧ m' ((c.tc : Thread Cert.GluTRefIdeal.nD Cert.GluTRefIdeal.τ).loc Cert.GluTRefIdeal.main_arg1) = m ((c.tc : Thread Cert.GluTIdeal.nD Cert.GluTIdeal.τ).loc Cert.GluTIdeal.main_arg1)) →
    ∃ (v0 : (c : Dev Cert.GluTIdeal.nD) → Buf (Elt Ideal) ((c.tc : Thread Cert.GluTIdeal.nD Cert.GluTIdeal.τ).loc Cert.GluTIdeal.main_v0)),
      θ_run (Cert.GluTIdeal.defs (F := Ideal)) (onTc (τ := Cert.GluTIdeal.τ) (Cert.GluTIdeal.main (F := Ideal))) ⟨m, fun _ => 0, g⟩ (fun r => ∀ c : Dev Cert.GluTIdeal.nD,
          r.2.mem ((c.tc : Thread Cert.GluTIdeal.nD Cert.GluTIdeal.τ).loc Cert.GluTIdeal.main_v0) = v0 c
          ∧ r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
          ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1))
      ∧ θ_run (Cert.GluTRefIdeal.defs (F := Ideal)) (onTc (τ := Cert.GluTRefIdeal.τ) (Cert.GluTRefIdeal.main (F := Ideal))) ⟨m', fun _ => 0, g'⟩ (fun r => ∀ c : Dev Cert.GluTRefIdeal.nD,
          r.2.mem ((c.tc : Thread Cert.GluTRefIdeal.nD Cert.GluTRefIdeal.τ).loc Cert.GluTRefIdeal.main_v2) = v0 c
          ∧ r.2.mem ((c.tc : Thread Cert.GluTRefIdeal.nD Cert.GluTRefIdeal.τ).loc Cert.GluTRefIdeal.main_arg0) = m' ((c.tc : Thread Cert.GluTRefIdeal.nD Cert.GluTRefIdeal.τ).loc Cert.GluTRefIdeal.main_arg0)
          ∧ r.2.mem ((c.tc : Thread Cert.GluTRefIdeal.nD Cert.GluTRefIdeal.τ).loc Cert.GluTRefIdeal.main_arg1) = m' ((c.tc : Thread Cert.GluTRefIdeal.nD Cert.GluTRefIdeal.τ).loc Cert.GluTRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v5) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v3) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v25) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_XkvDxTop_XkvDxTopIdeal : Prop :=
  True

def algebraic_XkvDxTopIdeal_XkvDxTopRefIdeal [hXkvDxTopIdeal : Cert.XkvDxTopIdeal.Facts] [hXkvDxTopRefIdeal : Cert.XkvDxTopRefIdeal.Facts] : Prop :=
  ∀ (m : (ℓ : Loc Cert.XkvDxTopIdeal.nD Cert.XkvDxTopIdeal.τ Cert.XkvDxTopIdeal.sig) → Buf (Elt Ideal) ℓ) (g : Dev Cert.XkvDxTopIdeal.nD → PrngReg)
    (m' : (ℓ : Loc Cert.XkvDxTopRefIdeal.nD Cert.XkvDxTopRefIdeal.τ Cert.XkvDxTopRefIdeal.sig) → Buf (Elt Ideal) ℓ) (g' : Dev Cert.XkvDxTopRefIdeal.nD → PrngReg), Pre_XkvDxTopIdeal m →
    (∀ c : Dev Cert.XkvDxTopIdeal.nD,
      m' ((c.tc : Thread Cert.XkvDxTopRefIdeal.nD Cert.XkvDxTopRefIdeal.τ).loc Cert.XkvDxTopRefIdeal.main_arg0) = m ((c.tc : Thread Cert.XkvDxTopIdeal.nD Cert.XkvDxTopIdeal.τ).loc Cert.XkvDxTopIdeal.main_arg0)
      ∧ m' ((c.tc : Thread Cert.XkvDxTopRefIdeal.nD Cert.XkvDxTopRefIdeal.τ).loc Cert.XkvDxTopRefIdeal.main_arg1) = m ((c.tc : Thread Cert.XkvDxTopIdeal.nD Cert.XkvDxTopIdeal.τ).loc Cert.XkvDxTopIdeal.main_arg1)) →
    ∃ (v0 : (c : Dev Cert.XkvDxTopIdeal.nD) → Buf (Elt Ideal) ((c.tc : Thread Cert.XkvDxTopIdeal.nD Cert.XkvDxTopIdeal.τ).loc Cert.XkvDxTopIdeal.main_v0)),
      θ_run (Cert.XkvDxTopIdeal.defs (F := Ideal)) (onTc (τ := Cert.XkvDxTopIdeal.τ) (Cert.XkvDxTopIdeal.main (F := Ideal))) ⟨m, fun _ => 0, g⟩ (fun r => ∀ c : Dev Cert.XkvDxTopIdeal.nD,
          r.2.mem ((c.tc : Thread Cert.XkvDxTopIdeal.nD Cert.XkvDxTopIdeal.τ).loc Cert.XkvDxTopIdeal.main_v0) = v0 c
          ∧ r.2.mem ((c.tc : Thread Cert.XkvDxTopIdeal.nD Cert.XkvDxTopIdeal.τ).loc Cert.XkvDxTopIdeal.main_arg0) = m ((c.tc : Thread Cert.XkvDxTopIdeal.nD Cert.XkvDxTopIdeal.τ).loc Cert.XkvDxTopIdeal.main_arg0)
          ∧ r.2.mem ((c.tc : Thread Cert.XkvDxTopIdeal.nD Cert.XkvDxTopIdeal.τ).loc Cert.XkvDxTopIdeal.main_arg1) = m ((c.tc : Thread Cert.XkvDxTopIdeal.nD Cert.XkvDxTopIdeal.τ).loc Cert.XkvDxTopIdeal.main_arg1))
      ∧ θ_run (Cert.XkvDxTopRefIdeal.defs (F := Ideal)) (onTc (τ := Cert.XkvDxTopRefIdeal.τ) (Cert.XkvDxTopRefIdeal.main (F := Ideal))) ⟨m', fun _ => 0, g'⟩ (fun r => ∀ c : Dev Cert.XkvDxTopRefIdeal.nD,
          r.2.mem ((c.tc : Thread Cert.XkvDxTopRefIdeal.nD Cert.XkvDxTopRefIdeal.τ).loc Cert.XkvDxTopRefIdeal.main_v5) = v0 c
          ∧ r.2.mem ((c.tc : Thread Cert.XkvDxTopRefIdeal.nD Cert.XkvDxTopRefIdeal.τ).loc Cert.XkvDxTopRefIdeal.main_arg0) = m' ((c.tc : Thread Cert.XkvDxTopRefIdeal.nD Cert.XkvDxTopRefIdeal.τ).loc Cert.XkvDxTopRefIdeal.main_arg0)
          ∧ r.2.mem ((c.tc : Thread Cert.XkvDxTopRefIdeal.nD Cert.XkvDxTopRefIdeal.τ).loc Cert.XkvDxTopRefIdeal.main_arg1) = m' ((c.tc : Thread Cert.XkvDxTopRefIdeal.nD Cert.XkvDxTopRefIdeal.τ).loc Cert.XkvDxTopRefIdeal.main_arg1))

def preserves_AdamInAb_AdamInAbIdeal : Prop :=
  True

def algebraic_AdamInAbIdeal_AdamInAbRefIdeal [hAdamInAbIdeal : Cert.AdamInAbIdeal.Facts] [hAdamInAbRefIdeal : Cert.AdamInAbRefIdeal.Facts] : Prop :=
  ∀ (m : (ℓ : Loc Cert.AdamInAbIdeal.nD Cert.AdamInAbIdeal.τ Cert.AdamInAbIdeal.sig) → Buf (Elt Ideal) ℓ) (g : Dev Cert.AdamInAbIdeal.nD → PrngReg)
    (m' : (ℓ : Loc Cert.AdamInAbRefIdeal.nD Cert.AdamInAbRefIdeal.τ Cert.AdamInAbRefIdeal.sig) → Buf (Elt Ideal) ℓ) (g' : Dev Cert.AdamInAbRefIdeal.nD → PrngReg), Pre_AdamInAbIdeal m →
    (∀ c : Dev Cert.AdamInAbIdeal.nD,
      m' ((c.tc : Thread Cert.AdamInAbRefIdeal.nD Cert.AdamInAbRefIdeal.τ).loc Cert.AdamInAbRefIdeal.main_arg0) = m ((c.tc : Thread Cert.AdamInAbIdeal.nD Cert.AdamInAbIdeal.τ).loc Cert.AdamInAbIdeal.main_arg0)
      ∧ m' ((c.tc : Thread Cert.AdamInAbRefIdeal.nD Cert.AdamInAbRefIdeal.τ).loc Cert.AdamInAbRefIdeal.main_arg1) = m ((c.tc : Thread Cert.AdamInAbIdeal.nD Cert.AdamInAbIdeal.τ).loc Cert.AdamInAbIdeal.main_arg1)
      ∧ m' ((c.tc : Thread Cert.AdamInAbRefIdeal.nD Cert.AdamInAbRefIdeal.τ).loc Cert.AdamInAbRefIdeal.main_arg2) = m ((c.tc : Thread Cert.AdamInAbIdeal.nD Cert.AdamInAbIdeal.τ).loc Cert.AdamInAbIdeal.main_arg2)
      ∧ m' ((c.tc : Thread Cert.AdamInAbRefIdeal.nD Cert.AdamInAbRefIdeal.τ).loc Cert.AdamInAbRefIdeal.main_arg3) = m ((c.tc : Thread Cert.AdamInAbIdeal.nD Cert.AdamInAbIdeal.τ).loc Cert.AdamInAbIdeal.main_arg3)) →
    ∃ (v0 : (c : Dev Cert.AdamInAbIdeal.nD) → Buf (Elt Ideal) ((c.tc : Thread Cert.AdamInAbIdeal.nD Cert.AdamInAbIdeal.τ).loc Cert.AdamInAbIdeal.main_v4_0)) (v1 : (c : Dev Cert.AdamInAbIdeal.nD) → Buf (Elt Ideal) ((c.tc : Thread Cert.AdamInAbIdeal.nD Cert.AdamInAbIdeal.τ).loc Cert.AdamInAbIdeal.main_v4_1)) (v2 : (c : Dev Cert.AdamInAbIdeal.nD) → Buf (Elt Ideal) ((c.tc : Thread Cert.AdamInAbIdeal.nD Cert.AdamInAbIdeal.τ).loc Cert.AdamInAbIdeal.main_v4_2)) (v3 : (c : Dev Cert.AdamInAbIdeal.nD) → Buf (Elt Ideal) ((c.tc : Thread Cert.AdamInAbIdeal.nD Cert.AdamInAbIdeal.τ).loc Cert.AdamInAbIdeal.main_v4_3)),
      θ_run (Cert.AdamInAbIdeal.defs (F := Ideal)) (onTc (τ := Cert.AdamInAbIdeal.τ) (Cert.AdamInAbIdeal.main (F := Ideal))) ⟨m, fun _ => 0, g⟩ (fun r => ∀ c : Dev Cert.AdamInAbIdeal.nD,
          r.2.mem ((c.tc : Thread Cert.AdamInAbIdeal.nD Cert.AdamInAbIdeal.τ).loc Cert.AdamInAbIdeal.main_v4_0) = v0 c
          ∧ r.2.mem ((c.tc : Thread Cert.AdamInAbIdeal.nD Cert.AdamInAbIdeal.τ).loc Cert.AdamInAbIdeal.main_v4_1) = v1 c
          ∧ r.2.mem ((c.tc : Thread Cert.AdamInAbIdeal.nD Cert.AdamInAbIdeal.τ).loc Cert.AdamInAbIdeal.main_v4_2) = v2 c
          ∧ r.2.mem ((c.tc : Thread Cert.AdamInAbIdeal.nD Cert.AdamInAbIdeal.τ).loc Cert.AdamInAbIdeal.main_v4_3) = v3 c
          ∧ r.2.mem ((c.tc : Thread Cert.AdamInAbIdeal.nD Cert.AdamInAbIdeal.τ).loc Cert.AdamInAbIdeal.main_arg0) = m ((c.tc : Thread Cert.AdamInAbIdeal.nD Cert.AdamInAbIdeal.τ).loc Cert.AdamInAbIdeal.main_arg0)
          ∧ r.2.mem ((c.tc : Thread Cert.AdamInAbIdeal.nD Cert.AdamInAbIdeal.τ).loc Cert.AdamInAbIdeal.main_arg1) = m ((c.tc : Thread Cert.AdamInAbIdeal.nD Cert.AdamInAbIdeal.τ).loc Cert.AdamInAbIdeal.main_arg1)
          ∧ r.2.mem ((c.tc : Thread Cert.AdamInAbIdeal.nD Cert.AdamInAbIdeal.τ).loc Cert.AdamInAbIdeal.main_arg2) = m ((c.tc : Thread Cert.AdamInAbIdeal.nD Cert.AdamInAbIdeal.τ).loc Cert.AdamInAbIdeal.main_arg2)
          ∧ r.2.mem ((c.tc : Thread Cert.AdamInAbIdeal.nD Cert.AdamInAbIdeal.τ).loc Cert.AdamInAbIdeal.main_arg3) = m ((c.tc : Thread Cert.AdamInAbIdeal.nD Cert.AdamInAbIdeal.τ).loc Cert.AdamInAbIdeal.main_arg3))
      ∧ θ_run (Cert.AdamInAbRefIdeal.defs (F := Ideal)) (onTc (τ := Cert.AdamInAbRefIdeal.τ) (Cert.AdamInAbRefIdeal.main (F := Ideal))) ⟨m', fun _ => 0, g'⟩ (fun r => ∀ c : Dev Cert.AdamInAbRefIdeal.nD,
          r.2.mem ((c.tc : Thread Cert.AdamInAbRefIdeal.nD Cert.AdamInAbRefIdeal.τ).loc Cert.AdamInAbRefIdeal.main_v24) = v0 c
          ∧ r.2.mem ((c.tc : Thread Cert.AdamInAbRefIdeal.nD Cert.AdamInAbRefIdeal.τ).loc Cert.AdamInAbRefIdeal.main_v25) = v1 c
          ∧ r.2.mem ((c.tc : Thread Cert.AdamInAbRefIdeal.nD Cert.AdamInAbRefIdeal.τ).loc Cert.AdamInAbRefIdeal.main_v26) = v2 c
          ∧ r.2.mem ((c.tc : Thread Cert.AdamInAbRefIdeal.nD Cert.AdamInAbRefIdeal.τ).loc Cert.AdamInAbRefIdeal.main_v27) = v3 c
          ∧ r.2.mem ((c.tc : Thread Cert.AdamInAbRefIdeal.nD Cert.AdamInAbRefIdeal.τ).loc Cert.AdamInAbRefIdeal.main_arg0) = m' ((c.tc : Thread Cert.AdamInAbRefIdeal.nD Cert.AdamInAbRefIdeal.τ).loc Cert.AdamInAbRefIdeal.main_arg0)
          ∧ r.2.mem ((c.tc : Thread Cert.AdamInAbRefIdeal.nD Cert.AdamInAbRefIdeal.τ).loc Cert.AdamInAbRefIdeal.main_arg1) = m' ((c.tc : Thread Cert.AdamInAbRefIdeal.nD Cert.AdamInAbRefIdeal.τ).loc Cert.AdamInAbRefIdeal.main_arg1)
          ∧ r.2.mem ((c.tc : Thread Cert.AdamInAbRefIdeal.nD Cert.AdamInAbRefIdeal.τ).loc Cert.AdamInAbRefIdeal.main_arg2) = m' ((c.tc : Thread Cert.AdamInAbRefIdeal.nD Cert.AdamInAbRefIdeal.τ).loc Cert.AdamInAbRefIdeal.main_arg2)
          ∧ r.2.mem ((c.tc : Thread Cert.AdamInAbRefIdeal.nD Cert.AdamInAbRefIdeal.τ).loc Cert.AdamInAbRefIdeal.main_arg3) = m' ((c.tc : Thread Cert.AdamInAbRefIdeal.nD Cert.AdamInAbRefIdeal.τ).loc Cert.AdamInAbRefIdeal.main_arg3))

def preserves_AdamInCd_AdamInCdIdeal : Prop :=
  True

def algebraic_AdamInCdIdeal_AdamInCdRefIdeal [hAdamInCdIdeal : Cert.AdamInCdIdeal.Facts] [hAdamInCdRefIdeal : Cert.AdamInCdRefIdeal.Facts] : Prop :=
  ∀ (m : (ℓ : Loc Cert.AdamInCdIdeal.nD Cert.AdamInCdIdeal.τ Cert.AdamInCdIdeal.sig) → Buf (Elt Ideal) ℓ) (g : Dev Cert.AdamInCdIdeal.nD → PrngReg)
    (m' : (ℓ : Loc Cert.AdamInCdRefIdeal.nD Cert.AdamInCdRefIdeal.τ Cert.AdamInCdRefIdeal.sig) → Buf (Elt Ideal) ℓ) (g' : Dev Cert.AdamInCdRefIdeal.nD → PrngReg), Pre_AdamInCdIdeal m →
    (∀ c : Dev Cert.AdamInCdIdeal.nD,
      m' ((c.tc : Thread Cert.AdamInCdRefIdeal.nD Cert.AdamInCdRefIdeal.τ).loc Cert.AdamInCdRefIdeal.main_arg0) = m ((c.tc : Thread Cert.AdamInCdIdeal.nD Cert.AdamInCdIdeal.τ).loc Cert.AdamInCdIdeal.main_arg0)
      ∧ m' ((c.tc : Thread Cert.AdamInCdRefIdeal.nD Cert.AdamInCdRefIdeal.τ).loc Cert.AdamInCdRefIdeal.main_arg1) = m ((c.tc : Thread Cert.AdamInCdIdeal.nD Cert.AdamInCdIdeal.τ).loc Cert.AdamInCdIdeal.main_arg1)
      ∧ m' ((c.tc : Thread Cert.AdamInCdRefIdeal.nD Cert.AdamInCdRefIdeal.τ).loc Cert.AdamInCdRefIdeal.main_arg2) = m ((c.tc : Thread Cert.AdamInCdIdeal.nD Cert.AdamInCdIdeal.τ).loc Cert.AdamInCdIdeal.main_arg2)
      ∧ m' ((c.tc : Thread Cert.AdamInCdRefIdeal.nD Cert.AdamInCdRefIdeal.τ).loc Cert.AdamInCdRefIdeal.main_arg3) = m ((c.tc : Thread Cert.AdamInCdIdeal.nD Cert.AdamInCdIdeal.τ).loc Cert.AdamInCdIdeal.main_arg3)) →
    ∃ (v0 : (c : Dev Cert.AdamInCdIdeal.nD) → Buf (Elt Ideal) ((c.tc : Thread Cert.AdamInCdIdeal.nD Cert.AdamInCdIdeal.τ).loc Cert.AdamInCdIdeal.main_v4_0)) (v1 : (c : Dev Cert.AdamInCdIdeal.nD) → Buf (Elt Ideal) ((c.tc : Thread Cert.AdamInCdIdeal.nD Cert.AdamInCdIdeal.τ).loc Cert.AdamInCdIdeal.main_v4_1)) (v2 : (c : Dev Cert.AdamInCdIdeal.nD) → Buf (Elt Ideal) ((c.tc : Thread Cert.AdamInCdIdeal.nD Cert.AdamInCdIdeal.τ).loc Cert.AdamInCdIdeal.main_v4_2)) (v3 : (c : Dev Cert.AdamInCdIdeal.nD) → Buf (Elt Ideal) ((c.tc : Thread Cert.AdamInCdIdeal.nD Cert.AdamInCdIdeal.τ).loc Cert.AdamInCdIdeal.main_v4_3)),
      θ_run (Cert.AdamInCdIdeal.defs (F := Ideal)) (onTc (τ := Cert.AdamInCdIdeal.τ) (Cert.AdamInCdIdeal.main (F := Ideal))) ⟨m, fun _ => 0, g⟩ (fun r => ∀ c : Dev Cert.AdamInCdIdeal.nD,
          r.2.mem ((c.tc : Thread Cert.AdamInCdIdeal.nD Cert.AdamInCdIdeal.τ).loc Cert.AdamInCdIdeal.main_v4_0) = v0 c
          ∧ r.2.mem ((c.tc : Thread Cert.AdamInCdIdeal.nD Cert.AdamInCdIdeal.τ).loc Cert.AdamInCdIdeal.main_v4_1) = v1 c
          ∧ r.2.mem ((c.tc : Thread Cert.AdamInCdIdeal.nD Cert.AdamInCdIdeal.τ).loc Cert.AdamInCdIdeal.main_v4_2) = v2 c
          ∧ r.2.mem ((c.tc : Thread Cert.AdamInCdIdeal.nD Cert.AdamInCdIdeal.τ).loc Cert.AdamInCdIdeal.main_v4_3) = v3 c
          ∧ r.2.mem ((c.tc : Thread Cert.AdamInCdIdeal.nD Cert.AdamInCdIdeal.τ).loc Cert.AdamInCdIdeal.main_arg0) = m ((c.tc : Thread Cert.AdamInCdIdeal.nD Cert.AdamInCdIdeal.τ).loc Cert.AdamInCdIdeal.main_arg0)
          ∧ r.2.mem ((c.tc : Thread Cert.AdamInCdIdeal.nD Cert.AdamInCdIdeal.τ).loc Cert.AdamInCdIdeal.main_arg1) = m ((c.tc : Thread Cert.AdamInCdIdeal.nD Cert.AdamInCdIdeal.τ).loc Cert.AdamInCdIdeal.main_arg1)
          ∧ r.2.mem ((c.tc : Thread Cert.AdamInCdIdeal.nD Cert.AdamInCdIdeal.τ).loc Cert.AdamInCdIdeal.main_arg2) = m ((c.tc : Thread Cert.AdamInCdIdeal.nD Cert.AdamInCdIdeal.τ).loc Cert.AdamInCdIdeal.main_arg2)
          ∧ r.2.mem ((c.tc : Thread Cert.AdamInCdIdeal.nD Cert.AdamInCdIdeal.τ).loc Cert.AdamInCdIdeal.main_arg3) = m ((c.tc : Thread Cert.AdamInCdIdeal.nD Cert.AdamInCdIdeal.τ).loc Cert.AdamInCdIdeal.main_arg3))
      ∧ θ_run (Cert.AdamInCdRefIdeal.defs (F := Ideal)) (onTc (τ := Cert.AdamInCdRefIdeal.τ) (Cert.AdamInCdRefIdeal.main (F := Ideal))) ⟨m', fun _ => 0, g'⟩ (fun r => ∀ c : Dev Cert.AdamInCdRefIdeal.nD,
          r.2.mem ((c.tc : Thread Cert.AdamInCdRefIdeal.nD Cert.AdamInCdRefIdeal.τ).loc Cert.AdamInCdRefIdeal.main_v24) = v0 c
          ∧ r.2.mem ((c.tc : Thread Cert.AdamInCdRefIdeal.nD Cert.AdamInCdRefIdeal.τ).loc Cert.AdamInCdRefIdeal.main_v25) = v1 c
          ∧ r.2.mem ((c.tc : Thread Cert.AdamInCdRefIdeal.nD Cert.AdamInCdRefIdeal.τ).loc Cert.AdamInCdRefIdeal.main_v26) = v2 c
          ∧ r.2.mem ((c.tc : Thread Cert.AdamInCdRefIdeal.nD Cert.AdamInCdRefIdeal.τ).loc Cert.AdamInCdRefIdeal.main_v27) = v3 c
          ∧ r.2.mem ((c.tc : Thread Cert.AdamInCdRefIdeal.nD Cert.AdamInCdRefIdeal.τ).loc Cert.AdamInCdRefIdeal.main_arg0) = m' ((c.tc : Thread Cert.AdamInCdRefIdeal.nD Cert.AdamInCdRefIdeal.τ).loc Cert.AdamInCdRefIdeal.main_arg0)
          ∧ r.2.mem ((c.tc : Thread Cert.AdamInCdRefIdeal.nD Cert.AdamInCdRefIdeal.τ).loc Cert.AdamInCdRefIdeal.main_arg1) = m' ((c.tc : Thread Cert.AdamInCdRefIdeal.nD Cert.AdamInCdRefIdeal.τ).loc Cert.AdamInCdRefIdeal.main_arg1)
          ∧ r.2.mem ((c.tc : Thread Cert.AdamInCdRefIdeal.nD Cert.AdamInCdRefIdeal.τ).loc Cert.AdamInCdRefIdeal.main_arg2) = m' ((c.tc : Thread Cert.AdamInCdRefIdeal.nD Cert.AdamInCdRefIdeal.τ).loc Cert.AdamInCdRefIdeal.main_arg2)
          ∧ r.2.mem ((c.tc : Thread Cert.AdamInCdRefIdeal.nD Cert.AdamInCdRefIdeal.τ).loc Cert.AdamInCdRefIdeal.main_arg3) = m' ((c.tc : Thread Cert.AdamInCdRefIdeal.nD Cert.AdamInCdRefIdeal.τ).loc Cert.AdamInCdRefIdeal.main_arg3))

def preserves_AdamOutAb_AdamOutAbIdeal : Prop :=
  True

def algebraic_AdamOutAbIdeal_AdamOutAbRefIdeal [hAdamOutAbIdeal : Cert.AdamOutAbIdeal.Facts] [hAdamOutAbRefIdeal : Cert.AdamOutAbRefIdeal.Facts] : Prop :=
  ∀ (m : (ℓ : Loc Cert.AdamOutAbIdeal.nD Cert.AdamOutAbIdeal.τ Cert.AdamOutAbIdeal.sig) → Buf (Elt Ideal) ℓ) (g : Dev Cert.AdamOutAbIdeal.nD → PrngReg)
    (m' : (ℓ : Loc Cert.AdamOutAbRefIdeal.nD Cert.AdamOutAbRefIdeal.τ Cert.AdamOutAbRefIdeal.sig) → Buf (Elt Ideal) ℓ) (g' : Dev Cert.AdamOutAbRefIdeal.nD → PrngReg), Pre_AdamOutAbIdeal m →
    (∀ c : Dev Cert.AdamOutAbIdeal.nD,
      m' ((c.tc : Thread Cert.AdamOutAbRefIdeal.nD Cert.AdamOutAbRefIdeal.τ).loc Cert.AdamOutAbRefIdeal.main_arg0) = m ((c.tc : Thread Cert.AdamOutAbIdeal.nD Cert.AdamOutAbIdeal.τ).loc Cert.AdamOutAbIdeal.main_arg0)
      ∧ m' ((c.tc : Thread Cert.AdamOutAbRefIdeal.nD Cert.AdamOutAbRefIdeal.τ).loc Cert.AdamOutAbRefIdeal.main_arg1) = m ((c.tc : Thread Cert.AdamOutAbIdeal.nD Cert.AdamOutAbIdeal.τ).loc Cert.AdamOutAbIdeal.main_arg1)
      ∧ m' ((c.tc : Thread Cert.AdamOutAbRefIdeal.nD Cert.AdamOutAbRefIdeal.τ).loc Cert.AdamOutAbRefIdeal.main_arg2) = m ((c.tc : Thread Cert.AdamOutAbIdeal.nD Cert.AdamOutAbIdeal.τ).loc Cert.AdamOutAbIdeal.main_arg2)
      ∧ m' ((c.tc : Thread Cert.AdamOutAbRefIdeal.nD Cert.AdamOutAbRefIdeal.τ).loc Cert.AdamOutAbRefIdeal.main_arg3) = m ((c.tc : Thread Cert.AdamOutAbIdeal.nD Cert.AdamOutAbIdeal.τ).loc Cert.AdamOutAbIdeal.main_arg3)) →
    ∃ (v0 : (c : Dev Cert.AdamOutAbIdeal.nD) → Buf (Elt Ideal) ((c.tc : Thread Cert.AdamOutAbIdeal.nD Cert.AdamOutAbIdeal.τ).loc Cert.AdamOutAbIdeal.main_v4_0)) (v1 : (c : Dev Cert.AdamOutAbIdeal.nD) → Buf (Elt Ideal) ((c.tc : Thread Cert.AdamOutAbIdeal.nD Cert.AdamOutAbIdeal.τ).loc Cert.AdamOutAbIdeal.main_v4_1)) (v2 : (c : Dev Cert.AdamOutAbIdeal.nD) → Buf (Elt Ideal) ((c.tc : Thread Cert.AdamOutAbIdeal.nD Cert.AdamOutAbIdeal.τ).loc Cert.AdamOutAbIdeal.main_v4_2)) (v3 : (c : Dev Cert.AdamOutAbIdeal.nD) → Buf (Elt Ideal) ((c.tc : Thread Cert.AdamOutAbIdeal.nD Cert.AdamOutAbIdeal.τ).loc Cert.AdamOutAbIdeal.main_v4_3)),
      θ_run (Cert.AdamOutAbIdeal.defs (F := Ideal)) (onTc (τ := Cert.AdamOutAbIdeal.τ) (Cert.AdamOutAbIdeal.main (F := Ideal))) ⟨m, fun _ => 0, g⟩ (fun r => ∀ c : Dev Cert.AdamOutAbIdeal.nD,
          r.2.mem ((c.tc : Thread Cert.AdamOutAbIdeal.nD Cert.AdamOutAbIdeal.τ).loc Cert.AdamOutAbIdeal.main_v4_0) = v0 c
          ∧ r.2.mem ((c.tc : Thread Cert.AdamOutAbIdeal.nD Cert.AdamOutAbIdeal.τ).loc Cert.AdamOutAbIdeal.main_v4_1) = v1 c
          ∧ r.2.mem ((c.tc : Thread Cert.AdamOutAbIdeal.nD Cert.AdamOutAbIdeal.τ).loc Cert.AdamOutAbIdeal.main_v4_2) = v2 c
          ∧ r.2.mem ((c.tc : Thread Cert.AdamOutAbIdeal.nD Cert.AdamOutAbIdeal.τ).loc Cert.AdamOutAbIdeal.main_v4_3) = v3 c
          ∧ r.2.mem ((c.tc : Thread Cert.AdamOutAbIdeal.nD Cert.AdamOutAbIdeal.τ).loc Cert.AdamOutAbIdeal.main_arg0) = m ((c.tc : Thread Cert.AdamOutAbIdeal.nD Cert.AdamOutAbIdeal.τ).loc Cert.AdamOutAbIdeal.main_arg0)
          ∧ r.2.mem ((c.tc : Thread Cert.AdamOutAbIdeal.nD Cert.AdamOutAbIdeal.τ).loc Cert.AdamOutAbIdeal.main_arg1) = m ((c.tc : Thread Cert.AdamOutAbIdeal.nD Cert.AdamOutAbIdeal.τ).loc Cert.AdamOutAbIdeal.main_arg1)
          ∧ r.2.mem ((c.tc : Thread Cert.AdamOutAbIdeal.nD Cert.AdamOutAbIdeal.τ).loc Cert.AdamOutAbIdeal.main_arg2) = m ((c.tc : Thread Cert.AdamOutAbIdeal.nD Cert.AdamOutAbIdeal.τ).loc Cert.AdamOutAbIdeal.main_arg2)
          ∧ r.2.mem ((c.tc : Thread Cert.AdamOutAbIdeal.nD Cert.AdamOutAbIdeal.τ).loc Cert.AdamOutAbIdeal.main_arg3) = m ((c.tc : Thread Cert.AdamOutAbIdeal.nD Cert.AdamOutAbIdeal.τ).loc Cert.AdamOutAbIdeal.main_arg3))
      ∧ θ_run (Cert.AdamOutAbRefIdeal.defs (F := Ideal)) (onTc (τ := Cert.AdamOutAbRefIdeal.τ) (Cert.AdamOutAbRefIdeal.main (F := Ideal))) ⟨m', fun _ => 0, g'⟩ (fun r => ∀ c : Dev Cert.AdamOutAbRefIdeal.nD,
          r.2.mem ((c.tc : Thread Cert.AdamOutAbRefIdeal.nD Cert.AdamOutAbRefIdeal.τ).loc Cert.AdamOutAbRefIdeal.main_v24) = v0 c
          ∧ r.2.mem ((c.tc : Thread Cert.AdamOutAbRefIdeal.nD Cert.AdamOutAbRefIdeal.τ).loc Cert.AdamOutAbRefIdeal.main_v25) = v1 c
          ∧ r.2.mem ((c.tc : Thread Cert.AdamOutAbRefIdeal.nD Cert.AdamOutAbRefIdeal.τ).loc Cert.AdamOutAbRefIdeal.main_v26) = v2 c
          ∧ r.2.mem ((c.tc : Thread Cert.AdamOutAbRefIdeal.nD Cert.AdamOutAbRefIdeal.τ).loc Cert.AdamOutAbRefIdeal.main_v27) = v3 c
          ∧ r.2.mem ((c.tc : Thread Cert.AdamOutAbRefIdeal.nD Cert.AdamOutAbRefIdeal.τ).loc Cert.AdamOutAbRefIdeal.main_arg0) = m' ((c.tc : Thread Cert.AdamOutAbRefIdeal.nD Cert.AdamOutAbRefIdeal.τ).loc Cert.AdamOutAbRefIdeal.main_arg0)
          ∧ r.2.mem ((c.tc : Thread Cert.AdamOutAbRefIdeal.nD Cert.AdamOutAbRefIdeal.τ).loc Cert.AdamOutAbRefIdeal.main_arg1) = m' ((c.tc : Thread Cert.AdamOutAbRefIdeal.nD Cert.AdamOutAbRefIdeal.τ).loc Cert.AdamOutAbRefIdeal.main_arg1)
          ∧ r.2.mem ((c.tc : Thread Cert.AdamOutAbRefIdeal.nD Cert.AdamOutAbRefIdeal.τ).loc Cert.AdamOutAbRefIdeal.main_arg2) = m' ((c.tc : Thread Cert.AdamOutAbRefIdeal.nD Cert.AdamOutAbRefIdeal.τ).loc Cert.AdamOutAbRefIdeal.main_arg2)
          ∧ r.2.mem ((c.tc : Thread Cert.AdamOutAbRefIdeal.nD Cert.AdamOutAbRefIdeal.τ).loc Cert.AdamOutAbRefIdeal.main_arg3) = m' ((c.tc : Thread Cert.AdamOutAbRefIdeal.nD Cert.AdamOutAbRefIdeal.τ).loc Cert.AdamOutAbRefIdeal.main_arg3))

def preserves_AdamOutCd_AdamOutCdIdeal : Prop :=
  True

def algebraic_AdamOutCdIdeal_AdamOutCdRefIdeal [hAdamOutCdIdeal : Cert.AdamOutCdIdeal.Facts] [hAdamOutCdRefIdeal : Cert.AdamOutCdRefIdeal.Facts] : Prop :=
  ∀ (m : (ℓ : Loc Cert.AdamOutCdIdeal.nD Cert.AdamOutCdIdeal.τ Cert.AdamOutCdIdeal.sig) → Buf (Elt Ideal) ℓ) (g : Dev Cert.AdamOutCdIdeal.nD → PrngReg)
    (m' : (ℓ : Loc Cert.AdamOutCdRefIdeal.nD Cert.AdamOutCdRefIdeal.τ Cert.AdamOutCdRefIdeal.sig) → Buf (Elt Ideal) ℓ) (g' : Dev Cert.AdamOutCdRefIdeal.nD → PrngReg), Pre_AdamOutCdIdeal m →
    (∀ c : Dev Cert.AdamOutCdIdeal.nD,
      m' ((c.tc : Thread Cert.AdamOutCdRefIdeal.nD Cert.AdamOutCdRefIdeal.τ).loc Cert.AdamOutCdRefIdeal.main_arg0) = m ((c.tc : Thread Cert.AdamOutCdIdeal.nD Cert.AdamOutCdIdeal.τ).loc Cert.AdamOutCdIdeal.main_arg0)
      ∧ m' ((c.tc : Thread Cert.AdamOutCdRefIdeal.nD Cert.AdamOutCdRefIdeal.τ).loc Cert.AdamOutCdRefIdeal.main_arg1) = m ((c.tc : Thread Cert.AdamOutCdIdeal.nD Cert.AdamOutCdIdeal.τ).loc Cert.AdamOutCdIdeal.main_arg1)
      ∧ m' ((c.tc : Thread Cert.AdamOutCdRefIdeal.nD Cert.AdamOutCdRefIdeal.τ).loc Cert.AdamOutCdRefIdeal.main_arg2) = m ((c.tc : Thread Cert.AdamOutCdIdeal.nD Cert.AdamOutCdIdeal.τ).loc Cert.AdamOutCdIdeal.main_arg2)
      ∧ m' ((c.tc : Thread Cert.AdamOutCdRefIdeal.nD Cert.AdamOutCdRefIdeal.τ).loc Cert.AdamOutCdRefIdeal.main_arg3) = m ((c.tc : Thread Cert.AdamOutCdIdeal.nD Cert.AdamOutCdIdeal.τ).loc Cert.AdamOutCdIdeal.main_arg3)) →
    ∃ (v0 : (c : Dev Cert.AdamOutCdIdeal.nD) → Buf (Elt Ideal) ((c.tc : Thread Cert.AdamOutCdIdeal.nD Cert.AdamOutCdIdeal.τ).loc Cert.AdamOutCdIdeal.main_v4_0)) (v1 : (c : Dev Cert.AdamOutCdIdeal.nD) → Buf (Elt Ideal) ((c.tc : Thread Cert.AdamOutCdIdeal.nD Cert.AdamOutCdIdeal.τ).loc Cert.AdamOutCdIdeal.main_v4_1)) (v2 : (c : Dev Cert.AdamOutCdIdeal.nD) → Buf (Elt Ideal) ((c.tc : Thread Cert.AdamOutCdIdeal.nD Cert.AdamOutCdIdeal.τ).loc Cert.AdamOutCdIdeal.main_v4_2)) (v3 : (c : Dev Cert.AdamOutCdIdeal.nD) → Buf (Elt Ideal) ((c.tc : Thread Cert.AdamOutCdIdeal.nD Cert.AdamOutCdIdeal.τ).loc Cert.AdamOutCdIdeal.main_v4_3)),
      θ_run (Cert.AdamOutCdIdeal.defs (F := Ideal)) (onTc (τ := Cert.AdamOutCdIdeal.τ) (Cert.AdamOutCdIdeal.main (F := Ideal))) ⟨m, fun _ => 0, g⟩ (fun r => ∀ c : Dev Cert.AdamOutCdIdeal.nD,
          r.2.mem ((c.tc : Thread Cert.AdamOutCdIdeal.nD Cert.AdamOutCdIdeal.τ).loc Cert.AdamOutCdIdeal.main_v4_0) = v0 c
          ∧ r.2.mem ((c.tc : Thread Cert.AdamOutCdIdeal.nD Cert.AdamOutCdIdeal.τ).loc Cert.AdamOutCdIdeal.main_v4_1) = v1 c
          ∧ r.2.mem ((c.tc : Thread Cert.AdamOutCdIdeal.nD Cert.AdamOutCdIdeal.τ).loc Cert.AdamOutCdIdeal.main_v4_2) = v2 c
          ∧ r.2.mem ((c.tc : Thread Cert.AdamOutCdIdeal.nD Cert.AdamOutCdIdeal.τ).loc Cert.AdamOutCdIdeal.main_v4_3) = v3 c
          ∧ r.2.mem ((c.tc : Thread Cert.AdamOutCdIdeal.nD Cert.AdamOutCdIdeal.τ).loc Cert.AdamOutCdIdeal.main_arg0) = m ((c.tc : Thread Cert.AdamOutCdIdeal.nD Cert.AdamOutCdIdeal.τ).loc Cert.AdamOutCdIdeal.main_arg0)
          ∧ r.2.mem ((c.tc : Thread Cert.AdamOutCdIdeal.nD Cert.AdamOutCdIdeal.τ).loc Cert.AdamOutCdIdeal.main_arg1) = m ((c.tc : Thread Cert.AdamOutCdIdeal.nD Cert.AdamOutCdIdeal.τ).loc Cert.AdamOutCdIdeal.main_arg1)
          ∧ r.2.mem ((c.tc : Thread Cert.AdamOutCdIdeal.nD Cert.AdamOutCdIdeal.τ).loc Cert.AdamOutCdIdeal.main_arg2) = m ((c.tc : Thread Cert.AdamOutCdIdeal.nD Cert.AdamOutCdIdeal.τ).loc Cert.AdamOutCdIdeal.main_arg2)
          ∧ r.2.mem ((c.tc : Thread Cert.AdamOutCdIdeal.nD Cert.AdamOutCdIdeal.τ).loc Cert.AdamOutCdIdeal.main_arg3) = m ((c.tc : Thread Cert.AdamOutCdIdeal.nD Cert.AdamOutCdIdeal.τ).loc Cert.AdamOutCdIdeal.main_arg3))
      ∧ θ_run (Cert.AdamOutCdRefIdeal.defs (F := Ideal)) (onTc (τ := Cert.AdamOutCdRefIdeal.τ) (Cert.AdamOutCdRefIdeal.main (F := Ideal))) ⟨m', fun _ => 0, g'⟩ (fun r => ∀ c : Dev Cert.AdamOutCdRefIdeal.nD,
          r.2.mem ((c.tc : Thread Cert.AdamOutCdRefIdeal.nD Cert.AdamOutCdRefIdeal.τ).loc Cert.AdamOutCdRefIdeal.main_v24) = v0 c
          ∧ r.2.mem ((c.tc : Thread Cert.AdamOutCdRefIdeal.nD Cert.AdamOutCdRefIdeal.τ).loc Cert.AdamOutCdRefIdeal.main_v25) = v1 c
          ∧ r.2.mem ((c.tc : Thread Cert.AdamOutCdRefIdeal.nD Cert.AdamOutCdRefIdeal.τ).loc Cert.AdamOutCdRefIdeal.main_v26) = v2 c
          ∧ r.2.mem ((c.tc : Thread Cert.AdamOutCdRefIdeal.nD Cert.AdamOutCdRefIdeal.τ).loc Cert.AdamOutCdRefIdeal.main_v27) = v3 c
          ∧ r.2.mem ((c.tc : Thread Cert.AdamOutCdRefIdeal.nD Cert.AdamOutCdRefIdeal.τ).loc Cert.AdamOutCdRefIdeal.main_arg0) = m' ((c.tc : Thread Cert.AdamOutCdRefIdeal.nD Cert.AdamOutCdRefIdeal.τ).loc Cert.AdamOutCdRefIdeal.main_arg0)
          ∧ r.2.mem ((c.tc : Thread Cert.AdamOutCdRefIdeal.nD Cert.AdamOutCdRefIdeal.τ).loc Cert.AdamOutCdRefIdeal.main_arg1) = m' ((c.tc : Thread Cert.AdamOutCdRefIdeal.nD Cert.AdamOutCdRefIdeal.τ).loc Cert.AdamOutCdRefIdeal.main_arg1)
          ∧ r.2.mem ((c.tc : Thread Cert.AdamOutCdRefIdeal.nD Cert.AdamOutCdRefIdeal.τ).loc Cert.AdamOutCdRefIdeal.main_arg2) = m' ((c.tc : Thread Cert.AdamOutCdRefIdeal.nD Cert.AdamOutCdRefIdeal.τ).loc Cert.AdamOutCdRefIdeal.main_arg2)
          ∧ r.2.mem ((c.tc : Thread Cert.AdamOutCdRefIdeal.nD Cert.AdamOutCdRefIdeal.τ).loc Cert.AdamOutCdRefIdeal.main_arg3) = m' ((c.tc : Thread Cert.AdamOutCdRefIdeal.nD Cert.AdamOutCdRefIdeal.τ).loc Cert.AdamOutCdRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v4_0)) (v1 : (c : Dev Cert.AdamSqIdeal.nD) → Buf (Elt Ideal) ((c.tc : Thread Cert.AdamSqIdeal.nD Cert.AdamSqIdeal.τ).loc Cert.AdamSqIdeal.main_v4_1)) (v2 : (c : Dev Cert.AdamSqIdeal.nD) → Buf (Elt Ideal) ((c.tc : Thread Cert.AdamSqIdeal.nD Cert.AdamSqIdeal.τ).loc Cert.AdamSqIdeal.main_v4_2)) (v3 : (c : Dev Cert.AdamSqIdeal.nD) → Buf (Elt Ideal) ((c.tc : Thread Cert.AdamSqIdeal.nD Cert.AdamSqIdeal.τ).loc Cert.AdamSqIdeal.main_v4_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v4_0) = v0 c
          ∧ r.2.mem ((c.tc : Thread Cert.AdamSqIdeal.nD Cert.AdamSqIdeal.τ).loc Cert.AdamSqIdeal.main_v4_1) = v1 c
          ∧ r.2.mem ((c.tc : Thread Cert.AdamSqIdeal.nD Cert.AdamSqIdeal.τ).loc Cert.AdamSqIdeal.main_v4_2) = v2 c
          ∧ r.2.mem ((c.tc : Thread Cert.AdamSqIdeal.nD Cert.AdamSqIdeal.τ).loc Cert.AdamSqIdeal.main_v4_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v24) = v0 c
          ∧ r.2.mem ((c.tc : Thread Cert.AdamSqRefIdeal.nD Cert.AdamSqRefIdeal.τ).loc Cert.AdamSqRefIdeal.main_v25) = v1 c
          ∧ r.2.mem ((c.tc : Thread Cert.AdamSqRefIdeal.nD Cert.AdamSqRefIdeal.τ).loc Cert.AdamSqRefIdeal.main_v26) = v2 c
          ∧ r.2.mem ((c.tc : Thread Cert.AdamSqRefIdeal.nD Cert.AdamSqRefIdeal.τ).loc Cert.AdamSqRefIdeal.main_v27) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v4_0)) (v1 : (c : Dev Cert.AdamXkvIdeal.nD) → Buf (Elt Ideal) ((c.tc : Thread Cert.AdamXkvIdeal.nD Cert.AdamXkvIdeal.τ).loc Cert.AdamXkvIdeal.main_v4_1)) (v2 : (c : Dev Cert.AdamXkvIdeal.nD) → Buf (Elt Ideal) ((c.tc : Thread Cert.AdamXkvIdeal.nD Cert.AdamXkvIdeal.τ).loc Cert.AdamXkvIdeal.main_v4_2)) (v3 : (c : Dev Cert.AdamXkvIdeal.nD) → Buf (Elt Ideal) ((c.tc : Thread Cert.AdamXkvIdeal.nD Cert.AdamXkvIdeal.τ).loc Cert.AdamXkvIdeal.main_v4_3)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v4_0) = v0 c
          ∧ r.2.mem ((c.tc : Thread Cert.AdamXkvIdeal.nD Cert.AdamXkvIdeal.τ).loc Cert.AdamXkvIdeal.main_v4_1) = v1 c
          ∧ r.2.mem ((c.tc : Thread Cert.AdamXkvIdeal.nD Cert.AdamXkvIdeal.τ).loc Cert.AdamXkvIdeal.main_v4_2) = v2 c
          ∧ r.2.mem ((c.tc : Thread Cert.AdamXkvIdeal.nD Cert.AdamXkvIdeal.τ).loc Cert.AdamXkvIdeal.main_v4_3) = v3 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v24) = v0 c
          ∧ r.2.mem ((c.tc : Thread Cert.AdamXkvRefIdeal.nD Cert.AdamXkvRefIdeal.τ).loc Cert.AdamXkvRefIdeal.main_v25) = v1 c
          ∧ r.2.mem ((c.tc : Thread Cert.AdamXkvRefIdeal.nD Cert.AdamXkvRefIdeal.τ).loc Cert.AdamXkvRefIdeal.main_v26) = v2 c
          ∧ r.2.mem ((c.tc : Thread Cert.AdamXkvRefIdeal.nD Cert.AdamXkvRefIdeal.τ).loc Cert.AdamXkvRefIdeal.main_v27) = v3 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)) (v3 : (c : Dev Cert.AdamGluIdeal.nD) → Buf (Elt Ideal) ((c.tc : Thread Cert.AdamGluIdeal.nD Cert.AdamGluIdeal.τ).loc Cert.AdamGluIdeal.main_v4_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_v4_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v24) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v26) = v2 c
          ∧ r.2.mem ((c.tc : Thread Cert.AdamGluRefIdeal.nD Cert.AdamGluRefIdeal.τ).loc Cert.AdamGluRefIdeal.main_v27) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)) (v3 : (c : Dev Cert.AdamPoolIdeal.nD) → Buf (Elt Ideal) ((c.tc : Thread Cert.AdamPoolIdeal.nD Cert.AdamPoolIdeal.τ).loc Cert.AdamPoolIdeal.main_v4_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_v4_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v24) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v26) = v2 c
          ∧ r.2.mem ((c.tc : Thread Cert.AdamPoolRefIdeal.nD Cert.AdamPoolRefIdeal.τ).loc Cert.AdamPoolRefIdeal.main_v27) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_Rms_RmsIdeal : Prop :=
  True

def algebraic_RmsIdeal_RmsRefIdeal_pre_rms_finite [hRmsIdeal : Cert.RmsIdeal.Facts] [hRmsRefIdeal : Cert.RmsRefIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_rms_finite m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v37) = v0 c
          ∧ r.2.mem ((c.tc : Thread Cert.RmsRefIdeal.nD Cert.RmsRefIdeal.τ).loc Cert.RmsRefIdeal.main_v38) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v14) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v23) = v0 c
          ∧ r.2.mem ((c.tc : Thread Cert.GateRefIdeal.nD Cert.GateRefIdeal.τ).loc Cert.GateRefIdeal.main_v18) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Sgu_SguIdeal : Prop :=
  True

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v3_0)) (v1 : (c : Dev Cert.SguIdeal.nD) → Buf (Elt Ideal) ((c.tc : Thread Cert.SguIdeal.nD Cert.SguIdeal.τ).loc Cert.SguIdeal.main_v3_1)) (v2 : (c : Dev Cert.SguIdeal.nD) → Buf (Elt Ideal) ((c.tc : Thread Cert.SguIdeal.nD Cert.SguIdeal.τ).loc Cert.SguIdeal.main_v3_2)) (v3 : (c : Dev Cert.SguIdeal.nD) → Buf (Elt Ideal) ((c.tc : Thread Cert.SguIdeal.nD Cert.SguIdeal.τ).loc Cert.SguIdeal.main_v3_3)) (v4 : (c : Dev Cert.SguIdeal.nD) → Buf (Elt Ideal) ((c.tc : Thread Cert.SguIdeal.nD Cert.SguIdeal.τ).loc Cert.SguIdeal.main_v3_4)) (v5 : (c : Dev Cert.SguIdeal.nD) → Buf (Elt Ideal) ((c.tc : Thread Cert.SguIdeal.nD Cert.SguIdeal.τ).loc Cert.SguIdeal.main_v3_5)) (v6 : (c : Dev Cert.SguIdeal.nD) → Buf (Elt Ideal) ((c.tc : Thread Cert.SguIdeal.nD Cert.SguIdeal.τ).loc Cert.SguIdeal.main_v3_6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3_0) = v0 c
          ∧ r.2.mem ((c.tc : Thread Cert.SguIdeal.nD Cert.SguIdeal.τ).loc Cert.SguIdeal.main_v3_1) = v1 c
          ∧ r.2.mem ((c.tc : Thread Cert.SguIdeal.nD Cert.SguIdeal.τ).loc Cert.SguIdeal.main_v3_2) = v2 c
          ∧ r.2.mem ((c.tc : Thread Cert.SguIdeal.nD Cert.SguIdeal.τ).loc Cert.SguIdeal.main_v3_3) = v3 c
          ∧ r.2.mem ((c.tc : Thread Cert.SguIdeal.nD Cert.SguIdeal.τ).loc Cert.SguIdeal.main_v3_4) = v4 c
          ∧ r.2.mem ((c.tc : Thread Cert.SguIdeal.nD Cert.SguIdeal.τ).loc Cert.SguIdeal.main_v3_5) = v5 c
          ∧ r.2.mem ((c.tc : Thread Cert.SguIdeal.nD Cert.SguIdeal.τ).loc Cert.SguIdeal.main_v3_6) = v6 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v53) = v0 c
          ∧ r.2.mem ((c.tc : Thread Cert.SguRefIdeal.nD Cert.SguRefIdeal.τ).loc Cert.SguRefIdeal.main_v97) = v1 c
          ∧ r.2.mem ((c.tc : Thread Cert.SguRefIdeal.nD Cert.SguRefIdeal.τ).loc Cert.SguRefIdeal.main_v51) = v2 c
          ∧ r.2.mem ((c.tc : Thread Cert.SguRefIdeal.nD Cert.SguRefIdeal.τ).loc Cert.SguRefIdeal.main_v66) = v3 c
          ∧ r.2.mem ((c.tc : Thread Cert.SguRefIdeal.nD Cert.SguRefIdeal.τ).loc Cert.SguRefIdeal.main_v100) = v4 c
          ∧ r.2.mem ((c.tc : Thread Cert.SguRefIdeal.nD Cert.SguRefIdeal.τ).loc Cert.SguRefIdeal.main_v71) = v5 c
          ∧ r.2.mem ((c.tc : Thread Cert.SguRefIdeal.nD Cert.SguRefIdeal.τ).loc Cert.SguRefIdeal.main_v68) = v6 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)) (v2 : (c : Dev Cert.PoolIdeal.nD) → Buf (Elt Ideal) ((c.tc : Thread Cert.PoolIdeal.nD Cert.PoolIdeal.τ).loc Cert.PoolIdeal.main_v0_2)) (v3 : (c : Dev Cert.PoolIdeal.nD) → Buf (Elt Ideal) ((c.tc : Thread Cert.PoolIdeal.nD Cert.PoolIdeal.τ).loc Cert.PoolIdeal.main_v0_3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_v0_2) = v2 c
          ∧ r.2.mem ((c.tc : Thread Cert.PoolIdeal.nD Cert.PoolIdeal.τ).loc Cert.PoolIdeal.main_v0_3) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v60) = v0 c
          ∧ r.2.mem ((c.tc : Thread Cert.PoolRefIdeal.nD Cert.PoolRefIdeal.τ).loc Cert.PoolRefIdeal.main_v42) = v1 c
          ∧ r.2.mem ((c.tc : Thread Cert.PoolRefIdeal.nD Cert.PoolRefIdeal.τ).loc Cert.PoolRefIdeal.main_v51) = v2 c
          ∧ r.2.mem ((c.tc : Thread Cert.PoolRefIdeal.nD Cert.PoolRefIdeal.τ).loc Cert.PoolRefIdeal.main_v45) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v41) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v43) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v13) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def Claim : Prop :=
  ∃ (hXattn : Cert.Xattn.Facts) (hXattnIdeal : Cert.XattnIdeal.Facts) (hXattnRefIdeal : Cert.XattnRefIdeal.Facts) (hInAbDx : Cert.InAbDx.Facts) (hInAbDxIdeal : Cert.InAbDxIdeal.Facts) (hInAbDxRefIdeal : Cert.InAbDxRefIdeal.Facts) (hInAbDw : Cert.InAbDw.Facts) (hInAbDwIdeal : Cert.InAbDwIdeal.Facts) (hInAbDwRefIdeal : Cert.InAbDwRefIdeal.Facts) (hInCdDx : Cert.InCdDx.Facts) (hInCdDxIdeal : Cert.InCdDxIdeal.Facts) (hInCdDxRefIdeal : Cert.InCdDxRefIdeal.Facts) (hInCdDw : Cert.InCdDw.Facts) (hInCdDwIdeal : Cert.InCdDwIdeal.Facts) (hInCdDwRefIdeal : Cert.InCdDwRefIdeal.Facts) (hOutAbDx : Cert.OutAbDx.Facts) (hOutAbDxIdeal : Cert.OutAbDxIdeal.Facts) (hOutAbDxRefIdeal : Cert.OutAbDxRefIdeal.Facts) (hOutAbDw : Cert.OutAbDw.Facts) (hOutAbDwIdeal : Cert.OutAbDwIdeal.Facts) (hOutAbDwRefIdeal : Cert.OutAbDwRefIdeal.Facts) (hOutCdDx : Cert.OutCdDx.Facts) (hOutCdDxIdeal : Cert.OutCdDxIdeal.Facts) (hOutCdDxRefIdeal : Cert.OutCdDxRefIdeal.Facts) (hOutCdDw : Cert.OutCdDw.Facts) (hOutCdDwIdeal : Cert.OutCdDwIdeal.Facts) (hOutCdDwRefIdeal : Cert.OutCdDwRefIdeal.Facts) (hXoDx : Cert.XoDx.Facts) (hXoDxIdeal : Cert.XoDxIdeal.Facts) (hXoDxRefIdeal : Cert.XoDxRefIdeal.Facts) (hXoDw : Cert.XoDw.Facts) (hXoDwIdeal : Cert.XoDwIdeal.Facts) (hXoDwRefIdeal : Cert.XoDwRefIdeal.Facts) (hXqDx : Cert.XqDx.Facts) (hXqDxIdeal : Cert.XqDxIdeal.Facts) (hXqDxRefIdeal : Cert.XqDxRefIdeal.Facts) (hXqDw : Cert.XqDw.Facts) (hXqDwIdeal : Cert.XqDwIdeal.Facts) (hXqDwRefIdeal : Cert.XqDwRefIdeal.Facts) (hXkvDx : Cert.XkvDx.Facts) (hXkvDxIdeal : Cert.XkvDxIdeal.Facts) (hXkvDxRefIdeal : Cert.XkvDxRefIdeal.Facts) (hXkvDw : Cert.XkvDw.Facts) (hXkvDwIdeal : Cert.XkvDwIdeal.Facts) (hXkvDwRefIdeal : Cert.XkvDwRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hInAb : Cert.InAb.Facts) (hInAbIdeal : Cert.InAbIdeal.Facts) (hInAbRefIdeal : Cert.InAbRefIdeal.Facts) (hOutAb : Cert.OutAb.Facts) (hOutAbIdeal : Cert.OutAbIdeal.Facts) (hOutAbRefIdeal : Cert.OutAbRefIdeal.Facts) (hInCd : Cert.InCd.Facts) (hInCdIdeal : Cert.InCdIdeal.Facts) (hInCdRefIdeal : Cert.InCdRefIdeal.Facts) (hOutCd : Cert.OutCd.Facts) (hOutCdIdeal : Cert.OutCdIdeal.Facts) (hOutCdRefIdeal : Cert.OutCdRefIdeal.Facts) (hGluT : Cert.GluT.Facts) (hGluTIdeal : Cert.GluTIdeal.Facts) (hGluTRefIdeal : Cert.GluTRefIdeal.Facts) (hXq : Cert.Xq.Facts) (hXqIdeal : Cert.XqIdeal.Facts) (hXqRefIdeal : Cert.XqRefIdeal.Facts) (hXkv : Cert.Xkv.Facts) (hXkvIdeal : Cert.XkvIdeal.Facts) (hXkvRefIdeal : Cert.XkvRefIdeal.Facts) (hXo : Cert.Xo.Facts) (hXoIdeal : Cert.XoIdeal.Facts) (hXoRefIdeal : Cert.XoRefIdeal.Facts) (hXattnFwd : Cert.XattnFwd.Facts) (hXattnFwdIdeal : Cert.XattnFwdIdeal.Facts) (hXattnFwdRefIdeal : Cert.XattnFwdRefIdeal.Facts) (hXkvDxTop : Cert.XkvDxTop.Facts) (hXkvDxTopIdeal : Cert.XkvDxTopIdeal.Facts) (hXkvDxTopRefIdeal : Cert.XkvDxTopRefIdeal.Facts) (hAdamInAb : Cert.AdamInAb.Facts) (hAdamInAbIdeal : Cert.AdamInAbIdeal.Facts) (hAdamInAbRefIdeal : Cert.AdamInAbRefIdeal.Facts) (hAdamInCd : Cert.AdamInCd.Facts) (hAdamInCdIdeal : Cert.AdamInCdIdeal.Facts) (hAdamInCdRefIdeal : Cert.AdamInCdRefIdeal.Facts) (hAdamOutAb : Cert.AdamOutAb.Facts) (hAdamOutAbIdeal : Cert.AdamOutAbIdeal.Facts) (hAdamOutAbRefIdeal : Cert.AdamOutAbRefIdeal.Facts) (hAdamOutCd : Cert.AdamOutCd.Facts) (hAdamOutCdIdeal : Cert.AdamOutCdIdeal.Facts) (hAdamOutCdRefIdeal : Cert.AdamOutCdRefIdeal.Facts) (hAdamSq : Cert.AdamSq.Facts) (hAdamSqIdeal : Cert.AdamSqIdeal.Facts) (hAdamSqRefIdeal : Cert.AdamSqRefIdeal.Facts) (hAdamXkv : Cert.AdamXkv.Facts) (hAdamXkvIdeal : Cert.AdamXkvIdeal.Facts) (hAdamXkvRefIdeal : Cert.AdamXkvRefIdeal.Facts) (hAdamGlu : Cert.AdamGlu.Facts) (hAdamGluIdeal : Cert.AdamGluIdeal.Facts) (hAdamGluRefIdeal : Cert.AdamGluRefIdeal.Facts) (hAdamPool : Cert.AdamPool.Facts) (hAdamPoolIdeal : Cert.AdamPoolIdeal.Facts) (hAdamPoolRefIdeal : Cert.AdamPoolRefIdeal.Facts) (hRms : Cert.Rms.Facts) (hRmsIdeal : Cert.RmsIdeal.Facts) (hRmsRefIdeal : Cert.RmsRefIdeal.Facts) (hRmsFwd : Cert.RmsFwd.Facts) (hRmsFwdIdeal : Cert.RmsFwdIdeal.Facts) (hRmsFwdRefIdeal : Cert.RmsFwdRefIdeal.Facts) (hRmsMem : Cert.RmsMem.Facts) (hRmsMemIdeal : Cert.RmsMemIdeal.Facts) (hRmsMemRefIdeal : Cert.RmsMemRefIdeal.Facts) (hGate : Cert.Gate.Facts) (hGateIdeal : Cert.GateIdeal.Facts) (hGateRefIdeal : Cert.GateRefIdeal.Facts) (hSgu : Cert.Sgu.Facts) (hSguIdeal : Cert.SguIdeal.Facts) (hSguRefIdeal : Cert.SguRefIdeal.Facts) (hPool : Cert.Pool.Facts) (hPoolIdeal : Cert.PoolIdeal.Facts) (hPoolRefIdeal : Cert.PoolRefIdeal.Facts) (hPoolFwd : Cert.PoolFwd.Facts) (hPoolFwdIdeal : Cert.PoolFwdIdeal.Facts) (hPoolFwdRefIdeal : Cert.PoolFwdRefIdeal.Facts) (hSguFwd : Cert.SguFwd.Facts) (hSguFwdIdeal : Cert.SguFwdIdeal.Facts) (hSguFwdRefIdeal : Cert.SguFwdRefIdeal.Facts) (hGluFwd : Cert.GluFwd.Facts) (hGluFwdIdeal : Cert.GluFwdIdeal.Facts) (hGluFwdRefIdeal : Cert.GluFwdRefIdeal.Facts) (hPre_xattn_finite : Cert.Pre_xattn_finite.Facts) (hPre_rms_finite : Cert.Pre_rms_finite.Facts) (hPre_gate_finite : Cert.Pre_gate_finite.Facts) (hPre_sgu_finite : Cert.Pre_sgu_finite.Facts) (hPre_pool_finite : Cert.Pre_pool_finite.Facts),
    quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_InAbDx (hInAbDx := hInAbDx)
    ∧ quiescent_InAbDxIdeal (hInAbDxIdeal := hInAbDxIdeal)
    ∧ quiescent_InAbDxRefIdeal (hInAbDxRefIdeal := hInAbDxRefIdeal)
    ∧ quiescent_InAbDw (hInAbDw := hInAbDw)
    ∧ quiescent_InAbDwIdeal (hInAbDwIdeal := hInAbDwIdeal)
    ∧ quiescent_InAbDwRefIdeal (hInAbDwRefIdeal := hInAbDwRefIdeal)
    ∧ quiescent_InCdDx (hInCdDx := hInCdDx)
    ∧ quiescent_InCdDxIdeal (hInCdDxIdeal := hInCdDxIdeal)
    ∧ quiescent_InCdDxRefIdeal (hInCdDxRefIdeal := hInCdDxRefIdeal)
    ∧ quiescent_InCdDw (hInCdDw := hInCdDw)
    ∧ quiescent_InCdDwIdeal (hInCdDwIdeal := hInCdDwIdeal)
    ∧ quiescent_InCdDwRefIdeal (hInCdDwRefIdeal := hInCdDwRefIdeal)
    ∧ quiescent_OutAbDx (hOutAbDx := hOutAbDx)
    ∧ quiescent_OutAbDxIdeal (hOutAbDxIdeal := hOutAbDxIdeal)
    ∧ quiescent_OutAbDxRefIdeal (hOutAbDxRefIdeal := hOutAbDxRefIdeal)
    ∧ quiescent_OutAbDw (hOutAbDw := hOutAbDw)
    ∧ quiescent_OutAbDwIdeal (hOutAbDwIdeal := hOutAbDwIdeal)
    ∧ quiescent_OutAbDwRefIdeal (hOutAbDwRefIdeal := hOutAbDwRefIdeal)
    ∧ quiescent_OutCdDx (hOutCdDx := hOutCdDx)
    ∧ quiescent_OutCdDxIdeal (hOutCdDxIdeal := hOutCdDxIdeal)
    ∧ quiescent_OutCdDxRefIdeal (hOutCdDxRefIdeal := hOutCdDxRefIdeal)
    ∧ quiescent_OutCdDw (hOutCdDw := hOutCdDw)
    ∧ quiescent_OutCdDwIdeal (hOutCdDwIdeal := hOutCdDwIdeal)
    ∧ quiescent_OutCdDwRefIdeal (hOutCdDwRefIdeal := hOutCdDwRefIdeal)
    ∧ quiescent_XoDx (hXoDx := hXoDx)
    ∧ quiescent_XoDxIdeal (hXoDxIdeal := hXoDxIdeal)
    ∧ quiescent_XoDxRefIdeal (hXoDxRefIdeal := hXoDxRefIdeal)
    ∧ quiescent_XoDw (hXoDw := hXoDw)
    ∧ quiescent_XoDwIdeal (hXoDwIdeal := hXoDwIdeal)
    ∧ quiescent_XoDwRefIdeal (hXoDwRefIdeal := hXoDwRefIdeal)
    ∧ quiescent_XqDx (hXqDx := hXqDx)
    ∧ quiescent_XqDxIdeal (hXqDxIdeal := hXqDxIdeal)
    ∧ quiescent_XqDxRefIdeal (hXqDxRefIdeal := hXqDxRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_XkvDx (hXkvDx := hXkvDx)
    ∧ quiescent_XkvDxIdeal (hXkvDxIdeal := hXkvDxIdeal)
    ∧ quiescent_XkvDxRefIdeal (hXkvDxRefIdeal := hXkvDxRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_InAb (hInAb := hInAb)
    ∧ quiescent_InAbIdeal (hInAbIdeal := hInAbIdeal)
    ∧ quiescent_InAbRefIdeal (hInAbRefIdeal := hInAbRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_InCd (hInCd := hInCd)
    ∧ quiescent_InCdIdeal (hInCdIdeal := hInCdIdeal)
    ∧ quiescent_InCdRefIdeal (hInCdRefIdeal := hInCdRefIdeal)
    ∧ quiescent_OutCd (hOutCd := hOutCd)
    ∧ quiescent_OutCdIdeal (hOutCdIdeal := hOutCdIdeal)
    ∧ quiescent_OutCdRefIdeal (hOutCdRefIdeal := hOutCdRefIdeal)
    ∧ quiescent_GluT (hGluT := hGluT)
    ∧ quiescent_GluTIdeal (hGluTIdeal := hGluTIdeal)
    ∧ quiescent_GluTRefIdeal (hGluTRefIdeal := hGluTRefIdeal)
    ∧ quiescent_Xq (hXq := hXq)
    ∧ quiescent_XqIdeal (hXqIdeal := hXqIdeal)
    ∧ quiescent_XqRefIdeal (hXqRefIdeal := hXqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_Xo (hXo := hXo)
    ∧ quiescent_XoIdeal (hXoIdeal := hXoIdeal)
    ∧ quiescent_XoRefIdeal (hXoRefIdeal := hXoRefIdeal)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_XkvDxTop (hXkvDxTop := hXkvDxTop)
    ∧ quiescent_XkvDxTopIdeal (hXkvDxTopIdeal := hXkvDxTopIdeal)
    ∧ quiescent_XkvDxTopRefIdeal (hXkvDxTopRefIdeal := hXkvDxTopRefIdeal)
    ∧ quiescent_AdamInAb (hAdamInAb := hAdamInAb)
    ∧ quiescent_AdamInAbIdeal (hAdamInAbIdeal := hAdamInAbIdeal)
    ∧ quiescent_AdamInAbRefIdeal (hAdamInAbRefIdeal := hAdamInAbRefIdeal)
    ∧ quiescent_AdamInCd (hAdamInCd := hAdamInCd)
    ∧ quiescent_AdamInCdIdeal (hAdamInCdIdeal := hAdamInCdIdeal)
    ∧ quiescent_AdamInCdRefIdeal (hAdamInCdRefIdeal := hAdamInCdRefIdeal)
    ∧ quiescent_AdamOutAb (hAdamOutAb := hAdamOutAb)
    ∧ quiescent_AdamOutAbIdeal (hAdamOutAbIdeal := hAdamOutAbIdeal)
    ∧ quiescent_AdamOutAbRefIdeal (hAdamOutAbRefIdeal := hAdamOutAbRefIdeal)
    ∧ quiescent_AdamOutCd (hAdamOutCd := hAdamOutCd)
    ∧ quiescent_AdamOutCdIdeal (hAdamOutCdIdeal := hAdamOutCdIdeal)
    ∧ quiescent_AdamOutCdRefIdeal (hAdamOutCdRefIdeal := hAdamOutCdRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_Rms (hRms := hRms)
    ∧ quiescent_RmsIdeal (hRmsIdeal := hRmsIdeal)
    ∧ quiescent_RmsIdeal_pre_rms_finite (hRmsIdeal := hRmsIdeal) (hPre_rms_finite := hPre_rms_finite)
    ∧ quiescent_RmsRefIdeal (hRmsRefIdeal := hRmsRefIdeal)
    ∧ quiescent_RmsRefIdeal_pre_rms_finite (hRmsRefIdeal := hRmsRefIdeal) (hPre_rms_finite := hPre_rms_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_InAbDx_InAbDxIdeal
    ∧ algebraic_InAbDxIdeal_InAbDxRefIdeal (hInAbDxIdeal := hInAbDxIdeal) (hInAbDxRefIdeal := hInAbDxRefIdeal)
    ∧ preserves_InAbDw_InAbDwIdeal
    ∧ algebraic_InAbDwIdeal_InAbDwRefIdeal (hInAbDwIdeal := hInAbDwIdeal) (hInAbDwRefIdeal := hInAbDwRefIdeal)
    ∧ preserves_InCdDx_InCdDxIdeal
    ∧ algebraic_InCdDxIdeal_InCdDxRefIdeal (hInCdDxIdeal := hInCdDxIdeal) (hInCdDxRefIdeal := hInCdDxRefIdeal)
    ∧ preserves_InCdDw_InCdDwIdeal
    ∧ algebraic_InCdDwIdeal_InCdDwRefIdeal (hInCdDwIdeal := hInCdDwIdeal) (hInCdDwRefIdeal := hInCdDwRefIdeal)
    ∧ preserves_OutAbDx_OutAbDxIdeal
    ∧ algebraic_OutAbDxIdeal_OutAbDxRefIdeal (hOutAbDxIdeal := hOutAbDxIdeal) (hOutAbDxRefIdeal := hOutAbDxRefIdeal)
    ∧ preserves_OutAbDw_OutAbDwIdeal
    ∧ algebraic_OutAbDwIdeal_OutAbDwRefIdeal (hOutAbDwIdeal := hOutAbDwIdeal) (hOutAbDwRefIdeal := hOutAbDwRefIdeal)
    ∧ preserves_OutCdDx_OutCdDxIdeal
    ∧ algebraic_OutCdDxIdeal_OutCdDxRefIdeal (hOutCdDxIdeal := hOutCdDxIdeal) (hOutCdDxRefIdeal := hOutCdDxRefIdeal)
    ∧ preserves_OutCdDw_OutCdDwIdeal
    ∧ algebraic_OutCdDwIdeal_OutCdDwRefIdeal (hOutCdDwIdeal := hOutCdDwIdeal) (hOutCdDwRefIdeal := hOutCdDwRefIdeal)
    ∧ preserves_XoDx_XoDxIdeal
    ∧ algebraic_XoDxIdeal_XoDxRefIdeal (hXoDxIdeal := hXoDxIdeal) (hXoDxRefIdeal := hXoDxRefIdeal)
    ∧ preserves_XoDw_XoDwIdeal
    ∧ algebraic_XoDwIdeal_XoDwRefIdeal (hXoDwIdeal := hXoDwIdeal) (hXoDwRefIdeal := hXoDwRefIdeal)
    ∧ preserves_XqDx_XqDxIdeal
    ∧ algebraic_XqDxIdeal_XqDxRefIdeal (hXqDxIdeal := hXqDxIdeal) (hXqDxRefIdeal := hXqDxRefIdeal)
    ∧ preserves_XqDw_XqDwIdeal
    ∧ algebraic_XqDwIdeal_XqDwRefIdeal (hXqDwIdeal := hXqDwIdeal) (hXqDwRefIdeal := hXqDwRefIdeal)
    ∧ preserves_XkvDx_XkvDxIdeal
    ∧ algebraic_XkvDxIdeal_XkvDxRefIdeal (hXkvDxIdeal := hXkvDxIdeal) (hXkvDxRefIdeal := hXkvDxRefIdeal)
    ∧ preserves_XkvDw_XkvDwIdeal
    ∧ algebraic_XkvDwIdeal_XkvDwRefIdeal (hXkvDwIdeal := hXkvDwIdeal) (hXkvDwRefIdeal := hXkvDwRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_InAb_InAbIdeal
    ∧ algebraic_InAbIdeal_InAbRefIdeal (hInAbIdeal := hInAbIdeal) (hInAbRefIdeal := hInAbRefIdeal)
    ∧ preserves_OutAb_OutAbIdeal
    ∧ algebraic_OutAbIdeal_OutAbRefIdeal (hOutAbIdeal := hOutAbIdeal) (hOutAbRefIdeal := hOutAbRefIdeal)
    ∧ preserves_InCd_InCdIdeal
    ∧ algebraic_InCdIdeal_InCdRefIdeal (hInCdIdeal := hInCdIdeal) (hInCdRefIdeal := hInCdRefIdeal)
    ∧ preserves_OutCd_OutCdIdeal
    ∧ algebraic_OutCdIdeal_OutCdRefIdeal (hOutCdIdeal := hOutCdIdeal) (hOutCdRefIdeal := hOutCdRefIdeal)
    ∧ preserves_GluT_GluTIdeal
    ∧ algebraic_GluTIdeal_GluTRefIdeal (hGluTIdeal := hGluTIdeal) (hGluTRefIdeal := hGluTRefIdeal)
    ∧ preserves_Xq_XqIdeal
    ∧ algebraic_XqIdeal_XqRefIdeal (hXqIdeal := hXqIdeal) (hXqRefIdeal := hXqRefIdeal)
    ∧ preserves_Xkv_XkvIdeal
    ∧ algebraic_XkvIdeal_XkvRefIdeal (hXkvIdeal := hXkvIdeal) (hXkvRefIdeal := hXkvRefIdeal)
    ∧ preserves_Xo_XoIdeal
    ∧ algebraic_XoIdeal_XoRefIdeal (hXoIdeal := hXoIdeal) (hXoRefIdeal := hXoRefIdeal)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_XkvDxTop_XkvDxTopIdeal
    ∧ algebraic_XkvDxTopIdeal_XkvDxTopRefIdeal (hXkvDxTopIdeal := hXkvDxTopIdeal) (hXkvDxTopRefIdeal := hXkvDxTopRefIdeal)
    ∧ preserves_AdamInAb_AdamInAbIdeal
    ∧ algebraic_AdamInAbIdeal_AdamInAbRefIdeal (hAdamInAbIdeal := hAdamInAbIdeal) (hAdamInAbRefIdeal := hAdamInAbRefIdeal)
    ∧ preserves_AdamInCd_AdamInCdIdeal
    ∧ algebraic_AdamInCdIdeal_AdamInCdRefIdeal (hAdamInCdIdeal := hAdamInCdIdeal) (hAdamInCdRefIdeal := hAdamInCdRefIdeal)
    ∧ preserves_AdamOutAb_AdamOutAbIdeal
    ∧ algebraic_AdamOutAbIdeal_AdamOutAbRefIdeal (hAdamOutAbIdeal := hAdamOutAbIdeal) (hAdamOutAbRefIdeal := hAdamOutAbRefIdeal)
    ∧ preserves_AdamOutCd_AdamOutCdIdeal
    ∧ algebraic_AdamOutCdIdeal_AdamOutCdRefIdeal (hAdamOutCdIdeal := hAdamOutCdIdeal) (hAdamOutCdRefIdeal := hAdamOutCdRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_Rms_RmsIdeal
    ∧ algebraic_RmsIdeal_RmsRefIdeal_pre_rms_finite (hRmsIdeal := hRmsIdeal) (hRmsRefIdeal := hRmsRefIdeal) (hPre_rms_finite := hPre_rms_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsMem_RmsMemIdeal
    ∧ algebraic_RmsMemIdeal_RmsMemRefIdeal (hRmsMemIdeal := hRmsMemIdeal) (hRmsMemRefIdeal := hRmsMemRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_SguFwd_SguFwdIdeal
    ∧ algebraic_SguFwdIdeal_SguFwdRefIdeal (hSguFwdIdeal := hSguFwdIdeal) (hSguFwdRefIdeal := hSguFwdRefIdeal)
    ∧ preserves_GluFwd_GluFwdIdeal
    ∧ algebraic_GluFwdIdeal_GluFwdRefIdeal (hGluFwdIdeal := hGluFwdIdeal) (hGluFwdRefIdeal := hGluFwdRefIdeal)
-- ==== Pre_gate_finite.lean ====
abbrev S2048x1024 : Shape := ⟨2, ![2048, 1024]⟩
abbrev S2048x4096 : Shape := ⟨2, ![2048, 4096]⟩
abbrev S2048x1536 : Shape := ⟨2, ![2048, 1536]⟩
abbrev S_ : Shape := ⟨0, ![]⟩

class Facts : Prop where
  bcast_S_S2048x1024 : S_.BroadcastsInDim S2048x1024 (![] : Fin 0 → Fin S2048x1024.rank)
  bcast_S_S2048x4096 : S_.BroadcastsInDim S2048x4096 (![] : Fin 0 → Fin S2048x4096.rank)
  bcast_S_S2048x1536 : S_.BroadcastsInDim S2048x1536 (![] : Fin 0 → Fin S2048x1536.rank)

variable [Facts]

def fn {F : FTy → Type} [FloatOps F] (main_arg0 : FVec F S2048x1024 .f32) (main_arg1 : FVec F S2048x4096 .f32) (main_arg2 : FVec F S2048x1536 .f32) : IVec S2048x1024 1 × IVec S2048x4096 1 × IVec S2048x1536 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x4096 .f32 := Host.absf main_arg1
  let main_cst_0 : FVec F S_ .f32 := constant S_ .f32 0x7F800000#32
  let main_v4 : FVec F S2048x4096 .f32 := broadcastInDim S2048x4096 ![] bcast_S_S2048x4096 main_cst_0
  let main_v5 : IVec S2048x4096 1 := cmpf .olt main_v3 main_v4
  let main_v6 : FVec F S2048x1536 .f32 := Host.absf main_arg2
  let main_cst_1 : FVec F S_ .f32 := constant S_ .f32 0x7F800000#32
  let main_v7 : FVec F S2048x1536 .f32 := broadcastInDim S2048x1536 ![] bcast_S_S2048x1536 main_cst_1
  let main_v8 : IVec S2048x1536 1 := cmpf .olt main_v6 main_v7
  (main_v2, main_v5, main_v8)
-- ==== Pre_pool_finite.lean ====
abbrev S2048x6144 : Shape := ⟨2, ![2048, 6144]⟩
abbrev S2048x2048 : Shape := ⟨2, ![2048, 2048]⟩
abbrev S4x256x256 : Shape := ⟨3, ![4, 256, 256]⟩
abbrev S1x1024 : Shape := ⟨2, ![1, 1024]⟩
abbrev S_ : Shape := ⟨0, ![]⟩

class Facts : Prop where
  bcast_S_S2048x6144 : S_.BroadcastsInDim S2048x6144 (![] : Fin 0 → Fin S2048x6144.rank)
  bcast_S_S2048x2048 : S_.BroadcastsInDim S2048x2048 (![] : Fin 0 → Fin S2048x2048.rank)
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S2048x6144 .f32) (main_arg1 : FVec F S2048x2048 .f32) (main_arg2 : FVec F S4x256x256 .f32) (main_arg3 : FVec F S1x1024 .f32) : IVec S2048x6144 1 × IVec S2048x2048 1 × IVec S4x256x256 1 × IVec S1x1024 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_rms_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x1024 .f32) (main_arg3 : FVec F S1x1024 .f32) : IVec S2048x1024 1 × IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_sgu_finite.lean ====
abbrev S2048x4096 : Shape := ⟨2, ![2048, 4096]⟩
abbrev S2048x1536 : Shape := ⟨2, ![2048, 1536]⟩
abbrev S1x1024 : Shape := ⟨2, ![1, 1024]⟩
abbrev S4x128x128 : Shape := ⟨3, ![4, 128, 128]⟩
abbrev S4x128 : Shape := ⟨2, ![4, 128]⟩
abbrev S_ : Shape := ⟨0, ![]⟩

class Facts : Prop where
  bcast_S_S2048x4096 : S_.BroadcastsInDim S2048x4096 (![] : Fin 0 → Fin S2048x4096.rank)
  bcast_S_S2048x1536 : S_.BroadcastsInDim S2048x1536 (![] : Fin 0 → Fin S2048x1536.rank)
  bcast_S_S1x1024 : S_.BroadcastsInDim S1x1024 (![] : Fin 0 → Fin S1x1024.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S2048x4096 .f32) (main_arg1 : FVec F S2048x1536 .f32) (main_arg2 : FVec F S1x1024 .f32) (main_arg3 : FVec F S1x1024 .f32) (main_arg4 : FVec F S4x128x128 .f32) (main_arg5 : FVec F S4x128 .f32) : IVec S2048x4096 1 × IVec S2048x1536 1 × IVec S1x1024 1 × IVec S1x1024 1 × IVec S4x128x128 1 × IVec S4x128 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x1536 .f32 := Host.absf main_arg1
  let main_cst_0 : FVec F S_ .f32 := constant S_ .f32 0x7F800000#32
  let main_v4 : FVec F S2048x1536 .f32 := broadcastInDim S2048x1536 ![] bcast_S_S2048x1536 main_cst_0
  let main_v5 : IVec S2048x1536 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4x128x128 .f32 := Host.absf main_arg4
  let main_cst_3 : FVec F S_ .f32 := constant S_ .f32 0x7F800000#32
  let main_v13 : FVec F S4x128x128 .f32 := broadcastInDim S4x128x128 ![] bcast_S_S4x128x128 main_cst_3
  let main_v14 : IVec S4x128x128 1 := cmpf .olt main_v12 main_v13
  let main_v15 : FVec F S4x128 .f32 := Host.absf main_arg5
  let main_cst_4 : FVec F S_ .f32 := constant S_ .f32 0x7F800000#32
  let main_v16 : FVec F S4x128 .f32 := broadcastInDim S4x128 ![] bcast_S_S4x128 main_cst_4
  let main_v17 : IVec S4x128 1 := cmpf .olt main_v15 main_v16
  (main_v2, main_v5, main_v8, main_v11, main_v14, main_v17)
-- ==== Pre_xattn_finite.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x2048 : S_.BroadcastsInDim S256x2048 (![] : Fin 0 → Fin S256x2048.rank)

variable [Facts]

def fn {F : FTy → Type} [FloatOps F] (main_arg0 : FVec F S2048x1024 .bf16) (main_arg1 : FVec F S256x2048 .bf16) (main_arg2 : FVec F S2048x1024 .bf16) : IVec S2048x1024 1 × IVec S256x2048 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  (main_v3, main_v7, main_v11)
-- ==== Xattn.lean ====
abbrev S2048x1024 : Shape := ⟨2, ![2048, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnRefIdeal.lean ====
abbrev S2048x1024 : Shape := ⟨2, ![2048, 1024]⟩
abbrev S256x2048 : Shape := ⟨2, ![256, 2048]⟩
abbrev S2048x4x256 : Shape := ⟨3, ![2048, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .f32⟩
  | .hbm, ⟨4, _⟩ => ⟨S256x2048, .f32⟩
  | .hbm, ⟨5, _⟩ => ⟨S2048x4x256, .f32⟩
  | .hbm, ⟨6, _⟩ => ⟨S256x2x4x256, .f32⟩
  | .hbm, ⟨7, _⟩ => ⟨S256x1x4x256, .f32⟩
  | .hbm, ⟨8, _⟩ => ⟨S256x4x256, .f32⟩
  | .hbm, ⟨9, _⟩ => ⟨S256x1x4x256, .f32⟩
  | .hbm, ⟨10, _⟩ => ⟨S256x4x256, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x256x2048, .f32⟩
  | .hbm, ⟨54, _⟩ => ⟨S2048x4x256, .f32⟩
  | .hbm, ⟨55, _⟩ => ⟨S2048x1024, .f32⟩
  | .hbm, ⟨56, _⟩ => ⟨S2048x1024, .f32⟩
  | .hbm, ⟨57, _⟩ => ⟨S2048x4x256, .f32⟩
  | .hbm, ⟨58, _⟩ => ⟨S4x256x2048, .f32⟩
  | .hbm, ⟨59, _⟩ => ⟨S4x2048x256, .f32⟩
  | .hbm, ⟨60, _⟩ => ⟨S4x256x256, .f32⟩
  | .hbm, ⟨61, _⟩ => ⟨S256x4x256, .f32⟩
  | .hbm, ⟨62, _⟩ => ⟨S4x2048x256, .f32⟩
  | .hbm, ⟨63, _⟩ => ⟨S4x2048x256, .f32⟩
  | .hbm, ⟨64, _⟩ => ⟨S4x2048x256, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048, .f32⟩
  | .hbm, ⟨73, _⟩ => ⟨S4x2048x256, .f32⟩
  | .hbm, ⟨74, _⟩ => ⟨S4x2048x256, .f32⟩
  | .hbm, ⟨75, _⟩ => ⟨S4x2048x256, .f32⟩
  | .hbm, ⟨76, _⟩ => ⟨S_, .f32⟩
  | .hbm, ⟨77, _⟩ => ⟨S4x2048x256, .f32⟩
  | .hbm, ⟨78, _⟩ => ⟨S4x2048x256, .f32⟩
  | .hbm, ⟨79, _⟩ => ⟨S4x256x256, .f32⟩
  | .hbm, ⟨80, _⟩ => ⟨S256x4x256, .f32⟩
  | .hbm, ⟨81, _⟩ => ⟨S4x2048x256, .f32⟩
  | .hbm, ⟨82, _⟩ => ⟨S2048x4x256, .f32⟩
  | .hbm, ⟨83, _⟩ => ⟨S256x1x4x256, .f32⟩
  | .hbm, ⟨84, _⟩ => ⟨S_, .f32⟩
  | .hbm, ⟨85, _⟩ => ⟨S256x2x4x256, .f32⟩
  | .hbm, ⟨86, _⟩ => ⟨S256x1x4x256, .f32⟩
  | .hbm, ⟨87, _⟩ => ⟨S_, .f32⟩
  | .hbm, ⟨88, _⟩ => ⟨S256x2x4x256, .f32⟩
  | .hbm, ⟨89, _⟩ => ⟨S256x2x4x256, .f32⟩
  | .hbm, ⟨90, _⟩ => ⟨S256x2048, .f32⟩
  | .hbm, ⟨91, _⟩ => ⟨S2048x1024, .f32⟩
  | .hbm, ⟨92, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== InAbDx.lean ====
abbrev S2048x6144 : Shape := ⟨2, ![2048, 6144]⟩
abbrev S4x1024x1536 : Shape := ⟨3, ![4, 1024, 1536]⟩
abbrev S2048x1024 : Shape := ⟨2, ![2048, 1024]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S4x1024x1536, .bf16⟩
  | .hbm, ⟨2, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbDxRefIdeal.lean ====
abbrev S2048x6144 : Shape := ⟨2, ![2048, 6144]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S1024x6144, .f32⟩
  | .hbm, ⟨5, _⟩ => ⟨S_, .f32⟩
  | .hbm, ⟨6, _⟩ => ⟨S2048x1024, .f32⟩
  | .hbm, ⟨7, _⟩ => ⟨S2048x6144, .f32⟩
  | .hbm, ⟨8, _⟩ => ⟨S2048x6144, .f32⟩
  | .hbm, ⟨9, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InAbDw.lean ====
abbrev S2048x1024 : Shape := ⟨2, ![2048, 1024]⟩
abbrev S2048x6144 : Shape := ⟨2, ![2048, 6144]⟩
abbrev S4x1024x1536 : Shape := ⟨3, ![4, 1024, 1536]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S4x1024x1536, .f32⟩
  | .local _ .vmem, ⟨0, _⟩ => ⟨S2048x1024, .bf16⟩
  | .local _ .vmem, ⟨1, _⟩ => ⟨S2048x1536, .bf16⟩
  | .local _ .vmem, ⟨2, _⟩ => ⟨S2048x1536, .bf16⟩
  | .local _ .vmem, ⟨3, _⟩ => ⟨S1x1024x1536, .f32⟩
  | .local _ .vmem, ⟨4, _⟩ => ⟨S1x1024x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbDwRefIdeal.lean ====
abbrev S2048x1024 : Shape := ⟨2, ![2048, 1024]⟩
abbrev S2048x6144 : Shape := ⟨2, ![2048, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S2048x1024, .f32⟩
  | .hbm, ⟨3, _⟩ => ⟨S_, .f32⟩
  | .hbm, ⟨4, _⟩ => ⟨S1024x6144, .f32⟩
  | .hbm, ⟨5, _⟩ => ⟨S2048x6144, .f32⟩
  | .hbm, ⟨6, _⟩ => ⟨S2048x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InCdDx.lean ====
abbrev S2048x4096 : Shape := ⟨2, ![2048, 4096]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCdDxRefIdeal.lean ====
abbrev S2048x4096 : Shape := ⟨2, ![2048, 4096]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S2048x1024, .f32⟩
  | .hbm, ⟨7, _⟩ => ⟨S2048x4096, .f32⟩
  | .hbm, ⟨8, _⟩ => ⟨S2048x4096, .f32⟩
  | .hbm, ⟨9, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InCdDw.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCdDwRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutAbDx.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDxRefIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S2048x2048, .f32⟩
  | .hbm, ⟨5, _⟩ => ⟨S2048x1024, .f32⟩
  | .hbm, ⟨6, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAbDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDwRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x2048, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutCdDx.lean ====
abbrev S2048x1024 : Shape := ⟨2, ![2048, 1024]⟩
abbrev S1536x1024 : Shape := ⟨2, ![1536, 1024]⟩
abbrev S2048x1536 : Shape := ⟨2, ![2048, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1536x1024, .bf16⟩
  | .hbm, ⟨2, _⟩ => ⟨S2048x1536, .f32⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCdDxRefIdeal.lean ====
abbrev S2048x1024 : Shape := ⟨2, ![2048, 1024]⟩
abbrev S1536x1024 : Shape := ⟨2, ![1536, 1024]⟩
abbrev S_ : Shape := ⟨0, ![]⟩
abbrev S2048x1536 : Shape := ⟨2, ![2048, 1536]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1536x1024, .bf16⟩
  | .hbm, ⟨2, _⟩ => ⟨S1536x1024, .f32⟩
  | .hbm, ⟨3, _⟩ => ⟨S_, .f32⟩
  | .hbm, ⟨4, _⟩ => ⟨S2048x1536, .f32⟩
  | .hbm, ⟨5, _⟩ => ⟨S2048x1024, .f32⟩
  | .hbm, ⟨6, _⟩ => ⟨S2048x1536, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutCdDw.lean ====
abbrev S2048x1536 : Shape := ⟨2, ![2048, 1536]⟩
abbrev S2048x1024 : Shape := ⟨2, ![2048, 1024]⟩
abbrev S1536x1024 : Shape := ⟨2, ![1536, 1024]⟩
abbrev S2048x768 : Shape := ⟨2, ![2048, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S1536x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .f32⟩
  | .local _ .vmem, ⟨3, _⟩ => ⟨S768x1024, .f32⟩
  | .local _ .vmem, ⟨4, _⟩ => ⟨S768x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCdDwRefIdeal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S2048x1536, .f32⟩
  | .hbm, ⟨3, _⟩ => ⟨S_, .f32⟩
  | .hbm, ⟨4, _⟩ => ⟨S1536x1024, .f32⟩
  | .hbm, ⟨5, _⟩ => ⟨S2048x1024, .f32⟩
  | .hbm, ⟨6, _⟩ => ⟨S1024x1536, .f32⟩
  | .hbm, ⟨7, _⟩ => ⟨S1536x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XoDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XoDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .f32⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XkvDx.lean ====
abbrev S256x2048 : Shape := ⟨2, ![256, 2048]⟩
abbrev S4x1024x512 : Shape := ⟨3, ![4, 1024, 512]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .hbm, ⟨3, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1x1024x512, .bf16⟩
  | .local _ .vmem, ⟨3, _⟩ => ⟨S1x1024x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== XkvDxRefIdeal.lean ====
abbrev S256x2048 : Shape := ⟨2, ![256, 2048]⟩
abbrev S4x1024x512 : Shape := ⟨3, ![4, 1024, 512]⟩
abbrev S256x1024 : Shape := ⟨2, ![256, 1024]⟩
abbrev S1024x4x512 : Shape := ⟨3, ![1024, 4, 512]⟩
abbrev S1024x2048 : Shape := ⟨2, ![1024, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S_, .f32⟩
  | .hbm, ⟨7, _⟩ => ⟨S256x1024, .f32⟩
  | .hbm, ⟨8, _⟩ => ⟨S256x2048, .f32⟩
  | .hbm, ⟨9, _⟩ => ⟨S256x1024, .f32⟩
  | .hbm, ⟨10, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== XkvDw.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x512, .f32⟩
  | .local _ .vmem, ⟨0, _⟩ => ⟨S256x1024, .bf16⟩
  | .local _ .vmem, ⟨1, _⟩ => ⟨S256x512, .f32⟩
  | .local _ .vmem, ⟨2, _⟩ => ⟨S256x512, .f32⟩
  | .local _ .vmem, ⟨3, _⟩ => ⟨S1x1024x512, .f32⟩
  | .local _ .vmem, ⟨4, _⟩ => ⟨S1x1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDwRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x4x512, .f32⟩
  | .hbm, ⟨9, _⟩ => ⟨S4x1024x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDx.lean ====
abbrev S2048x1024 : Shape := ⟨2, ![2048, 1024]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluDw.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .f32⟩
  | .local _ .vmem, ⟨0, _⟩ => ⟨S2048x512, .bf16⟩
  | .local _ .vmem, ⟨1, _⟩ => ⟨S2048x1024, .bf16⟩
  | .local _ .vmem, ⟨2, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x512, .f32⟩
  | .hbm, ⟨3, _⟩ => ⟨S_, .f32⟩
  | .hbm, ⟨4, _⟩ => ⟨S512x1024, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InAb.lean ====
abbrev S2048x1024 : Shape := ⟨2, ![2048, 1024]⟩
abbrev S4x1024x1536 : Shape := ⟨3, ![4, 1024, 1536]⟩
abbrev S2048x6144 : Shape := ⟨2, ![2048, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1536, .bf16⟩
  | .hbm, ⟨2, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbRefIdeal.lean ====
abbrev S2048x1024 : Shape := ⟨2, ![2048, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S2048x1024, .f32⟩
  | .hbm, ⟨5, _⟩ => ⟨S1024x6144, .f32⟩
  | .hbm, ⟨6, _⟩ => ⟨S2048x6144, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutAb.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutAbRefIdeal.lean ====
abbrev S2048x2048 : Shape := ⟨2, ![2048, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InCd.lean ====
abbrev S2048x1024 : Shape := ⟨2, ![2048, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCdRefIdeal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S2048x1024, .f32⟩
  | .hbm, ⟨5, _⟩ => ⟨S1024x4096, .f32⟩
  | .hbm, ⟨6, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutCd.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S2048x1024, .f32⟩
  | .hbm, ⟨3, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutCdRefIdeal.lean ====
abbrev S2048x1536 : Shape := ⟨2, ![2048, 1536]⟩
abbrev S1536x1024 : Shape := ⟨2, ![1536, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S2048x1024, .f32⟩
  | .hbm, ⟨3, _⟩ => ⟨S2048x1536, .f32⟩
  | .hbm, ⟨4, _⟩ => ⟨S1536x1024, .f32⟩
  | .hbm, ⟨5, _⟩ => ⟨S2048x1024, .f32⟩
  | .hbm, ⟨6, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluT.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluTRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x512, .f32⟩
  | .hbm, ⟨3, _⟩ => ⟨S512x1024, .f32⟩
  | .hbm, ⟨4, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xq.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xkv.lean ====
abbrev S256x1024 : Shape := ⟨2, ![256, 1024]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x2048, .bf16⟩
  | .local _ .vmem, ⟨0, _⟩ => ⟨S256x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Xo.lean ====
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XattnFwd.lean ====
abbrev S2048x1024 : Shape := ⟨2, ![2048, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnFwdRefIdeal.lean ====
abbrev S2048x1024 : Shape := ⟨2, ![2048, 1024]⟩
abbrev S256x2048 : Shape := ⟨2, ![256, 2048]⟩
abbrev S2048x4x256 : Shape := ⟨3, ![2048, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S256x2048, .f32⟩
  | .hbm, ⟨4, _⟩ => ⟨S2048x4x256, .f32⟩
  | .hbm, ⟨5, _⟩ => ⟨S256x2x4x256, .f32⟩
  | .hbm, ⟨6, _⟩ => ⟨S256x1x4x256, .f32⟩
  | .hbm, ⟨7, _⟩ => ⟨S256x4x256, .f32⟩
  | .hbm, ⟨8, _⟩ => ⟨S256x1x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x256, .f32⟩
  | .hbm, ⟨27, _⟩ => ⟨S4x2048x256, .f32⟩
  | .hbm, ⟨28, _⟩ => ⟨S4x256x2048, .f32⟩
  | .hbm, ⟨29, _⟩ => ⟨S2048x4x256, .f32⟩
  | .hbm, ⟨30, _⟩ => ⟨S2048x1024, .f32⟩
  | .hbm, ⟨31, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== XkvDxTop.lean ====
abbrev S256x2048 : Shape := ⟨2, ![256, 2048]⟩
abbrev S4x1024x512 : Shape := ⟨3, ![4, 1024, 512]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1x1024x512, .bf16⟩
  | .local _ .vmem, ⟨3, _⟩ => ⟨S1x1024x512, .bf16⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvDxTopRefIdeal.lean ====
abbrev S256x2048 : Shape := ⟨2, ![256, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S1024x2048, .f32⟩
  | .hbm, ⟨5, _⟩ => ⟨S_, .f32⟩
  | .hbm, ⟨6, _⟩ => ⟨S256x1024, .f32⟩
  | .hbm, ⟨7, _⟩ => ⟨S256x2048, .f32⟩
  | .hbm, ⟨8, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamInAb.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInAbIdeal.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInAbRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamInCd.lean ====
abbrev S2x1024x1024 : Shape := ⟨3, ![2, 1024, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInCdIdeal.lean ====
abbrev S2x1024x1024 : Shape := ⟨3, ![2, 1024, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInCdRefIdeal.lean ====
abbrev S2x1024x1024 : Shape := ⟨3, ![2, 1024, 1024]⟩
abbrev S_ : Shape := ⟨0, ![]⟩
abbrev S2048x1024 : Shape := ⟨2, ![2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamOutAb.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutAbIdeal.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutAbRefIdeal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamOutCd.lean ====
abbrev S2x384x1024 : Shape := ⟨3, ![2, 384, 1024]⟩
abbrev S768x1024 : Shape := ⟨2, ![768, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutCdIdeal.lean ====
abbrev S2x384x1024 : Shape := ⟨3, ![2, 384, 1024]⟩
abbrev S768x1024 : Shape := ⟨2, ![768, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutCdRefIdeal.lean ====
abbrev S2x384x1024 : Shape := ⟨3, ![2, 384, 1024]⟩
abbrev S_ : Shape := ⟨0, ![]⟩
abbrev S768x1024 : Shape := ⟨2, ![768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S_, .f32⟩
  | .hbm, ⟨5, _⟩ => ⟨S2x384x1024, .f32⟩
  | .hbm, ⟨6, _⟩ => ⟨S2x384x1024, .f32⟩
  | .hbm, ⟨7, _⟩ => ⟨S_, .f32⟩
  | .hbm, ⟨8, _⟩ => ⟨S2x384x1024, .f32⟩
  | .hbm, ⟨9, _⟩ => ⟨S2x384x1024, .f32⟩
  | .hbm, ⟨10, _⟩ => ⟨S2x384x1024, .f32⟩
  | .hbm, ⟨11, _⟩ => ⟨S_, .f32⟩
  | .hbm, ⟨12, _⟩ => ⟨S2x384x1024, .f32⟩
  | .hbm, ⟨13, _⟩ => ⟨S2x384x1024, .f32⟩
  | .hbm, ⟨14, _⟩ => ⟨S2x384x1024, .f32⟩
  | .hbm, ⟨15, _⟩ => ⟨S_, .f32⟩
  | .hbm, ⟨16, _⟩ => ⟨S2x384x1024, .f32⟩
  | .hbm, ⟨17, _⟩ => ⟨S2x384x1024, .f32⟩
  | .hbm, ⟨18, _⟩ => ⟨S2x384x1024, .f32⟩
  | .hbm, ⟨19, _⟩ => ⟨S_, .f32⟩
  | .hbm, ⟨20, _⟩ => ⟨S2x384x1024, .f32⟩
  | .hbm, ⟨21, _⟩ => ⟨S2x384x1024, .f32⟩
  | .hbm, ⟨22, _⟩ => ⟨S_, .f32⟩
  | .hbm, ⟨23, _⟩ => ⟨S2x384x1024, .f32⟩
  | .hbm, ⟨24, _⟩ => ⟨S2x384x1024, .f32⟩
  | .hbm, ⟨25, _⟩ => ⟨S2x384x1024, .f32⟩
  | .hbm, ⟨26, _⟩ => ⟨S_, .f32⟩
  | .hbm, ⟨27, _⟩ => ⟨S2x384x1024, .f32⟩
  | .hbm, ⟨28, _⟩ => ⟨S2x384x1024, .f32⟩
  | .hbm, ⟨29, _⟩ => ⟨S2x384x1024, .f32⟩
  | .hbm, ⟨30, _⟩ => ⟨S_, .f32⟩
  | .hbm, ⟨31, _⟩ => ⟨S2x384x1024, .f32⟩
  | .hbm, ⟨32, _⟩ => ⟨S2x384x1024, .f32⟩
  | .hbm, ⟨33, _⟩ => ⟨S2x384x1024, .f32⟩
  | .hbm, ⟨34, _⟩ => ⟨S_, .f32⟩
  | .hbm, ⟨35, _⟩ => ⟨S2x384x1024, .f32⟩
  | .hbm, ⟨36, _⟩ => ⟨S2x384x1024, .f32⟩
  | .hbm, ⟨37, _⟩ => ⟨S768x1024, .f32⟩
  | .hbm, ⟨38, _⟩ => ⟨S768x1024, .f32⟩
  | .hbm, ⟨39, _⟩ => ⟨S768x1024, .f32⟩
  | .hbm, ⟨40, _⟩ => ⟨S768x1024, .f32⟩
  | _, _ => ⟨S2x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamSq.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSqIdeal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSqRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamXkv.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamXkvIdeal.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamXkvRefIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamGlu.lean ====
abbrev S2x128x512 : Shape := ⟨3, ![2, 128, 512]⟩
abbrev S256x512 : Shape := ⟨2, ![256, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S2x128x512 : Shape := ⟨3, ![2, 128, 512]⟩
abbrev S256x512 : Shape := ⟨2, ![256, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S2x128x512 : Shape := ⟨3, ![2, 128, 512]⟩
abbrev S_ : Shape := ⟨0, ![]⟩
abbrev S256x512 : Shape := ⟨2, ![256, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamPool.lean ====
abbrev S2x4x64x256 : Shape := ⟨4, ![2, 4, 64, 256]⟩
abbrev S512x256 : Shape := ⟨2, ![512, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S2x4x64x256 : Shape := ⟨4, ![2, 4, 64, 256]⟩
abbrev S_ : Shape := ⟨0, ![]⟩
abbrev S512x256 : Shape := ⟨2, ![512, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S_, .f32⟩
  | .hbm, ⟨5, _⟩ => ⟨S2x4x64x256, .f32⟩
  | .hbm, ⟨6, _⟩ => ⟨S2x4x64x256, .f32⟩
  | .hbm, ⟨7, _⟩ => ⟨S_, .f32⟩
  | .hbm, ⟨8, _⟩ => ⟨S2x4x64x256, .f32⟩
  | .hbm, ⟨9, _⟩ => ⟨S2x4x64x256, .f32⟩
  | .hbm, ⟨10, _⟩ => ⟨S2x4x64x256, .f32⟩
  | .hbm, ⟨11, _⟩ => ⟨S_, .f32⟩
  | .hbm, ⟨12, _⟩ => ⟨S2x4x64x256, .f32⟩
  | .hbm, ⟨13, _⟩ => ⟨S2x4x64x256, .f32⟩
  | .hbm, ⟨14, _⟩ => ⟨S2x4x64x256, .f32⟩
  | .hbm, ⟨15, _⟩ => ⟨S_, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S_, .f32⟩
  | .hbm, ⟨20, _⟩ => ⟨S2x4x64x256, .f32⟩
  | .hbm, ⟨21, _⟩ => ⟨S2x4x64x256, .f32⟩
  | .hbm, ⟨22, _⟩ => ⟨S_, .f32⟩
  | .hbm, ⟨23, _⟩ => ⟨S2x4x64x256, .f32⟩
  | .hbm, ⟨24, _⟩ => ⟨S2x4x64x256, .f32⟩
  | .hbm, ⟨25, _⟩ => ⟨S2x4x64x256, .f32⟩
  | .hbm, ⟨26, _⟩ => ⟨S_, .f32⟩
  | .hbm, ⟨27, _⟩ => ⟨S2x4x64x256, .f32⟩
  | .hbm, ⟨28, _⟩ => ⟨S2x4x64x256, .f32⟩
  | .hbm, ⟨29, _⟩ => ⟨S2x4x64x256, .f32⟩
  | .hbm, ⟨30, _⟩ => ⟨S_, .f32⟩
  | .hbm, ⟨31, _⟩ => ⟨S2x4x64x256, .f32⟩
  | .hbm, ⟨32, _⟩ => ⟨S2x4x64x256, .f32⟩
  | .hbm, ⟨33, _⟩ => ⟨S2x4x64x256, .f32⟩
  | .hbm, ⟨34, _⟩ => ⟨S_, .f32⟩
  | .hbm, ⟨35, _⟩ => ⟨S2x4x64x256, .f32⟩
  | .hbm, ⟨36, _⟩ => ⟨S2x4x64x256, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S512x256, .f32⟩
  | _, _ => ⟨S2x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Rms.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsFwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdIdeal.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gate.lean ====
abbrev S2048x1024 : Shape := ⟨2, ![2048, 1024]⟩
abbrev S2048x4096 : Shape := ⟨2, ![2048, 4096]⟩
abbrev S2048x1536 : Shape := ⟨2, ![2048, 1536]⟩
abbrev S2048x512 : Shape := ⟨2, ![2048, 512]⟩
abbrev S1024x512 : Shape := ⟨2, ![1024, 512]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1536, .f32⟩
  | .hbm, ⟨3, _⟩ => ⟨S2048x1024, .bf16⟩
  | .hbm, ⟨4, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S2048x1024 : Shape := ⟨2, ![2048, 1024]⟩
abbrev S2048x4096 : Shape := ⟨2, ![2048, 4096]⟩
abbrev S2048x1536 : Shape := ⟨2, ![2048, 1536]⟩
abbrev S2048x512 : Shape := ⟨2, ![2048, 512]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1536, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x1024, .f32⟩
  | .hbm, ⟨44, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v13_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v13_1 : Ref sig .tc := ⟨.hbm, 30, rfl⟩
abbrev main_v13_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Sgu.lean ====
abbrev S2048x4096 : Shape := ⟨2, ![2048, 4096]⟩
abbrev S2048x1536 : Shape := ⟨2, ![2048, 1536]⟩
abbrev S1x1024 : Shape := ⟨2, ![1, 1024]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S2048x1024 : Shape := ⟨2, ![2048, 1024]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x128 : Shape := ⟨2, ![1, 128]⟩
abbrev S128x256 : Shape := ⟨2, ![128, 256]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S2048x4096, .f32⟩
  | .hbm, ⟨1, _⟩ => ⟨S2048x1536, .f32⟩
  | .hbm, ⟨2, _⟩ => ⟨S1x1024, .f32⟩
  | .hbm, ⟨3, _⟩ => ⟨S1x1024, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S128x4x256, .f32⟩
  | .hbm, ⟨8, _⟩ => ⟨S128x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S4x128x128, .f32⟩
  | .hbm, ⟨13, _⟩ => ⟨S128x128, .f32⟩
  | .hbm, ⟨14, _⟩ => ⟨S1x1024, .f32⟩
  | .hbm, ⟨15, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S4x128x128, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S4x128x128, .f32⟩
  | .local _ .vmem, ⟨19, _⟩ => ⟨S128x128, .f32⟩
  | .local _ .vmem, ⟨20, _⟩ => ⟨S1x1024, .f32⟩
  | .local _ .vmem, ⟨21, _⟩ => ⟨S1x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SguRefIdeal.lean ====
abbrev S2048x4096 : Shape := ⟨2, ![2048, 4096]⟩
abbrev S2048x1536 : Shape := ⟨2, ![2048, 1536]⟩
abbrev S1x1024 : Shape := ⟨2, ![1, 1024]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S128x128 : Shape := ⟨2, ![128, 128]⟩
abbrev S1x128x128 : Shape := ⟨3, ![1, 128, 128]⟩
abbrev S16x128x4x256 : Shape := ⟨4, ![16, 128, 4, 256]⟩
abbrev S4x128x16x256 : Shape := ⟨4, ![4, 128, 16, 256]⟩
abbrev S4x128x4096 : Shape := ⟨3, ![4, 128, 4096]⟩
abbrev S4x128x1 : Shape := ⟨3, ![4, 128, 1]⟩
abbrev S4x4096x128 : Shape := ⟨3, ![4, 4096, 128]⟩
abbrev S1024 : Shape := ⟨1, ![1024]⟩
abbrev S128x4 : Shape := ⟨2, ![128, 4]⟩
abbrev S128x124 : Shape := ⟨2, ![128, 124]⟩

abbrev nBuf : Space → Nat
  | .hbm => 156
  | .vmem => 0
  | .smem => 0
  | _ => 0

abbrev hbmTy0_0 (i : Nat) : BufTy := match i % 128 with
  | 0 => ⟨S2048x4096, .f32⟩
  | 1 => ⟨S2048x1536, .f32⟩
  | 2 => ⟨S1x1024, .f32⟩
  | 3 => ⟨S1x1024, .f32⟩
  | 4 => ⟨S4x128x128, .f32⟩
  | 5 => ⟨S4x128, .f32⟩
  | 6 => ⟨S2048x1024, .f32⟩
  | 7 => ⟨S2048x1024, .f32⟩
  | 8 => ⟨S2048x1024, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x1024, .f32⟩
  | 28 => ⟨S2048x1024, .f32⟩
  | 29 => ⟨S_, .f32⟩
  | 30 => ⟨S2048x1, .f32⟩
  | 31 => ⟨S2048x1, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S_, .i1⟩
  | 44 => ⟨S128x128, .i1⟩
  | 45 => ⟨S128x128, .i32⟩
  | 46 => ⟨S_, .i32⟩
  | 47 => ⟨S128x128, .i32⟩
  | 48 => ⟨S128x128, .i32⟩
  | 49 => ⟨S128x128, .i32⟩
  | 50 => ⟨S128x128, .i1⟩
  | 51 => ⟨S_, .i1⟩
  | 52 => ⟨S128x128, .i1⟩
  | 53 => ⟨S128x128, .i1⟩
  | 54 => ⟨S1x128x128, .i1⟩
  | 55 => ⟨S_, .f32⟩
  | 56 => ⟨S4x128x128, .f32⟩
  | 57 => ⟨S4x128x128, .i1⟩
  | 58 => ⟨S4x128x128, .f32⟩
  | 59 => ⟨S_, .f32⟩
  | 60 => ⟨S4x128x128, .f32⟩
  | 61 => ⟨S16x128x4x256, .f32⟩
  | 62 => ⟨S4x128x16x256, .f32⟩
  | 63 => ⟨S4x128x4096, .f32⟩
  | 64 => ⟨S4x128x4096, .f32⟩
  | 65 => ⟨S4x128x1, .f32⟩
  | 66 => ⟨S4x128x4096, .f32⟩
  | 67 => ⟨S4x128x4096, .f32⟩
  | 68 => ⟨S4x128x16x256, .f32⟩
  | 69 => ⟨S16x128x4x256, .f32⟩
  | 70 => ⟨S2048x1024, .f32⟩
  | 71 => ⟨S2048x1024, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S16x128x4x256, .f32⟩
  | 96 => ⟨S4x128x16x256, .f32⟩
  | 97 => ⟨S4x128x4096, .f32⟩
  | 98 => ⟨S_, .f32⟩
  | 99 => ⟨S4x128, .f32⟩
  | 100 => ⟨S4x128x1, .f32⟩
  | 101 => ⟨S_, .f32⟩
  | 102 => ⟨S4x128, .f32⟩
  | 103 => ⟨S4x4096x128, .f32⟩
  | 104 => ⟨S4x128x4096, .f32⟩
  | 105 => ⟨S4x128x128, .f32⟩
  | 106 => ⟨S4x128x16x256, .f32⟩
  | 107 => ⟨S16x128x4x256, .f32⟩
  | 108 => ⟨S2048x1024, .f32⟩
  | 109 => ⟨S_, .f32⟩
  | 110 => ⟨S4x128x128, .f32⟩
  | 111 => ⟨S4x128x128, .f32⟩
  | 112 => ⟨S_, .f32⟩
  | 113 => ⟨S1024, .f32⟩
  | 114 => ⟨S1x1024, .f32⟩
  | 115 => ⟨S2048x1024, .f32⟩
  | 116 => ⟨S_, .f32⟩
  | 117 => ⟨S1024, .f32⟩
  | 118 => ⟨S1x1024, .f32⟩
  | 119 => ⟨S2048x1024, .f32⟩
  | 120 => ⟨S2048x1024, .f32⟩
  | 121 => ⟨S2048x1024, .f32⟩
  | 122 => ⟨S_, .f32⟩
  | 123 => ⟨S2048, .f32⟩
  | 124 => ⟨S2048x1, .f32⟩
  | 125 => ⟨S2048x1024, .f32⟩
  | 126 => ⟨S2048x1024, .f32⟩
  | 127 => ⟨S2048x1, .f32⟩
  | _ => ⟨S2048x4096, .f32⟩

abbrev hbmTy0_1 (i : Nat) : BufTy := match i % 128 with
  | 0 => ⟨S2048x1024, .f32⟩
  | 1 => ⟨S_, .f32⟩
  | 2 => ⟨S2048, .f32⟩
  | 3 => ⟨S2048x1, .f32⟩
  | 4 => ⟨S_, .f32⟩
  | 5 => ⟨S2048x1, .f32⟩
  | 6 => ⟨S2048x1, .f32⟩
  | 7 => ⟨S_, .f32⟩
  | 8 => ⟨S2048, .f32⟩
  | 9 => ⟨S2048x1024, .f32⟩
  | 10 => ⟨S2048x1024, .f32⟩
  | 11 => ⟨S2048x1024, .f32⟩
  | 12 => ⟨S_, .f32⟩
  | 13 => ⟨S2048, .f32⟩
  | 14 => ⟨S2048x1, .f32⟩
  | 15 => ⟨S2048x1024, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048, .f32⟩
  | 22 => ⟨S2048x1024, .f32⟩
  | 23 => ⟨S2048x1024, .f32⟩
  | 24 => ⟨S128x4, .f32⟩
  | 25 => ⟨S_, .f32⟩
  | 26 => ⟨S128x124, .f32⟩
  | 27 => ⟨S128x128, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34_1 : Ref sig .tc := ⟨.hbm, 57, rfl⟩
abbrev main_v34_0 : Ref sig .tc := ⟨.hbm, 58, rfl⟩
abbrev main_call1_cst : Ref sig .tc := ⟨.hbm, 59, rfl⟩
abbrev main_v34_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_v46_2 : Ref sig .tc := ⟨.hbm, 79, rfl⟩
abbrev main_call2_cst_1 : Ref sig .tc := ⟨.hbm, 80, rfl⟩
abbrev main_call2_v6 : Ref sig .tc := ⟨.hbm, 81, rfl⟩
abbrev main_call2_v7 : Ref sig .tc := ⟨.hbm, 82, rfl⟩
abbrev main_v46_1 : Ref sig .tc := ⟨.hbm, 83, rfl⟩
abbrev main_v46_0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_7 : Ref sig .tc := ⟨.hbm, 98, rfl⟩
abbrev main_v57 : Ref sig .tc := ⟨.hbm, 99, rfl⟩
abbrev main_v58 : Ref sig .tc := ⟨.hbm, 100, rfl⟩
abbrev main_cst_8 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call4_cst : Ref sig .tc := ⟨.hbm, 109, rfl⟩
abbrev main_call4_v0 : Ref sig .tc := ⟨.hbm, 110, rfl⟩
abbrev main_v66 : Ref sig .tc := ⟨.hbm, 111, rfl⟩
abbrev main_cst_9 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_10 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_11 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_12 : Ref sig .tc := ⟨.hbm, 129, rfl⟩
abbrev main_v81 : Ref sig .tc := ⟨.hbm, 130, rfl⟩
abbrev main_v82 : Ref sig .tc := ⟨.hbm, 131, rfl⟩
abbrev main_cst_13 : Ref sig .tc := ⟨.hbm, 132, rfl⟩
abbrev main_v83 : Ref sig .tc := ⟨.hbm, 133, rfl⟩
abbrev main_v84 : Ref sig .tc := ⟨.hbm, 134, rfl⟩
abbrev main_cst_14 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_15 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_16 : Ref sig .tc := ⟨.hbm, 145, rfl⟩
abbrev main_v93 : Ref sig .tc := ⟨.hbm, 146, rfl⟩
abbrev main_v94 : Ref sig .tc := ⟨.hbm, 147, rfl⟩
abbrev main_cst_17 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_18 : Ref sig .tc := ⟨.hbm, 153, rfl⟩
abbrev main_v99 : Ref sig .tc := ⟨.hbm, 154, rfl⟩
abbrev main_v100 : Ref sig .tc := ⟨.hbm, 155, rfl⟩

abbrev nD : Nat := 1
abbrev τ : Topo := Topo.v7x

variable {F : FTy → Type} [FloatOps F]
-- ==== Pool.lean ====
abbrev S2048x6144 : Shape := ⟨2, ![2048, 6144]⟩
abbrev S2048x2048 : Shape := ⟨2, ![2048, 2048]⟩
abbrev S4x256x256 : Shape := ⟨3, ![4, 256, 256]⟩
abbrev S1x1024 : Shape := ⟨2, ![1, 1024]⟩
abbrev S2048x1024 : Shape := ⟨2, ![2048, 1024]⟩
abbrev S2048x256 : Shape := ⟨2, ![2048, 256]⟩
abbrev S1x256x256 : Shape := ⟨3, ![1, 256, 256]⟩
abbrev S1x256 : Shape := ⟨2, ![1, 256]⟩
abbrev S2048x1 : Shape := ⟨2, ![2048, 1]⟩
abbrev S256x256 : Shape := ⟨2, ![256, 256]⟩
abbrev S256 : Shape := ⟨1, ![256]⟩

abbrev nBuf : Space → Nat
  | .hbm => 8
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S4x256x256, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S4x256x256, .f32⟩
  | .hbm, ⟨7, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256x256, .f32⟩
  | .local _ .vmem, ⟨7, _⟩ => ⟨S1x256x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S1x256x256, .f32⟩
  | .local _ .vmem, ⟨15, _⟩ => ⟨S1x256x256, .f32⟩
  | .local _ .vmem, ⟨16, _⟩ => ⟨S1x256, .f32⟩
  | .local _ .vmem, ⟨17, _⟩ => ⟨S1x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S2048x6144 : Shape := ⟨2, ![2048, 6144]⟩
abbrev S2048x2048 : Shape := ⟨2, ![2048, 2048]⟩
abbrev S4x256x256 : Shape := ⟨3, ![4, 256, 256]⟩
abbrev S1x1024 : Shape := ⟨2, ![1, 1024]⟩
abbrev S2048x1024 : Shape := ⟨2, ![2048, 1024]⟩
abbrev S2048x4x256 : Shape := ⟨3, ![2048, 4, 256]⟩
abbrev S4x2048x256 : Shape := ⟨3, ![4, 2048, 256]⟩
abbrev S4x2048x2048 : Shape := ⟨3, ![4, 2048, 2048]⟩
abbrev S_ : Shape := ⟨0, ![]⟩
abbrev S4x2048x1 : Shape := ⟨3, ![4, 2048, 1]⟩
abbrev S1024 : Shape := ⟨1, ![1024]⟩
abbrev S4x256x2048 : Shape := ⟨3, ![4, 256, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S4x256x256, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x4x256, .f32⟩
  | .hbm, ⟨7, _⟩ => ⟨S4x2048x256, .f32⟩
  | .hbm, ⟨8, _⟩ => ⟨S4x2048x2048, .i32⟩
  | .hbm, ⟨9, _⟩ => ⟨S4x2048x2048, .i32⟩
  | .hbm, ⟨10, _⟩ => ⟨S4x2048x2048, .i32⟩
  | .hbm, ⟨11, _⟩ => ⟨S_, .i32⟩
  | .hbm, ⟨12, _⟩ => ⟨S4x2048x2048, .i32⟩
  | .hbm, ⟨13, _⟩ => ⟨S4x2048x2048, .i1⟩
  | .hbm, ⟨14, _⟩ => ⟨S_, .i32⟩
  | .hbm, ⟨15, _⟩ => ⟨S4x2048x2048, .i32⟩
  | .hbm, ⟨16, _⟩ => ⟨S4x2048x2048, .i1⟩
  | .hbm, ⟨17, _⟩ => ⟨S_, .i32⟩
  | .hbm, ⟨18, _⟩ => ⟨S4x2048x2048, .i32⟩
  | .hbm, ⟨19, _⟩ => ⟨S4x2048x2048, .i1⟩
  | .hbm, ⟨20, _⟩ => ⟨S_, .i32⟩
  | .hbm, ⟨21, _⟩ => ⟨S_, .i32⟩
  | .hbm, ⟨22, _⟩ => ⟨S4x2048x2048, .i32⟩
  | .hbm, ⟨23, _⟩ => ⟨S4x2048x2048, .i32⟩
  | .hbm, ⟨24, _⟩ => ⟨S4x2048x2048, .i32⟩
  | .hbm, ⟨25, _⟩ => ⟨S_, .i32⟩
  | .hbm, ⟨26, _⟩ => ⟨S4x2048x2048, .i32⟩
  | .hbm, ⟨27, _⟩ => ⟨S4x2048x2048, .i32⟩
  | .hbm, ⟨28, _⟩ => ⟨S_, .i32⟩
  | .hbm, ⟨29, _⟩ => ⟨S4x2048x2048, .i32⟩
  | .hbm, ⟨30, _⟩ => ⟨S4x2048x2048, .i32⟩
  | .hbm, ⟨31, _⟩ => ⟨S4x2048x2048, .i1⟩
  | .hbm, ⟨32, _⟩ => ⟨S4x2048x2048, .i32⟩
  | .hbm, ⟨33, _⟩ => ⟨S4x2048x2048, .i32⟩
  | .hbm, ⟨34, _⟩ => ⟨S4x2048x2048, .i1⟩
  | .hbm, ⟨35, _⟩ => ⟨S4x2048x2048, .i1⟩
  | .hbm, ⟨36, _⟩ => ⟨S4x2048x2048, .f32⟩
  | .hbm, ⟨37, _⟩ => ⟨S_, .i32⟩
  | .hbm, ⟨38, _⟩ => ⟨S4x2048x2048, .i32⟩
  | .hbm, ⟨39, _⟩ => ⟨S4x2048x2048, .i32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x1, .f32⟩
  | .hbm, ⟨44, _⟩ => ⟨S4x2048x256, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S4x2048x256, .f32⟩
  | .hbm, ⟨49, _⟩ => ⟨S2048x4x256, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S2048x4x256, .f32⟩
  | .hbm, ⟨81, _⟩ => ⟨S4x2048x256, .f32⟩
  | .hbm, ⟨82, _⟩ => ⟨S4x256x256, .f32⟩
  | .hbm, ⟨83, _⟩ => ⟨S4x256x256, .f32⟩
  | .hbm, ⟨84, _⟩ => ⟨S4x2048x256, .f32⟩
  | .hbm, ⟨85, _⟩ => ⟨S4x2048x256, .f32⟩
  | .hbm, ⟨86, _⟩ => ⟨S4x2048x256, .f32⟩
  | .hbm, ⟨87, _⟩ => ⟨S4x2048x256, .f32⟩
  | .hbm, ⟨88, _⟩ => ⟨S4x256x2048, .f32⟩
  | .hbm, ⟨89, _⟩ => ⟨S4x2048x256, .f32⟩
  | .hbm, ⟨90, _⟩ => ⟨S4x2048x256, .f32⟩
  | .hbm, ⟨91, _⟩ => ⟨S2048x4x256, .f32⟩
  | .hbm, ⟨92, _⟩ => ⟨S2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c_4 : Ref sig .tc := ⟨.hbm, 25, rfl⟩
abbrev main_call1_v0 : Ref sig .tc := ⟨.hbm, 26, rfl⟩
abbrev main_v14 : Ref sig .tc := ⟨.hbm, 27, rfl⟩
abbrev main_c_5 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_v37_2 : Ref sig .tc := ⟨.hbm, 60, rfl⟩
abbrev main_call3_cst_1 : Ref sig .tc := ⟨.hbm, 61, rfl⟩
abbrev main_call3_v6 : Ref sig .tc := ⟨.hbm, 62, rfl⟩
abbrev main_call3_v7 : Ref sig .tc := ⟨.hbm, 63, rfl⟩
abbrev main_v37_1 : Ref sig .tc := ⟨.hbm, 64, rfl⟩
abbrev main_v37_0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v42 : Ref sig .tc := ⟨.hbm, 73, rfl⟩
abbrev main_v43 : Ref sig .tc := ⟨.hbm, 74, rfl⟩
abbrev main_cst : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== PoolFwd.lean ====
abbrev S2048x6144 : Shape := ⟨2, ![2048, 6144]⟩
abbrev S4x256x256 : Shape := ⟨3, ![4, 256, 256]⟩
abbrev S1x1024 : Shape := ⟨2, ![1, 1024]⟩
abbrev S2048x2048 : Shape := ⟨2, ![2048, 2048]⟩
abbrev S2048x256 : Shape := ⟨2, ![2048, 256]⟩
abbrev S1x256x256 : Shape := ⟨3, ![1, 256, 256]⟩
abbrev S1x256 : Shape := ⟨2, ![1, 256]⟩
abbrev S2048x1 : Shape := ⟨2, ![2048, 1]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x6144, .f32⟩
  | .hbm, ⟨1, _⟩ => ⟨S4x256x256, .f32⟩
  | .hbm, ⟨2, _⟩ => ⟨S1x1024, .f32⟩
  | .hbm, ⟨3, _⟩ => ⟨S2048x2048, .bf16⟩
  | .hbm, ⟨4, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S2048x6144 : Shape := ⟨2, ![2048, 6144]⟩
abbrev S4x256x256 : Shape := ⟨3, ![4, 256, 256]⟩
abbrev S1x1024 : Shape := ⟨2, ![1, 1024]⟩
abbrev S2048x2048 : Shape := ⟨2, ![2048, 2048]⟩
abbrev S2048x1024 : Shape := ⟨2, ![2048, 1024]⟩
abbrev S2048x4x256 : Shape := ⟨3, ![2048, 4, 256]⟩
abbrev S4x2048x256 : Shape := ⟨3, ![4, 2048, 256]⟩
abbrev S4x2048x2048 : Shape := ⟨3, ![4, 2048, 2048]⟩
abbrev S_ : Shape := ⟨0, ![]⟩
abbrev S4x2048x1 : Shape := ⟨3, ![4, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x256x256, .f32⟩
  | .hbm, ⟨2, _⟩ => ⟨S1x1024, .f32⟩
  | .hbm, ⟨3, _⟩ => ⟨S2048x2048, .bf16⟩
  | .hbm, ⟨4, _⟩ => ⟨S2048x1024, .f32⟩
  | .hbm, ⟨5, _⟩ => ⟨S2048x4x256, .f32⟩
  | .hbm, ⟨6, _⟩ => ⟨S4x2048x256, .f32⟩
  | .hbm, ⟨7, _⟩ => ⟨S4x2048x2048, .i32⟩
  | .hbm, ⟨8, _⟩ => ⟨S4x2048x2048, .i32⟩
  | .hbm, ⟨9, _⟩ => ⟨S4x2048x2048, .i32⟩
  | .hbm, ⟨10, _⟩ => ⟨S_, .i32⟩
  | .hbm, ⟨11, _⟩ => ⟨S4x2048x2048, .i32⟩
  | .hbm, ⟨12, _⟩ => ⟨S4x2048x2048, .i1⟩
  | .hbm, ⟨13, _⟩ => ⟨S_, .i32⟩
  | .hbm, ⟨14, _⟩ => ⟨S4x2048x2048, .i32⟩
  | .hbm, ⟨15, _⟩ => ⟨S4x2048x2048, .i1⟩
  | .hbm, ⟨16, _⟩ => ⟨S_, .i32⟩
  | .hbm, ⟨17, _⟩ => ⟨S4x2048x2048, .i32⟩
  | .hbm, ⟨18, _⟩ => ⟨S4x2048x2048, .i1⟩
  | .hbm, ⟨19, _⟩ => ⟨S_, .i32⟩
  | .hbm, ⟨20, _⟩ => ⟨S_, .i32⟩
  | .hbm, ⟨21, _⟩ => ⟨S4x2048x2048, .i32⟩
  | .hbm, ⟨22, _⟩ => ⟨S4x2048x2048, .i32⟩
  | .hbm, ⟨23, _⟩ => ⟨S4x2048x2048, .i32⟩
  | .hbm, ⟨24, _⟩ => ⟨S_, .i32⟩
  | .hbm, ⟨25, _⟩ => ⟨S4x2048x2048, .i32⟩
  | .hbm, ⟨26, _⟩ => ⟨S4x2048x2048, .i32⟩
  | .hbm, ⟨27, _⟩ => ⟨S_, .i32⟩
  | .hbm, ⟨28, _⟩ => ⟨S4x2048x2048, .i32⟩
  | .hbm, ⟨29, _⟩ => ⟨S4x2048x2048, .i32⟩
  | .hbm, ⟨30, _⟩ => ⟨S4x2048x2048, .i1⟩
  | .hbm, ⟨31, _⟩ => ⟨S4x2048x2048, .i32⟩
  | .hbm, ⟨32, _⟩ => ⟨S4x2048x2048, .i32⟩
  | .hbm, ⟨33, _⟩ => ⟨S4x2048x2048, .i1⟩
  | .hbm, ⟨34, _⟩ => ⟨S4x2048x2048, .i1⟩
  | .hbm, ⟨35, _⟩ => ⟨S4x2048x2048, .f32⟩
  | .hbm, ⟨36, _⟩ => ⟨S_, .i32⟩
  | .hbm, ⟨37, _⟩ => ⟨S4x2048x2048, .i32⟩
  | .hbm, ⟨38, _⟩ => ⟨S4x2048x2048, .i32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S2048x4x256, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .bf16⟩
  | .hbm, ⟨64, _⟩ => ⟨S2048x1024, .bf16⟩
  | .hbm, ⟨65, _⟩ => ⟨S2048x2048, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c_4 : Ref sig .tc := ⟨.hbm, 24, rfl⟩
abbrev main_call1_v0 : Ref sig .tc := ⟨.hbm, 25, rfl⟩
abbrev main_v13 : Ref sig .tc := ⟨.hbm, 26, rfl⟩
abbrev main_c_5 : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== SguFwd.lean ====
abbrev S2048x4096 : Shape := ⟨2, ![2048, 4096]⟩
abbrev S1x1024 : Shape := ⟨2, ![1, 1024]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S2048x1024 : Shape := ⟨2, ![2048, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 9
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x256, .f32⟩
  | .hbm, ⟨7, _⟩ => ⟨S128x1024, .f32⟩
  | .hbm, ⟨8, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdRefIdeal.lean ====
abbrev S2048x4096 : Shape := ⟨2, ![2048, 4096]⟩
abbrev S1x1024 : Shape := ⟨2, ![1, 1024]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S128x128 : Shape := ⟨2, ![128, 128]⟩
abbrev S1x128x128 : Shape := ⟨3, ![1, 128, 128]⟩
abbrev S16x128x4x256 : Shape := ⟨4, ![16, 128, 4, 256]⟩
abbrev S4x128x16x256 : Shape := ⟨4, ![4, 128, 16, 256]⟩
abbrev S4x128x4096 : Shape := ⟨3, ![4, 128, 4096]⟩
abbrev S4x128x1 : Shape := ⟨3, ![4, 128, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .i1⟩
  | .hbm, ⟨35, _⟩ => ⟨S128x128, .i1⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S_, .i1⟩
  | .hbm, ⟨43, _⟩ => ⟨S128x128, .i1⟩
  | .hbm, ⟨44, _⟩ => ⟨S128x128, .i1⟩
  | .hbm, ⟨45, _⟩ => ⟨S1x128x128, .i1⟩
  | .hbm, ⟨46, _⟩ => ⟨S_, .f32⟩
  | .hbm, ⟨47, _⟩ => ⟨S4x128x128, .f32⟩
  | .hbm, ⟨48, _⟩ => ⟨S4x128x128, .i1⟩
  | .hbm, ⟨49, _⟩ => ⟨S4x128x128, .f32⟩
  | .hbm, ⟨50, _⟩ => ⟨S16x128x4x256, .f32⟩
  | .hbm, ⟨51, _⟩ => ⟨S4x128x16x256, .f32⟩
  | .hbm, ⟨52, _⟩ => ⟨S4x128x4096, .f32⟩
  | .hbm, ⟨53, _⟩ => ⟨S4x128x4096, .f32⟩
  | .hbm, ⟨54, _⟩ => ⟨S4x128x1, .f32⟩
  | .hbm, ⟨55, _⟩ => ⟨S4x128x4096, .f32⟩
  | .hbm, ⟨56, _⟩ => ⟨S4x128x4096, .f32⟩
  | .hbm, ⟨57, _⟩ => ⟨S4x128x16x256, .f32⟩
  | .hbm, ⟨58, _⟩ => ⟨S16x128x4x256, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]
-- ==== GluFwd.lean ====
abbrev S2048x1024 : Shape := ⟨2, ![2048, 1024]⟩
abbrev S2048x4096 : Shape := ⟨2, ![2048, 4096]⟩
abbrev S2048x1536 : Shape := ⟨2, ![2048, 1536]⟩
abbrev S1024x512 : Shape := ⟨2, ![1024, 512]⟩
abbrev S1024x1024 : Shape := ⟨2, ![1024, 1024]⟩
abbrev S1024x1536 : Shape := ⟨2, ![1024, 1536]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x1536, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x1536, .bf16⟩
  | .local _ .vmem, ⟨9, _⟩ => ⟨S1024x1536, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdRefIdeal.lean ====
abbrev S2048x1024 : Shape := ⟨2, ![2048, 1024]⟩
abbrev S2048x4096 : Shape := ⟨2, ![2048, 4096]⟩
abbrev S2048x512 : Shape := ⟨2, ![2048, 512]⟩
abbrev S_ : Shape := ⟨0, ![]⟩
abbrev S2048x1536 : Shape := ⟨2, ![2048, 1536]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .bf16⟩
  | .hbm, ⟨26, _⟩ => ⟨S2048x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proof.Reals.lean ====
/-
  Reading operations of the ideal instance at finite values (hand-written, untrusted).

  A claim at the ideal instance is about extended reals. When every argument is finite the kernels and the references
  stay among the real numbers, and this module says so operation by operation: sums, contractions, reductions, maxima,
  quotients and constants of real values are the real numbers one expects. Arrays are read as real functions of natural
  coordinates, so that a block of an array is the same function at shifted coordinates.
-/
module

public import Idealize.ShloMosaic.Lib.Pipeline.Value
public import Idealize.ShloMosaic.Lib.ValueIdx
public import Idealize.ShloMosaic.Lib.ValueIdxCore
public import Idealize.ShloMosaic.Lib.IdealHost
public import Idealize.ShloMosaic.PureOps.Ideal.Laws

@[expose] public section

noncomputable section

namespace Cert.Reals

open Idealize.ShloMosaic Idealize.ShloMosaic.ValueIdx

/-- A finite sum of real values is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A sum over `n` indices of values that are a real function of the index's number is that function's sum over
    `0 … n-1`. -/
theorem sum_fin_coe {n : ℕ} (g : Fin n → EReal) (f : ℕ → ℝ) (h : ∀ k, g k = ((f k.val : ℝ) : EReal)) :
    ∑ k, g k = ((∑ k ∈ Finset.range n, f k : ℝ) : EReal) := by
  rw [Finset.sum_range, ← sum_coe]
  exact Finset.sum_congr rfl fun k _ => h k

/-- A one-axis contraction of operands that read as real functions of the contracted coordinate is the real sum of
    products. -/
theorem dot_coe {sl sr so : Shape} (D : DotDims sl sr so) (n : ℕ) (hr : D.contr.rank = 1)
    (hs : D.contr.size ⟨0, by omega⟩ = n) (lhs : sl.Idx → EReal) (rhs : sr.Idx → EReal) (j : so.Idx) (A B : ℕ → ℝ)
    (hA : ∀ k : D.contr.Idx, lhs (D.lhsIdx j k) = ((A (k ⟨0, by omega⟩).val : ℝ) : EReal))
    (hB : ∀ k : D.contr.Idx, rhs (D.rhsIdx j k) = ((B (k ⟨0, by omega⟩).val : ℝ) : EReal)) :
    ∑ k : D.contr.Idx, lhs (D.lhsIdx j k) * rhs (D.rhsIdx j k) = ((∑ k ∈ Finset.range n, A k * B k : ℝ) : EReal) := by
  rw [← Equiv.sum_comp (contrEquiv1 D n hr hs).symm]
  refine sum_fin_coe _ (fun k => A k * B k) fun k => ?_
  rw [hA, hB, contrEquiv1_symm_val D n hr hs k, EReal.coe_mul]

/-- The maximum of at least one real value and of `-∞` is a real value. -/
theorem fold_max_coe {n : ℕ} (hn : 0 < n) (g : Fin n → EReal) (h : ∀ k, ∃ r : ℝ, g k = (r : EReal)) :
    ∃ M : ℝ, (Finset.univ : Finset (Fin n)).fold max (⊥ : EReal) g = (M : EReal) := by
  choose f hf using h
  have hg : g = fun k => ((f k : ℝ) : EReal) := funext hf
  subst hg
  have key : ∀ s : Finset (Fin n), s.fold max (⊥ : EReal) (fun k => ((f k : ℝ) : EReal)) = ⊥ ∧ s = ∅
      ∨ ∃ M : ℝ, s.fold max (⊥ : EReal) (fun k => ((f k : ℝ) : EReal)) = (M : EReal) := by
    intro s
    induction s using Finset.induction_on with
    | empty => left; simp
    | insert a s h ih =>
      right
      rw [Finset.fold_insert h]
      rcases ih with ⟨ih, _⟩ | ⟨M, ih⟩
      · exact ⟨f a, by rw [ih]; simp⟩
      · exact ⟨max (f a) M, by rw [ih]; exact (EReal.coe_strictMono.monotone.map_max).symm⟩
  rcases key Finset.univ with ⟨_, h0⟩ | h
  · exact absurd h0 (Finset.univ_nonempty_iff.mpr ⟨⟨0, hn⟩⟩).ne_empty
  · exact h

/-- The quotient of two real values with a nonzero denominator is the real quotient. -/
theorem div_coe_coe (x : ℝ) {y : ℝ} (h : y ≠ 0) : Ideal.div (x : EReal) (y : EReal) = ((x / y : ℝ) : EReal) := by
  rw [Ideal.div_coe h, ← EReal.coe_mul]; congr 1; ring

/-- The exponential of a real value is the real exponential. -/
theorem exp_coe (x : ℝ) : Ideal.exp (x : EReal) = ((Real.exp x : ℝ) : EReal) := rfl

/-- The single-precision word of one sixteenth. -/
theorem ofBits_sixteenth : Ideal.ofBits .f32 0x3D800000#32 = (((1 : ℝ) / 16 : ℝ) : EReal) := by
  simp [Ideal.ofBits, Ideal.ieee, -EReal.coe_mul]; norm_num

/-- The single-precision word of one. -/
theorem ofBits_one : Ideal.ofBits .f32 0x3F800000#32 = ((1 : ℝ) : EReal) := by
  simp [Ideal.ofBits, Ideal.ieee, -EReal.coe_mul]; norm_num

/-- The single-precision word of minus infinity. -/
theorem ofBits_neg_inf : Ideal.ofBits .f32 0xFF800000#32 = ⊥ := by
  simp [Ideal.ofBits, Ideal.ieee]

/-- The single-precision word of infinity. -/
theorem ofBits_inf : Ideal.ofBits .f32 0x7F800000#32 = ⊤ := by
  simp [Ideal.ofBits, Ideal.ieee]

/-- A value whose magnitude compares less than infinity is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  change Ideal.cmp .olt (max x (-x)) ⊤ = 1#1 at h
  induction x using EReal.rec with
  | bot => exact absurd h (by simp [Ideal.cmp])
  | coe r => exact ⟨r, rfl⟩
  | top => exact absurd h (by simp [Ideal.cmp])

/-- An array of real numbers whose indices are told apart by two naturals is a function of those two. -/
theorem reals_of_two {I : Type} (p q : I → ℕ) (inj : ∀ i j, p i = p j → q i = q j → i = j) (x : I → EReal)
    (h : ∀ i, ∃ r : ℝ, x i = (r : EReal)) : ∃ Q : ℕ → ℕ → ℝ, ∀ i, x i = ((Q (p i) (q i) : ℝ) : EReal) := by
  classical
  refine ⟨fun a b => if e : ∃ i, p i = a ∧ q i = b then (x e.choose).toReal else 0, fun i => ?_⟩
  have e : ∃ j, p j = p i ∧ q j = q i := ⟨i, rfl, rfl⟩
  have hj : e.choose = i := inj _ _ e.choose_spec.1 e.choose_spec.2
  obtain ⟨r, hr⟩ := h i
  show x i = ((if e : ∃ j, p j = p i ∧ q j = q i then (x e.choose).toReal else 0 : ℝ) : EReal)
  rw [dif_pos e, hj, hr, EReal.toReal_coe]

end Cert.Reals

end
-- ==== Proof.Xattn.Math.lean ====
/-
  The gradient of the memory cross-attention over the real numbers (hand-written, untrusted).

  One query row against one head's keys and values: the scores, the attention weights, the weights' gradient, and the
  scores' gradient. Both programs are shown to compute these functions; nothing here mentions either.
-/
module

public import proofs.«01_k».proof.Proof.Reals

@[expose] public section

noncomputable section

namespace Cert.Xattn.Math

open Finset

/-- The score of a query row `q` against key `m`: their inner product over the head's 256 channels, scaled by 1/16. -/
def score (q : ℕ → ℝ) (K : ℕ → ℕ → ℝ) (m : ℕ) : ℝ := (∑ k ∈ range 256, q k * K m k) * (1 / 16)

/-- The sum of the exponentiated scores of a query row. -/
def total (q : ℕ → ℝ) (K : ℕ → ℕ → ℝ) : ℝ := ∑ m ∈ range 256, Real.exp (score q K m)

/-- The attention weight of key `m`. -/
def prob (q : ℕ → ℝ) (K : ℕ → ℕ → ℝ) (m : ℕ) : ℝ := Real.exp (score q K m) / total q K

/-- The gradient of the attention weight of key `m`: the inner product of the output's gradient with value `m`. -/
def dprob (d : ℕ → ℝ) (V : ℕ → ℕ → ℝ) (m : ℕ) : ℝ := ∑ k ∈ range 256, d k * V m k

/-- The gradient of the unscaled score of key `m`, the softmax's Jacobian applied to the weights' gradient. -/
def dscore (q d : ℕ → ℝ) (K V : ℕ → ℕ → ℝ) (m : ℕ) : ℝ :=
  prob q K m * (dprob d V m - ∑ n ∈ range 256, prob q K n * dprob d V n) * (1 / 16)

theorem total_pos (q : ℕ → ℝ) (K : ℕ → ℕ → ℝ) : 0 < total q K :=
  sum_pos (fun _ _ => Real.exp_pos _) (by simp)

/-- Shifting every score of a row by the same number does not change the sum of exponentials but by a factor. -/
theorem sum_exp_shift (s : ℕ → ℝ) (n : ℕ) (M : ℝ) :
    ∑ m ∈ range n, Real.exp (s m - M) = (∑ m ∈ range n, Real.exp (s m)) * Real.exp (-M) := by
  rw [sum_mul]
  exact sum_congr rfl fun m _ => by rw [← Real.exp_add]; ring_nf

/-- The attention weight is unchanged when a number is subtracted from every score of the row. -/
theorem prob_shift (q : ℕ → ℝ) (K : ℕ → ℕ → ℝ) (M : ℝ) (m : ℕ) :
    Real.exp (score q K m - M) / ∑ n ∈ range 256, Real.exp (score q K n - M) = prob q K m := by
  rw [sum_exp_shift, prob, ← show total q K = ∑ n ∈ range 256, Real.exp (score q K n) from rfl, sub_eq_add_neg, Real.exp_add,
    mul_div_mul_right _ _ (Real.exp_pos _).ne']

/-- The row's scores' gradient, the head being the one that owns channels `o … o+255`. -/
def dscoreAt (Q D KV : ℕ → ℕ → ℝ) (o i m : ℕ) : ℝ :=
  dscore (fun k => Q i (o + k)) (fun k => D i (o + k)) (fun n k => KV n (o + k)) (fun n k => KV n (1024 + o + k)) m

/-- The row's attention weights, the head being the one that owns channels `o … o+255`. -/
def probAt (Q KV : ℕ → ℕ → ℝ) (o i m : ℕ) : ℝ := prob (fun k => Q i (o + k)) (fun n k => KV n (o + k)) m

/-- The first channel of the head that owns channel `j`. -/
def headOf (j : ℕ) : ℕ := j / 256 * 256

/-- The gradient of the queries. -/
def dq (Q D KV : ℕ → ℕ → ℝ) (i j : ℕ) : ℝ := ∑ m ∈ range 256, dscoreAt Q D KV (headOf j) i m * KV m j

/-- The gradient of the keys, summed over the query rows `a … a+n-1`. -/
def dk (Q D KV : ℕ → ℕ → ℝ) (a n m j : ℕ) : ℝ := ∑ i ∈ range n, dscoreAt Q D KV (headOf j) (a + i) m * Q (a + i) j

/-- The gradient of the values, summed over the query rows `a … a+n-1`. -/
def dv (Q D KV : ℕ → ℕ → ℝ) (a n m j : ℕ) : ℝ := ∑ i ∈ range n, probAt Q KV (headOf j) (a + i) m * D (a + i) j

/-- The gradient of the keys beside that of the values, as the array stores them. -/
def dkv (Q D KV : ℕ → ℕ → ℝ) (a n m j : ℕ) : ℝ := if j < 1024 then dk Q D KV a n m j else dv Q D KV a n m (j - 1024)

/-- The sums over two runs of rows add up to the sum over both. -/
theorem dkv_add (Q D KV : ℕ → ℕ → ℝ) (n n' m j : ℕ) :
    dkv Q D KV 0 n m j + dkv Q D KV n n' m j = dkv Q D KV 0 (n + n') m j := by
  unfold dkv dk dv
  split_ifs <;> simp [sum_range_add]

end Cert.Xattn.Math

end
-- ==== Proof.Xattn.Head.lean ====
/-
  What the cross-attention gradient's kernel computes for one head of one block of query rows (hand-written, untrusted).

  The kernel's text repeats the same operations once per head. Each repetition is, by definition, the same function of
  its loaded blocks, and for finite blocks that function is the real one of `Xattn/Math.lean`.
-/
module

public import proofs.«01_k».proof.Proof.Xattn.Math
public import proofs.«01_k».proof.Proof.Gen.XattnIdeal.Skeleton

@[expose] public section

set_option backward.isDefEq.respectTransparency.types false
set_option backward.isDefEq.respectTransparency false

noncomputable section

namespace Cert.Xattn.Head

open Idealize.ShloMosaic Idealize.ShloMosaic.ValueIdx Cert.XattnIdeal Cert.XattnIdeal.Gen Cert.Reals Cert.Xattn.Math Finset

/-- A row statistic spread back over the row's 256 columns. -/
theorem spread_apply (v : FVec Ideal S1024 .f32) (j : S1024x256.Idx) :
    broadcastTo S1024x256 (shapeCast S1024x1 v shapeCasts_S1024_S1024x1) broadcasts_S1024x1_S1024x256 j = v (ix1 (j 0)) := by
  rw [broadcastTo_apply _ _ j (ix2 (j 0) 0)]
  · refine shapeCast_apply _ _ _ (ix1 (j 0)) ?_
    rw [Shape.rowMajor_val_one, Shape.rowMajor_val_two]
    show (j 0).val = (j 0).val * 1 + 0
    omega
  · intro a
    match a with
    | ⟨0, _⟩ => rfl
    | ⟨1, _⟩ => rfl

/-- A row's sum of finite values. -/
theorem row_sum (v : FVec Ideal S1024x256 .f32) (f : ℕ → ℝ) (i : Fin 1024)
    (h : ∀ m : Fin 256, v (ix2 i m) = ((f m.val : ℝ) : EReal)) :
    multiReduction .add [1] S1024 v 0x00000000#32 reduces_S1024x256_S1024 (.inl rfl) rfl (ix1 i)
      = ((∑ m ∈ range 256, f m : ℝ) : EReal) := by
  rw [Ideal.multiReduction_add_single]
  refine sum_fin_coe _ f fun k => ?_
  rw [← h k]
  refine congrArg v (funext fun a => ?_)
  match a with
  | ⟨0, _⟩ => rfl
  | ⟨1, _⟩ => rfl

/-- A row's maximum of finite values is some real number. -/
theorem row_max (v : FVec Ideal S1024x256 .f32) (i : Fin 1024) (h : ∀ j, ∃ r : ℝ, v j = (r : EReal)) :
    ∃ M : ℝ, multiReduction .maximumf [1] S1024 v 0xFF800000#32 reduces_S1024x256_S1024 (.inl rfl) rfl (ix1 i) = (M : EReal) := by
  rw [Ideal.multiReduction_maximumf_single]
  show ∃ M : ℝ, Finset.fold max (Ideal.ofBits .f32 0xFF800000#32) _ _ = _
  rw [ofBits_neg_inf]
  exact fold_max_coe (by decide) _ fun k => h _

/-- The scaled scores of the block's rows. -/
theorem scores_apply (q : FVec Ideal S1024x256 .bf16) (k : FVec Ideal S256x256 .bf16) (Q K : ℕ → ℕ → ℝ)
    (hq : ∀ j, q j = ((Q (j 0).val (j 1).val : ℝ) : EReal)) (hk : ∀ j, k j = ((K (j 0).val (j 1).val : ℝ) : EReal)) (j : S1024x256.Idx) :
    k0_pay19 (F := Ideal) q k j = ((score (Q (j 0).val) K (j 1).val : ℝ) : EReal) := by
  unfold k0_pay19
  rw [mulf_apply, broadcast_apply]
  simp only [matmul]
  rw [Ideal.matmul_constant_zero_apply,
    dot_coe dot_S1024x256_S256x256_S1024x256_1_1_0_0_n_n 256 rfl rfl q k j (fun c => Q (j 0).val c) (fun c => K (j 1).val c)
      (fun c => hq _) (fun c => hk _)]
  show _ * Ideal.ofBits .f32 0x3D800000#32 = _
  rw [ofBits_sixteenth, ← EReal.coe_mul]
  rfl

/-- The attention weights of the block's rows, from the scores. -/
theorem weights_apply (s : FVec Ideal S1024x256 .f32) (Q K : ℕ → ℕ → ℝ)
    (hs : ∀ j, s j = ((score (Q (j 0).val) K (j 1).val : ℝ) : EReal)) (j : S1024x256.Idx) :
    k0_pay20 (F := Ideal) s j = ((prob (Q (j 0).val) K (j 1).val : ℝ) : EReal) := by
  obtain ⟨M, hM⟩ := row_max s (j 0) fun j => ⟨_, hs j⟩
  let E : FVec Ideal S1024x256 .f32 := exp (subf s (broadcastTo S1024x256 (shapeCast S1024x1
      (multiReduction .maximumf [1] S1024 s 0xFF800000#32 reduces_S1024x256_S1024 (.inl rfl) rfl) shapeCasts_S1024_S1024x1)
      broadcasts_S1024x1_S1024x256))
  have he : ∀ n : Fin 256, E (ix2 (j 0) n) = ((Real.exp (score (Q (j 0).val) K n.val - M) : ℝ) : EReal) := by
    intro n
    change Ideal.exp (s (ix2 (j 0) n) - broadcastTo S1024x256 (shapeCast S1024x1
      (multiReduction .maximumf [1] S1024 s 0xFF800000#32 reduces_S1024x256_S1024 (.inl rfl) rfl) shapeCasts_S1024_S1024x1)
      broadcasts_S1024x1_S1024x256 (ix2 (j 0) n)) = _
    rw [spread_apply, hs]
    have hM' := congrArg (fun x : EReal => Ideal.exp (((score (Q (j 0).val) K n.val : ℝ) : EReal) - x)) hM
    dsimp only at hM'
    rw [← EReal.coe_sub, exp_coe] at hM'
    exact hM'
  change Ideal.div (E j) (broadcastTo S1024x256 (shapeCast S1024x1 (multiReduction .add [1] S1024 E 0x00000000#32
      reduces_S1024x256_S1024 (.inl rfl) rfl) shapeCasts_S1024_S1024x1) broadcasts_S1024x1_S1024x256 j) = _
  rw [spread_apply, row_sum E (fun n => Real.exp (score (Q (j 0).val) K n - M)) (j 0) he,
    show E j = _ from (congrArg E (eq_ix2 j)).trans (he (j 1)),
    div_coe_coe _ (sum_pos (fun _ _ => Real.exp_pos _) (by simp)).ne', prob_shift]

/-- The gradient of the unscaled scores of the block's rows, from the weights. -/
theorem dscores_apply (v : FVec Ideal S256x256 .bf16) (d : FVec Ideal S1024x256 .bf16) (p : FVec Ideal S1024x256 .f32) (Q D K V : ℕ → ℕ → ℝ)
    (hv : ∀ j, v j = ((V (j 0).val (j 1).val : ℝ) : EReal)) (hd : ∀ j, d j = ((D (j 0).val (j 1).val : ℝ) : EReal))
    (hp : ∀ j, p j = ((prob (Q (j 0).val) K (j 1).val : ℝ) : EReal)) (j : S1024x256.Idx) :
    k0_pay26 (F := Ideal) v d p (constant S1024x256 .f32 0x00000000#32) j = ((dscore (Q (j 0).val) (D (j 0).val) K V (j 1).val : ℝ) : EReal) := by
  have hdp : ∀ j, matmul (F := Ideal) dot_S1024x256_S256x256_S1024x256_1_1_0_0_n_n none d v (constant S1024x256 .f32 0x00000000#32) j
      = ((dprob (D (j 0).val) V (j 1).val : ℝ) : EReal) := by
    intro j
    simp only [matmul]
    rw [Ideal.matmul_constant_zero_apply,
      dot_coe dot_S1024x256_S256x256_S1024x256_1_1_0_0_n_n 256 rfl rfl d v j (fun c => D (j 0).val c) (fun c => V (j 1).val c)
        (fun c => hd _) (fun c => hv _)]
    rfl
  unfold k0_pay26
  rw [truncf_apply, mulf_apply, mulf_apply, subf_apply, spread_apply, broadcast_apply, hdp,
    row_sum _ (fun n => prob (Q (j 0).val) K n * dprob (D (j 0).val) V n) (j 0)
      (fun n => by rw [mulf_apply, hp, hdp, ← EReal.coe_mul]), hp]
  show _ * Ideal.ofBits .f32 0x3D800000#32 = _
  rw [ofBits_sixteenth, ← EReal.coe_sub, ← EReal.coe_mul, ← EReal.coe_mul]
  rfl

/-- A block of gradients of the queries: the scores' gradient times the keys. -/
theorem dq_apply (k v : FVec Ideal S256x256 .bf16) (d : FVec Ideal S1024x256 .bf16) (p : FVec Ideal S1024x256 .f32) (Q D K V : ℕ → ℕ → ℝ)
    (hk : ∀ j, k j = ((K (j 0).val (j 1).val : ℝ) : EReal))
    (hv : ∀ j, v j = ((V (j 0).val (j 1).val : ℝ) : EReal)) (hd : ∀ j, d j = ((D (j 0).val (j 1).val : ℝ) : EReal))
    (hp : ∀ j, p j = ((prob (Q (j 0).val) K (j 1).val : ℝ) : EReal)) (j : S1024x256.Idx) :
    k0_pay27 (F := Ideal) k v d p (constant S1024x256 .f32 0x00000000#32) j
      = ((∑ m ∈ range 256, dscore (Q (j 0).val) (D (j 0).val) K V m * K m (j 1).val : ℝ) : EReal) := by
  unfold k0_pay27
  simp only [matmul]
  rw [Ideal.matmul_constant_zero_apply]
  exact dot_coe dot_S1024x256_S256x256_S1024x256_1_0_0_1_n_n 256 rfl rfl _ k j
    (fun m => dscore (Q (j 0).val) (D (j 0).val) K V m) (fun m => K m (j 1).val)
    (fun c => dscores_apply v d p Q D K V hv hd hp _) (fun c => hk _)

/-- The block's share of the gradient of the keys: the scores' gradient, transposed, times the queries. -/
theorem dk_apply (q : FVec Ideal S1024x256 .bf16) (v : FVec Ideal S256x256 .bf16) (d : FVec Ideal S1024x256 .bf16) (p : FVec Ideal S1024x256 .f32) (Q D K V : ℕ → ℕ → ℝ)
    (hq : ∀ j, q j = ((Q (j 0).val (j 1).val : ℝ) : EReal))
    (hv : ∀ j, v j = ((V (j 0).val (j 1).val : ℝ) : EReal)) (hd : ∀ j, d j = ((D (j 0).val (j 1).val : ℝ) : EReal))
    (hp : ∀ j, p j = ((prob (Q (j 0).val) K (j 1).val : ℝ) : EReal)) (j : S256x256.Idx) :
    k0_pay28 (F := Ideal) q v d p (constant S1024x256 .f32 0x00000000#32) j
      = ((∑ i ∈ range 1024, dscore (Q i) (D i) K V (j 0).val * Q i (j 1).val : ℝ) : EReal) := by
  unfold k0_pay28
  simp only [matmul]
  rw [Ideal.matmul_constant_zero_apply]
  exact dot_coe dot_S1024x256_S1024x256_S256x256_0_0_1_1_n_n 1024 rfl rfl _ q j
    (fun i => dscore (Q i) (D i) K V (j 0).val) (fun i => Q i (j 1).val)
    (fun c => dscores_apply v d p Q D K V hv hd hp _) (fun c => hq _)

/-- The block's share of the gradient of the values: the weights, transposed, times the output's gradient. -/
theorem dv_apply (d : FVec Ideal S1024x256 .bf16) (p : FVec Ideal S1024x256 .f32) (Q D K : ℕ → ℕ → ℝ)
    (hd : ∀ j, d j = ((D (j 0).val (j 1).val : ℝ) : EReal))
    (hp : ∀ j, p j = ((prob (Q (j 0).val) K (j 1).val : ℝ) : EReal)) (j : S256x256.Idx) :
    k0_pay29 (F := Ideal) d p j = ((∑ i ∈ range 1024, prob (Q i) K (j 0).val * D i (j 1).val : ℝ) : EReal) := by
  unfold k0_pay29
  simp only [matmul]
  rw [Ideal.matmul_constant_zero_apply]
  exact dot_coe dot_S1024x256_S1024x256_S256x256_0_0_1_1_n_n 1024 rfl rfl _ d j
    (fun i => prob (Q i) K (j 0).val) (fun i => D i (j 1).val)
    (fun c => by rw [truncf_apply]; exact hp _) (fun c => hd _)

end Cert.Xattn.Head

end
-- ==== Proof.Xattn.Tiles.lean ====
/-
  One head's share of the gradient blocks, and eight column tiles accumulated into a zeroed block (hand-written,
  untrusted).
-/
module

public import proofs.«01_k».proof.Proof.Xattn.Head
public import Idealize.ShloMosaic.Lib.Pipeline.ValueKit.Acc
public import Idealize.ShloMosaic.Lib.Pipeline.ValueKit.Tiles
public import Idealize.ShloMosaic.Lib.Tactic

@[expose] public section

set_option backward.isDefEq.respectTransparency.types false
set_option backward.isDefEq.respectTransparency false

noncomputable section

namespace Cert.Xattn.Tiles

open Idealize.ShloMosaic Idealize.ShloMosaic.TcCoe Idealize.SL.Sem Idealize.ShloMosaic.ValueIdx
open Cert.XattnIdeal Cert.XattnIdeal.Gen Cert.Xattn.Math Cert.Xattn.Head Cert.Reals Finset

variable (Q KV D : ℕ → ℕ → ℝ)

theorem headOf_add (o x : ℕ) (ho : o % 256 = 0) (hx : x < 256) : headOf (o + x) = o := by
  unfold headOf; omega

section Shares

variable (a o : ℕ) (q : FVec Ideal S1024x256 .bf16) (k v : FVec Ideal S256x256 .bf16) (d : FVec Ideal S1024x256 .bf16)
  (hq : ∀ j, q j = ((Q (a + (j 0).val) (o + (j 1).val) : ℝ) : EReal))
  (hk : ∀ j, k j = ((KV (j 0).val (o + (j 1).val) : ℝ) : EReal))
  (hv : ∀ j, v j = ((KV (j 0).val (1024 + o + (j 1).val) : ℝ) : EReal))
  (hd : ∀ j, d j = ((D (a + (j 0).val) (o + (j 1).val) : ℝ) : EReal)) (ho : o % 256 = 0)

include hq hk in
/-- The block's attention weights for the head whose channels start at `o`. -/
theorem probs (j : S1024x256.Idx) : k0_pay20 (F := Ideal) (k0_pay19 (F := Ideal) q k) j
    = ((prob ((fun i c => Q (a + i) (o + c)) (j 0).val) (fun n c => KV n (o + c)) (j 1).val : ℝ) : EReal) :=
  weights_apply _ (fun i c => Q (a + i) (o + c)) (fun n c => KV n (o + c))
    (fun j => scores_apply q k (fun i c => Q (a + i) (o + c)) (fun n c => KV n (o + c)) hq hk j) j

include hq hk hv hd ho

/-- The head's share of the gradient of the queries. -/
theorem dq_share (j : S1024x256.Idx) :
    k0_pay27 (F := Ideal) k v d (k0_pay20 (F := Ideal) (k0_pay19 (F := Ideal) q k)) (constant S1024x256 .f32 0x00000000#32) j
      = ((dq Q D KV (a + (j 0).val) (o + (j 1).val) : ℝ) : EReal) := by
  rw [dq_apply k v d _ (fun i c => Q (a + i) (o + c)) (fun i c => D (a + i) (o + c)) (fun n c => KV n (o + c))
    (fun n c => KV n (1024 + o + c)) hk hv hd (probs Q KV a o q k hq hk)]
  unfold dq dscoreAt
  rw [headOf_add o _ ho (j 1).isLt]

/-- The head's share of the gradient of the keys. -/
theorem dk_share (h4 : o < 1024) (j : S256x256.Idx) :
    k0_pay28 (F := Ideal) q v d (k0_pay20 (F := Ideal) (k0_pay19 (F := Ideal) q k)) (constant S1024x256 .f32 0x00000000#32) j
      = ((dkv Q D KV a 1024 (j 0).val (o + (j 1).val) : ℝ) : EReal) := by
  have h1 : (j 1).val < 256 := (j 1).isLt
  rw [dk_apply q v d _ (fun i c => Q (a + i) (o + c)) (fun i c => D (a + i) (o + c)) (fun n c => KV n (o + c))
    (fun n c => KV n (1024 + o + c)) hq hv hd (probs Q KV a o q k hq hk)]
  unfold dkv dk dscoreAt
  rw [headOf_add o _ ho (j 1).isLt, if_pos (by omega)]

omit hv in
/-- The head's share of the gradient of the values. -/
theorem dv_share (j : S256x256.Idx) :
    k0_pay29 (F := Ideal) d (k0_pay20 (F := Ideal) (k0_pay19 (F := Ideal) q k)) j
      = ((dkv Q D KV a 1024 (j 0).val (1024 + o + (j 1).val) : ℝ) : EReal) := by
  rw [dv_apply d _ (fun i c => Q (a + i) (o + c)) (fun i c => D (a + i) (o + c)) (fun n c => KV n (o + c))
    hd (probs Q KV a o q k hq hk)]
  unfold dkv dv probAt
  rw [show 1024 + o + (j 1).val - 1024 = o + (j 1).val by omega, headOf_add o _ ho (j 1).isLt, if_neg (by omega)]

end Shares

/-- A tile added to what a load read. -/
theorem add_apply (x old : FVec Ideal S256x256 .f32) (j : S256x256.Idx) : k0_pay31 (F := Ideal) x old j = old j + x j := by
  unfold k0_pay31
  rw [addf_apply]
  congr 1
  exact shapeCast_apply _ _ _ j rfl

/-- A list of stores to the block of 256×2048 that covers it, and whose value is `G` on the column tiles listed in `S`
    and zero elsewhere. -/
structure Filled (G : S256x2048.Idx → EReal) (S : List ℕ) (L : List (View.Piece (Elt Ideal) S256x2048 .f32)) : Prop where
  cover : ∀ y, ∃ p ∈ L, y ∈ p.1.set
  val : ∀ y : S256x2048.Idx, View.canon L y = if (y 1).val / 256 ∈ S then G y else (0 : EReal)

/-- The zeroed block. -/
theorem filled_zero (G : S256x2048.Idx → EReal) (inb) :
    Filled G [] [⟨Rect.unit ![0, 0] ![256, 2048] inb, k0_pay8 (F := Ideal)⟩] where
  cover y := ⟨_, List.mem_cons_self, View.mem_set_unit_zero (S := S256x2048) (funext fun a => by match a with | ⟨0, _⟩ => rfl | ⟨1, _⟩ => rfl) inb y⟩
  val y := by
    rw [View.canon_cons_unit_lit (S := S256x2048) inb _ _ (fun a => by match a with | ⟨0, _⟩ => rfl | ⟨1, _⟩ => rfl)]
    simp only [List.not_mem_nil, if_false]
    exact Ideal.ofBits_zero_f32

/-- The rectangle of the 256 columns starting at `o`. -/
abbrev colRect (o : ℕ) (inb : ∀ a, (![0, o] : Fin 2 → ℕ) a + (![256, 256] : Fin 2 → ℕ) a ≤ S256x2048.size a) : Rect S256x2048 :=
  Rect.unit (s := S256x2048) ![0, o] ![256, 256] inb

theorem mem_colRect (o : ℕ) (inb) (y : S256x2048.Idx) : y ∈ (colRect o inb).set ↔ o ≤ (y 1).val ∧ (y 1).val < o + 256 := by
  rw [Rect.mem_set_unit]
  have h0 : (y 0).val < 256 := (y 0).isLt
  constructor
  · intro h; exact h 1
  · intro h a
    match a with
    | ⟨0, _⟩ => show 0 ≤ (y 0).val ∧ (y 0).val < 0 + 256; omega
    | ⟨1, _⟩ => exact h

/-- One more tile: its old value is read back, the tile `x` is added, and the sum is stored. -/
theorem Filled.step {G : S256x2048.Idx → EReal} {S : List ℕ} {L : List (View.Piece (Elt Ideal) S256x2048 .f32)} (h : Filled G S L)
    {sp : Space} (v : View sig .tc sp S256x2048 .f32) (b o : ℕ) (inb) (x : FVec Ideal S256x256 .f32) (ho : o = 256 * b) (hb : b ∉ S)
    (hx : ∀ (j : S256x256.Idx) (y : S256x2048.Idx), (y 0).val = (j 0).val → (y 1).val = o + (j 1).val → x j = G y) :
    Filled G (b :: S) ((⟨colRect o inb, k0_pay31 (F := Ideal) x (v.readCov L (colRect o inb).toLoadRect)⟩ : View.Piece (Elt Ideal) S256x2048 .f32) :: L) := by
  refine ⟨fun y => ?_, fun y => ?_⟩
  · obtain ⟨p, hp, hy⟩ := h.cover y; exact ⟨p, List.mem_cons_of_mem _ hp, hy⟩
  · by_cases hm : y ∈ (colRect o inb).set
    · obtain ⟨j, hj⟩ := (colRect o inb).exists_idx_of_mem hm
      have e1 : (y 1).val = o + (j 1).val := hj ▸ Rect.idx_unit_val _ _ _ _ _
      have e0 : (y 0).val = (j 0).val := hj ▸ (Rect.idx_unit_val _ _ _ _ _).trans (by show 0 + _ = _; omega)
      have h1 : (j 1).val < 256 := (j 1).isLt
      have e : (y 1).val / 256 = b := by omega
      have hc := View.canon_cons_emb (Val := Elt Ideal) (e := .f32) (colRect o inb) (k0_pay31 (F := Ideal) x (v.readCov L (colRect o inb).toLoadRect)) L j
      rw [show (colRect o inb).emb j = y from hj] at hc
      refine hc.trans ((add_apply _ _ _).trans ?_)
      rw [View.readCov_eq_canon_ld v L _ h.cover]
      have hl : View.ld (View.canon L) (colRect o inb) j = View.canon L y := congrArg (View.canon L) hj
      refine (congrArg (· + x j) (hl.trans (h.val y))).trans ?_
      rw [if_neg (by rw [e]; exact hb), if_pos (by rw [e]; exact List.mem_cons_self)]
      exact (zero_add _).trans (hx j y e0 e1)
    · have hn : (y 1).val / 256 ≠ b := by
        intro e
        apply hm
        rw [mem_colRect]
        omega
      refine (View.canon_cons_of_not_mem (⟨colRect o inb, _⟩) L hm).trans ((h.val y).trans ?_)
      simp only [List.mem_cons, hn, false_or]

/-- A tile added in place to an old block `X`, where the sum is `G`. -/
theorem tile_add (X : Vec Ideal S256x2048 .f32) (g : S256x2048.Idx → EReal) (y : S256x2048.Idx) (w : EReal) (o : ℕ) (inb) (x : FVec Ideal S256x256 .f32)
    (hG : X y + g y = w)
    (hx : ∀ (j : S256x256.Idx) (y : S256x2048.Idx), (y 0).val = (j 0).val → (y 1).val = o + (j 1).val → x j = g y) :
    View.TileAt (Val := Elt Ideal) (e := .f32) y ![0, o] ![256, 256] (k0_pay31 (F := Ideal) x (View.ld X (colRect o inb))) w := by
  intro j hj
  have e0 : (y 0).val = (j 0).val := (hj 0).trans (by show 0 + _ = _; omega)
  have e1 : (y 1).val = o + (j 1).val := hj 1
  refine (add_apply _ _ _).trans ?_
  rw [hx j y e0 e1, ← hG]
  exact congrArg (· + g y) (View.ld_unit_apply_of X _ _ inb j y hj)

end Cert.Xattn.Tiles

end
-- ==== Proof.Xattn.Blocks.lean ====
/-
  What the kernel of the memory cross-attention's backward pass leaves in its two result arrays (hand-written, untrusted).
-/
module

public import proofs.«01_k».proof.Proof.Xattn.Tiles
public import proofs.«01_k».proof.Proof.Gen.XattnIdeal.Value

@[expose] public section

set_option backward.isDefEq.respectTransparency.types false
set_option backward.isDefEq.respectTransparency false

noncomputable section

namespace Cert.Xattn.Blocks

open Idealize.ShloMosaic Idealize.ShloMosaic.TcCoe Idealize.SL.Sem Idealize.ShloMosaic.ValueIdx
open Cert.XattnIdeal Cert.XattnIdeal.Gen Cert.Xattn.Math Cert.Xattn.Head Cert.Xattn.Tiles Cert.Reals Finset

variable (m : (ℓ : Loc nD τ sig) → Buf (Elt Ideal) ℓ) (c : Dev nD) (Q KV D : ℕ → ℕ → ℝ)

/-- The three arguments hold finite values: the queries `Q`, the keys beside the values `KV`, the output's gradient `D`. -/
structure Holds : Prop where
  q : ∀ i : S2048x1024.Idx, m ((c : Thread nD τ).loc main_arg0) i = ((Q (i 0).val (i 1).val : ℝ) : EReal)
  kv : ∀ i : S256x2048.Idx, m ((c : Thread nD τ).loc main_arg1) i = ((KV (i 0).val (i 1).val : ℝ) : EReal)
  d : ∀ i : S2048x1024.Idx, m ((c : Thread nD τ).loc main_arg2) i = ((D (i 0).val (i 1).val : ℝ) : EReal)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = t.val ∧ win0_3.index t 1 = 0 :=
  (by decide +kernel : ∀ t : Fin grid0.N, win0_3.index t 0 = t.val ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)

variable {m c Q KV D} (H : Holds m c Q KV D)
include H

/-- The queries' block at point `t`: rows `1024 t …`. -/
theorem block_q (t : Fin cfg0.N) (j : S1024x1024.Idx) :
    iblk m c 0 t j = ((Q (1024 * t.val + (j 0).val) (j 1).val : ℝ) : EReal) := by
  unfold iblk
  rw [View.read_apply]
  show m ((c : Thread nD τ).loc main_arg0) _ = _
  refine (H.q _).trans (congrArg (fun r : ℝ => (r : EReal)) (congrArg₂ Q ?_ ?_))
  · show win0_0.index t 0 * 1024 + 1 * (j 0).val = _
    rw [(idx_0 t).1]
    omega
  · show win0_0.index t 1 * 1024 + 1 * (j 1).val = _
    rw [(idx_0 t).2]
    omega

/-- The keys and values: the whole array at every point. -/
theorem block_kv (t : Fin cfg0.N) (j : S256x2048.Idx) :
    iblk m c 1 t j = ((KV (j 0).val (j 1).val : ℝ) : EReal) := by
  unfold iblk
  rw [View.read_apply]
  show m ((c : Thread nD τ).loc main_arg1) _ = _
  refine (H.kv _).trans (congrArg (fun r : ℝ => (r : EReal)) (congrArg₂ KV ?_ ?_))
  · show win0_1.index t 0 * 256 + 1 * (j 0).val = _
    rw [(idx_1 t).1]
    omega
  · show win0_1.index t 1 * 2048 + 1 * (j 1).val = _
    rw [(idx_1 t).2]
    omega

/-- The output's gradient's block at point `t`: rows `1024 t …`. -/
theorem block_d (t : Fin cfg0.N) (j : S1024x1024.Idx) :
    iblk m c 2 t j = ((D (1024 * t.val + (j 0).val) (j 1).val : ℝ) : EReal) := by
  unfold iblk
  rw [View.read_apply]
  show m ((c : Thread nD τ).loc main_arg2) _ = _
  refine (H.d _).trans (congrArg (fun r : ℝ => (r : EReal)) (congrArg₂ D ?_ ?_))
  · show win0_2.index t 0 * 1024 + 1 * (j 0).val = _
    rw [(idx_2 t).1]
    omega
  · show win0_2.index t 1 * 1024 + 1 * (j 1).val = _
    rw [(idx_2 t).2]
    omega

section Loads

variable (t : Fin cfg0.N) (o : ℕ)

theorem ld_q (inb) (j : S1024x256.Idx) : View.ld (iblk m c 0 t) (Rect.unit (s := S1024x1024) ![0, o] ![1024, 256] inb) j
    = ((Q (1024 * t.val + (j 0).val) (o + (j 1).val) : ℝ) : EReal) := by
  have h1 : o + 256 ≤ 1024 := inb 1
  have hj : (j 1).val < 256 := (j 1).isLt
  refine (View.ld_unit_apply_of _ _ _ _ j (ix2 (j 0) ⟨o + (j 1).val, by omega⟩) fun a => ?_).trans (block_q H t _)
  match a with
  | ⟨0, _⟩ => show (j 0).val = 0 + (j 0).val; omega
  | ⟨1, _⟩ => rfl

theorem ld_d (inb) (j : S1024x256.Idx) : View.ld (iblk m c 2 t) (Rect.unit (s := S1024x1024) ![0, o] ![1024, 256] inb) j
    = ((D (1024 * t.val + (j 0).val) (o + (j 1).val) : ℝ) : EReal) := by
  have h1 : o + 256 ≤ 1024 := inb 1
  have hj : (j 1).val < 256 := (j 1).isLt
  refine (View.ld_unit_apply_of _ _ _ _ j (ix2 (j 0) ⟨o + (j 1).val, by omega⟩) fun a => ?_).trans (block_d H t _)
  match a with
  | ⟨0, _⟩ => show (j 0).val = 0 + (j 0).val; omega
  | ⟨1, _⟩ => rfl

theorem ld_kv (inb) (j : S256x256.Idx) : View.ld (iblk m c 1 t) (Rect.unit (s := S256x2048) ![0, o] ![256, 256] inb) j
    = ((KV (j 0).val (o + (j 1).val) : ℝ) : EReal) := by
  have h1 : o + 256 ≤ 2048 := inb 1
  have hj : (j 1).val < 256 := (j 1).isLt
  refine (View.ld_unit_apply_of _ _ _ _ j (ix2 (j 0) ⟨o + (j 1).val, by omega⟩) fun a => ?_).trans (block_kv H t _)
  match a with
  | ⟨0, _⟩ => show (j 0).val = 0 + (j 0).val; omega
  | ⟨1, _⟩ => rfl

/-- The head at channels `o …`: its tile of the queries' gradient, stored at those channels. -/
theorem tile_dq (inbq inbk inbv) (ho : o % 256 = 0) (y : S1024x1024.Idx) :
    View.TileAt (Val := Elt Ideal) (e := .bf16) y ![0, o] ![1024, 256]
      (k0_pay30 (F := Ideal) (k0_pay27 (F := Ideal) (View.ld (iblk m c 1 t) (Rect.unit (s := S256x2048) ![0, o] ![256, 256] inbk))
        (View.ld (iblk m c 1 t) (Rect.unit (s := S256x2048) ![0, 1024 + o] ![256, 256] inbv))
        (View.ld (iblk m c 2 t) (Rect.unit (s := S1024x1024) ![0, o] ![1024, 256] inbq))
        (k0_pay20 (F := Ideal) (k0_pay19 (F := Ideal) (View.ld (iblk m c 0 t) (Rect.unit (s := S1024x1024) ![0, o] ![1024, 256] inbq))
          (View.ld (iblk m c 1 t) (Rect.unit (s := S256x2048) ![0, o] ![256, 256] inbk))))
        (constant S1024x256 .f32 0x00000000#32)))
      ((dq Q D KV (1024 * t.val + (y 0).val) (y 1).val : ℝ) : EReal) := by
  intro j hj
  have e0 : (y 0).val = (j 0).val := (hj 0).trans (by show 0 + _ = _; omega)
  have e1 : (y 1).val = o + (j 1).val := hj 1
  rw [e0, e1]
  exact dq_share Q KV D (1024 * t.val) o _ _ _ _ (ld_q H t o inbq) (ld_kv H t o inbk) (ld_kv H t (1024 + o) inbv) (ld_d H t o inbq) ho j

/-- The head at channels `o …`: its tile of the keys' gradient. -/
theorem tile_dk (inbq inbk inbv) (ho : o % 256 = 0) (h4 : o < 1024) (j : S256x256.Idx) (y : S256x2048.Idx)
    (h0 : (y 0).val = (j 0).val) (h1 : (y 1).val = o + (j 1).val) :
      k0_pay28 (F := Ideal) (View.ld (iblk m c 0 t) (Rect.unit (s := S1024x1024) ![0, o] ![1024, 256] inbq))
        (View.ld (iblk m c 1 t) (Rect.unit (s := S256x2048) ![0, 1024 + o] ![256, 256] inbv))
        (View.ld (iblk m c 2 t) (Rect.unit (s := S1024x1024) ![0, o] ![1024, 256] inbq))
        (k0_pay20 (F := Ideal) (k0_pay19 (F := Ideal) (View.ld (iblk m c 0 t) (Rect.unit (s := S1024x1024) ![0, o] ![1024, 256] inbq))
          (View.ld (iblk m c 1 t) (Rect.unit (s := S256x2048) ![0, o] ![256, 256] inbk))))
        (constant S1024x256 .f32 0x00000000#32) j
      = ((dkv Q D KV (1024 * t.val) 1024 (y 0).val (y 1).val : ℝ) : EReal) := by
  rw [h0, h1]
  exact dk_share Q KV D (1024 * t.val) o _ _ _ _ (ld_q H t o inbq) (ld_kv H t o inbk) (ld_kv H t (1024 + o) inbv) (ld_d H t o inbq) ho h4 j

/-- The head at channels `o …`: its tile of the values' gradient. -/
theorem tile_dv (inbq inbk) (ho : o % 256 = 0) (j : S256x256.Idx) (y : S256x2048.Idx)
    (h0 : (y 0).val = (j 0).val) (h1 : (y 1).val = 1024 + o + (j 1).val) :
      k0_pay29 (F := Ideal) (View.ld (iblk m c 2 t) (Rect.unit (s := S1024x1024) ![0, o] ![1024, 256] inbq))
        (k0_pay20 (F := Ideal) (k0_pay19 (F := Ideal) (View.ld (iblk m c 0 t) (Rect.unit (s := S1024x1024) ![0, o] ![1024, 256] inbq))
          (View.ld (iblk m c 1 t) (Rect.unit (s := S256x2048) ![0, o] ![256, 256] inbk)))) j
      = ((dkv Q D KV (1024 * t.val) 1024 (y 0).val (y 1).val : ℝ) : EReal) := by
  rw [h0, h1]
  exact dv_share Q KV D (1024 * t.val) o _ _ _ (ld_q H t o inbq) (ld_kv H t o inbk) (ld_d H t o inbq) ho j

end Loads

/-- Point `t`'s block of the queries' gradient. -/
theorem out_dq (t : Fin cfg0.N) (y : S1024x1024.Idx) :
    (outsAt0 m c t.val t.isLt).1 y = ((dq Q D KV (1024 * t.val + (y 0).val) (y 1).val : ℝ) : EReal) := by
  by_cases h0 : t.val % 2 = 0
  · rw [outsAt0_A m c t h0]
    frame_out
    refine View.canon_eq_of_allAt _ y _ (View.cover_of_tiled_head _ _ _ (by rfl) y) ?_
    refine View.allAt_cons_unit _ _ _ _ _ (tile_dq H t 768 _ _ _ (by decide) y) ?_
    refine View.allAt_cons_unit _ _ _ _ _ (tile_dq H t 512 _ _ _ (by decide) y) ?_
    refine View.allAt_cons_unit _ _ _ _ _ (tile_dq H t 256 _ _ _ (by decide) y) ?_
    exact View.allAt_cons_unit _ _ _ _ _ (tile_dq H t 0 _ _ _ (by decide) y) (View.allAt_nil _ _)
  · rw [outsAt0_B m c t h0]
    frame_out
    refine View.canon_eq_of_allAt _ y _ (View.cover_of_tiled_head _ _ _ (by rfl) y) ?_
    refine View.allAt_cons_unit _ _ _ _ _ (tile_dq H t 768 _ _ _ (by decide) y) ?_
    refine View.allAt_cons_unit _ _ _ _ _ (tile_dq H t 512 _ _ _ (by decide) y) ?_
    refine View.allAt_cons_unit _ _ _ _ _ (tile_dq H t 256 _ _ _ (by decide) y) ?_
    exact View.allAt_cons_unit _ _ _ _ _ (tile_dq H t 0 _ _ _ (by decide) y) (View.allAt_nil _ _)

/-- The first point's block of the keys' and values' gradients: zero, and the point's share added tile by tile. -/
theorem out_dkv_first (t : Fin cfg0.N) (h0 : t.val % 2 = 0) (y : S256x2048.Idx) :
    (outsAt0 m c t.val t.isLt).2 y = ((dkv Q D KV (1024 * t.val) 1024 (y 0).val (y 1).val : ℝ) : EReal) := by
  rw [outsAt0_A m c t h0]
  frame_out
  let G : S256x2048.Idx → EReal := fun y => ((dkv Q D KV (1024 * t.val) 1024 (y 0).val (y 1).val : ℝ) : EReal)
  have f0 := filled_zero G inb_S256x2048_S256x2048_0_0
  have f1 := f0.step (ms0_4 t).view 0 0 inb_S256x2048_S256x256_0_0 _ rfl (by decide) (tile_dk H t 0 inb_S1024x1024_S1024x256_0_0 inb_S256x2048_S256x256_0_0 inb_S256x2048_S256x256_0_1024 (by decide) (by decide))
  have f2 := f1.step (ms0_4 t).view 4 1024 inb_S256x2048_S256x256_0_1024 _ rfl (by decide) (tile_dv H t 0 inb_S1024x1024_S1024x256_0_0 inb_S256x2048_S256x256_0_0 (by decide))
  have f3 := f2.step (ms0_4 t).view 1 256 inb_S256x2048_S256x256_0_256 _ rfl (by decide) (tile_dk H t 256 inb_S1024x1024_S1024x256_0_256 inb_S256x2048_S256x256_0_256 inb_S256x2048_S256x256_0_1280 (by decide) (by decide))
  have f4 := f3.step (ms0_4 t).view 5 1280 inb_S256x2048_S256x256_0_1280 _ rfl (by decide) (tile_dv H t 256 inb_S1024x1024_S1024x256_0_256 inb_S256x2048_S256x256_0_256 (by decide))
  have f5 := f4.step (ms0_4 t).view 2 512 inb_S256x2048_S256x256_0_512 _ rfl (by decide) (tile_dk H t 512 inb_S1024x1024_S1024x256_0_512 inb_S256x2048_S256x256_0_512 inb_S256x2048_S256x256_0_1536 (by decide) (by decide))
  have f6 := f5.step (ms0_4 t).view 6 1536 inb_S256x2048_S256x256_0_1536 _ rfl (by decide) (tile_dv H t 512 inb_S1024x1024_S1024x256_0_512 inb_S256x2048_S256x256_0_512 (by decide))
  have f7 := f6.step (ms0_4 t).view 3 768 inb_S256x2048_S256x256_0_768 _ rfl (by decide) (tile_dk H t 768 inb_S1024x1024_S1024x256_0_768 inb_S256x2048_S256x256_0_768 inb_S256x2048_S256x256_0_1792 (by decide) (by decide))
  have f8 := f7.step (ms0_4 t).view 7 1792 inb_S256x2048_S256x256_0_1792 _ rfl (by decide) (tile_dv H t 768 inb_S1024x1024_S1024x256_0_768 inb_S256x2048_S256x256_0_768 (by decide))
  refine (f8.val y).trans (if_pos ?_)
  have h1 : (y 1).val < 2048 := (y 1).isLt
  have : (y 1).val / 256 < 8 := by omega
  generalize (y 1).val / 256 = b at this
  interval_cases b <;> decide

/-- The second point's block: what the first left, and the point's share added tile by tile. -/
theorem out_dkv_next (t : Fin cfg0.N) (h0 : ¬t.val % 2 = 0) (y : S256x2048.Idx) (hlt : t.val - 1 < cfg0.N) (w : EReal)
    (hw : (outsAt0 m c (t.val - 1) hlt).2 y + ((dkv Q D KV (1024 * t.val) 1024 (y 0).val (y 1).val : ℝ) : EReal) = w) :
    (outsAt0 m c t.val t.isLt).2 y = w := by
  rw [outsAt0_B m c t h0]
  frame_out
  refine View.canon_eq_of_allAt _ y _ (View.cover_of_tiled_head _ _ _ (by rfl) y) ?_
  refine View.allAt_cons_unit _ _ _ _ _ (tile_add _ _ y w 1792 inb_S256x2048_S256x256_0_1792 _ hw (tile_dv H t 768 inb_S1024x1024_S1024x256_0_768 inb_S256x2048_S256x256_0_768 (by decide))) ?_
  refine View.allAt_cons_unit _ _ _ _ _ (tile_add _ _ y w 768 inb_S256x2048_S256x256_0_768 _ hw (tile_dk H t 768 inb_S1024x1024_S1024x256_0_768 inb_S256x2048_S256x256_0_768 inb_S256x2048_S256x256_0_1792 (by decide) (by decide))) ?_
  refine View.allAt_cons_unit _ _ _ _ _ (tile_add _ _ y w 1536 inb_S256x2048_S256x256_0_1536 _ hw (tile_dv H t 512 inb_S1024x1024_S1024x256_0_512 inb_S256x2048_S256x256_0_512 (by decide))) ?_
  refine View.allAt_cons_unit _ _ _ _ _ (tile_add _ _ y w 512 inb_S256x2048_S256x256_0_512 _ hw (tile_dk H t 512 inb_S1024x1024_S1024x256_0_512 inb_S256x2048_S256x256_0_512 inb_S256x2048_S256x256_0_1536 (by decide) (by decide))) ?_
  refine View.allAt_cons_unit _ _ _ _ _ (tile_add _ _ y w 1280 inb_S256x2048_S256x256_0_1280 _ hw (tile_dv H t 256 inb_S1024x1024_S1024x256_0_256 inb_S256x2048_S256x256_0_256 (by decide))) ?_
  refine View.allAt_cons_unit _ _ _ _ _ (tile_add _ _ y w 256 inb_S256x2048_S256x256_0_256 _ hw (tile_dk H t 256 inb_S1024x1024_S1024x256_0_256 inb_S256x2048_S256x256_0_256 inb_S256x2048_S256x256_0_1280 (by decide) (by decide))) ?_
  refine View.allAt_cons_unit _ _ _ _ _ (tile_add _ _ y w 1024 inb_S256x2048_S256x256_0_1024 _ hw (tile_dv H t 0 inb_S1024x1024_S1024x256_0_0 inb_S256x2048_S256x256_0_0 (by decide))) ?_
  exact View.allAt_cons_unit _ _ _ _ _ (tile_add _ _ y w 0 inb_S256x2048_S256x256_0_0 _ hw (tile_dk H t 0 inb_S1024x1024_S1024x256_0_0 inb_S256x2048_S256x256_0_0 inb_S256x2048_S256x256_0_1024 (by decide) (by decide))) (View.allAt_nil _ _)

/-- After the second point the block holds the sum over all 2048 rows. -/
theorem out_dkv (t : Fin cfg0.N) (h1 : t.val = 1) (y : S256x2048.Idx) :
    (outsAt0 m c t.val t.isLt).2 y = ((dkv Q D KV 0 2048 (y 0).val (y 1).val : ℝ) : EReal) := by
  refine out_dkv_next H t (by omega) y (by have := t.isLt; omega) _ ?_
  have h := out_dkv_first H ⟨t.val - 1, by have := t.isLt; omega⟩ (by dsimp only; omega) y
  dsimp only at h
  rw [h, ← EReal.coe_add, h1]
  exact congrArg _ (dkv_add Q D KV 1024 1024 _ _)

/-- The array of the queries' gradient after the run. -/
theorem arr_dq : (dats m 0 c).arrAt 3 cfg0.N
    = fun i : S2048x1024.Idx => ((dq Q D KV (i 0).val (i 1).val : ℝ) : EReal) := by
  refine (dats m 0 c).arrAt_eq_of_cover 3 (fun i : S2048x1024.Idx => ((dq Q D KV (i 0).val (i 1).val : ℝ) : EReal)) (fun t _ => ?_) fun i => ?_
  · rw [Value.flushed3]
    funext j
    refine (out_dq H t _).trans ?_
    rw [View.read_apply]
    refine congrArg (fun r : ℝ => (r : EReal)) (congrArg₂ (dq Q D KV) ?_ ?_)
    · show _ = win0_3.index t 0 * 1024 + 1 * (j 0).val
      rw [(idx_3 t).1]
      show 1024 * t.val + (j 0).val = _
      omega
    · show _ = win0_3.index t 1 * 1024 + 1 * (j 1).val
      rw [(idx_3 t).2]
      show (j 1).val = _
      omega
  · have h0 : (i 0 : Nat) < 2048 := (i 0).isLt
    have h1 : (i 1 : Nat) < 1024 := (i 1).isLt
    have hN : cfg0.N = 2 := N_0
    refine ⟨⟨(i 0 : Nat) / 1024, by omega⟩, flush0_3 _, ?_⟩
    generalize ht : (⟨(i 0 : Nat) / 1024, by omega⟩ : Fin cfg0.N) = t
    have htv : t.val = (i 0 : Nat) / 1024 := by rw [← ht]
    show i ∈ ((View.whole main_v0_0).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(idx_3 t).1]; omega
    | ⟨1, _⟩ =>
      show win0_3.index t 1 * 1024 ≤ (i 1 : Nat) ∧ (i 1 : Nat) < win0_3.index t 1 * 1024 + 1024
      rw [(idx_3 t).2]; omega

/-- The array of the keys' and values' gradients after the run. -/
theorem arr_dkv : (dats m 0 c).arrAt 4 cfg0.N
    = fun i : S256x2048.Idx => ((dkv Q D KV 0 2048 (i 0).val (i 1).val : ℝ) : EReal) := by
  have hN : cfg0.N = 2 := N_0
  refine (dats m 0 c).arrAt_eq_of_cover 4 (fun i : S256x2048.Idx => ((dkv Q D KV 0 2048 (i 0).val (i 1).val : ℝ) : EReal)) (fun t hf => ?_) fun i => ?_
  · have ht : t.val = 1 := by have := (flush0_4 t).mp hf; have := t.isLt; omega
    rw [Value.flushed4]
    funext j
    refine (out_dkv H t ht _).trans ?_
    rw [View.read_apply]
    refine congrArg (fun r : ℝ => (r : EReal)) (congrArg₂ (dkv Q D KV 0 2048) ?_ ?_)
    · show _ = win0_4.index t 0 * 256 + 1 * (j 0).val
      rw [(idx_4 t).1]
      show (j 0).val = _
      omega
    · show _ = win0_4.index t 1 * 2048 + 1 * (j 1).val
      rw [(idx_4 t).2]
      show (j 1).val = _
      omega
  · have h0 : (i 0 : Nat) < 256 := (i 0).isLt
    have h1 : (i 1 : Nat) < 2048 := (i 1).isLt
    refine ⟨⟨1, by omega⟩, (flush0_4 _).mpr rfl, ?_⟩
    generalize (⟨1, by omega⟩ : Fin cfg0.N) = t
    show i ∈ ((View.whole main_v0_1).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [(idx_4 t).1]; omega
    | ⟨1, _⟩ =>
      show win0_4.index t 1 * 2048 ≤ (i 1 : Nat) ∧ (i 1 : Nat) < win0_4.index t 1 * 2048 + 2048
      rw [(idx_4 t).2]; omega

end Cert.Xattn.Blocks

end
-- ==== Proof.Xattn.Ref.lean ====
/-
  What the reference of the memory cross-attention's backward pass computes (hand-written, untrusted).
-/
module

public import proofs.«01_k».proof.Proof.Xattn.Math
public import proofs.«01_k».proof.Proof.Gen.XattnRefIdeal.Read
public import Idealize.ShloMosaic.Lib.KernelVsHost

@[expose] public section

set_option backward.isDefEq.respectTransparency.types false
set_option backward.isDefEq.respectTransparency false

noncomputable section

namespace Cert.Xattn.Ref

open Idealize.ShloMosaic Idealize.ShloMosaic.TcCoe Idealize.SL.Sem Idealize.ShloMosaic.ValueIdx
open Cert.XattnRefIdeal Cert.XattnRefIdeal.Read Cert.Xattn.Math Cert.Reals Finset

/-- The scores' gradient as the reference writes it, over the reals: with the exponentials `e` of a row, their sum `T`
    and the weights' gradient `dp`, the quotient rule term by term is the softmax's Jacobian. -/
theorem quotient_rule (q d : ℕ → ℝ) (K V : ℕ → ℕ → ℝ) (M : ℝ) (n : ℕ) :
    (dprob d V n / (∑ a ∈ range 256, Real.exp (score q K a - M))
        + -(∑ a ∈ range 256, dprob d V a * (1 / ((∑ b ∈ range 256, Real.exp (score q K b - M)) * ∑ b ∈ range 256, Real.exp (score q K b - M)))
            * Real.exp (score q K a - M))) * Real.exp (score q K n - M) * (1 / 16)
      = dscore q d K V n := by
  set T := ∑ a ∈ range 256, Real.exp (score q K a - M) with hT
  have hpos : 0 < T := sum_pos (fun _ _ => Real.exp_pos _) (by simp)
  have hne : T ≠ 0 := hpos.ne'
  have hs : ∑ a ∈ range 256, dprob d V a * (1 / (T * T)) * Real.exp (score q K a - M)
      = (∑ a ∈ range 256, prob q K a * dprob d V a) / T := by
    rw [sum_div]
    refine sum_congr rfl fun a _ => ?_
    rw [← prob_shift q K M a, ← hT]
    field_simp
  rw [hs, dscore, ← prob_shift q K M n, ← hT]
  field_simp
  ring

variable (x0 : FVec Ideal S2048x1024 .bf16) (x1 : FVec Ideal S256x2048 .bf16) (x2 : FVec Ideal S2048x1024 .bf16) (Q KV D : ℕ → ℕ → ℝ)
  (h0 : ∀ i, x0 i = ((Q (i 0).val (i 1).val : ℝ) : EReal)) (h1 : ∀ i, x1 i = ((KV (i 0).val (i 1).val : ℝ) : EReal))
  (h2 : ∀ i, x2 i = ((D (i 0).val (i 1).val : ℝ) : EReal))

section

include h0 in
theorem v2_eq (i : S2048x4x256.Idx) : val_main_v2 (F := Ideal) x0 i = ((Q (i 0).val (256 * (i 1).val + (i 2).val) : ℝ) : EReal) := by
  have a1 : (i 1).val < 4 := (i 1).isLt
  have a2 : (i 2).val < 256 := (i 2).isLt
  rw [val_main_v2_apply]
  refine (h0 _).trans (congrArg (fun r : ℝ => (r : EReal)) (congrArg₂ Q ?_ ?_))
  · show (((i 0).val * 4 + (i 1).val) * 256 + (i 2).val) / 1024 = _; omega
  · show (((i 0).val * 4 + (i 1).val) * 256 + (i 2).val) % 1024 = _; omega

include h1 in
theorem v3_eq (i : S256x2x4x256.Idx) : val_main_v3 (F := Ideal) x1 i
    = ((KV (i 0).val (1024 * (i 1).val + 256 * (i 2).val + (i 3).val) : ℝ) : EReal) := by
  have a1 : (i 1).val < 2 := (i 1).isLt
  have a2 : (i 2).val < 4 := (i 2).isLt
  have a3 : (i 3).val < 256 := (i 3).isLt
  rw [val_main_v3_apply]
  refine (h1 _).trans (congrArg (fun r : ℝ => (r : EReal)) (congrArg₂ KV ?_ ?_))
  · show ((((i 0).val * 2 + (i 1).val) * 4 + (i 2).val) * 256 + (i 3).val) / 2048 = _; omega
  · show ((((i 0).val * 2 + (i 1).val) * 4 + (i 2).val) * 256 + (i 3).val) % 2048 = _; omega

include h1 in
theorem v5_eq (i : S256x4x256.Idx) : val_main_v5 (F := Ideal) x1 i = ((KV (i 0).val (256 * (i 1).val + (i 2).val) : ℝ) : EReal) := by
  have a1 : (i 1).val < 4 := (i 1).isLt
  have a2 : (i 2).val < 256 := (i 2).isLt
  rw [val_main_v5_apply, val_main_v4_apply]
  refine (v3_eq x1 KV h1 _).trans (congrArg (fun r : ℝ => (r : EReal)) (congrArg₂ KV ?_ ?_))
  · show (((i 0).val * 4 + (i 1).val) * 256 + (i 2).val) / 1024 = _; omega
  · show 1024 * 0 + 256 * ((((i 0).val * 4 + (i 1).val) * 256 + (i 2).val) / 256 % 4) + (((i 0).val * 4 + (i 1).val) * 256 + (i 2).val) % 256 = _; omega

include h1 in
theorem v7_eq (i : S256x4x256.Idx) : val_main_v7 (F := Ideal) x1 i = ((KV (i 0).val (1024 + 256 * (i 1).val + (i 2).val) : ℝ) : EReal) := by
  have a1 : (i 1).val < 4 := (i 1).isLt
  have a2 : (i 2).val < 256 := (i 2).isLt
  rw [val_main_v7_apply, val_main_v6_apply]
  refine (v3_eq x1 KV h1 _).trans (congrArg (fun r : ℝ => (r : EReal)) (congrArg₂ KV ?_ ?_))
  · show (((i 0).val * 4 + (i 1).val) * 256 + (i 2).val) / 1024 = _; omega
  · show 1024 * (1 + 0) + 256 * ((((i 0).val * 4 + (i 1).val) * 256 + (i 2).val) / 256 % 4) + (((i 0).val * 4 + (i 1).val) * 256 + (i 2).val) % 256 = _; omega

include h0 h1 in
theorem v10_eq (i : S4x2048x256.Idx) : val_main_v10 (F := Ideal) x0 x1 i
    = ((score (fun k => Q (i 1).val (256 * (i 0).val + k)) (fun n k => KV n (256 * (i 0).val + k)) (i 2).val : ℝ) : EReal) := by
  rw [val_main_v10_apply, val_main_v8_apply, val_main_v9_apply, val_main_cst_apply]
  change (∑ k : Fin 256, _) * Ideal.ofBits .f32 0x3D800000#32 = _
  rw [sum_fin_coe _ (fun k => Q (i 1).val (256 * (i 0).val + k) * KV (i 2).val (256 * (i 0).val + k)) fun k => by
    rw [v2_eq x0 Q h0, v5_eq x1 KV h1, ← EReal.coe_mul], ofBits_sixteenth, ← EReal.coe_mul]
  rfl

include h0 h1 in
/-- The row's largest score is some real number. -/
theorem v11_eq (i : S4x2048.Idx) : ∃ M : ℝ, val_main_v11 (F := Ideal) x0 x1 i = (M : EReal) := by
  unfold val_main_v11
  rw [Host.reduce_eq_fold_single FloatOps.maximumf _ _ Gen.reducesTo_S4x2048x256_S4x2048_d2 (by decide) Gen.h_S_]
  show ∃ M : ℝ, Finset.fold max (Ideal.ofBits .f32 0xFF800000#32) _ _ = _
  rw [ofBits_neg_inf]
  exact fold_max_coe (by decide) _ fun k => ⟨_, v10_eq x0 x1 Q KV h0 h1 _⟩

/-- The scores of row `i` of head `h`. -/
abbrev sc (Q KV : ℕ → ℕ → ℝ) (h i n : ℕ) : ℝ := score (fun k => Q i (256 * h + k)) (fun n k => KV n (256 * h + k)) n

include h0 h1 in
/-- A row's exponentials are those of its scores less one real number, and their sum is the sum of those. -/
theorem exps (h : Fin 4) (i : Fin 2048) : ∃ M : ℝ,
    (∀ n : Fin 256, val_main_v31 (F := Ideal) x0 x1 (ix3 h i n) = ((Real.exp (sc Q KV h.val i.val n.val - M) : ℝ) : EReal))
    ∧ ∀ z : Fin 1, val_main_v33 (F := Ideal) x0 x1 (ix3 h i z) = ((∑ n ∈ range 256, Real.exp (sc Q KV h.val i.val n - M) : ℝ) : EReal) := by
  obtain ⟨M, hM⟩ := v11_eq x0 x1 Q KV h0 h1 (ix2 h i)
  have he : ∀ n : Fin 256, val_main_v31 (F := Ideal) x0 x1 (ix3 h i n) = ((Real.exp (sc Q KV h.val i.val n.val - M) : ℝ) : EReal) := by
    intro n
    rw [val_main_v31_apply, val_main_v30_apply, val_main_v29_apply, val_main_v28_apply, val_main_v18_apply, val_main_v17_apply,
      val_main_cst_2_apply, v10_eq x0 x1 Q KV h0 h1]
    have hi : idx_main_v28 (idx_main_v29 (ix3 h i n)) = ix2 h i := funext fun a => by
      match a with
      | ⟨0, _⟩ => rfl
      | ⟨1, _⟩ => rfl
    rw [hi, hM]
    have hb : max (Ideal.ofBits .f32 0xFF800000#32) (M : EReal) = (M : EReal) := by
      rw [ofBits_neg_inf]; exact max_eq_right bot_le
    exact congrArg (fun x : EReal => Ideal.exp (((sc Q KV h.val i.val n.val : ℝ) : EReal) - x)) hb
  refine ⟨M, he, fun z => ?_⟩
  rw [val_main_v33_apply, val_main_v32_apply, val_main_cst_8_apply]
  change Ideal.ofBits .f32 0x00000000#32 + _ = _
  rw [Ideal.ofBits_zero_f32, zero_add]
  refine sum_fin_coe _ (fun n => Real.exp (sc Q KV h.val i.val n - M)) fun n => ?_
  rw [← he n]
  exact congrArg _ (funext fun a => by
    match a with
    | ⟨0, _⟩ => rfl
    | ⟨1, _⟩ => rfl
    | ⟨2, _⟩ => rfl)

include h0 h1 in
/-- The attention weights. -/
theorem v35_eq (h : Fin 4) (i : Fin 2048) (n : Fin 256) : val_main_v35 (F := Ideal) x0 x1 (ix3 h i n)
    = ((probAt Q KV (256 * h.val) i.val n.val : ℝ) : EReal) := by
  obtain ⟨M, he, ht⟩ := exps x0 x1 Q KV h0 h1 h i
  have hpos : 0 < ∑ n ∈ range 256, Real.exp (sc Q KV h.val i.val n - M) := sum_pos (fun _ _ => Real.exp_pos _) (by simp)
  rw [val_main_v35_apply, val_main_v34_apply, he, show idx_main_v34 (ix3 h i n) = ix3 h i 0 from funext fun a => by
      match a with
      | ⟨0, _⟩ => rfl
      | ⟨1, _⟩ => rfl
      | ⟨2, _⟩ => rfl, ht]
  change Ideal.div _ _ = _
  rw [div_coe_coe _ hpos.ne', prob_shift]
  rfl

include h2 in
/-- The output's gradient, head by head. -/
theorem v44_eq (i : S4x256x2048.Idx) : val_main_v44 (F := Ideal) x2 i = ((D (i 2).val (256 * (i 0).val + (i 1).val) : ℝ) : EReal) := by
  have a0 : (i 0).val < 4 := (i 0).isLt
  have a1 : (i 1).val < 256 := (i 1).isLt
  rw [val_main_v44_apply, val_main_v43_apply]
  refine (h2 _).trans (congrArg (fun r : ℝ => (r : EReal)) (congrArg₂ D ?_ ?_))
  · show (((i 2).val * 4 + (i 0).val) * 256 + (i 1).val) / 1024 = _; omega
  · show (((i 2).val * 4 + (i 0).val) * 256 + (i 1).val) % 1024 = _; omega

include h1 h2 in
/-- The weights' gradient. -/
theorem v45_eq (h : Fin 4) (i : Fin 2048) (n : Fin 256) : val_main_v45 (F := Ideal) x1 x2 (ix3 h i n)
    = ((dprob (fun k => D i.val (256 * h.val + k)) (fun n k => KV n (1024 + 256 * h.val + k)) n.val : ℝ) : EReal) := by
  rw [val_main_v45_apply]
  refine sum_fin_coe _ (fun k => D i.val (256 * h.val + k) * KV n.val (1024 + 256 * h.val + k)) fun k => ?_
  rw [v44_eq x2 D h2, v7_eq x1 KV h1, ← EReal.coe_mul]

include h0 h1 h2 in
/-- The scores' gradient. -/
theorem v61_eq (h : Fin 4) (i : Fin 2048) (n : Fin 256) : val_main_v61 (F := Ideal) x0 x1 x2 (ix3 h i n)
    = ((dscoreAt Q D KV (256 * h.val) i.val n.val : ℝ) : EReal) := by
  obtain ⟨M, he, ht⟩ := exps x0 x1 Q KV h0 h1 h i
  have hpos : 0 < ∑ n ∈ range 256, Real.exp (sc Q KV h.val i.val n - M) := sum_pos (fun _ _ => Real.exp_pos _) (by simp)
  have hsq := mul_pos hpos hpos
  have h38 : ∀ z : Fin 1, val_main_v38 (F := Ideal) x0 x1 (ix3 h i z) = ((1 / ((∑ n ∈ range 256, Real.exp (sc Q KV h.val i.val n - M))
      * ∑ n ∈ range 256, Real.exp (sc Q KV h.val i.val n - M)) : ℝ) : EReal) := by
    intro z
    rw [val_main_v38_apply, val_main_v37_apply, val_main_cst_9_apply, val_main_v36_apply, ht]
    change Ideal.div (Ideal.ofBits .f32 0x3F800000#32) (_ * _) = _
    rw [ofBits_one, ← EReal.coe_mul, div_coe_coe _ hsq.ne']
  have h53 : ∀ z : Fin 1, val_main_v53 (F := Ideal) x0 x1 x2 (ix3 h i z) = ((-(∑ a ∈ range 256,
      dprob (fun k => D i.val (256 * h.val + k)) (fun n k => KV n (1024 + 256 * h.val + k)) a
        * (1 / ((∑ n ∈ range 256, Real.exp (sc Q KV h.val i.val n - M)) * ∑ n ∈ range 256, Real.exp (sc Q KV h.val i.val n - M)))
        * Real.exp (sc Q KV h.val i.val a - M)) : ℝ) : EReal) := by
    intro z
    rw [val_main_v53_apply, val_main_v52_apply, val_main_v51_apply, val_main_cst_10_apply]
    change -(Ideal.ofBits .f32 0x00000000#32 + _) = _
    rw [Ideal.ofBits_zero_f32, zero_add, EReal.coe_neg]
    refine congrArg (fun x : EReal => -x) (sum_fin_coe _ (fun a => dprob (fun k => D i.val (256 * h.val + k)) (fun n k => KV n (1024 + 256 * h.val + k)) a
        * (1 / ((∑ n ∈ range 256, Real.exp (sc Q KV h.val i.val n - M)) * ∑ n ∈ range 256, Real.exp (sc Q KV h.val i.val n - M)))
        * Real.exp (sc Q KV h.val i.val a - M)) fun a => ?_)
    have hi : idx_main_v51 (idx_main_v52 (ix3 h i z)) a = ix3 h i a := funext fun b => by
      match b with
      | ⟨0, _⟩ =>
        apply Fin.ext
        show ((h.val * 2048 + i.val) * 1 + z.val) / 2048 = h.val
        omega
      | ⟨1, _⟩ =>
        apply Fin.ext
        show ((h.val * 2048 + i.val) * 1 + z.val) % 2048 = i.val
        omega
      | ⟨2, _⟩ => rfl
    rw [hi, val_main_v50_apply, val_main_v49_apply, val_main_v48_apply, v45_eq x1 x2 KV D h1 h2, he,
      show idx_main_v48 (ix3 h i a) = ix3 h i 0 from funext fun a => by
        match a with
        | ⟨0, _⟩ => rfl
        | ⟨1, _⟩ => rfl
        | ⟨2, _⟩ => rfl, h38, EReal.coe_mul, EReal.coe_mul]
    rfl
  rw [val_main_v61_apply, val_main_v60_apply, val_main_cst_12_apply, val_main_v59_apply, val_main_v58_apply, val_main_v57_apply,
    val_main_v56_apply, val_main_cst_11_apply, val_main_v55_apply, val_main_v54_apply, he, v45_eq x1 x2 KV D h1 h2,
    show idx_main_v54 (ix3 h i n) = ix3 h i 0 from funext fun a => by
        match a with
        | ⟨0, _⟩ => rfl
        | ⟨1, _⟩ => rfl
        | ⟨2, _⟩ => rfl, ht, Fin.sum_univ_one,
    show idx_main_v56 (idx_main_v57 (ix3 h i n)) 0 = ix3 h i 0 from funext fun a => by
        match a with
        | ⟨0, _⟩ => rfl
        | ⟨1, _⟩ => rfl
        | ⟨2, _⟩ => rfl, h53]
  change ((Ideal.div _ _ + (Ideal.ofBits .f32 0x00000000#32 + _)) * _) * Ideal.ofBits .f32 0x3D800000#32 = _
  rw [Ideal.ofBits_zero_f32, zero_add, div_coe_coe _ hpos.ne', ofBits_sixteenth, ← EReal.coe_add, ← EReal.coe_mul, ← EReal.coe_mul]
  exact congrArg _ (quotient_rule _ _ _ _ M n.val)

include h0 h1 h2 in
/-- The first result: the gradient of the queries. -/
theorem v73_eq (i : S2048x1024.Idx) : val_main_v73 (F := Ideal) x0 x1 x2 i = ((dq Q D KV (i 0).val (i 1).val : ℝ) : EReal) := by
  have a0 : (i 0).val < 2048 := (i 0).isLt
  have a1 : (i 1).val < 1024 := (i 1).isLt
  rw [val_main_v73_apply, val_main_v72_apply, val_main_v65_apply]
  change val_main_v64 (F := Ideal) x0 x1 x2 _ = _
  rw [val_main_v64_apply]
  refine sum_fin_coe _ (fun n => dscoreAt Q D KV (headOf (i 1).val) (i 0).val n * KV n (i 1).val) fun n => ?_
  have e : lidx_main_v64 (idx_main_v65 (idx_main_v72 i)) n = ix3 ⟨(i 1).val / 256, by omega⟩ (i 0) n := funext fun a => by
    match a with
    | ⟨0, _⟩ => apply Fin.ext; show ((i 0).val * 1024 + (i 1).val) / 256 % 4 = (i 1).val / 256; omega
    | ⟨1, _⟩ => apply Fin.ext; show ((i 0).val * 1024 + (i 1).val) / 1024 = (i 0).val; omega
    | ⟨2, _⟩ => rfl
  rw [e, v61_eq x0 x1 x2 Q KV D h0 h1 h2, v5_eq x1 KV h1, ← EReal.coe_mul]
  refine congrArg (fun r : ℝ => (r : EReal)) (congrArg₂ (· * ·) ?_ ?_)
  · exact congrArg (fun o => dscoreAt Q D KV o (i 0).val n.val) (show 256 * ((i 1).val / 256) = (i 1).val / 256 * 256 by omega)
  · refine congrArg (KV n.val) ?_
    show 256 * (((i 0).val * 1024 + (i 1).val) / 256 % 4) + ((i 0).val * 1024 + (i 1).val) % 256 = (i 1).val
    omega

include h0 h1 h2 in
/-- The keys' gradient, head by head. -/
theorem v62_eq (i : S4x256x256.Idx) : val_main_v62 (F := Ideal) x0 x1 x2 i
    = ((∑ r ∈ range 2048, dscoreAt Q D KV (256 * (i 0).val) r (i 1).val * Q r (256 * (i 0).val + (i 2).val) : ℝ) : EReal) := by
  rw [val_main_v62_apply]
  refine sum_fin_coe _ (fun r => dscoreAt Q D KV (256 * (i 0).val) r (i 1).val * Q r (256 * (i 0).val + (i 2).val)) fun r => ?_
  have e : lidx_main_v62 i r = ix3 (i 0) r (i 1) := funext fun a => by
    match a with
    | ⟨0, _⟩ => rfl
    | ⟨1, _⟩ => rfl
    | ⟨2, _⟩ => rfl
  rw [e, v61_eq x0 x1 x2 Q KV D h0 h1 h2, v2_eq x0 Q h0, ← EReal.coe_mul]

include h0 h1 h2 in
/-- The values' gradient, head by head. -/
theorem v46_eq (i : S4x256x256.Idx) : val_main_v46 (F := Ideal) x0 x1 x2 i
    = ((∑ r ∈ range 2048, probAt Q KV (256 * (i 0).val) r (i 2).val * D r (256 * (i 0).val + (i 1).val) : ℝ) : EReal) := by
  rw [val_main_v46_apply]
  refine sum_fin_coe _ (fun r => probAt Q KV (256 * (i 0).val) r (i 2).val * D r (256 * (i 0).val + (i 1).val)) fun r => ?_
  have e : ridx_main_v46 i r = ix3 (i 0) r (i 2) := funext fun a => by
    match a with
    | ⟨0, _⟩ => rfl
    | ⟨1, _⟩ => rfl
    | ⟨2, _⟩ => rfl
  rw [e, v44_eq x2 D h2, v35_eq x0 x1 Q KV h0 h1, ← EReal.coe_mul, mul_comm]

include h0 h1 h2 in
/-- The second result: the keys' gradient beside the values'. -/
theorem v71_eq (i : S256x2048.Idx) : val_main_v71 (F := Ideal) x0 x1 x2 i = ((dkv Q D KV 0 2048 (i 0).val (i 1).val : ℝ) : EReal) := by
  have a0 : (i 0).val < 256 := (i 0).isLt
  have a1 : (i 1).val < 2048 := (i 1).isLt
  rw [val_main_v71_apply, val_main_v70_apply]
  change val_main_v67 (F := Ideal) x0 x1 x2 _ + val_main_v69 (F := Ideal) x0 x1 x2 _ = _
  have j0 : (idx_main_v71 i 0).val = (i 0).val := by show ((i 0).val * 2048 + (i 1).val) / 2048 = _; omega
  have j1 : (idx_main_v71 i 1).val = (i 1).val / 1024 := by show ((i 0).val * 2048 + (i 1).val) / 1024 % 2 = _; omega
  have j2 : (idx_main_v71 i 2).val = (i 1).val / 256 % 4 := by show ((i 0).val * 2048 + (i 1).val) / 256 % 4 = _; omega
  have j3 : (idx_main_v71 i 3).val = (i 1).val % 256 := by show ((i 0).val * 2048 + (i 1).val) % 256 = _; omega
  generalize idx_main_v71 i = j at *
  unfold val_main_v67 val_main_v69
  unfold dkv dk dv
  simp only [Nat.zero_add]
  by_cases hc : (i 1).val < 1024
  · rw [pad_apply_of_not_inside _ _ _ _ _ _ _ j 1 (fun h => by
        have h1 : 1 ≤ (j 1).val := h.1
        omega),
      pad_apply_of_inside _ _ _ _ _ _ _ j (ix4 (j 0) 0 (j 2) (j 3)) (fun a => by
        match a with
        | ⟨0, _⟩ => show (j 0).val = 0 + (j 0).val * (0 + 1); omega
        | ⟨1, _⟩ => show (j 1).val = 0 + 0 * (0 + 1); omega
        | ⟨2, _⟩ => show (j 2).val = 0 + (j 2).val * (0 + 1); omega
        | ⟨3, _⟩ => show (j 3).val = 0 + (j 3).val * (0 + 1); omega)]
    change Ideal.ofBits .f32 0x00000000#32 + _ = _
    rw [Ideal.ofBits_zero_f32, zero_add, val_main_v68_apply, val_main_v63_apply, v62_eq x0 x1 x2 Q KV D h0 h1 h2, if_pos hc]
    refine congrArg (fun r : ℝ => (r : EReal)) (sum_congr rfl fun r _ => ?_)
    refine congrArg₂ (· * ·) ?_ ?_
    · show dscoreAt Q D KV (256 * (j 2).val) r (j 0).val = _
      rw [j0, j2]
      exact congrArg (fun o => dscoreAt Q D KV o r (i 0).val) (show 256 * ((i 1).val / 256 % 4) = (i 1).val / 256 * 256 by omega)
    · refine congrArg (Q r) ?_
      show 256 * (j 2).val + (j 3).val = _
      omega
  · rw [pad_apply_of_inside _ _ _ _ _ _ _ j (ix4 (j 0) 0 (j 2) (j 3)) (fun a => by
        match a with
        | ⟨0, _⟩ => show (j 0).val = 0 + (j 0).val * (0 + 1); omega
        | ⟨1, _⟩ => show (j 1).val = 1 + 0 * (0 + 1); omega
        | ⟨2, _⟩ => show (j 2).val = 0 + (j 2).val * (0 + 1); omega
        | ⟨3, _⟩ => show (j 3).val = 0 + (j 3).val * (0 + 1); omega),
      pad_apply_of_not_inside _ _ _ _ _ _ _ j 1 (fun h => by
        have h1 : ((j 1).val - 0) / (0 + 1) < 1 := h.2.2
        omega)]
    change _ + Ideal.ofBits .f32 0x00000000#32 = _
    rw [Ideal.ofBits_zero_f32, add_zero, val_main_v66_apply, val_main_v47_apply, v46_eq x0 x1 x2 Q KV D h0 h1 h2, if_neg hc]
    refine congrArg (fun r : ℝ => (r : EReal)) (sum_congr rfl fun r _ => ?_)
    refine congrArg₂ (· * ·) ?_ ?_
    · show probAt Q KV (256 * (j 2).val) r (j 0).val = _
      rw [j0, j2]
      exact congrArg (fun o => probAt Q KV o r (i 0).val) (show 256 * ((i 1).val / 256 % 4) = ((i 1).val - 1024) / 256 * 256 by omega)
    · refine congrArg (D r) ?_
      show 256 * (j 2).val + (j 3).val = _
      omega

end

end Cert.Xattn.Ref

end
-- ==== Proof.Xattn.Claim.lean ====
/-
  The memory cross-attention's backward pass: its kernel and its reference leave the same arrays, and the reference's
  frame (hand-written, untrusted).
-/
module

public import proofs.«01_k».proof.Defs
public import proofs.«01_k».proof.Proof.Xattn.Blocks
public import proofs.«01_k».proof.Proof.Xattn.Ref
public import proofs.«01_k».proof.Proof.Gen.XattnRefIdeal.Run
public import proofs.«01_k».proof.Proof.Gen.Pre_xattn_finite

@[expose] public section

set_option backward.isDefEq.respectTransparency.types false
set_option backward.isDefEq.respectTransparency false

noncomputable section

namespace Cert.Xattn.Result

open Idealize.ShloMosaic Idealize.ShloMosaic.TcCoe Idealize.SL.Sem Idealize.ShloMosaic.ValueIdx
open Cert.Xattn.Math Cert.Reals

/-- The reference's run ends with its arguments as they were; it declares no semaphore, so every counter is zero. -/
theorem frame_ref (m : (ℓ : Loc Cert.XattnRefIdeal.nD Cert.XattnRefIdeal.τ Cert.XattnRefIdeal.sig) → Buf (Elt Ideal) ℓ)
    (g : Dev Cert.XattnRefIdeal.nD → PrngReg) :
    θ_run (Cert.XattnRefIdeal.defs (F := Ideal)) (onTc (τ := Cert.XattnRefIdeal.τ) (Cert.XattnRefIdeal.main (F := Ideal)))
      ⟨m, fun _ => 0, g⟩ fun r => (∀ c : Dev Cert.XattnRefIdeal.nD,
        r.2.mem ((c.tc : Thread Cert.XattnRefIdeal.nD Cert.XattnRefIdeal.τ).loc Cert.XattnRefIdeal.main_arg0)
            = m ((c.tc : Thread Cert.XattnRefIdeal.nD Cert.XattnRefIdeal.τ).loc Cert.XattnRefIdeal.main_arg0)
        ∧ r.2.mem ((c.tc : Thread Cert.XattnRefIdeal.nD Cert.XattnRefIdeal.τ).loc Cert.XattnRefIdeal.main_arg1)
            = m ((c.tc : Thread Cert.XattnRefIdeal.nD Cert.XattnRefIdeal.τ).loc Cert.XattnRefIdeal.main_arg1)
        ∧ r.2.mem ((c.tc : Thread Cert.XattnRefIdeal.nD Cert.XattnRefIdeal.τ).loc Cert.XattnRefIdeal.main_arg2)
            = m ((c.tc : Thread Cert.XattnRefIdeal.nD Cert.XattnRefIdeal.τ).loc Cert.XattnRefIdeal.main_arg2))
      ∧ r.2.sem = fun _ => 0 :=
  (θ_run Cert.XattnRefIdeal.defs _ _).mono
    (fun r h => ⟨fun c => (h c).2.2, sem_eq_zero_of_no_sems (by decide) r.2⟩) (Cert.XattnRefIdeal.Value.run m g)

/-- Under the precondition the three arguments of a device hold real numbers. -/
theorem reals (m : (ℓ : Loc Cert.XattnIdeal.nD Cert.XattnIdeal.τ Cert.XattnIdeal.sig) → Buf (Elt Ideal) ℓ)
    (h : Cert.Pre_XattnIdeal_xattn_finite m) (c : Dev Cert.XattnIdeal.nD) :
    ∃ Q KV D : ℕ → ℕ → ℝ, Cert.Xattn.Blocks.Holds m c Q KV D := by
  obtain ⟨h0, h1, h2⟩ := h c
  obtain ⟨Q, hQ⟩ := reals_of_two (fun i : Cert.XattnIdeal.S2048x1024.Idx => (i 0).val) (fun i => (i 1).val)
    (fun i j p q => funext fun a => Fin.ext (by fin_cases a; exacts [p, q])) _
    (fun i => real_of_abs_lt _ (congrFun h0 i))
  obtain ⟨KV, hKV⟩ := reals_of_two (fun i : Cert.XattnIdeal.S256x2048.Idx => (i 0).val) (fun i => (i 1).val)
    (fun i j p q => funext fun a => Fin.ext (by fin_cases a; exacts [p, q])) _
    (fun i => real_of_abs_lt _ (congrFun h1 i))
  obtain ⟨D, hD⟩ := reals_of_two (fun i : Cert.XattnIdeal.S2048x1024.Idx => (i 0).val) (fun i => (i 1).val)
    (fun i j p q => funext fun a => Fin.ext (by fin_cases a; exacts [p, q])) _
    (fun i => real_of_abs_lt _ (congrFun h2 i))
  exact ⟨Q, KV, D, hQ, hKV, hD⟩

/-- The kernel and the reference leave the same gradients. -/
theorem algebraic : Cert.algebraic_XattnIdeal_XattnRefIdeal_pre_xattn_finite := by
  intro m g m' g' hpre hagree
  refine ⟨fun c => (Cert.XattnIdeal.Gen.dats m 0 c).arrAt 3 Cert.XattnIdeal.cfg0.N,
    fun c => (Cert.XattnIdeal.Gen.dats m 0 c).arrAt 4 Cert.XattnIdeal.cfg0.N,
    Cert.XattnIdeal.Value.run_blocks m g,
    (θ_run Cert.XattnRefIdeal.defs _ _).mono (fun r h c => ?_) (Cert.XattnRefIdeal.Value.run m' g')⟩
  obtain ⟨Q, KV, D, H⟩ := reals m hpre c
  obtain ⟨e0, e1, e2⟩ := hagree c
  obtain ⟨r73, r71, k⟩ := h c
  refine ⟨r73.trans ?_, r71.trans ?_, k⟩
  · rw [Cert.XattnRefIdeal.Read.val_main_v73_eq, e0, e1, e2]
    refine (funext fun i => ?_).trans (Cert.Xattn.Blocks.arr_dq H).symm
    exact Cert.Xattn.Ref.v73_eq _ _ _ Q KV D H.q H.kv H.d i
  · rw [Cert.XattnRefIdeal.Read.val_main_v71_eq, e0, e1, e2]
    refine (funext fun i => ?_).trans (Cert.Xattn.Blocks.arr_dkv H).symm
    exact Cert.Xattn.Ref.v71_eq _ _ _ Q KV D H.q H.kv H.d i

end Cert.Xattn.Result

end
-- ==== Proof.Product.Math.lean ====
/-
  Sums of products of extended real numbers (hand-written, untrusted).

  A matrix product's entry is `∑ k, a k * b k`, whatever the two factors are: the sums below need no finiteness, since
  addition of extended reals is commutative and associative on all of them. An array is handed on as a function of its
  row's and its column's number, so that a block of it is that function at shifted numbers.
-/
module

public import proofs.«01_k».proof.Proof.Reals
public import Idealize.ShloMosaic.Lib.Pipeline.ValueKit
public import Idealize.ShloMosaic.Lib.Pipeline.ReadBack

@[expose] public section

noncomputable section

namespace Cert.Product

open Idealize.ShloMosaic Idealize.ShloMosaic.ValueIdx Finset

/-- An entry of a matrix product of depth `n`: the row `a` times the column `b`. -/
def entry (n : ℕ) (a b : ℕ → EReal) : EReal := ∑ k ∈ range n, a k * b k

theorem entry_comm (n : ℕ) (a b : ℕ → EReal) : entry n a b = entry n b a :=
  sum_congr rfl fun _ _ => mul_comm _ _

/-- An entry of depth `n` and the next `l` products make the entry of depth `n + l`. -/
theorem entry_add (n l : ℕ) (a b : ℕ → EReal) :
    entry n a b + entry l (fun k => a (n + k)) (fun k => b (n + k)) = entry (n + l) a b :=
  (sum_range_add (fun k => a k * b k) n l).symm

/-- A sum over `n` indices of products of two functions of the index's number. -/
theorem fin_entry {n : ℕ} (x y : Fin n → EReal) (a b : ℕ → EReal) (hx : ∀ k, x k = a k.val) (hy : ∀ k, y k = b k.val) :
    ∑ k, x k * y k = entry n a b := by
  unfold entry
  rw [Finset.sum_range]
  exact sum_congr rfl fun k _ => by rw [hx, hy]

/-- A one-axis contraction of operands that read as functions of the contracted coordinate. -/
theorem dot_entry {sl sr so : Shape} (D : DotDims sl sr so) (n : ℕ) (hr : D.contr.rank = 1)
    (hs : D.contr.size ⟨0, by omega⟩ = n) (lhs : sl.Idx → EReal) (rhs : sr.Idx → EReal) (j : so.Idx) (a b : ℕ → EReal)
    (ha : ∀ k : D.contr.Idx, lhs (D.lhsIdx j k) = a (k ⟨0, by omega⟩).val)
    (hb : ∀ k : D.contr.Idx, rhs (D.rhsIdx j k) = b (k ⟨0, by omega⟩).val) :
    ∑ k : D.contr.Idx, lhs (D.lhsIdx j k) * rhs (D.rhsIdx j k) = entry n a b := by
  rw [← Equiv.sum_comp (contrEquiv1 D n hr hs).symm]
  exact fin_entry _ _ a b (fun k => by rw [ha, contrEquiv1_symm_val D n hr hs k])
    (fun k => by rw [hb, contrEquiv1_symm_val D n hr hs k])

/-- The kernel's contraction into the zero accumulator, of blocks that read as functions of the contracted coordinate. -/
theorem block_entry {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx) (a b : ℕ → EReal)
    (ha : ∀ k : D.contr.Idx, lhs (D.lhsIdx j k) = a (k ⟨0, by omega⟩).val)
    (hb : ∀ k : D.contr.Idx, rhs (D.rhsIdx j k) = b (k ⟨0, by omega⟩).val) :
    matmul D none lhs rhs (constant so .f32 0x00000000#32) j = entry n a b :=
  (Ideal.matmul_constant_zero_apply D none lhs rhs j).trans (dot_entry D n hr hs lhs rhs j a b ha hb)

/-- An array whose indices are told apart by two naturals is a function of those two. -/
theorem of_two {I : Type} (p q : I → ℕ) (inj : ∀ i j, p i = p j → q i = q j → i = j) (x : I → EReal) :
    ∃ A : ℕ → ℕ → EReal, ∀ i, x i = A (p i) (q i) := by
  classical
  refine ⟨fun a b => if e : ∃ i, p i = a ∧ q i = b then x e.choose else 0, fun i => ?_⟩
  have e : ∃ j, p j = p i ∧ q j = q i := ⟨i, rfl, rfl⟩
  show x i = if e : ∃ j, p j = p i ∧ q j = q i then x e.choose else 0
  rw [dif_pos e, inj _ _ e.choose_spec.1 e.choose_spec.2]

/-- A matrix is a function of its row's and its column's number. -/
theorem of_matrix {r s : ℕ} (x : (⟨2, ![r, s]⟩ : Shape).Idx → EReal) :
    ∃ A : ℕ → ℕ → EReal, ∀ i, x i = A (i 0).val (i 1).val :=
  of_two (fun i => (i 0).val) (fun i => (i 1).val) (fun i j p q => funext fun a => Fin.ext (by fin_cases a; exacts [p, q])) x

/-- A matrix kept as a stack of `g` shards of `s` columns each: shard `a`'s column `b` is column `s a + b`. -/
theorem of_shards {g r s : ℕ} (x : (⟨3, ![g, r, s]⟩ : Shape).Idx → EReal) :
    ∃ A : ℕ → ℕ → EReal, ∀ i, x i = A (i 1).val (s * (i 0).val + (i 2).val) :=
  of_two (fun i => (i 1).val) (fun i => s * (i 0).val + (i 2).val) (fun i j p q => by
    have hi : (i 2).val < s := (i 2).isLt
    have hj : (j 2).val < s := (j 2).isLt
    have e0 : (i 0).val = (j 0).val := by
      have h := congrArg (· / s) q
      dsimp only at h
      rwa [Nat.mul_add_div (by omega), Nat.mul_add_div (by omega), Nat.div_eq_of_lt hi, Nat.div_eq_of_lt hj, Nat.add_zero,
        Nat.add_zero] at h
    have e2 : (i 2).val = (j 2).val := by
      rw [e0] at q
      exact Nat.add_left_cancel q
    exact funext fun a => Fin.ext (by fin_cases a; exacts [e0, p, e2])) x

/-- Index `j` of a block of `s` rows that is the `b`th is row `s b + j` of the array. -/
theorem place {w b s j : ℕ} (h : w = b) : w * s + 1 * j = s * b + j := by
  rw [h, Nat.mul_comm, Nat.one_mul]

/-- Index `j` of the first block is row `j` of the array. -/
theorem start {w s j : ℕ} (h : w = 0) : w * s + 1 * j = j := by
  rw [h, Nat.zero_mul, Nat.zero_add, Nat.one_mul]

/-- The one index of a block of extent one that is the `b`th is index `b` of the array. -/
theorem unit {w b j : ℕ} (h : w = b) (hj : j < 1) : w * 1 + 1 * j = b := by
  omega

end Cert.Product

end
-- ==== Proof.Product.InAbDx.lean ====
/-
  The gradient of a dilated-attention layer's input product with respect to its input: `dz` times the weights, transposed
  (hand-written, untrusted). The weights come as four shards of 1536 columns; the four grid points of a block of 1024 rows
  multiply by one shard each and add into a scratch, which the last of them writes out.
-/
module

public import proofs.«01_k».proof.Defs
public import proofs.«01_k».proof.Proof.Product.Math
public import proofs.«01_k».proof.Proof.Gen.InAbDxIdeal.Value
public import proofs.«01_k».proof.Proof.Gen.InAbDxRefIdeal.Run
public import proofs.«01_k».proof.Proof.Gen.InAbDxRefIdeal.Read

@[expose] public section

set_option backward.isDefEq.respectTransparency.types false
set_option backward.isDefEq.respectTransparency false

noncomputable section

namespace Cert.Product.InAbDx

open Idealize.ShloMosaic Idealize.ShloMosaic.TcCoe Idealize.SL.Sem Idealize.ShloMosaic.ValueIdx
open Cert.InAbDxIdeal Cert.InAbDxIdeal.Gen

/-- Where the blocks of a point lie: the gradient's rows and columns, the weights' shard, the product's rows. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

variable {m : (ℓ : Loc nD τ sig) → Buf (Elt Ideal) ℓ} {c : Dev nD} {A B : ℕ → ℕ → EReal}
  (hA : ∀ i : S2048x6144.Idx, m ((c : Thread nD τ).loc main_arg0) i = A (i 0).val (i 1).val)
  (hB : ∀ i : S4x1024x1536.Idx, m ((c : Thread nD τ).loc main_arg1) i = B (i 1).val (1536 * (i 0).val + (i 2).val))

include hA in
theorem block_a (t : Fin cfg0.N) (j : S1024x1536.Idx) :
    iblk m c 0 t j = A (1024 * (t.val / 4) + (j 0).val) (1536 * (t.val % 4) + (j 1).val) :=
  (hA _).trans (congrArg₂ A (place (congrFun (idx t).1 0)) (place (congrFun (idx t).1 1)))

include hB in
theorem block_b (t : Fin cfg0.N) (j : S1x1024x1536.Idx) : iblk m c 1 t j = B (j 1).val (1536 * (t.val % 4) + (j 2).val) :=
  (hB _).trans (congrArg₂ B (start (congrFun (idx t).2.1 1))
    (congrArg₂ (fun p q => 1536 * p + q) (unit (congrFun (idx t).2.1 0) (j 0).isLt) (start (congrFun (idx t).2.1 2))))

include hA hB in
/-- A point's own product: its 1536 columns' share of the entry. -/
theorem share (t : Fin cfg0.N) (j : S1024x1024.Idx) :
    k0_pay1 (F := Ideal) (iblk m c 0 t) (iblk m c 1 t) j
      = entry 1536 (fun k => A (1024 * (t.val / 4) + (j 0).val) (1536 * (t.val % 4) + k)) (fun k => B (j 1).val (1536 * (t.val % 4) + k)) := by
  unfold k0_pay1
  exact block_entry dot_S1024x1536_S1024x1536_S1024x1024_1_1_0_0_n_n 1536 rfl rfl _ _ j _ _ (fun k => block_a hA t _)
    (fun k => (shapeCast_dropUnit_apply _ _ _ _).trans (block_b hB t _))

include hA hB in
/-- The scratch after the first point of a block's four holds that point's share. -/
theorem first (t : Fin cfg0.N) (h : t.val % 4 = 0) (j : S1024x1024.Idx) : (outsAt0 m c t.val t.isLt).2 j
      = entry 1536 (A (1024 * (t.val / 4) + (j 0).val)) (B (j 1).val) := by
  rw [outsAt0_A m c t h (by omega) (by omega)]
  frame_out
  unfold k0_pay2
  rw [shapeCast_self, share hA hB, h]
  simp only [Nat.mul_zero, Nat.zero_add]

include hA hB in
/-- At a later point the share is added to what the scratch held, and the last point's output is the scratch. -/
theorem next (t : Fin cfg0.N) (h : ¬t.val % 4 = 0) (j : S1024x1024.Idx) : (outsAt0 m c t.val t.isLt).2 j
      = (outsAt0 m c (t.val - 1) (Nat.lt_of_le_of_lt (Nat.sub_le _ _) t.isLt)).2 j
        + entry 1536 (fun k => A (1024 * (t.val / 4) + (j 0).val) (1536 * (t.val % 4) + k)) (fun k => B (j 1).val (1536 * (t.val % 4) + k)) := by
  rw [← share hA hB]
  by_cases h3 : t.val % 4 = 3
  · conv_lhs => rw [outsAt0_C m c t h (by omega) h3]
    frame_out
    simp only [read_unread_whole]
    unfold k0_pay3
    rw [shapeCast_self, addf_apply]
  · conv_lhs => rw [outsAt0_B m c t h (by omega) h3]
    frame_out
    simp only [read_unread_whole]
    unfold k0_pay3
    rw [shapeCast_self, addf_apply]

include hA hB in
/-- The scratch after a point: the entry over the columns of the shards so far. -/
theorem acc (s : ℕ) (t : Fin cfg0.N) (h : t.val % 4 = s) (j : S1024x1024.Idx) : (outsAt0 m c t.val t.isLt).2 j
      = entry (1536 * s + 1536) (A (1024 * (t.val / 4) + (j 0).val)) (B (j 1).val) := by
  induction s generalizing t with
  | zero => exact first hA hB t h j
  | succ s ih =>
    have hp := ih ⟨t.val - 1, Nat.lt_of_le_of_lt (Nat.sub_le _ _) t.isLt⟩ (by dsimp only; omega)
    dsimp only at hp
    rw [next hA hB t (by omega), hp, h, show (t.val - 1) / 4 = t.val / 4 by omega]
    exact entry_add (1536 * s + 1536) 1536 _ _

include hA hB in
/-- The product's array after the run. -/
theorem arr : (dats m 0 c).arrAt 2 cfg0.N = fun i : S2048x1024.Idx => entry 6144 (A (i 0).val) (B (i 1).val) := by
  refine (dats m 0 c).arrAt_eq_of_covers 2 (fun i : S2048x1024.Idx => entry 6144 (A (i 0).val) (B (i 1).val)) (by decide +kernel) fun t hf j => ?_
  have h3 := (flush0_2 t).mp hf
  have e : (outsAt0 m c t.val t.isLt).1 = (outsAt0 m c t.val t.isLt).2 := by
    rw [outsAt0_C m c t (by omega) (by omega) h3]
    frame_out
  show (dats m 0 c).after 2 t j = _
  rw [after0_2, e]
  refine (acc hA hB 3 t h3 j).trans ?_
  exact congrArg₂ (fun p q => entry 6144 (A p) (B q)) (place (congrFun (idx t).2.2 0)).symm (start (congrFun (idx t).2.2 1)).symm

/-- The reference's run ends with its arguments as they were; it declares no semaphore, so every counter is zero. -/
theorem frame_ref : Cert.quiescent_InAbDxRefIdeal := fun m g _ =>
  (θ_run Cert.InAbDxRefIdeal.defs _ _).mono
    (fun r h => ⟨fun c => (h c).2, sem_eq_zero_of_no_sems (by decide) r.2⟩) (Cert.InAbDxRefIdeal.Value.run m g)

/-- The kernel and the reference leave the same gradient. -/
theorem algebraic : Cert.algebraic_InAbDxIdeal_InAbDxRefIdeal := by
  intro m g m' g' _ hagree
  refine ⟨fun c => (dats m 0 c).arrAt 2 cfg0.N, Value.run_blocks m g,
    (θ_run Cert.InAbDxRefIdeal.defs _ _).mono (fun r h c => ?_) (Cert.InAbDxRefIdeal.Value.run m' g')⟩
  obtain ⟨A, hA⟩ := of_matrix (m ((c : Thread nD τ).loc main_arg0) : S2048x6144.Idx → EReal)
  obtain ⟨B, hB⟩ := of_shards (m ((c : Thread nD τ).loc main_arg1) : S4x1024x1536.Idx → EReal)
  refine ⟨(h c).1.trans ?_, (h c).2⟩
  rw [Cert.InAbDxRefIdeal.Read.val_main_v6_eq, (hagree c).1, (hagree c).2]
  refine (funext fun i => ?_).trans (arr hA hB).symm
  rw [Cert.InAbDxRefIdeal.Read.val_main_v6_apply]
  refine fin_entry _ _ _ _ (fun k => hA _) (fun k => ?_)
  show Cert.InAbDxRefIdeal.Read.val_main_v1 (F := Ideal) _ _ = _
  rw [Cert.InAbDxRefIdeal.Read.val_main_v1_apply, Cert.InAbDxRefIdeal.Read.val_main_v0_apply, hB]
  have h1 : (i 1).val < 1024 := (i 1).isLt
  have hk := k.isLt
  refine congrArg₂ B ?_ ?_
  · show ((i 1).val * 6144 + k.val) / 6144 = _
    omega
  · show 1536 * (((i 1).val * 6144 + k.val) / 1536 % 4) + ((i 1).val * 6144 + k.val) % 1536 = _
    omega

end Cert.Product.InAbDx

end
-- ==== Proof.Product.InAbDw.lean ====
/-
  The gradient of the even block's input projection with respect to its weights: `x` transposed times `dy`, kept as four
  shards of columns (hand-written, untrusted). Each of the four grid points computes one shard.
-/
module

public import proofs.«01_k».proof.Defs
public import proofs.«01_k».proof.Proof.Product.Math
public import proofs.«01_k».proof.Proof.Gen.InAbDwIdeal.Value
public import proofs.«01_k».proof.Proof.Gen.InAbDwRefIdeal.Run
public import proofs.«01_k».proof.Proof.Gen.InAbDwRefIdeal.Read

@[expose] public section

set_option backward.isDefEq.respectTransparency.types false
set_option backward.isDefEq.respectTransparency false

noncomputable section

namespace Cert.Product.InAbDw

open Idealize.ShloMosaic Idealize.ShloMosaic.TcCoe Idealize.SL.Sem Idealize.ShloMosaic.ValueIdx
open Cert.InAbDwIdeal Cert.InAbDwIdeal.Gen

/-- Where the blocks of a point lie: `x` whole, a shard's columns of `dy`, that shard of the product. -/
theorem idx : ∀ t : Fin cfg0.N, win0_0.index t = ![0, 0] ∧ win0_1.index t = ![0, t.val] ∧ win0_2.index t = ![t.val, 0, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S2048x6144.Idx, m ((c : Thread nD τ).loc main_arg1) i = B (i 0).val (i 1).val)

include hA in
theorem block_a (t : Fin cfg0.N) (j : S2048x1024.Idx) : iblk m c 0 t j = A (j 0).val (j 1).val :=
  (hA _).trans (congrArg₂ A (start (congrFun (idx t).1 0)) (start (congrFun (idx t).1 1)))

include hB in
theorem block_b (t : Fin cfg0.N) (j : S2048x1536.Idx) : iblk m c 1 t j = B (j 0).val (1536 * t.val + (j 1).val) :=
  (hB _).trans (congrArg₂ B (start (congrFun (idx t).2.1 0)) (place (congrFun (idx t).2.1 1)))

include hA hB in
/-- The product's array after the run. -/
theorem arr : (dats m 0 c).arrAt 2 cfg0.N = fun i : S4x1024x1536.Idx =>
    entry 2048 (fun k => A k (i 1).val) (fun k => B k (1536 * (i 0).val + (i 2).val)) := by
  refine (dats m 0 c).arrAt_eq_of_covers 2 (fun i : S4x1024x1536.Idx => entry 2048 (fun k => A k (i 1).val)
    (fun k => B k (1536 * (i 0).val + (i 2).val))) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (shapeCast_addUnit_apply _ _ _ j).trans ?_
  refine (block_entry dot_S2048x1024_S2048x1536_S1024x1536_0_0_1_1_n_n 2048 rfl rfl _ _ _
    (fun k => A k (j 1).val) (fun k => B k (1536 * t.val + (j 2).val))
    (fun k => block_a hA t _) (fun k => block_b hB t _)).trans ?_
  exact congrArg₂ (fun p q => entry 2048 (fun k => A k p) (fun k => B k q)) (start (congrFun (idx t).2.2 1)).symm
    (congrArg₂ (fun p q => 1536 * p + q) (unit (congrFun (idx t).2.2 0) (j 0).isLt) (start (congrFun (idx t).2.2 2))).symm

/-- The reference's run ends with its arguments as they were; it declares no semaphore, so every counter is zero. -/
theorem frame_ref : Cert.quiescent_InAbDwRefIdeal := fun m g _ =>
  (θ_run Cert.InAbDwRefIdeal.defs _ _).mono
    (fun r h => ⟨fun c => (h c).2, sem_eq_zero_of_no_sems (by decide) r.2⟩) (Cert.InAbDwRefIdeal.Value.run m g)

/-- The kernel and the reference leave the same gradient. -/
theorem algebraic : Cert.algebraic_InAbDwIdeal_InAbDwRefIdeal := by
  intro m g m' g' _ hagree
  refine ⟨fun c => (dats m 0 c).arrAt 2 cfg0.N, Value.run_blocks m g,
    (θ_run Cert.InAbDwRefIdeal.defs _ _).mono (fun r h c => ?_) (Cert.InAbDwRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S2048x6144.Idx → EReal)
  refine ⟨(h c).1.trans ?_, (h c).2⟩
  rw [Cert.InAbDwRefIdeal.Read.val_main_v7_eq, (hagree c).1, (hagree c).2]
  refine (funext fun i => ?_).trans (arr hA hB).symm
  rw [Cert.InAbDwRefIdeal.Read.val_main_v7_apply, Cert.InAbDwRefIdeal.Read.val_main_v6_apply,
    Cert.InAbDwRefIdeal.Read.val_main_v5_apply, Cert.InAbDwRefIdeal.Read.val_main_v4_apply]
  have h0 : (i 0).val < 4 := (i 0).isLt
  have h1 : (i 1).val < 1024 := (i 1).isLt
  have h2 : (i 2).val < 1536 := (i 2).isLt
  refine (fin_entry _ _ (fun k => B k (1536 * (i 0).val + (i 2).val)) (fun k => A k (i 1).val)
    (fun k => (hB _).trans (congrArg (B k.val) ?_)) (fun k => (hA _).trans (congrArg (A k.val) ?_))).trans (entry_comm _ _ _)
  · show (((i 1).val * 4 + (i 0).val) * 1536 + (i 2).val) % 6144 = _
    omega
  · show (((i 1).val * 4 + (i 0).val) * 1536 + (i 2).val) / 6144 = _
    omega

end Cert.Product.InAbDw

end
-- ==== Proof.Product.InCdDx.lean ====
/-
  The gradient of a dilated-attention layer's input product with respect to its input: `dz` times the weights, transposed
  (hand-written, untrusted). The weights come as four shards of 1024 columns; the four grid points of a block of 1024 rows
  multiply by one shard each and add into a scratch, which the last of them writes out.
-/
module

public import proofs.«01_k».proof.Defs
public import proofs.«01_k».proof.Proof.Product.Math
public import proofs.«01_k».proof.Proof.Gen.InCdDxIdeal.Value
public import proofs.«01_k».proof.Proof.Gen.InCdDxRefIdeal.Run
public import proofs.«01_k».proof.Proof.Gen.InCdDxRefIdeal.Read

@[expose] public section

set_option backward.isDefEq.respectTransparency.types false
set_option backward.isDefEq.respectTransparency false

noncomputable section

namespace Cert.Product.InCdDx

open Idealize.ShloMosaic Idealize.ShloMosaic.TcCoe Idealize.SL.Sem Idealize.ShloMosaic.ValueIdx
open Cert.InCdDxIdeal Cert.InCdDxIdeal.Gen

/-- Where the blocks of a point lie: the gradient's rows and columns, the weights' shard, the product's rows. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

variable {m : (ℓ : Loc nD τ sig) → Buf (Elt Ideal) ℓ} {c : Dev nD} {A B : ℕ → ℕ → EReal}
  (hA : ∀ i : S2048x4096.Idx, m ((c : Thread nD τ).loc main_arg0) i = A (i 0).val (i 1).val)
  (hB : ∀ i : S4x1024x1024.Idx, m ((c : Thread nD τ).loc main_arg1) i = B (i 1).val (1024 * (i 0).val + (i 2).val))

include hA in
theorem block_a (t : Fin cfg0.N) (j : S1024x1024.Idx) :
    iblk m c 0 t j = A (1024 * (t.val / 4) + (j 0).val) (1024 * (t.val % 4) + (j 1).val) :=
  (hA _).trans (congrArg₂ A (place (congrFun (idx t).1 0)) (place (congrFun (idx t).1 1)))

include hB in
theorem block_b (t : Fin cfg0.N) (j : S1x1024x1024.Idx) : iblk m c 1 t j = B (j 1).val (1024 * (t.val % 4) + (j 2).val) :=
  (hB _).trans (congrArg₂ B (start (congrFun (idx t).2.1 1))
    (congrArg₂ (fun p q => 1024 * p + q) (unit (congrFun (idx t).2.1 0) (j 0).isLt) (start (congrFun (idx t).2.1 2))))

include hA hB in
/-- A point's own product: its 1024 columns' share of the entry. -/
theorem share (t : Fin cfg0.N) (j : S1024x1024.Idx) :
    k0_pay1 (F := Ideal) (iblk m c 0 t) (iblk m c 1 t) j
      = entry 1024 (fun k => A (1024 * (t.val / 4) + (j 0).val) (1024 * (t.val % 4) + k)) (fun k => B (j 1).val (1024 * (t.val % 4) + k)) := by
  unfold k0_pay1
  exact block_entry dot_S1024x1024_S1024x1024_S1024x1024_1_1_0_0_n_n 1024 rfl rfl _ _ j _ _ (fun k => block_a hA t _)
    (fun k => (shapeCast_dropUnit_apply _ _ _ _).trans (block_b hB t _))

include hA hB in
/-- The scratch after the first point of a block's four holds that point's share. -/
theorem first (t : Fin cfg0.N) (h : t.val % 4 = 0) (j : S1024x1024.Idx) : (outsAt0 m c t.val t.isLt).2 j
      = entry 1024 (A (1024 * (t.val / 4) + (j 0).val)) (B (j 1).val) := by
  rw [outsAt0_A m c t h (by omega) (by omega)]
  frame_out
  unfold k0_pay2
  rw [shapeCast_self, share hA hB, h]
  simp only [Nat.mul_zero, Nat.zero_add]

include hA hB in
/-- At a later point the share is added to what the scratch held, and the last point's output is the scratch. -/
theorem next (t : Fin cfg0.N) (h : ¬t.val % 4 = 0) (j : S1024x1024.Idx) : (outsAt0 m c t.val t.isLt).2 j
      = (outsAt0 m c (t.val - 1) (Nat.lt_of_le_of_lt (Nat.sub_le _ _) t.isLt)).2 j
        + entry 1024 (fun k => A (1024 * (t.val / 4) + (j 0).val) (1024 * (t.val % 4) + k)) (fun k => B (j 1).val (1024 * (t.val % 4) + k)) := by
  rw [← share hA hB]
  by_cases h3 : t.val % 4 = 3
  · conv_lhs => rw [outsAt0_C m c t h (by omega) h3]
    frame_out
    simp only [read_unread_whole]
    unfold k0_pay3
    rw [shapeCast_self, addf_apply]
  · conv_lhs => rw [outsAt0_B m c t h (by omega) h3]
    frame_out
    simp only [read_unread_whole]
    unfold k0_pay3
    rw [shapeCast_self, addf_apply]

include hA hB in
/-- The scratch after a point: the entry over the columns of the shards so far. -/
theorem acc (s : ℕ) (t : Fin cfg0.N) (h : t.val % 4 = s) (j : S1024x1024.Idx) : (outsAt0 m c t.val t.isLt).2 j
      = entry (1024 * s + 1024) (A (1024 * (t.val / 4) + (j 0).val)) (B (j 1).val) := by
  induction s generalizing t with
  | zero => exact first hA hB t h j
  | succ s ih =>
    have hp := ih ⟨t.val - 1, Nat.lt_of_le_of_lt (Nat.sub_le _ _) t.isLt⟩ (by dsimp only; omega)
    dsimp only at hp
    rw [next hA hB t (by omega), hp, h, show (t.val - 1) / 4 = t.val / 4 by omega]
    exact entry_add (1024 * s + 1024) 1024 _ _

include hA hB in
/-- The product's array after the run. -/
theorem arr : (dats m 0 c).arrAt 2 cfg0.N = fun i : S2048x1024.Idx => entry 4096 (A (i 0).val) (B (i 1).val) := by
  refine (dats m 0 c).arrAt_eq_of_covers 2 (fun i : S2048x1024.Idx => entry 4096 (A (i 0).val) (B (i 1).val)) (by decide +kernel) fun t hf j => ?_
  have h3 := (flush0_2 t).mp hf
  have e : (outsAt0 m c t.val t.isLt).1 = (outsAt0 m c t.val t.isLt).2 := by
    rw [outsAt0_C m c t (by omega) (by omega) h3]
    frame_out
  show (dats m 0 c).after 2 t j = _
  rw [after0_2, e]
  refine (acc hA hB 3 t h3 j).trans ?_
  exact congrArg₂ (fun p q => entry 4096 (A p) (B q)) (place (congrFun (idx t).2.2 0)).symm (start (congrFun (idx t).2.2 1)).symm

/-- The reference's run ends with its arguments as they were; it declares no semaphore, so every counter is zero. -/
theorem frame_ref : Cert.quiescent_InCdDxRefIdeal := fun m g _ =>
  (θ_run Cert.InCdDxRefIdeal.defs _ _).mono
    (fun r h => ⟨fun c => (h c).2, sem_eq_zero_of_no_sems (by decide) r.2⟩) (Cert.InCdDxRefIdeal.Value.run m g)

/-- The kernel and the reference leave the same gradient. -/
theorem algebraic : Cert.algebraic_InCdDxIdeal_InCdDxRefIdeal := by
  intro m g m' g' _ hagree
  refine ⟨fun c => (dats m 0 c).arrAt 2 cfg0.N, Value.run_blocks m g,
    (θ_run Cert.InCdDxRefIdeal.defs _ _).mono (fun r h c => ?_) (Cert.InCdDxRefIdeal.Value.run m' g')⟩
  obtain ⟨A, hA⟩ := of_matrix (m ((c : Thread nD τ).loc main_arg0) : S2048x4096.Idx → EReal)
  obtain ⟨B, hB⟩ := of_shards (m ((c : Thread nD τ).loc main_arg1) : S4x1024x1024.Idx → EReal)
  refine ⟨(h c).1.trans ?_, (h c).2⟩
  rw [Cert.InCdDxRefIdeal.Read.val_main_v6_eq, (hagree c).1, (hagree c).2]
  refine (funext fun i => ?_).trans (arr hA hB).symm
  rw [Cert.InCdDxRefIdeal.Read.val_main_v6_apply]
  refine fin_entry _ _ _ _ (fun k => hA _) (fun k => ?_)
  show Cert.InCdDxRefIdeal.Read.val_main_v1 (F := Ideal) _ _ = _
  rw [Cert.InCdDxRefIdeal.Read.val_main_v1_apply, Cert.InCdDxRefIdeal.Read.val_main_v0_apply, hB]
  have h1 : (i 1).val < 1024 := (i 1).isLt
  have hk := k.isLt
  refine congrArg₂ B ?_ ?_
  · show ((i 1).val * 4096 + k.val) / 4096 = _
    omega
  · show 1024 * (((i 1).val * 4096 + k.val) / 1024 % 4) + ((i 1).val * 4096 + k.val) % 1024 = _
    omega

end Cert.Product.InCdDx

end
-- ==== Proof.Product.InCdDw.lean ====
/-
  The gradient of the odd block's input projection with respect to its weights: `x` transposed times `dy`, kept as four
  shards of columns (hand-written, untrusted). Each of the four grid points computes one shard.
-/
module

public import proofs.«01_k».proof.Defs
public import proofs.«01_k».proof.Proof.Product.Math
public import proofs.«01_k».proof.Proof.Gen.InCdDwIdeal.Value
public import proofs.«01_k».proof.Proof.Gen.InCdDwRefIdeal.Run
public import proofs.«01_k».proof.Proof.Gen.InCdDwRefIdeal.Read

@[expose] public section

set_option backward.isDefEq.respectTransparency.types false
set_option backward.isDefEq.respectTransparency false

noncomputable section

namespace Cert.Product.InCdDw

open Idealize.ShloMosaic Idealize.ShloMosaic.TcCoe Idealize.SL.Sem Idealize.ShloMosaic.ValueIdx
open Cert.InCdDwIdeal Cert.InCdDwIdeal.Gen

/-- Where the blocks of a point lie: `x` whole, a shard's columns of `dy`, that shard of the product. -/
theorem idx : ∀ t : Fin cfg0.N, win0_0.index t = ![0, 0] ∧ win0_1.index t = ![0, t.val] ∧ win0_2.index t = ![t.val, 0, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S2048x4096.Idx, m ((c : Thread nD τ).loc main_arg1) i = B (i 0).val (i 1).val)

include hA in
theorem block_a (t : Fin cfg0.N) (j : S2048x1024.Idx) : iblk m c 0 t j = A (j 0).val (j 1).val :=
  (hA _).trans (congrArg₂ A (start (congrFun (idx t).1 0)) (start (congrFun (idx t).1 1)))

include hB in
theorem block_b (t : Fin cfg0.N) (j : S2048x1024.Idx) : iblk m c 1 t j = B (j 0).val (1024 * t.val + (j 1).val) :=
  (hB _).trans (congrArg₂ B (start (congrFun (idx t).2.1 0)) (place (congrFun (idx t).2.1 1)))

include hA hB in
/-- The product's array after the run. -/
theorem arr : (dats m 0 c).arrAt 2 cfg0.N = fun i : S4x1024x1024.Idx =>
    entry 2048 (fun k => A k (i 1).val) (fun k => B k (1024 * (i 0).val + (i 2).val)) := by
  refine (dats m 0 c).arrAt_eq_of_covers 2 (fun i : S4x1024x1024.Idx => entry 2048 (fun k => A k (i 1).val)
    (fun k => B k (1024 * (i 0).val + (i 2).val))) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (shapeCast_addUnit_apply _ _ _ j).trans ?_
  refine (block_entry dot_S2048x1024_S2048x1024_S1024x1024_0_0_1_1_n_n 2048 rfl rfl _ _ _
    (fun k => A k (j 1).val) (fun k => B k (1024 * t.val + (j 2).val))
    (fun k => block_a hA t _) (fun k => block_b hB t _)).trans ?_
  exact congrArg₂ (fun p q => entry 2048 (fun k => A k p) (fun k => B k q)) (start (congrFun (idx t).2.2 1)).symm
    (congrArg₂ (fun p q => 1024 * p + q) (unit (congrFun (idx t).2.2 0) (j 0).isLt) (start (congrFun (idx t).2.2 2))).symm

/-- The reference's run ends with its arguments as they were; it declares no semaphore, so every counter is zero. -/
theorem frame_ref : Cert.quiescent_InCdDwRefIdeal := fun m g _ =>
  (θ_run Cert.InCdDwRefIdeal.defs _ _).mono
    (fun r h => ⟨fun c => (h c).2, sem_eq_zero_of_no_sems (by decide) r.2⟩) (Cert.InCdDwRefIdeal.Value.run m g)

/-- The kernel and the reference leave the same gradient. -/
theorem algebraic : Cert.algebraic_InCdDwIdeal_InCdDwRefIdeal := by
  intro m g m' g' _ hagree
  refine ⟨fun c => (dats m 0 c).arrAt 2 cfg0.N, Value.run_blocks m g,
    (θ_run Cert.InCdDwRefIdeal.defs _ _).mono (fun r h c => ?_) (Cert.InCdDwRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S2048x4096.Idx → EReal)
  refine ⟨(h c).1.trans ?_, (h c).2⟩
  rw [Cert.InCdDwRefIdeal.Read.val_main_v7_eq, (hagree c).1, (hagree c).2]
  refine (funext fun i => ?_).trans (arr hA hB).symm
  rw [Cert.InCdDwRefIdeal.Read.val_main_v7_apply, Cert.InCdDwRefIdeal.Read.val_main_v6_apply,
    Cert.InCdDwRefIdeal.Read.val_main_v5_apply, Cert.InCdDwRefIdeal.Read.val_main_v4_apply]
  have h0 : (i 0).val < 4 := (i 0).isLt
  have h1 : (i 1).val < 1024 := (i 1).isLt
  have h2 : (i 2).val < 1024 := (i 2).isLt
  refine (fin_entry _ _ (fun k => B k (1024 * (i 0).val + (i 2).val)) (fun k => A k (i 1).val)
    (fun k => (hB _).trans (congrArg (B k.val) ?_)) (fun k => (hA _).trans (congrArg (A k.val) ?_))).trans (entry_comm _ _ _)
  · show (((i 1).val * 4 + (i 0).val) * 1024 + (i 2).val) % 4096 = _
    omega
  · show (((i 1).val * 4 + (i 0).val) * 1024 + (i 2).val) / 4096 = _
    omega

end Cert.Product.InCdDw

end
-- ==== Proof.Product.OutAbDx.lean ====
/-
  The gradient of the even block's output projection with respect to its input: `dy` times the weights, transposed
  (hand-written, untrusted). Each of the four grid points multiplies a block of 1024 rows of `dy` by 1024 rows of the weights.
-/
module

public import proofs.«01_k».proof.Defs
public import proofs.«01_k».proof.Proof.Product.Math
public import proofs.«01_k».proof.Proof.Gen.OutAbDxIdeal.Value
public import proofs.«01_k».proof.Proof.Gen.OutAbDxRefIdeal.Run
public import proofs.«01_k».proof.Proof.Gen.OutAbDxRefIdeal.Read

@[expose] public section

set_option backward.isDefEq.respectTransparency.types false
set_option backward.isDefEq.respectTransparency false

noncomputable section

namespace Cert.Product.OutAbDx

open Idealize.ShloMosaic Idealize.ShloMosaic.TcCoe Idealize.SL.Sem Idealize.ShloMosaic.ValueIdx
open Cert.OutAbDxIdeal Cert.OutAbDxIdeal.Gen

/-- Where the blocks of a point lie: the gradient's rows, the weights' rows, the product's rows and columns. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S1024x1024.Idx) : iblk m c 0 t j = A (1024 * (t.val / 2) + (j 0).val) (j 1).val :=
  (hA _).trans (congrArg₂ A (place (congrFun (idx t).1 0)) (start (congrFun (idx t).1 1)))

include hB in
theorem block_b (t : Fin cfg0.N) (j : S1024x1024.Idx) : iblk m c 1 t j = B (1024 * (t.val % 2) + (j 0).val) (j 1).val :=
  (hB _).trans (congrArg₂ B (place (congrFun (idx t).2.1 0)) (start (congrFun (idx t).2.1 1)))

include hA hB in
/-- The product's array after the run. -/
theorem arr : (dats m 0 c).arrAt 2 cfg0.N = fun i : S2048x2048.Idx => entry 1024 (A (i 0).val) (B (i 1).val) := by
  refine (dats m 0 c).arrAt_eq_of_covers 2 (fun i : S2048x2048.Idx => entry 1024 (A (i 0).val) (B (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S1024x1024_S1024x1024_1_1_0_0_n_n 1024 rfl rfl _ _ j
    (A (1024 * (t.val / 2) + (j 0).val)) (B (1024 * (t.val % 2) + (j 1).val))
    (fun k => block_a hA t _) (fun k => block_b hB t _)).trans ?_
  exact congrArg₂ (fun p q => entry 1024 (A p) (B q)) (place (congrFun (idx t).2.2 0)).symm (place (congrFun (idx t).2.2 1)).symm

/-- The reference's run ends with its arguments as they were; it declares no semaphore, so every counter is zero. -/
theorem frame_ref : Cert.quiescent_OutAbDxRefIdeal := fun m g _ =>
  (θ_run Cert.OutAbDxRefIdeal.defs _ _).mono
    (fun r h => ⟨fun c => (h c).2, sem_eq_zero_of_no_sems (by decide) r.2⟩) (Cert.OutAbDxRefIdeal.Value.run m g)

/-- The kernel and the reference leave the same gradient. -/
theorem algebraic : Cert.algebraic_OutAbDxIdeal_OutAbDxRefIdeal := by
  intro m g m' g' _ hagree
  refine ⟨fun c => (dats m 0 c).arrAt 2 cfg0.N, Value.run_blocks m g,
    (θ_run Cert.OutAbDxRefIdeal.defs _ _).mono (fun r h c => ?_) (Cert.OutAbDxRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S2048x1024.Idx → EReal)
  refine ⟨(h c).1.trans ?_, (h c).2⟩
  rw [Cert.OutAbDxRefIdeal.Read.val_main_v3_eq, (hagree c).1, (hagree c).2]
  refine (funext fun i => ?_).trans (arr hA hB).symm
  rw [Cert.OutAbDxRefIdeal.Read.val_main_v3_apply]
  exact fin_entry _ _ _ _ (fun k => hA _) (fun k => hB _)

end Cert.Product.OutAbDx

end
-- ==== Proof.Product.OutAbDw.lean ====
/-
  The gradient of the even block's output projection with respect to its weights: `x` transposed times `dy`
  (hand-written, untrusted). Each of the two grid points computes half of the rows.
-/
module

public import proofs.«01_k».proof.Defs
public import proofs.«01_k».proof.Proof.Product.Math
public import proofs.«01_k».proof.Proof.Gen.OutAbDwIdeal.Value
public import proofs.«01_k».proof.Proof.Gen.OutAbDwRefIdeal.Run
public import proofs.«01_k».proof.Proof.Gen.OutAbDwRefIdeal.Read

@[expose] public section

set_option backward.isDefEq.respectTransparency.types false
set_option backward.isDefEq.respectTransparency false

noncomputable section

namespace Cert.Product.OutAbDw

open Idealize.ShloMosaic Idealize.ShloMosaic.TcCoe Idealize.SL.Sem Idealize.ShloMosaic.ValueIdx
open Cert.OutAbDwIdeal Cert.OutAbDwIdeal.Gen

/-- Where the blocks of a point lie: a block of columns of `x`, `dy` whole, that block of rows of the product. -/
theorem idx : ∀ t : Fin cfg0.N, win0_0.index t = ![0, t.val] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x2048.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S2048x1024.Idx) : iblk m c 0 t j = A (j 0).val (1024 * t.val + (j 1).val) :=
  (hA _).trans (congrArg₂ A (start (congrFun (idx t).1 0)) (place (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1024.Idx => entry 2048 (fun k => A k (i 0).val) (fun k => B k (i 1).val) := by
  refine (dats m 0 c).arrAt_eq_of_covers 2 (fun i : S2048x1024.Idx => entry 2048 (fun k => A k (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S2048x1024_S2048x1024_S1024x1024_0_0_1_1_n_n 2048 rfl rfl _ _ j
    (fun k => A k (1024 * t.val + (j 0).val)) (fun k => B k (j 1).val) (fun k => block_a hA t _) (fun k => block_b hB t _)).trans ?_
  exact congrArg₂ (fun p q => entry 2048 (fun k => A k p) (fun k => B k q)) (place (congrFun (idx t).2.2 0)).symm
    (start (congrFun (idx t).2.2 1)).symm

/-- The reference's run ends with its arguments as they were; it declares no semaphore, so every counter is zero. -/
theorem frame_ref : Cert.quiescent_OutAbDwRefIdeal := fun m g _ =>
  (θ_run Cert.OutAbDwRefIdeal.defs _ _).mono
    (fun r h => ⟨fun c => (h c).2, sem_eq_zero_of_no_sems (by decide) r.2⟩) (Cert.OutAbDwRefIdeal.Value.run m g)

/-- The kernel and the reference leave the same gradient. -/
theorem algebraic : Cert.algebraic_OutAbDwIdeal_OutAbDwRefIdeal := by
  intro m g m' g' _ hagree
  refine ⟨fun c => (dats m 0 c).arrAt 2 cfg0.N, Value.run_blocks m g,
    (θ_run Cert.OutAbDwRefIdeal.defs _ _).mono (fun r h c => ?_) (Cert.OutAbDwRefIdeal.Value.run m' g')⟩
  obtain ⟨A, hA⟩ := of_matrix (m ((c : Thread nD τ).loc main_arg0) : S2048x2048.Idx → EReal)
  obtain ⟨B, hB⟩ := of_matrix (m ((c : Thread nD τ).loc main_arg1) : S2048x1024.Idx → EReal)
  refine ⟨(h c).1.trans ?_, (h c).2⟩
  rw [Cert.OutAbDwRefIdeal.Read.val_main_v4_eq, (hagree c).1, (hagree c).2]
  refine (funext fun i => ?_).trans (arr hA hB).symm
  rw [Cert.OutAbDwRefIdeal.Read.val_main_v4_apply, Cert.OutAbDwRefIdeal.Read.val_main_v3_apply]
  exact (fin_entry _ _ (fun k => B k (i 1).val) (fun k => A k (i 0).val) (fun k => hB _) (fun k => hA _)).trans (entry_comm _ _ _)

end Cert.Product.OutAbDw

end
-- ==== Proof.Product.OutCdDx.lean ====
/-
  The gradient of the odd block's output projection with respect to its input: `dy` times the weights transposed
  (hand-written, untrusted). Each of the two grid points computes half of the rows.
-/
module

public import proofs.«01_k».proof.Defs
public import proofs.«01_k».proof.Proof.Product.Math
public import proofs.«01_k».proof.Proof.Gen.OutCdDxIdeal.Value
public import proofs.«01_k».proof.Proof.Gen.OutCdDxRefIdeal.Run
public import proofs.«01_k».proof.Proof.Gen.OutCdDxRefIdeal.Read

@[expose] public section

set_option backward.isDefEq.respectTransparency.types false
set_option backward.isDefEq.respectTransparency false

noncomputable section

namespace Cert.Product.OutCdDx

open Idealize.ShloMosaic Idealize.ShloMosaic.TcCoe Idealize.SL.Sem Idealize.ShloMosaic.ValueIdx
open Cert.OutCdDxIdeal Cert.OutCdDxIdeal.Gen

/-- Where the blocks of a point lie: a block of rows of `dy`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S1536x1024.Idx, m ((c : Thread nD τ).loc main_arg1) i = B (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S1536x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1536.Idx => entry 1024 (A (i 0).val) (B (i 1).val) := by
  refine (dats m 0 c).arrAt_eq_of_covers 2 (fun i : S2048x1536.Idx => entry 1024 (A (i 0).val) (B (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S1536x1024_S1024x1536_1_1_0_0_n_n 1024 rfl rfl _ _ j
    (A (1024 * t.val + (j 0).val)) (B (j 1).val) (fun k => block_a hA t _) (fun k => block_b hB t _)).trans ?_
  exact congrArg₂ (fun p q => entry 1024 (A p) (B q)) (place (congrFun (idx t).2.2 0)).symm (start (congrFun (idx t).2.2 1)).symm

/-- The reference's run ends with its arguments as they were; it declares no semaphore, so every counter is zero. -/
theorem frame_ref : Cert.quiescent_OutCdDxRefIdeal := fun m g _ =>
  (θ_run Cert.OutCdDxRefIdeal.defs _ _).mono
    (fun r h => ⟨fun c => (h c).2, sem_eq_zero_of_no_sems (by decide) r.2⟩) (Cert.OutCdDxRefIdeal.Value.run m g)

/-- The kernel and the reference leave the same gradient. -/
theorem algebraic : Cert.algebraic_OutCdDxIdeal_OutCdDxRefIdeal := by
  intro m g m' g' _ hagree
  refine ⟨fun c => (dats m 0 c).arrAt 2 cfg0.N, Value.run_blocks m g,
    (θ_run Cert.OutCdDxRefIdeal.defs _ _).mono (fun r h c => ?_) (Cert.OutCdDxRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S1536x1024.Idx → EReal)
  refine ⟨(h c).1.trans ?_, (h c).2⟩
  rw [Cert.OutCdDxRefIdeal.Read.val_main_v3_eq, (hagree c).1, (hagree c).2]
  refine (funext fun i => ?_).trans (arr hA hB).symm
  rw [Cert.OutCdDxRefIdeal.Read.val_main_v3_apply]
  exact fin_entry _ _ _ _ (fun k => hA _) (fun k => hB _)

end Cert.Product.OutCdDx

end
-- ==== Proof.Product.OutCdDw.lean ====
/-
  The gradient of the odd block's output projection with respect to its weights: `x` transposed times `dy`
  (hand-written, untrusted). Each of the two grid points computes half of the rows.
-/
module

public import proofs.«01_k».proof.Defs
public import proofs.«01_k».proof.Proof.Product.Math
public import proofs.«01_k».proof.Proof.Gen.OutCdDwIdeal.Value
public import proofs.«01_k».proof.Proof.Gen.OutCdDwRefIdeal.Run
public import proofs.«01_k».proof.Proof.Gen.OutCdDwRefIdeal.Read

@[expose] public section

set_option backward.isDefEq.respectTransparency.types false
set_option backward.isDefEq.respectTransparency false

noncomputable section

namespace Cert.Product.OutCdDw

open Idealize.ShloMosaic Idealize.ShloMosaic.TcCoe Idealize.SL.Sem Idealize.ShloMosaic.ValueIdx
open Cert.OutCdDwIdeal Cert.OutCdDwIdeal.Gen

/-- Where the blocks of a point lie: a block of columns of `x`, `dy` whole, that block of rows of the product. -/
theorem idx : ∀ t : Fin cfg0.N, win0_0.index t = ![0, t.val] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1536.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S2048x768.Idx) : iblk m c 0 t j = A (j 0).val (768 * t.val + (j 1).val) :=
  (hA _).trans (congrArg₂ A (start (congrFun (idx t).1 0)) (place (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S1536x1024.Idx => entry 2048 (fun k => A k (i 0).val) (fun k => B k (i 1).val) := by
  refine (dats m 0 c).arrAt_eq_of_covers 2 (fun i : S1536x1024.Idx => entry 2048 (fun k => A k (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S2048x768_S2048x1024_S768x1024_0_0_1_1_n_n 2048 rfl rfl _ _ j
    (fun k => A k (768 * t.val + (j 0).val)) (fun k => B k (j 1).val) (fun k => block_a hA t _) (fun k => block_b hB t _)).trans ?_
  exact congrArg₂ (fun p q => entry 2048 (fun k => A k p) (fun k => B k q)) (place (congrFun (idx t).2.2 0)).symm
    (start (congrFun (idx t).2.2 1)).symm

/-- The reference's run ends with its arguments as they were; it declares no semaphore, so every counter is zero. -/
theorem frame_ref : Cert.quiescent_OutCdDwRefIdeal := fun m g _ =>
  (θ_run Cert.OutCdDwRefIdeal.defs _ _).mono
    (fun r h => ⟨fun c => (h c).2, sem_eq_zero_of_no_sems (by decide) r.2⟩) (Cert.OutCdDwRefIdeal.Value.run m g)

/-- The kernel and the reference leave the same gradient. -/
theorem algebraic : Cert.algebraic_OutCdDwIdeal_OutCdDwRefIdeal := by
  intro m g m' g' _ hagree
  refine ⟨fun c => (dats m 0 c).arrAt 2 cfg0.N, Value.run_blocks m g,
    (θ_run Cert.OutCdDwRefIdeal.defs _ _).mono (fun r h c => ?_) (Cert.OutCdDwRefIdeal.Value.run m' g')⟩
  obtain ⟨A, hA⟩ := of_matrix (m ((c : Thread nD τ).loc main_arg0) : S2048x1536.Idx → EReal)
  obtain ⟨B, hB⟩ := of_matrix (m ((c : Thread nD τ).loc main_arg1) : S2048x1024.Idx → EReal)
  refine ⟨(h c).1.trans ?_, (h c).2⟩
  rw [Cert.OutCdDwRefIdeal.Read.val_main_v4_eq, (hagree c).1, (hagree c).2]
  refine (funext fun i => ?_).trans (arr hA hB).symm
  rw [Cert.OutCdDwRefIdeal.Read.val_main_v4_apply, Cert.OutCdDwRefIdeal.Read.val_main_v3_apply]
  exact (fin_entry _ _ (fun k => B k (i 1).val) (fun k => A k (i 0).val) (fun k => hB _) (fun k => hA _)).trans (entry_comm _ _ _)

end Cert.Product.OutCdDw

end
-- ==== Proof.Product.XoDx.lean ====
/-
  The gradient of the cross-attention's output projection with respect to its input: `dy` times the weights transposed
  (hand-written, untrusted). Each of the two grid points computes half of the rows.
-/
module

public import proofs.«01_k».proof.Defs
public import proofs.«01_k».proof.Proof.Product.Math
public import proofs.«01_k».proof.Proof.Gen.XoDxIdeal.Value
public import proofs.«01_k».proof.Proof.Gen.XoDxRefIdeal.Run
public import proofs.«01_k».proof.Proof.Gen.XoDxRefIdeal.Read

@[expose] public section

set_option backward.isDefEq.respectTransparency.types false
set_option backward.isDefEq.respectTransparency false

noncomputable section

namespace Cert.Product.XoDx

open Idealize.ShloMosaic Idealize.ShloMosaic.TcCoe Idealize.SL.Sem Idealize.ShloMosaic.ValueIdx
open Cert.XoDxIdeal Cert.XoDxIdeal.Gen

/-- Where the blocks of a point lie: a block of rows of `dy`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S1024x1024.Idx, m ((c : Thread nD τ).loc main_arg1) i = B (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S1024x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1024.Idx => entry 1024 (A (i 0).val) (B (i 1).val) := by
  refine (dats m 0 c).arrAt_eq_of_covers 2 (fun i : S2048x1024.Idx => entry 1024 (A (i 0).val) (B (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  rw [truncf_apply]
  refine (block_entry dot_S1024x1024_S1024x1024_S1024x1024_1_1_0_0_n_n 1024 rfl rfl _ _ j
    (A (1024 * t.val + (j 0).val)) (B (j 1).val) (fun k => block_a hA t _) (fun k => block_b hB t _)).trans ?_
  exact congrArg₂ (fun p q => entry 1024 (A p) (B q)) (place (congrFun (idx t).2.2 0)).symm (start (congrFun (idx t).2.2 1)).symm

/-- The reference's run ends with its arguments as they were; it declares no semaphore, so every counter is zero. -/
theorem frame_ref : Cert.quiescent_XoDxRefIdeal := fun m g _ =>
  (θ_run Cert.XoDxRefIdeal.defs _ _).mono
    (fun r h => ⟨fun c => (h c).2, sem_eq_zero_of_no_sems (by decide) r.2⟩) (Cert.XoDxRefIdeal.Value.run m g)

/-- The kernel and the reference leave the same gradient. -/
theorem algebraic : Cert.algebraic_XoDxIdeal_XoDxRefIdeal := by
  intro m g m' g' _ hagree
  refine ⟨fun c => (dats m 0 c).arrAt 2 cfg0.N, Value.run_blocks m g,
    (θ_run Cert.XoDxRefIdeal.defs _ _).mono (fun r h c => ?_) (Cert.XoDxRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S1024x1024.Idx → EReal)
  refine ⟨(h c).1.trans ?_, (h c).2⟩
  rw [Cert.XoDxRefIdeal.Read.val_main_v4_eq, (hagree c).1, (hagree c).2]
  refine (funext fun i => ?_).trans (arr hA hB).symm
  show Cert.XoDxRefIdeal.Read.val_main_v3 (F := Ideal) _ _ i = _
  rw [Cert.XoDxRefIdeal.Read.val_main_v3_apply]
  exact fin_entry _ _ _ _ (fun k => hA _) (fun k => hB _)

end Cert.Product.XoDx

end
-- ==== Proof.Product.XoDw.lean ====
/-
  The gradient of the cross-attention's output projection with respect to its weights: `x` transposed times `dy`
  (hand-written, untrusted). The grid has one point.
-/
module

public import proofs.«01_k».proof.Defs
public import proofs.«01_k».proof.Proof.Product.Math
public import proofs.«01_k».proof.Proof.Gen.XoDwIdeal.Value
public import proofs.«01_k».proof.Proof.Gen.XoDwRefIdeal.Run
public import proofs.«01_k».proof.Proof.Gen.XoDwRefIdeal.Read

@[expose] public section

set_option backward.isDefEq.respectTransparency.types false
set_option backward.isDefEq.respectTransparency false

noncomputable section

namespace Cert.Product.XoDw

open Idealize.ShloMosaic Idealize.ShloMosaic.TcCoe Idealize.SL.Sem Idealize.ShloMosaic.ValueIdx
open Cert.XoDwIdeal Cert.XoDwIdeal.Gen

/-- Where the blocks of a point lie: everything whole, in one point. -/
theorem idx : ∀ t : Fin cfg0.N, win0_0.index t = ![0, 0] ∧ win0_1.index t = ![0, 0] ∧ win0_2.index t = ![0, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S2048x1024.Idx) : iblk m c 0 t j = A (j 0).val (j 1).val :=
  (hA _).trans (congrArg₂ A (start (congrFun (idx t).1 0)) (start (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S1024x1024.Idx => entry 2048 (fun k => A k (i 0).val) (fun k => B k (i 1).val) := by
  refine (dats m 0 c).arrAt_eq_of_covers 2 (fun i : S1024x1024.Idx => entry 2048 (fun k => A k (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S2048x1024_S2048x1024_S1024x1024_0_0_1_1_n_n 2048 rfl rfl _ _ j
    (fun k => A k ((j 0).val)) (fun k => B k (j 1).val) (fun k => block_a hA t _) (fun k => block_b hB t _)).trans ?_
  exact congrArg₂ (fun p q => entry 2048 (fun k => A k p) (fun k => B k q)) (start (congrFun (idx t).2.2 0)).symm
    (start (congrFun (idx t).2.2 1)).symm

/-- The reference's run ends with its arguments as they were; it declares no semaphore, so every counter is zero. -/
theorem frame_ref : Cert.quiescent_XoDwRefIdeal := fun m g _ =>
  (θ_run Cert.XoDwRefIdeal.defs _ _).mono
    (fun r h => ⟨fun c => (h c).2, sem_eq_zero_of_no_sems (by decide) r.2⟩) (Cert.XoDwRefIdeal.Value.run m g)

/-- The kernel and the reference leave the same gradient. -/
theorem algebraic : Cert.algebraic_XoDwIdeal_XoDwRefIdeal := by
  intro m g m' g' _ hagree
  refine ⟨fun c => (dats m 0 c).arrAt 2 cfg0.N, Value.run_blocks m g,
    (θ_run Cert.XoDwRefIdeal.defs _ _).mono (fun r h c => ?_) (Cert.XoDwRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S2048x1024.Idx → EReal)
  refine ⟨(h c).1.trans ?_, (h c).2⟩
  rw [Cert.XoDwRefIdeal.Read.val_main_v4_eq, (hagree c).1, (hagree c).2]
  refine (funext fun i => ?_).trans (arr hA hB).symm
  rw [Cert.XoDwRefIdeal.Read.val_main_v4_apply, Cert.XoDwRefIdeal.Read.val_main_v3_apply]
  exact (fin_entry _ _ (fun k => B k (i 1).val) (fun k => A k (i 0).val) (fun k => hB _) (fun k => hA _)).trans (entry_comm _ _ _)

end Cert.Product.XoDw

end
-- ==== Proof.Product.XqDx.lean ====
/-
  The gradient of the cross-attention's query projection with respect to its input: `dy` times the weights transposed
  (hand-written, untrusted). Each of the two grid points computes half of the rows.
-/
module

public import proofs.«01_k».proof.Defs
public import proofs.«01_k».proof.Proof.Product.Math
public import proofs.«01_k».proof.Proof.Gen.XqDxIdeal.Value
public import proofs.«01_k».proof.Proof.Gen.XqDxRefIdeal.Run
public import proofs.«01_k».proof.Proof.Gen.XqDxRefIdeal.Read

@[expose] public section

set_option backward.isDefEq.respectTransparency.types false
set_option backward.isDefEq.respectTransparency false

noncomputable section

namespace Cert.Product.XqDx

open Idealize.ShloMosaic Idealize.ShloMosaic.TcCoe Idealize.SL.Sem Idealize.ShloMosaic.ValueIdx
open Cert.XqDxIdeal Cert.XqDxIdeal.Gen

/-- Where the blocks of a point lie: a block of rows of `dy`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S1024x1024.Idx, m ((c : Thread nD τ).loc main_arg1) i = B (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S1024x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1024.Idx => entry 1024 (A (i 0).val) (B (i 1).val) := by
  refine (dats m 0 c).arrAt_eq_of_covers 2 (fun i : S2048x1024.Idx => entry 1024 (A (i 0).val) (B (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S1024x1024_S1024x1024_1_1_0_0_n_n 1024 rfl rfl _ _ j
    (A (1024 * t.val + (j 0).val)) (B (j 1).val) (fun k => block_a hA t _) (fun k => block_b hB t _)).trans ?_
  exact congrArg₂ (fun p q => entry 1024 (A p) (B q)) (place (congrFun (idx t).2.2 0)).symm (start (congrFun (idx t).2.2 1)).symm

/-- The reference's run ends with its arguments as they were; it declares no semaphore, so every counter is zero. -/
theorem frame_ref : Cert.quiescent_XqDxRefIdeal := fun m g _ =>
  (θ_run Cert.XqDxRefIdeal.defs _ _).mono
    (fun r h => ⟨fun c => (h c).2, sem_eq_zero_of_no_sems (by decide) r.2⟩) (Cert.XqDxRefIdeal.Value.run m g)

/-- The kernel and the reference leave the same gradient. -/
theorem algebraic : Cert.algebraic_XqDxIdeal_XqDxRefIdeal := by
  intro m g m' g' _ hagree
  refine ⟨fun c => (dats m 0 c).arrAt 2 cfg0.N, Value.run_blocks m g,
    (θ_run Cert.XqDxRefIdeal.defs _ _).mono (fun r h c => ?_) (Cert.XqDxRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S1024x1024.Idx → EReal)
  refine ⟨(h c).1.trans ?_, (h c).2⟩
  rw [Cert.XqDxRefIdeal.Read.val_main_v4_eq, (hagree c).1, (hagree c).2]
  refine (funext fun i => ?_).trans (arr hA hB).symm
  rw [Cert.XqDxRefIdeal.Read.val_main_v4_apply]
  exact fin_entry _ _ _ _ (fun k => hA _) (fun k => hB _)

end Cert.Product.XqDx

end
-- ==== Proof.Product.XqDw.lean ====
/-
  The gradient of the cross-attention's query projection with respect to its weights: `x` transposed times `dy`
  (hand-written, untrusted). The grid has one point.
-/
module

public import proofs.«01_k».proof.Defs
public import proofs.«01_k».proof.Proof.Product.Math
public import proofs.«01_k».proof.Proof.Gen.XqDwIdeal.Value
public import proofs.«01_k».proof.Proof.Gen.XqDwRefIdeal.Run
public import proofs.«01_k».proof.Proof.Gen.XqDwRefIdeal.Read

@[expose] public section

set_option backward.isDefEq.respectTransparency.types false
set_option backward.isDefEq.respectTransparency false

noncomputable section

namespace Cert.Product.XqDw

open Idealize.ShloMosaic Idealize.ShloMosaic.TcCoe Idealize.SL.Sem Idealize.ShloMosaic.ValueIdx
open Cert.XqDwIdeal Cert.XqDwIdeal.Gen

/-- Where the blocks of a point lie: everything whole, in one point. -/
theorem idx : ∀ t : Fin cfg0.N, win0_0.index t = ![0, 0] ∧ win0_1.index t = ![0, 0] ∧ win0_2.index t = ![0, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S2048x1024.Idx) : iblk m c 0 t j = A (j 0).val (j 1).val :=
  (hA _).trans (congrArg₂ A (start (congrFun (idx t).1 0)) (start (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S1024x1024.Idx => entry 2048 (fun k => A k (i 0).val) (fun k => B k (i 1).val) := by
  refine (dats m 0 c).arrAt_eq_of_covers 2 (fun i : S1024x1024.Idx => entry 2048 (fun k => A k (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S2048x1024_S2048x1024_S1024x1024_0_0_1_1_n_n 2048 rfl rfl _ _ j
    (fun k => A k ((j 0).val)) (fun k => B k (j 1).val) (fun k => block_a hA t _) (fun k => block_b hB t _)).trans ?_
  exact congrArg₂ (fun p q => entry 2048 (fun k => A k p) (fun k => B k q)) (start (congrFun (idx t).2.2 0)).symm
    (start (congrFun (idx t).2.2 1)).symm

/-- The reference's run ends with its arguments as they were; it declares no semaphore, so every counter is zero. -/
theorem frame_ref : Cert.quiescent_XqDwRefIdeal := fun m g _ =>
  (θ_run Cert.XqDwRefIdeal.defs _ _).mono
    (fun r h => ⟨fun c => (h c).2, sem_eq_zero_of_no_sems (by decide) r.2⟩) (Cert.XqDwRefIdeal.Value.run m g)

/-- The kernel and the reference leave the same gradient. -/
theorem algebraic : Cert.algebraic_XqDwIdeal_XqDwRefIdeal := by
  intro m g m' g' _ hagree
  refine ⟨fun c => (dats m 0 c).arrAt 2 cfg0.N, Value.run_blocks m g,
    (θ_run Cert.XqDwRefIdeal.defs _ _).mono (fun r h c => ?_) (Cert.XqDwRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S2048x1024.Idx → EReal)
  refine ⟨(h c).1.trans ?_, (h c).2⟩
  rw [Cert.XqDwRefIdeal.Read.val_main_v5_eq, (hagree c).1, (hagree c).2]
  refine (funext fun i => ?_).trans (arr hA hB).symm
  rw [Cert.XqDwRefIdeal.Read.val_main_v5_apply, Cert.XqDwRefIdeal.Read.val_main_v4_apply]
  exact (fin_entry _ _ (fun k => B k (i 1).val) (fun k => A k (i 0).val) (fun k => hB _) (fun k => hA _)).trans (entry_comm _ _ _)

end Cert.Product.XqDw

end
-- ==== Proof.Product.XkvDx.lean ====
/-
  The gradient of the projection of the memory to keys and values with respect to its input: `dkv` times the weights,
  transposed, added to what the layers above it left (hand-written, untrusted). The weights come as four shards of 512
  columns; each of the four grid points multiplies by one shard and adds into a scratch, and the last adds what was there
  before.
-/
module

public import proofs.«01_k».proof.Defs
public import proofs.«01_k».proof.Proof.Product.Math
public import proofs.«01_k».proof.Proof.Gen.XkvDxIdeal.Value
public import proofs.«01_k».proof.Proof.Gen.XkvDxRefIdeal.Run
public import proofs.«01_k».proof.Proof.Gen.XkvDxRefIdeal.Read

@[expose] public section

set_option backward.isDefEq.respectTransparency.types false
set_option backward.isDefEq.respectTransparency false

noncomputable section

namespace Cert.Product.XkvDx

open Idealize.ShloMosaic Idealize.ShloMosaic.TcCoe Idealize.SL.Sem Idealize.ShloMosaic.ValueIdx
open Cert.XkvDxIdeal Cert.XkvDxIdeal.Gen

/-- Where the blocks of a point lie: a shard's columns of `dkv`, the weights' shard, the rest whole. -/
theorem idx : ∀ t : Fin cfg0.N, win0_0.index t = ![0, t.val % 4] ∧ win0_1.index t = ![t.val % 4, 0, 0] ∧ win0_2.index t = ![0, 0] ∧ win0_3.index t = ![0, 0] :=
  (by decide +kernel : ∀ t : Fin grid0.N, _)

variable {m : (ℓ : Loc nD τ sig) → Buf (Elt Ideal) ℓ} {c : Dev nD} {A B X : ℕ → ℕ → EReal}
  (hA : ∀ i : S256x2048.Idx, m ((c : Thread nD τ).loc main_arg0) i = A (i 0).val (i 1).val)
  (hB : ∀ i : S4x1024x512.Idx, m ((c : Thread nD τ).loc main_arg1) i = B (i 1).val (512 * (i 0).val + (i 2).val))
  (hX : ∀ i : S256x1024.Idx, m ((c : Thread nD τ).loc main_arg2) i = X (i 0).val (i 1).val)

include hA in
theorem block_a (t : Fin cfg0.N) (j : S256x512.Idx) : iblk m c 0 t j = A (j 0).val (512 * (t.val % 4) + (j 1).val) :=
  (hA _).trans (congrArg₂ A (start (congrFun (idx t).1 0)) (place (congrFun (idx t).1 1)))

include hB in
theorem block_b (t : Fin cfg0.N) (j : S1x1024x512.Idx) : iblk m c 1 t j = B (j 1).val (512 * (t.val % 4) + (j 2).val) :=
  (hB _).trans (congrArg₂ B (start (congrFun (idx t).2.1 1))
    (congrArg₂ (fun p q => 512 * p + q) (unit (congrFun (idx t).2.1 0) (j 0).isLt) (start (congrFun (idx t).2.1 2))))

include hX in
theorem block_x (t : Fin cfg0.N) (j : S256x1024.Idx) : iblk m c 2 t j = X (j 0).val (j 1).val :=
  (hX _).trans (congrArg₂ X (start (congrFun (idx t).2.2.1 0)) (start (congrFun (idx t).2.2.1 1)))

include hA hB in
/-- A point's own product: its 512 columns' share of the entry. -/
theorem share (t : Fin cfg0.N) (j : S256x1024.Idx) :
    k0_pay1 (F := Ideal) (iblk m c 0 t) (iblk m c 1 t) j
      = entry 512 (fun k => A (j 0).val (512 * (t.val % 4) + k)) (fun k => B (j 1).val (512 * (t.val % 4) + k)) := by
  unfold k0_pay1
  exact block_entry dot_S256x512_S1024x512_S256x1024_1_1_0_0_n_n 512 rfl rfl _ _ j
    (fun k => A (j 0).val (512 * (t.val % 4) + k)) (fun k => B (j 1).val (512 * (t.val % 4) + k)) (fun k => block_a hA t _)
    (fun k => (shapeCast_dropUnit_apply _ _ _ _).trans (block_b hB t _))

include hA hB in
/-- The scratch after the first of the four points holds that point's share. -/
theorem first (t : Fin cfg0.N) (h : t.val % 4 = 0) (j : S256x1024.Idx) : (outsAt0 m c t.val t.isLt).2 j
      = entry 512 (A (j 0).val) (B (j 1).val) := by
  have ht : t.val < 4 := t.isLt
  rw [outsAt0_A m c t h (by omega) (by omega)]
  frame_out
  unfold k0_pay2
  rw [shapeCast_self, share hA hB, h]
  simp only [Nat.mul_zero, Nat.zero_add]

include hA hB in
/-- At a later point the share is added to what the scratch held. -/
theorem next (t : Fin cfg0.N) (h : ¬t.val % 4 = 0) (j : S256x1024.Idx) : (outsAt0 m c t.val t.isLt).2 j
      = (outsAt0 m c (t.val - 1) (Nat.lt_of_le_of_lt (Nat.sub_le _ _) t.isLt)).2 j
        + entry 512 (fun k => A (j 0).val (512 * (t.val % 4) + k)) (fun k => B (j 1).val (512 * (t.val % 4) + k)) := by
  rw [← share hA hB]
  by_cases h3 : t.val % 4 = 3
  · conv_lhs => rw [outsAt0_C m c t h (by omega) h3]
    frame_out
    simp only [read_unread_whole]
    unfold k0_pay3
    rw [shapeCast_self, addf_apply]
  · conv_lhs => rw [outsAt0_B m c t h (by omega) h3]
    frame_out
    simp only [read_unread_whole]
    unfold k0_pay3
    rw [shapeCast_self, addf_apply]

include hA hB in
/-- The scratch after a point: the entry over the columns of the shards so far. -/
theorem acc (s : ℕ) (t : Fin cfg0.N) (h : t.val % 4 = s) (j : S256x1024.Idx) : (outsAt0 m c t.val t.isLt).2 j
      = entry (512 * s + 512) (A (j 0).val) (B (j 1).val) := by
  induction s generalizing t with
  | zero => exact first hA hB t h j
  | succ s ih =>
    have hp := ih ⟨t.val - 1, Nat.lt_of_le_of_lt (Nat.sub_le _ _) t.isLt⟩ (by dsimp only; omega)
    dsimp only at hp
    rw [next hA hB t (by omega), hp, h]
    exact entry_add (512 * s + 512) 512 _ _

include hA hB hX in
/-- The sum's array after the run. -/
theorem arr : (dats m 0 c).arrAt 3 cfg0.N = fun i : S256x1024.Idx => entry 2048 (A (i 0).val) (B (i 1).val) + X (i 0).val (i 1).val := by
  refine (dats m 0 c).arrAt_eq_of_covers 3 (fun i : S256x1024.Idx => entry 2048 (A (i 0).val) (B (i 1).val) + X (i 0).val (i 1).val)
    (by decide +kernel) fun t hf j => ?_
  have h3 := (flush0_3 t).mp hf
  have e : (outsAt0 m c t.val t.isLt).1 = k0_pay4 (F := Ideal) (outsAt0 m c t.val t.isLt).2 (iblk m c 2 t) := by
    rw [outsAt0_C m c t (by omega) (by omega) h3]
    frame_out
  show (dats m 0 c).after 3 t j = _
  rw [after0_3, e]
  unfold k0_pay4
  rw [addf_apply]
  refine (congrArg₂ (fun p q : EReal => p + q) (acc hA hB 3 t h3 j) (block_x hX t j)).trans ?_
  exact congrArg₂ (fun p q => entry 2048 (A p) (B q) + X p q) (start (congrFun (idx t).2.2.2 0)).symm (start (congrFun (idx t).2.2.2 1)).symm

/-- The reference's run ends with its arguments as they were; it declares no semaphore, so every counter is zero. -/
theorem frame_ref : Cert.quiescent_XkvDxRefIdeal := fun m g _ =>
  (θ_run Cert.XkvDxRefIdeal.defs _ _).mono
    (fun r h => ⟨fun c => (h c).2, sem_eq_zero_of_no_sems (by decide) r.2⟩) (Cert.XkvDxRefIdeal.Value.run m g)

/-- The kernel and the reference leave the same sum. -/
theorem algebraic : Cert.algebraic_XkvDxIdeal_XkvDxRefIdeal := by
  intro m g m' g' _ hagree
  refine ⟨fun c => (dats m 0 c).arrAt 3 cfg0.N, Value.run_blocks m g,
    (θ_run Cert.XkvDxRefIdeal.defs _ _).mono (fun r h c => ?_) (Cert.XkvDxRefIdeal.Value.run m' g')⟩
  obtain ⟨A, hA⟩ := of_matrix (m ((c : Thread nD τ).loc main_arg0) : S256x2048.Idx → EReal)
  obtain ⟨B, hB⟩ := of_shards (m ((c : Thread nD τ).loc main_arg1) : S4x1024x512.Idx → EReal)
  obtain ⟨X, hX⟩ := of_matrix (m ((c : Thread nD τ).loc main_arg2) : S256x1024.Idx → EReal)
  refine ⟨(h c).1.trans ?_, (h c).2⟩
  rw [Cert.XkvDxRefIdeal.Read.val_main_v6_eq, (hagree c).1, (hagree c).2.1, (hagree c).2.2]
  refine (funext fun i => ?_).trans (arr hA hB hX).symm
  refine congrArg₂ (fun p q : EReal => p + q) ((Cert.XkvDxRefIdeal.Read.val_main_v5_apply _ _ i).trans
    (fin_entry _ _ _ _ (fun k => hA _) (fun k => ?_))) (hX i)
  show Cert.XkvDxRefIdeal.Read.val_main_v1 (F := Ideal) _ _ = _
  rw [Cert.XkvDxRefIdeal.Read.val_main_v1_apply, Cert.XkvDxRefIdeal.Read.val_main_v0_apply, hB]
  have h1 : (i 1).val < 1024 := (i 1).isLt
  have hk := k.isLt
  refine congrArg₂ B ?_ ?_
  · show ((i 1).val * 2048 + k.val) / 2048 = _
    omega
  · show 512 * (((i 1).val * 2048 + k.val) / 512 % 4) + ((i 1).val * 2048 + k.val) % 512 = _
    omega

end Cert.Product.XkvDx

end
-- ==== Proof.Product.XkvDw.lean ====
/-
  The gradient of the projection of the memory to keys and values with respect to its weights: `x` transposed times `dy`, kept as four
  shards of columns (hand-written, untrusted). Each of the four grid points computes one shard.
-/
module

public import proofs.«01_k».proof.Defs
public import proofs.«01_k».proof.Proof.Product.Math
public import proofs.«01_k».proof.Proof.Gen.XkvDwIdeal.Value
public import proofs.«01_k».proof.Proof.Gen.XkvDwRefIdeal.Run
public import proofs.«01_k».proof.Proof.Gen.XkvDwRefIdeal.Read

@[expose] public section

set_option backward.isDefEq.respectTransparency.types false
set_option backward.isDefEq.respectTransparency false

noncomputable section

namespace Cert.Product.XkvDw

open Idealize.ShloMosaic Idealize.ShloMosaic.TcCoe Idealize.SL.Sem Idealize.ShloMosaic.ValueIdx
open Cert.XkvDwIdeal Cert.XkvDwIdeal.Gen

/-- Where the blocks of a point lie: `x` whole, a shard's columns of `dy`, that shard of the product. -/
theorem idx : ∀ t : Fin cfg0.N, win0_0.index t = ![0, 0] ∧ win0_1.index t = ![0, t.val] ∧ win0_2.index t = ![t.val, 0, 0] :=
  (by decide +kernel : ∀ t : Fin grid0.N, _)

variable {m : (ℓ : Loc nD τ sig) → Buf (Elt Ideal) ℓ} {c : Dev nD} {A B : ℕ → ℕ → EReal}
  (hA : ∀ i : S256x1024.Idx, m ((c : Thread nD τ).loc main_arg0) i = A (i 0).val (i 1).val)
  (hB : ∀ i : S256x2048.Idx, m ((c : Thread nD τ).loc main_arg1) i = B (i 0).val (i 1).val)

include hA in
theorem block_a (t : Fin cfg0.N) (j : S256x1024.Idx) : iblk m c 0 t j = A (j 0).val (j 1).val :=
  (hA _).trans (congrArg₂ A (start (congrFun (idx t).1 0)) (start (congrFun (idx t).1 1)))

include hB in
theorem block_b (t : Fin cfg0.N) (j : S256x512.Idx) : iblk m c 1 t j = B (j 0).val (512 * t.val + (j 1).val) :=
  (hB _).trans (congrArg₂ B (start (congrFun (idx t).2.1 0)) (place (congrFun (idx t).2.1 1)))

include hA hB in
/-- The product's array after the run. -/
theorem arr : (dats m 0 c).arrAt 2 cfg0.N = fun i : S4x1024x512.Idx =>
    entry 256 (fun k => A k (i 1).val) (fun k => B k (512 * (i 0).val + (i 2).val)) := by
  refine (dats m 0 c).arrAt_eq_of_covers 2 (fun i : S4x1024x512.Idx => entry 256 (fun k => A k (i 1).val)
    (fun k => B k (512 * (i 0).val + (i 2).val))) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (shapeCast_addUnit_apply _ _ _ j).trans ?_
  refine (block_entry dot_S256x1024_S256x512_S1024x512_0_0_1_1_n_n 256 rfl rfl _ _ _
    (fun k => A k (j 1).val) (fun k => B k (512 * t.val + (j 2).val))
    (fun k => block_a hA t _) (fun k => block_b hB t _)).trans ?_
  exact congrArg₂ (fun p q => entry 256 (fun k => A k p) (fun k => B k q)) (start (congrFun (idx t).2.2 1)).symm
    (congrArg₂ (fun p q => 512 * p + q) (unit (congrFun (idx t).2.2 0) (j 0).isLt) (start (congrFun (idx t).2.2 2))).symm

/-- The reference's run ends with its arguments as they were; it declares no semaphore, so every counter is zero. -/
theorem frame_ref : Cert.quiescent_XkvDwRefIdeal := fun m g _ =>
  (θ_run Cert.XkvDwRefIdeal.defs _ _).mono
    (fun r h => ⟨fun c => (h c).2, sem_eq_zero_of_no_sems (by decide) r.2⟩) (Cert.XkvDwRefIdeal.Value.run m g)

/-- The kernel and the reference leave the same gradient. -/
theorem algebraic : Cert.algebraic_XkvDwIdeal_XkvDwRefIdeal := by
  intro m g m' g' _ hagree
  refine ⟨fun c => (dats m 0 c).arrAt 2 cfg0.N, Value.run_blocks m g,
    (θ_run Cert.XkvDwRefIdeal.defs _ _).mono (fun r h c => ?_) (Cert.XkvDwRefIdeal.Value.run m' g')⟩
  obtain ⟨A, hA⟩ := of_matrix (m ((c : Thread nD τ).loc main_arg0) : S256x1024.Idx → EReal)
  obtain ⟨B, hB⟩ := of_matrix (m ((c : Thread nD τ).loc main_arg1) : S256x2048.Idx → EReal)
  refine ⟨(h c).1.trans ?_, (h c).2⟩
  rw [Cert.XkvDwRefIdeal.Read.val_main_v6_eq, (hagree c).1, (hagree c).2]
  refine (funext fun i => ?_).trans (arr hA hB).symm
  rw [Cert.XkvDwRefIdeal.Read.val_main_v6_apply, Cert.XkvDwRefIdeal.Read.val_main_v5_apply,
    Cert.XkvDwRefIdeal.Read.val_main_v4_apply, Cert.XkvDwRefIdeal.Read.val_main_v3_apply]
  have h0 : (i 0).val < 4 := (i 0).isLt
  have h1 : (i 1).val < 1024 := (i 1).isLt
  have h2 : (i 2).val < 512 := (i 2).isLt
  refine (fin_entry _ _ (fun k => B k (512 * (i 0).val + (i 2).val)) (fun k => A k (i 1).val)
    (fun k => (hB _).trans (congrArg (B k.val) ?_)) (fun k => (hA _).trans (congrArg (A k.val) ?_))).trans (entry_comm _ _ _)
  · show (((i 1).val * 4 + (i 0).val) * 512 + (i 2).val) % 2048 = _
    omega
  · show (((i 1).val * 4 + (i 0).val) * 512 + (i 2).val) / 2048 = _
    omega

end Cert.Product.XkvDw

end
-- ==== Proof.Product.GluDx.lean ====
/-
  The gradient of the gated unit's two products with respect to its input: `dy` times the weights transposed
  (hand-written, untrusted). Each of the two grid points computes half of the rows.
-/
module

public import proofs.«01_k».proof.Defs
public import proofs.«01_k».proof.Proof.Product.Math
public import proofs.«01_k».proof.Proof.Gen.GluDxIdeal.Value
public import proofs.«01_k».proof.Proof.Gen.GluDxRefIdeal.Run
public import proofs.«01_k».proof.Proof.Gen.GluDxRefIdeal.Read

@[expose] public section

set_option backward.isDefEq.respectTransparency.types false
set_option backward.isDefEq.respectTransparency false

noncomputable section

namespace Cert.Product.GluDx

open Idealize.ShloMosaic Idealize.ShloMosaic.TcCoe Idealize.SL.Sem Idealize.ShloMosaic.ValueIdx
open Cert.GluDxIdeal Cert.GluDxIdeal.Gen

/-- Where the blocks of a point lie: a block of rows of `dy`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S512x1024.Idx, m ((c : Thread nD τ).loc main_arg1) i = B (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S512x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x512.Idx => entry 1024 (A (i 0).val) (B (i 1).val) := by
  refine (dats m 0 c).arrAt_eq_of_covers 2 (fun i : S2048x512.Idx => entry 1024 (A (i 0).val) (B (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S512x1024_S1024x512_1_1_0_0_n_n 1024 rfl rfl _ _ j
    (A (1024 * t.val + (j 0).val)) (B (j 1).val) (fun k => block_a hA t _) (fun k => block_b hB t _)).trans ?_
  exact congrArg₂ (fun p q => entry 1024 (A p) (B q)) (place (congrFun (idx t).2.2 0)).symm (start (congrFun (idx t).2.2 1)).symm

/-- The reference's run ends with its arguments as they were; it declares no semaphore, so every counter is zero. -/
theorem frame_ref : Cert.quiescent_GluDxRefIdeal := fun m g _ =>
  (θ_run Cert.GluDxRefIdeal.defs _ _).mono
    (fun r h => ⟨fun c => (h c).2, sem_eq_zero_of_no_sems (by decide) r.2⟩) (Cert.GluDxRefIdeal.Value.run m g)

/-- The kernel and the reference leave the same gradient. -/
theorem algebraic : Cert.algebraic_GluDxIdeal_GluDxRefIdeal := by
  intro m g m' g' _ hagree
  refine ⟨fun c => (dats m 0 c).arrAt 2 cfg0.N, Value.run_blocks m g,
    (θ_run Cert.GluDxRefIdeal.defs _ _).mono (fun r h c => ?_) (Cert.GluDxRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S512x1024.Idx → EReal)
  refine ⟨(h c).1.trans ?_, (h c).2⟩
  rw [Cert.GluDxRefIdeal.Read.val_main_v4_eq, (hagree c).1, (hagree c).2]
  refine (funext fun i => ?_).trans (arr hA hB).symm
  rw [Cert.GluDxRefIdeal.Read.val_main_v4_apply]
  exact fin_entry _ _ _ _ (fun k => hA _) (fun k => hB _)

end Cert.Product.GluDx

end
-- ==== Proof.Product.GluDw.lean ====
/-
  The gradient of the gated unit's two products with respect to its weights: `x` transposed times `dy`
  (hand-written, untrusted). The grid has one point.
-/
module

public import proofs.«01_k».proof.Defs
public import proofs.«01_k».proof.Proof.Product.Math
public import proofs.«01_k».proof.Proof.Gen.GluDwIdeal.Value
public import proofs.«01_k».proof.Proof.Gen.GluDwRefIdeal.Run
public import proofs.«01_k».proof.Proof.Gen.GluDwRefIdeal.Read

@[expose] public section

set_option backward.isDefEq.respectTransparency.types false
set_option backward.isDefEq.respectTransparency false

noncomputable section

namespace Cert.Product.GluDw

open Idealize.ShloMosaic Idealize.ShloMosaic.TcCoe Idealize.SL.Sem Idealize.ShloMosaic.ValueIdx
open Cert.GluDwIdeal Cert.GluDwIdeal.Gen

/-- Where the blocks of a point lie: everything whole, in one point. -/
theorem idx : ∀ t : Fin cfg0.N, win0_0.index t = ![0, 0] ∧ win0_1.index t = ![0, 0] ∧ win0_2.index t = ![0, 0] :=
  (by decide +kernel : ∀ t : Fin grid0.N, _)

variable {m : (ℓ : Loc nD τ sig) → Buf (Elt Ideal) ℓ} {c : Dev nD} {A B : ℕ → ℕ → EReal}
  (hA : ∀ i : S2048x512.Idx, m ((c : Thread nD τ).loc main_arg0) i = A (i 0).val (i 1).val)
  (hB : ∀ i : S2048x1024.Idx, m ((c : Thread nD τ).loc main_arg1) i = B (i 0).val (i 1).val)

include hA in
theorem block_a (t : Fin cfg0.N) (j : S2048x512.Idx) : iblk m c 0 t j = A (j 0).val (j 1).val :=
  (hA _).trans (congrArg₂ A (start (congrFun (idx t).1 0)) (start (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S512x1024.Idx => entry 2048 (fun k => A k (i 0).val) (fun k => B k (i 1).val) := by
  refine (dats m 0 c).arrAt_eq_of_covers 2 (fun i : S512x1024.Idx => entry 2048 (fun k => A k (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S2048x512_S2048x1024_S512x1024_0_0_1_1_n_n 2048 rfl rfl _ _ j
    (fun k => A k ((j 0).val)) (fun k => B k (j 1).val) (fun k => block_a hA t _) (fun k => block_b hB t _)).trans ?_
  exact congrArg₂ (fun p q => entry 2048 (fun k => A k p) (fun k => B k q)) (start (congrFun (idx t).2.2 0)).symm
    (start (congrFun (idx t).2.2 1)).symm

/-- The reference's run ends with its arguments as they were; it declares no semaphore, so every counter is zero. -/
theorem frame_ref : Cert.quiescent_GluDwRefIdeal := fun m g _ =>
  (θ_run Cert.GluDwRefIdeal.defs _ _).mono
    (fun r h => ⟨fun c => (h c).2, sem_eq_zero_of_no_sems (by decide) r.2⟩) (Cert.GluDwRefIdeal.Value.run m g)

/-- The kernel and the reference leave the same gradient. -/
theorem algebraic : Cert.algebraic_GluDwIdeal_GluDwRefIdeal := by
  intro m g m' g' _ hagree
  refine ⟨fun c => (dats m 0 c).arrAt 2 cfg0.N, Value.run_blocks m g,
    (θ_run Cert.GluDwRefIdeal.defs _ _).mono (fun r h c => ?_) (Cert.GluDwRefIdeal.Value.run m' g')⟩
  obtain ⟨A, hA⟩ := of_matrix (m ((c : Thread nD τ).loc main_arg0) : S2048x512.Idx → EReal)
  obtain ⟨B, hB⟩ := of_matrix (m ((c : Thread nD τ).loc main_arg1) : S2048x1024.Idx → EReal)
  refine ⟨(h c).1.trans ?_, (h c).2⟩
  rw [Cert.GluDwRefIdeal.Read.val_main_v5_eq, (hagree c).1, (hagree c).2]
  refine (funext fun i => ?_).trans (arr hA hB).symm
  rw [Cert.GluDwRefIdeal.Read.val_main_v5_apply, Cert.GluDwRefIdeal.Read.val_main_v4_apply]
  exact (fin_entry _ _ (fun k => B k (i 1).val) (fun k => A k (i 0).val) (fun k => hB _) (fun k => hA _)).trans (entry_comm _ _ _)

end Cert.Product.GluDw

end
-- ==== Proof.Product.InAb.lean ====
/-
  The even block's input projection: `x` times the weights, which are kept as four shards of columns
  (hand-written, untrusted). Each of the eight grid points multiplies half of the rows by one shard.
-/
module

public import proofs.«01_k».proof.Defs
public import proofs.«01_k».proof.Proof.Product.Math
public import proofs.«01_k».proof.Proof.Gen.InAbIdeal.Value
public import proofs.«01_k».proof.Proof.Gen.InAbRefIdeal.Run
public import proofs.«01_k».proof.Proof.Gen.InAbRefIdeal.Read

@[expose] public section

set_option backward.isDefEq.respectTransparency.types false
set_option backward.isDefEq.respectTransparency false

noncomputable section

namespace Cert.Product.InAb

open Idealize.ShloMosaic Idealize.ShloMosaic.TcCoe Idealize.SL.Sem Idealize.ShloMosaic.ValueIdx
open Cert.InAbIdeal Cert.InAbIdeal.Gen

/-- Where the blocks of a point lie: a block of rows of `x`, a shard of the weights, the product's rows and that shard's columns. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S4x1024x1536.Idx, m ((c : Thread nD τ).loc main_arg1) i = B (i 1).val (1536 * (i 0).val + (i 2).val))

include hA in
theorem block_a (t : Fin cfg0.N) (j : S1024x1024.Idx) : iblk m c 0 t j = A (1024 * (t.val / 4) + (j 0).val) (j 1).val :=
  (hA _).trans (congrArg₂ A (place (congrFun (idx t).1 0)) (start (congrFun (idx t).1 1)))

include hB in
theorem block_b (t : Fin cfg0.N) (j : S1x1024x1536.Idx) : iblk m c 1 t j = B (j 1).val (1536 * (t.val % 4) + (j 2).val) :=
  (hB _).trans (congrArg₂ B (start (congrFun (idx t).2.1 1))
    (congrArg₂ (fun p q => 1536 * p + q) (unit (congrFun (idx t).2.1 0) (j 0).isLt) (start (congrFun (idx t).2.1 2))))

include hA hB in
/-- The product's array after the run. -/
theorem arr : (dats m 0 c).arrAt 2 cfg0.N = fun i : S2048x6144.Idx => entry 1024 (A (i 0).val) (fun k => B k (i 1).val) := by
  refine (dats m 0 c).arrAt_eq_of_covers 2 (fun i : S2048x6144.Idx => entry 1024 (A (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S1024x1536_S1024x1536_1_0_0_1_n_n 1024 rfl rfl _ _ j
    (A (1024 * (t.val / 4) + (j 0).val)) (fun k => B k (1536 * (t.val % 4) + (j 1).val)) (fun k => block_a hA t _)
    (fun k => (shapeCast_dropUnit_apply _ _ _ _).trans (block_b hB t _))).trans ?_
  exact congrArg₂ (fun p q => entry 1024 (A p) (fun k => B k q)) (place (congrFun (idx t).2.2 0)).symm (place (congrFun (idx t).2.2 1)).symm

/-- The reference's run ends with its arguments as they were; it declares no semaphore, so every counter is zero. -/
theorem frame_ref : Cert.quiescent_InAbRefIdeal := fun m g _ =>
  (θ_run Cert.InAbRefIdeal.defs _ _).mono
    (fun r h => ⟨fun c => (h c).2, sem_eq_zero_of_no_sems (by decide) r.2⟩) (Cert.InAbRefIdeal.Value.run m g)

/-- The kernel and the reference leave the same product. -/
theorem algebraic : Cert.algebraic_InAbIdeal_InAbRefIdeal := by
  intro m g m' g' _ hagree
  refine ⟨fun c => (dats m 0 c).arrAt 2 cfg0.N, Value.run_blocks m g,
    (θ_run Cert.InAbRefIdeal.defs _ _).mono (fun r h c => ?_) (Cert.InAbRefIdeal.Value.run m' g')⟩
  obtain ⟨A, hA⟩ := of_matrix (m ((c : Thread nD τ).loc main_arg0) : S2048x1024.Idx → EReal)
  obtain ⟨B, hB⟩ := of_shards (m ((c : Thread nD τ).loc main_arg1) : S4x1024x1536.Idx → EReal)
  refine ⟨(h c).1.trans ?_, (h c).2⟩
  rw [Cert.InAbRefIdeal.Read.val_main_v4_eq, (hagree c).1, (hagree c).2]
  refine (funext fun i => ?_).trans (arr hA hB).symm
  rw [Cert.InAbRefIdeal.Read.val_main_v4_apply]
  refine fin_entry _ _ _ (fun k => B k (i 1).val) (fun k => hA _) (fun k => ?_)
  show Cert.InAbRefIdeal.Read.val_main_v1 (F := Ideal) _ _ = _
  rw [Cert.InAbRefIdeal.Read.val_main_v1_apply, Cert.InAbRefIdeal.Read.val_main_v0_apply, hB]
  have h1 : (i 1).val < 6144 := (i 1).isLt
  have hk := k.isLt
  refine congrArg₂ B ?_ ?_
  · show (k.val * 6144 + (i 1).val) / 6144 = _
    omega
  · show 1536 * ((k.val * 6144 + (i 1).val) / 1536 % 4) + (k.val * 6144 + (i 1).val) % 1536 = _
    omega

end Cert.Product.InAb

end
-- ==== Proof.Product.OutAb.lean ====
/-
  The even block's output projection: `x` times the weights, added to the residual (hand-written, untrusted). Each of the two grid points
  computes half of the rows.
-/
module

public import proofs.«01_k».proof.Defs
public import proofs.«01_k».proof.Proof.Product.Math
public import proofs.«01_k».proof.Proof.Gen.OutAbIdeal.Value
public import proofs.«01_k».proof.Proof.Gen.OutAbRefIdeal.Run
public import proofs.«01_k».proof.Proof.Gen.OutAbRefIdeal.Read

@[expose] public section

set_option backward.isDefEq.respectTransparency.types false
set_option backward.isDefEq.respectTransparency false

noncomputable section

namespace Cert.Product.OutAb

open Idealize.ShloMosaic Idealize.ShloMosaic.TcCoe Idealize.SL.Sem Idealize.ShloMosaic.ValueIdx
open Cert.OutAbIdeal Cert.OutAbIdeal.Gen

/-- Where the blocks of a point lie: a block of rows of `x`, the weights whole, that block of what is added, that block of rows of the product. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable {m : (ℓ : Loc nD τ sig) → Buf (Elt Ideal) ℓ} {c : Dev nD} {A B X : ℕ → ℕ → EReal}
  (hA : ∀ i : S2048x2048.Idx, m ((c : Thread nD τ).loc main_arg0) i = A (i 0).val (i 1).val)
  (hB : ∀ i : S2048x1024.Idx, m ((c : Thread nD τ).loc main_arg1) i = B (i 0).val (i 1).val)
  (hX : ∀ i : S2048x1024.Idx, m ((c : Thread nD τ).loc main_arg2) i = X (i 0).val (i 1).val)

include hA in
theorem block_a (t : Fin cfg0.N) (j : S1024x2048.Idx) : iblk m c 0 t j = A (1024 * t.val + (j 0).val) (j 1).val :=
  (hA _).trans (congrArg₂ A (place (congrFun (idx t).1 0)) (start (congrFun (idx t).1 1)))

include hB in
theorem block_b (t : Fin cfg0.N) (j : S2048x1024.Idx) : iblk m c 1 t j = B (j 0).val (j 1).val :=
  (hB _).trans (congrArg₂ B (start (congrFun (idx t).2.1 0)) (start (congrFun (idx t).2.1 1)))

include hX in
theorem block_x (t : Fin cfg0.N) (j : S1024x1024.Idx) : iblk m c 2 t j = X (1024 * t.val + (j 0).val) (j 1).val :=
  (hX _).trans (congrArg₂ X (place (congrFun (idx t).2.2.1 0)) (start (congrFun (idx t).2.2.1 1)))

include hA hB hX in
/-- The product's array after the run. -/
theorem arr : (dats m 0 c).arrAt 3 cfg0.N = fun i : S2048x1024.Idx => X (i 0).val (i 1).val + entry 2048 (A (i 0).val) (fun k => B k (i 1).val) := by
  refine (dats m 0 c).arrAt_eq_of_covers 3 (fun i : S2048x1024.Idx => X (i 0).val (i 1).val + entry 2048 (A (i 0).val) (fun k => B k (i 1).val)) (by decide +kernel) fun t _ j => ?_
  show (dats m 0 c).after 3 t j = _
  rw [after0_3]
  unfold out0_3 k0_pay1
  rw [View.canon_cons_unit_lit _ _ _ (by decide), View.ld_unit_lit _ _ (by decide), View.ld_unit_lit _ _ (by decide), View.ld_unit_lit _ _ (by decide)]
  rw [addf_apply, add_comm]
  refine (congrArg₂ (fun p q : EReal => p + q) (block_x hX t j) (block_entry dot_S1024x2048_S2048x1024_S1024x1024_1_0_0_1_n_n 2048 rfl rfl _ _ j
    (A (1024 * t.val + (j 0).val)) (fun k => B k (j 1).val) (fun k => block_a hA t _) (fun k => block_b hB t _))).trans ?_
  exact congrArg₂ (fun p q => X p q + entry 2048 (A p) (fun k => B k q)) (place (congrFun (idx t).2.2.2 0)).symm (start (congrFun (idx t).2.2.2 1)).symm

/-- The reference's run ends with its arguments as they were; it declares no semaphore, so every counter is zero. -/
theorem frame_ref : Cert.quiescent_OutAbRefIdeal := fun m g _ =>
  (θ_run Cert.OutAbRefIdeal.defs _ _).mono
    (fun r h => ⟨fun c => (h c).2, sem_eq_zero_of_no_sems (by decide) r.2⟩) (Cert.OutAbRefIdeal.Value.run m g)

/-- The kernel and the reference leave the same sum. -/
theorem algebraic : Cert.algebraic_OutAbIdeal_OutAbRefIdeal := by
  intro m g m' g' _ hagree
  refine ⟨fun c => (dats m 0 c).arrAt 3 cfg0.N, Value.run_blocks m g,
    (θ_run Cert.OutAbRefIdeal.defs _ _).mono (fun r h c => ?_) (Cert.OutAbRefIdeal.Value.run m' g')⟩
  obtain ⟨A, hA⟩ := of_matrix (m ((c : Thread nD τ).loc main_arg0) : S2048x2048.Idx → EReal)
  obtain ⟨B, hB⟩ := of_matrix (m ((c : Thread nD τ).loc main_arg1) : S2048x1024.Idx → EReal)
  obtain ⟨X, hX⟩ := of_matrix (m ((c : Thread nD τ).loc main_arg2) : S2048x1024.Idx → EReal)
  refine ⟨(h c).1.trans ?_, (h c).2⟩
  rw [Cert.OutAbRefIdeal.Read.val_main_v3_eq, (hagree c).1, (hagree c).2.1, (hagree c).2.2]
  refine (funext fun i => ?_).trans (arr hA hB hX).symm
  exact congrArg₂ (fun p q : EReal => p + q) (hX i) ((Cert.OutAbRefIdeal.Read.val_main_v2_apply _ _ i).trans
    (fin_entry _ _ _ (fun k => B k (i 1).val) (fun k => hA _) (fun k => hB _)))

end Cert.Product.OutAb

end
-- ==== Proof.Product.InCd.lean ====
/-
  The odd block's input projection: `x` times the weights, which are kept as four shards of columns
  (hand-written, untrusted). Each of the eight grid points multiplies half of the rows by one shard.
-/
module

public import proofs.«01_k».proof.Defs
public import proofs.«01_k».proof.Proof.Product.Math
public import proofs.«01_k».proof.Proof.Gen.InCdIdeal.Value
public import proofs.«01_k».proof.Proof.Gen.InCdRefIdeal.Run
public import proofs.«01_k».proof.Proof.Gen.InCdRefIdeal.Read

@[expose] public section

set_option backward.isDefEq.respectTransparency.types false
set_option backward.isDefEq.respectTransparency false

noncomputable section

namespace Cert.Product.InCd

open Idealize.ShloMosaic Idealize.ShloMosaic.TcCoe Idealize.SL.Sem Idealize.ShloMosaic.ValueIdx
open Cert.InCdIdeal Cert.InCdIdeal.Gen

/-- Where the blocks of a point lie: a block of rows of `x`, a shard of the weights, the product's rows and that shard's columns. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S4x1024x1024.Idx, m ((c : Thread nD τ).loc main_arg1) i = B (i 1).val (1024 * (i 0).val + (i 2).val))

include hA in
theorem block_a (t : Fin cfg0.N) (j : S1024x1024.Idx) : iblk m c 0 t j = A (1024 * (t.val / 4) + (j 0).val) (j 1).val :=
  (hA _).trans (congrArg₂ A (place (congrFun (idx t).1 0)) (start (congrFun (idx t).1 1)))

include hB in
theorem block_b (t : Fin cfg0.N) (j : S1x1024x1024.Idx) : iblk m c 1 t j = B (j 1).val (1024 * (t.val % 4) + (j 2).val) :=
  (hB _).trans (congrArg₂ B (start (congrFun (idx t).2.1 1))
    (congrArg₂ (fun p q => 1024 * p + q) (unit (congrFun (idx t).2.1 0) (j 0).isLt) (start (congrFun (idx t).2.1 2))))

include hA hB in
/-- The product's array after the run. -/
theorem arr : (dats m 0 c).arrAt 2 cfg0.N = fun i : S2048x4096.Idx => entry 1024 (A (i 0).val) (fun k => B k (i 1).val) := by
  refine (dats m 0 c).arrAt_eq_of_covers 2 (fun i : S2048x4096.Idx => entry 1024 (A (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x1024_S1024x1024_S1024x1024_1_0_0_1_n_n 1024 rfl rfl _ _ j
    (A (1024 * (t.val / 4) + (j 0).val)) (fun k => B k (1024 * (t.val % 4) + (j 1).val)) (fun k => block_a hA t _)
    (fun k => (shapeCast_dropUnit_apply _ _ _ _).trans (block_b hB t _))).trans ?_
  exact congrArg₂ (fun p q => entry 1024 (A p) (fun k => B k q)) (place (congrFun (idx t).2.2 0)).symm (place (congrFun (idx t).2.2 1)).symm

/-- The reference's run ends with its arguments as they were; it declares no semaphore, so every counter is zero. -/
theorem frame_ref : Cert.quiescent_InCdRefIdeal := fun m g _ =>
  (θ_run Cert.InCdRefIdeal.defs _ _).mono
    (fun r h => ⟨fun c => (h c).2, sem_eq_zero_of_no_sems (by decide) r.2⟩) (Cert.InCdRefIdeal.Value.run m g)

/-- The kernel and the reference leave the same product. -/
theorem algebraic : Cert.algebraic_InCdIdeal_InCdRefIdeal := by
  intro m g m' g' _ hagree
  refine ⟨fun c => (dats m 0 c).arrAt 2 cfg0.N, Value.run_blocks m g,
    (θ_run Cert.InCdRefIdeal.defs _ _).mono (fun r h c => ?_) (Cert.InCdRefIdeal.Value.run m' g')⟩
  obtain ⟨A, hA⟩ := of_matrix (m ((c : Thread nD τ).loc main_arg0) : S2048x1024.Idx → EReal)
  obtain ⟨B, hB⟩ := of_shards (m ((c : Thread nD τ).loc main_arg1) : S4x1024x1024.Idx → EReal)
  refine ⟨(h c).1.trans ?_, (h c).2⟩
  rw [Cert.InCdRefIdeal.Read.val_main_v4_eq, (hagree c).1, (hagree c).2]
  refine (funext fun i => ?_).trans (arr hA hB).symm
  rw [Cert.InCdRefIdeal.Read.val_main_v4_apply]
  refine fin_entry _ _ _ (fun k => B k (i 1).val) (fun k => hA _) (fun k => ?_)
  show Cert.InCdRefIdeal.Read.val_main_v1 (F := Ideal) _ _ = _
  rw [Cert.InCdRefIdeal.Read.val_main_v1_apply, Cert.InCdRefIdeal.Read.val_main_v0_apply, hB]
  have h1 : (i 1).val < 4096 := (i 1).isLt
  have hk := k.isLt
  refine congrArg₂ B ?_ ?_
  · show (k.val * 4096 + (i 1).val) / 4096 = _
    omega
  · show 1024 * ((k.val * 4096 + (i 1).val) / 1024 % 4) + (k.val * 4096 + (i 1).val) % 1024 = _
    omega

end Cert.Product.InCd

end
-- ==== Proof.Product.OutCd.lean ====
/-
  The odd block's output projection: `x` times the weights, added to the residual (hand-written, untrusted). Each of the two grid points
  computes half of the rows.
-/
module

public import proofs.«01_k».proof.Defs
public import proofs.«01_k».proof.Proof.Product.Math
public import proofs.«01_k».proof.Proof.Gen.OutCdIdeal.Value
public import proofs.«01_k».proof.Proof.Gen.OutCdRefIdeal.Run
public import proofs.«01_k».proof.Proof.Gen.OutCdRefIdeal.Read

@[expose] public section

set_option backward.isDefEq.respectTransparency.types false
set_option backward.isDefEq.respectTransparency false

noncomputable section

namespace Cert.Product.OutCd

open Idealize.ShloMosaic Idealize.ShloMosaic.TcCoe Idealize.SL.Sem Idealize.ShloMosaic.ValueIdx
open Cert.OutCdIdeal Cert.OutCdIdeal.Gen

/-- Where the blocks of a point lie: a block of rows of `x`, the weights whole, that block of what is added, that block of rows of the product. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable {m : (ℓ : Loc nD τ sig) → Buf (Elt Ideal) ℓ} {c : Dev nD} {A B X : ℕ → ℕ → EReal}
  (hA : ∀ i : S2048x1536.Idx, m ((c : Thread nD τ).loc main_arg0) i = A (i 0).val (i 1).val)
  (hB : ∀ i : S1536x1024.Idx, m ((c : Thread nD τ).loc main_arg1) i = B (i 0).val (i 1).val)
  (hX : ∀ i : S2048x1024.Idx, m ((c : Thread nD τ).loc main_arg2) i = X (i 0).val (i 1).val)

include hA in
theorem block_a (t : Fin cfg0.N) (j : S1024x1536.Idx) : iblk m c 0 t j = A (1024 * t.val + (j 0).val) (j 1).val :=
  (hA _).trans (congrArg₂ A (place (congrFun (idx t).1 0)) (start (congrFun (idx t).1 1)))

include hB in
theorem block_b (t : Fin cfg0.N) (j : S1536x1024.Idx) : iblk m c 1 t j = B (j 0).val (j 1).val :=
  (hB _).trans (congrArg₂ B (start (congrFun (idx t).2.1 0)) (start (congrFun (idx t).2.1 1)))

include hX in
theorem block_x (t : Fin cfg0.N) (j : S1024x1024.Idx) : iblk m c 2 t j = X (1024 * t.val + (j 0).val) (j 1).val :=
  (hX _).trans (congrArg₂ X (place (congrFun (idx t).2.2.1 0)) (start (congrFun (idx t).2.2.1 1)))

include hA hB hX in
/-- The product's array after the run. -/
theorem arr : (dats m 0 c).arrAt 3 cfg0.N = fun i : S2048x1024.Idx => X (i 0).val (i 1).val + entry 1536 (A (i 0).val) (fun k => B k (i 1).val) := by
  refine (dats m 0 c).arrAt_eq_of_covers 3 (fun i : S2048x1024.Idx => X (i 0).val (i 1).val + entry 1536 (A (i 0).val) (fun k => B k (i 1).val)) (by decide +kernel) fun t _ j => ?_
  show (dats m 0 c).after 3 t j = _
  rw [after0_3]
  unfold out0_3 k0_pay1
  rw [View.canon_cons_unit_lit _ _ _ (by decide), View.ld_unit_lit _ _ (by decide), View.ld_unit_lit _ _ (by decide), View.ld_unit_lit _ _ (by decide)]
  rw [addf_apply, add_comm]
  refine (congrArg₂ (fun p q : EReal => p + q) (block_x hX t j) (block_entry dot_S1024x1536_S1536x1024_S1024x1024_1_0_0_1_n_n 1536 rfl rfl _ _ j
    (A (1024 * t.val + (j 0).val)) (fun k => B k (j 1).val) (fun k => block_a hA t _) (fun k => block_b hB t _))).trans ?_
  exact congrArg₂ (fun p q => X p q + entry 1536 (A p) (fun k => B k q)) (place (congrFun (idx t).2.2.2 0)).symm (start (congrFun (idx t).2.2.2 1)).symm

/-- The reference's run ends with its arguments as they were; it declares no semaphore, so every counter is zero. -/
theorem frame_ref : Cert.quiescent_OutCdRefIdeal := fun m g _ =>
  (θ_run Cert.OutCdRefIdeal.defs _ _).mono
    (fun r h => ⟨fun c => (h c).2, sem_eq_zero_of_no_sems (by decide) r.2⟩) (Cert.OutCdRefIdeal.Value.run m g)

/-- The kernel and the reference leave the same sum. -/
theorem algebraic : Cert.algebraic_OutCdIdeal_OutCdRefIdeal := by
  intro m g m' g' _ hagree
  refine ⟨fun c => (dats m 0 c).arrAt 3 cfg0.N, Value.run_blocks m g,
    (θ_run Cert.OutCdRefIdeal.defs _ _).mono (fun r h c => ?_) (Cert.OutCdRefIdeal.Value.run m' g')⟩
  obtain ⟨A, hA⟩ := of_matrix (m ((c : Thread nD τ).loc main_arg0) : S2048x1536.Idx → EReal)
  obtain ⟨B, hB⟩ := of_matrix (m ((c : Thread nD τ).loc main_arg1) : S1536x1024.Idx → EReal)
  obtain ⟨X, hX⟩ := of_matrix (m ((c : Thread nD τ).loc main_arg2) : S2048x1024.Idx → EReal)
  refine ⟨(h c).1.trans ?_, (h c).2⟩
  rw [Cert.OutCdRefIdeal.Read.val_main_v3_eq, (hagree c).1, (hagree c).2.1, (hagree c).2.2]
  refine (funext fun i => ?_).trans (arr hA hB hX).symm
  exact congrArg₂ (fun p q : EReal => p + q) (hX i) ((Cert.OutCdRefIdeal.Read.val_main_v2_apply _ _ i).trans
    (fin_entry _ _ _ (fun k => B k (i 1).val) (fun k => hA _) (fun k => hB _)))

end Cert.Product.OutCd

end
-- ==== Proof.Product.GluT.lean ====
/-
  The gated unit's two products: `x` times the weights (hand-written, untrusted). Each of the two grid points
  computes half of the rows.
-/
module

public import proofs.«01_k».proof.Defs
public import proofs.«01_k».proof.Proof.Product.Math
public import proofs.«01_k».proof.Proof.Gen.GluTIdeal.Value
public import proofs.«01_k».proof.Proof.Gen.GluTRefIdeal.Run
public import proofs.«01_k».proof.Proof.Gen.GluTRefIdeal.Read

@[expose] public section

set_option backward.isDefEq.respectTransparency.types false
set_option backward.isDefEq.respectTransparency false

noncomputable section

namespace Cert.Product.GluT

open Idealize.ShloMosaic Idealize.ShloMosaic.TcCoe Idealize.SL.Sem Idealize.ShloMosaic.ValueIdx
open Cert.GluTIdeal Cert.GluTIdeal.Gen

/-- Where the blocks of a point lie: a block of rows of `x`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x512.Idx, m ((c : Thread nD τ).loc main_arg0) i = A (i 0).val (i 1).val)
  (hB : ∀ i : S512x1024.Idx, m ((c : Thread nD τ).loc main_arg1) i = B (i 0).val (i 1).val)

include hA in
theorem block_a (t : Fin cfg0.N) (j : S1024x512.Idx) : iblk m c 0 t j = A (1024 * t.val + (j 0).val) (j 1).val :=
  (hA _).trans (congrArg₂ A (place (congrFun (idx t).1 0)) (start (congrFun (idx t).1 1)))

include hB in
theorem block_b (t : Fin cfg0.N) (j : S512x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1024.Idx => entry 512 (A (i 0).val) (fun k => B k (i 1).val) := by
  refine (dats m 0 c).arrAt_eq_of_covers 2 (fun i : S2048x1024.Idx => entry 512 (A (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  refine (block_entry dot_S1024x512_S512x1024_S1024x1024_1_0_0_1_n_n 512 rfl rfl _ _ j
    (A (1024 * t.val + (j 0).val)) (fun k => B k (j 1).val) (fun k => block_a hA t _) (fun k => block_b hB t _)).trans ?_
  exact congrArg₂ (fun p q => entry 512 (A p) (fun k => B k q)) (place (congrFun (idx t).2.2 0)).symm (start (congrFun (idx t).2.2 1)).symm

/-- The reference's run ends with its arguments as they were; it declares no semaphore, so every counter is zero. -/
theorem frame_ref : Cert.quiescent_GluTRefIdeal := fun m g _ =>
  (θ_run Cert.GluTRefIdeal.defs _ _).mono
    (fun r h => ⟨fun c => (h c).2, sem_eq_zero_of_no_sems (by decide) r.2⟩) (Cert.GluTRefIdeal.Value.run m g)

/-- The kernel and the reference leave the same product. -/
theorem algebraic : Cert.algebraic_GluTIdeal_GluTRefIdeal := by
  intro m g m' g' _ hagree
  refine ⟨fun c => (dats m 0 c).arrAt 2 cfg0.N, Value.run_blocks m g,
    (θ_run Cert.GluTRefIdeal.defs _ _).mono (fun r h c => ?_) (Cert.GluTRefIdeal.Value.run m' g')⟩
  obtain ⟨A, hA⟩ := of_matrix (m ((c : Thread nD τ).loc main_arg0) : S2048x512.Idx → EReal)
  obtain ⟨B, hB⟩ := of_matrix (m ((c : Thread nD τ).loc main_arg1) : S512x1024.Idx → EReal)
  refine ⟨(h c).1.trans ?_, (h c).2⟩
  rw [Cert.GluTRefIdeal.Read.val_main_v2_eq, (hagree c).1, (hagree c).2]
  refine (funext fun i => ?_).trans (arr hA hB).symm
  rw [Cert.GluTRefIdeal.Read.val_main_v2_apply]
  exact fin_entry _ _ _ (fun k => B k (i 1).val) (fun k => hA _) (fun k => hB _)

end Cert.Product.GluT

end
-- ==== Proof.Product.Xq.lean ====
/-
  The cross-attention's query projection: `x` times the weights (hand-written, untrusted). Each of the two grid points
  computes half of the rows.
-/
module

public import proofs.«01_k».proof.Defs
public import proofs.«01_k».proof.Proof.Product.Math
public import proofs.«01_k».proof.Proof.Gen.XqIdeal.Value
public import proofs.«01_k».proof.Proof.Gen.XqRefIdeal.Run
public import proofs.«01_k».proof.Proof.Gen.XqRefIdeal.Read

@[expose] public section

set_option backward.isDefEq.respectTransparency.types false
set_option backward.isDefEq.respectTransparency false

noncomputable section

namespace Cert.Product.Xq

open Idealize.ShloMosaic Idealize.ShloMosaic.TcCoe Idealize.SL.Sem Idealize.ShloMosaic.ValueIdx
open Cert.XqIdeal Cert.XqIdeal.Gen

/-- Where the blocks of a point lie: a block of rows of `x`, the weights whole, that block of rows of the product. -/
theorem idx : ∀ t : Fin cfg0.N, win0_0.index t = ![t.val, 0] ∧ win0_1.index t = ![0, 0] ∧ win0_2.index t = ![t.val, 0] :=
  (by decide +kernel : ∀ t : Fin grid0.N, _)

variable {m : (ℓ : Loc nD τ sig) → Buf (Elt Ideal) ℓ} {c : Dev nD} {A B : ℕ → ℕ → EReal}
  (hA : ∀ i : S2048x1024.Idx, m ((c : Thread nD τ).loc main_arg0) i = A (i 0).val (i 1).val)
  (hB : ∀ i : S1024x1024.Idx, m ((c : Thread nD τ).loc main_arg1) i = B (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S1024x1024.Idx) : iblk m c 1 t j = B (j 0).val (j 1).val :=
  (hB _).trans (congrArg₂ B (start (congrFun (idx t).2.1 0)) (start (congrFun (idx t).2.1 1)))

include hA hB in
/-- The product's array after the run. -/
theorem arr : (dats m 0 c).arrAt 2 cfg0.N = fun i : S2048x1024.Idx => entry 1024 (A (i 0).val) (fun k => B k (i 1).val) := by
  refine (dats m 0 c).arrAt_eq_of_covers 2 (fun i : S2048x1024.Idx => entry 1024 (A (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  rw [truncf_apply]
  refine (block_entry dot_S1024x1024_S1024x1024_S1024x1024_1_0_0_1_n_n 1024 rfl rfl _ _ j
    (A (1024 * t.val + (j 0).val)) (fun k => B k (j 1).val) (fun k => block_a hA t _) (fun k => block_b hB t _)).trans ?_
  exact congrArg₂ (fun p q => entry 1024 (A p) (fun k => B k q)) (place (congrFun (idx t).2.2 0)).symm (start (congrFun (idx t).2.2 1)).symm

/-- The reference's run ends with its arguments as they were; it declares no semaphore, so every counter is zero. -/
theorem frame_ref : Cert.quiescent_XqRefIdeal := fun m g _ =>
  (θ_run Cert.XqRefIdeal.defs _ _).mono
    (fun r h => ⟨fun c => (h c).2, sem_eq_zero_of_no_sems (by decide) r.2⟩) (Cert.XqRefIdeal.Value.run m g)

/-- The kernel and the reference leave the same product. -/
theorem algebraic : Cert.algebraic_XqIdeal_XqRefIdeal := by
  intro m g m' g' _ hagree
  refine ⟨fun c => (dats m 0 c).arrAt 2 cfg0.N, Value.run_blocks m g,
    (θ_run Cert.XqRefIdeal.defs _ _).mono (fun r h c => ?_) (Cert.XqRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S1024x1024.Idx → EReal)
  refine ⟨(h c).1.trans ?_, (h c).2⟩
  rw [Cert.XqRefIdeal.Read.val_main_v3_eq, (hagree c).1, (hagree c).2]
  refine (funext fun i => ?_).trans (arr hA hB).symm
  show Cert.XqRefIdeal.Read.val_main_v2 (F := Ideal) _ _ i = _
  rw [Cert.XqRefIdeal.Read.val_main_v2_apply]
  exact fin_entry _ _ _ (fun k => B k (i 1).val) (fun k => hA _) (fun k => hB _)

end Cert.Product.Xq

end
-- ==== Proof.Product.Xkv.lean ====
/-
  The projection of the memory to keys and values: `x` times the weights, which are kept as four shards of columns
  (hand-written, untrusted). Each of the four grid points multiplies by one shard.
-/
module

public import proofs.«01_k».proof.Defs
public import proofs.«01_k».proof.Proof.Product.Math
public import proofs.«01_k».proof.Proof.Gen.XkvIdeal.Value
public import proofs.«01_k».proof.Proof.Gen.XkvRefIdeal.Run
public import proofs.«01_k».proof.Proof.Gen.XkvRefIdeal.Read

@[expose] public section

set_option backward.isDefEq.respectTransparency.types false
set_option backward.isDefEq.respectTransparency false

noncomputable section

namespace Cert.Product.Xkv

open Idealize.ShloMosaic Idealize.ShloMosaic.TcCoe Idealize.SL.Sem Idealize.ShloMosaic.ValueIdx
open Cert.XkvIdeal Cert.XkvIdeal.Gen

/-- Where the blocks of a point lie: a block of rows of `x`, a shard of the weights, the product's rows and that shard's columns. -/
theorem idx : ∀ t : Fin cfg0.N, win0_0.index t = ![0, 0] ∧ win0_1.index t = ![t.val, 0, 0] ∧ win0_2.index t = ![0, t.val] :=
  (by decide +kernel : ∀ t : Fin grid0.N, _)

variable {m : (ℓ : Loc nD τ sig) → Buf (Elt Ideal) ℓ} {c : Dev nD} {A B : ℕ → ℕ → EReal}
  (hA : ∀ i : S256x1024.Idx, m ((c : Thread nD τ).loc main_arg0) i = A (i 0).val (i 1).val)
  (hB : ∀ i : S4x1024x512.Idx, m ((c : Thread nD τ).loc main_arg1) i = B (i 1).val (512 * (i 0).val + (i 2).val))

include hA in
theorem block_a (t : Fin cfg0.N) (j : S256x1024.Idx) : iblk m c 0 t j = A (j 0).val (j 1).val :=
  (hA _).trans (congrArg₂ A (start (congrFun (idx t).1 0)) (start (congrFun (idx t).1 1)))

include hB in
theorem block_b (t : Fin cfg0.N) (j : S1x1024x512.Idx) : iblk m c 1 t j = B (j 1).val (512 * t.val + (j 2).val) :=
  (hB _).trans (congrArg₂ B (start (congrFun (idx t).2.1 1))
    (congrArg₂ (fun p q => 512 * p + q) (unit (congrFun (idx t).2.1 0) (j 0).isLt) (start (congrFun (idx t).2.1 2))))

include hA hB in
/-- The product's array after the run. -/
theorem arr : (dats m 0 c).arrAt 2 cfg0.N = fun i : S256x2048.Idx => entry 1024 (A (i 0).val) (fun k => B k (i 1).val) := by
  refine (dats m 0 c).arrAt_eq_of_covers 2 (fun i : S256x2048.Idx => entry 1024 (A (i 0).val) (fun k => B k (i 1).val)) (by decide +kernel) fun t _ j => ?_
  show (dats m 0 c).after 2 t j = _
  rw [after0_2]
  unfold out0_2 k0_pay1
  rw [View.canon_cons_unit_lit _ _ _ (by decide), View.ld_unit_lit _ _ (by decide), View.ld_unit_lit _ _ (by decide)]
  rw [truncf_apply]
  refine (block_entry dot_S256x1024_S1024x512_S256x512_1_0_0_1_n_n 1024 rfl rfl _ _ j
    (A ((j 0).val)) (fun k => B k (512 * t.val + (j 1).val)) (fun k => block_a hA t _)
    (fun k => (shapeCast_dropUnit_apply _ _ _ _).trans (block_b hB t _))).trans ?_
  exact congrArg₂ (fun p q => entry 1024 (A p) (fun k => B k q)) (start (congrFun (idx t).2.2 0)).symm (place (congrFun (idx t).2.2 1)).symm

/-- The reference's run ends with its arguments as they were; it declares no semaphore, so every counter is zero. -/
theorem frame_ref : Cert.quiescent_XkvRefIdeal := fun m g _ =>
  (θ_run Cert.XkvRefIdeal.defs _ _).mono
    (fun r h => ⟨fun c => (h c).2, sem_eq_zero_of_no_sems (by decide) r.2⟩) (Cert.XkvRefIdeal.Value.run m g)

/-- The kernel and the reference leave the same product. -/
theorem algebraic : Cert.algebraic_XkvIdeal_XkvRefIdeal := by
  intro m g m' g' _ hagree
  refine ⟨fun c => (dats m 0 c).arrAt 2 cfg0.N, Value.run_blocks m g,
    (θ_run Cert.XkvRefIdeal.defs _ _).mono (fun r h c => ?_) (Cert.XkvRefIdeal.Value.run m' g')⟩
  obtain ⟨A, hA⟩ := of_matrix (m ((c : Thread nD τ).loc main_arg0) : S256x1024.Idx → EReal)
  obtain ⟨B, hB⟩ := of_shards (m ((c : Thread nD τ).loc main_arg1) : S4x1024x512.Idx → EReal)
  refine ⟨(h c).1.trans ?_, (h c).2⟩
  rw [Cert.XkvRefIdeal.Read.val_main_v5_eq, (hagree c).1, (hagree c).2]
  refine (funext fun i => ?_).trans (arr hA hB).symm
  show Cert.XkvRefIdeal.Read.val_main_v4 (F := Ideal) _ _ i = _
  rw [Cert.XkvRefIdeal.Read.val_main_v4_apply]
  refine fin_entry _ _ _ (fun k => B k (i 1).val) (fun k => hA _) (fun k => ?_)
  show Cert.XkvRefIdeal.Read.val_main_v1 (F := Ideal) _ _ = _
  rw [Cert.XkvRefIdeal.Read.val_main_v1_apply, Cert.XkvRefIdeal.Read.val_main_v0_apply, hB]
  have h1 : (i 1).val < 2048 := (i 1).isLt
  have hk := k.isLt
  refine congrArg₂ B ?_ ?_
  · show (k.val * 2048 + (i 1).val) / 2048 = _
    omega
  · show 512 * ((k.val * 2048 + (i 1).val) / 512 % 4) + (k.val * 2048 + (i 1).val) % 512 = _
    omega

end Cert.Product.Xkv

end
-- ==== Proof.Product.Xo.lean ====
/-
  The cross-attention's output projection: `x` times the weights, added to the residual (hand-written, untrusted). Each of the two grid points
  computes half of the rows.
-/
module

public import proofs.«01_k».proof.Defs
public import proofs.«01_k».proof.Proof.Product.Math
public import proofs.«01_k».proof.Proof.Gen.XoIdeal.Value
public import proofs.«01_k».proof.Proof.Gen.XoRefIdeal.Run
public import proofs.«01_k».proof.Proof.Gen.XoRefIdeal.Read

@[expose] public section

set_option backward.isDefEq.respectTransparency.types false
set_option backward.isDefEq.respectTransparency false

noncomputable section

namespace Cert.Product.Xo

open Idealize.ShloMosaic Idealize.ShloMosaic.TcCoe Idealize.SL.Sem Idealize.ShloMosaic.ValueIdx
open Cert.XoIdeal Cert.XoIdeal.Gen

/-- Where the blocks of a point lie: a block of rows of `x`, the weights whole, that block of what is added, that block of rows of the product. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable {m : (ℓ : Loc nD τ sig) → Buf (Elt Ideal) ℓ} {c : Dev nD} {A B X : ℕ → ℕ → EReal}
  (hA : ∀ i : S2048x1024.Idx, m ((c : Thread nD τ).loc main_arg0) i = A (i 0).val (i 1).val)
  (hB : ∀ i : S1024x1024.Idx, m ((c : Thread nD τ).loc main_arg1) i = B (i 0).val (i 1).val)
  (hX : ∀ i : S2048x1024.Idx, m ((c : Thread nD τ).loc main_arg2) i = X (i 0).val (i 1).val)

include hA in
theorem block_a (t : Fin cfg0.N) (j : S1024x1024.Idx) : iblk m c 0 t j = A (1024 * t.val + (j 0).val) (j 1).val :=
  (hA _).trans (congrArg₂ A (place (congrFun (idx t).1 0)) (start (congrFun (idx t).1 1)))

include hB in
theorem block_b (t : Fin cfg0.N) (j : S1024x1024.Idx) : iblk m c 1 t j = B (j 0).val (j 1).val :=
  (hB _).trans (congrArg₂ B (start (congrFun (idx t).2.1 0)) (start (congrFun (idx t).2.1 1)))

include hX in
theorem block_x (t : Fin cfg0.N) (j : S1024x1024.Idx) : iblk m c 2 t j = X (1024 * t.val + (j 0).val) (j 1).val :=
  (hX _).trans (congrArg₂ X (place (congrFun (idx t).2.2.1 0)) (start (congrFun (idx t).2.2.1 1)))

include hA hB hX in
/-- The product's array after the run. -/
theorem arr : (dats m 0 c).arrAt 3 cfg0.N = fun i : S2048x1024.Idx => X (i 0).val (i 1).val + entry 1024 (A (i 0).val) (fun k => B k (i 1).val) := by
  refine (dats m 0 c).arrAt_eq_of_covers 3 (fun i : S2048x1024.Idx => X (i 0).val (i 1).val + entry 1024 (A (i 0).val) (fun k => B k (i 1).val)) (by decide +kernel) fun t _ j => ?_
  show (dats m 0 c).after 3 t j = _
  rw [after0_3]
  unfold out0_3 k0_pay1
  rw [View.canon_cons_unit_lit _ _ _ (by decide), View.ld_unit_lit _ _ (by decide), View.ld_unit_lit _ _ (by decide), View.ld_unit_lit _ _ (by decide)]
  rw [addf_apply, add_comm]
  refine (congrArg₂ (fun p q : EReal => p + q) (block_x hX t j) (block_entry dot_S1024x1024_S1024x1024_S1024x1024_1_0_0_1_n_n 1024 rfl rfl _ _ j
    (A (1024 * t.val + (j 0).val)) (fun k => B k (j 1).val) (fun k => block_a hA t _) (fun k => block_b hB t _))).trans ?_
  exact congrArg₂ (fun p q => X p q + entry 1024 (A p) (fun k => B k q)) (place (congrFun (idx t).2.2.2 0)).symm (start (congrFun (idx t).2.2.2 1)).symm

/-- The reference's run ends with its arguments as they were; it declares no semaphore, so every counter is zero. -/
theorem frame_ref : Cert.quiescent_XoRefIdeal := fun m g _ =>
  (θ_run Cert.XoRefIdeal.defs _ _).mono
    (fun r h => ⟨fun c => (h c).2, sem_eq_zero_of_no_sems (by decide) r.2⟩) (Cert.XoRefIdeal.Value.run m g)

/-- The kernel and the reference leave the same sum. -/
theorem algebraic : Cert.algebraic_XoIdeal_XoRefIdeal := by
  intro m g m' g' _ hagree
  refine ⟨fun c => (dats m 0 c).arrAt 3 cfg0.N, Value.run_blocks m g,
    (θ_run Cert.XoRefIdeal.defs _ _).mono (fun r h c => ?_) (Cert.XoRefIdeal.Value.run m' g')⟩
  obtain ⟨A, hA⟩ := of_matrix (m ((c : Thread nD τ).loc main_arg0) : S2048x1024.Idx → EReal)
  obtain ⟨B, hB⟩ := of_matrix (m ((c : Thread nD τ).loc main_arg1) : S1024x1024.Idx → EReal)
  obtain ⟨X, hX⟩ := of_matrix (m ((c : Thread nD τ).loc main_arg2) : S2048x1024.Idx → EReal)
  refine ⟨(h c).1.trans ?_, (h c).2⟩
  rw [Cert.XoRefIdeal.Read.val_main_v3_eq, (hagree c).1, (hagree c).2.1, (hagree c).2.2]
  refine (funext fun i => ?_).trans (arr hA hB hX).symm
  exact congrArg₂ (fun p q : EReal => p + q) (hX i) ((Cert.XoRefIdeal.Read.val_main_v2_apply _ _ i).trans
    (fin_entry _ _ _ (fun k => B k (i 1).val) (fun k => hA _) (fun k => hB _)))

end Cert.Product.Xo

end
-- ==== Proof.Product.XkvDxTop.lean ====
/-
  The gradient of the projection of the memory to keys and values with respect to its input, in the top layer: `dkv`
  times the weights, transposed, with nothing to add it to (hand-written, untrusted). The weights come as four shards of
  512 columns; each of the four grid points multiplies by one shard and adds into a scratch, which the last writes out.
-/
module

public import proofs.«01_k».proof.Defs
public import proofs.«01_k».proof.Proof.Product.Math
public import proofs.«01_k».proof.Proof.Gen.XkvDxTopIdeal.Value
public import proofs.«01_k».proof.Proof.Gen.XkvDxTopRefIdeal.Run
public import proofs.«01_k».proof.Proof.Gen.XkvDxTopRefIdeal.Read

@[expose] public section

set_option backward.isDefEq.respectTransparency.types false
set_option backward.isDefEq.respectTransparency false

noncomputable section

namespace Cert.Product.XkvDxTop

open Idealize.ShloMosaic Idealize.ShloMosaic.TcCoe Idealize.SL.Sem Idealize.ShloMosaic.ValueIdx
open Cert.XkvDxTopIdeal Cert.XkvDxTopIdeal.Gen

/-- Where the blocks of a point lie: a shard's columns of `dkv`, the weights' shard, the rest whole. -/
theorem idx : ∀ t : Fin cfg0.N, win0_0.index t = ![0, t.val % 4] ∧ win0_1.index t = ![t.val % 4, 0, 0] ∧ win0_2.index t = ![0, 0] :=
  (by decide +kernel : ∀ t : Fin grid0.N, _)

variable {m : (ℓ : Loc nD τ sig) → Buf (Elt Ideal) ℓ} {c : Dev nD} {A B : ℕ → ℕ → EReal}
  (hA : ∀ i : S256x2048.Idx, m ((c : Thread nD τ).loc main_arg0) i = A (i 0).val (i 1).val)
  (hB : ∀ i : S4x1024x512.Idx, m ((c : Thread nD τ).loc main_arg1) i = B (i 1).val (512 * (i 0).val + (i 2).val))

include hA in
theorem block_a (t : Fin cfg0.N) (j : S256x512.Idx) : iblk m c 0 t j = A (j 0).val (512 * (t.val % 4) + (j 1).val) :=
  (hA _).trans (congrArg₂ A (start (congrFun (idx t).1 0)) (place (congrFun (idx t).1 1)))

include hB in
theorem block_b (t : Fin cfg0.N) (j : S1x1024x512.Idx) : iblk m c 1 t j = B (j 1).val (512 * (t.val % 4) + (j 2).val) :=
  (hB _).trans (congrArg₂ B (start (congrFun (idx t).2.1 1))
    (congrArg₂ (fun p q => 512 * p + q) (unit (congrFun (idx t).2.1 0) (j 0).isLt) (start (congrFun (idx t).2.1 2))))

include hA hB in
/-- A point's own product: its 512 columns' share of the entry. -/
theorem share (t : Fin cfg0.N) (j : S256x1024.Idx) :
    k0_pay1 (F := Ideal) (iblk m c 0 t) (iblk m c 1 t) j
      = entry 512 (fun k => A (j 0).val (512 * (t.val % 4) + k)) (fun k => B (j 1).val (512 * (t.val % 4) + k)) := by
  unfold k0_pay1
  exact block_entry dot_S256x512_S1024x512_S256x1024_1_1_0_0_n_n 512 rfl rfl _ _ j
    (fun k => A (j 0).val (512 * (t.val % 4) + k)) (fun k => B (j 1).val (512 * (t.val % 4) + k)) (fun k => block_a hA t _)
    (fun k => (shapeCast_dropUnit_apply _ _ _ _).trans (block_b hB t _))

include hA hB in
/-- The scratch after the first of the four points holds that point's share. -/
theorem first (t : Fin cfg0.N) (h : t.val % 4 = 0) (j : S256x1024.Idx) : (outsAt0 m c t.val t.isLt).2 j
      = entry 512 (A (j 0).val) (B (j 1).val) := by
  have ht : t.val < 4 := t.isLt
  rw [outsAt0_A m c t h (by omega) (by omega)]
  frame_out
  unfold k0_pay2
  rw [shapeCast_self, share hA hB, h]
  simp only [Nat.mul_zero, Nat.zero_add]

include hA hB in
/-- At a later point the share is added to what the scratch held. -/
theorem next (t : Fin cfg0.N) (h : ¬t.val % 4 = 0) (j : S256x1024.Idx) : (outsAt0 m c t.val t.isLt).2 j
      = (outsAt0 m c (t.val - 1) (Nat.lt_of_le_of_lt (Nat.sub_le _ _) t.isLt)).2 j
        + entry 512 (fun k => A (j 0).val (512 * (t.val % 4) + k)) (fun k => B (j 1).val (512 * (t.val % 4) + k)) := by
  rw [← share hA hB]
  by_cases h3 : t.val % 4 = 3
  · conv_lhs => rw [outsAt0_C m c t h (by omega) h3]
    frame_out
    simp only [read_unread_whole]
    unfold k0_pay3
    rw [shapeCast_self, addf_apply]
  · conv_lhs => rw [outsAt0_B m c t h (by omega) h3]
    frame_out
    simp only [read_unread_whole]
    unfold k0_pay3
    rw [shapeCast_self, addf_apply]

include hA hB in
/-- The scratch after a point: the entry over the columns of the shards so far. -/
theorem acc (s : ℕ) (t : Fin cfg0.N) (h : t.val % 4 = s) (j : S256x1024.Idx) : (outsAt0 m c t.val t.isLt).2 j
      = entry (512 * s + 512) (A (j 0).val) (B (j 1).val) := by
  induction s generalizing t with
  | zero => exact first hA hB t h j
  | succ s ih =>
    have hp := ih ⟨t.val - 1, Nat.lt_of_le_of_lt (Nat.sub_le _ _) t.isLt⟩ (by dsimp only; omega)
    dsimp only at hp
    rw [next hA hB t (by omega), hp, h]
    exact entry_add (512 * s + 512) 512 _ _

include hA hB in
/-- The product's array after the run. -/
theorem arr : (dats m 0 c).arrAt 2 cfg0.N = fun i : S256x1024.Idx => entry 2048 (A (i 0).val) (B (i 1).val) := by
  refine (dats m 0 c).arrAt_eq_of_covers 2 (fun i : S256x1024.Idx => entry 2048 (A (i 0).val) (B (i 1).val))
    (by decide +kernel) fun t hf j => ?_
  have h3 := (flush0_2 t).mp hf
  have e : (outsAt0 m c t.val t.isLt).1 = (outsAt0 m c t.val t.isLt).2 := by
    rw [outsAt0_C m c t (by omega) (by omega) h3]
    frame_out
  show (dats m 0 c).after 2 t j = _
  rw [after0_2, e]
  refine (acc hA hB 3 t h3 j).trans ?_
  exact congrArg₂ (fun p q => entry 2048 (A p) (B q)) (start (congrFun (idx t).2.2 0)).symm (start (congrFun (idx t).2.2 1)).symm

/-- The reference's run ends with its arguments as they were; it declares no semaphore, so every counter is zero. -/
theorem frame_ref : Cert.quiescent_XkvDxTopRefIdeal := fun m g _ =>
  (θ_run Cert.XkvDxTopRefIdeal.defs _ _).mono
    (fun r h => ⟨fun c => (h c).2, sem_eq_zero_of_no_sems (by decide) r.2⟩) (Cert.XkvDxTopRefIdeal.Value.run m g)

/-- The kernel and the reference leave the same product. -/
theorem algebraic : Cert.algebraic_XkvDxTopIdeal_XkvDxTopRefIdeal := by
  intro m g m' g' _ hagree
  refine ⟨fun c => (dats m 0 c).arrAt 2 cfg0.N, Value.run_blocks m g,
    (θ_run Cert.XkvDxTopRefIdeal.defs _ _).mono (fun r h c => ?_) (Cert.XkvDxTopRefIdeal.Value.run m' g')⟩
  obtain ⟨A, hA⟩ := of_matrix (m ((c : Thread nD τ).loc main_arg0) : S256x2048.Idx → EReal)
  obtain ⟨B, hB⟩ := of_shards (m ((c : Thread nD τ).loc main_arg1) : S4x1024x512.Idx → EReal)
  refine ⟨(h c).1.trans ?_, (h c).2⟩
  rw [Cert.XkvDxTopRefIdeal.Read.val_main_v5_eq, (hagree c).1, (hagree c).2]
  refine (funext fun i => ?_).trans (arr hA hB).symm
  refine (Cert.XkvDxTopRefIdeal.Read.val_main_v5_apply _ _ i).trans (fin_entry _ _ _ _ (fun k => hA _) (fun k => ?_))
  show Cert.XkvDxTopRefIdeal.Read.val_main_v1 (F := Ideal) _ _ = _
  rw [Cert.XkvDxTopRefIdeal.Read.val_main_v1_apply, Cert.XkvDxTopRefIdeal.Read.val_main_v0_apply, hB]
  have h1 : (i 1).val < 1024 := (i 1).isLt
  have hk := k.isLt
  refine congrArg₂ B ?_ ?_
  · show ((i 1).val * 2048 + k.val) / 2048 = _
    omega
  · show 512 * (((i 1).val * 2048 + k.val) / 512 % 4) + ((i 1).val * 2048 + k.val) % 512 = _
    omega

end Cert.Product.XkvDxTop

end
-- ==== Proof.XattnFwd.Blocks.lean ====
/-
  What the kernel of the memory cross-attention's forward pass leaves (hand-written, untrusted).

  A head's attention weights are, by definition, the ones the backward pass computes again from the same blocks; the forward
  pass multiplies them with the values. Nothing here needs a finite value: the kernel and the reference form the same scores,
  take the same maximum, exponentials, sum and quotient, and only their arrays are laid out differently.
-/
module

public import proofs.«01_k».proof.Proof.Xattn.Tiles
public import proofs.«01_k».proof.Proof.Product.Math
public import proofs.«01_k».proof.Proof.Gen.XattnFwdIdeal.Value

@[expose] public section

set_option backward.isDefEq.respectTransparency.types false
set_option backward.isDefEq.respectTransparency false

noncomputable section

namespace Cert.XattnFwd.Blocks

open Idealize.ShloMosaic Idealize.ShloMosaic.TcCoe Idealize.SL.Sem Idealize.ShloMosaic.ValueIdx
open Cert.XattnFwdIdeal Cert.XattnFwdIdeal.Gen Cert.Product Finset
open Cert.Xattn.Math (headOf)

/-- The largest of a row's 256 scores. -/
def top (s : ℕ → EReal) : EReal := Finset.univ.fold max (Ideal.ofBits .f32 0xFF800000#32) fun n : Fin 256 => s n.val

/-- The exponential of a score less the row's largest. -/
def power (s : ℕ → EReal) (n : ℕ) : EReal := Ideal.exp (s n - top s)

/-- A row's weights: its exponentials over their sum. -/
def soft (s : ℕ → EReal) (n : ℕ) : EReal := Ideal.div (power s n) (∑ a ∈ range 256, power s a)

/-- The score of query row `i` at memory row `n`, in the head whose channels start at `o`. -/
def score (Q KV : ℕ → ℕ → EReal) (o i n : ℕ) : EReal :=
  entry 256 (fun k => Q i (o + k)) (fun k => KV n (o + k)) * Ideal.ofBits .f32 0x3D800000#32

/-- The attention's output: the values weighted by the attention weights of the head that owns channel `j`. -/
def out (Q KV : ℕ → ℕ → EReal) (i j : ℕ) : EReal :=
  entry 256 (soft (score Q KV (headOf j) i)) (fun n => KV n (1024 + j))

/-- A row's maximum. -/
theorem row_top (v : FVec Ideal S1024x256 .f32) (s : ℕ → EReal) (i : Fin 1024) (h : ∀ n : Fin 256, v (ValueIdx.ix2 i n) = s n.val) :
    multiReduction .maximumf [1] S1024 v 0xFF800000#32 Cert.XattnIdeal.Gen.reduces_S1024x256_S1024 (.inl rfl) rfl (ValueIdx.ix1 i) = top s := by
  rw [Ideal.multiReduction_maximumf_single]
  refine congrArg (Finset.fold max (Ideal.ofBits .f32 0xFF800000#32) · Finset.univ) (funext fun n => ?_)
  refine Eq.trans (congrArg v (funext fun a => ?_)) (h n)
  match a with
  | ⟨0, _⟩ => rfl
  | ⟨1, _⟩ => rfl

/-- A row's sum. -/
theorem row_total (v : FVec Ideal S1024x256 .f32) (f : ℕ → EReal) (i : Fin 1024) (h : ∀ n : Fin 256, v (ValueIdx.ix2 i n) = f n.val) :
    multiReduction .add [1] S1024 v 0x00000000#32 Cert.XattnIdeal.Gen.reduces_S1024x256_S1024 (.inl rfl) rfl (ValueIdx.ix1 i)
      = ∑ n ∈ range 256, f n := by
  rw [Ideal.multiReduction_add_single, Finset.sum_range]
  refine sum_congr rfl fun n _ => ?_
  refine Eq.trans (congrArg v (funext fun a => ?_)) (h n)
  match a with
  | ⟨0, _⟩ => rfl
  | ⟨1, _⟩ => rfl

/-- The attention weights of a block's rows, from the scores. -/
theorem weights_apply (s : FVec Ideal S1024x256 .f32) (S : ℕ → ℕ → EReal) (hs : ∀ j, s j = S (j 0).val (j 1).val) (j : S1024x256.Idx) :
    Cert.XattnIdeal.Gen.k0_pay20 (F := Ideal) s j = soft (S (j 0).val) (j 1).val := by
  let E : FVec Ideal S1024x256 .f32 := exp (subf s (broadcastTo S1024x256 (shapeCast S1024x1
      (multiReduction .maximumf [1] S1024 s 0xFF800000#32 Cert.XattnIdeal.Gen.reduces_S1024x256_S1024 (.inl rfl) rfl)
      Cert.XattnIdeal.Gen.shapeCasts_S1024_S1024x1) Cert.XattnIdeal.Gen.broadcasts_S1024x1_S1024x256))
  have he : ∀ n : Fin 256, E (ValueIdx.ix2 (j 0) n) = power (S (j 0).val) n.val := by
    intro n
    change Ideal.exp (s (ValueIdx.ix2 (j 0) n) - broadcastTo S1024x256 (shapeCast S1024x1
      (multiReduction .maximumf [1] S1024 s 0xFF800000#32 Cert.XattnIdeal.Gen.reduces_S1024x256_S1024 (.inl rfl) rfl)
      Cert.XattnIdeal.Gen.shapeCasts_S1024_S1024x1) Cert.XattnIdeal.Gen.broadcasts_S1024x1_S1024x256 (ValueIdx.ix2 (j 0) n)) = _
    rw [Cert.Xattn.Head.spread_apply, show s (ValueIdx.ix2 (j 0) n) = S (j 0).val n.val from hs _]
    have h := congrArg (fun x : EReal => Ideal.exp (S (j 0).val n.val - x)) (row_top s (S (j 0).val) (j 0) fun n => hs _)
    exact h
  change Ideal.div (E j) (broadcastTo S1024x256 (shapeCast S1024x1 (multiReduction .add [1] S1024 E 0x00000000#32
      Cert.XattnIdeal.Gen.reduces_S1024x256_S1024 (.inl rfl) rfl) Cert.XattnIdeal.Gen.shapeCasts_S1024_S1024x1)
      Cert.XattnIdeal.Gen.broadcasts_S1024x1_S1024x256 j) = _
  rw [Cert.Xattn.Head.spread_apply, row_total E (power (S (j 0).val)) (j 0) he,
    show E j = _ from (congrArg E (ValueIdx.eq_ix2 j)).trans (he (j 1))]
  rfl

/-- The scaled scores of a block's rows. -/
theorem scores_apply (q : FVec Ideal S1024x256 .bf16) (k : FVec Ideal S256x256 .bf16) (Q KV : ℕ → ℕ → EReal) (a o : ℕ)
    (hq : ∀ j, q j = Q (a + (j 0).val) (o + (j 1).val)) (hk : ∀ j, k j = KV (j 0).val (o + (j 1).val)) (j : S1024x256.Idx) :
    Cert.XattnIdeal.Gen.k0_pay19 (F := Ideal) q k j = score Q KV o (a + (j 0).val) (j 1).val := by
  unfold Cert.XattnIdeal.Gen.k0_pay19
  rw [mulf_apply, broadcast_apply]
  exact congrArg (fun x : EReal => x * Ideal.ofBits .f32 0x3D800000#32)
    (block_entry Cert.XattnIdeal.dot_S1024x256_S256x256_S1024x256_1_1_0_0_n_n 256 rfl rfl q k j (fun c => Q (a + (j 0).val) (o + c))
      (fun c => KV (j 1).val (o + c)) (fun c => hq _) (fun c => hk _))

/-- One head: its weights are the backward pass's, and its block is their product with the values. -/
theorem head_eq (q : FVec Ideal S1024x256 .bf16) (k v : FVec Ideal S256x256 .bf16) :
    k0_pay7 (F := Ideal) (k0_pay3 q k v)
      = matmul (F := Ideal) dot_S1024x256_S256x256_S1024x256_1_0_0_1_n_n none
          (truncf .bf16 (Cert.XattnIdeal.Gen.k0_pay20 (F := Ideal) (Cert.XattnIdeal.Gen.k0_pay19 (F := Ideal) q k)) bitsLt_bf16_f32) v
          (constant S1024x256 .f32 0x00000000#32) := rfl

variable (m : (ℓ : Loc nD τ sig) → Buf (Elt Ideal) ℓ) (c : Dev nD) (Q KV : ℕ → ℕ → EReal)

/-- The two arguments by row and column: the queries `Q`, and the keys beside the values `KV`. -/
structure Holds : Prop where
  q : ∀ i : S2048x1024.Idx, m ((c : Thread nD τ).loc main_arg0) i = Q (i 0).val (i 1).val
  kv : ∀ i : S256x2048.Idx, m ((c : Thread nD τ).loc main_arg1) i = KV (i 0).val (i 1).val

/-- Where the blocks of a point lie: 1024 rows of queries and of the output, the keys and values whole. -/
theorem idx : ∀ t : Fin cfg0.N, win0_0.index t = ![t.val, 0] ∧ win0_1.index t = ![0, 0] ∧ win0_2.index t = ![t.val, 0] :=
  (by decide +kernel : ∀ t : Fin grid0.N, _)

variable {m c Q KV} (H : Holds m c Q KV)
include H

section Loads

variable (t : Fin cfg0.N) (o : ℕ)

theorem ld_q (inb) (j : S1024x256.Idx) : View.ld (iblk m c 0 t) (Rect.unit (s := S1024x1024) ![0, o] ![1024, 256] inb) j
    = Q (1024 * t.val + (j 0).val) (o + (j 1).val) := by
  have h1 : o + 256 ≤ 1024 := inb 1
  have hj : (j 1).val < 256 := (j 1).isLt
  refine (View.ld_unit_apply_of _ _ _ _ j (ValueIdx.ix2 (j 0) ⟨o + (j 1).val, by omega⟩) fun a => ?_).trans
    ((H.q _).trans (congrArg₂ Q (place (congrFun (idx t).1 0)) (start (congrFun (idx t).1 1))))
  match a with
  | ⟨0, _⟩ => show (j 0).val = 0 + (j 0).val; omega
  | ⟨1, _⟩ => rfl

theorem ld_kv (inb) (j : S256x256.Idx) : View.ld (iblk m c 1 t) (Rect.unit (s := S256x2048) ![0, o] ![256, 256] inb) j
    = KV (j 0).val (o + (j 1).val) := by
  have h1 : o + 256 ≤ 2048 := inb 1
  have hj : (j 1).val < 256 := (j 1).isLt
  refine (View.ld_unit_apply_of _ _ _ _ j (ValueIdx.ix2 (j 0) ⟨o + (j 1).val, by omega⟩) fun a => ?_).trans
    ((H.kv _).trans (congrArg₂ KV (start (congrFun (idx t).2.1 0)) (start (congrFun (idx t).2.1 1))))
  match a with
  | ⟨0, _⟩ => show (j 0).val = 0 + (j 0).val; omega
  | ⟨1, _⟩ => rfl

/-- The head at channels `o …`: its tile of the output, stored at those channels. -/
theorem tile (inbq inbk inbv) (ho : o % 256 = 0) (y : S1024x1024.Idx) :
    View.TileAt (Val := Elt Ideal) (e := .bf16) y ![0, o] ![1024, 256]
      (k0_pay7 (F := Ideal) (k0_pay3 (View.ld (iblk m c 0 t) (Rect.unit (s := S1024x1024) ![0, o] ![1024, 256] inbq))
        (View.ld (iblk m c 1 t) (Rect.unit (s := S256x2048) ![0, o] ![256, 256] inbk))
        (View.ld (iblk m c 1 t) (Rect.unit (s := S256x2048) ![0, 1024 + o] ![256, 256] inbv))))
      (out Q KV (1024 * t.val + (y 0).val) (y 1).val) := by
  intro j hj
  have e0 : (y 0).val = (j 0).val := (hj 0).trans (by show 0 + _ = _; omega)
  have e1 : (y 1).val = o + (j 1).val := hj 1
  rw [e0, e1, head_eq, out, Cert.Xattn.Tiles.headOf_add o _ ho (j 1).isLt]
  exact block_entry dot_S1024x256_S256x256_S1024x256_1_0_0_1_n_n 256 rfl rfl _ _ j (soft (score Q KV o (1024 * t.val + (j 0).val)))
    (fun n => KV n (1024 + (o + (j 1).val)))
    (fun n => weights_apply _ (fun i => score Q KV o (1024 * t.val + i))
      (scores_apply _ _ Q KV (1024 * t.val) o (ld_q H t o inbq) (ld_kv H t o inbk)) _)
    (fun n => (ld_kv H t (1024 + o) inbv _).trans (congrArg (KV _) (Nat.add_assoc _ _ _)))

end Loads

/-- The output's array after the run. -/
theorem arr : (dats m 0 c).arrAt 2 cfg0.N = fun i : S2048x1024.Idx => out Q KV (i 0).val (i 1).val := by
  refine (dats m 0 c).arrAt_eq_of_covers 2 (fun i : S2048x1024.Idx => out Q KV (i 0).val (i 1).val)
    (by decide +kernel) fun t hf y => ?_
  show (dats m 0 c).after 2 t y = _
  rw [after0_2]
  refine Eq.trans (b := (out Q KV (1024 * t.val + (y 0).val) (y 1).val)) ?_
    (congrArg₂ (out Q KV) (place (congrFun (idx t).2.2 0)).symm (start (congrFun (idx t).2.2 1)).symm)
  unfold out0_2
  refine View.canon_eq_of_allAt _ y _ (cover0_2 _ _ _ _ y) ?_
  refine View.allAt_cons_unit _ _ _ _ _ (tile H t 768 _ _ _ (by decide) y) ?_
  refine View.allAt_cons_unit _ _ _ _ _ (tile H t 512 _ _ _ (by decide) y) ?_
  refine View.allAt_cons_unit _ _ _ _ _ (tile H t 256 _ _ _ (by decide) y) ?_
  exact View.allAt_cons_unit _ _ _ _ _ (tile H t 0 _ _ _ (by decide) y) (View.allAt_nil _ _)

end Cert.XattnFwd.Blocks

end
-- ==== Proof.XattnFwd.Ref.lean ====
/-
  What the reference of the memory cross-attention's forward pass computes (hand-written, untrusted).

  Its arrays are kept head by head; its maximum of a row's largest score with minus infinity is that score.
-/
module

public import proofs.«01_k».proof.Proof.XattnFwd.Blocks
public import proofs.«01_k».proof.Proof.Gen.XattnFwdRefIdeal.Read
public import Idealize.ShloMosaic.Lib.KernelVsHost

@[expose] public section

set_option backward.isDefEq.respectTransparency.types false
set_option backward.isDefEq.respectTransparency false

noncomputable section

namespace Cert.XattnFwd.Ref

open Idealize.ShloMosaic Idealize.ShloMosaic.TcCoe Idealize.SL.Sem Idealize.ShloMosaic.ValueIdx
open Cert.XattnFwdRefIdeal Cert.XattnFwdRefIdeal.Read Cert.XattnFwd.Blocks Cert.Product Finset
open Cert.Xattn.Math (headOf)

variable (x0 : FVec Ideal S2048x1024 .bf16) (x1 : FVec Ideal S256x2048 .bf16) (Q KV : ℕ → ℕ → EReal)
  (h0 : ∀ i, x0 i = Q (i 0).val (i 1).val) (h1 : ∀ i, x1 i = KV (i 0).val (i 1).val)

include h0 in
/-- The queries, head by head. -/
theorem v2_eq (i : S2048x4x256.Idx) : val_main_v2 (F := Ideal) x0 i = Q (i 0).val (256 * (i 1).val + (i 2).val) := by
  have a1 : (i 1).val < 4 := (i 1).isLt
  have a2 : (i 2).val < 256 := (i 2).isLt
  rw [val_main_v2_apply]
  refine (h0 _).trans (congrArg₂ Q ?_ ?_)
  · show (((i 0).val * 4 + (i 1).val) * 256 + (i 2).val) / 1024 = _; omega
  · show (((i 0).val * 4 + (i 1).val) * 256 + (i 2).val) % 1024 = _; omega

include h1

/-- The keys (at 0) and the values (at 1), head by head. -/
theorem v3_eq (i : S256x2x4x256.Idx) : val_main_v3 (F := Ideal) x1 i = KV (i 0).val (1024 * (i 1).val + 256 * (i 2).val + (i 3).val) := by
  have a1 : (i 1).val < 2 := (i 1).isLt
  have a2 : (i 2).val < 4 := (i 2).isLt
  have a3 : (i 3).val < 256 := (i 3).isLt
  rw [val_main_v3_apply]
  refine (h1 _).trans (congrArg₂ KV ?_ ?_)
  · show ((((i 0).val * 2 + (i 1).val) * 4 + (i 2).val) * 256 + (i 3).val) / 2048 = _; omega
  · show ((((i 0).val * 2 + (i 1).val) * 4 + (i 2).val) * 256 + (i 3).val) % 2048 = _; omega

theorem v5_eq (i : S256x4x256.Idx) : val_main_v5 (F := Ideal) x1 i = KV (i 0).val (256 * (i 1).val + (i 2).val) := by
  have a1 : (i 1).val < 4 := (i 1).isLt
  have a2 : (i 2).val < 256 := (i 2).isLt
  rw [val_main_v5_apply, val_main_v4_apply]
  refine (v3_eq x1 KV h1 _).trans (congrArg₂ KV ?_ ?_)
  · show (((i 0).val * 4 + (i 1).val) * 256 + (i 2).val) / 1024 = _; omega
  · show 1024 * 0 + 256 * ((((i 0).val * 4 + (i 1).val) * 256 + (i 2).val) / 256 % 4) + (((i 0).val * 4 + (i 1).val) * 256 + (i 2).val) % 256 = _; omega

theorem v7_eq (i : S256x4x256.Idx) : val_main_v7 (F := Ideal) x1 i = KV (i 0).val (1024 + 256 * (i 1).val + (i 2).val) := by
  have a1 : (i 1).val < 4 := (i 1).isLt
  have a2 : (i 2).val < 256 := (i 2).isLt
  rw [val_main_v7_apply, val_main_v6_apply]
  refine (v3_eq x1 KV h1 _).trans (congrArg₂ KV ?_ ?_)
  · show (((i 0).val * 4 + (i 1).val) * 256 + (i 2).val) / 1024 = _; omega
  · show 1024 * (1 + 0) + 256 * ((((i 0).val * 4 + (i 1).val) * 256 + (i 2).val) / 256 % 4) + (((i 0).val * 4 + (i 1).val) * 256 + (i 2).val) % 256 = _; omega

include h0

/-- The scaled scores. -/
theorem v10_eq (i : S4x2048x256.Idx) : val_main_v10 (F := Ideal) x0 x1 i = score Q KV (256 * (i 0).val) (i 1).val (i 2).val := by
  rw [val_main_v10_apply, val_main_v8_apply, val_main_v9_apply, val_main_cst_apply]
  exact congrArg (fun x : EReal => x * Ideal.ofBits .f32 0x3D800000#32)
    (fin_entry _ _ (fun k => Q (i 1).val (256 * (i 0).val + k)) (fun k => KV (i 2).val (256 * (i 0).val + k))
      (fun k => v2_eq x0 Q h0 _) (fun k => v5_eq x1 KV h1 _))

/-- A row's largest score. -/
theorem v11_eq (i : S4x2048.Idx) : val_main_v11 (F := Ideal) x0 x1 i = top (score Q KV (256 * (i 0).val) (i 1).val) := by
  unfold val_main_v11
  rw [Host.reduce_eq_fold_single FloatOps.maximumf _ _ Gen.reducesTo_S4x2048x256_S4x2048_d2 (by decide) Gen.h_S_]
  exact congrArg (Finset.fold max (Ideal.ofBits .f32 0xFF800000#32) · Finset.univ) (funext fun n => v10_eq x0 x1 Q KV h0 h1 _)

/-- The exponentials. -/
theorem v17_eq (i : S4x2048x256.Idx) : val_main_v17 (F := Ideal) x0 x1 i = power (score Q KV (256 * (i 0).val) (i 1).val) (i 2).val := by
  rw [val_main_v17_apply, val_main_v16_apply, val_main_v15_apply, val_main_v14_apply, val_main_v13_apply, val_main_v12_apply,
    val_main_cst_1_apply, v10_eq x0 x1 Q KV h0 h1, v11_eq x0 x1 Q KV h0 h1]
  have hb : ∀ M : EReal, max (Ideal.ofBits .f32 0xFF800000#32) M = M := fun M => by
    rw [Cert.Reals.ofBits_neg_inf]; exact max_eq_right bot_le
  exact congrArg (fun x : EReal => Ideal.exp (score Q KV (256 * (i 0).val) (i 1).val (i 2).val - x)) (hb _)

/-- The weights. -/
theorem v21_eq (i : S4x2048x256.Idx) : val_main_v21 (F := Ideal) x0 x1 i = soft (score Q KV (256 * (i 0).val) (i 1).val) (i 2).val := by
  rw [val_main_v21_apply, val_main_v20_apply, val_main_v19_apply, val_main_v18_apply, val_main_cst_2_apply,
    v17_eq x0 x1 Q KV h0 h1]
  refine congrArg (Ideal.div (power (score Q KV (256 * (i 0).val) (i 1).val) (i 2).val)) ?_
  change Ideal.ofBits .f32 0x00000000#32 + _ = _
  rw [Ideal.ofBits_zero_f32, zero_add, Finset.sum_range]
  exact sum_congr rfl fun n _ => v17_eq x0 x1 Q KV h0 h1 _

/-- The reference's result. -/
theorem v25_eq (i : S2048x1024.Idx) : val_main_v25 (F := Ideal) x0 x1 i = out Q KV (i 0).val (i 1).val := by
  have a0 : (i 0).val < 2048 := (i 0).isLt
  have a1 : (i 1).val < 1024 := (i 1).isLt
  rw [val_main_v25_apply]
  change val_main_v24 (F := Ideal) x0 x1 i = _
  rw [val_main_v24_apply, val_main_v23_apply, val_main_v22_apply, out, entry_comm]
  refine fin_entry _ _ _ _ (fun n => (v7_eq x1 KV h1 _).trans (congrArg (KV n.val) ?_)) (fun n => (v21_eq x0 x1 Q KV h0 h1 _).trans ?_)
  · show 1024 + 256 * (((i 0).val * 1024 + (i 1).val) / 256 % 4) + ((i 0).val * 1024 + (i 1).val) % 256 = 1024 + (i 1).val
    omega
  · have e0 : 256 * (((i 0).val * 1024 + (i 1).val) / 256 % 4) = headOf (i 1).val := by
      show _ = (i 1).val / 256 * 256
      omega
    have e1 : ((i 0).val * 1024 + (i 1).val) / 1024 = (i 0).val := by omega
    show soft (score Q KV (256 * (((i 0).val * 1024 + (i 1).val) / 256 % 4)) (((i 0).val * 1024 + (i 1).val) / 1024)) n.val = _
    rw [e0, e1]

end Cert.XattnFwd.Ref

end
-- ==== Proof.XattnFwd.Claim.lean ====
/-
  The memory cross-attention's forward pass: its kernel and its reference leave the same array, and the reference's frame
  (hand-written, untrusted).
-/
module

public import proofs.«01_k».proof.Defs
public import proofs.«01_k».proof.Proof.XattnFwd.Ref
public import proofs.«01_k».proof.Proof.Gen.XattnFwdRefIdeal.Run

@[expose] public section

set_option backward.isDefEq.respectTransparency.types false
set_option backward.isDefEq.respectTransparency false

noncomputable section

namespace Cert.XattnFwd.Result

open Idealize.ShloMosaic Idealize.ShloMosaic.TcCoe Idealize.SL.Sem
open Cert.XattnFwdRefIdeal.Read Cert.XattnFwd.Blocks

/-- The reference's run ends with its arguments as they were; it declares no semaphore, so every counter is zero. -/
theorem frame_ref : Cert.quiescent_XattnFwdRefIdeal := fun m g _ =>
  (θ_run Cert.XattnFwdRefIdeal.defs _ _).mono
    (fun r h => ⟨fun c => (h c).2, sem_eq_zero_of_no_sems (by decide) r.2⟩) (Cert.XattnFwdRefIdeal.Value.run m g)

/-- The kernel and the reference leave the same output. -/
theorem algebraic : Cert.algebraic_XattnFwdIdeal_XattnFwdRefIdeal := by
  intro m g m' g' _ hagree
  refine ⟨fun c => (Cert.XattnFwdIdeal.Gen.dats m 0 c).arrAt 2 Cert.XattnFwdIdeal.cfg0.N, Cert.XattnFwdIdeal.Value.run_blocks m g,
    (θ_run Cert.XattnFwdRefIdeal.defs _ _).mono (fun r h c => ?_) (Cert.XattnFwdRefIdeal.Value.run m' g')⟩
  obtain ⟨Q, hQ⟩ := Cert.Product.of_matrix (m ((c : Thread Cert.XattnFwdIdeal.nD Cert.XattnFwdIdeal.τ).loc Cert.XattnFwdIdeal.main_arg0))
  obtain ⟨KV, hKV⟩ := Cert.Product.of_matrix (m ((c : Thread Cert.XattnFwdIdeal.nD Cert.XattnFwdIdeal.τ).loc Cert.XattnFwdIdeal.main_arg1))
  have H : Holds m c Q KV := ⟨hQ, hKV⟩
  refine ⟨(h c).1.trans ?_, (h c).2⟩
  rw [val_main_v25_eq, (hagree c).1, (hagree c).2]
  exact (funext fun i => Cert.XattnFwd.Ref.v25_eq _ _ Q KV H.q H.kv i).trans (arr H).symm

end Cert.XattnFwd.Result

end
-- ==== Proof.Adam.Math.lean ====
/-
  The optimiser's step at one entry of a weight (hand-written, untrusted). It is written once here, over the extended real
  numbers, and both programs' entries are read as it; the factors are the binary values the programs' constants hold.
-/
module

public import proofs.«01_k».proof.Proof.Product.Math

@[expose] public section

set_option backward.isDefEq.respectTransparency.types false
set_option backward.isDefEq.respectTransparency false

noncomputable section

namespace Cert.Adam

open Idealize.ShloMosaic

/-- The running mean of the gradient: nine tenths of what it was and one tenth of the gradient. -/
def mean (g m : Ideal .f32) : Ideal .f32 :=
  FloatOps.addf (FloatOps.mulf (Scalar.ofBits .f32 0x3F666666#32) m) (FloatOps.mulf (Scalar.ofBits .f32 0x3DCCCCCD#32) g)

/-- The running mean of the gradient's square. -/
def square (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight: the corrected mean over the root of the corrected mean square, with the weight's own decay. -/
def change (p g m v : Ideal .f32) : Ideal .f32 :=
  FloatOps.mulf (Scalar.ofBits .f32 0xBA83126F#32)
    (FloatOps.addf
      (FloatOps.divf (FloatOps.divf (mean g m) (Scalar.ofBits .f32 0x3F26BD02#32))
        (FloatOps.addf (FloatOps.sqrt (FloatOps.divf (square g v) (Scalar.ofBits .f32 0x3C231ACC#32)))
          (Scalar.ofBits .f32 0x322BCC77#32)))
      (FloatOps.mulf (Scalar.ofBits .f32 0x3C23D70A#32) p))

/-! ## A block of the kernel's values, entry by entry -/

variable {s : Shape} (h : s.ShapeCasts s) (p g m v : FVec Ideal s .f32) (j : s.Idx)

theorem mean_block : addf (mulf (broadcast s (Scalar.ofBits .f32 0x3F666666#32)) (shapeCast s m h))
    (mulf (broadcast s (Scalar.ofBits .f32 0x3DCCCCCD#32)) (shapeCast s g h)) j = mean (g j) (m j) := by
  rw [shapeCast_self, shapeCast_self]
  rfl

theorem square_block : addf (mulf (broadcast s (Scalar.ofBits .f32 0x3F7FBE77#32)) (shapeCast s v h))
    (mulf (broadcast s (Scalar.ofBits .f32 0x3A83126F#32)) (mulf (shapeCast s g h) (shapeCast s g h))) j
      = square (g j) (v j) := by
  rw [shapeCast_self, shapeCast_self]
  rfl

/-- The change, from blocks `a` of the running mean and `b` of the running mean square. -/
theorem change_block (a b : FVec Ideal s .f32) (ha : a j = mean (g j) (m j)) (hb : b j = square (g j) (v j)) :
    mulf (broadcast s (Scalar.ofBits .f32 0xBA83126F#32))
      (addf
        (divf (divf a (broadcast s (Scalar.ofBits .f32 0x3F26BD02#32)))
          (addf (sqrt (divf b (broadcast s (Scalar.ofBits .f32 0x3C231ACC#32)))) (broadcast s (Scalar.ofBits .f32 0x322BCC77#32))))
        (mulf (broadcast s (Scalar.ofBits .f32 0x3C23D70A#32)) (shapeCast s p h))) j
      = change (p j) (g j) (m j) (v j) := by
  rw [shapeCast_self]
  unfold change
  rw [← ha, ← hb]
  rfl

end Cert.Adam

end
-- ==== Proof.Adam.InAb.lean ====
/-
  The optimiser's step of the pooling blocks' input projection (hand-written, untrusted). The weight, its gradient and
  the two running means are staged in the same blocks of 256 rows, and a point writes the same block of each of the
  results.
-/
module

public import proofs.«01_k».proof.Defs
public import proofs.«01_k».proof.Proof.Adam.Math
public import proofs.«01_k».proof.Proof.Gen.AdamInAbIdeal.Value
public import proofs.«01_k».proof.Proof.Gen.AdamInAbRefIdeal.Run
public import proofs.«01_k».proof.Proof.Gen.AdamInAbRefIdeal.Read

@[expose] public section

set_option backward.isDefEq.respectTransparency.types false
set_option backward.isDefEq.respectTransparency false

noncomputable section

namespace Cert.Adam.InAb

open Idealize.ShloMosaic Idealize.ShloMosaic.TcCoe Idealize.SL.Sem Idealize.ShloMosaic.ValueIdx Cert.Product
open Cert.AdamInAbIdeal Cert.AdamInAbIdeal.Gen

variable (m : (ℓ : Loc nD τ sig) → Buf (Elt Ideal) ℓ) (c : Dev nD)

/-- The host lays the two layers' rows one under the other. -/
theorem laid : V m c main_v0 = shapeCast S2048x1536 (m ((c : Thread nD τ).loc main_arg0)) shapeCasts_S2x1024x1536_S2048x1536
    ∧ V m c main_v1 = shapeCast S2048x1536 (m ((c : Thread nD τ).loc main_arg1)) shapeCasts_S2x1024x1536_S2048x1536
    ∧ V m c main_v2 = shapeCast S2048x1536 (m ((c : Thread nD τ).loc main_arg2)) shapeCasts_S2x1024x1536_S2048x1536
    ∧ V m c main_v3 = shapeCast S2048x1536 (m ((c : Thread nD τ).loc main_arg3)) shapeCasts_S2x1024x1536_S2048x1536 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S2048x1536.Idx => change (V m c main_v0 i) (V m c main_v1 i) (V m c main_v2 i) (V m c main_v3 i) := by
  refine (dats m 0 c).arrAt_eq_of_covers 5
    (fun i : S2048x1536.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S2048x1536.Idx => mean (V m c main_v1 i) (V m c main_v2 i) := by
  refine (dats m 0 c).arrAt_eq_of_covers 6 (fun i : S2048x1536.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S2048x1536.Idx => square (V m c main_v1 i) (V m c main_v3 i) := by
  refine (dats m 0 c).arrAt_eq_of_covers 7 (fun i : S2048x1536.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamInAbRefIdeal := fun m g _ =>
  (θ_run Cert.AdamInAbRefIdeal.defs _ _).mono
    (fun r h => ⟨fun c => (h c).2.2.2.2, sem_eq_zero_of_no_sems (by decide) r.2⟩) (Cert.AdamInAbRefIdeal.Value.run m g)

/-- The kernel and the reference leave the same gradient, change and running means. -/
theorem algebraic : Cert.algebraic_AdamInAbIdeal_AdamInAbRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamInAbRefIdeal.defs _ _).mono (fun r h c => ?_) (Cert.AdamInAbRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamInAbRefIdeal.Read.val_main_v24_eq, g1, h1]
    rfl
  · refine Eq.trans ?_ (arr5 m c).symm
    rw [Cert.AdamInAbRefIdeal.Read.val_main_v25_eq, g0, g1, g2, g3, h0, h1, h2, h3]
    rfl
  · refine Eq.trans ?_ (arr6 m c).symm
    rw [Cert.AdamInAbRefIdeal.Read.val_main_v26_eq, g1, g2, h1, h2]
    rfl
  · refine Eq.trans ?_ (arr7 m c).symm
    rw [Cert.AdamInAbRefIdeal.Read.val_main_v27_eq, g1, g3, h1, h3]
    rfl

end Cert.Adam.InAb

end
-- ==== Proof.Adam.InCd.lean ====
/-
  The optimiser's step of the gated blocks' input projection (hand-written, untrusted). The weight, its gradient and
  the two running means are staged in the same blocks of 512 rows, and a point writes the same block of each of the
  results.
-/
module

public import proofs.«01_k».proof.Defs
public import proofs.«01_k».proof.Proof.Adam.Math
public import proofs.«01_k».proof.Proof.Gen.AdamInCdIdeal.Value
public import proofs.«01_k».proof.Proof.Gen.AdamInCdRefIdeal.Run
public import proofs.«01_k».proof.Proof.Gen.AdamInCdRefIdeal.Read

@[expose] public section

set_option backward.isDefEq.respectTransparency.types false
set_option backward.isDefEq.respectTransparency false

noncomputable section

namespace Cert.Adam.InCd

open Idealize.ShloMosaic Idealize.ShloMosaic.TcCoe Idealize.SL.Sem Idealize.ShloMosaic.ValueIdx Cert.Product
open Cert.AdamInCdIdeal Cert.AdamInCdIdeal.Gen

variable (m : (ℓ : Loc nD τ sig) → Buf (Elt Ideal) ℓ) (c : Dev nD)

/-- The host lays the two layers' rows one under the other. -/
theorem laid : V m c main_v0 = shapeCast S2048x1024 (m ((c : Thread nD τ).loc main_arg0)) shapeCasts_S2x1024x1024_S2048x1024
    ∧ V m c main_v1 = shapeCast S2048x1024 (m ((c : Thread nD τ).loc main_arg1)) shapeCasts_S2x1024x1024_S2048x1024
    ∧ V m c main_v2 = shapeCast S2048x1024 (m ((c : Thread nD τ).loc main_arg2)) shapeCasts_S2x1024x1024_S2048x1024
    ∧ V m c main_v3 = shapeCast S2048x1024 (m ((c : Thread nD τ).loc main_arg3)) shapeCasts_S2x1024x1024_S2048x1024 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S2048x1024.Idx => change (V m c main_v0 i) (V m c main_v1 i) (V m c main_v2 i) (V m c main_v3 i) := by
  refine (dats m 0 c).arrAt_eq_of_covers 5
    (fun i : S2048x1024.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S2048x1024.Idx => mean (V m c main_v1 i) (V m c main_v2 i) := by
  refine (dats m 0 c).arrAt_eq_of_covers 6 (fun i : S2048x1024.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S2048x1024.Idx => square (V m c main_v1 i) (V m c main_v3 i) := by
  refine (dats m 0 c).arrAt_eq_of_covers 7 (fun i : S2048x1024.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamInCdRefIdeal := fun m g _ =>
  (θ_run Cert.AdamInCdRefIdeal.defs _ _).mono
    (fun r h => ⟨fun c => (h c).2.2.2.2, sem_eq_zero_of_no_sems (by decide) r.2⟩) (Cert.AdamInCdRefIdeal.Value.run m g)

/-- The kernel and the reference leave the same gradient, change and running means. -/
theorem algebraic : Cert.algebraic_AdamInCdIdeal_AdamInCdRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamInCdRefIdeal.defs _ _).mono (fun r h c => ?_) (Cert.AdamInCdRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamInCdRefIdeal.Read.val_main_v24_eq, g1, h1]
    rfl
  · refine Eq.trans ?_ (arr5 m c).symm
    rw [Cert.AdamInCdRefIdeal.Read.val_main_v25_eq, g0, g1, g2, g3, h0, h1, h2, h3]
    rfl
  · refine Eq.trans ?_ (arr6 m c).symm
    rw [Cert.AdamInCdRefIdeal.Read.val_main_v26_eq, g1, g2, h1, h2]
    rfl
  · refine Eq.trans ?_ (arr7 m c).symm
    rw [Cert.AdamInCdRefIdeal.Read.val_main_v27_eq, g1, g3, h1, h3]
    rfl

end Cert.Adam.InCd

end
-- ==== Proof.Adam.OutAb.lean ====
/-
  The optimiser's step of the pooling blocks' output projection (hand-written, untrusted). The weight, its gradient and the
  two running means are staged in the same blocks of 512 rows, and a point writes the same block of each of the results.
-/
module

public import proofs.«01_k».proof.Defs
public import proofs.«01_k».proof.Proof.Adam.Math
public import proofs.«01_k».proof.Proof.Gen.AdamOutAbIdeal.Value
public import proofs.«01_k».proof.Proof.Gen.AdamOutAbRefIdeal.Run
public import proofs.«01_k».proof.Proof.Gen.AdamOutAbRefIdeal.Read

@[expose] public section

set_option backward.isDefEq.respectTransparency.types false
set_option backward.isDefEq.respectTransparency false

noncomputable section

namespace Cert.Adam.OutAb

open Idealize.ShloMosaic Idealize.ShloMosaic.TcCoe Idealize.SL.Sem Idealize.ShloMosaic.ValueIdx Cert.Product
open Cert.AdamOutAbIdeal Cert.AdamOutAbIdeal.Gen

variable (m : (ℓ : Loc nD τ sig) → Buf (Elt Ideal) ℓ) (c : Dev nD)

/-- The host lays the two layers' rows one under the other. -/
theorem laid : V m c main_v0 = shapeCast S1024x1024 (m ((c : Thread nD τ).loc main_arg0)) shapeCasts_S2x512x1024_S1024x1024
    ∧ V m c main_v1 = shapeCast S1024x1024 (m ((c : Thread nD τ).loc main_arg1)) shapeCasts_S2x512x1024_S1024x1024
    ∧ V m c main_v2 = shapeCast S1024x1024 (m ((c : Thread nD τ).loc main_arg2)) shapeCasts_S2x512x1024_S1024x1024
    ∧ V m c main_v3 = shapeCast S1024x1024 (m ((c : Thread nD τ).loc main_arg3)) shapeCasts_S2x512x1024_S1024x1024 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S1024x1024.Idx => change (V m c main_v0 i) (V m c main_v1 i) (V m c main_v2 i) (V m c main_v3 i) := by
  refine (dats m 0 c).arrAt_eq_of_covers 5
    (fun i : S1024x1024.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S1024x1024.Idx => mean (V m c main_v1 i) (V m c main_v2 i) := by
  refine (dats m 0 c).arrAt_eq_of_covers 6 (fun i : S1024x1024.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S1024x1024.Idx => square (V m c main_v1 i) (V m c main_v3 i) := by
  refine (dats m 0 c).arrAt_eq_of_covers 7 (fun i : S1024x1024.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamOutAbRefIdeal := fun m g _ =>
  (θ_run Cert.AdamOutAbRefIdeal.defs _ _).mono
    (fun r h => ⟨fun c => (h c).2.2.2.2, sem_eq_zero_of_no_sems (by decide) r.2⟩) (Cert.AdamOutAbRefIdeal.Value.run m g)

/-- The kernel and the reference leave the same gradient, change and running means. -/
theorem algebraic : Cert.algebraic_AdamOutAbIdeal_AdamOutAbRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamOutAbRefIdeal.defs _ _).mono (fun r h c => ?_) (Cert.AdamOutAbRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamOutAbRefIdeal.Read.val_main_v24_eq, g1, h1]
    rfl
  · refine Eq.trans ?_ (arr5 m c).symm
    rw [Cert.AdamOutAbRefIdeal.Read.val_main_v25_eq, g0, g1, g2, g3, h0, h1, h2, h3]
    rfl
  · refine Eq.trans ?_ (arr6 m c).symm
    rw [Cert.AdamOutAbRefIdeal.Read.val_main_v26_eq, g1, g2, h1, h2]
    rfl
  · refine Eq.trans ?_ (arr7 m c).symm
    rw [Cert.AdamOutAbRefIdeal.Read.val_main_v27_eq, g1, g3, h1, h3]
    rfl

end Cert.Adam.OutAb

end
-- ==== Proof.Adam.OutCd.lean ====
/-
  The optimiser's step of the gated blocks' output projection (hand-written, untrusted). The weight, its gradient and
  the two running means are staged in the same blocks of 256 rows, and a point writes the same block of each of the
  results.
-/
module

public import proofs.«01_k».proof.Defs
public import proofs.«01_k».proof.Proof.Adam.Math
public import proofs.«01_k».proof.Proof.Gen.AdamOutCdIdeal.Value
public import proofs.«01_k».proof.Proof.Gen.AdamOutCdRefIdeal.Run
public import proofs.«01_k».proof.Proof.Gen.AdamOutCdRefIdeal.Read

@[expose] public section

set_option backward.isDefEq.respectTransparency.types false
set_option backward.isDefEq.respectTransparency false

noncomputable section

namespace Cert.Adam.OutCd

open Idealize.ShloMosaic Idealize.ShloMosaic.TcCoe Idealize.SL.Sem Idealize.ShloMosaic.ValueIdx Cert.Product
open Cert.AdamOutCdIdeal Cert.AdamOutCdIdeal.Gen

variable (m : (ℓ : Loc nD τ sig) → Buf (Elt Ideal) ℓ) (c : Dev nD)

/-- The host lays the two layers' rows one under the other. -/
theorem laid : V m c main_v0 = shapeCast S768x1024 (m ((c : Thread nD τ).loc main_arg0)) shapeCasts_S2x384x1024_S768x1024
    ∧ V m c main_v1 = shapeCast S768x1024 (m ((c : Thread nD τ).loc main_arg1)) shapeCasts_S2x384x1024_S768x1024
    ∧ V m c main_v2 = shapeCast S768x1024 (m ((c : Thread nD τ).loc main_arg2)) shapeCasts_S2x384x1024_S768x1024
    ∧ V m c main_v3 = shapeCast S768x1024 (m ((c : Thread nD τ).loc main_arg3)) shapeCasts_S2x384x1024_S768x1024 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S768x1024.Idx => change (V m c main_v0 i) (V m c main_v1 i) (V m c main_v2 i) (V m c main_v3 i) := by
  refine (dats m 0 c).arrAt_eq_of_covers 5
    (fun i : S768x1024.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S768x1024.Idx => mean (V m c main_v1 i) (V m c main_v2 i) := by
  refine (dats m 0 c).arrAt_eq_of_covers 6 (fun i : S768x1024.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S768x1024.Idx => square (V m c main_v1 i) (V m c main_v3 i) := by
  refine (dats m 0 c).arrAt_eq_of_covers 7 (fun i : S768x1024.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamOutCdRefIdeal := fun m g _ =>
  (θ_run Cert.AdamOutCdRefIdeal.defs _ _).mono
    (fun r h => ⟨fun c => (h c).2.2.2.2, sem_eq_zero_of_no_sems (by decide) r.2⟩) (Cert.AdamOutCdRefIdeal.Value.run m g)

/-- The kernel and the reference leave the same gradient, change and running means. -/
theorem algebraic : Cert.algebraic_AdamOutCdIdeal_AdamOutCdRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamOutCdRefIdeal.defs _ _).mono (fun r h c => ?_) (Cert.AdamOutCdRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamOutCdRefIdeal.Read.val_main_v24_eq, g1, h1]
    rfl
  · refine Eq.trans ?_ (arr5 m c).symm
    rw [Cert.AdamOutCdRefIdeal.Read.val_main_v25_eq, g0, g1, g2, g3, h0, h1, h2, h3]
    rfl
  · refine Eq.trans ?_ (arr6 m c).symm
    rw [Cert.AdamOutCdRefIdeal.Read.val_main_v26_eq, g1, g2, h1, h2]
    rfl
  · refine Eq.trans ?_ (arr7 m c).symm
    rw [Cert.AdamOutCdRefIdeal.Read.val_main_v27_eq, g1, g3, h1, h3]
    rfl

end Cert.Adam.OutCd

end
-- ==== Proof.Adam.Sq.lean ====
/-
  The optimiser's step of the cross-attention's query projection, and of its output projection, whose shape is the
  same (hand-written, untrusted). The weight, its gradient and the two running means are staged in the same blocks of
  512 rows, and a point writes the same block of each of the results.
-/
module

public import proofs.«01_k».proof.Defs
public import proofs.«01_k».proof.Proof.Adam.Math
public import proofs.«01_k».proof.Proof.Gen.AdamSqIdeal.Value
public import proofs.«01_k».proof.Proof.Gen.AdamSqRefIdeal.Run
public import proofs.«01_k».proof.Proof.Gen.AdamSqRefIdeal.Read

@[expose] public section

set_option backward.isDefEq.respectTransparency.types false
set_option backward.isDefEq.respectTransparency false

noncomputable section

namespace Cert.Adam.Sq

open Idealize.ShloMosaic Idealize.ShloMosaic.TcCoe Idealize.SL.Sem Idealize.ShloMosaic.ValueIdx Cert.Product
open Cert.AdamSqIdeal Cert.AdamSqIdeal.Gen

variable (m : (ℓ : Loc nD τ sig) → Buf (Elt Ideal) ℓ) (c : Dev nD)

/-- The host lays the four layers' rows one under the other. -/
theorem laid : V m c main_v0 = shapeCast S1024x1024 (m ((c : Thread nD τ).loc main_arg0)) shapeCasts_S4x256x1024_S1024x1024
    ∧ V m c main_v1 = shapeCast S1024x1024 (m ((c : Thread nD τ).loc main_arg1)) shapeCasts_S4x256x1024_S1024x1024
    ∧ V m c main_v2 = shapeCast S1024x1024 (m ((c : Thread nD τ).loc main_arg2)) shapeCasts_S4x256x1024_S1024x1024
    ∧ V m c main_v3 = shapeCast S1024x1024 (m ((c : Thread nD τ).loc main_arg3)) shapeCasts_S4x256x1024_S1024x1024 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S1024x1024.Idx => change (V m c main_v0 i) (V m c main_v1 i) (V m c main_v2 i) (V m c main_v3 i) := by
  refine (dats m 0 c).arrAt_eq_of_covers 5
    (fun i : S1024x1024.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S1024x1024.Idx => mean (V m c main_v1 i) (V m c main_v2 i) := by
  refine (dats m 0 c).arrAt_eq_of_covers 6 (fun i : S1024x1024.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S1024x1024.Idx => square (V m c main_v1 i) (V m c main_v3 i) := by
  refine (dats m 0 c).arrAt_eq_of_covers 7 (fun i : S1024x1024.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamSqRefIdeal := fun m g _ =>
  (θ_run Cert.AdamSqRefIdeal.defs _ _).mono
    (fun r h => ⟨fun c => (h c).2.2.2.2, sem_eq_zero_of_no_sems (by decide) r.2⟩) (Cert.AdamSqRefIdeal.Value.run m g)

/-- The kernel and the reference leave the same gradient, change and running means. -/
theorem algebraic : Cert.algebraic_AdamSqIdeal_AdamSqRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamSqRefIdeal.defs _ _).mono (fun r h c => ?_) (Cert.AdamSqRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamSqRefIdeal.Read.val_main_v24_eq, g1, h1]
    rfl
  · refine Eq.trans ?_ (arr5 m c).symm
    rw [Cert.AdamSqRefIdeal.Read.val_main_v25_eq, g0, g1, g2, g3, h0, h1, h2, h3]
    rfl
  · refine Eq.trans ?_ (arr6 m c).symm
    rw [Cert.AdamSqRefIdeal.Read.val_main_v26_eq, g1, g2, h1, h2]
    rfl
  · refine Eq.trans ?_ (arr7 m c).symm
    rw [Cert.AdamSqRefIdeal.Read.val_main_v27_eq, g1, g3, h1, h3]
    rfl

end Cert.Adam.Sq

end
-- ==== Proof.Adam.Xkv.lean ====
/-
  The optimiser's step of the cross-attention's projection to keys and values (hand-written, untrusted). The weight,
  its gradient and the two running means are staged in the same blocks of 1024 rows, and a point writes the same block
  of each of the results.
-/
module

public import proofs.«01_k».proof.Defs
public import proofs.«01_k».proof.Proof.Adam.Math
public import proofs.«01_k».proof.Proof.Gen.AdamXkvIdeal.Value
public import proofs.«01_k».proof.Proof.Gen.AdamXkvRefIdeal.Run
public import proofs.«01_k».proof.Proof.Gen.AdamXkvRefIdeal.Read

@[expose] public section

set_option backward.isDefEq.respectTransparency.types false
set_option backward.isDefEq.respectTransparency false

noncomputable section

namespace Cert.Adam.Xkv

open Idealize.ShloMosaic Idealize.ShloMosaic.TcCoe Idealize.SL.Sem Idealize.ShloMosaic.ValueIdx Cert.Product
open Cert.AdamXkvIdeal Cert.AdamXkvIdeal.Gen

variable (m : (ℓ : Loc nD τ sig) → Buf (Elt Ideal) ℓ) (c : Dev nD)

/-- The host lays the four layers' rows one under the other. -/
theorem laid : V m c main_v0 = shapeCast S4096x512 (m ((c : Thread nD τ).loc main_arg0)) shapeCasts_S4x1024x512_S4096x512
    ∧ V m c main_v1 = shapeCast S4096x512 (m ((c : Thread nD τ).loc main_arg1)) shapeCasts_S4x1024x512_S4096x512
    ∧ V m c main_v2 = shapeCast S4096x512 (m ((c : Thread nD τ).loc main_arg2)) shapeCasts_S4x1024x512_S4096x512
    ∧ V m c main_v3 = shapeCast S4096x512 (m ((c : Thread nD τ).loc main_arg3)) shapeCasts_S4x1024x512_S4096x512 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S4096x512.Idx => change (V m c main_v0 i) (V m c main_v1 i) (V m c main_v2 i) (V m c main_v3 i) := by
  refine (dats m 0 c).arrAt_eq_of_covers 5
    (fun i : S4096x512.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S4096x512.Idx => mean (V m c main_v1 i) (V m c main_v2 i) := by
  refine (dats m 0 c).arrAt_eq_of_covers 6 (fun i : S4096x512.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S4096x512.Idx => square (V m c main_v1 i) (V m c main_v3 i) := by
  refine (dats m 0 c).arrAt_eq_of_covers 7 (fun i : S4096x512.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamXkvRefIdeal := fun m g _ =>
  (θ_run Cert.AdamXkvRefIdeal.defs _ _).mono
    (fun r h => ⟨fun c => (h c).2.2.2.2, sem_eq_zero_of_no_sems (by decide) r.2⟩) (Cert.AdamXkvRefIdeal.Value.run m g)

/-- The kernel and the reference leave the same gradient, change and running means. -/
theorem algebraic : Cert.algebraic_AdamXkvIdeal_AdamXkvRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamXkvRefIdeal.defs _ _).mono (fun r h c => ?_) (Cert.AdamXkvRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamXkvRefIdeal.Read.val_main_v24_eq, g1, h1]
    rfl
  · refine Eq.trans ?_ (arr5 m c).symm
    rw [Cert.AdamXkvRefIdeal.Read.val_main_v25_eq, g0, g1, g2, g3, h0, h1, h2, h3]
    rfl
  · refine Eq.trans ?_ (arr6 m c).symm
    rw [Cert.AdamXkvRefIdeal.Read.val_main_v26_eq, g1, g2, h1, h2]
    rfl
  · refine Eq.trans ?_ (arr7 m c).symm
    rw [Cert.AdamXkvRefIdeal.Read.val_main_v27_eq, g1, g3, h1, h3]
    rfl

end Cert.Adam.Xkv

end
-- ==== Proof.Adam.Glu.lean ====
/-
  The optimiser's step of a projection of the gate; both of its projections have this shape (hand-written, untrusted).
  One block holds the whole of each array.
-/
module

public import proofs.«01_k».proof.Defs
public import proofs.«01_k».proof.Proof.Adam.Math
public import proofs.«01_k».proof.Proof.Gen.AdamGluIdeal.Value
public import proofs.«01_k».proof.Proof.Gen.AdamGluRefIdeal.Run
public import proofs.«01_k».proof.Proof.Gen.AdamGluRefIdeal.Read

@[expose] public section

set_option backward.isDefEq.respectTransparency.types false
set_option backward.isDefEq.respectTransparency false

noncomputable section

namespace Cert.Adam.Glu

open Idealize.ShloMosaic Idealize.ShloMosaic.TcCoe Idealize.SL.Sem Idealize.ShloMosaic.ValueIdx Cert.Product
open Cert.AdamGluIdeal Cert.AdamGluIdeal.Gen

variable (m : (ℓ : Loc nD τ sig) → Buf (Elt Ideal) ℓ) (c : Dev nD)

/-- The host lays the two layers' rows one under the other. -/
theorem laid : V m c main_v0 = shapeCast S256x512 (m ((c : Thread nD τ).loc main_arg0)) shapeCasts_S2x128x512_S256x512
    ∧ V m c main_v1 = shapeCast S256x512 (m ((c : Thread nD τ).loc main_arg1)) shapeCasts_S2x128x512_S256x512
    ∧ V m c main_v2 = shapeCast S256x512 (m ((c : Thread nD τ).loc main_arg2)) shapeCasts_S2x128x512_S256x512
    ∧ V m c main_v3 = shapeCast S256x512 (m ((c : Thread nD τ).loc main_arg3)) shapeCasts_S2x128x512_S256x512 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S256x512.Idx => change (V m c main_v0 i) (V m c main_v1 i) (V m c main_v2 i) (V m c main_v3 i) := by
  refine (dats m 0 c).arrAt_eq_of_covers 5
    (fun i : S256x512.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S256x512.Idx => mean (V m c main_v1 i) (V m c main_v2 i) := by
  refine (dats m 0 c).arrAt_eq_of_covers 6 (fun i : S256x512.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S256x512.Idx => square (V m c main_v1 i) (V m c main_v3 i) := by
  refine (dats m 0 c).arrAt_eq_of_covers 7 (fun i : S256x512.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamGluRefIdeal := fun m g _ =>
  (θ_run Cert.AdamGluRefIdeal.defs _ _).mono
    (fun r h => ⟨fun c => (h c).2.2.2.2, sem_eq_zero_of_no_sems (by decide) r.2⟩) (Cert.AdamGluRefIdeal.Value.run m g)

/-- The kernel and the reference leave the same gradient, change and running means. -/
theorem algebraic : Cert.algebraic_AdamGluIdeal_AdamGluRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamGluRefIdeal.defs _ _).mono (fun r h c => ?_) (Cert.AdamGluRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamGluRefIdeal.Read.val_main_v24_eq, g1, h1]
    rfl
  · refine Eq.trans ?_ (arr5 m c).symm
    rw [Cert.AdamGluRefIdeal.Read.val_main_v25_eq, g0, g1, g2, g3, h0, h1, h2, h3]
    rfl
  · refine Eq.trans ?_ (arr6 m c).symm
    rw [Cert.AdamGluRefIdeal.Read.val_main_v26_eq, g1, g2, h1, h2]
    rfl
  · refine Eq.trans ?_ (arr7 m c).symm
    rw [Cert.AdamGluRefIdeal.Read.val_main_v27_eq, g1, g3, h1, h3]
    rfl

end Cert.Adam.Glu

end
-- ==== Proof.Adam.Pool.lean ====
/-
  The optimiser's step of the pooling's own weights (hand-written, untrusted). One block holds the whole of each
  array.
-/
module

public import proofs.«01_k».proof.Defs
public import proofs.«01_k».proof.Proof.Adam.Math
public import proofs.«01_k».proof.Proof.Gen.AdamPoolIdeal.Value
public import proofs.«01_k».proof.Proof.Gen.AdamPoolRefIdeal.Run
public import proofs.«01_k».proof.Proof.Gen.AdamPoolRefIdeal.Read

@[expose] public section

set_option backward.isDefEq.respectTransparency.types false
set_option backward.isDefEq.respectTransparency false

noncomputable section

namespace Cert.Adam.Pool

open Idealize.ShloMosaic Idealize.ShloMosaic.TcCoe Idealize.SL.Sem Idealize.ShloMosaic.ValueIdx Cert.Product
open Cert.AdamPoolIdeal Cert.AdamPoolIdeal.Gen

variable (m : (ℓ : Loc nD τ sig) → Buf (Elt Ideal) ℓ) (c : Dev nD)

/-- The host lays the two layers' and the four groups' rows one under the other. -/
theorem laid : V m c main_v0 = shapeCast S512x256 (m ((c : Thread nD τ).loc main_arg0)) shapeCasts_S2x4x64x256_S512x256
    ∧ V m c main_v1 = shapeCast S512x256 (m ((c : Thread nD τ).loc main_arg1)) shapeCasts_S2x4x64x256_S512x256
    ∧ V m c main_v2 = shapeCast S512x256 (m ((c : Thread nD τ).loc main_arg2)) shapeCasts_S2x4x64x256_S512x256
    ∧ V m c main_v3 = shapeCast S512x256 (m ((c : Thread nD τ).loc main_arg3)) shapeCasts_S2x4x64x256_S512x256 := by
  refine ⟨?_, ?_, ?_, ?_⟩ <;> (unfold_abbrev_sides; after_results; rfl)

/-- The gradient is handed on as it is. -/
theorem arr4 : (dats m 0 c).arrAt 4 cfg0.N = V m c main_v1 := by
  refine (dats m 0 c).arrAt_eq_of_covers 4 (V m c main_v1) (by decide +kernel) fun t _ j => ?_
  show (dats m 0 c).after 4 t j = _
  rw [after0_4]
  frame_out
  unfold k0_pay1
  rw [shapeCast_self]
  rfl

theorem arr5 : (dats m 0 c).arrAt 5 cfg0.N
    = fun i : S512x256.Idx => change (V m c main_v0 i) (V m c main_v1 i) (V m c main_v2 i) (V m c main_v3 i) := by
  refine (dats m 0 c).arrAt_eq_of_covers 5
    (fun i : S512x256.Idx => change (V m c main_v0 i) (V m c main_v1 i) (V m c main_v2 i) (V m c main_v3 i))
    (by decide +kernel) fun t _ j => ?_
  show (dats m 0 c).after 5 t j = _
  rw [after0_5]
  frame_out
  exact change_block _ _ (iblk m c 1 t) (iblk m c 2 t) (iblk m c 3 t) j _ _ (mean_block _ _ _ j) (square_block _ _ _ j)

theorem arr6 : (dats m 0 c).arrAt 6 cfg0.N = fun i : S512x256.Idx => mean (V m c main_v1 i) (V m c main_v2 i) := by
  refine (dats m 0 c).arrAt_eq_of_covers 6 (fun i : S512x256.Idx => mean (V m c main_v1 i) (V m c main_v2 i))
    (by decide +kernel) fun t _ j => ?_
  show (dats m 0 c).after 6 t j = _
  rw [after0_6]
  frame_out
  exact mean_block _ (iblk m c 1 t) (iblk m c 2 t) j

theorem arr7 : (dats m 0 c).arrAt 7 cfg0.N = fun i : S512x256.Idx => square (V m c main_v1 i) (V m c main_v3 i) := by
  refine (dats m 0 c).arrAt_eq_of_covers 7 (fun i : S512x256.Idx => square (V m c main_v1 i) (V m c main_v3 i))
    (by decide +kernel) fun t _ j => ?_
  show (dats m 0 c).after 7 t j = _
  rw [after0_7]
  frame_out
  exact square_block _ (iblk m c 1 t) (iblk m c 3 t) j

/-- The reference's run ends with its arguments as they were; it declares no semaphore, so every counter is zero. -/
theorem frame_ref : Cert.quiescent_AdamPoolRefIdeal := fun m g _ =>
  (θ_run Cert.AdamPoolRefIdeal.defs _ _).mono
    (fun r h => ⟨fun c => (h c).2.2.2.2, sem_eq_zero_of_no_sems (by decide) r.2⟩) (Cert.AdamPoolRefIdeal.Value.run m g)

/-- The kernel and the reference leave the same gradient, change and running means. -/
theorem algebraic : Cert.algebraic_AdamPoolIdeal_AdamPoolRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run Cert.AdamPoolRefIdeal.defs _ _).mono (fun r h c => ?_) (Cert.AdamPoolRefIdeal.Value.run m' g')⟩
  obtain ⟨h0, h1, h2, h3⟩ := laid m c
  obtain ⟨g0, g1, g2, g3⟩ := hagree c
  refine ⟨(h c).1.trans ?_, (h c).2.1.trans ?_, (h c).2.2.1.trans ?_, (h c).2.2.2.1.trans ?_, (h c).2.2.2.2⟩
  · refine Eq.trans ?_ (arr4 m c).symm
    rw [Cert.AdamPoolRefIdeal.Read.val_main_v24_eq, g1, h1]
    rfl
  · refine Eq.trans ?_ (arr5 m c).symm
    rw [Cert.AdamPoolRefIdeal.Read.val_main_v25_eq, g0, g1, g2, g3, h0, h1, h2, h3]
    rfl
  · refine Eq.trans ?_ (arr6 m c).symm
    rw [Cert.AdamPoolRefIdeal.Read.val_main_v26_eq, g1, g2, h1, h2]
    rfl
  · refine Eq.trans ?_ (arr7 m c).symm
    rw [Cert.AdamPoolRefIdeal.Read.val_main_v27_eq, g1, g3, h1, h3]
    rfl

end Cert.Adam.Pool

end
-- ==== Proof.Rms.Math.lean ====
/-
  The gradient of the root-mean-square norm over the real numbers (hand-written, untrusted).

  A row `x` is normalised by `x · r · g` with `r` the reciprocal square root of the mean of its squares plus a small
  constant. Both programs are shown to compute the functions below; nothing here mentions either.
-/
module

public import proofs.«01_k».proof.Proof.Reals

@[expose] public section

noncomputable section

namespace Cert.Rms.Math

open Finset Idealize.ShloMosaic Cert.Reals

/-- The small constant under the root, the value of its single-precision word. -/
def eps : ℝ := (Ideal.ofBits .f32 0x358637BD#32).toReal

/-- The word is a positive real number. -/
theorem eps_word : ∃ e : ℝ, 0 < e ∧ Ideal.ofBits .f32 0x358637BD#32 = (e : EReal) := by
  refine ⟨_, ?_, by simp [Ideal.ofBits, Ideal.ieee, -EReal.coe_mul]; rfl⟩
  positivity

theorem ofBits_eps : Ideal.ofBits .f32 0x358637BD#32 = (eps : EReal) := by
  obtain ⟨e, _, h⟩ := eps_word
  rw [eps, h, EReal.toReal_coe]

theorem eps_pos : 0 < eps := by
  obtain ⟨e, he, h⟩ := eps_word
  rwa [eps, h, EReal.toReal_coe]

/-- The single-precision word of 1024. -/
theorem ofBits_1024 : Ideal.ofBits .f32 0x44800000#32 = ((1024 : ℝ) : EReal) := by
  simp [Ideal.ofBits, Ideal.ieee, -EReal.coe_mul]; norm_num

/-- The single-precision word of minus one half. -/
theorem ofBits_neg_half : Ideal.ofBits .f32 0xBF000000#32 = ((-(1 / 2) : ℝ) : EReal) := by
  simp [Ideal.ofBits, Ideal.ieee, -EReal.coe_mul]; norm_num

/-- The mean of a row's squares plus the constant. -/
def power (x : ℕ → ℝ) : ℝ := (∑ k ∈ range 1024, x k * x k) / 1024 + eps

theorem power_pos (x : ℕ → ℝ) : 0 < power x :=
  add_pos_of_nonneg_of_pos (div_nonneg (sum_nonneg fun _ _ => mul_self_nonneg _) (by norm_num)) eps_pos

/-- The factor a row is multiplied by. -/
def scale (x : ℕ → ℝ) : ℝ := (√(power x))⁻¹

/-- The reciprocal square root of the mean is that factor. -/
theorem rsqrt_power (x : ℕ → ℝ) : Ideal.rsqrt (power x : EReal) = ((scale x : ℝ) : EReal) := by
  rw [Ideal.rsqrt_coe, if_neg (power_pos x).not_gt, if_neg (power_pos x).ne']
  rfl

/-- The factor's cube is the factor over the mean. -/
theorem scale_cube (x : ℕ → ℝ) : scale x / power x = scale x * scale x * scale x := by
  have h := power_pos x
  have hs : √(power x) * √(power x) = power x := Real.mul_self_sqrt h.le
  unfold scale
  rw [div_eq_mul_inv, mul_assoc, ← mul_inv, ← mul_inv, ← mul_inv, hs]

/-- The gradient of a row, from the gradient `d` of the normalised row, with `e` added. -/
def dx (x d e g : ℕ → ℝ) (j : ℕ) : ℝ :=
  scale x * (d j * g j) - x j * (scale x * scale x * scale x / 1024) * (∑ k ∈ range 1024, d k * g k * x k) + e j

/-- The gradient of the gains, summed over the rows `a … a+n-1`. -/
def dg (X Y : ℕ → ℕ → ℝ) (a n j : ℕ) : ℝ := ∑ i ∈ range n, Y (a + i) j * X (a + i) j * scale (X (a + i))

/-- The sums over two runs of rows add up to the sum over both. -/
theorem dg_add (X Y : ℕ → ℕ → ℝ) (n n' j : ℕ) : dg X Y 0 n j + dg X Y n n' j = dg X Y 0 (n + n') j := by
  unfold dg
  simp [sum_range_add]

end Cert.Rms.Math

end
-- ==== Proof.Rms.Block.lean ====
/-
  What the norm's backward kernel computes on one block of 1024 rows (hand-written, untrusted).
-/
module

public import proofs.«01_k».proof.Proof.Rms.Math
public import proofs.«01_k».proof.Proof.Gen.RmsIdeal.Skeleton

@[expose] public section

set_option backward.isDefEq.respectTransparency.types false
set_option backward.isDefEq.respectTransparency false

noncomputable section

namespace Cert.Rms.Block

open Idealize.ShloMosaic Idealize.ShloMosaic.ValueIdx Cert.RmsIdeal Cert.RmsIdeal.Gen Cert.Reals Cert.Rms.Math Finset

/-- A column spread over a row's 1024 entries. -/
theorem spread_apply (v : FVec Ideal S1024x1 .f32) (j : S1024x1024.Idx) :
    broadcastTo S1024x1024 v broadcasts_S1024x1_S1024x1024 j = v (ValueIdx.ix2 (j 0) 0) :=
  broadcastTo_apply _ _ j _ fun a => by
    match a with
    | ⟨0, _⟩ => rfl
    | ⟨1, _⟩ => rfl

/-- One row spread over the block's 1024 rows. -/
theorem rows_apply (v : FVec Ideal S1x1024 .f32) (j : S1024x1024.Idx) :
    broadcastTo S1024x1024 v broadcasts_S1x1024_S1024x1024 j = v (ValueIdx.ix2 0 (j 1)) :=
  broadcastTo_apply _ _ j _ fun a => by
    match a with
    | ⟨0, _⟩ => rfl
    | ⟨1, _⟩ => rfl

/-- A row's sum, kept as a column. -/
theorem row_sum (v : FVec Ideal S1024x1024 .f32) (f : ℕ → ℝ) (i : Fin 1024) (z : Fin 1)
    (h : ∀ k : Fin 1024, v (ValueIdx.ix2 i k) = ((f k.val : ℝ) : EReal)) :
    shapeCast S1024x1 (multiReduction .add [1] S1024 v 0x00000000#32 reduces_S1024x1024_S1024 (.inl rfl) rfl) shapeCasts_S1024_S1024x1
        (ValueIdx.ix2 i z) = ((∑ k ∈ range 1024, f k : ℝ) : EReal) := by
  refine (shapeCast_apply _ _ _ (ValueIdx.ix1 i) ?_).trans ?_
  · rw [Shape.rowMajor_val_one, Shape.rowMajor_val_two]
    show i.val = i.val * 1 + z.val
    omega
  · rw [Ideal.multiReduction_add_single]
    refine sum_fin_coe _ f fun k => ?_
    rw [← h k]
    refine congrArg v (funext fun a => ?_)
    match a with
    | ⟨0, _⟩ => rfl
    | ⟨1, _⟩ => rfl

/-- A column's sum, kept as a row. -/
theorem column_sum (v : FVec Ideal S1024x1024 .f32) (f : ℕ → ℝ) (j : S1x1024.Idx)
    (h : ∀ k : Fin 1024, v (ValueIdx.ix2 k (j 1)) = ((f k.val : ℝ) : EReal)) :
    shapeCast S1x1024 (multiReduction .add [0] S1024 v 0x00000000#32 reduces_S1024x1024_S1024_2 (.inl rfl) rfl) shapeCasts_S1024_S1x1024
        j = ((∑ k ∈ range 1024, f k : ℝ) : EReal) := by
  refine (shapeCast_apply _ _ _ (ValueIdx.ix1 (j 1)) ?_).trans ?_
  · rw [Shape.rowMajor_val_one, Shape.rowMajor_val_two]
    have : (j 0).val < 1 := (j 0).isLt
    show (j 1).val = (j 0).val * 1024 + (j 1).val
    omega
  · rw [Ideal.multiReduction_add_single]
    refine sum_fin_coe _ f fun k => ?_
    rw [← h k]
    refine congrArg v (funext fun a => ?_)
    match a with
    | ⟨0, _⟩ => rfl
    | ⟨1, _⟩ => rfl

variable (x y e : FVec Ideal S1024x1024 .f32) (g : FVec Ideal S1x1024 .f32) (X Y E G : ℕ → ℕ → ℝ) (o : ℕ)
  (hx : ∀ j, x j = ((X (o + (j 0).val) (j 1).val : ℝ) : EReal)) (hy : ∀ j, y j = ((Y (o + (j 0).val) (j 1).val : ℝ) : EReal))
  (he : ∀ j, e j = ((E (o + (j 0).val) (j 1).val : ℝ) : EReal)) (hg : ∀ j, g j = ((G (j 0).val (j 1).val : ℝ) : EReal))

include hx in
/-- The rows' factors. -/
theorem scale_apply (i : Fin 1024) (z : Fin 1) :
    k0_pay2 (F := Ideal) x (ValueIdx.ix2 i z) = ((scale (X (o + i.val)) : ℝ) : EReal) := by
  unfold k0_pay2
  change Ideal.rsqrt (Ideal.div (shapeCast S1024x1 (multiReduction .add [1] S1024 (mulf x x) 0x00000000#32 reduces_S1024x1024_S1024
      (.inl rfl) rfl) shapeCasts_S1024_S1024x1 (ValueIdx.ix2 i z)) (Ideal.ofBits .f32 0x44800000#32) + Ideal.ofBits .f32 0x358637BD#32) = _
  rw [row_sum (mulf x x) (fun k => X (o + i.val) k * X (o + i.val) k) i z fun k => by
      rw [mulf_apply, hx]; exact (EReal.coe_mul _ _).symm,
    ofBits_1024, ofBits_eps, div_coe_coe _ (by norm_num), ← EReal.coe_add]
  exact rsqrt_power _

include hx hy in
/-- The block's share of the gradient of the gains. -/
theorem dg_apply (j : S1x1024.Idx) : k0_pay3 (F := Ideal) x y j = ((dg X Y o 1024 (j 1).val : ℝ) : EReal) := by
  unfold k0_pay3
  refine column_sum _ (fun r => Y (o + r) (j 1).val * X (o + r) (j 1).val * scale (X (o + r))) j fun k => ?_
  rw [mulf_apply, mulf_apply, spread_apply, hx, hy, EReal.coe_mul, EReal.coe_mul]
  exact congrArg (fun w : EReal => _ * w) (scale_apply x X o hx k 0)

include hx hy he hg in
/-- The block of the rows' gradient. -/
theorem dx_apply (j : S1024x1024.Idx) : k0_pay4 (F := Ideal) x y e g j
    = ((dx (X (o + (j 0).val)) (Y (o + (j 0).val)) (E (o + (j 0).val)) (G 0) (j 1).val : ℝ) : EReal) := by
  have hyg : ∀ j, mulf y (broadcastTo S1024x1024 g broadcasts_S1x1024_S1024x1024) j
      = ((Y (o + (j 0).val) (j 1).val * G 0 (j 1).val : ℝ) : EReal) := fun j => by
    rw [mulf_apply, rows_apply, hy, hg, EReal.coe_mul]
    rfl
  unfold k0_pay4
  simp only [addf_apply, subf_apply, mulf_apply, spread_apply]
  simp only [← mulf_apply]
  have hs := row_sum (mulf (mulf y (broadcastTo S1024x1024 g broadcasts_S1x1024_S1024x1024)) x)
    (fun k => Y (o + (j 0).val) k * G 0 k * X (o + (j 0).val) k) (j 0) 0 fun k => by
      rw [mulf_apply, hyg, hx]; exact (EReal.coe_mul _ _).symm
  have hr := scale_apply x X o hx (j 0) 0
  have hd : divf (mulf (mulf (k0_pay2 (F := Ideal) x) (k0_pay2 x)) (k0_pay2 x))
      (broadcast S1024x1 (FloatOps.ofBits FTy.f32 0x44800000#32)) (ValueIdx.ix2 (j 0) 0)
      = ((scale (X (o + (j 0).val)) * scale (X (o + (j 0).val)) * scale (X (o + (j 0).val)) / 1024 : ℝ) : EReal) := by
    change Ideal.div (k0_pay2 (F := Ideal) x (ValueIdx.ix2 (j 0) 0) * k0_pay2 (F := Ideal) x (ValueIdx.ix2 (j 0) 0)
      * k0_pay2 (F := Ideal) x (ValueIdx.ix2 (j 0) 0)) (Ideal.ofBits .f32 0x44800000#32) = _
    rw [hr, ofBits_1024, ← EReal.coe_mul, ← EReal.coe_mul, div_coe_coe _ (by norm_num)]
  rw [hd, hr, hs, hyg, hx, he, ← EReal.coe_mul, ← EReal.coe_mul, ← EReal.coe_mul, ← EReal.coe_sub, ← EReal.coe_add]
  rfl

end Cert.Rms.Block

end
-- ==== Proof.Rms.Blocks.lean ====
/-
  What the kernel of the norm's backward pass leaves in its two result arrays (hand-written, untrusted).
-/
module

public import proofs.«01_k».proof.Proof.Rms.Block
public import proofs.«01_k».proof.Proof.Gen.RmsIdeal.Value
public import Idealize.ShloMosaic.Lib.Pipeline.ValueKit.Acc
public import Idealize.ShloMosaic.Lib.Pipeline.ValueKit.Tiles
public import Idealize.ShloMosaic.Lib.Tactic

@[expose] public section

set_option backward.isDefEq.respectTransparency.types false
set_option backward.isDefEq.respectTransparency false

noncomputable section

namespace Cert.Rms.Blocks

open Idealize.ShloMosaic Idealize.ShloMosaic.TcCoe Idealize.SL.Sem
open Cert.RmsIdeal Cert.RmsIdeal.Gen Cert.Rms.Math Cert.Rms.Block Cert.Reals Finset

variable (m : (ℓ : Loc nD τ sig) → Buf (Elt Ideal) ℓ) (c : Dev nD) (X Y E G : ℕ → ℕ → ℝ)

/-- The four arguments hold finite values: the rows `X`, the gradient `Y` of the normalised rows, the gradient `E` added
    to the rows', and the gains `G`. -/
structure Holds : Prop where
  x : ∀ i : S2048x1024.Idx, m ((c : Thread nD τ).loc main_arg0) i = ((X (i 0).val (i 1).val : ℝ) : EReal)
  y : ∀ i : S2048x1024.Idx, m ((c : Thread nD τ).loc main_arg1) i = ((Y (i 0).val (i 1).val : ℝ) : EReal)
  e : ∀ i : S2048x1024.Idx, m ((c : Thread nD τ).loc main_arg2) i = ((E (i 0).val (i 1).val : ℝ) : EReal)
  g : ∀ i : S1x1024.Idx, m ((c : Thread nD τ).loc main_arg3) i = ((G (i 0).val (i 1).val : ℝ) : EReal)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)

variable {m c X Y E G} (H : Holds m c X Y E G)
include H

/-- The rows' block at point `t`: rows `1024 t …`. -/
theorem block_x (t : Fin cfg0.N) (j : S1024x1024.Idx) :
    iblk m c 0 t j = ((X (1024 * t.val + (j 0).val) (j 1).val : ℝ) : EReal) := by
  unfold iblk
  rw [View.read_apply]
  show m ((c : Thread nD τ).loc main_arg0) _ = _
  refine (H.x _).trans (congrArg (fun r : ℝ => (r : EReal)) (congrArg₂ X ?_ ?_))
  · show win0_0.index t 0 * 1024 + 1 * (j 0).val = _
    rw [(idx_0 t).1]
    omega
  · show win0_0.index t 1 * 1024 + 1 * (j 1).val = _
    rw [(idx_0 t).2]
    omega

/-- The gradient's block at point `t`: rows `1024 t …`. -/
theorem block_y (t : Fin cfg0.N) (j : S1024x1024.Idx) :
    iblk m c 1 t j = ((Y (1024 * t.val + (j 0).val) (j 1).val : ℝ) : EReal) := by
  unfold iblk
  rw [View.read_apply]
  show m ((c : Thread nD τ).loc main_arg1) _ = _
  refine (H.y _).trans (congrArg (fun r : ℝ => (r : EReal)) (congrArg₂ Y ?_ ?_))
  · show win0_1.index t 0 * 1024 + 1 * (j 0).val = _
    rw [(idx_1 t).1]
    omega
  · show win0_1.index t 1 * 1024 + 1 * (j 1).val = _
    rw [(idx_1 t).2]
    omega

/-- The added gradient's block at point `t`: rows `1024 t …`. -/
theorem block_e (t : Fin cfg0.N) (j : S1024x1024.Idx) :
    iblk m c 2 t j = ((E (1024 * t.val + (j 0).val) (j 1).val : ℝ) : EReal) := by
  unfold iblk
  rw [View.read_apply]
  show m ((c : Thread nD τ).loc main_arg2) _ = _
  refine (H.e _).trans (congrArg (fun r : ℝ => (r : EReal)) (congrArg₂ E ?_ ?_))
  · show win0_2.index t 0 * 1024 + 1 * (j 0).val = _
    rw [(idx_2 t).1]
    omega
  · show win0_2.index t 1 * 1024 + 1 * (j 1).val = _
    rw [(idx_2 t).2]
    omega

/-- The gains: the whole row at every point. -/
theorem block_g (t : Fin cfg0.N) (j : S1x1024.Idx) : iblk m c 3 t j = ((G (j 0).val (j 1).val : ℝ) : EReal) := by
  unfold iblk
  rw [View.read_apply]
  show m ((c : Thread nD τ).loc main_arg3) _ = _
  refine (H.g _).trans (congrArg (fun r : ℝ => (r : EReal)) (congrArg₂ G ?_ ?_))
  · show win0_3.index t 0 * 1 + 1 * (j 0).val = _
    rw [(idx_3 t).1]
    omega
  · show win0_3.index t 1 * 1024 + 1 * (j 1).val = _
    rw [(idx_3 t).2]
    omega

/-- Point `t`'s block of the rows' gradient. -/
theorem out_dx (t : Fin cfg0.N) (y : S1024x1024.Idx) : (outsAt0 m c t.val t.isLt).1 y
    = ((dx (X (1024 * t.val + (y 0).val)) (Y (1024 * t.val + (y 0).val)) (E (1024 * t.val + (y 0).val)) (G 0) (y 1).val : ℝ) : EReal) := by
  by_cases h0 : t.val % 2 = 0
  · rw [outsAt0_A m c t h0]
    frame_out
    exact dx_apply _ _ _ _ X Y E G (1024 * t.val) (block_x H t) (block_y H t) (block_e H t) (block_g H t) y
  · rw [outsAt0_B m c t h0]
    frame_out
    exact dx_apply _ _ _ _ X Y E G (1024 * t.val) (block_x H t) (block_y H t) (block_e H t) (block_g H t) y

/-- The first point's row of the gains' gradient: its share, added to zero. -/
theorem out_dg_first (t : Fin cfg0.N) (h0 : t.val % 2 = 0) (y : S1x1024.Idx) :
    (outsAt0 m c t.val t.isLt).2 y = ((dg X Y (1024 * t.val) 1024 (y 1).val : ℝ) : EReal) := by
  rw [outsAt0_A m c t h0]
  frame_out
  unfold k0_pay1
  rw [shapeCast_self, ValueIdx.addf_apply, dg_apply _ _ X Y (1024 * t.val) (block_x H t) (block_y H t)]
  exact (congrArg (fun w : EReal => w + _) Ideal.ofBits_zero_f32).trans (zero_add _)

/-- The second point's row: its share, added to what the first left. -/
theorem out_dg_next (t : Fin cfg0.N) (h0 : ¬t.val % 2 = 0) (y : S1x1024.Idx) (hlt : t.val - 1 < cfg0.N) :
    (outsAt0 m c t.val t.isLt).2 y = (outsAt0 m c (t.val - 1) hlt).2 y + ((dg X Y (1024 * t.val) 1024 (y 1).val : ℝ) : EReal) := by
  rw [outsAt0_B m c t h0]
  frame_out
  unfold k0_pay1
  rw [shapeCast_self, ValueIdx.addf_apply, dg_apply _ _ X Y (1024 * t.val) (block_x H t) (block_y H t)]

/-- After the second point the row holds the sum over all 2048 rows. -/
theorem out_dg (t : Fin cfg0.N) (h1 : t.val = 1) (y : S1x1024.Idx) :
    (outsAt0 m c t.val t.isLt).2 y = ((dg X Y 0 2048 (y 1).val : ℝ) : EReal) := by
  have h := out_dg_first H ⟨t.val - 1, by have := t.isLt; omega⟩ (by dsimp only; omega) y
  dsimp only at h
  rw [out_dg_next H t (by omega) y (by have := t.isLt; omega), h, ← EReal.coe_add, h1]
  exact congrArg _ (dg_add X Y 1024 1024 _)

/-- The array of the rows' gradient after the run. -/
theorem arr_dx : (dats m 0 c).arrAt 4 cfg0.N = fun i : S2048x1024.Idx =>
    ((dx (X (i 0).val) (Y (i 0).val) (E (i 0).val) (G 0) (i 1).val : ℝ) : EReal) := by
  refine (dats m 0 c).arrAt_eq_of_cover 4 (fun i : S2048x1024.Idx =>
    ((dx (X (i 0).val) (Y (i 0).val) (E (i 0).val) (G 0) (i 1).val : ℝ) : EReal)) (fun t _ => ?_) fun i => ?_
  · rw [Value.flushed4]
    funext j
    refine (out_dx H t _).trans ?_
    rw [View.read_apply]
    refine congrArg (fun r : ℝ => (r : EReal)) (congrArg₂ (fun a b => dx (X a) (Y a) (E a) (G 0) b) ?_ ?_)
    · show _ = win0_4.index t 0 * 1024 + 1 * (j 0).val
      rw [(idx_4 t).1]
      show 1024 * t.val + (j 0).val = _
      omega
    · show _ = win0_4.index t 1 * 1024 + 1 * (j 1).val
      rw [(idx_4 t).2]
      show (j 1).val = _
      omega
  · have h0 : (i 0 : Nat) < 2048 := (i 0).isLt
    have h1 : (i 1 : Nat) < 1024 := (i 1).isLt
    have hN : cfg0.N = 2 := N_0
    refine ⟨⟨(i 0 : Nat) / 1024, by omega⟩, flush0_4 _, ?_⟩
    generalize ht : (⟨(i 0 : Nat) / 1024, by omega⟩ : Fin cfg0.N) = t
    have htv : t.val = (i 0 : Nat) / 1024 := by rw [← ht]
    show i ∈ ((View.whole main_v0_0).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [(idx_4 t).1]; omega
    | ⟨1, _⟩ =>
      show win0_4.index t 1 * 1024 ≤ (i 1 : Nat) ∧ (i 1 : Nat) < win0_4.index t 1 * 1024 + 1024
      rw [(idx_4 t).2]; omega

/-- The row of the gains' gradient after the run. -/
theorem arr_dg : (dats m 0 c).arrAt 5 cfg0.N = fun i : S1x1024.Idx => ((dg X Y 0 2048 (i 1).val : ℝ) : EReal) := by
  have hN : cfg0.N = 2 := N_0
  refine (dats m 0 c).arrAt_eq_of_cover 5 (fun i : S1x1024.Idx => ((dg X Y 0 2048 (i 1).val : ℝ) : EReal)) (fun t hf => ?_) fun i => ?_
  · have ht : t.val = 1 := by have := (flush0_5 t).mp hf; have := t.isLt; omega
    rw [Value.flushed5]
    funext j
    refine (out_dg H t ht _).trans ?_
    rw [View.read_apply]
    refine congrArg (fun r : ℝ => (r : EReal)) (congrArg (dg X Y 0 2048) ?_)
    show _ = win0_5.index t 1 * 1024 + 1 * (j 1).val
    rw [(idx_5 t).2]
    show (j 1).val = _
    omega
  · have h0 : (i 0 : Nat) < 1 := (i 0).isLt
    have h1 : (i 1 : Nat) < 1024 := (i 1).isLt
    refine ⟨⟨1, by omega⟩, (flush0_5 _).mpr rfl, ?_⟩
    generalize (⟨1, by omega⟩ : Fin cfg0.N) = t
    show i ∈ ((View.whole main_v0_1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [(idx_5 t).1]; omega
    | ⟨1, _⟩ =>
      show win0_5.index t 1 * 1024 ≤ (i 1 : Nat) ∧ (i 1 : Nat) < win0_5.index t 1 * 1024 + 1024
      rw [(idx_5 t).2]; omega

end Cert.Rms.Blocks

end
-- ==== Proof.Rms.Ref.lean ====
/-
  What the reference of the norm's backward pass computes (hand-written, untrusted).
-/
module

public import proofs.«01_k».proof.Proof.Rms.Math
public import proofs.«01_k».proof.Proof.Gen.RmsRefIdeal.Read

@[expose] public section

set_option backward.isDefEq.respectTransparency.types false
set_option backward.isDefEq.respectTransparency false

noncomputable section

namespace Cert.Rms.Ref

open Idealize.ShloMosaic Idealize.ShloMosaic.TcCoe Idealize.SL.Sem Idealize.ShloMosaic.ValueIdx
open Cert.RmsRefIdeal Cert.RmsRefIdeal.Read Cert.Rms.Math Cert.Reals Finset

variable (x0 x1 x2 : FVec Ideal S2048x1024 .f32) (x3 : FVec Ideal S1x1024 .f32) (X Y E G : ℕ → ℕ → ℝ)
  (h0 : ∀ i, x0 i = ((X (i 0).val (i 1).val : ℝ) : EReal)) (h1 : ∀ i, x1 i = ((Y (i 0).val (i 1).val : ℝ) : EReal))
  (h2 : ∀ i, x2 i = ((E (i 0).val (i 1).val : ℝ) : EReal)) (h3 : ∀ i, x3 i = ((G (i 0).val (i 1).val : ℝ) : EReal))

include h0 in
/-- The mean of a row's squares plus the constant. -/
theorem v7_eq (i : S2048x1.Idx) : val_main_v7 (F := Ideal) x0 i = ((power (X (i 0).val) : ℝ) : EReal) := by
  rw [val_main_v7_apply, val_main_v6_apply, val_main_cst_1_apply, val_main_v5_apply, val_main_v4_apply, val_main_cst_0_apply,
    val_main_v3_apply, val_main_v2_apply, val_main_cst_apply]
  change Ideal.div (Ideal.ofBits .f32 0x00000000#32 + _) (Ideal.ofBits .f32 0x44800000#32) + Ideal.ofBits .f32 0x358637BD#32 = _
  rw [sum_fin_coe _ (fun k => X (i 0).val k * X (i 0).val k) fun k => by
      rw [val_main_v1_apply, h0]; exact (EReal.coe_mul _ _).symm,
    Ideal.ofBits_zero_f32, zero_add, ofBits_1024, ofBits_eps, div_coe_coe _ (by norm_num), ← EReal.coe_add]
  rfl

include h0 in
/-- A row's factor. -/
theorem v8_eq (i : S2048x1.Idx) : val_main_v8 (F := Ideal) x0 i = ((scale (X (i 0).val) : ℝ) : EReal) := by
  rw [val_main_v8_apply, v7_eq x0 X h0]
  exact rsqrt_power _

include h0 in
/-- Half a row's factor's cube, negated. -/
theorem v11_eq (i : S2048x1.Idx) : val_main_v11 (F := Ideal) x0 i
    = ((-(1 / 2) * (scale (X (i 0).val) * scale (X (i 0).val) * scale (X (i 0).val)) : ℝ) : EReal) := by
  rw [val_main_v11_apply, val_main_v10_apply, val_main_cst_2_apply, val_main_v9_apply, v8_eq x0 X h0, v7_eq x0 X h0]
  change Ideal.ofBits .f32 0xBF000000#32 * Ideal.div _ _ = _
  rw [ofBits_neg_half, div_coe_coe _ (power_pos _).ne', scale_cube, ← EReal.coe_mul]

include h3 in
/-- The gains, one row. -/
theorem v14_eq (i : S1x1024.Idx) : val_main_v14 (F := Ideal) x3 i = ((G 0 (i 1).val : ℝ) : EReal) := by
  have a1 : (i 1).val < 1024 := (i 1).isLt
  rw [val_main_v14_apply, val_main_v0_apply]
  refine (h3 _).trans (congrArg (fun r : ℝ => (r : EReal)) (congrArg₂ G rfl ?_))
  show (i 1).val % 1024 = _
  omega

include h1 h3 in
/-- The gradient of the row times its factor. -/
theorem v21_eq (i : S2048x1024.Idx) : val_main_v21 (F := Ideal) x1 x3 i = ((Y (i 0).val (i 1).val * G 0 (i 1).val : ℝ) : EReal) := by
  rw [val_main_v21_apply, val_main_v20_apply, v14_eq x3 G h3, h1]
  exact (EReal.coe_mul _ _).symm

include h0 h1 h3 in
/-- What the factor's gradient adds to a row, per unit of its entry: half of it. -/
theorem v33_eq (i : S2048x1024.Idx) : val_main_v33 (F := Ideal) x0 x1 x3 i
    = (((∑ k ∈ range 1024, X (i 0).val k * (Y (i 0).val k * G 0 k))
        * (-(1 / 2) * (scale (X (i 0).val) * scale (X (i 0).val) * scale (X (i 0).val))) / 1024 : ℝ) : EReal) := by
  rw [val_main_v33_apply, val_main_v32_apply, val_main_cst_7_apply, Fin.sum_univ_one, val_main_v31_apply, val_main_v30_apply,
    val_main_cst_6_apply, val_main_v29_apply, v11_eq x0 X h0, val_main_v25_apply, val_main_v24_apply, val_main_cst_5_apply]
  change Ideal.ofBits .f32 0x00000000#32 + Ideal.div ((Ideal.ofBits .f32 0x00000000#32 + _) * _) (Ideal.ofBits .f32 0x44800000#32) = _
  rw [sum_fin_coe _ (fun k => X (i 0).val k * (Y (i 0).val k * G 0 k)) fun k => by
      rw [val_main_v23_apply, h0, v21_eq x1 x3 Y G h1 h3]
      refine (EReal.coe_mul _ _).symm.trans (congrArg (fun r : ℝ => (r : EReal)) ?_)
      have e : (idx_main_v24 (idx_main_v25 (idx_main_v32 (idx_main_v33 i) 0)) k 0).val = (i 0).val := by
        show (i 0).val * 1 + 0 = _
        omega
      rw [e],
    Ideal.ofBits_zero_f32, zero_add, zero_add, ofBits_1024, ← EReal.coe_mul, div_coe_coe _ (by norm_num)]

include h0 h1 h2 h3 in
/-- The first result: the gradient of the rows. -/
theorem v37_eq (i : S2048x1024.Idx) : val_main_v37 (F := Ideal) x0 x1 x2 x3 i
    = ((dx (X (i 0).val) (Y (i 0).val) (E (i 0).val) (G 0) (i 1).val : ℝ) : EReal) := by
  rw [val_main_v37_apply, val_main_v36_apply, val_main_v35_apply, val_main_v34_apply, val_main_v28_apply, val_main_v27_apply,
    val_main_v26_apply, v8_eq x0 X h0, v21_eq x1 x3 Y G h1 h3, v33_eq x0 x1 x3 X Y G h0 h1 h3, h0, h2]
  change ((_ : EReal) + _ * _) + _ * _ + _ * _ = _
  rw [← EReal.coe_mul, ← EReal.coe_mul, ← EReal.coe_mul, ← EReal.coe_add, ← EReal.coe_add, ← EReal.coe_add]
  refine congrArg (fun r : ℝ => (r : EReal)) ?_
  have hs : ∑ k ∈ range 1024, Y (i 0).val k * G 0 k * X (i 0).val k = ∑ k ∈ range 1024, X (i 0).val k * (Y (i 0).val k * G 0 k) :=
    sum_congr rfl fun _ _ => mul_comm _ _
  unfold dx
  rw [hs]
  show E (i 0).val (i 1).val + _ * scale (X (i 0).val) + _ + _ = _
  ring

include h0 h1 in
/-- The second result: the gradient of the gains. -/
theorem v38_eq (i : S1x1024.Idx) : val_main_v38 (F := Ideal) x0 x1 i = ((dg X Y 0 2048 (i 1).val : ℝ) : EReal) := by
  rw [val_main_v38_apply, val_main_v22_apply, val_main_cst_4_apply, Fin.sum_univ_one, val_main_v19_apply, val_main_v18_apply,
    val_main_cst_3_apply]
  change Ideal.ofBits .f32 0x00000000#32 + (Ideal.ofBits .f32 0x00000000#32 + _) = _
  rw [Ideal.ofBits_zero_f32, zero_add, zero_add]
  refine sum_fin_coe _ (fun r => Y (0 + r) (i 1).val * X (0 + r) (i 1).val * scale (X (0 + r))) fun r => ?_
  rw [val_main_v17_apply, val_main_v13_apply, val_main_v12_apply, v8_eq x0 X h0, h0, h1]
  refine ((congrArg (fun x : EReal => x * _) (EReal.coe_mul _ _).symm).trans (EReal.coe_mul _ _).symm).trans (congrArg (fun r : ℝ => (r : EReal)) ?_)
  have e : (idx_main_v18 (idx_main_v19 (idx_main_v22 (idx_main_v38 i) 0)) r 1).val = (i 1).val := by
    show 0 * 1024 + (i 1).val = _
    omega
  have e0 : (idx_main_v18 (idx_main_v19 (idx_main_v22 (idx_main_v38 i) 0)) r 0).val = r.val := rfl
  have e1 : (idx_main_v12 (idx_main_v18 (idx_main_v19 (idx_main_v22 (idx_main_v38 i) 0)) r) 0).val = r.val := rfl
  rw [e, e0, e1, Nat.zero_add]
  ring

end Cert.Rms.Ref

end
-- ==== Proof.Rms.Claim.lean ====
/-
  The norm's backward pass: its kernel and its reference leave the same arrays, and the reference's frame (hand-written,
  untrusted).
-/
module

public import proofs.«01_k».proof.Defs
public import proofs.«01_k».proof.Proof.Rms.Blocks
public import proofs.«01_k».proof.Proof.Rms.Ref
public import proofs.«01_k».proof.Proof.Gen.RmsRefIdeal.Run
public import proofs.«01_k».proof.Proof.Gen.Pre_rms_finite

@[expose] public section

set_option backward.isDefEq.respectTransparency.types false
set_option backward.isDefEq.respectTransparency false

noncomputable section

namespace Cert.Rms.Result

open Idealize.ShloMosaic Idealize.ShloMosaic.TcCoe Idealize.SL.Sem
open Cert.Rms.Math Cert.Reals

/-- The reference's run ends with its arguments as they were; it declares no semaphore, so every counter is zero. -/
theorem frame_ref (m : (ℓ : Loc Cert.RmsRefIdeal.nD Cert.RmsRefIdeal.τ Cert.RmsRefIdeal.sig) → Buf (Elt Ideal) ℓ)
    (g : Dev Cert.RmsRefIdeal.nD → PrngReg) :
    θ_run (Cert.RmsRefIdeal.defs (F := Ideal)) (onTc (τ := Cert.RmsRefIdeal.τ) (Cert.RmsRefIdeal.main (F := Ideal)))
      ⟨m, fun _ => 0, g⟩ fun r => (∀ c : Dev Cert.RmsRefIdeal.nD,
        r.2.mem ((c.tc : Thread Cert.RmsRefIdeal.nD Cert.RmsRefIdeal.τ).loc Cert.RmsRefIdeal.main_arg0)
            = m ((c.tc : Thread Cert.RmsRefIdeal.nD Cert.RmsRefIdeal.τ).loc Cert.RmsRefIdeal.main_arg0)
        ∧ r.2.mem ((c.tc : Thread Cert.RmsRefIdeal.nD Cert.RmsRefIdeal.τ).loc Cert.RmsRefIdeal.main_arg1)
            = m ((c.tc : Thread Cert.RmsRefIdeal.nD Cert.RmsRefIdeal.τ).loc Cert.RmsRefIdeal.main_arg1)
        ∧ r.2.mem ((c.tc : Thread Cert.RmsRefIdeal.nD Cert.RmsRefIdeal.τ).loc Cert.RmsRefIdeal.main_arg2)
            = m ((c.tc : Thread Cert.RmsRefIdeal.nD Cert.RmsRefIdeal.τ).loc Cert.RmsRefIdeal.main_arg2)
        ∧ r.2.mem ((c.tc : Thread Cert.RmsRefIdeal.nD Cert.RmsRefIdeal.τ).loc Cert.RmsRefIdeal.main_arg3)
            = m ((c.tc : Thread Cert.RmsRefIdeal.nD Cert.RmsRefIdeal.τ).loc Cert.RmsRefIdeal.main_arg3))
      ∧ r.2.sem = fun _ => 0 :=
  (θ_run Cert.RmsRefIdeal.defs _ _).mono
    (fun r h => ⟨fun c => (h c).2.2, sem_eq_zero_of_no_sems (by decide) r.2⟩) (Cert.RmsRefIdeal.Value.run m g)

/-- Under the precondition the four arguments of a device hold real numbers. -/
theorem reals (m : (ℓ : Loc Cert.RmsIdeal.nD Cert.RmsIdeal.τ Cert.RmsIdeal.sig) → Buf (Elt Ideal) ℓ)
    (h : Cert.Pre_RmsIdeal_rms_finite m) (c : Dev Cert.RmsIdeal.nD) :
    ∃ X Y E G : ℕ → ℕ → ℝ, Cert.Rms.Blocks.Holds m c X Y E G := by
  obtain ⟨h0, h1, h2, h3⟩ := h c
  obtain ⟨X, hX⟩ := reals_of_two (fun i : Cert.RmsIdeal.S2048x1024.Idx => (i 0).val) (fun i => (i 1).val)
    (fun i j p q => funext fun a => Fin.ext (by fin_cases a; exacts [p, q])) _
    (fun i => real_of_abs_lt _ (congrFun h0 i))
  obtain ⟨Y, hY⟩ := reals_of_two (fun i : Cert.RmsIdeal.S2048x1024.Idx => (i 0).val) (fun i => (i 1).val)
    (fun i j p q => funext fun a => Fin.ext (by fin_cases a; exacts [p, q])) _
    (fun i => real_of_abs_lt _ (congrFun h1 i))
  obtain ⟨E, hE⟩ := reals_of_two (fun i : Cert.RmsIdeal.S2048x1024.Idx => (i 0).val) (fun i => (i 1).val)
    (fun i j p q => funext fun a => Fin.ext (by fin_cases a; exacts [p, q])) _
    (fun i => real_of_abs_lt _ (congrFun h2 i))
  obtain ⟨G, hG⟩ := reals_of_two (fun i : Cert.RmsIdeal.S1x1024.Idx => (i 0).val) (fun i => (i 1).val)
    (fun i j p q => funext fun a => Fin.ext (by fin_cases a; exacts [p, q])) _
    (fun i => real_of_abs_lt _ (congrFun h3 i))
  exact ⟨X, Y, E, G, hX, hY, hE, hG⟩

/-- The kernel and the reference leave the same gradients. -/
theorem algebraic : Cert.algebraic_RmsIdeal_RmsRefIdeal_pre_rms_finite := by
  intro m g m' g' hpre hagree
  refine ⟨fun c => (Cert.RmsIdeal.Gen.dats m 0 c).arrAt 4 Cert.RmsIdeal.cfg0.N,
    fun c => (Cert.RmsIdeal.Gen.dats m 0 c).arrAt 5 Cert.RmsIdeal.cfg0.N,
    Cert.RmsIdeal.Value.run_blocks m g,
    (θ_run Cert.RmsRefIdeal.defs _ _).mono (fun r h c => ?_) (Cert.RmsRefIdeal.Value.run m' g')⟩
  obtain ⟨X, Y, E, G, H⟩ := reals m hpre c
  obtain ⟨e0, e1, e2, e3⟩ := hagree c
  obtain ⟨r37, r38, k⟩ := h c
  refine ⟨r37.trans ?_, r38.trans ?_, k⟩
  · rw [Cert.RmsRefIdeal.Read.val_main_v37_eq, e0, e1, e2, e3]
    refine (funext fun i => ?_).trans (Cert.Rms.Blocks.arr_dx H).symm
    exact Cert.Rms.Ref.v37_eq _ _ _ _ X Y E G H.x H.y H.e H.g i
  · rw [Cert.RmsRefIdeal.Read.val_main_v38_eq, e0, e1]
    refine (funext fun i => ?_).trans (Cert.Rms.Blocks.arr_dg H).symm
    exact Cert.Rms.Ref.v38_eq _ _ X Y H.x H.y i

end Cert.Rms.Result

end
-- ==== Proof.Rms.Norm.lean ====
/-
  The norm of a row, entry by entry over the extended real numbers (hand-written, untrusted). The kernel's block of `n`
  rows is read as it, whatever `n` is.
-/
module

public import proofs.«01_k».proof.Proof.Product.Math

@[expose] public section

set_option backward.isDefEq.respectTransparency.types false
set_option backward.isDefEq.respectTransparency false

noncomputable section

namespace Cert.NormRow

open Idealize.ShloMosaic

/-- Entry `j` of the row `x` over the root of the mean of its squares plus the constant, times the gain `g`. -/
def normed (x : Fin 1024 → Ideal .f32) (g : Ideal .f32) (j : Fin 1024) : Ideal .f32 :=
  FloatOps.mulf (FloatOps.mulf (x j) (FloatOps.rsqrt (FloatOps.addf
    (FloatOps.divf (∑ k : Fin 1024, (x k * x k : EReal) : EReal) (Scalar.ofBits .f32 0x44800000#32)) (Scalar.ofBits .f32 0x358637BD#32)))) g

/-- `n` rows. -/
abbrev Rows (n : ℕ) : Shape := ⟨2, ![n, 1024]⟩

/-- A column of `n` entries. -/
abbrev Col (n : ℕ) : Shape := ⟨2, ![n, 1]⟩

/-- A list of `n` entries. -/
abbrev List (n : ℕ) : Shape := ⟨1, ![n]⟩

variable {n : ℕ} (hn : n ≠ 1) (hr : (Rows n).Reduces [1] (List n)) (hc : (List n).ShapeCasts (Col n))
  (hb : (Col n).Broadcasts (Rows n)) (hg : (Rows 1).Broadcasts (Rows n))
  (x : FVec Ideal (Rows n) .f32) (g : FVec Ideal (Rows 1) .f32) (i : Fin n) (l : Fin 1024)

/-- The sum of a row's squares, kept as a column. -/
theorem row_sum : shapeCast (Col n) (multiReduction .add [1] (List n) (mulf x x) 0x00000000#32 hr (.inl rfl) rfl) hc
    (ValueIdx.ix2 i 0) = (∑ k : Fin 1024, (x (ValueIdx.ix2 i k) * x (ValueIdx.ix2 i k) : EReal) : EReal) := by
  refine (shapeCast_apply _ _ _ (ValueIdx.ix1 i) ?_).trans ?_
  · rw [Shape.rowMajor_val_one, Shape.rowMajor_val_two]
    show i.val = i.val * 1 + 0
    omega
  · rw [Ideal.multiReduction_add_single]
    refine Finset.sum_congr rfl fun k _ => ?_
    exact congrArg (fun q : (Rows n).Idx => (x q * x q : EReal)) (funext fun a => by
      match a with
      | ⟨0, _⟩ => rfl
      | ⟨1, _⟩ => rfl)

include hn in
/-- A block of the kernel's values is the norm of its rows. -/
theorem block :
    mulf (mulf x (broadcastTo (Rows n) (rsqrt (addf (divf (shapeCast (Col n)
        (multiReduction .add [1] (List n) (mulf x x) 0x00000000#32 hr (.inl rfl) rfl) hc)
        (broadcast (Col n) (Scalar.ofBits .f32 0x44800000#32))) (broadcast (Col n) (Scalar.ofBits .f32 0x358637BD#32)))) hb))
      (broadcastTo (Rows n) g hg) (ValueIdx.ix2 i l) = normed (fun k => x (ValueIdx.ix2 i k)) (g (ValueIdx.ix2 0 l)) l := by
  have h1 := broadcastTo_apply (rsqrt (addf (divf (shapeCast (Col n)
        (multiReduction .add [1] (List n) (mulf x x) 0x00000000#32 hr (.inl rfl) rfl) hc)
        (broadcast (Col n) (Scalar.ofBits .f32 0x44800000#32))) (broadcast (Col n) (Scalar.ofBits .f32 0x358637BD#32))))
      hb (ValueIdx.ix2 i l) (ValueIdx.ix2 i 0) fun a => by
    match a with
    | ⟨0, _⟩ => exact (if_neg hn).symm
    | ⟨1, _⟩ => rfl
  have h2 := broadcastTo_apply g hg (ValueIdx.ix2 i l) (ValueIdx.ix2 0 l) fun a => by
    match a with
    | ⟨0, _⟩ => rfl
    | ⟨1, _⟩ => rfl
  unfold normed
  rw [← row_sum hr hc x i, ← h2]
  exact congrArg (fun w : EReal => x (ValueIdx.ix2 i l) * w * broadcastTo (Rows n) g hg (ValueIdx.ix2 i l)) h1

end Cert.NormRow

end
-- ==== Proof.Rms.Fwd.lean ====
/-
  The norm of a device's 2048 rows (hand-written, untrusted). The kernel writes its bfloat16 result in two blocks of 1024
  rows.
-/
module

public import proofs.«01_k».proof.Defs
public import proofs.«01_k».proof.Proof.Rms.Norm
public import proofs.«01_k».proof.Proof.Gen.RmsFwdIdeal.Value
public import proofs.«01_k».proof.Proof.Gen.RmsFwdRefIdeal.Run
public import proofs.«01_k».proof.Proof.Gen.RmsFwdRefIdeal.Read

@[expose] public section

set_option backward.isDefEq.respectTransparency.types false
set_option backward.isDefEq.respectTransparency false

noncomputable section

namespace Cert.NormFwd

open Idealize.ShloMosaic Idealize.ShloMosaic.TcCoe Idealize.SL.Sem Cert.Product Cert.NormRow
open Cert.RmsFwdIdeal Cert.RmsFwdIdeal.Gen

/-- The result: every row normed. -/
def result (x : FVec Ideal S2048x1024 .f32) (g : FVec Ideal S1x1024 .f32) : FVec Ideal S2048x1024 .bf16 :=
  fun i => normed (fun k => x (ValueIdx.ix2 (i 0) k)) (g (ValueIdx.ix2 0 (i 1))) (i 1)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The array after the run. -/
theorem arr : (dats m 0 c).arrAt 2 cfg0.N
    = result (m ((c : Thread nD τ).loc main_arg0)) (m ((c : Thread nD τ).loc main_arg1)) := by
  refine (dats m 0 c).arrAt_eq_of_covers 2 (result (m ((c : Thread nD τ).loc main_arg0)) (m ((c : Thread nD τ).loc main_arg1)))
    (by decide +kernel) fun t _ j => ?_
  show (dats m 0 c).after 2 t j = _
  rw [after0_2]
  frame_out
  unfold k0_pay1
  obtain ⟨p, q, rfl⟩ : ∃ (p q : Fin 1024), j = ValueIdx.ix2 p q := ⟨j 0, j 1, funext fun a => by
    match a with
    | ⟨0, _⟩ => rfl
    | ⟨1, _⟩ => rfl⟩
  refine (block (by decide) reduces_S1024x1024_S1024 shapeCasts_S1024_S1024x1 broadcasts_S1024x1_S1024x1024
    broadcasts_S1x1024_S1024x1024 (iblk m c 0 t) (iblk m c 1 t) p q).trans ?_
  have e0 := idx_0 t
  have e1 := idx_1 t
  have e2 := idx_2 t
  refine congr (congr (congrArg normed (funext fun k => ?_)) ?_) (Fin.ext ?_)
  · unfold iblk
    rw [View.read_apply]
    refine congrArg (m ((c : Thread nD τ).loc main_arg0)) (funext fun a => Fin.ext ?_)
    match a with
    | ⟨0, _⟩ =>
      show win0_0.index t 0 * 1024 + 1 * p.val = win0_2.index t 0 * 1024 + 1 * p.val
      rw [e0.1, e2.1]
    | ⟨1, _⟩ =>
      show win0_0.index t 1 * 1024 + 1 * k.val = k.val
      rw [e0.2]
      omega
  · unfold iblk
    rw [View.read_apply]
    refine congrArg (m ((c : Thread nD τ).loc main_arg1)) (funext fun a => Fin.ext ?_)
    match a with
    | ⟨0, _⟩ =>
      show win0_1.index t 0 * 1 + 1 * 0 = 0
      rw [e1.1]
    | ⟨1, _⟩ =>
      show win0_1.index t 1 * 1024 + 1 * q.val = win0_2.index t 1 * 1024 + 1 * q.val
      rw [e1.2, e2.2]
  · show q.val = win0_2.index t 1 * 1024 + 1 * q.val
    rw [e2.2]
    omega

open Cert.RmsFwdRefIdeal.Read in
/-- The reference's result is the same. -/
theorem ref (x : FVec Ideal S2048x1024 .f32) (g : FVec Ideal S1x1024 .f32) (i : S2048x1024.Idx) :
    Cert.RmsFwdRefIdeal.Read.val_main_v14 (F := Ideal) x g i = result x g i := by
  have a1 : (i 1).val < 1024 := (i 1).isLt
  rw [val_main_v14_apply, val_main_v13_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_cst_apply, val_main_v12_apply, val_main_v11_apply, val_main_v10_apply]
  have hz : ∀ s : EReal, FloatOps.ofBits (F := Ideal) .f32 0x00000000#32 + s = s := fun s =>
    (congrArg (fun w : EReal => w + s) Ideal.ofBits_zero_f32).trans (zero_add s)
  rw [hz]
  have eg : idx_main_v10 (idx_main_v11 (idx_main_v12 i)) = ValueIdx.ix2 0 (i 1) := funext fun a => Fin.ext (by
    match a with
    | ⟨0, _⟩ => rfl
    | ⟨1, _⟩ =>
      show (i 1).val % 1024 = (i 1).val
      omega)
  have ex : ∀ k : Fin 1024, idx_main_v1 (idx_main_v2 (idx_main_v8 i)) k = ValueIdx.ix2 (i 0) k := fun k => funext fun a => Fin.ext (by
    match a with
    | ⟨0, _⟩ => rfl
    | ⟨1, _⟩ => rfl)
  have ei : i = ValueIdx.ix2 (i 0) (i 1) := funext fun a => Fin.ext (by
    match a with
    | ⟨0, _⟩ => rfl
    | ⟨1, _⟩ => rfl)
  have hv : ∀ k : Fin 1024, val_main_v0 (F := Ideal) x (idx_main_v1 (idx_main_v2 (idx_main_v8 i)) k)
      = (x (ValueIdx.ix2 (i 0) k) * x (ValueIdx.ix2 (i 0) k) : EReal) := fun k => by
    rw [val_main_v0_apply, ex k]
    rfl
  rw [eg, Finset.sum_congr rfl fun k _ => hv k]
  conv_lhs => rw [ei]
  rfl

/-- The reference's run ends with its arguments as they were; it declares no semaphore, so every counter is zero. -/
theorem frame_ref : Cert.quiescent_RmsFwdRefIdeal := fun m g _ =>
  (θ_run Cert.RmsFwdRefIdeal.defs _ _).mono
    (fun r h => ⟨fun c => (h c).2, sem_eq_zero_of_no_sems (by decide) r.2⟩) (Cert.RmsFwdRefIdeal.Value.run m g)

/-- The kernel and the reference leave the same rows. -/
theorem algebraic : Cert.algebraic_RmsFwdIdeal_RmsFwdRefIdeal := by
  intro m g m' g' _ hagree
  refine ⟨fun c => (dats m 0 c).arrAt 2 cfg0.N, Value.run_blocks m g,
    (θ_run Cert.RmsFwdRefIdeal.defs _ _).mono (fun r h c => ?_) (Cert.RmsFwdRefIdeal.Value.run m' g')⟩
  obtain ⟨e0, e1⟩ := hagree c
  refine ⟨(h c).1.trans ?_, (h c).2⟩
  rw [Cert.RmsFwdRefIdeal.Read.val_main_v14_eq, e0, e1]
  exact (funext fun i => ref _ _ i).trans (arr m c).symm

end Cert.NormFwd

end
-- ==== Proof.Rms.Mem.lean ====
/-
  The norm of the 256 memory rows (hand-written, untrusted). The kernel writes its bfloat16 result as one block of 256
  rows.
-/
module

public import proofs.«01_k».proof.Defs
public import proofs.«01_k».proof.Proof.Rms.Norm
public import proofs.«01_k».proof.Proof.Gen.RmsMemIdeal.Value
public import proofs.«01_k».proof.Proof.Gen.RmsMemRefIdeal.Run
public import proofs.«01_k».proof.Proof.Gen.RmsMemRefIdeal.Read

@[expose] public section

set_option backward.isDefEq.respectTransparency.types false
set_option backward.isDefEq.respectTransparency false

noncomputable section

namespace Cert.NormMem

open Idealize.ShloMosaic Idealize.ShloMosaic.TcCoe Idealize.SL.Sem Cert.Product Cert.NormRow
open Cert.RmsMemIdeal Cert.RmsMemIdeal.Gen

/-- The result: every row normed. -/
def result (x : FVec Ideal S256x1024 .f32) (g : FVec Ideal S1x1024 .f32) : FVec Ideal S256x1024 .bf16 :=
  fun i => normed (fun k => x (ValueIdx.ix2 (i 0) k)) (g (ValueIdx.ix2 0 (i 1))) (i 1)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The array after the run. -/
theorem arr : (dats m 0 c).arrAt 2 cfg0.N
    = result (m ((c : Thread nD τ).loc main_arg0)) (m ((c : Thread nD τ).loc main_arg1)) := by
  refine (dats m 0 c).arrAt_eq_of_covers 2 (result (m ((c : Thread nD τ).loc main_arg0)) (m ((c : Thread nD τ).loc main_arg1)))
    (by decide +kernel) fun t _ j => ?_
  show (dats m 0 c).after 2 t j = _
  rw [after0_2]
  frame_out
  unfold k0_pay1
  obtain ⟨p, q, rfl⟩ : ∃ (p : Fin 256) (q : Fin 1024), j = ValueIdx.ix2 p q := ⟨j 0, j 1, funext fun a => by
    match a with
    | ⟨0, _⟩ => rfl
    | ⟨1, _⟩ => rfl⟩
  refine (block (by decide) reduces_S256x1024_S256 shapeCasts_S256_S256x1 broadcasts_S256x1_S256x1024
    broadcasts_S1x1024_S256x1024 (iblk m c 0 t) (iblk m c 1 t) p q).trans ?_
  have e0 := idx_0 t
  have e1 := idx_1 t
  have e2 := idx_2 t
  refine congr (congr (congrArg normed (funext fun k => ?_)) ?_) (Fin.ext ?_)
  · unfold iblk
    rw [View.read_apply]
    refine congrArg (m ((c : Thread nD τ).loc main_arg0)) (funext fun a => Fin.ext ?_)
    match a with
    | ⟨0, _⟩ =>
      show win0_0.index t 0 * 256 + 1 * p.val = win0_2.index t 0 * 256 + 1 * p.val
      rw [e0.1, e2.1]
    | ⟨1, _⟩ =>
      show win0_0.index t 1 * 1024 + 1 * k.val = k.val
      rw [e0.2]
      omega
  · unfold iblk
    rw [View.read_apply]
    refine congrArg (m ((c : Thread nD τ).loc main_arg1)) (funext fun a => Fin.ext ?_)
    match a with
    | ⟨0, _⟩ =>
      show win0_1.index t 0 * 1 + 1 * 0 = 0
      rw [e1.1]
    | ⟨1, _⟩ =>
      show win0_1.index t 1 * 1024 + 1 * q.val = win0_2.index t 1 * 1024 + 1 * q.val
      rw [e1.2, e2.2]
  · show q.val = win0_2.index t 1 * 1024 + 1 * q.val
    rw [e2.2]
    omega

open Cert.RmsMemRefIdeal.Read in
/-- The reference's result is the same. -/
theorem ref (x : FVec Ideal S256x1024 .f32) (g : FVec Ideal S1x1024 .f32) (i : S256x1024.Idx) :
    Cert.RmsMemRefIdeal.Read.val_main_v14 (F := Ideal) x g i = result x g i := by
  have a1 : (i 1).val < 1024 := (i 1).isLt
  rw [val_main_v14_apply, val_main_v13_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_cst_apply, val_main_v12_apply, val_main_v11_apply, val_main_v10_apply]
  have hz : ∀ s : EReal, FloatOps.ofBits (F := Ideal) .f32 0x00000000#32 + s = s := fun s =>
    (congrArg (fun w : EReal => w + s) Ideal.ofBits_zero_f32).trans (zero_add s)
  rw [hz]
  have eg : idx_main_v10 (idx_main_v11 (idx_main_v12 i)) = ValueIdx.ix2 0 (i 1) := funext fun a => Fin.ext (by
    match a with
    | ⟨0, _⟩ => rfl
    | ⟨1, _⟩ =>
      show (i 1).val % 1024 = (i 1).val
      omega)
  have ex : ∀ k : Fin 1024, idx_main_v1 (idx_main_v2 (idx_main_v8 i)) k = ValueIdx.ix2 (i 0) k := fun k => funext fun a => Fin.ext (by
    match a with
    | ⟨0, _⟩ => rfl
    | ⟨1, _⟩ => rfl)
  have ei : i = ValueIdx.ix2 (i 0) (i 1) := funext fun a => Fin.ext (by
    match a with
    | ⟨0, _⟩ => rfl
    | ⟨1, _⟩ => rfl)
  have hv : ∀ k : Fin 1024, val_main_v0 (F := Ideal) x (idx_main_v1 (idx_main_v2 (idx_main_v8 i)) k)
      = (x (ValueIdx.ix2 (i 0) k) * x (ValueIdx.ix2 (i 0) k) : EReal) := fun k => by
    rw [val_main_v0_apply, ex k]
    rfl
  rw [eg, Finset.sum_congr rfl fun k _ => hv k]
  conv_lhs => rw [ei]
  rfl

/-- The reference's run ends with its arguments as they were; it declares no semaphore, so every counter is zero. -/
theorem frame_ref : Cert.quiescent_RmsMemRefIdeal := fun m g _ =>
  (θ_run Cert.RmsMemRefIdeal.defs _ _).mono
    (fun r h => ⟨fun c => (h c).2, sem_eq_zero_of_no_sems (by decide) r.2⟩) (Cert.RmsMemRefIdeal.Value.run m g)

/-- The kernel and the reference leave the same rows. -/
theorem algebraic : Cert.algebraic_RmsMemIdeal_RmsMemRefIdeal := by
  intro m g m' g' _ hagree
  refine ⟨fun c => (dats m 0 c).arrAt 2 cfg0.N, Value.run_blocks m g,
    (θ_run Cert.RmsMemRefIdeal.defs _ _).mono (fun r h c => ?_) (Cert.RmsMemRefIdeal.Value.run m' g')⟩
  obtain ⟨e0, e1⟩ := hagree c
  refine ⟨(h c).1.trans ?_, (h c).2⟩
  rw [Cert.RmsMemRefIdeal.Read.val_main_v14_eq, e0, e1]
  exact (funext fun i => ref _ _ i).trans (arr m c).symm

end Cert.NormMem

end
-- ==== Proof.Gate.Math.lean ====
/-
  The logistic function and the gradient of a gate over the real numbers (hand-written, untrusted).

  A gated unit multiplies `a · σ(b)` by `g · σ(g)`, with `σ` the logistic function. Both programs are shown to compute the
  functions below; nothing here mentions either.
-/
module

public import proofs.«01_k».proof.Proof.Reals

@[expose] public section

noncomputable section

namespace Cert.Gate.Math

open Idealize.ShloMosaic Cert.Reals

/-- The logistic function. -/
def sig (x : ℝ) : ℝ := 1 / (1 + Real.exp (-x))

theorem one_add_exp_pos (x : ℝ) : 0 < 1 + Real.exp (-x) := by positivity

/-- The logistic function of a real value, as the reference computes it. -/
theorem logistic (x : ℝ) : Ideal.div (Ideal.ofBits .f32 0x3F800000#32) (Ideal.ofBits .f32 0x3F800000#32 + Ideal.exp (-(x : EReal)))
    = ((sig x : ℝ) : EReal) := by
  rw [← EReal.coe_neg, exp_coe, ofBits_one, ← EReal.coe_add, div_coe_coe _ (one_add_exp_pos x).ne']
  rfl

/-- The same with the negation written as a difference from zero, as the kernel computes it. -/
theorem logistic_sub (x : ℝ) : Ideal.div (Ideal.ofBits .f32 0x3F800000#32)
    (Ideal.ofBits .f32 0x3F800000#32 + Ideal.exp (Ideal.ofBits .f32 0x00000000#32 - (x : EReal))) = ((sig x : ℝ) : EReal) := by
  rw [Ideal.ofBits_zero_f32, zero_sub]
  exact logistic x

/-- The gate's value `g · σ(g)`. -/
def silu (g : ℝ) : ℝ := g * sig g

/-- The slope of `g · σ(g)`. -/
def siluSlope (g : ℝ) : ℝ := sig g * (1 + g * (1 - sig g))

/-- The gradient `d` of `a · σ(b) · silu g`, in `a`. -/
def da (d b g : ℝ) : ℝ := d * sig b * silu g

/-- The same in `b`. -/
def db (d a b g : ℝ) : ℝ := d * a * sig b * (1 - sig b) * silu g

/-- The same in `g`. -/
def dg (d a b g : ℝ) : ℝ := d * a * sig b * siluSlope g

/-- The gradient in `a` and in `b` side by side: columns 0 to 511 and 512 to 1023 of row `i`. The two factors are kept side
    by side in `T`, the gate is in `Z` from column 3584 on, and the gradient in `C` from column 1024 on. -/
def dt (T Z C : ℕ → ℕ → ℝ) (i j : ℕ) : ℝ :=
  if j < 512 then da (C i (1024 + j)) (T i (512 + j)) (Z i (3584 + j))
  else db (C i (1024 + (j - 512))) (T i (j - 512)) (T i (512 + (j - 512))) (Z i (3584 + (j - 512)))

/-- The gradient in the gate. -/
def dz (T Z C : ℕ → ℕ → ℝ) (i j : ℕ) : ℝ := dg (C i (1024 + j)) (T i j) (T i (512 + j)) (Z i (3584 + j))

end Cert.Gate.Math

end
-- ==== Proof.Gate.Block.lean ====
/-
  What the gated unit's backward kernel leaves in its two result arrays (hand-written, untrusted).
-/
module

public import proofs.«01_k».proof.Proof.Gate.Math
public import proofs.«01_k».proof.Proof.Product.Math
public import proofs.«01_k».proof.Proof.Gen.GateIdeal.Value

@[expose] public section

set_option backward.isDefEq.respectTransparency.types false
set_option backward.isDefEq.respectTransparency false

noncomputable section

namespace Cert.Gate.Block

open Idealize.ShloMosaic Idealize.ShloMosaic.TcCoe Idealize.SL.Sem Idealize.ShloMosaic.ValueIdx
open Cert.GateIdeal Cert.GateIdeal.Gen Cert.Gate.Math Cert.Reals

section Payload

variable (a b g d : FVec Ideal S1024x512 .f32) (j : S1024x512.Idx) (A B G C : ℝ)
  (ha : a j = (A : EReal)) (hb : b j = (B : EReal)) (hg : g j = (G : EReal)) (hd : d j = (C : EReal))

include hb in
theorem sig_apply : k0_pay1 (F := Ideal) b j = ((sig B : ℝ) : EReal) := by
  unfold k0_pay1
  change Ideal.div (Ideal.ofBits .f32 0x3F800000#32) (Ideal.ofBits .f32 0x3F800000#32 + Ideal.exp (Ideal.ofBits .f32 0x00000000#32 - b j)) = _
  rw [hb]
  exact logistic_sub B

include hg in
theorem sig_apply' : k0_pay2 (F := Ideal) g j = ((sig G : ℝ) : EReal) := sig_apply g j G hg

include ha hb hg hd in
/-- The block of the gate's gradient. -/
theorem dg_apply : k0_pay3 (F := Ideal) a b g d j = ((dg C A B G : ℝ) : EReal) := by
  unfold k0_pay3
  change d j * a j * k0_pay1 (F := Ideal) b j * (k0_pay2 (F := Ideal) g j
    * (Ideal.ofBits .f32 0x3F800000#32 + g j * (Ideal.ofBits .f32 0x3F800000#32 - k0_pay2 (F := Ideal) g j))) = _
  rw [sig_apply b j B hb, sig_apply' g j G hg, ha, hg, hd, ofBits_one]
  norm_cast

include hb hg hd in
/-- The left half of the factors' gradient. -/
theorem da_apply (i : S1024x1024.Idx) (h0 : (j 0).val = (i 0).val) (h1 : (j 1).val = (i 1).val) :
    k0_pay4 (F := Ideal) a b g d i = ((da C B G : ℝ) : EReal) := by
  unfold k0_pay4
  change concatenate S1024x1024 1 [⟨S1024x512, mulf (mulf d (k0_pay1 (F := Ideal) b)) (mulf g (k0_pay2 (F := Ideal) g))⟩,
    ⟨S1024x512, mulf (mulf (mulf (mulf d a) (k0_pay1 (F := Ideal) b)) (subf (broadcast S1024x512 (FloatOps.ofBits (F := Ideal) .f32 0x3F800000#32))
      (k0_pay1 (F := Ideal) b))) (mulf g (k0_pay2 (F := Ideal) g))⟩] concatenates_S1024x512_S1024x512_S1024x1024_d1 i = _
  refine (concatenate_pair_apply_left (t := S1024x1024) 1 (s₁ := S1024x512) (s₂ := S1024x512) _ _ _ i rfl j fun x => ?_).trans ?_
  · match x with
    | ⟨0, _⟩ => exact h0
    | ⟨1, _⟩ => exact h1
  · change d j * k0_pay1 (F := Ideal) b j * (g j * k0_pay2 (F := Ideal) g j) = _
    rw [sig_apply b j B hb, sig_apply' g j G hg, hg, hd]
    norm_cast

include ha hb hg hd in
/-- The right half. -/
theorem db_apply (i : S1024x1024.Idx) (h0 : (j 0).val = (i 0).val) (h1 : (j 1).val + 512 = (i 1).val) :
    k0_pay4 (F := Ideal) a b g d i = ((db C A B G : ℝ) : EReal) := by
  unfold k0_pay4
  change concatenate S1024x1024 1 [⟨S1024x512, mulf (mulf d (k0_pay1 (F := Ideal) b)) (mulf g (k0_pay2 (F := Ideal) g))⟩,
    ⟨S1024x512, mulf (mulf (mulf (mulf d a) (k0_pay1 (F := Ideal) b)) (subf (broadcast S1024x512 (FloatOps.ofBits (F := Ideal) .f32 0x3F800000#32))
      (k0_pay1 (F := Ideal) b))) (mulf g (k0_pay2 (F := Ideal) g))⟩] concatenates_S1024x512_S1024x512_S1024x1024_d1 i = _
  refine (concatenate_pair_apply_right (t := S1024x1024) 1 (s₁ := S1024x512) (s₂ := S1024x512) _ _ _ i rfl rfl j (fun x hx => ?_) h1).trans ?_
  · match x with
    | ⟨0, _⟩ => exact h0
    | ⟨1, _⟩ => exact absurd rfl hx
  · change d j * a j * k0_pay1 (F := Ideal) b j * (Ideal.ofBits .f32 0x3F800000#32 - k0_pay1 (F := Ideal) b j)
      * (g j * k0_pay2 (F := Ideal) g j) = _
    rw [sig_apply b j B hb, sig_apply' g j G hg, ha, hg, hd, ofBits_one]
    norm_cast

end Payload

variable (m : (ℓ : Loc nD τ sig) → Buf (Elt Ideal) ℓ) (c : Dev nD) (T Z C : ℕ → ℕ → ℝ)

/-- The three arguments hold finite values. -/
structure Holds : Prop where
  t : ∀ i : S2048x1024.Idx, m ((c : Thread nD τ).loc main_arg0) i = ((T (i 0).val (i 1).val : ℝ) : EReal)
  z : ∀ i : S2048x4096.Idx, m ((c : Thread nD τ).loc main_arg1) i = ((Z (i 0).val (i 1).val : ℝ) : EReal)
  d : ∀ i : S2048x1536.Idx, m ((c : Thread nD τ).loc main_arg2) i = ((C (i 0).val (i 1).val : ℝ) : EReal)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 1 :=
  (by decide +kernel : ∀ t : Fin grid0.N, win0_1.index t 0 = t.val ∧ win0_1.index t 1 = 1)
theorem idx_2 : ∀ t : Fin cfg0.N, win0_2.index t 0 = t.val ∧ win0_2.index t 1 = 7 :=
  (by decide +kernel : ∀ t : Fin grid0.N, win0_2.index t 0 = t.val ∧ win0_2.index t 1 = 7)
theorem idx_3 : ∀ t : Fin cfg0.N, win0_3.index t 0 = t.val ∧ win0_3.index t 1 = 2 :=
  (by decide +kernel : ∀ t : Fin grid0.N, win0_3.index t 0 = t.val ∧ win0_3.index t 1 = 2)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_5 : ∀ t : Fin cfg0.N, win0_5.index t 0 = t.val ∧ win0_5.index t 1 = 0 :=
  (by decide +kernel : ∀ t : Fin grid0.N, win0_5.index t 0 = t.val ∧ win0_5.index t 1 = 0)

variable {m c T Z C} (H : Holds m c T Z C)
include H

/-- The left factor's block at point `t`. -/
theorem block_a (t : Fin cfg0.N) (j : S1024x512.Idx) :
    iblk m c 0 t j = ((T (1024 * t.val + (j 0).val) (j 1).val : ℝ) : EReal) := by
  unfold iblk
  rw [View.read_apply]
  show m ((c : Thread nD τ).loc main_arg0) _ = _
  refine (H.t _).trans (congrArg (fun r : ℝ => (r : EReal)) (congrArg₂ T ?_ ?_))
  · exact Cert.Product.place (idx_0 t).1
  · exact Cert.Product.start (idx_0 t).2

/-- The right factor's block. -/
theorem block_b (t : Fin cfg0.N) (j : S1024x512.Idx) :
    iblk m c 1 t j = ((T (1024 * t.val + (j 0).val) (512 + (j 1).val) : ℝ) : EReal) := by
  unfold iblk
  rw [View.read_apply]
  show m ((c : Thread nD τ).loc main_arg0) _ = _
  refine (H.t _).trans (congrArg (fun r : ℝ => (r : EReal)) (congrArg₂ T ?_ ?_))
  · exact Cert.Product.place (idx_1 t).1
  · exact Cert.Product.place (idx_1 t).2

/-- The gate's block. -/
theorem block_g (t : Fin cfg0.N) (j : S1024x512.Idx) :
    iblk m c 2 t j = ((Z (1024 * t.val + (j 0).val) (3584 + (j 1).val) : ℝ) : EReal) := by
  unfold iblk
  rw [View.read_apply]
  show m ((c : Thread nD τ).loc main_arg1) _ = _
  refine (H.z _).trans (congrArg (fun r : ℝ => (r : EReal)) (congrArg₂ Z ?_ ?_))
  · exact Cert.Product.place (idx_2 t).1
  · exact Cert.Product.place (idx_2 t).2

/-- The gradient's block. -/
theorem block_d (t : Fin cfg0.N) (j : S1024x512.Idx) :
    iblk m c 3 t j = ((C (1024 * t.val + (j 0).val) (1024 + (j 1).val) : ℝ) : EReal) := by
  unfold iblk
  rw [View.read_apply]
  show m ((c : Thread nD τ).loc main_arg2) _ = _
  refine (H.d _).trans (congrArg (fun r : ℝ => (r : EReal)) (congrArg₂ C ?_ ?_))
  · exact Cert.Product.place (idx_3 t).1
  · exact Cert.Product.place (idx_3 t).2

/-- The array of the factors' gradient after the run. -/
theorem arr_dt : (dats m 0 c).arrAt 4 cfg0.N = fun i : S2048x1024.Idx => ((dt T Z C (i 0).val (i 1).val : ℝ) : EReal) := by
  refine (dats m 0 c).arrAt_eq_of_covers 4 (fun i : S2048x1024.Idx => ((dt T Z C (i 0).val (i 1).val : ℝ) : EReal))
    (by decide +kernel) fun t _ j => ?_
  show (dats m 0 c).after 4 t j = _
  rw [after0_4]
  frame_out
  obtain ⟨p, q, rfl⟩ : ∃ (p q : Fin 1024), j = ValueIdx.ix2 p q := ⟨j 0, j 1, funext fun a => by
    match a with
    | ⟨0, _⟩ => rfl
    | ⟨1, _⟩ => rfl⟩
  have e : ∀ r : ℝ, r = dt T Z C (1024 * t.val + p.val) q.val → (r : EReal)
      = ((dt T Z C (win0_4.index t 0 * 1024 + 1 * p.val) (win0_4.index t 1 * 1024 + 1 * q.val) : ℝ) : EReal) := fun r h => by
    rw [h, Cert.Product.place (idx_4 t).1, Cert.Product.start (idx_4 t).2]
  by_cases hq : q.val < 512
  · refine (da_apply _ _ _ _ (ValueIdx.ix2 p ⟨q.val, hq⟩) _ _ _ (block_b H t _) (block_g H t _) (block_d H t _) _ rfl rfl).trans (e _ ?_)
    exact (if_pos hq).symm
  · have hq' : q.val - 512 < 512 := by omega
    refine (db_apply _ _ _ _ (ValueIdx.ix2 p ⟨q.val - 512, hq'⟩) _ _ _ _ (block_a H t _) (block_b H t _) (block_g H t _)
      (block_d H t _) _ rfl ?_).trans (e _ ?_)
    · show q.val - 512 + 512 = q.val
      omega
    · exact (if_neg hq).symm

/-- The array of the gate's gradient after the run. -/
theorem arr_dz : (dats m 0 c).arrAt 5 cfg0.N = fun i : S2048x512.Idx => ((dz T Z C (i 0).val (i 1).val : ℝ) : EReal) := by
  refine (dats m 0 c).arrAt_eq_of_covers 5 (fun i : S2048x512.Idx => ((dz T Z C (i 0).val (i 1).val : ℝ) : EReal))
    (by decide +kernel) fun t _ j => ?_
  show (dats m 0 c).after 5 t j = _
  rw [after0_5]
  frame_out
  refine (dg_apply _ _ _ _ j _ _ _ _ (block_a H t j) (block_b H t j) (block_g H t j) (block_d H t j)).trans ?_
  show _ = ((dz T Z C (win0_5.index t 0 * 1024 + 1 * (j 0).val) (win0_5.index t 1 * 512 + 1 * (j 1).val) : ℝ) : EReal)
  rw [Cert.Product.place (idx_5 t).1, Cert.Product.start (idx_5 t).2]
  rfl

end Cert.Gate.Block

end
-- ==== Proof.Gate.Ref.lean ====
/-
  What the reference of the gated unit's backward pass computes (hand-written, untrusted).
-/
module

public import proofs.«01_k».proof.Proof.Gate.Math
public import proofs.«01_k».proof.Proof.Gen.GateRefIdeal.Read

@[expose] public section

set_option backward.isDefEq.respectTransparency.types false
set_option backward.isDefEq.respectTransparency false

noncomputable section

namespace Cert.Gate.Ref

open Idealize.ShloMosaic Idealize.ShloMosaic.TcCoe Idealize.SL.Sem Idealize.ShloMosaic.ValueIdx
open Cert.GateRefIdeal Cert.GateRefIdeal.Gen Cert.GateRefIdeal.Read Cert.Gate.Math Cert.Reals

variable (x0 : FVec Ideal S2048x1024 .f32) (x1 : FVec Ideal S2048x4096 .f32) (x2 : FVec Ideal S2048x1536 .f32) (T Z C : ℕ → ℕ → ℝ)
  (h0 : ∀ i, x0 i = ((T (i 0).val (i 1).val : ℝ) : EReal)) (h1 : ∀ i, x1 i = ((Z (i 0).val (i 1).val : ℝ) : EReal))
  (h2 : ∀ i, x2 i = ((C (i 0).val (i 1).val : ℝ) : EReal)) (i : S2048x512.Idx)

include h0 in
theorem v8_eq : val_main_v8 (F := Ideal) x0 i = ((sig (T (i 0).val (512 + (i 1).val)) : ℝ) : EReal) := by
  rw [val_main_v8_apply, val_main_v7_apply, val_main_cst_0_apply, val_main_v6_apply, val_main_v5_apply, val_main_cst_apply,
    val_main_v4_apply, val_main_v3_apply, val_main_v1_apply, h0]
  exact logistic _

include h1 in
theorem c5_eq : val_main_v13_2 (F := Ideal) x1 i = ((sig (Z (i 0).val (3584 + (i 1).val)) : ℝ) : EReal) := by
  rw [val_main_v13_2_apply, val_main_call0_v4_apply, val_main_call0_cst_0_apply, val_main_call0_v3_apply,
    val_main_call0_v2_apply, val_main_call0_cst_apply, val_main_call0_v1_apply, val_main_call0_v0_apply, val_main_v2_apply, h1]
  exact logistic _

include h0 in
theorem v11_eq : val_main_v11 (F := Ideal) x0 i
    = ((sig (T (i 0).val (512 + (i 1).val)) * (1 - sig (T (i 0).val (512 + (i 1).val))) : ℝ) : EReal) := by
  rw [val_main_v11_apply, val_main_v10_apply, val_main_v9_apply, val_main_cst_1_apply, v8_eq x0 T h0]
  change _ * (Ideal.ofBits .f32 0x3F800000#32 - _) = _
  rw [ofBits_one]
  norm_cast

include h1 in
theorem c8_eq : val_main_v13_1 (F := Ideal) x1 i
    = ((sig (Z (i 0).val (3584 + (i 1).val)) * (1 - sig (Z (i 0).val (3584 + (i 1).val))) : ℝ) : EReal) := by
  rw [val_main_v13_1_apply, val_main_call0_v7_apply, val_main_call0_v6_apply, val_main_call0_cst_1_apply, c5_eq x1 Z h1]
  change _ * (Ideal.ofBits .f32 0x3F800000#32 - _) = _
  rw [ofBits_one]
  norm_cast

include h0 in
theorem v12_eq : val_main_v12 (F := Ideal) x0 i = ((T (i 0).val (i 1).val * sig (T (i 0).val (512 + (i 1).val)) : ℝ) : EReal) := by
  rw [val_main_v12_apply, v8_eq x0 T h0, val_main_v0_apply, h0]
  exact (EReal.coe_mul _ _).symm

include h1 h2 in
theorem v17_eq : val_main_v17 (F := Ideal) x1 x2 i
    = ((C (i 0).val (1024 + (i 1).val) * silu (Z (i 0).val (3584 + (i 1).val)) : ℝ) : EReal) := by
  rw [val_main_v17_apply, val_main_v15_apply, h2, val_main_v13_0_apply, c5_eq x1 Z h1, val_main_v2_apply, h1]
  exact (congrArg (fun w : EReal => _ * w) (EReal.coe_mul _ _).symm).trans (EReal.coe_mul _ _).symm

include h0 h1 h2 in
/-- The second result: the gradient of the gate. -/
theorem v18_eq : val_main_v18 (F := Ideal) x0 x1 x2 i = ((dz T Z C (i 0).val (i 1).val : ℝ) : EReal) := by
  rw [val_main_v18_apply, val_main_call1_v1_apply, val_main_call1_v2_apply, val_main_call1_v0_apply, val_main_v16_apply,
    v12_eq x0 T h0, c5_eq x1 Z h1, c8_eq x1 Z h1, val_main_v15_apply, h2, val_main_v2_apply, h1]
  change ((_ : EReal) * _ * _ + _ * (_ * _) * _) = _
  norm_cast
  unfold dz dg siluSlope
  show T (i 0).val (i 1).val * sig (T (i 0).val (512 + (i 1).val)) * C (i 0).val (1024 + (i 1).val) * sig (Z (i 0).val (3584 + (i 1).val))
    + Z (i 0).val (3584 + (i 1).val) * (T (i 0).val (i 1).val * sig (T (i 0).val (512 + (i 1).val)) * C (i 0).val (1024 + (i 1).val))
      * (sig (Z (i 0).val (3584 + (i 1).val)) * (1 - sig (Z (i 0).val (3584 + (i 1).val)))) = _
  ring

include h0 h1 h2 in
/-- The first result: the gradients of the two factors. -/
theorem v23_eq (i : S2048x1024.Idx) : val_main_v23 (F := Ideal) x0 x1 x2 i = ((dt T Z C (i 0).val (i 1).val : ℝ) : EReal) := by
  rw [val_main_v23_apply]
  obtain ⟨p, q, rfl⟩ : ∃ (p : Fin 2048) (q : Fin 1024), i = ValueIdx.ix2 p q := ⟨i 0, i 1, funext fun a => by
    match a with
    | ⟨0, _⟩ => rfl
    | ⟨1, _⟩ => rfl⟩
  unfold val_main_v22
  by_cases hq : q.val < 512
  · refine (concatenate_pair_apply_left (t := S2048x1024) 1 (s₁ := S2048x512) (s₂ := S2048x512) _ _ _ (ValueIdx.ix2 p q) rfl
      (ValueIdx.ix2 p ⟨q.val, hq⟩) fun x => ?_).trans ?_
    · match x with
      | ⟨0, _⟩ => rfl
      | ⟨1, _⟩ => rfl
    · rw [val_main_v20_apply, v17_eq x1 x2 Z C h1 h2, v8_eq x0 T h0]
      refine (EReal.coe_mul _ _).symm.trans (congrArg (fun r : ℝ => (r : EReal)) ?_)
      refine Eq.trans ?_ (if_pos hq).symm
      unfold da
      show C p.val (1024 + q.val) * silu (Z p.val (3584 + q.val)) * sig (T p.val (512 + q.val)) = _
      ring
  · have hq' : q.val - 512 < 512 := by omega
    refine (concatenate_pair_apply_right (t := S2048x1024) 1 (s₁ := S2048x512) (s₂ := S2048x512) _ _ _ (ValueIdx.ix2 p q) rfl rfl
      (ValueIdx.ix2 p ⟨q.val - 512, hq'⟩) (fun x hx => ?_) ?_).trans ?_
    · match x with
      | ⟨0, _⟩ => rfl
      | ⟨1, _⟩ => exact absurd rfl hx
    · show q.val - 512 + 512 = q.val
      omega
    · rw [val_main_v21_apply, val_main_v19_apply, v17_eq x1 x2 Z C h1 h2, v11_eq x0 T h0, val_main_v0_apply, h0]
      change ((_ : EReal) * _) * _ = _
      rw [← EReal.coe_mul, ← EReal.coe_mul]
      refine congrArg (fun r : ℝ => (r : EReal)) ?_
      refine Eq.trans ?_ (if_neg hq).symm
      unfold db
      show T p.val (q.val - 512) * (C p.val (1024 + (q.val - 512)) * silu (Z p.val (3584 + (q.val - 512))))
        * (sig (T p.val (512 + (q.val - 512))) * (1 - sig (T p.val (512 + (q.val - 512))))) = _
      ring

end Cert.Gate.Ref

end
-- ==== Proof.Gate.Claim.lean ====
/-
  The gated unit's backward pass: its kernel and its reference leave the same arrays, and the reference's frame
  (hand-written, untrusted).
-/
module

public import proofs.«01_k».proof.Defs
public import proofs.«01_k».proof.Proof.Gate.Block
public import proofs.«01_k».proof.Proof.Gate.Ref
public import proofs.«01_k».proof.Proof.Gen.GateRefIdeal.Run
public import proofs.«01_k».proof.Proof.Gen.Pre_gate_finite

@[expose] public section

set_option backward.isDefEq.respectTransparency.types false
set_option backward.isDefEq.respectTransparency false

noncomputable section

namespace Cert.Gate.Result

open Idealize.ShloMosaic Idealize.ShloMosaic.TcCoe Idealize.SL.Sem
open Cert.Gate.Math Cert.Reals

/-- The reference's run ends with its arguments as they were; it declares no semaphore, so every counter is zero. -/
theorem frame_ref (m : (ℓ : Loc Cert.GateRefIdeal.nD Cert.GateRefIdeal.τ Cert.GateRefIdeal.sig) → Buf (Elt Ideal) ℓ)
    (g : Dev Cert.GateRefIdeal.nD → PrngReg) :
    θ_run (Cert.GateRefIdeal.defs (F := Ideal)) (onTc (τ := Cert.GateRefIdeal.τ) (Cert.GateRefIdeal.main (F := Ideal)))
      ⟨m, fun _ => 0, g⟩ fun r => (∀ c : Dev Cert.GateRefIdeal.nD,
        r.2.mem ((c.tc : Thread Cert.GateRefIdeal.nD Cert.GateRefIdeal.τ).loc Cert.GateRefIdeal.main_arg0)
            = m ((c.tc : Thread Cert.GateRefIdeal.nD Cert.GateRefIdeal.τ).loc Cert.GateRefIdeal.main_arg0)
        ∧ r.2.mem ((c.tc : Thread Cert.GateRefIdeal.nD Cert.GateRefIdeal.τ).loc Cert.GateRefIdeal.main_arg1)
            = m ((c.tc : Thread Cert.GateRefIdeal.nD Cert.GateRefIdeal.τ).loc Cert.GateRefIdeal.main_arg1)
        ∧ r.2.mem ((c.tc : Thread Cert.GateRefIdeal.nD Cert.GateRefIdeal.τ).loc Cert.GateRefIdeal.main_arg2)
            = m ((c.tc : Thread Cert.GateRefIdeal.nD Cert.GateRefIdeal.τ).loc Cert.GateRefIdeal.main_arg2))
      ∧ r.2.sem = fun _ => 0 :=
  (θ_run Cert.GateRefIdeal.defs _ _).mono
    (fun r h => ⟨fun c => (h c).2.2, sem_eq_zero_of_no_sems (by decide) r.2⟩) (Cert.GateRefIdeal.Value.run m g)

/-- Under the precondition the three arguments of a device hold real numbers. -/
theorem reals (m : (ℓ : Loc Cert.GateIdeal.nD Cert.GateIdeal.τ Cert.GateIdeal.sig) → Buf (Elt Ideal) ℓ)
    (h : Cert.Pre_GateIdeal_gate_finite m) (c : Dev Cert.GateIdeal.nD) :
    ∃ T Z C : ℕ → ℕ → ℝ, Cert.Gate.Block.Holds m c T Z C := by
  obtain ⟨h0, h1, h2⟩ := h c
  obtain ⟨T, hT⟩ := reals_of_two (fun i : Cert.GateIdeal.S2048x1024.Idx => (i 0).val) (fun i => (i 1).val)
    (fun i j p q => funext fun a => Fin.ext (by fin_cases a; exacts [p, q])) _
    (fun i => real_of_abs_lt _ (congrFun h0 i))
  obtain ⟨Z, hZ⟩ := reals_of_two (fun i : Cert.GateIdeal.S2048x4096.Idx => (i 0).val) (fun i => (i 1).val)
    (fun i j p q => funext fun a => Fin.ext (by fin_cases a; exacts [p, q])) _
    (fun i => real_of_abs_lt _ (congrFun h1 i))
  obtain ⟨C, hC⟩ := reals_of_two (fun i : Cert.GateIdeal.S2048x1536.Idx => (i 0).val) (fun i => (i 1).val)
    (fun i j p q => funext fun a => Fin.ext (by fin_cases a; exacts [p, q])) _
    (fun i => real_of_abs_lt _ (congrFun h2 i))
  exact ⟨T, Z, C, hT, hZ, hC⟩

/-- The kernel and the reference leave the same gradients. -/
theorem algebraic : Cert.algebraic_GateIdeal_GateRefIdeal_pre_gate_finite := by
  intro m g m' g' hpre hagree
  refine ⟨fun c => (Cert.GateIdeal.Gen.dats m 0 c).arrAt 4 Cert.GateIdeal.cfg0.N,
    fun c => (Cert.GateIdeal.Gen.dats m 0 c).arrAt 5 Cert.GateIdeal.cfg0.N,
    Cert.GateIdeal.Value.run_blocks m g,
    (θ_run Cert.GateRefIdeal.defs _ _).mono (fun r h c => ?_) (Cert.GateRefIdeal.Value.run m' g')⟩
  obtain ⟨T, Z, C, H⟩ := reals m hpre c
  obtain ⟨e0, e1, e2⟩ := hagree c
  obtain ⟨r0, r1, k⟩ := h c
  refine ⟨r0.trans ?_, r1.trans ?_, k⟩
  · rw [Cert.GateRefIdeal.Read.val_main_v23_eq, e0, e1, e2]
    refine (funext fun i => ?_).trans (Cert.Gate.Block.arr_dt H).symm
    exact Cert.Gate.Ref.v23_eq _ _ _ T Z C H.t H.z H.d i
  · rw [Cert.GateRefIdeal.Read.val_main_v18_eq, e0, e1, e2]
    refine (funext fun i => ?_).trans (Cert.Gate.Block.arr_dz H).symm
    exact Cert.Gate.Ref.v18_eq _ _ _ T Z C H.t H.z H.d i

end Cert.Gate.Result

end
-- ==== Proof.Sgu.Math.lean ====
/-
  The gradient of the spatial gating unit over the real numbers (hand-written, untrusted).

  A row of 1024 values is normalised, and within each run of 128 rows each group of 256 channels is mixed over the rows
  by a lower-triangular matrix of its own, a bias is added, and the result multiplies `u · silu g`. Both programs are
  shown to compute the functions below; nothing here mentions either.
-/
module

public import proofs.«01_k».proof.Proof.Rms.Math
public import proofs.«01_k».proof.Proof.Gate.Math

@[expose] public section

noncomputable section

namespace Cert.Sgu.Math

open Finset Idealize.ShloMosaic Cert.Reals Cert.Rms.Math Cert.Gate.Math

/-- The arguments: the three branches `U`, `V`, `G`, the gradient `C`, the norm's gains `LG` and biases `LB`, the mixing
    matrices `W` (group, row, row) and the mixing biases `B` (group, row). -/
structure Data where
  U : ℕ → ℕ → ℝ
  V : ℕ → ℕ → ℝ
  G : ℕ → ℕ → ℝ
  C : ℕ → ℕ → ℝ
  LG : ℕ → ℝ
  LB : ℕ → ℝ
  W : ℕ → ℕ → ℕ → ℝ
  B : ℕ → ℕ → ℝ

namespace Data

variable (X : Data)

/-- A row's mean. -/
def mean (i : ℕ) : ℝ := (∑ k ∈ range 1024, X.V i k) / 1024

/-- A row less its mean. -/
def vc (i k : ℕ) : ℝ := X.V i k - X.mean i

/-- The reciprocal of a row's standard deviation. -/
def rs (i : ℕ) : ℝ := scale (X.vc i)

/-- The normalised rows, before gains and biases. -/
def xh (i k : ℕ) : ℝ := X.vc i k * X.rs i

/-- The normalised rows. -/
def vn (i k : ℕ) : ℝ := X.xh i k * X.LG k + X.LB k

/-- The lower triangle of a group's mixing matrix. -/
def wm (g a b : ℕ) : ℝ := if b ≤ a then X.W g a b else 0

/-- The mixed rows. -/
def mix (i k : ℕ) : ℝ :=
  (∑ b ∈ range 128, X.wm (k / 256) (i % 128) b * X.vn (128 * (i / 128) + b) k) + X.B (k / 256) (i % 128)

/-- The gradient in `U`. -/
def du (i k : ℕ) : ℝ := X.C i k * X.mix i k * silu (X.G i k)

/-- The gradient in `G`. -/
def dg (i k : ℕ) : ℝ := X.C i k * X.U i k * X.mix i k * siluSlope (X.G i k)

/-- The gradient of the mixed rows. -/
def dm (i k : ℕ) : ℝ := X.C i k * X.U i k * silu (X.G i k)

/-- The gradient of the normalised rows. -/
def dvn (i k : ℕ) : ℝ := ∑ a ∈ range 128, X.wm (k / 256) a (i % 128) * X.dm (128 * (i / 128) + a) k

/-- The gradient of the rows before gains. -/
def dxh (i k : ℕ) : ℝ := X.dvn i k * X.LG k

/-- The gradient in `V`. -/
def dv (i k : ℕ) : ℝ := X.rs i * (X.dxh i k - (∑ l ∈ range 1024, X.dxh i l) / 1024
  - X.xh i k * ((∑ l ∈ range 1024, X.dxh i l * X.xh i l) / 1024))

/-- Run `n`'s share of the gradient of the mixing matrix of group `g`, zero above the diagonal. -/
def dwAt (n g a b : ℕ) : ℝ :=
  if b ≤ a then ∑ c ∈ range 256, X.dm (128 * n + a) (256 * g + c) * X.vn (128 * n + b) (256 * g + c) else 0

/-- Run `n`'s share of the gradient of the mixing biases: row `a`, one lane for each of the four groups. -/
def dbAt (n a l : ℕ) : ℝ := if l < 4 then ∑ c ∈ range 256, X.dm (128 * n + a) (256 * l + c) else 0

/-- Run `n`'s share of the gradient of the gains. -/
def dlgAt (n k : ℕ) : ℝ := ∑ a ∈ range 128, X.dvn (128 * n + a) k * X.xh (128 * n + a) k

/-- Run `n`'s share of the gradient of the norm's biases. -/
def dlbAt (n k : ℕ) : ℝ := ∑ a ∈ range 128, X.dvn (128 * n + a) k

/-- The gradients of the parameters after the first `N` runs. -/
def dw (N g a b : ℕ) : ℝ := ∑ n ∈ range N, X.dwAt n g a b
def db (N a l : ℕ) : ℝ := ∑ n ∈ range N, X.dbAt n a l
def dlg (N k : ℕ) : ℝ := ∑ n ∈ range N, X.dlgAt n k
def dlb (N k : ℕ) : ℝ := ∑ n ∈ range N, X.dlbAt n k

/-- The mixed rows in run `n`, by the row's place in it and the channel's place in its group. -/
theorem mix_at (n a o c : ℕ) (ha : a < 128) (ho : o % 256 = 0) (hc : c < 256) : X.mix (128 * n + a) (o + c)
    = (∑ b ∈ range 128, X.wm (o / 256) a b * X.vn (128 * n + b) (o + c)) + X.B (o / 256) a := by
  unfold mix
  rw [show (128 * n + a) % 128 = a by omega, show (128 * n + a) / 128 = n by omega, show (o + c) / 256 = o / 256 by omega]

/-- The same of the gradient of the normalised rows. -/
theorem dvn_at (n a o c : ℕ) (ha : a < 128) (ho : o % 256 = 0) (hc : c < 256) : X.dvn (128 * n + a) (o + c)
    = ∑ b ∈ range 128, X.wm (o / 256) b a * X.dm (128 * n + b) (o + c) := by
  unfold dvn
  rw [show (128 * n + a) % 128 = a by omega, show (128 * n + a) / 128 = n by omega, show (o + c) / 256 = o / 256 by omega]

/-- A row less its mean sums to zero. -/
theorem sum_vc (i : ℕ) : ∑ k ∈ range 1024, X.vc i k = 0 := by
  unfold vc mean
  rw [sum_sub_distrib, sum_const, card_range]
  simp only [nsmul_eq_mul, Nat.cast_ofNat]
  ring

/-- The gradient in `V` written out through the mean and the variance. -/
theorem dv_expanded (i k : ℕ) (A : ℝ)
    (hA : A = (∑ l ∈ range 1024, X.vc i l * X.dxh i l) * (-(1 / 2) * (X.rs i / power (X.vc i))) / 1024) :
    X.dxh i k * X.rs i + A * (2 * X.vc i k)
      + ((∑ l ∈ range 1024, -(X.dxh i l * X.rs i)) + (∑ l ∈ range 1024, -(A * (2 * X.vc i l)))) / 1024 = X.dv i k := by
  have h1 : ∑ l ∈ range 1024, -(X.dxh i l * X.rs i) = -((∑ l ∈ range 1024, X.dxh i l) * X.rs i) := by
    rw [sum_neg_distrib, sum_mul]
  have h2 : ∑ l ∈ range 1024, -(A * (2 * X.vc i l)) = 0 := by
    rw [sum_neg_distrib, ← mul_sum, ← mul_sum, X.sum_vc]; ring
  have h3 : ∑ l ∈ range 1024, X.dxh i l * X.xh i l = (∑ l ∈ range 1024, X.vc i l * X.dxh i l) * X.rs i := by
    rw [sum_mul]
    exact sum_congr rfl fun l _ => by unfold xh; ring
  have hs : X.rs i / power (X.vc i) = X.rs i * X.rs i * X.rs i := scale_cube _
  unfold dv
  rw [h1, h2, h3, hA, hs]
  unfold xh
  ring

end Data

/-- A sum over `a · b` terms, as `a` sums of `b`. -/
theorem sum_runs (f : ℕ → ℝ) (a b : ℕ) : ∑ k ∈ range (a * b), f k = ∑ i ∈ range a, ∑ j ∈ range b, f (b * i + j) := by
  induction a with
  | zero => simp
  | succ a ih => rw [sum_range_succ, ← ih, show (a + 1) * b = a * b + b by ring, sum_range_add, mul_comm b a]

end Cert.Sgu.Math

end
-- ==== Proof.Sgu.Block.lean ====
/-
  What the spatial gate's backward kernel computes on one run of 128 rows: the normalisation, and the mixing of one group
  of 256 channels (hand-written, untrusted).

  The kernel's text repeats the same operations once per group. The lemmas of the second half speak of one group whose
  channels start at `o`, for any matrix and blocks with the stated entries.
-/
module

public import proofs.«01_k».proof.Proof.Sgu.Math
public import proofs.«01_k».proof.Proof.Gen.SguIdeal.Skeleton

@[expose] public section

set_option backward.isDefEq.respectTransparency.types false
set_option backward.isDefEq.respectTransparency false

noncomputable section

namespace Cert.Sgu.Block

open Idealize.ShloMosaic Idealize.ShloMosaic.ValueIdx Cert.SguIdeal Cert.SguIdeal.Gen Cert.Reals Cert.Rms.Math Cert.Gate.Math
open Cert.Sgu.Math Finset

/-- A column spread over a row's 1024 entries. -/
theorem spread_apply (v : FVec Ideal S128x1 .f32) (j : S128x1024.Idx) :
    broadcastTo S128x1024 v broadcasts_S128x1_S128x1024 j = v (ValueIdx.ix2 (j 0) 0) :=
  broadcastTo_apply _ _ j _ fun a => by
    match a with
    | ⟨0, _⟩ => rfl
    | ⟨1, _⟩ => rfl

/-- One row spread over the block's 128 rows. -/
theorem rows_apply (v : FVec Ideal S1x1024 .f32) (j : S128x1024.Idx) :
    broadcastTo S128x1024 v broadcasts_S1x1024_S128x1024 j = v (ValueIdx.ix2 0 (j 1)) :=
  broadcastTo_apply _ _ j _ fun a => by
    match a with
    | ⟨0, _⟩ => rfl
    | ⟨1, _⟩ => rfl

/-- A row's sum, kept as a column, over the extended reals. -/
theorem row_entry (v : FVec Ideal S128x1024 .f32) (i : Fin 128) (z : Fin 1) :
    shapeCast S128x1 (multiReduction .add [1] S128 v 0x00000000#32 reduces_S128x1024_S128 (.inl rfl) rfl) shapeCasts_S128_S128x1
        (ValueIdx.ix2 i z) = ∑ k : Fin 1024, v (ValueIdx.ix2 i k) := by
  refine (shapeCast_apply _ _ _ (ValueIdx.ix1 i) ?_).trans ?_
  · rw [Shape.rowMajor_val_one, Shape.rowMajor_val_two]
    show i.val = i.val * 1 + z.val
    omega
  · rw [Ideal.multiReduction_add_single]
    refine sum_congr rfl fun k _ => congrArg v (funext fun a => ?_)
    match a with
    | ⟨0, _⟩ => rfl
    | ⟨1, _⟩ => rfl

/-- A row's sum, kept as a column. -/
theorem row_sum (v : FVec Ideal S128x1024 .f32) (f : ℕ → ℝ) (i : Fin 128) (z : Fin 1)
    (h : ∀ k : Fin 1024, v (ValueIdx.ix2 i k) = ((f k.val : ℝ) : EReal)) :
    shapeCast S128x1 (multiReduction .add [1] S128 v 0x00000000#32 reduces_S128x1024_S128 (.inl rfl) rfl) shapeCasts_S128_S128x1
        (ValueIdx.ix2 i z) = ((∑ k ∈ range 1024, f k : ℝ) : EReal) :=
  (row_entry v i z).trans (sum_fin_coe _ f h)

/-- The sum over a row's 256 channels of one group, kept as a column. -/
theorem group_sum (v : FVec Ideal S128x256 .f32) (f : ℕ → ℝ) (i : Fin 128) (z : Fin 1)
    (h : ∀ k : Fin 256, v (ValueIdx.ix2 i k) = ((f k.val : ℝ) : EReal)) :
    shapeCast S128x1 (multiReduction .add [1] S128 v 0x00000000#32 reduces_S128x256_S128 (.inl rfl) rfl) shapeCasts_S128_S128x1
        (ValueIdx.ix2 i z) = ((∑ k ∈ range 256, f k : ℝ) : EReal) := by
  refine (shapeCast_apply _ _ _ (ValueIdx.ix1 i) ?_).trans ?_
  · rw [Shape.rowMajor_val_one, Shape.rowMajor_val_two]
    show i.val = i.val * 1 + z.val
    omega
  · rw [Ideal.multiReduction_add_single]
    refine sum_fin_coe _ f fun k => ?_
    rw [← h k]
    refine congrArg v (funext fun a => ?_)
    match a with
    | ⟨0, _⟩ => rfl
    | ⟨1, _⟩ => rfl

/-- A column's sum, kept as a row. -/
theorem column_sum (v : FVec Ideal S128x1024 .f32) (f : ℕ → ℝ) (j : S1x1024.Idx)
    (h : ∀ k : Fin 128, v (ValueIdx.ix2 k (j 1)) = ((f k.val : ℝ) : EReal)) :
    shapeCast S1x1024 (multiReduction .add [0] S1024 v 0x00000000#32 reduces_S128x1024_S1024 (.inl rfl) rfl) shapeCasts_S1024_S1x1024
        j = ((∑ k ∈ range 128, f k : ℝ) : EReal) := by
  refine (shapeCast_apply _ _ _ (ValueIdx.ix1 (j 1)) ?_).trans ?_
  · rw [Shape.rowMajor_val_one, Shape.rowMajor_val_two]
    have : (j 0).val < 1 := (j 0).isLt
    show (j 1).val = (j 0).val * 1024 + (j 1).val
    omega
  · rw [Ideal.multiReduction_add_single]
    refine sum_fin_coe _ f fun k => ?_
    rw [← h k]
    refine congrArg v (funext fun a => ?_)
    match a with
    | ⟨0, _⟩ => rfl
    | ⟨1, _⟩ => rfl

variable (X : Data) (n : ℕ)

section Rows

variable (v : FVec Ideal S128x1024 .f32) (lg lb : FVec Ideal S1x1024 .f32)
  (hv : ∀ j, v j = ((X.V (128 * n + (j 0).val) (j 1).val : ℝ) : EReal))
  (hlg : ∀ j, lg j = ((X.LG (j 1).val : ℝ) : EReal)) (hlb : ∀ j, lb j = ((X.LB (j 1).val : ℝ) : EReal))

include hv

/-- The rows less their means. -/
theorem vc_apply (j : S128x1024.Idx) : k0_pay6 (F := Ideal) v j = ((X.vc (128 * n + (j 0).val) (j 1).val : ℝ) : EReal) := by
  unfold k0_pay6
  rw [subf_apply, spread_apply]
  change v j - Ideal.div (shapeCast S128x1 (multiReduction .add [1] S128 v 0x00000000#32 reduces_S128x1024_S128
      (.inl rfl) rfl) shapeCasts_S128_S128x1 (ValueIdx.ix2 (j 0) 0)) (Ideal.ofBits .f32 0x44800000#32) = _
  rw [row_sum v (X.V (128 * n + (j 0).val)) (j 0) 0 fun k => hv _, ofBits_1024, div_coe_coe _ (by norm_num), hv, ← EReal.coe_sub]
  rfl

/-- The rows' factors. -/
theorem rs_apply (i : Fin 128) (z : Fin 1) : k0_pay7 (F := Ideal) v (ValueIdx.ix2 i z) = ((X.rs (128 * n + i.val) : ℝ) : EReal) := by
  unfold k0_pay7
  change Ideal.rsqrt (Ideal.div (shapeCast S128x1 (multiReduction .add [1] S128 (mulf (k0_pay6 (F := Ideal) v) (k0_pay6 (F := Ideal) v))
      0x00000000#32 reduces_S128x1024_S128 (.inl rfl) rfl) shapeCasts_S128_S128x1 (ValueIdx.ix2 i z)) (Ideal.ofBits .f32 0x44800000#32)
      + Ideal.ofBits .f32 0x358637BD#32) = _
  rw [row_sum (mulf (k0_pay6 (F := Ideal) v) (k0_pay6 (F := Ideal) v)) (fun k => X.vc (128 * n + i.val) k * X.vc (128 * n + i.val) k) i z
      fun k => by rw [mulf_apply, vc_apply X n v hv]; exact (EReal.coe_mul _ _).symm,
    ofBits_1024, ofBits_eps, div_coe_coe _ (by norm_num), ← EReal.coe_add]
  exact rsqrt_power _

/-- The normalised rows before gains. -/
theorem xh_apply (j : S128x1024.Idx) : k0_pay8 (F := Ideal) v j = ((X.xh (128 * n + (j 0).val) (j 1).val : ℝ) : EReal) := by
  unfold k0_pay8
  rw [mulf_apply, spread_apply, vc_apply X n v hv]
  exact (congrArg (fun w : EReal => _ * w) (rs_apply X n v hv (j 0) 0)).trans (EReal.coe_mul _ _).symm

include hlg hlb in
/-- The normalised rows. -/
theorem vn_apply (j : S128x1024.Idx) : k0_pay9 (F := Ideal) lg v lb j = ((X.vn (128 * n + (j 0).val) (j 1).val : ℝ) : EReal) := by
  unfold k0_pay9
  rw [ValueIdx.truncf_apply, addf_apply, mulf_apply, rows_apply, rows_apply, xh_apply X n v hv, hlg, hlb, ← EReal.coe_mul, ← EReal.coe_add]
  rfl

end Rows

/-- The lower triangle as a mask. -/
theorem mask_apply (j : S128x128.Idx) : k0_pay10 j = if (j 1).val ≤ (j 0).val then 1#1 else 0#1 := by
  have h : ∀ a b : Fin 128, IntOp.cmpi .sge (BitVec.ofNat 32 a.val) (BitVec.ofNat 32 b.val) = if b.val ≤ a.val then 1#1 else 0#1 := by
    decide +kernel
  unfold k0_pay10
  change IntOp.cmpi .sge (iota .tc S128x128 32 [0] iota_S128x128_d0_w32 j) (iota .tc S128x128 32 [1] iota_S128x128_d1_w32 j) = _
  rw [iota_single_apply, iota_single_apply]
  exact h (j 0) (j 1)

/-- A block kept below the diagonal and zero above, over the extended reals. -/
theorem below_entry (x : FVec Ideal S128x128 .f32) (f : ℕ → ℕ → EReal) (hx : ∀ j, x j = f (j 0).val (j 1).val) (j : S128x128.Idx) :
    select (α := EReal) k0_pay10 x (broadcast S128x128 (Ideal.ofBits .f32 0x00000000#32)) j
      = if (j 1).val ≤ (j 0).val then f (j 0).val (j 1).val else 0 := by
  rw [ValueIdx.select_apply, mask_apply]
  by_cases h : (j 1).val ≤ (j 0).val
  · rw [if_pos h, if_pos h]
    exact hx j
  · rw [if_neg h, if_neg h]
    exact Ideal.ofBits_zero_f32

/-- A block kept below the diagonal and zero above. -/
theorem below_apply (x : FVec Ideal S128x128 .f32) (f : ℕ → ℕ → ℝ) (hx : ∀ j, x j = ((f (j 0).val (j 1).val : ℝ) : EReal)) (j : S128x128.Idx) :
    select (α := EReal) k0_pay10 x (broadcast S128x128 (Ideal.ofBits .f32 0x00000000#32)) j
      = ((if (j 1).val ≤ (j 0).val then f (j 0).val (j 1).val else 0 : ℝ) : EReal) :=
  (below_entry x (fun a b => ((f a b : ℝ) : EReal)) hx j).trans (by split_ifs <;> rfl)

/-- The lower triangle of one group's matrix. -/
theorem wm_apply (w : FVec Ideal S1x128x128 .f32) (g : ℕ) (hw : ∀ j, w j = ((X.W g (j 1).val (j 2).val : ℝ) : EReal)) (j : S128x128.Idx) :
    k0_pay11 (F := Ideal) w j = ((X.wm g (j 0).val (j 1).val : ℝ) : EReal) := by
  unfold k0_pay11
  rw [ValueIdx.truncf_apply]
  refine below_apply _ (X.W g) (fun j => ?_) j
  refine (shapeCast_apply _ _ _ (ValueIdx.ix3 0 (j 0) (j 1)) ?_).trans (hw _)
  rw [Shape.rowMajor_val_three, Shape.rowMajor_val_two]
  show (0 * 128 + (j 0).val) * 128 + (j 1).val = (j 0).val * 128 + (j 1).val
  omega

section Group

variable (o : ℕ) (ho : o % 256 = 0)
  (vs : FVec Ideal S128x256 .bf16) (hvs : ∀ j, vs j = ((X.vn (128 * n + (j 0).val) (o + (j 1).val) : ℝ) : EReal))
  (w : FVec Ideal S128x128 .bf16) (hw : ∀ j, w j = ((X.wm (o / 256) (j 0).val (j 1).val : ℝ) : EReal))
  (b : FVec Ideal S128x256 .f32) (hb : ∀ j, b j = ((X.B (o / 256) (j 0).val : ℝ) : EReal))
  (g u d mx : FVec Ideal S128x256 .f32)
  (hg : ∀ j, g j = ((X.G (128 * n + (j 0).val) (o + (j 1).val) : ℝ) : EReal))
  (hu : ∀ j, u j = ((X.U (128 * n + (j 0).val) (o + (j 1).val) : ℝ) : EReal))
  (hd : ∀ j, d j = ((X.C (128 * n + (j 0).val) (o + (j 1).val) : ℝ) : EReal))
  (hmx : ∀ j, mx j = ((X.mix (128 * n + (j 0).val) (o + (j 1).val) : ℝ) : EReal))
  (dm : FVec Ideal S128x256 .f32) (hdm : ∀ j, dm j = ((X.dm (128 * n + (j 0).val) (o + (j 1).val) : ℝ) : EReal))
  (db : FVec Ideal S128x256 .bf16) (hdb : ∀ j, db j = ((X.dm (128 * n + (j 0).val) (o + (j 1).val) : ℝ) : EReal))

include ho hvs hw hb in
/-- The mixed rows. -/
theorem mix_apply (j : S128x256.Idx) :
    addf (matmul (F := Ideal) dot_S128x128_S128x256_S128x256_1_0_0_1_n_n none w vs (constant S128x256 .f32 0x00000000#32))
      (shapeCast S128x256 b shapeCasts_S128x256_S128x256) j
      = ((X.mix (128 * n + (j 0).val) (o + (j 1).val) : ℝ) : EReal) := by
  rw [addf_apply, shapeCast_self, hb]
  simp only [matmul]
  rw [Ideal.matmul_constant_zero_apply,
    dot_coe dot_S128x128_S128x256_S128x256_1_0_0_1_n_n 128 rfl rfl w vs j (fun c => X.wm (o / 256) (j 0).val c)
      (fun c => X.vn (128 * n + c) (o + (j 1).val)) (fun c => hw _) (fun c => hvs _), ← EReal.coe_add,
    X.mix_at n _ o _ (j 0).isLt ho (j 1).isLt]

include hg in
theorem sig_apply (j : S128x256.Idx) :
    k0_pay18 (F := Ideal) g j = ((sig (X.G (128 * n + (j 0).val) (o + (j 1).val)) : ℝ) : EReal) := by
  unfold k0_pay18
  change Ideal.div (Ideal.ofBits .f32 0x3F800000#32) (Ideal.ofBits .f32 0x3F800000#32 + Ideal.exp (Ideal.ofBits .f32 0x00000000#32 - g j)) = _
  rw [hg]
  exact logistic_sub _

include hg hd hmx in
/-- The gradient in the first branch. -/
theorem du_apply (j : S128x256.Idx) : mulf (mulf d mx) (mulf g (k0_pay18 (F := Ideal) g)) j
    = ((X.du (128 * n + (j 0).val) (o + (j 1).val) : ℝ) : EReal) := by
  rw [mulf_apply, mulf_apply, mulf_apply, sig_apply X n o g hg, hg, hd, hmx]
  norm_cast

include hg hd hu hmx in
/-- The gradient in the gate. -/
theorem dg_apply (j : S128x256.Idx) : k0_pay21 (F := Ideal) g (k0_pay18 (F := Ideal) g) (mulf (mulf d u) mx) j
    = ((X.dg (128 * n + (j 0).val) (o + (j 1).val) : ℝ) : EReal) := by
  unfold k0_pay21
  change d j * u j * mx j * (k0_pay18 (F := Ideal) g j
    * (Ideal.ofBits .f32 0x3F800000#32 + g j * (Ideal.ofBits .f32 0x3F800000#32 - k0_pay18 (F := Ideal) g j))) = _
  rw [sig_apply X n o g hg, hg, hd, hu, hmx, ofBits_one]
  norm_cast

include hg hd hu in
/-- The gradient of the mixed rows. -/
theorem dm_apply (j : S128x256.Idx) : k0_pay22 (F := Ideal) g (k0_pay18 (F := Ideal) g) u d j
    = ((X.dm (128 * n + (j 0).val) (o + (j 1).val) : ℝ) : EReal) := by
  unfold k0_pay22
  rw [mulf_apply, mulf_apply, mulf_apply, sig_apply X n o g hg, hg, hd, hu]
  norm_cast

include ho hw hdb in
/-- The gradient of the normalised rows. -/
theorem dvn_apply (j : S128x256.Idx) :
    matmul (F := Ideal) dot_S128x128_S128x256_S128x256_0_0_1_1_n_n none w db (constant S128x256 .f32 0x00000000#32) j
      = ((X.dvn (128 * n + (j 0).val) (o + (j 1).val) : ℝ) : EReal) := by
  simp only [matmul]
  rw [Ideal.matmul_constant_zero_apply,
    dot_coe dot_S128x128_S128x256_S128x256_0_0_1_1_n_n 128 rfl rfl w db j (fun c => X.wm (o / 256) c (j 0).val)
      (fun c => X.dm (128 * n + c) (o + (j 1).val)) (fun c => hw _) (fun c => hdb _),
    X.dvn_at n _ o _ (j 0).isLt ho (j 1).isLt]

include ho hvs hdb in
/-- The run's share of the gradient of the group's matrix, added to an old block. -/
theorem dw_apply (old : FVec Ideal S1x128x128 .f32) (j : S1x128x128.Idx) :
    shapeCast S1x128x128 (addf (shapeCast S128x128 old shapeCasts_S1x128x128_S128x128) (select k0_pay10
      (matmul (F := Ideal) dot_S128x256_S128x256_S128x128_1_1_0_0_n_n none db vs (constant S128x128 .f32 0x00000000#32))
      (broadcast S128x128 (Scalar.ofBits (F := Ideal) .f32 0x00000000#32)))) shapeCasts_S128x128_S1x128x128 j
      = old j + ((X.dwAt n (o / 256) (j 1).val (j 2).val : ℝ) : EReal) := by
  have h0 : (j 0).val < 1 := (j 0).isLt
  refine (shapeCast_apply _ _ _ (ValueIdx.ix2 (j 1) (j 2)) ?_).trans ?_
  · rw [Shape.rowMajor_val_three, Shape.rowMajor_val_two]
    show (j 1).val * 128 + (j 2).val = ((j 0).val * 128 + (j 1).val) * 128 + (j 2).val
    omega
  rw [addf_apply]
  congr 1
  · refine shapeCast_apply _ _ _ j ?_
    rw [Shape.rowMajor_val_three, Shape.rowMajor_val_two]
    show ((j 0).val * 128 + (j 1).val) * 128 + (j 2).val = (j 1).val * 128 + (j 2).val
    omega
  · refine below_apply _ (fun a b => ∑ c ∈ range 256, X.dm (128 * n + a) (256 * (o / 256) + c) * X.vn (128 * n + b) (256 * (o / 256) + c))
      (fun i => ?_) (ValueIdx.ix2 (j 1) (j 2))
    simp only [matmul]
    rw [Ideal.matmul_constant_zero_apply, show 256 * (o / 256) = o by omega]
    exact dot_coe dot_S128x256_S128x256_S128x128_1_1_0_0_n_n 256 rfl rfl db vs i (fun c => X.dm (128 * n + (i 0).val) (o + c))
      (fun c => X.vn (128 * n + (i 1).val) (o + c)) (fun c => hdb _) (fun c => hvs _)

/-- A column kept in one lane of 128 and zero in the others. -/
def lanePart (k : BitVec 32) (dm : FVec Ideal S128x256 .f32) : FVec Ideal S128x128 .f32 :=
  select (broadcastTo S128x128 (shapeCast S1x128 (cmpi .eq (iota .tc S1x128 32 [1] iota_S1x128_d1_w32) (broadcast S1x128 k))
      shapeCasts_S1x128_S1x128) broadcasts_S1x128_S128x128)
    (broadcastTo S128x128 (shapeCast S128x1 (shapeCast S128x1 (multiReduction .add [1] S128 dm 0x00000000#32 reduces_S128x256_S128
      (.inl rfl) rfl) shapeCasts_S128_S128x1) shapeCasts_S128x1_S128x1) broadcasts_S128x1_S128x128)
    (broadcast S128x128 (Scalar.ofBits (F := Ideal) .f32 0x00000000#32))

include hdm in
theorem lane_apply (k : ℕ) (hk : k < 4) (j : S128x128.Idx) : lanePart (BitVec.ofNat 32 k) dm j
    = ((if (j 1).val = k then ∑ c ∈ range 256, X.dm (128 * n + (j 0).val) (o + c) else 0 : ℝ) : EReal) := by
  have h : ∀ a : Fin 128, ∀ b : Fin 4, IntOp.cmpi .eq (BitVec.ofNat 32 a.val) (BitVec.ofNat 32 b.val) = if a.val = b.val then 1#1 else 0#1 := by
    decide +kernel
  unfold lanePart
  rw [ValueIdx.select_apply, shapeCast_self, shapeCast_self, broadcastTo_apply _ _ j (ValueIdx.ix2 0 (j 1)) (fun a => by
      match a with
      | ⟨0, _⟩ => rfl
      | ⟨1, _⟩ => rfl),
    broadcastTo_apply _ _ j (ValueIdx.ix2 (j 0) 0) (fun a => by
      match a with
      | ⟨0, _⟩ => rfl
      | ⟨1, _⟩ => rfl)]
  refine (congrArg (fun w : EReal => Scalar.select _ w _)
    (group_sum dm (fun c => X.dm (128 * n + (j 0).val) (o + c)) (j 0) 0 fun c => hdm _)).trans ?_
  change Scalar.select (IntOp.cmpi .eq (iota .tc S1x128 32 [1] iota_S1x128_d1_w32 (ValueIdx.ix2 0 (j 1))) (BitVec.ofNat 32 k)) _ _ = _
  rw [iota_single_apply, show IntOp.cmpi .eq (BitVec.ofNat 32 ((ValueIdx.ix2 (n0 := 1) 0 (j 1)) 1).val) (BitVec.ofNat 32 k)
    = _ from h (j 1) ⟨k, hk⟩]
  by_cases e : (j 1).val = k
  · rw [if_pos e, if_pos e]
    rfl
  · rw [if_neg e, if_neg e]
    exact Ideal.ofBits_zero_f32

end Group

/-- The run's share of the gradient of the mixing biases: the four groups' columns in the first four lanes. -/
theorem db_apply (d0 d1 d2 d3 : FVec Ideal S128x256 .f32)
    (h0 : ∀ j, d0 j = ((X.dm (128 * n + (j 0).val) (0 + (j 1).val) : ℝ) : EReal))
    (h1 : ∀ j, d1 j = ((X.dm (128 * n + (j 0).val) (256 + (j 1).val) : ℝ) : EReal))
    (h2 : ∀ j, d2 j = ((X.dm (128 * n + (j 0).val) (512 + (j 1).val) : ℝ) : EReal))
    (h3 : ∀ j, d3 j = ((X.dm (128 * n + (j 0).val) (768 + (j 1).val) : ℝ) : EReal)) (j : S128x128.Idx) :
    addf (addf (addf (addf (k0_pay16 (F := Ideal)) (lanePart (BitVec.ofNat 32 0) d0)) (lanePart (BitVec.ofNat 32 1) d1))
      (lanePart (BitVec.ofNat 32 2) d2)) (lanePart (BitVec.ofNat 32 3) d3) j = ((X.dbAt n (j 0).val (j 1).val : ℝ) : EReal) := by
  rw [addf_apply, addf_apply, addf_apply, addf_apply, lane_apply X n 0 d0 h0 0 (by decide), lane_apply X n 256 d1 h1 1 (by decide),
    lane_apply X n 512 d2 h2 2 (by decide), lane_apply X n 768 d3 h3 3 (by decide)]
  refine (congrArg (fun w : EReal => w + _ + _ + _ + _) Ideal.ofBits_zero_f32).trans ?_
  rw [zero_add, ← EReal.coe_add, ← EReal.coe_add, ← EReal.coe_add]
  refine congrArg (fun r : ℝ => (r : EReal)) ?_
  unfold Data.dbAt
  generalize (j 1).val = l
  by_cases hl : l < 4
  · rw [if_pos hl]
    interval_cases l <;> simp
  · rw [if_neg hl, if_neg (by omega), if_neg (by omega), if_neg (by omega), if_neg (by omega)]
    norm_num

section Norm

variable (p0 p1 p2 : FVec Ideal S128x256 .f32) (w : FVec Ideal S128x128 .bf16) (d3 : FVec Ideal S128x256 .bf16)

/-- The four groups' gradients of the normalised rows, side by side. -/
theorem parts_apply
    (h0 : ∀ j, p0 j = ((X.dvn (128 * n + (j 0).val) (0 + (j 1).val) : ℝ) : EReal))
    (h1 : ∀ j, p1 j = ((X.dvn (128 * n + (j 0).val) (256 + (j 1).val) : ℝ) : EReal))
    (h2 : ∀ j, p2 j = ((X.dvn (128 * n + (j 0).val) (512 + (j 1).val) : ℝ) : EReal))
    (h3 : ∀ j, matmul (F := Ideal) dot_S128x128_S128x256_S128x256_0_0_1_1_n_n none w d3 (constant S128x256 .f32 0x00000000#32) j
      = ((X.dvn (128 * n + (j 0).val) (768 + (j 1).val) : ℝ) : EReal)) (j : S128x1024.Idx) :
    k0_pay57 (F := Ideal) w p0 p1 p2 d3 j = ((X.dvn (128 * n + (j 0).val) (j 1).val : ℝ) : EReal) := by
  unfold k0_pay57
  have hj : (j 1).val < 1024 := (j 1).isLt
  have piece : ∀ (k : ℕ) (x : FVec Ideal S128x256 .f32) (pre : ℕ) (i : S128x256.Idx)
      (hx : ∀ j, x j = ((X.dvn (128 * n + (j 0).val) (pre + (j 1).val) : ℝ) : EReal)) (e0 : (i 0).val = (j 0).val)
      (e1 : pre + (i 1).val = (j 1).val), x i = ((X.dvn (128 * n + (j 0).val) (j 1).val : ℝ) : EReal) := by
    intro k x pre i hx e0 e1
    rw [hx, e0, e1]
  change concatenate S128x1024 1 [⟨S128x256, p0⟩, ⟨S128x256, p1⟩, ⟨S128x256, p2⟩, ⟨S128x256,
    matmul (F := Ideal) dot_S128x128_S128x256_S128x256_0_0_1_1_n_n none w d3 (constant S128x256 .f32 0x00000000#32)⟩]
    concatenates_S128x256_S128x256_S128x256_S128x256_S128x1024_d1 j = _
  have hb : ∀ (i : S128x256.Idx), (i 0).val = (j 0).val → ∀ b : Fin S128x256.rank, b.cast (rfl : S128x256.rank = S128x1024.rank) ≠ (1 : Fin 2) →
      (i b).val = (j (b.cast (rfl : S128x256.rank = S128x1024.rank))).val := by
    intro i e b hne
    match b with
    | ⟨0, _⟩ => exact e
    | ⟨1, _⟩ => exact absurd rfl hne
  by_cases c0 : (j 1).val < 256
  · exact (concatenate_apply_piece (t := S128x1024) 1 _ _ j 0 (by simp) S128x256 p0 rfl rfl 0 rfl (ValueIdx.ix2 (j 0) ⟨(j 1).val, c0⟩)
      (hb _ rfl) (Nat.zero_add _)).trans (piece 0 p0 0 _ h0 rfl (Nat.zero_add _))
  by_cases c1 : (j 1).val < 512
  · have e : 256 + ((j 1).val - 256) = (j 1).val := by omega
    exact (concatenate_apply_piece (t := S128x1024) 1 _ _ j 1 (by simp) S128x256 p1 rfl rfl 256 rfl
      (ValueIdx.ix2 (j 0) ⟨(j 1).val - 256, by omega⟩) (hb _ rfl) e).trans (piece 1 p1 256 _ h1 rfl e)
  by_cases c2 : (j 1).val < 768
  · have e : 512 + ((j 1).val - 512) = (j 1).val := by omega
    exact (concatenate_apply_piece (t := S128x1024) 1 _ _ j 2 (by simp) S128x256 p2 rfl rfl 512 rfl
      (ValueIdx.ix2 (j 0) ⟨(j 1).val - 512, by omega⟩) (hb _ rfl) e).trans (piece 2 p2 512 _ h2 rfl e)
  · have e : 768 + ((j 1).val - 768) = (j 1).val := by omega
    exact (concatenate_apply_piece (t := S128x1024) 1 _ _ j 3 (by simp) S128x256 _ rfl rfl 768 rfl
      (ValueIdx.ix2 (j 0) ⟨(j 1).val - 768, by omega⟩) (hb _ rfl) e).trans (piece 3 _ 768 _ h3 rfl e)

variable (hD : ∀ j, k0_pay57 (F := Ideal) w p0 p1 p2 d3 j = ((X.dvn (128 * n + (j 0).val) (j 1).val : ℝ) : EReal))
include hD

/-- The run's share of the gradient of the norm's biases, added to an old row. -/
theorem dlb_apply (old : FVec Ideal S1x1024 .f32) (j : S1x1024.Idx) :
    k0_pay58 (F := Ideal) w p0 p1 p2 d3 old j = old j + ((X.dlbAt n (j 1).val : ℝ) : EReal) := by
  unfold k0_pay58
  rw [addf_apply, shapeCast_self, column_sum _ (fun a => X.dvn (128 * n + a) (j 1).val) j fun k => hD _]
  rfl

variable (v : FVec Ideal S128x1024 .f32) (lg : FVec Ideal S1x1024 .f32)
  (hv : ∀ j, v j = ((X.V (128 * n + (j 0).val) (j 1).val : ℝ) : EReal))
  (hlg : ∀ j, lg j = ((X.LG (j 1).val : ℝ) : EReal))
include hv

/-- The run's share of the gradient of the gains, added to an old row. -/
theorem dlg_apply (old : FVec Ideal S1x1024 .f32) (j : S1x1024.Idx) :
    k0_pay59 (F := Ideal) (k0_pay8 v) w p0 p1 p2 d3 old j = old j + ((X.dlgAt n (j 1).val : ℝ) : EReal) := by
  unfold k0_pay59
  rw [addf_apply, shapeCast_self, column_sum _ (fun a => X.dvn (128 * n + a) (j 1).val * X.xh (128 * n + a) (j 1).val) j fun k => by
    rw [mulf_apply, hD, xh_apply X n v hv]; exact (EReal.coe_mul _ _).symm]
  rfl

include hlg

omit hv in
theorem dxh_apply (j : S128x1024.Idx) : k0_pay60 (F := Ideal) lg w p0 p1 p2 d3 j
    = ((X.dxh (128 * n + (j 0).val) (j 1).val : ℝ) : EReal) := by
  unfold k0_pay60
  rw [mulf_apply, rows_apply, hD, hlg, ← EReal.coe_mul]
  rfl

/-- The gradient in the second branch. -/
theorem dv_apply (j : S128x1024.Idx) :
    k0_pay1 (F := Ideal) (k0_pay7 v) (k0_pay8 v) (k0_pay60 lg w p0 p1 p2 d3) (k0_pay61 lg w p0 p1 p2 d3) j
      = ((X.dv (128 * n + (j 0).val) (j 1).val : ℝ) : EReal) := by
  have hx := dxh_apply X n p0 p1 p2 w d3 hD lg hlg
  have hm : k0_pay61 (F := Ideal) lg w p0 p1 p2 d3 j
      = (((∑ l ∈ range 1024, X.dxh (128 * n + (j 0).val) l) / 1024 : ℝ) : EReal) := by
    unfold k0_pay61
    rw [spread_apply]
    change Ideal.div (shapeCast S128x1 (multiReduction .add [1] S128 (k0_pay60 (F := Ideal) lg w p0 p1 p2 d3) 0x00000000#32
      reduces_S128x1024_S128 (.inl rfl) rfl) shapeCasts_S128_S128x1 (ValueIdx.ix2 (j 0) 0)) (Ideal.ofBits .f32 0x44800000#32) = _
    rw [row_sum _ (X.dxh (128 * n + (j 0).val)) (j 0) 0 fun k => hx _, ofBits_1024, div_coe_coe _ (by norm_num)]
  unfold k0_pay1
  rw [mulf_apply, subf_apply, subf_apply, mulf_apply, spread_apply, spread_apply, hx, hm, xh_apply X n v hv]
  change k0_pay7 (F := Ideal) v (ValueIdx.ix2 (j 0) 0) * (_ - _ * Ideal.div (shapeCast S128x1 (multiReduction .add [1] S128
    (mulf (k0_pay60 (F := Ideal) lg w p0 p1 p2 d3) (k0_pay8 (F := Ideal) v)) 0x00000000#32
      reduces_S128x1024_S128 (.inl rfl) rfl) shapeCasts_S128_S128x1 (ValueIdx.ix2 (j 0) 0)) (Ideal.ofBits .f32 0x44800000#32)) = _
  have hr := rs_apply X n v hv (j 0) 0
  have hs := row_sum (mulf (k0_pay60 (F := Ideal) lg w p0 p1 p2 d3) (k0_pay8 (F := Ideal) v))
    (fun l => X.dxh (128 * n + (j 0).val) l * X.xh (128 * n + (j 0).val) l) (j 0) 0 fun k => by
      rw [mulf_apply, hx, xh_apply X n v hv]; exact (EReal.coe_mul _ _).symm
  rw [hr, hs, ofBits_1024, div_coe_coe _ (by norm_num), ← EReal.coe_sub, ← EReal.coe_mul, ← EReal.coe_sub, ← EReal.coe_mul]
  rfl

end Norm

end Cert.Sgu.Block

end
-- ==== Proof.Sgu.Loads.lean ====
/-
  What the blocks of the spatial gate's backward kernel hold at each point of its grid (hand-written, untrusted).
-/
module

public import proofs.«01_k».proof.Proof.Sgu.Block
public import proofs.«01_k».proof.Proof.Gen.SguIdeal.Value
public import Idealize.ShloMosaic.Lib.Pipeline.ValueKit.Acc
public import Idealize.ShloMosaic.Lib.Pipeline.ValueKit.Tiles
public import Idealize.ShloMosaic.Lib.Tactic

@[expose] public section

set_option backward.isDefEq.respectTransparency.types false
set_option backward.isDefEq.respectTransparency false

noncomputable section

namespace Cert.Sgu.Loads

open Idealize.ShloMosaic Idealize.ShloMosaic.TcCoe Idealize.SL.Sem Idealize.ShloMosaic.ValueIdx
open Cert.SguIdeal Cert.SguIdeal.Gen Cert.Sgu.Math Cert.Sgu.Block Cert.Reals Finset

/-- The three branches side by side in `Z`, from columns 0, 1024 and 2048 on, and the other arguments. -/
abbrev data (Z C : ℕ → ℕ → ℝ) (LG LB : ℕ → ℝ) (W : ℕ → ℕ → ℕ → ℝ) (B : ℕ → ℕ → ℝ) : Data where
  U := Z
  V i k := Z i (1024 + k)
  G i k := Z i (2048 + k)
  C := C
  LG := LG
  LB := LB
  W := W
  B := B

variable (m : (ℓ : Loc nD τ sig) → Buf (Elt Ideal) ℓ) (c : Dev nD) (Z C : ℕ → ℕ → ℝ) (LG LB : ℕ → ℝ) (W : ℕ → ℕ → ℕ → ℝ) (B : ℕ → ℕ → ℝ)

/-- The six arguments hold finite values. -/
structure Holds : Prop where
  z : ∀ i : S2048x4096.Idx, m ((c : Thread nD τ).loc main_arg0) i = ((Z (i 0).val (i 1).val : ℝ) : EReal)
  d : ∀ i : S2048x1536.Idx, m ((c : Thread nD τ).loc main_arg1) i = ((C (i 0).val (i 1).val : ℝ) : EReal)
  lg : ∀ i : S1x1024.Idx, m ((c : Thread nD τ).loc main_arg2) i = ((LG (i 1).val : ℝ) : EReal)
  lb : ∀ i : S1x1024.Idx, m ((c : Thread nD τ).loc main_arg3) i = ((LB (i 1).val : ℝ) : EReal)
  w : ∀ i : S4x128x128.Idx, m ((c : Thread nD τ).loc main_arg4) i = ((W (i 0).val (i 1).val (i 2).val : ℝ) : EReal)
  b : ∀ i : S4x128.Idx, m ((c : Thread nD τ).loc main_arg5) i = ((B (i 0).val (i 1).val : ℝ) : EReal)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 1 :=
  (by decide +kernel : ∀ t : Fin grid0.N, win0_1.index t 0 = t.val ∧ win0_1.index t 1 = 1)
theorem idx_2 : ∀ t : Fin cfg0.N, win0_2.index t 0 = t.val ∧ win0_2.index t 1 = 2 :=
  (by decide +kernel : ∀ t : Fin grid0.N, win0_2.index t 0 = t.val ∧ win0_2.index t 1 = 2)
theorem idx_3 : ∀ t : Fin cfg0.N, win0_3.index t 0 = t.val ∧ win0_3.index t 1 = 0 :=
  (by decide +kernel : ∀ t : Fin grid0.N, win0_3.index t 0 = t.val ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx_7 : ∀ t : Fin cfg0.N, win0_7.index t 0 = 0 ∧ win0_7.index t 1 = 0 :=
  (by decide +kernel : ∀ t : Fin grid0.N, win0_7.index t 0 = 0 ∧ win0_7.index t 1 = 0)

variable {m c Z C LG LB W B} (H : Holds m c Z C LG LB W B)
include H

theorem block_u (t : Fin cfg0.N) (j : S128x1024.Idx) :
    iblk m c 0 t j = ((Z (128 * t.val + (j 0).val) (j 1).val : ℝ) : EReal) := by
  unfold iblk
  rw [View.read_apply]
  show m ((c : Thread nD τ).loc main_arg0) _ = _
  refine (H.z _).trans (congrArg (fun r : ℝ => (r : EReal)) (congrArg₂ Z ?_ ?_))
  · show win0_0.index t 0 * 128 + 1 * (j 0).val = _
    rw [(idx_0 t).1]
    omega
  · show win0_0.index t 1 * 1024 + 1 * (j 1).val = _
    rw [(idx_0 t).2]
    omega

theorem block_v (t : Fin cfg0.N) (j : S128x1024.Idx) :
    iblk m c 1 t j = ((Z (128 * t.val + (j 0).val) (1024 + (j 1).val) : ℝ) : EReal) := by
  unfold iblk
  rw [View.read_apply]
  show m ((c : Thread nD τ).loc main_arg0) _ = _
  refine (H.z _).trans (congrArg (fun r : ℝ => (r : EReal)) (congrArg₂ Z ?_ ?_))
  · show win0_1.index t 0 * 128 + 1 * (j 0).val = _
    rw [(idx_1 t).1]
    omega
  · show win0_1.index t 1 * 1024 + 1 * (j 1).val = _
    rw [(idx_1 t).2]
    omega

theorem block_g (t : Fin cfg0.N) (j : S128x1024.Idx) :
    iblk m c 2 t j = ((Z (128 * t.val + (j 0).val) (2048 + (j 1).val) : ℝ) : EReal) := by
  unfold iblk
  rw [View.read_apply]
  show m ((c : Thread nD τ).loc main_arg0) _ = _
  refine (H.z _).trans (congrArg (fun r : ℝ => (r : EReal)) (congrArg₂ Z ?_ ?_))
  · show win0_2.index t 0 * 128 + 1 * (j 0).val = _
    rw [(idx_2 t).1]
    omega
  · show win0_2.index t 1 * 1024 + 1 * (j 1).val = _
    rw [(idx_2 t).2]
    omega

theorem block_d (t : Fin cfg0.N) (j : S128x1024.Idx) :
    X0_3 m c t j = ((C (128 * t.val + (j 0).val) (j 1).val : ℝ) : EReal) := by
  unfold X0_3 Pipeline.Window.fill
  rw [dif_pos (moved0_3 t j)]
  unfold iblk
  rw [View.read_apply]
  show m ((c : Thread nD τ).loc main_arg1) _ = _
  refine (H.d _).trans (congrArg (fun r : ℝ => (r : EReal)) (congrArg₂ C ?_ ?_))
  · show win0_3.index t 0 * 128 + 1 * (j 0).val = _
    rw [(idx_3 t).1]
    omega
  · show win0_3.index t 1 * 1024 + 1 * (j 1).val = _
    rw [(idx_3 t).2]
    omega

theorem block_lg (t : Fin cfg0.N) (j : S1x1024.Idx) : iblk m c 4 t j = ((LG (j 1).val : ℝ) : EReal) := by
  unfold iblk
  rw [View.read_apply]
  show m ((c : Thread nD τ).loc main_arg2) _ = _
  refine (H.lg _).trans (congrArg (fun r : ℝ => (r : EReal)) (congrArg LG ?_))
  show win0_4.index t 1 * 1024 + 1 * (j 1).val = _
  rw [(idx_4 t).2]
  omega

theorem block_lb (t : Fin cfg0.N) (j : S1x1024.Idx) : iblk m c 5 t j = ((LB (j 1).val : ℝ) : EReal) := by
  unfold iblk
  rw [View.read_apply]
  show m ((c : Thread nD τ).loc main_arg3) _ = _
  refine (H.lb _).trans (congrArg (fun r : ℝ => (r : EReal)) (congrArg LB ?_))
  show win0_5.index t 1 * 1024 + 1 * (j 1).val = _
  rw [(idx_5 t).2]
  omega

theorem block_w (t : Fin cfg0.N) (j : S4x128x128.Idx) :
    iblk m c 6 t j = ((W (j 0).val (j 1).val (j 2).val : ℝ) : EReal) := by
  unfold iblk
  rw [View.read_apply]
  show m ((c : Thread nD τ).loc main_arg4) _ = _
  have e0 : win0_6.index t 0 * 4 + 1 * (j 0).val = (j 0).val := by rw [(idx_6 t).1]; omega
  have e1 : win0_6.index t 1 * 128 + 1 * (j 1).val = (j 1).val := by rw [(idx_6 t).2.1]; omega
  have e2 : win0_6.index t 2 * 128 + 1 * (j 2).val = (j 2).val := by rw [(idx_6 t).2.2]; omega
  refine (H.w _).trans (congrArg (fun r : ℝ => (r : EReal)) ?_)
  show W (win0_6.index t 0 * 4 + 1 * (j 0).val) (win0_6.index t 1 * 128 + 1 * (j 1).val) (win0_6.index t 2 * 128 + 1 * (j 2).val) = _
  rw [e0, e1, e2]

/-- The host spreads each group's bias over the group's 256 channels. -/
theorem host_b (j : S128x1024.Idx) : V m c main_v2 j = ((B ((j 1).val / 256) (j 0).val : ℝ) : EReal) := by
  have h0 : (j 0).val < 128 := (j 0).isLt
  have h1 : (j 1).val < 1024 := (j 1).isLt
  have e : V m c main_v2 = shapeCast S128x1024 (broadcastInDim S128x4x256 ![0, 1] bcast_S128x4_S128x4x256_0_1
      (transpose S128x4 [1, 0] (m ((c : Thread nD τ).loc main_arg5)) transposes_S4x128_S128x4_1_0)) shapeCasts_S128x4x256_S128x1024 := by
    unfold_abbrev_sides; after_results; rfl
  rw [e]
  refine (shapeCast_apply _ _ _ (ValueIdx.ix3 (j 0) ⟨(j 1).val / 256, by omega⟩ ⟨(j 1).val % 256, by omega⟩) ?_).trans ?_
  · rw [Shape.rowMajor_val_three, Shape.rowMajor_val_two]
    show ((j 0).val * 4 + (j 1).val / 256) * 256 + (j 1).val % 256 = (j 0).val * 1024 + (j 1).val
    omega
  refine (broadcastInDim_apply _ _ _ _ (ValueIdx.ix2 (j 0) ⟨(j 1).val / 256, by omega⟩) fun a => ?_).trans ?_
  · match a with
    | ⟨0, _⟩ => rfl
    | ⟨1, _⟩ => rfl
  refine (transpose_apply _ _ _ _ (ValueIdx.ix2 ⟨(j 1).val / 256, by omega⟩ (j 0)) fun b => ?_).trans
    (H.b (ValueIdx.ix2 ⟨(j 1).val / 256, by omega⟩ (j 0)))
  match b with
  | ⟨0, _⟩ => rfl
  | ⟨1, _⟩ => rfl

theorem block_b (t : Fin cfg0.N) (j : S128x1024.Idx) :
    iblk m c 7 t j = ((B ((j 1).val / 256) (j 0).val : ℝ) : EReal) := by
  unfold iblk
  rw [View.read_apply]
  show V m c main_v2 _ = _
  refine (host_b H _).trans (congrArg (fun r : ℝ => (r : EReal)) (congrArg₂ (fun a b => B (b / 256) a) ?_ ?_))
  · show win0_7.index t 0 * 128 + 1 * (j 0).val = _
    rw [(idx_7 t).1]
    omega
  · show win0_7.index t 1 * 1024 + 1 * (j 1).val = _
    rw [(idx_7 t).2]
    omega

omit H

/-- A load of the 256 columns from `o` on reads the block there. -/
theorem ld_cols (x : Vec Ideal S128x1024 .f32) (F : ℕ → ℕ → EReal) (o : ℕ) (hx : ∀ j : S128x1024.Idx, x j = F (j 0).val (j 1).val)
    (inb) (j : S128x256.Idx) :
    View.ld x (Rect.unit (s := S128x1024) ![0, o] ![128, 256] inb) j = F (j 0).val (o + (j 1).val) := by
  have h1 : o + 256 ≤ 1024 := inb 1
  have hj : (j 1).val < 256 := (j 1).isLt
  refine (View.ld_unit_apply_of _ _ _ _ j (ix2 (j 0) ⟨o + (j 1).val, by omega⟩) fun a => ?_).trans (hx _)
  match a with
  | ⟨0, _⟩ => show (j 0).val = 0 + (j 0).val; omega
  | ⟨1, _⟩ => rfl

/-- The 256 columns from `o` on cut out of a block. -/
theorem slice_cols (x : FVec Ideal S128x1024 .bf16) (F : ℕ → ℕ → EReal) (o : ℕ) (hx : ∀ j : S128x1024.Idx, x j = F (j 0).val (j 1).val)
    (h : S128x1024.Slices ![0, o] S128x256) (j : S128x256.Idx) :
    extractStridedSlice S128x256 ![0, o] x h j = F (j 0).val (o + (j 1).val) := by
  have h1 : o + 256 ≤ 1024 := h.2 1
  have hj : (j 1).val < 256 := (j 1).isLt
  refine (extractStridedSlice_apply _ x h j (ix2 (j 0) ⟨o + (j 1).val, by omega⟩) fun a => ?_).trans (hx _)
  match a with
  | ⟨0, _⟩ => show (j 0).val = 0 + (j 0).val; omega
  | ⟨1, _⟩ => rfl

/-- A load of one group's matrix. -/
theorem ld_group (x : Vec Ideal S4x128x128 .f32) (F : ℕ → ℕ → ℕ → EReal) (g : ℕ)
    (hx : ∀ j : S4x128x128.Idx, x j = F (j 0).val (j 1).val (j 2).val) (inb) (j : S1x128x128.Idx) :
    View.ld x (Rect.unit (s := S4x128x128) ![g, 0, 0] ![1, 128, 128] inb) j = F g (j 1).val (j 2).val := by
  have h1 : g + 1 ≤ 4 := inb 0
  have h0 : (j 0).val < 1 := (j 0).isLt
  refine (View.ld_unit_apply_of _ _ _ _ j (ix3 ⟨g, by omega⟩ (j 1) (j 2)) fun a => ?_).trans (hx _)
  match a with
  | ⟨0, _⟩ => show g = g + (j 0).val; omega
  | ⟨1, _⟩ => show (j 1).val = 0 + (j 1).val; omega
  | ⟨2, _⟩ => show (j 2).val = 0 + (j 2).val; omega

end Cert.Sgu.Loads

end
-- ==== Proof.Sgu.Tiles.lean ====
/-
  One group's share of each gradient at a point of the grid of the spatial gate's backward kernel, and the four groups'
  blocks accumulated into a zeroed block (hand-written, untrusted).
-/
module

public import proofs.«01_k».proof.Proof.Sgu.Loads

@[expose] public section

set_option backward.isDefEq.respectTransparency.types false
set_option backward.isDefEq.respectTransparency false

noncomputable section

namespace Cert.Sgu.Tiles

open Idealize.ShloMosaic Idealize.ShloMosaic.TcCoe Idealize.SL.Sem Idealize.ShloMosaic.ValueIdx
open Cert.SguIdeal Cert.SguIdeal.Gen Cert.Sgu.Math Cert.Sgu.Block Cert.Sgu.Loads Cert.Reals Finset

/-- The 256 columns of a block from `o` on. -/
abbrev cols (x : Vec Ideal S128x1024 .f32) (o : ℕ) (inb : ∀ a, (![0, o] : Fin 2 → ℕ) a + (![128, 256] : Fin 2 → ℕ) a ≤ S128x1024.size a) :
    FVec Ideal S128x256 .f32 :=
  View.ld x (Rect.unit (s := S128x1024) ![0, o] ![128, 256] inb)

/-- The rectangle of group `g`'s matrix. -/
abbrev matRect (g : ℕ) (inb : ∀ a, (![g, 0, 0] : Fin 3 → ℕ) a + (![1, 128, 128] : Fin 3 → ℕ) a ≤ S4x128x128.size a) : Rect S4x128x128 :=
  Rect.unit (s := S4x128x128) ![g, 0, 0] ![1, 128, 128] inb

/-- A group's share of the gradient of its matrix, added to an old block. -/
def addShare (vs db : FVec Ideal S128x256 .bf16) (old : FVec Ideal S1x128x128 .f32) : FVec Ideal S1x128x128 .f32 :=
  shapeCast S1x128x128 (addf (shapeCast S128x128 old shapeCasts_S1x128x128_S128x128) (select k0_pay10
    (matmul (F := Ideal) dot_S128x256_S128x256_S128x128_1_1_0_0_n_n none db vs (constant S128x128 .f32 0x00000000#32))
    (broadcast S128x128 (Scalar.ofBits (F := Ideal) .f32 0x00000000#32)))) shapeCasts_S128x128_S1x128x128

variable {m : (ℓ : Loc nD τ sig) → Buf (Elt Ideal) ℓ} {c : Dev nD} {Z C : ℕ → ℕ → ℝ} {LG LB : ℕ → ℝ} {W : ℕ → ℕ → ℕ → ℝ} {B : ℕ → ℕ → ℝ}
  (H : Holds m c Z C LG LB W B) (t : Fin cfg0.N)
include H

/-- The point's normalised rows. -/
theorem rows_vn (j : S128x1024.Idx) : k0_pay9 (F := Ideal) (iblk m c 4 t) (iblk m c 1 t) (iblk m c 5 t) j
    = (((data Z C LG LB W B).vn (128 * t.val + (j 0).val) (j 1).val : ℝ) : EReal) :=
  vn_apply (data Z C LG LB W B) t.val _ _ _ (block_v H t) (block_lg H t) (block_lb H t) j

/-- A group's matrix, its upper triangle cleared. -/
theorem tri (g : ℕ) (inb) (j : S128x128.Idx) : k0_pay11 (F := Ideal) (View.ld (iblk m c 6 t) (matRect g inb)) j
    = (((data Z C LG LB W B).wm g (j 0).val (j 1).val : ℝ) : EReal) :=
  wm_apply (data Z C LG LB W B) _ g (ld_group _ (fun a b d => W a b d) g (block_w H t) inb) j

section Group

variable (g o : ℕ) (e : o = 256 * g) (inb : ∀ a, (![0, o] : Fin 2 → ℕ) a + (![128, 256] : Fin 2 → ℕ) a ≤ S128x1024.size a)
  (inw : ∀ a, (![g, 0, 0] : Fin 3 → ℕ) a + (![1, 128, 128] : Fin 3 → ℕ) a ≤ S4x128x128.size a) (hs : S128x1024.Slices ![0, o] S128x256)

theorem cols_u (j : S128x256.Idx) : cols (iblk m c 0 t) o inb j
    = (((data Z C LG LB W B).U (128 * t.val + (j 0).val) (o + (j 1).val) : ℝ) : EReal) :=
  ld_cols _ (fun a k => Z (128 * t.val + a) k) o (block_u H t) inb j

theorem cols_g (j : S128x256.Idx) : cols (iblk m c 2 t) o inb j
    = (((data Z C LG LB W B).G (128 * t.val + (j 0).val) (o + (j 1).val) : ℝ) : EReal) :=
  ld_cols _ (fun a k => Z (128 * t.val + a) (2048 + k)) o (block_g H t) inb j

theorem cols_d (j : S128x256.Idx) : cols (X0_3 m c t) o inb j
    = (((data Z C LG LB W B).C (128 * t.val + (j 0).val) (o + (j 1).val) : ℝ) : EReal) :=
  ld_cols _ (fun a k => C (128 * t.val + a) k) o (block_d H t) inb j

/-- The gradient of the group's mixed rows. -/
theorem group_dm (j : S128x256.Idx) :
    k0_pay22 (F := Ideal) (cols (iblk m c 2 t) o inb) (k0_pay18 (F := Ideal) (cols (iblk m c 2 t) o inb)) (cols (iblk m c 0 t) o inb)
      (cols (X0_3 m c t) o inb) j
      = (((data Z C LG LB W B).dm (128 * t.val + (j 0).val) (o + (j 1).val) : ℝ) : EReal) :=
  dm_apply (data Z C LG LB W B) t.val o _ _ _ (cols_g H t o inb) (cols_u H t o inb) (cols_d H t o inb) j

/-- … and in the narrow format. -/
theorem group_db (j : S128x256.Idx) :
    truncf .bf16 (k0_pay22 (F := Ideal) (cols (iblk m c 2 t) o inb) (k0_pay18 (F := Ideal) (cols (iblk m c 2 t) o inb)) (cols (iblk m c 0 t) o inb)
      (cols (X0_3 m c t) o inb)) (by decide) j
      = (((data Z C LG LB W B).dm (128 * t.val + (j 0).val) (o + (j 1).val) : ℝ) : EReal) := by
  rw [ValueIdx.truncf_apply]
  exact group_dm H t o inb j

theorem group_vs (j : S128x256.Idx) :
    extractStridedSlice S128x256 ![0, o] (k0_pay9 (F := Ideal) (iblk m c 4 t) (iblk m c 1 t) (iblk m c 5 t)) hs j
      = (((data Z C LG LB W B).vn (128 * t.val + (j 0).val) (o + (j 1).val) : ℝ) : EReal) :=
  slice_cols _ (fun a k => (data Z C LG LB W B).vn (128 * t.val + a) k) o (rows_vn H t) hs j

include e

theorem cols_b (j : S128x256.Idx) : cols (iblk m c 7 t) o inb j
    = (((data Z C LG LB W B).B (o / 256) (j 0).val : ℝ) : EReal) := by
  have h1 : (j 1).val < 256 := (j 1).isLt
  refine (ld_cols _ (fun a k => B (k / 256) a) o (block_b H t) inb j).trans ?_
  show ((B ((o + (j 1).val) / 256) (j 0).val : ℝ) : EReal) = ((B (o / 256) (j 0).val : ℝ) : EReal)
  rw [show (o + (j 1).val) / 256 = o / 256 by omega]

theorem group_w (j : S128x128.Idx) : k0_pay11 (F := Ideal) (View.ld (iblk m c 6 t) (matRect g inw)) j
    = (((data Z C LG LB W B).wm (o / 256) (j 0).val (j 1).val : ℝ) : EReal) := by
  rw [show o / 256 = g by omega]
  exact tri H t g inw j

/-- The group's mixed rows. -/
theorem group_mix (j : S128x256.Idx) :
    addf (matmul (F := Ideal) dot_S128x128_S128x256_S128x256_1_0_0_1_n_n none (k0_pay11 (F := Ideal) (View.ld (iblk m c 6 t) (matRect g inw)))
        (extractStridedSlice S128x256 ![0, o] (k0_pay9 (F := Ideal) (iblk m c 4 t) (iblk m c 1 t) (iblk m c 5 t)) hs)
        (constant S128x256 .f32 0x00000000#32))
      (shapeCast S128x256 (cols (iblk m c 7 t) o inb) shapeCasts_S128x256_S128x256) j
      = (((data Z C LG LB W B).mix (128 * t.val + (j 0).val) (o + (j 1).val) : ℝ) : EReal) :=
  mix_apply (data Z C LG LB W B) t.val o (by omega) _ (group_vs H t o hs) _ (group_w H t g o e inw) _ (cols_b H t g o e inb) j

/-- The group's tile of the gradient in the first branch. -/
theorem tile_du (y : S128x1024.Idx) : View.TileAt (Val := Elt Ideal) (e := .f32) y ![0, o] ![128, 256]
    (mulf (mulf (cols (X0_3 m c t) o inb)
      (addf (matmul (F := Ideal) dot_S128x128_S128x256_S128x256_1_0_0_1_n_n none (k0_pay11 (F := Ideal) (View.ld (iblk m c 6 t) (matRect g inw)))
          (extractStridedSlice S128x256 ![0, o] (k0_pay9 (F := Ideal) (iblk m c 4 t) (iblk m c 1 t) (iblk m c 5 t)) hs)
          (constant S128x256 .f32 0x00000000#32))
        (shapeCast S128x256 (cols (iblk m c 7 t) o inb) shapeCasts_S128x256_S128x256)))
      (mulf (cols (iblk m c 2 t) o inb) (k0_pay18 (F := Ideal) (cols (iblk m c 2 t) o inb))))
    (((data Z C LG LB W B).du (128 * t.val + (y 0).val) (y 1).val : ℝ) : EReal) := by
  intro j hj
  have e0 : (y 0).val = (j 0).val := (hj 0).trans (by show 0 + _ = _; omega)
  have e1 : (y 1).val = o + (j 1).val := hj 1
  rw [e0, e1]
  exact du_apply (data Z C LG LB W B) t.val o _ _ _ (cols_g H t o inb) (cols_d H t o inb) (group_mix H t g o e inb inw hs) j

/-- The group's tile of the gradient in the gate. -/
theorem tile_dg (y : S128x1024.Idx) : View.TileAt (Val := Elt Ideal) (e := .f32) y ![0, o] ![128, 256]
    (k0_pay21 (F := Ideal) (cols (iblk m c 2 t) o inb) (k0_pay18 (F := Ideal) (cols (iblk m c 2 t) o inb))
      (mulf (mulf (cols (X0_3 m c t) o inb) (cols (iblk m c 0 t) o inb))
        (addf (matmul (F := Ideal) dot_S128x128_S128x256_S128x256_1_0_0_1_n_n none (k0_pay11 (F := Ideal) (View.ld (iblk m c 6 t) (matRect g inw)))
            (extractStridedSlice S128x256 ![0, o] (k0_pay9 (F := Ideal) (iblk m c 4 t) (iblk m c 1 t) (iblk m c 5 t)) hs)
            (constant S128x256 .f32 0x00000000#32))
          (shapeCast S128x256 (cols (iblk m c 7 t) o inb) shapeCasts_S128x256_S128x256))))
    (((data Z C LG LB W B).dg (128 * t.val + (y 0).val) (y 1).val : ℝ) : EReal) := by
  intro j hj
  have e0 : (y 0).val = (j 0).val := (hj 0).trans (by show 0 + _ = _; omega)
  have e1 : (y 1).val = o + (j 1).val := hj 1
  rw [e0, e1]
  exact dg_apply (data Z C LG LB W B) t.val o _ _ _ _ (cols_g H t o inb) (cols_u H t o inb) (cols_d H t o inb)
    (group_mix H t g o e inb inw hs) j

/-- The gradient of the group's normalised rows. -/
theorem group_dvn (j : S128x256.Idx) :
    matmul (F := Ideal) dot_S128x128_S128x256_S128x256_0_0_1_1_n_n none (k0_pay11 (F := Ideal) (View.ld (iblk m c 6 t) (matRect g inw)))
      (truncf .bf16 (k0_pay22 (F := Ideal) (cols (iblk m c 2 t) o inb) (k0_pay18 (F := Ideal) (cols (iblk m c 2 t) o inb))
        (cols (iblk m c 0 t) o inb) (cols (X0_3 m c t) o inb)) (by decide)) (constant S128x256 .f32 0x00000000#32) j
      = (((data Z C LG LB W B).dvn (128 * t.val + (j 0).val) (o + (j 1).val) : ℝ) : EReal) :=
  dvn_apply (data Z C LG LB W B) t.val o (by omega) _ (group_w H t g o e inw) _ (group_db H t o inb) j

/-- The group's share of the gradient of its matrix. -/
theorem group_dw (old : FVec Ideal S1x128x128 .f32) (j : S1x128x128.Idx) :
    addShare (extractStridedSlice S128x256 ![0, o] (k0_pay9 (F := Ideal) (iblk m c 4 t) (iblk m c 1 t) (iblk m c 5 t)) hs)
      (truncf .bf16 (k0_pay22 (F := Ideal) (cols (iblk m c 2 t) o inb) (k0_pay18 (F := Ideal) (cols (iblk m c 2 t) o inb))
        (cols (iblk m c 0 t) o inb) (cols (X0_3 m c t) o inb)) (by decide)) old j
      = old j + (((data Z C LG LB W B).dwAt t.val g (j 1).val (j 2).val : ℝ) : EReal) := by
  have h := dw_apply (data Z C LG LB W B) t.val o (by omega) _ (group_vs H t o hs) _ (group_db H t o inb) old j
  rw [show o / 256 = g by omega] at h
  exact h

/-- … at a place of the block of all four matrices. -/
theorem share_dw (old : FVec Ideal S1x128x128 .f32) (j : S1x128x128.Idx) (y : S4x128x128.Idx) (e0 : (y 0).val = g)
    (e1 : (y 1).val = (j 1).val) (e2 : (y 2).val = (j 2).val) :
    addShare (extractStridedSlice S128x256 ![0, o] (k0_pay9 (F := Ideal) (iblk m c 4 t) (iblk m c 1 t) (iblk m c 5 t)) hs)
      (truncf .bf16 (k0_pay22 (F := Ideal) (cols (iblk m c 2 t) o inb) (k0_pay18 (F := Ideal) (cols (iblk m c 2 t) o inb))
        (cols (iblk m c 0 t) o inb) (cols (X0_3 m c t) o inb)) (by decide)) old j
      = old j + (((data Z C LG LB W B).dwAt t.val (y 0).val (y 1).val (y 2).val : ℝ) : EReal) := by
  rw [e0, e1, e2]
  exact group_dw H t g o e inb hs old j

/-- The group's block of the gradient of the matrices, added in place to what the point before left. -/
theorem tile_dw (old : Vec Ideal S4x128x128 .f32) (y : S4x128x128.Idx) :
    View.TileAt (Val := Elt Ideal) (e := .f32) y ![g, 0, 0] ![1, 128, 128]
      (addShare (extractStridedSlice S128x256 ![0, o] (k0_pay9 (F := Ideal) (iblk m c 4 t) (iblk m c 1 t) (iblk m c 5 t)) hs)
        (truncf .bf16 (k0_pay22 (F := Ideal) (cols (iblk m c 2 t) o inb) (k0_pay18 (F := Ideal) (cols (iblk m c 2 t) o inb))
          (cols (iblk m c 0 t) o inb) (cols (X0_3 m c t) o inb)) (by decide)) (View.ld old (matRect g inw)))
      (old y + (((data Z C LG LB W B).dwAt t.val (y 0).val (y 1).val (y 2).val : ℝ) : EReal)) := by
  intro j hj
  have h0 : (j 0).val < 1 := (j 0).isLt
  have e0 : (y 0).val = g := (hj 0).trans (by show g + (j 0).val = _; omega)
  have e1 : (y 1).val = (j 1).val := (hj 1).trans (by show 0 + _ = _; omega)
  have e2 : (y 2).val = (j 2).val := (hj 2).trans (by show 0 + _ = _; omega)
  rw [e0, e1, e2]
  refine (group_dw H t g o e inb hs _ j).trans ?_
  exact congrArg (· + (((data Z C LG LB W B).dwAt t.val g (j 1).val (j 2).val : ℝ) : EReal)) (View.ld_unit_apply_of old _ _ inw j y hj)

end Group

omit H

/-- A list of stores to the block of four matrices that covers it, and whose value is `G` on the matrices listed in `S`
    and zero elsewhere. -/
structure Filled (G : S4x128x128.Idx → EReal) (S : List ℕ) (L : List (View.Piece (Elt Ideal) S4x128x128 .f32)) : Prop where
  cover : ∀ y, ∃ p ∈ L, y ∈ p.1.set
  val : ∀ y : S4x128x128.Idx, View.canon L y = if (y 0).val ∈ S then G y else (0 : EReal)

/-- The zeroed block. -/
theorem filled_zero (G : S4x128x128.Idx → EReal) (inb) :
    Filled G [] [⟨Rect.unit ![0, 0, 0] ![4, 128, 128] inb, k0_pay2 (F := Ideal)⟩] where
  cover y := ⟨_, List.mem_cons_self, View.mem_set_unit_zero (S := S4x128x128)
    (funext fun a => by match a with | ⟨0, _⟩ => rfl | ⟨1, _⟩ => rfl | ⟨2, _⟩ => rfl) inb y⟩
  val y := by
    rw [View.canon_cons_unit_lit (S := S4x128x128) inb _ _ (fun a => by match a with | ⟨0, _⟩ => rfl | ⟨1, _⟩ => rfl | ⟨2, _⟩ => rfl)]
    simp only [List.not_mem_nil, if_false]
    exact Ideal.ofBits_zero_f32

theorem mem_matRect (g : ℕ) (inb) (y : S4x128x128.Idx) : y ∈ (matRect g inb).set ↔ (y 0).val = g := by
  rw [Rect.mem_set_unit]
  have h1 : (y 1).val < 128 := (y 1).isLt
  have h2 : (y 2).val < 128 := (y 2).isLt
  constructor
  · intro h
    have h : g ≤ (y 0).val ∧ (y 0).val < g + 1 := h 0
    omega
  · intro h a
    match a with
    | ⟨0, _⟩ => show g ≤ (y 0).val ∧ (y 0).val < g + 1; omega
    | ⟨1, _⟩ => show 0 ≤ (y 1).val ∧ (y 1).val < 0 + 128; omega
    | ⟨2, _⟩ => show 0 ≤ (y 2).val ∧ (y 2).val < 0 + 128; omega

/-- One more matrix: its old value is read back, a share is added, and the sum is stored. -/
theorem Filled.step {G : S4x128x128.Idx → EReal} {S : List ℕ} {L : List (View.Piece (Elt Ideal) S4x128x128 .f32)} (h : Filled G S L)
    {sp : Space} (v : View sig .tc sp S4x128x128 .f32) (g : ℕ) (inb) (vs db : FVec Ideal S128x256 .bf16) (hg : g ∉ S)
    (hx : ∀ (old : FVec Ideal S1x128x128 .f32) (j : S1x128x128.Idx) (y : S4x128x128.Idx), (y 0).val = g → (y 1).val = (j 1).val →
      (y 2).val = (j 2).val → addShare vs db old j = old j + G y) :
    Filled G (g :: S)
      ((⟨matRect g inb, addShare vs db (v.readCov L (matRect g inb).toLoadRect)⟩ : View.Piece (Elt Ideal) S4x128x128 .f32) :: L) := by
  refine ⟨fun y => ?_, fun y => ?_⟩
  · obtain ⟨p, hp, hy⟩ := h.cover y; exact ⟨p, List.mem_cons_of_mem _ hp, hy⟩
  · by_cases hm : y ∈ (matRect g inb).set
    · have e0 := (mem_matRect g inb y).mp hm
      obtain ⟨j, hj⟩ := (matRect g inb).exists_idx_of_mem hm
      have e1 : (y 1).val = (j 1).val := hj ▸ (Rect.idx_unit_val _ _ _ _ _).trans (by show 0 + _ = _; omega)
      have e2 : (y 2).val = (j 2).val := hj ▸ (Rect.idx_unit_val _ _ _ _ _).trans (by show 0 + _ = _; omega)
      have hc := View.canon_cons_emb (Val := Elt Ideal) (e := .f32) (matRect g inb) (addShare vs db (v.readCov L (matRect g inb).toLoadRect)) L j
      rw [show (matRect g inb).emb j = y from hj] at hc
      refine hc.trans ((hx _ j y e0 e1 e2).trans ?_)
      rw [View.readCov_eq_canon_ld v L _ h.cover]
      have hl : View.ld (View.canon L) (matRect g inb) j = View.canon L y := congrArg (View.canon L) hj
      refine (congrArg (· + G y) (hl.trans (h.val y))).trans ?_
      rw [if_neg (by rw [e0]; exact hg), if_pos (by rw [e0]; exact List.mem_cons_self)]
      exact zero_add _
    · have hn : (y 0).val ≠ g := fun e => hm ((mem_matRect g inb y).mpr e)
      refine (View.canon_cons_of_not_mem (⟨matRect g inb, _⟩) L hm).trans ((h.val y).trans ?_)
      simp only [List.mem_cons, hn, false_or]

end Cert.Sgu.Tiles

end
-- ==== Proof.Sgu.Outs.lean ====
/-
  What each point of the grid of the spatial gate's backward kernel leaves in its seven result blocks (hand-written, untrusted).
-/
module

public import proofs.«01_k».proof.Proof.Sgu.Tiles

@[expose] public section

set_option backward.isDefEq.respectTransparency.types false
set_option backward.isDefEq.respectTransparency false

noncomputable section

namespace Cert.Sgu.Outs

open Idealize.ShloMosaic Idealize.ShloMosaic.TcCoe Idealize.SL.Sem Idealize.ShloMosaic.ValueIdx
open Cert.SguIdeal Cert.SguIdeal.Gen Cert.Sgu.Math Cert.Sgu.Block Cert.Sgu.Loads Cert.Sgu.Tiles Cert.Reals Finset

variable {m : (ℓ : Loc nD τ sig) → Buf (Elt Ideal) ℓ} {c : Dev nD} {Z C : ℕ → ℕ → ℝ} {LG LB : ℕ → ℝ} {W : ℕ → ℕ → ℕ → ℝ} {B : ℕ → ℕ → ℝ}
  (H : Holds m c Z C LG LB W B) (t : Fin cfg0.N)
include H

/-- Point `t`'s block of the gradient in the first branch. -/
theorem out_du (y : S128x1024.Idx) :
    (outsAt0 m c t.val t.isLt).1 y = (((data Z C LG LB W B).du (128 * t.val + (y 0).val) (y 1).val : ℝ) : EReal) := by
  by_cases h0 : t.val % 16 = 0
  · rw [outsAt0_A m c t h0]
    frame_out
    refine View.canon_eq_of_allAt _ y _ (View.cover_of_tiled_head _ _ _ (by rfl) y) ?_
    refine View.allAt_cons_unit _ _ _ _ _ (tile_du H t 3 768 rfl _ _ _ y) ?_
    refine View.allAt_cons_unit _ _ _ _ _ (tile_du H t 2 512 rfl _ _ _ y) ?_
    refine View.allAt_cons_unit _ _ _ _ _ (tile_du H t 1 256 rfl _ _ _ y) ?_
    exact View.allAt_cons_unit _ _ _ _ _ (tile_du H t 0 0 rfl _ _ _ y) (View.allAt_nil _ _)
  · rw [outsAt0_B m c t h0]
    frame_out
    refine View.canon_eq_of_allAt _ y _ (View.cover_of_tiled_head _ _ _ (by rfl) y) ?_
    refine View.allAt_cons_unit _ _ _ _ _ (tile_du H t 3 768 rfl _ _ _ y) ?_
    refine View.allAt_cons_unit _ _ _ _ _ (tile_du H t 2 512 rfl _ _ _ y) ?_
    refine View.allAt_cons_unit _ _ _ _ _ (tile_du H t 1 256 rfl _ _ _ y) ?_
    exact View.allAt_cons_unit _ _ _ _ _ (tile_du H t 0 0 rfl _ _ _ y) (View.allAt_nil _ _)

/-- Point `t`'s block of the gradient in the gate. -/
theorem out_dg (y : S128x1024.Idx) :
    (outsAt0 m c t.val t.isLt).2.2.1 y = (((data Z C LG LB W B).dg (128 * t.val + (y 0).val) (y 1).val : ℝ) : EReal) := by
  by_cases h0 : t.val % 16 = 0
  · rw [outsAt0_A m c t h0]
    frame_out
    refine View.canon_eq_of_allAt _ y _ (View.cover_of_tiled_head _ _ _ (by rfl) y) ?_
    refine View.allAt_cons_unit _ _ _ _ _ (tile_dg H t 3 768 rfl _ _ _ y) ?_
    refine View.allAt_cons_unit _ _ _ _ _ (tile_dg H t 2 512 rfl _ _ _ y) ?_
    refine View.allAt_cons_unit _ _ _ _ _ (tile_dg H t 1 256 rfl _ _ _ y) ?_
    exact View.allAt_cons_unit _ _ _ _ _ (tile_dg H t 0 0 rfl _ _ _ y) (View.allAt_nil _ _)
  · rw [outsAt0_B m c t h0]
    frame_out
    refine View.canon_eq_of_allAt _ y _ (View.cover_of_tiled_head _ _ _ (by rfl) y) ?_
    refine View.allAt_cons_unit _ _ _ _ _ (tile_dg H t 3 768 rfl _ _ _ y) ?_
    refine View.allAt_cons_unit _ _ _ _ _ (tile_dg H t 2 512 rfl _ _ _ y) ?_
    refine View.allAt_cons_unit _ _ _ _ _ (tile_dg H t 1 256 rfl _ _ _ y) ?_
    exact View.allAt_cons_unit _ _ _ _ _ (tile_dg H t 0 0 rfl _ _ _ y) (View.allAt_nil _ _)

/-- The four groups' gradients of the normalised rows, side by side. -/
theorem parts (i0 i1 i2 i3 w0 w1 w2 w3) (j : S128x1024.Idx) :
    k0_pay57 (F := Ideal) (k0_pay11 (F := Ideal) (View.ld (iblk m c 6 t) (matRect 3 w3)))
      (matmul (F := Ideal) dot_S128x128_S128x256_S128x256_0_0_1_1_n_n none (k0_pay11 (F := Ideal) (View.ld (iblk m c 6 t) (matRect 0 w0)))
        (truncf .bf16 (k0_pay22 (F := Ideal) (cols (iblk m c 2 t) 0 i0) (k0_pay18 (F := Ideal) (cols (iblk m c 2 t) 0 i0))
          (cols (iblk m c 0 t) 0 i0) (cols (X0_3 m c t) 0 i0)) (by decide)) (constant S128x256 .f32 0x00000000#32))
      (matmul (F := Ideal) dot_S128x128_S128x256_S128x256_0_0_1_1_n_n none (k0_pay11 (F := Ideal) (View.ld (iblk m c 6 t) (matRect 1 w1)))
        (truncf .bf16 (k0_pay22 (F := Ideal) (cols (iblk m c 2 t) 256 i1) (k0_pay18 (F := Ideal) (cols (iblk m c 2 t) 256 i1))
          (cols (iblk m c 0 t) 256 i1) (cols (X0_3 m c t) 256 i1)) (by decide)) (constant S128x256 .f32 0x00000000#32))
      (matmul (F := Ideal) dot_S128x128_S128x256_S128x256_0_0_1_1_n_n none (k0_pay11 (F := Ideal) (View.ld (iblk m c 6 t) (matRect 2 w2)))
        (truncf .bf16 (k0_pay22 (F := Ideal) (cols (iblk m c 2 t) 512 i2) (k0_pay18 (F := Ideal) (cols (iblk m c 2 t) 512 i2))
          (cols (iblk m c 0 t) 512 i2) (cols (X0_3 m c t) 512 i2)) (by decide)) (constant S128x256 .f32 0x00000000#32))
      (truncf .bf16 (k0_pay22 (F := Ideal) (cols (iblk m c 2 t) 768 i3) (k0_pay18 (F := Ideal) (cols (iblk m c 2 t) 768 i3))
        (cols (iblk m c 0 t) 768 i3) (cols (X0_3 m c t) 768 i3)) (by decide)) j
      = (((data Z C LG LB W B).dvn (128 * t.val + (j 0).val) (j 1).val : ℝ) : EReal) :=
  parts_apply (data Z C LG LB W B) t.val _ _ _ _ _ (group_dvn H t 0 0 rfl i0 w0) (group_dvn H t 1 256 rfl i1 w1)
    (group_dvn H t 2 512 rfl i2 w2) (group_dvn H t 3 768 rfl i3 w3) j

/-- Point `t`'s block of the gradient in the second branch. -/
theorem out_dv (y : S128x1024.Idx) :
    (outsAt0 m c t.val t.isLt).2.1 y = (((data Z C LG LB W B).dv (128 * t.val + (y 0).val) (y 1).val : ℝ) : EReal) := by
  by_cases h0 : t.val % 16 = 0
  · rw [outsAt0_A m c t h0]
    frame_out
    exact dv_apply (data Z C LG LB W B) t.val _ _ _ _ _ (parts H t _ _ _ _ _ _ _ _) _ _ (block_v H t) (block_lg H t) y
  · rw [outsAt0_B m c t h0]
    frame_out
    exact dv_apply (data Z C LG LB W B) t.val _ _ _ _ _ (parts H t _ _ _ _ _ _ _ _) _ _ (block_v H t) (block_lg H t) y

/-- The first point's block of the matrices' gradient: zero, and the four groups' shares added. -/
theorem out_dw_first (h0 : t.val % 16 = 0) (y : S4x128x128.Idx) :
    (outsAt0 m c t.val t.isLt).2.2.2.1 y = (((data Z C LG LB W B).dwAt t.val (y 0).val (y 1).val (y 2).val : ℝ) : EReal) := by
  rw [outsAt0_A m c t h0]
  frame_out
  let G : S4x128x128.Idx → EReal := fun y => (((data Z C LG LB W B).dwAt t.val (y 0).val (y 1).val (y 2).val : ℝ) : EReal)
  have f0 := filled_zero G inb_S4x128x128_S4x128x128_0_0_0
  have f1 := f0.step (ms0_11 t).view 0 inb_S4x128x128_S1x128x128_0_0_0 _ _ (by decide)
    (share_dw H t 0 0 rfl inb_S128x1024_S128x256_0_0 slices_S128x1024_o0_0_S128x256)
  have f2 := f1.step (ms0_11 t).view 1 inb_S4x128x128_S1x128x128_1_0_0 _ _ (by decide)
    (share_dw H t 1 256 rfl inb_S128x1024_S128x256_0_256 slices_S128x1024_o0_256_S128x256)
  have f3 := f2.step (ms0_11 t).view 2 inb_S4x128x128_S1x128x128_2_0_0 _ _ (by decide)
    (share_dw H t 2 512 rfl inb_S128x1024_S128x256_0_512 slices_S128x1024_o0_512_S128x256)
  have f4 := f3.step (ms0_11 t).view 3 inb_S4x128x128_S1x128x128_3_0_0 _ _ (by decide)
    (share_dw H t 3 768 rfl inb_S128x1024_S128x256_0_768 slices_S128x1024_o0_768_S128x256)
  refine (f4.val y).trans (if_pos ?_)
  have h4 : (y 0).val < 4 := (y 0).isLt
  generalize (y 0).val = b at h4
  interval_cases b <;> decide

/-- A later point's: what the point before left, and the four groups' shares. -/
theorem out_dw_next (h0 : ¬t.val % 16 = 0) (y : S4x128x128.Idx) (hlt : t.val - 1 < cfg0.N) :
    (outsAt0 m c t.val t.isLt).2.2.2.1 y = (outsAt0 m c (t.val - 1) hlt).2.2.2.1 y
      + (((data Z C LG LB W B).dwAt t.val (y 0).val (y 1).val (y 2).val : ℝ) : EReal) := by
  rw [outsAt0_B m c t h0]
  frame_out
  refine View.canon_eq_of_allAt _ y _ (View.cover_of_tiled_head _ _ _ (by rfl) y) ?_
  refine View.allAt_cons_unit _ _ _ _ _ (tile_dw H t 3 768 rfl _ _ _ _ y) ?_
  refine View.allAt_cons_unit _ _ _ _ _ (tile_dw H t 2 512 rfl _ _ _ _ y) ?_
  refine View.allAt_cons_unit _ _ _ _ _ (tile_dw H t 1 256 rfl _ _ _ _ y) ?_
  exact View.allAt_cons_unit _ _ _ _ _ (tile_dw H t 0 0 rfl _ _ _ _ y) (View.allAt_nil _ _)

/-- The point's share of the biases' gradient, added to an old block. -/
theorem share_db (i0 i1 i2 i3) (old : FVec Ideal S128x128 .f32) (y : S128x128.Idx) :
    addf old (addf (addf (addf (addf (k0_pay16 (F := Ideal))
      (lanePart (BitVec.ofNat 32 0) (k0_pay22 (F := Ideal) (cols (iblk m c 2 t) 0 i0) (k0_pay18 (F := Ideal) (cols (iblk m c 2 t) 0 i0))
        (cols (iblk m c 0 t) 0 i0) (cols (X0_3 m c t) 0 i0))))
      (lanePart (BitVec.ofNat 32 1) (k0_pay22 (F := Ideal) (cols (iblk m c 2 t) 256 i1) (k0_pay18 (F := Ideal) (cols (iblk m c 2 t) 256 i1))
        (cols (iblk m c 0 t) 256 i1) (cols (X0_3 m c t) 256 i1))))
      (lanePart (BitVec.ofNat 32 2) (k0_pay22 (F := Ideal) (cols (iblk m c 2 t) 512 i2) (k0_pay18 (F := Ideal) (cols (iblk m c 2 t) 512 i2))
        (cols (iblk m c 0 t) 512 i2) (cols (X0_3 m c t) 512 i2))))
      (lanePart (BitVec.ofNat 32 3) (k0_pay22 (F := Ideal) (cols (iblk m c 2 t) 768 i3) (k0_pay18 (F := Ideal) (cols (iblk m c 2 t) 768 i3))
        (cols (iblk m c 0 t) 768 i3) (cols (X0_3 m c t) 768 i3)))) y
      = old y + (((data Z C LG LB W B).dbAt t.val (y 0).val (y 1).val : ℝ) : EReal) := by
  rw [ValueIdx.addf_apply]
  exact congrArg (old y + ·) (db_apply (data Z C LG LB W B) t.val _ _ _ _ (group_dm H t 0 i0) (group_dm H t 256 i1) (group_dm H t 512 i2)
    (group_dm H t 768 i3) y)

/-- The first point's block of the biases' gradient. -/
theorem out_db_first (h0 : t.val % 16 = 0) (y : S128x128.Idx) :
    (outsAt0 m c t.val t.isLt).2.2.2.2.1 y = (((data Z C LG LB W B).dbAt t.val (y 0).val (y 1).val : ℝ) : EReal) := by
  rw [outsAt0_A m c t h0]
  frame_out
  unfold k0_pay56
  rw [shapeCast_self]
  refine (share_db H t inb_S128x1024_S128x256_0_0 inb_S128x1024_S128x256_0_256 inb_S128x1024_S128x256_0_512 inb_S128x1024_S128x256_0_768
    (k0_pay3 (F := Ideal)) y).trans ?_
  exact (congrArg (fun w : EReal => w + _) Ideal.ofBits_zero_f32).trans (zero_add _)

/-- A later point's. -/
theorem out_db_next (h0 : ¬t.val % 16 = 0) (y : S128x128.Idx) (hlt : t.val - 1 < cfg0.N) :
    (outsAt0 m c t.val t.isLt).2.2.2.2.1 y = (outsAt0 m c (t.val - 1) hlt).2.2.2.2.1 y
      + (((data Z C LG LB W B).dbAt t.val (y 0).val (y 1).val : ℝ) : EReal) := by
  rw [outsAt0_B m c t h0]
  frame_out
  unfold k0_pay56
  rw [shapeCast_self]
  exact share_db H t inb_S128x1024_S128x256_0_0 inb_S128x1024_S128x256_0_256 inb_S128x1024_S128x256_0_512 inb_S128x1024_S128x256_0_768 _ y

/-- The first point's row of the gains' gradient. -/
theorem out_dlg_first (h0 : t.val % 16 = 0) (y : S1x1024.Idx) :
    (outsAt0 m c t.val t.isLt).2.2.2.2.2.1 y = (((data Z C LG LB W B).dlgAt t.val (y 1).val : ℝ) : EReal) := by
  rw [outsAt0_A m c t h0]
  frame_out
  refine (dlg_apply (data Z C LG LB W B) t.val _ _ _ _ _ (parts H t _ _ _ _ _ _ _ _) _ (block_v H t) (k0_pay4 (F := Ideal)) y).trans ?_
  exact (congrArg (fun w : EReal => w + _) Ideal.ofBits_zero_f32).trans (zero_add _)

/-- A later point's. -/
theorem out_dlg_next (h0 : ¬t.val % 16 = 0) (y : S1x1024.Idx) (hlt : t.val - 1 < cfg0.N) :
    (outsAt0 m c t.val t.isLt).2.2.2.2.2.1 y = (outsAt0 m c (t.val - 1) hlt).2.2.2.2.2.1 y
      + (((data Z C LG LB W B).dlgAt t.val (y 1).val : ℝ) : EReal) := by
  rw [outsAt0_B m c t h0]
  frame_out
  exact dlg_apply (data Z C LG LB W B) t.val _ _ _ _ _ (parts H t _ _ _ _ _ _ _ _) _ (block_v H t) _ y

/-- The first point's row of the norm's biases' gradient. -/
theorem out_dlb_first (h0 : t.val % 16 = 0) (y : S1x1024.Idx) :
    (outsAt0 m c t.val t.isLt).2.2.2.2.2.2 y = (((data Z C LG LB W B).dlbAt t.val (y 1).val : ℝ) : EReal) := by
  rw [outsAt0_A m c t h0]
  frame_out
  refine (dlb_apply (data Z C LG LB W B) t.val _ _ _ _ _ (parts H t _ _ _ _ _ _ _ _) (k0_pay5 (F := Ideal)) y).trans ?_
  exact (congrArg (fun w : EReal => w + _) Ideal.ofBits_zero_f32).trans (zero_add _)

/-- A later point's. -/
theorem out_dlb_next (h0 : ¬t.val % 16 = 0) (y : S1x1024.Idx) (hlt : t.val - 1 < cfg0.N) :
    (outsAt0 m c t.val t.isLt).2.2.2.2.2.2 y = (outsAt0 m c (t.val - 1) hlt).2.2.2.2.2.2 y
      + (((data Z C LG LB W B).dlbAt t.val (y 1).val : ℝ) : EReal) := by
  rw [outsAt0_B m c t h0]
  frame_out
  exact dlb_apply (data Z C LG LB W B) t.val _ _ _ _ _ (parts H t _ _ _ _ _ _ _ _) _ y

/-- A block that starts at its first share and gains one share a point holds the sum of the shares so far. -/
theorem sum_shares {α : Type} (f : (n : ℕ) → n < cfg0.N → α → EReal) (g : ℕ → α → ℝ)
    (first : ∀ (t : Fin cfg0.N), t.val % 16 = 0 → ∀ y, f t.val t.isLt y = ((g t.val y : ℝ) : EReal))
    (next : ∀ (t : Fin cfg0.N), ¬t.val % 16 = 0 → ∀ y (hlt : t.val - 1 < cfg0.N),
      f t.val t.isLt y = f (t.val - 1) hlt y + ((g t.val y : ℝ) : EReal)) :
    ∀ (n : ℕ) (hn : n < cfg0.N) (y : α), f n hn y = ((∑ k ∈ range (n + 1), g k y : ℝ) : EReal) := by
  have hN : cfg0.N = 16 := N_0
  intro n
  induction n with
  | zero =>
    intro hn y
    rw [sum_range_one]
    exact first ⟨0, hn⟩ rfl y
  | succ n ih =>
    intro hn y
    rw [sum_range_succ, EReal.coe_add, ← ih (by omega) y]
    exact next ⟨n + 1, hn⟩ (by dsimp only; omega) y (by dsimp only; omega)

end Cert.Sgu.Outs

end
-- ==== Proof.Sgu.Blocks.lean ====
/-
  What the spatial gate's backward kernel leaves in its seven result arrays (hand-written, untrusted).
-/
module

public import proofs.«01_k».proof.Proof.Sgu.Outs
public import proofs.«01_k».proof.Proof.Product.Math

@[expose] public section

set_option backward.isDefEq.respectTransparency.types false
set_option backward.isDefEq.respectTransparency false

noncomputable section

namespace Cert.Sgu.Blocks

open Idealize.ShloMosaic Idealize.ShloMosaic.TcCoe Idealize.SL.Sem Idealize.ShloMosaic.ValueIdx
open Cert.SguIdeal Cert.SguIdeal.Gen Cert.Sgu.Math Cert.Sgu.Loads Cert.Sgu.Outs Cert.Product Finset

theorem idx_8 : ∀ t : Fin cfg0.N, win0_8.index t 0 = t.val ∧ win0_8.index t 1 = 0 :=
  (by decide +kernel : ∀ t : Fin grid0.N, win0_8.index t 0 = t.val ∧ win0_8.index t 1 = 0)
theorem idx_9 : ∀ t : Fin cfg0.N, win0_9.index t 0 = t.val ∧ win0_9.index t 1 = 0 :=
  (by decide +kernel : ∀ t : Fin grid0.N, win0_9.index t 0 = t.val ∧ win0_9.index t 1 = 0)
theorem idx_10 : ∀ t : Fin cfg0.N, win0_10.index t 0 = t.val ∧ win0_10.index t 1 = 0 :=
  (by decide +kernel : ∀ t : Fin grid0.N, win0_10.index t 0 = t.val ∧ win0_10.index t 1 = 0)
theorem idx_11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)
theorem idx_12 : ∀ t : Fin cfg0.N, win0_12.index t 0 = 0 ∧ win0_12.index t 1 = 0 :=
  (by decide +kernel : ∀ t : Fin grid0.N, win0_12.index t 0 = 0 ∧ win0_12.index t 1 = 0)
theorem idx_13 : ∀ t : Fin cfg0.N, win0_13.index t 0 = 0 ∧ win0_13.index t 1 = 0 :=
  (by decide +kernel : ∀ t : Fin grid0.N, win0_13.index t 0 = 0 ∧ win0_13.index t 1 = 0)
theorem idx_14 : ∀ t : Fin cfg0.N, win0_14.index t 0 = 0 ∧ win0_14.index t 1 = 0 :=
  (by decide +kernel : ∀ t : Fin grid0.N, win0_14.index t 0 = 0 ∧ win0_14.index t 1 = 0)

/-- The last point's number plus one. -/
theorem last (t : Fin cfg0.N) (h : t.val % 16 = 15) : t.val + 1 = 16 := by
  have hN : cfg0.N = 16 := N_0
  have := t.isLt
  omega

variable {m : (ℓ : Loc nD τ sig) → Buf (Elt Ideal) ℓ} {c : Dev nD} {Z C : ℕ → ℕ → ℝ} {LG LB : ℕ → ℝ} {W : ℕ → ℕ → ℕ → ℝ} {B : ℕ → ℕ → ℝ}
  (H : Holds m c Z C LG LB W B)
include H

/-- The gradient in the first branch. -/
theorem arr_du : (dats m 0 c).arrAt 8 cfg0.N
    = fun i : S2048x1024.Idx => (((data Z C LG LB W B).du (i 0).val (i 1).val : ℝ) : EReal) := by
  refine (dats m 0 c).arrAt_eq_of_covers 8 (fun i : S2048x1024.Idx => (((data Z C LG LB W B).du (i 0).val (i 1).val : ℝ) : EReal))
    (by decide +kernel) fun t _ j => ?_
  show (dats m 0 c).after 8 t j = _
  rw [after0_8]
  refine (out_du H t j).trans ?_
  show _ = (((data Z C LG LB W B).du (win0_8.index t 0 * 128 + 1 * (j 0).val) (win0_8.index t 1 * 1024 + 1 * (j 1).val) : ℝ) : EReal)
  rw [place (idx_8 t).1, start (idx_8 t).2]

/-- The gradient in the second branch. -/
theorem arr_dv : (dats m 0 c).arrAt 9 cfg0.N
    = fun i : S2048x1024.Idx => (((data Z C LG LB W B).dv (i 0).val (i 1).val : ℝ) : EReal) := by
  refine (dats m 0 c).arrAt_eq_of_covers 9 (fun i : S2048x1024.Idx => (((data Z C LG LB W B).dv (i 0).val (i 1).val : ℝ) : EReal))
    (by decide +kernel) fun t _ j => ?_
  show (dats m 0 c).after 9 t j = _
  rw [after0_9]
  refine (out_dv H t j).trans ?_
  show _ = (((data Z C LG LB W B).dv (win0_9.index t 0 * 128 + 1 * (j 0).val) (win0_9.index t 1 * 1024 + 1 * (j 1).val) : ℝ) : EReal)
  rw [place (idx_9 t).1, start (idx_9 t).2]

/-- The gradient in the gate. -/
theorem arr_dg : (dats m 0 c).arrAt 10 cfg0.N
    = fun i : S2048x1024.Idx => (((data Z C LG LB W B).dg (i 0).val (i 1).val : ℝ) : EReal) := by
  refine (dats m 0 c).arrAt_eq_of_covers 10 (fun i : S2048x1024.Idx => (((data Z C LG LB W B).dg (i 0).val (i 1).val : ℝ) : EReal))
    (by decide +kernel) fun t _ j => ?_
  show (dats m 0 c).after 10 t j = _
  rw [after0_10]
  refine (out_dg H t j).trans ?_
  show _ = (((data Z C LG LB W B).dg (win0_10.index t 0 * 128 + 1 * (j 0).val) (win0_10.index t 1 * 1024 + 1 * (j 1).val) : ℝ) : EReal)
  rw [place (idx_10 t).1, start (idx_10 t).2]

/-- The gradient of the mixing matrices. -/
theorem arr_dw : (dats m 0 c).arrAt 11 cfg0.N
    = fun i : S4x128x128.Idx => (((data Z C LG LB W B).dw 16 (i 0).val (i 1).val (i 2).val : ℝ) : EReal) := by
  refine (dats m 0 c).arrAt_eq_of_covers 11 (fun i : S4x128x128.Idx => (((data Z C LG LB W B).dw 16 (i 0).val (i 1).val (i 2).val : ℝ) : EReal))
    (by decide +kernel) fun t hf j => ?_
  show (dats m 0 c).after 11 t j = _
  rw [after0_11]
  refine (sum_shares H (fun n h (y : S4x128x128.Idx) => (outsAt0 m c n h).2.2.2.1 y) (fun n y => (data Z C LG LB W B).dwAt n (y 0).val (y 1).val (y 2).val)
    (fun t h y => out_dw_first H t h y) (fun t h y hlt => out_dw_next H t h y hlt) t.val t.isLt j).trans ?_
  rw [last t ((flush0_11 t).mp hf)]
  show _ = (((data Z C LG LB W B).dw 16 (win0_11.index t 0 * 4 + 1 * (j 0).val) (win0_11.index t 1 * 128 + 1 * (j 1).val)
    (win0_11.index t 2 * 128 + 1 * (j 2).val) : ℝ) : EReal)
  rw [start (idx_11 t).1, start (idx_11 t).2.1, start (idx_11 t).2.2]
  rfl

/-- The gradient of the mixing biases, one lane for each group. -/
theorem arr_db : (dats m 0 c).arrAt 12 cfg0.N
    = fun i : S128x128.Idx => (((data Z C LG LB W B).db 16 (i 0).val (i 1).val : ℝ) : EReal) := by
  refine (dats m 0 c).arrAt_eq_of_covers 12 (fun i : S128x128.Idx => (((data Z C LG LB W B).db 16 (i 0).val (i 1).val : ℝ) : EReal))
    (by decide +kernel) fun t hf j => ?_
  show (dats m 0 c).after 12 t j = _
  rw [after0_12]
  refine (sum_shares H (fun n h (y : S128x128.Idx) => (outsAt0 m c n h).2.2.2.2.1 y) (fun n y => (data Z C LG LB W B).dbAt n (y 0).val (y 1).val)
    (fun t h y => out_db_first H t h y) (fun t h y hlt => out_db_next H t h y hlt) t.val t.isLt j).trans ?_
  rw [last t ((flush0_12 t).mp hf)]
  show _ = (((data Z C LG LB W B).db 16 (win0_12.index t 0 * 128 + 1 * (j 0).val) (win0_12.index t 1 * 128 + 1 * (j 1).val) : ℝ) : EReal)
  rw [start (idx_12 t).1, start (idx_12 t).2]
  rfl

/-- The gradient of the norm's gains. -/
theorem arr_dlg : (dats m 0 c).arrAt 13 cfg0.N
    = fun i : S1x1024.Idx => (((data Z C LG LB W B).dlg 16 (i 1).val : ℝ) : EReal) := by
  refine (dats m 0 c).arrAt_eq_of_covers 13 (fun i : S1x1024.Idx => (((data Z C LG LB W B).dlg 16 (i 1).val : ℝ) : EReal))
    (by decide +kernel) fun t hf j => ?_
  show (dats m 0 c).after 13 t j = _
  rw [after0_13]
  refine (sum_shares H (fun n h (y : S1x1024.Idx) => (outsAt0 m c n h).2.2.2.2.2.1 y) (fun n y => (data Z C LG LB W B).dlgAt n (y 1).val)
    (fun t h y => out_dlg_first H t h y) (fun t h y hlt => out_dlg_next H t h y hlt) t.val t.isLt j).trans ?_
  rw [last t ((flush0_13 t).mp hf)]
  show _ = (((data Z C LG LB W B).dlg 16 (win0_13.index t 1 * 1024 + 1 * (j 1).val) : ℝ) : EReal)
  rw [start (idx_13 t).2]
  rfl

/-- The gradient of the norm's biases. -/
theorem arr_dlb : (dats m 0 c).arrAt 14 cfg0.N
    = fun i : S1x1024.Idx => (((data Z C LG LB W B).dlb 16 (i 1).val : ℝ) : EReal) := by
  refine (dats m 0 c).arrAt_eq_of_covers 14 (fun i : S1x1024.Idx => (((data Z C LG LB W B).dlb 16 (i 1).val : ℝ) : EReal))
    (by decide +kernel) fun t hf j => ?_
  show (dats m 0 c).after 14 t j = _
  rw [after0_14]
  refine (sum_shares H (fun n h (y : S1x1024.Idx) => (outsAt0 m c n h).2.2.2.2.2.2 y) (fun n y => (data Z C LG LB W B).dlbAt n (y 1).val)
    (fun t h y => out_dlb_first H t h y) (fun t h y hlt => out_dlb_next H t h y hlt) t.val t.isLt j).trans ?_
  rw [last t ((flush0_14 t).mp hf)]
  show _ = (((data Z C LG LB W B).dlb 16 (win0_14.index t 1 * 1024 + 1 * (j 1).val) : ℝ) : EReal)
  rw [start (idx_14 t).2]
  rfl

end Cert.Sgu.Blocks

end
-- ==== Proof.Sgu.Ref.lean ====
/-
  What the reference of the spatial gate's backward pass computes (hand-written, untrusted).
-/
module

public import proofs.«01_k».proof.Proof.Sgu.Math
public import proofs.«01_k».proof.Proof.Gen.SguRefIdeal.Read

@[expose] public section

set_option backward.isDefEq.respectTransparency.types false
set_option backward.isDefEq.respectTransparency false

noncomputable section

namespace Cert.Sgu.Ref

open Idealize.ShloMosaic Idealize.ShloMosaic.TcCoe Idealize.SL.Sem Idealize.ShloMosaic.ValueIdx
open Cert.SguRefIdeal Cert.SguRefIdeal.Gen Cert.SguRefIdeal.Read Cert.Sgu.Math Cert.Rms.Math Cert.Gate.Math Cert.Reals Finset

/-- The single-precision word of two. -/
theorem ofBits_two : Ideal.ofBits .f32 0x40000000#32 = ((2 : ℝ) : EReal) := by
  simp [Ideal.ofBits, Ideal.ieee, -EReal.coe_mul]; norm_num

/-- Where the reference's channel-first order puts an entry: group, row of the run, and run beside channel. -/
theorem fold (i : S4x128x4096.Idx) :
    (idx_main_v35 (idx_main_v36 (idx_main_v37 i)) 0).val = 128 * ((i 2).val / 256) + (i 1).val
      ∧ (idx_main_v35 (idx_main_v36 (idx_main_v37 i)) 1).val = 256 * (i 0).val + (i 2).val % 256 := by
  have h0 : (i 0).val < 4 := (i 0).isLt
  have h1 : (i 1).val < 128 := (i 1).isLt
  have h2 : (i 2).val < 4096 := (i 2).isLt
  have e0 : (idx_main_v37 i 0).val = (i 0).val := by
    show (((i 0).val * 128 + (i 1).val) * 4096 + (i 2).val) / 524288 = _; omega
  have e1 : (idx_main_v37 i 1).val = (i 1).val := by
    show (((i 0).val * 128 + (i 1).val) * 4096 + (i 2).val) / 4096 % 128 = _; omega
  have e2 : (idx_main_v37 i 2).val = (i 2).val / 256 := by
    show (((i 0).val * 128 + (i 1).val) * 4096 + (i 2).val) / 256 % 16 = _; omega
  have e3 : (idx_main_v37 i 3).val = (i 2).val % 256 := by
    show (((i 0).val * 128 + (i 1).val) * 4096 + (i 2).val) % 256 = _; omega
  constructor
  · show ((((idx_main_v37 i 2).val * 128 + (idx_main_v37 i 1).val) * 4 + (idx_main_v37 i 0).val) * 256 + (idx_main_v37 i 3).val) / 1024 = _
    rw [e0, e1, e2, e3]; omega
  · show ((((idx_main_v37 i 2).val * 128 + (idx_main_v37 i 1).val) * 4 + (idx_main_v37 i 0).val) * 256 + (idx_main_v37 i 3).val) % 1024 = _
    rw [e0, e1, e2, e3]; omega

/-- … and where an entry of that order belongs. -/
theorem unfold' (i : S2048x1024.Idx) :
    (idx_main_v42 (idx_main_v43 (idx_main_v44 i)) 0).val = (i 1).val / 256
      ∧ (idx_main_v42 (idx_main_v43 (idx_main_v44 i)) 1).val = (i 0).val % 128
      ∧ (idx_main_v42 (idx_main_v43 (idx_main_v44 i)) 2).val = 256 * ((i 0).val / 128) + (i 1).val % 256 := by
  have h0 : (i 0).val < 2048 := (i 0).isLt
  have h1 : (i 1).val < 1024 := (i 1).isLt
  have e0 : (idx_main_v44 i 0).val = (i 0).val / 128 := by
    show ((i 0).val * 1024 + (i 1).val) / 131072 = _; omega
  have e1 : (idx_main_v44 i 1).val = (i 0).val % 128 := by
    show ((i 0).val * 1024 + (i 1).val) / 1024 % 128 = _; omega
  have e2 : (idx_main_v44 i 2).val = (i 1).val / 256 := by
    show ((i 0).val * 1024 + (i 1).val) / 256 % 4 = _; omega
  have e3 : (idx_main_v44 i 3).val = (i 1).val % 256 := by
    show ((i 0).val * 1024 + (i 1).val) % 256 = _; omega
  refine ⟨?_, ?_, ?_⟩
  · show ((((idx_main_v44 i 2).val * 128 + (idx_main_v44 i 1).val) * 16 + (idx_main_v44 i 0).val) * 256 + (idx_main_v44 i 3).val) / 524288 = _
    rw [e0, e1, e2, e3]; omega
  · show ((((idx_main_v44 i 2).val * 128 + (idx_main_v44 i 1).val) * 16 + (idx_main_v44 i 0).val) * 256 + (idx_main_v44 i 3).val) / 4096 % 128 = _
    rw [e0, e1, e2, e3]
    have h : ((((i 1).val / 256 * 128 + (i 0).val % 128) * 16 + (i 0).val / 128) * 256 + (i 1).val % 256) / 4096
        = (i 1).val / 256 * 128 + (i 0).val % 128 := by omega
    rw [h]
    omega
  · show ((((idx_main_v44 i 2).val * 128 + (idx_main_v44 i 1).val) * 16 + (idx_main_v44 i 0).val) * 256 + (idx_main_v44 i 3).val) % 4096 = _
    rw [e0, e1, e2, e3]; omega

variable (x0 : FVec Ideal S2048x4096 .f32) (x1 : FVec Ideal S2048x1536 .f32) (x2 x3 : FVec Ideal S1x1024 .f32)
  (x4 : FVec Ideal S4x128x128 .f32) (x5 : FVec Ideal S4x128 .f32) (X : Data)

/-- The arguments hold finite values: those of `X`. -/
structure Reads : Prop where
  u : ∀ i, val_main_v0 (F := Ideal) x0 i = ((X.U (i 0).val (i 1).val : ℝ) : EReal)
  v : ∀ i, val_main_v1 (F := Ideal) x0 i = ((X.V (i 0).val (i 1).val : ℝ) : EReal)
  g : ∀ i, val_main_v2 (F := Ideal) x0 i = ((X.G (i 0).val (i 1).val : ℝ) : EReal)
  d : ∀ i, val_main_v48 (F := Ideal) x1 i = ((X.C (i 0).val (i 1).val : ℝ) : EReal)
  lg : ∀ i, x2 i = ((X.LG (i 1).val : ℝ) : EReal)
  lb : ∀ i, x3 i = ((X.LB (i 1).val : ℝ) : EReal)
  w : ∀ i, x4 i = ((X.W (i 0).val (i 1).val (i 2).val : ℝ) : EReal)
  b : ∀ i, x5 i = ((X.B (i 0).val (i 1).val : ℝ) : EReal)

variable {x0 x1 x2 x3 x4 x5 X} (H : Reads x0 x1 x2 x3 x4 x5 X)
include H

/-- A row's mean. -/
theorem v6_eq (i : S2048x1.Idx) : val_main_v6 (F := Ideal) x0 i = ((X.mean (i 0).val : ℝ) : EReal) := by
  rw [val_main_v6_apply, val_main_v5_apply, val_main_cst_0_apply, val_main_v4_apply, val_main_v3_apply, val_main_cst_apply]
  change Ideal.div (Ideal.ofBits .f32 0x00000000#32 + _) (Ideal.ofBits .f32 0x44800000#32) = _
  rw [sum_fin_coe _ (X.V (i 0).val) fun k => H.v _, Ideal.ofBits_zero_f32, zero_add, ofBits_1024, div_coe_coe _ (by norm_num)]
  rfl

/-- A row less its mean. -/
theorem v8_eq (i : S2048x1024.Idx) : val_main_v8 (F := Ideal) x0 i = ((X.vc (i 0).val (i 1).val : ℝ) : EReal) := by
  rw [val_main_v8_apply, val_main_v7_apply, v6_eq H, H.v]
  exact (EReal.coe_sub _ _).symm

/-- The same, computed a second time. -/
theorem v17_eq (i : S2048x1024.Idx) : val_main_v17 (F := Ideal) x0 i = ((X.vc (i 0).val (i 1).val : ℝ) : EReal) := by
  rw [val_main_v17_apply, val_main_v16_apply, v6_eq H, H.v]
  exact (EReal.coe_sub _ _).symm

theorem v11_eq (i : S2048x1024.Idx) : val_main_v11 (F := Ideal) x0 i = ((2 * X.vc (i 0).val (i 1).val : ℝ) : EReal) := by
  rw [val_main_v11_apply, val_main_v10_apply, val_main_cst_1_apply, v8_eq H]
  change Ideal.ofBits .f32 0x40000000#32 * _ = _
  rw [ofBits_two, ← EReal.coe_mul]

/-- A row's variance plus the constant. -/
theorem v19_eq (i : S2048x1.Idx) : val_main_v19 (F := Ideal) x0 i = ((power (X.vc (i 0).val) : ℝ) : EReal) := by
  rw [val_main_v19_apply, val_main_v18_apply, val_main_cst_4_apply, val_main_v15_apply, val_main_v14_apply, val_main_cst_3_apply,
    val_main_v13_apply, val_main_v12_apply, val_main_cst_2_apply]
  change Ideal.div (Ideal.ofBits .f32 0x00000000#32 + _) (Ideal.ofBits .f32 0x44800000#32) + Ideal.ofBits .f32 0x358637BD#32 = _
  rw [sum_fin_coe _ (fun k => X.vc (i 0).val k * X.vc (i 0).val k) fun k => by
      rw [val_main_v9_apply, v8_eq H]; exact (EReal.coe_mul _ _).symm,
    Ideal.ofBits_zero_f32, zero_add, ofBits_1024, ofBits_eps, div_coe_coe _ (by norm_num), ← EReal.coe_add]
  rfl

theorem v20_eq (i : S2048x1.Idx) : val_main_v20 (F := Ideal) x0 i = ((X.rs (i 0).val : ℝ) : EReal) := by
  rw [val_main_v20_apply, v19_eq H]
  exact rsqrt_power _

theorem v23_eq (i : S2048x1.Idx) : val_main_v23 (F := Ideal) x0 i
    = ((-(1 / 2) * (X.rs (i 0).val / power (X.vc (i 0).val)) : ℝ) : EReal) := by
  rw [val_main_v23_apply, val_main_v22_apply, val_main_cst_5_apply, val_main_v21_apply, v20_eq H, v19_eq H]
  change Ideal.ofBits .f32 0xBF000000#32 * Ideal.div _ _ = _
  rw [ofBits_neg_half, div_coe_coe _ (power_pos _).ne', ← EReal.coe_mul]

theorem v25_eq (i : S2048x1024.Idx) : val_main_v25 (F := Ideal) x0 i = ((X.xh (i 0).val (i 1).val : ℝ) : EReal) := by
  rw [val_main_v25_apply, val_main_v24_apply, v17_eq H, v20_eq H]
  exact (EReal.coe_mul _ _).symm

/-- The normalised rows. -/
theorem v29_eq (i : S2048x1024.Idx) : val_main_v29 (F := Ideal) x0 x2 x3 i = ((X.vn (i 0).val (i 1).val : ℝ) : EReal) := by
  rw [val_main_v29_apply, val_main_v27_apply, val_main_v28_apply, val_main_v26_apply, v25_eq H, H.lg, H.lb]
  exact (congrArg (fun w : EReal => w + _) (EReal.coe_mul _ _).symm).trans (EReal.coe_add _ _).symm

omit H in
/-- The lower triangle as a mask. -/
theorem mask_eq (i : S4x128x128.Idx) : val_main_v34_1 (F := Ideal) i = if (i 2).val ≤ (i 1).val then 1#1 else 0#1 := by
  have h : ∀ a b : Fin 128, Scalar.select (IntOp.cmpi .sge (IntOp.addi (BitVec.ofNat 32 a.val) 0#32) (BitVec.ofNat 32 b.val)) 1#1 0#1
      = if b.val ≤ a.val then 1#1 else 0#1 := by
    decide +kernel
  rw [val_main_v34_1_apply, val_main_v32_apply, val_main_v31_apply, val_main_call0_v4_apply, val_main_call0_v2_apply,
    val_main_call0_v0_apply, val_main_call0_v1_apply, val_main_call0_c_apply, val_main_call0_v3_apply, val_main_v30_apply,
    val_main_c_apply, val_main_call0_v5_apply, val_main_call0_c_0_apply]
  exact h (i 1) (i 2)

omit H in
/-- A block kept below the diagonal and zero above. -/
theorem below (i : S4x128x128.Idx) (a : EReal) (r : ℝ) (ha : a = (r : EReal)) :
    Scalar.select (val_main_v34_1 (F := Ideal) i) a (Ideal.ofBits .f32 0x00000000#32)
      = ((if (i 2).val ≤ (i 1).val then r else 0 : ℝ) : EReal) := by
  rw [mask_eq, ha]
  by_cases h : (i 2).val ≤ (i 1).val
  · rw [if_pos h, if_pos h]
    rfl
  · rw [if_neg h, if_neg h]
    exact Ideal.ofBits_zero_f32

theorem v34_eq (i : S4x128x128.Idx) : val_main_v34_0 (F := Ideal) x4 i = ((X.wm (i 0).val (i 1).val (i 2).val : ℝ) : EReal) := by
  rw [val_main_v34_0_apply, val_main_v33_apply, val_main_cst_6_apply]
  exact below i _ _ (H.w i)

/-- The normalised rows, channel groups first. -/
theorem v37_eq (i : S4x128x4096.Idx) : val_main_v37 (F := Ideal) x0 x2 x3 i
    = ((X.vn (128 * ((i 2).val / 256) + (i 1).val) (256 * (i 0).val + (i 2).val % 256) : ℝ) : EReal) := by
  rw [val_main_v37_apply, val_main_v36_apply, val_main_v35_apply, v29_eq H, (fold i).1, (fold i).2]

/-- The mixed rows. -/
theorem v44_eq (i : S2048x1024.Idx) : val_main_v44 (F := Ideal) x0 x2 x3 x4 x5 i = ((X.mix (i 0).val (i 1).val : ℝ) : EReal) := by
  have h0 : (i 0).val < 2048 := (i 0).isLt
  have h1 : (i 1).val < 1024 := (i 1).isLt
  obtain ⟨e0, e1, e2⟩ := unfold' i
  rw [val_main_v44_apply, val_main_v43_apply, val_main_v42_apply]
  generalize idx_main_v42 (idx_main_v43 (idx_main_v44 i)) = p at e0 e1 e2
  rw [val_main_v41_apply, val_main_v40_apply, val_main_v39_apply, H.b, val_main_v38_apply]
  rw [sum_fin_coe _ (fun k => X.wm (p 0).val (p 1).val k * X.vn (128 * ((p 2).val / 256) + k) (256 * (p 0).val + (p 2).val % 256)) fun k => by
    rw [v34_eq H, v37_eq H]; exact (EReal.coe_mul _ _).symm]
  refine (EReal.coe_add _ _).symm.trans (congrArg (fun r : ℝ => (r : EReal)) ?_)
  show _ + X.B (p 0).val (p 1).val = _
  rw [e0, e1, e2, show (256 * ((i 0).val / 128) + (i 1).val % 256) / 256 = (i 0).val / 128 by omega,
    show 256 * ((i 1).val / 256) + (256 * ((i 0).val / 128) + (i 1).val % 256) % 256 = (i 1).val by omega]
  rfl

/-- The gate's logistic values. -/
theorem sig_eq (i : S2048x1024.Idx) : val_main_v46_2 (F := Ideal) x0 i = ((sig (X.G (i 0).val (i 1).val) : ℝ) : EReal) := by
  rw [val_main_v46_2_apply, val_main_call2_v4_apply, val_main_call2_cst_0_apply, val_main_call2_v3_apply, val_main_call2_v2_apply,
    val_main_call2_cst_apply, val_main_call2_v1_apply, val_main_call2_v0_apply, H.g]
  exact logistic _

theorem slope_eq (i : S2048x1024.Idx) : val_main_v46_1 (F := Ideal) x0 i
    = ((sig (X.G (i 0).val (i 1).val) * (1 - sig (X.G (i 0).val (i 1).val)) : ℝ) : EReal) := by
  rw [val_main_v46_1_apply, val_main_call2_v7_apply, val_main_call2_v6_apply, val_main_call2_cst_1_apply, sig_eq H]
  change _ * (Ideal.ofBits .f32 0x3F800000#32 - _) = _
  rw [ofBits_one]
  norm_cast

theorem v50_eq (i : S2048x1024.Idx) : val_main_v50 (F := Ideal) x0 x1 i
    = ((X.C (i 0).val (i 1).val * silu (X.G (i 0).val (i 1).val) : ℝ) : EReal) := by
  rw [val_main_v50_apply, val_main_v46_0_apply, sig_eq H, H.g, H.d]
  exact (congrArg (fun w : EReal => _ * w) (EReal.coe_mul _ _).symm).trans (EReal.coe_mul _ _).symm

/-- The gradient in the first branch. -/
theorem v53_eq (i : S2048x1024.Idx) : val_main_v53 (F := Ideal) x0 x1 x2 x3 x4 x5 i = ((X.du (i 0).val (i 1).val : ℝ) : EReal) := by
  rw [val_main_v53_apply, v50_eq H, v44_eq H]
  refine (EReal.coe_mul _ _).symm.trans (congrArg (fun r : ℝ => (r : EReal)) ?_)
  unfold Data.du
  ring

/-- The gradient in the gate. -/
theorem v51_eq (i : S2048x1024.Idx) : val_main_v51 (F := Ideal) x0 x1 x2 x3 x4 x5 i = ((X.dg (i 0).val (i 1).val : ℝ) : EReal) := by
  rw [val_main_v51_apply, val_main_call3_v1_apply, val_main_call3_v2_apply, val_main_call3_v0_apply, val_main_v49_apply,
    val_main_v45_apply, v44_eq H, sig_eq H, slope_eq H, H.u, H.g, H.d]
  change ((_ : EReal) * _ * _) * _ + _ * (_ * _ * _) * _ = _
  norm_cast
  unfold Data.dg siluSlope
  ring

/-- The gradient of the mixed rows. -/
theorem v52_eq (i : S2048x1024.Idx) : val_main_v52 (F := Ideal) x0 x1 i = ((X.dm (i 0).val (i 1).val : ℝ) : EReal) := by
  rw [val_main_v52_apply, v50_eq H, H.u]
  refine (EReal.coe_mul _ _).symm.trans (congrArg (fun r : ℝ => (r : EReal)) ?_)
  unfold Data.dm
  ring

/-- … channel groups first. -/
theorem v56_eq (i : S4x128x4096.Idx) : val_main_v56 (F := Ideal) x0 x1 i
    = ((X.dm (128 * ((i 2).val / 256) + (i 1).val) (256 * (i 0).val + (i 2).val % 256) : ℝ) : EReal) := by
  rw [val_main_v56_apply, val_main_v55_apply, val_main_v54_apply, v52_eq H]
  exact congrArg (fun r : ℝ => (r : EReal)) (congrArg₂ X.dm (fold i).1 (fold i).2)

/-- The gradient of the normalised rows. -/
theorem v65_eq (i : S2048x1024.Idx) : val_main_v65 (F := Ideal) x0 x1 x4 i = ((X.dvn (i 0).val (i 1).val : ℝ) : EReal) := by
  have h0 : (i 0).val < 2048 := (i 0).isLt
  have h1 : (i 1).val < 1024 := (i 1).isLt
  obtain ⟨e0, e1, e2⟩ := unfold' i
  rw [val_main_v65_apply, val_main_v64_apply, val_main_v63_apply]
  change val_main_v61 (F := Ideal) x0 x1 x4 (idx_main_v42 (idx_main_v43 (idx_main_v44 i))) = _
  generalize idx_main_v42 (idx_main_v43 (idx_main_v44 i)) = p at e0 e1 e2
  rw [val_main_v61_apply, val_main_v60_apply]
  refine (sum_fin_coe _ (fun k => X.dm (128 * ((p 2).val / 256) + k) (256 * (p 0).val + (p 2).val % 256) * X.wm (p 0).val k (p 1).val) fun k => by
    rw [v34_eq H, v56_eq H]; exact (EReal.coe_mul _ _).symm).trans (congrArg (fun r : ℝ => (r : EReal)) ?_)
  rw [e0, e1, e2, show (256 * ((i 0).val / 128) + (i 1).val % 256) / 256 = (i 0).val / 128 by omega,
    show 256 * ((i 1).val / 256) + (256 * ((i 0).val / 128) + (i 1).val % 256) % 256 = (i 1).val by omega]
  exact sum_congr rfl fun _ _ => mul_comm _ _

omit H in
/-- A sum over runs and a group's channels, taken at once or run by run. -/
theorem sum_group (f : ℕ → ℕ → ℝ) : ∑ l ∈ range 4096, f (l / 256) (l % 256) = ∑ n ∈ range 16, ∑ c ∈ range 256, f n c := by
  refine (sum_runs (fun l => f (l / 256) (l % 256)) 16 256).trans (sum_congr rfl fun n _ => sum_congr rfl fun c hc => ?_)
  have h := mem_range.mp hc
  show f ((256 * n + c) / 256) ((256 * n + c) % 256) = _
  rw [show (256 * n + c) / 256 = n by omega, show (256 * n + c) % 256 = c by omega]

/-- The gradient of the mixing matrices. -/
theorem v66_eq (i : S4x128x128.Idx) : val_main_v66 (F := Ideal) x0 x1 x2 x3 i
    = ((X.dw 16 (i 0).val (i 1).val (i 2).val : ℝ) : EReal) := by
  rw [val_main_v66_apply, val_main_call4_v0_apply, val_main_call4_cst_apply, val_main_v62_apply]
  refine (below i _ _ (sum_fin_coe _ (fun l => X.dm (128 * (l / 256) + (i 1).val) (256 * (i 0).val + l % 256)
    * X.vn (128 * (l / 256) + (i 2).val) (256 * (i 0).val + l % 256)) fun l => by
      rw [v56_eq H, v37_eq H]; exact (EReal.coe_mul _ _).symm)).trans (congrArg (fun r : ℝ => (r : EReal)) ?_)
  rw [sum_group fun n c => X.dm (128 * n + (i 1).val) (256 * (i 0).val + c) * X.vn (128 * n + (i 2).val) (256 * (i 0).val + c)]
  unfold Data.dw Data.dwAt
  by_cases h : (i 2).val ≤ (i 1).val
  · simp only [if_pos h]
  · simp only [if_neg h, sum_const_zero]

/-- The gradient of the mixing biases, by group and row. -/
theorem v59_eq (i : S4x128.Idx) : val_main_v59 (F := Ideal) x0 x1 i = ((X.db 16 (i 1).val (i 0).val : ℝ) : EReal) := by
  have h0 : (i 0).val < 4 := (i 0).isLt
  have h1 : (i 1).val < 128 := (i 1).isLt
  rw [val_main_v59_apply, val_main_cst_8_apply, Fin.sum_univ_one, val_main_v58_apply, val_main_v57_apply, val_main_cst_7_apply]
  change Ideal.ofBits .f32 0x00000000#32 + (Ideal.ofBits .f32 0x00000000#32 + _) = _
  rw [Ideal.ofBits_zero_f32, zero_add, zero_add]
  have e0 : (idx_main_v58 (idx_main_v59 i 0) 0).val = (i 0).val := by
    show (((i 0).val * 128 + (i 1).val) * 1 + 0) / 128 = _; omega
  have e1 : (idx_main_v58 (idx_main_v59 i 0) 1).val = (i 1).val := by
    show (((i 0).val * 128 + (i 1).val) * 1 + 0) % 128 = _; omega
  refine (sum_fin_coe _ (fun l => X.dm (128 * (l / 256) + (i 1).val) (256 * (i 0).val + l % 256)) fun l => ?_).trans
    (congrArg (fun r : ℝ => (r : EReal)) ?_)
  · rw [v56_eq H]
    show ((X.dm (128 * (l.val / 256) + (idx_main_v58 (idx_main_v59 i 0) 1).val) (256 * (idx_main_v58 (idx_main_v59 i 0) 0).val + l.val % 256) : ℝ)
      : EReal) = _
    rw [e0, e1]
  · rw [sum_group fun n c => X.dm (128 * n + (i 1).val) (256 * (i 0).val + c)]
    unfold Data.db Data.dbAt
    simp only [if_pos h0]

/-- The gradient of the mixing biases, one lane for each group, in 128 lanes. -/
theorem v100_eq (i : S128x128.Idx) : val_main_v100 (F := Ideal) x0 x1 i = ((X.db 16 (i 0).val (i 1).val : ℝ) : EReal) := by
  obtain ⟨p, q, rfl⟩ : ∃ (p q : Fin 128), i = ValueIdx.ix2 p q := ⟨i 0, i 1, funext fun a => by
    match a with
    | ⟨0, _⟩ => rfl
    | ⟨1, _⟩ => rfl⟩
  unfold val_main_v100
  by_cases hq : q.val < 4
  · refine (concatenate_pair_apply_left (t := S128x128) 1 (s₁ := S128x4) (s₂ := S128x124) _ _ _ (ValueIdx.ix2 p q) rfl
      (ValueIdx.ix2 p ⟨q.val, hq⟩) fun x => ?_).trans ?_
    · match x with
      | ⟨0, _⟩ => rfl
      | ⟨1, _⟩ => rfl
    · rw [val_main_v98_apply, v59_eq H]
  · refine (concatenate_pair_apply_right (t := S128x128) 1 (s₁ := S128x4) (s₂ := S128x124) _ _ _ (ValueIdx.ix2 p q) rfl rfl
      (ValueIdx.ix2 p ⟨q.val - 4, by omega⟩) (fun x hx => ?_) ?_).trans ?_
    · match x with
      | ⟨0, _⟩ => rfl
      | ⟨1, _⟩ => exact absurd rfl hx
    · show q.val - 4 + 4 = q.val
      omega
    · rw [val_main_v99_apply, val_main_cst_18_apply]
      refine Ideal.ofBits_zero_f32.trans ?_
      have : X.db 16 p.val q.val = 0 := by
        unfold Data.db Data.dbAt
        simp only [if_neg hq, sum_const_zero]
      show (0 : EReal) = ((X.db 16 p.val q.val : ℝ) : EReal)
      rw [this]
      rfl

/-- The gradient of the norm's biases. -/
theorem v68_eq (i : S1x1024.Idx) : val_main_v68 (F := Ideal) x0 x1 x4 i = ((X.dlb 16 (i 1).val : ℝ) : EReal) := by
  have h0 : (i 0).val < 1 := (i 0).isLt
  rw [val_main_v68_apply, val_main_v67_apply, val_main_cst_9_apply]
  change Ideal.ofBits .f32 0x00000000#32 + _ = _
  rw [Ideal.ofBits_zero_f32, zero_add]
  refine (sum_fin_coe _ (fun r => X.dvn r (i 1).val) fun r => (v65_eq H _).trans (congrArg (fun k : ℕ => ((X.dvn r.val k : ℝ) : EReal)) ?_)).trans
    (congrArg (fun r : ℝ => (r : EReal)) (sum_runs (fun r => X.dvn r (i 1).val) 16 128))
  show (i 0).val * 1024 + (i 1).val = _
  omega

/-- The gradient of the norm's gains. -/
theorem v71_eq (i : S1x1024.Idx) : val_main_v71 (F := Ideal) x0 x1 x4 i = ((X.dlg 16 (i 1).val : ℝ) : EReal) := by
  have h0 : (i 0).val < 1 := (i 0).isLt
  rw [val_main_v71_apply, val_main_v70_apply, val_main_cst_10_apply]
  change Ideal.ofBits .f32 0x00000000#32 + _ = _
  rw [Ideal.ofBits_zero_f32, zero_add]
  refine (sum_fin_coe _ (fun r => X.dvn r (i 1).val * X.xh r (i 1).val) fun r => ?_).trans
    (congrArg (fun r : ℝ => (r : EReal)) (sum_runs (fun r => X.dvn r (i 1).val * X.xh r (i 1).val) 16 128))
  rw [val_main_v69_apply, v25_eq H, v65_eq H]
  refine (EReal.coe_mul _ _).symm.trans (congrArg (fun r : ℝ => (r : EReal)) ?_)
  have e : (idx_main_v70 (idx_main_v71 i) r 1).val = (i 1).val := by
    show (i 0).val * 1024 + (i 1).val = _
    omega
  rw [e]
  exact mul_comm _ _

/-- The gradient of the rows before gains. -/
theorem v73_eq (i : S2048x1024.Idx) : val_main_v73 (F := Ideal) x0 x1 x2 x4 i = ((X.dxh (i 0).val (i 1).val : ℝ) : EReal) := by
  rw [val_main_v73_apply, val_main_v72_apply, v65_eq H, H.lg]
  exact (EReal.coe_mul _ _).symm

theorem v78_eq (i : S2048x1024.Idx) : val_main_v78 (F := Ideal) x0 x1 x2 x4 i
    = ((X.dxh (i 0).val (i 1).val * X.rs (i 0).val : ℝ) : EReal) := by
  rw [val_main_v78_apply, val_main_v77_apply, v73_eq H, v20_eq H]
  exact (EReal.coe_mul _ _).symm

/-- What the variance's gradient adds to a row, per unit of its entry: half of it. -/
theorem v86_eq (i : S2048x1024.Idx) : val_main_v86 (F := Ideal) x0 x1 x2 x4 i
    = (((∑ l ∈ range 1024, X.vc (i 0).val l * X.dxh (i 0).val l) * (-(1 / 2) * (X.rs (i 0).val / power (X.vc (i 0).val))) / 1024 : ℝ) : EReal) := by
  rw [val_main_v86_apply, val_main_v85_apply, val_main_cst_14_apply, Fin.sum_univ_one, val_main_v84_apply, val_main_v83_apply,
    val_main_cst_13_apply, val_main_v79_apply, v23_eq H, val_main_v76_apply, val_main_v75_apply, val_main_cst_11_apply]
  change Ideal.ofBits .f32 0x00000000#32 + Ideal.div ((Ideal.ofBits .f32 0x00000000#32 + _) * _) (Ideal.ofBits .f32 0x44800000#32) = _
  have e : ∀ l, (idx_main_v75 (idx_main_v76 (idx_main_v85 (idx_main_v86 i) 0)) l 0).val = (i 0).val := fun l => by
    show (i 0).val * 1 + 0 = _
    omega
  rw [sum_fin_coe _ (fun l => X.vc (i 0).val l * X.dxh (i 0).val l) fun l => by
      rw [val_main_v74_apply, v17_eq H, v73_eq H, e]; exact (EReal.coe_mul _ _).symm,
    Ideal.ofBits_zero_f32, zero_add, zero_add, ofBits_1024, ← EReal.coe_mul, div_coe_coe _ (by norm_num)]

theorem v87_eq (i : S2048x1024.Idx) : val_main_v87 (F := Ideal) x0 x1 x2 x4 i
    = (((∑ l ∈ range 1024, X.vc (i 0).val l * X.dxh (i 0).val l) * (-(1 / 2) * (X.rs (i 0).val / power (X.vc (i 0).val))) / 1024
        * (2 * X.vc (i 0).val (i 1).val) : ℝ) : EReal) := by
  rw [val_main_v87_apply, v86_eq H, v11_eq H]
  exact (EReal.coe_mul _ _).symm

/-- The gradient in the second branch. -/
theorem v97_eq (i : S2048x1024.Idx) : val_main_v97 (F := Ideal) x0 x1 x2 x4 i = ((X.dv (i 0).val (i 1).val : ℝ) : EReal) := by
  rw [val_main_v97_apply, val_main_v91_apply, v78_eq H, v87_eq H, val_main_v96_apply, val_main_v95_apply, val_main_cst_17_apply,
    Fin.sum_univ_one, val_main_v94_apply, val_main_v93_apply, val_main_cst_16_apply, val_main_v92_apply, val_main_v82_apply,
    val_main_v81_apply, val_main_cst_12_apply, val_main_v90_apply, val_main_v89_apply, val_main_cst_15_apply]
  rw [← X.dv_expanded _ _ _ rfl]
  generalize hA : (∑ l ∈ range 1024, X.vc (i 0).val l * X.dxh (i 0).val l) * (-(1 / 2) * (X.rs (i 0).val / power (X.vc (i 0).val))) / 1024 = A
  have s1 : ∀ l : Fin 1024, val_main_v80 (F := Ideal) x0 x1 x2 x4 (ValueIdx.ix2 (i 0) l) = ((-(X.dxh (i 0).val l.val * X.rs (i 0).val) : ℝ) : EReal) :=
    fun l => by
      rw [val_main_v80_apply, v78_eq H]
      exact (EReal.coe_neg _).symm
  have s2 : ∀ l : Fin 1024, val_main_v88 (F := Ideal) x0 x1 x2 x4 (ValueIdx.ix2 (i 0) l) = ((-(A * (2 * X.vc (i 0).val l.val)) : ℝ) : EReal) :=
    fun l => by
      rw [val_main_v88_apply, v87_eq H, ← hA]
      exact (EReal.coe_neg _).symm
  have place : ∀ l : Fin 1024, idx_main_v81 (idx_main_v82 (idx_main_v95 (idx_main_v96 i) 0)) l = ValueIdx.ix2 (i 0) l := fun l =>
    funext fun a => by
      match a with
      | ⟨0, _⟩ => exact Fin.ext (show (i 0).val * 1 + 0 = (i 0).val by omega)
      | ⟨1, _⟩ => rfl
  change (_ + _) + (Ideal.ofBits .f32 0x00000000#32 + Ideal.div ((Ideal.ofBits .f32 0x00000000#32 + _) + (Ideal.ofBits .f32 0x00000000#32 + _))
    (Ideal.ofBits .f32 0x44800000#32)) = _
  rw [sum_fin_coe _ (fun l => -(X.dxh (i 0).val l * X.rs (i 0).val)) fun l => (congrArg _ (place l)).trans (s1 l),
    sum_fin_coe _ (fun l => -(A * (2 * X.vc (i 0).val l))) fun l => (congrArg _ (place l)).trans (s2 l),
    Ideal.ofBits_zero_f32, zero_add, zero_add, zero_add, ofBits_1024, ← EReal.coe_add, ← EReal.coe_add, div_coe_coe _ (by norm_num),
    ← EReal.coe_add]

end Cert.Sgu.Ref

end
-- ==== Proof.Sgu.Claim.lean ====
/-
  The spatial gate's backward pass: its kernel and its reference leave the same arrays, and the reference's frame
  (hand-written, untrusted).
-/
module

public import proofs.«01_k».proof.Defs
public import proofs.«01_k».proof.Proof.Sgu.Blocks
public import proofs.«01_k».proof.Proof.Sgu.Ref
public import proofs.«01_k».proof.Proof.Gen.SguRefIdeal.Run
public import proofs.«01_k».proof.Proof.Gen.Pre_sgu_finite

@[expose] public section

set_option backward.isDefEq.respectTransparency.types false
set_option backward.isDefEq.respectTransparency false

noncomputable section

namespace Cert.Sgu.Result

open Idealize.ShloMosaic Idealize.ShloMosaic.TcCoe Idealize.SL.Sem
open Cert.Sgu.Math Cert.Reals

/-- The reference's run ends with its arguments as they were; it declares no semaphore, so every counter is zero. -/
theorem frame_ref (m : (ℓ : Loc Cert.SguRefIdeal.nD Cert.SguRefIdeal.τ Cert.SguRefIdeal.sig) → Buf (Elt Ideal) ℓ)
    (g : Dev Cert.SguRefIdeal.nD → PrngReg) :
    θ_run (Cert.SguRefIdeal.defs (F := Ideal)) (onTc (τ := Cert.SguRefIdeal.τ) (Cert.SguRefIdeal.main (F := Ideal)))
      ⟨m, fun _ => 0, g⟩ fun r => (∀ c : Dev Cert.SguRefIdeal.nD,
        r.2.mem ((c.tc : Thread Cert.SguRefIdeal.nD Cert.SguRefIdeal.τ).loc Cert.SguRefIdeal.main_arg0)
            = m ((c.tc : Thread Cert.SguRefIdeal.nD Cert.SguRefIdeal.τ).loc Cert.SguRefIdeal.main_arg0)
        ∧ r.2.mem ((c.tc : Thread Cert.SguRefIdeal.nD Cert.SguRefIdeal.τ).loc Cert.SguRefIdeal.main_arg1)
            = m ((c.tc : Thread Cert.SguRefIdeal.nD Cert.SguRefIdeal.τ).loc Cert.SguRefIdeal.main_arg1)
        ∧ r.2.mem ((c.tc : Thread Cert.SguRefIdeal.nD Cert.SguRefIdeal.τ).loc Cert.SguRefIdeal.main_arg2)
            = m ((c.tc : Thread Cert.SguRefIdeal.nD Cert.SguRefIdeal.τ).loc Cert.SguRefIdeal.main_arg2)
        ∧ r.2.mem ((c.tc : Thread Cert.SguRefIdeal.nD Cert.SguRefIdeal.τ).loc Cert.SguRefIdeal.main_arg3)
            = m ((c.tc : Thread Cert.SguRefIdeal.nD Cert.SguRefIdeal.τ).loc Cert.SguRefIdeal.main_arg3)
        ∧ r.2.mem ((c.tc : Thread Cert.SguRefIdeal.nD Cert.SguRefIdeal.τ).loc Cert.SguRefIdeal.main_arg4)
            = m ((c.tc : Thread Cert.SguRefIdeal.nD Cert.SguRefIdeal.τ).loc Cert.SguRefIdeal.main_arg4)
        ∧ r.2.mem ((c.tc : Thread Cert.SguRefIdeal.nD Cert.SguRefIdeal.τ).loc Cert.SguRefIdeal.main_arg5)
            = m ((c.tc : Thread Cert.SguRefIdeal.nD Cert.SguRefIdeal.τ).loc Cert.SguRefIdeal.main_arg5))
      ∧ r.2.sem = fun _ => 0 :=
  (θ_run Cert.SguRefIdeal.defs _ _).mono
    (fun r h => ⟨fun c => (h c).2.2.2.2.2.2.2, sem_eq_zero_of_no_sems (by decide) r.2⟩) (Cert.SguRefIdeal.Value.run m g)

/-- Finite entries of a three-index array as a function of the three coordinates. -/
theorem reals_of_three (x : Cert.SguIdeal.S4x128x128.Idx → EReal) (h : ∀ i, ∃ r : ℝ, x i = (r : EReal)) :
    ∃ W : ℕ → ℕ → ℕ → ℝ, ∀ i, x i = ((W (i 0).val (i 1).val (i 2).val : ℝ) : EReal) := by
  obtain ⟨Q, hQ⟩ := reals_of_two (fun i : Cert.SguIdeal.S4x128x128.Idx => (i 0).val) (fun i => 128 * (i 1).val + (i 2).val)
    (fun i j p q => funext fun a => Fin.ext (by
      have hi : (i 2).val < 128 := (i 2).isLt
      have hj : (j 2).val < 128 := (j 2).isLt
      fin_cases a
      · exact p
      · show (i 1).val = (j 1).val
        omega
      · show (i 2).val = (j 2).val
        omega)) x h
  exact ⟨fun a b d => Q a (128 * b + d), hQ⟩

/-- Under the precondition the six arguments of a device hold real numbers. -/
theorem reals (m : (ℓ : Loc Cert.SguIdeal.nD Cert.SguIdeal.τ Cert.SguIdeal.sig) → Buf (Elt Ideal) ℓ)
    (h : Cert.Pre_SguIdeal_sgu_finite m) (c : Dev Cert.SguIdeal.nD) :
    ∃ Z C LG LB W B, Cert.Sgu.Loads.Holds m c Z C LG LB W B := by
  obtain ⟨h0, h1, h2, h3, h4, h5⟩ := h c
  obtain ⟨Z, hZ⟩ := reals_of_two (fun i : Cert.SguIdeal.S2048x4096.Idx => (i 0).val) (fun i => (i 1).val)
    (fun i j p q => funext fun a => Fin.ext (by fin_cases a; exacts [p, q])) _
    (fun i => real_of_abs_lt _ (congrFun h0 i))
  obtain ⟨C, hC⟩ := reals_of_two (fun i : Cert.SguIdeal.S2048x1536.Idx => (i 0).val) (fun i => (i 1).val)
    (fun i j p q => funext fun a => Fin.ext (by fin_cases a; exacts [p, q])) _
    (fun i => real_of_abs_lt _ (congrFun h1 i))
  obtain ⟨LG, hLG⟩ := reals_of_two (fun i : Cert.SguIdeal.S1x1024.Idx => (i 0).val) (fun i => (i 1).val)
    (fun i j p q => funext fun a => Fin.ext (by fin_cases a; exacts [p, q])) _
    (fun i => real_of_abs_lt _ (congrFun h2 i))
  obtain ⟨LB, hLB⟩ := reals_of_two (fun i : Cert.SguIdeal.S1x1024.Idx => (i 0).val) (fun i => (i 1).val)
    (fun i j p q => funext fun a => Fin.ext (by fin_cases a; exacts [p, q])) _
    (fun i => real_of_abs_lt _ (congrFun h3 i))
  obtain ⟨W, hW⟩ := reals_of_three _ (fun i => real_of_abs_lt _ (congrFun h4 i))
  obtain ⟨B, hB⟩ := reals_of_two (fun i : Cert.SguIdeal.S4x128.Idx => (i 0).val) (fun i => (i 1).val)
    (fun i j p q => funext fun a => Fin.ext (by fin_cases a; exacts [p, q])) _
    (fun i => real_of_abs_lt _ (congrFun h5 i))
  have z : ∀ i : Cert.SguIdeal.S1x1024.Idx, (i 0).val = 0 := fun i => by
    have : (i 0).val < 1 := (i 0).isLt
    omega
  exact ⟨Z, C, LG 0, LB 0, W, B, hZ, hC, fun i => (hLG i).trans (by rw [z i]), fun i => (hLB i).trans (by rw [z i]), hW, hB⟩

/-- The kernel and the reference leave the same gradients. -/
theorem algebraic : Cert.algebraic_SguIdeal_SguRefIdeal_pre_sgu_finite := by
  intro m g m' g' hpre hagree
  refine ⟨fun c => (Cert.SguIdeal.Gen.dats m 0 c).arrAt 8 Cert.SguIdeal.cfg0.N,
    fun c => (Cert.SguIdeal.Gen.dats m 0 c).arrAt 9 Cert.SguIdeal.cfg0.N,
    fun c => (Cert.SguIdeal.Gen.dats m 0 c).arrAt 10 Cert.SguIdeal.cfg0.N,
    fun c => (Cert.SguIdeal.Gen.dats m 0 c).arrAt 11 Cert.SguIdeal.cfg0.N,
    fun c => (Cert.SguIdeal.Gen.dats m 0 c).arrAt 12 Cert.SguIdeal.cfg0.N,
    fun c => (Cert.SguIdeal.Gen.dats m 0 c).arrAt 13 Cert.SguIdeal.cfg0.N,
    fun c => (Cert.SguIdeal.Gen.dats m 0 c).arrAt 14 Cert.SguIdeal.cfg0.N,
    Cert.SguIdeal.Value.run_blocks m g,
    (θ_run Cert.SguRefIdeal.defs _ _).mono (fun r h c => ?_) (Cert.SguRefIdeal.Value.run m' g')⟩
  obtain ⟨Z, C, LG, LB, W, B, H⟩ := reals m hpre c
  obtain ⟨e0, e1, e2, e3, e4, e5⟩ := hagree c
  obtain ⟨r0, r1, r2, r3, r4, r5, r6, k⟩ := h c
  have R : Cert.Sgu.Ref.Reads (m' ((c.tc : Thread Cert.SguRefIdeal.nD Cert.SguRefIdeal.τ).loc Cert.SguRefIdeal.main_arg0))
      (m' ((c.tc : Thread Cert.SguRefIdeal.nD Cert.SguRefIdeal.τ).loc Cert.SguRefIdeal.main_arg1))
      (m' ((c.tc : Thread Cert.SguRefIdeal.nD Cert.SguRefIdeal.τ).loc Cert.SguRefIdeal.main_arg2))
      (m' ((c.tc : Thread Cert.SguRefIdeal.nD Cert.SguRefIdeal.τ).loc Cert.SguRefIdeal.main_arg3))
      (m' ((c.tc : Thread Cert.SguRefIdeal.nD Cert.SguRefIdeal.τ).loc Cert.SguRefIdeal.main_arg4))
      (m' ((c.tc : Thread Cert.SguRefIdeal.nD Cert.SguRefIdeal.τ).loc Cert.SguRefIdeal.main_arg5))
      (Cert.Sgu.Loads.data Z C LG LB W B) := by
    rw [e0, e1, e2, e3, e4, e5]
    refine ⟨fun i => ?_, fun i => ?_, fun i => ?_, fun i => ?_, H.lg, H.lb, H.w, H.b⟩
    · exact (Cert.SguRefIdeal.Read.val_main_v0_apply _ i).trans (H.z _)
    · refine (Cert.SguRefIdeal.Read.val_main_v1_apply _ i).trans ((H.z _).trans ?_)
      exact congrArg (fun k : ℕ => ((Z (i 0).val k : ℝ) : EReal)) (by show _ = _ + _; first | rfl | exact Nat.add_comm _ _)
    · refine (Cert.SguRefIdeal.Read.val_main_v2_apply _ i).trans ((H.z _).trans ?_)
      exact congrArg (fun k : ℕ => ((Z (i 0).val k : ℝ) : EReal)) (by show _ = _ + _; first | rfl | exact Nat.add_comm _ _)
    · exact (Cert.SguRefIdeal.Read.val_main_v48_apply _ i).trans (H.d _)
  refine ⟨r0.trans ?_, r1.trans ?_, r2.trans ?_, r3.trans ?_, r4.trans ?_, r5.trans ?_, r6.trans ?_, k⟩
  · rw [Cert.SguRefIdeal.Read.val_main_v53_eq]
    exact (funext fun i => Cert.Sgu.Ref.v53_eq R i).trans (Cert.Sgu.Blocks.arr_du H).symm
  · rw [Cert.SguRefIdeal.Read.val_main_v97_eq]
    exact (funext fun i => Cert.Sgu.Ref.v97_eq R i).trans (Cert.Sgu.Blocks.arr_dv H).symm
  · rw [Cert.SguRefIdeal.Read.val_main_v51_eq]
    exact (funext fun i => Cert.Sgu.Ref.v51_eq R i).trans (Cert.Sgu.Blocks.arr_dg H).symm
  · rw [Cert.SguRefIdeal.Read.val_main_v66_eq]
    exact (funext fun i => Cert.Sgu.Ref.v66_eq R i).trans (Cert.Sgu.Blocks.arr_dw H).symm
  · rw [Cert.SguRefIdeal.Read.val_main_v100_eq]
    exact (funext fun i => Cert.Sgu.Ref.v100_eq R i).trans (Cert.Sgu.Blocks.arr_db H).symm
  · rw [Cert.SguRefIdeal.Read.val_main_v71_eq]
    exact (funext fun i => Cert.Sgu.Ref.v71_eq R i).trans (Cert.Sgu.Blocks.arr_dlg H).symm
  · rw [Cert.SguRefIdeal.Read.val_main_v68_eq]
    exact (funext fun i => Cert.Sgu.Ref.v68_eq R i).trans (Cert.Sgu.Blocks.arr_dlb H).symm

end Cert.Sgu.Result

end
-- ==== Proof.Pool.Math.lean ====
/-
  The gradient of multiscale causal mean pooling over the real numbers (hand-written, untrusted).

  The 1024 channels lie in four groups of 256. In group `g` each row becomes the mean of itself and the rows just before it,
  at most `2^(g+1)` in all, less the row itself; a matrix of the group's own mixes its channels, a gain scales them, and
  the result multiplies `silu g`. Both programs are shown to compute the functions below; nothing here mentions either.
-/
module

public import proofs.«01_k».proof.Proof.Gate.Math

@[expose] public section

noncomputable section

namespace Cert.Pool.Math

open Finset Cert.Gate.Math

/-- The sum of a sequence's entry `t` and the `w - 1` before it, as far as there are any. -/
def trail {M : Type*} [AddCommMonoid M] (f : ℕ → M) (w t : ℕ) : M := ∑ j ∈ range w, if j ≤ t then f (t - j) else 0

/-- The sum of a sequence's entry `t` and the `w - 1` after it, of 2048 entries in all. -/
def lead (f : ℕ → ℝ) (w t : ℕ) : ℝ := ∑ j ∈ range w, if t + j < 2048 then f (t + j) else 0

theorem trail_one {M : Type*} [AddCommMonoid M] (f : ℕ → M) (t : ℕ) : trail f 1 t = f t := by simp [trail]

theorem lead_one (f : ℕ → ℝ) (t : ℕ) (h : t < 2048) : lead f 1 t = f t := by simp [lead, h]

/-- A window twice as long is a window and the one before it. -/
theorem trail_double {M : Type*} [AddCommMonoid M] (f : ℕ → M) (w t : ℕ) : trail f (w + w) t
    = trail f w t + if w ≤ t then trail f w (t - w) else 0 := by
  unfold trail
  rw [sum_range_add]
  congr 1
  by_cases h : w ≤ t
  · rw [if_pos h]
    refine sum_congr rfl fun x _ => ?_
    by_cases hx : w + x ≤ t
    · rw [if_pos hx, if_pos (by omega), Nat.sub_sub]
    · rw [if_neg hx, if_neg (by omega)]
  · rw [if_neg h]
    exact sum_eq_zero fun x _ => if_neg (by omega)

/-- A window twice as long is a window and the one after it. -/
theorem lead_double (f : ℕ → ℝ) (w t : ℕ) : lead f (w + w) t = lead f w t + if t < 2048 - w then lead f w (t + w) else 0 := by
  unfold lead
  rw [sum_range_add]
  congr 1
  by_cases h : t < 2048 - w
  · rw [if_pos h]
    exact sum_congr rfl fun x _ => by rw [Nat.add_assoc]
  · rw [if_neg h]
    exact sum_eq_zero fun x _ => if_neg (by omega)

/-- Summing the entries whose window reaches `i` is summing the window that ends at `i`. -/
theorem trail_filter {M : Type*} [AddCommMonoid M] (f : ℕ → M) (w i : ℕ) (hi : i < 2048) :
    ∑ t ∈ range 2048, (if t ≤ i ∧ i < t + w then f t else 0) = trail f w i := by
  unfold trail
  rw [← sum_filter, ← sum_filter]
  refine sum_nbij' (fun t => i - t) (fun j => i - j) ?_ ?_ ?_ ?_ ?_
  · intro t ht
    simp only [mem_filter, mem_range] at ht ⊢
    omega
  · intro t ht
    simp only [mem_filter, mem_range] at ht ⊢
    omega
  · intro t ht
    simp only [mem_filter, mem_range] at ht ⊢
    omega
  · intro t ht
    simp only [mem_filter, mem_range] at ht ⊢
    omega
  · intro t ht
    simp only [mem_filter, mem_range] at ht
    rw [show i - (i - t) = t by omega]

/-- … the same, the entries weighted by zeros and ones. -/
theorem trail_band (f : ℕ → ℝ) (w i : ℕ) (hi : i < 2048) :
    ∑ t ∈ range 2048, (if t ≤ i ∧ i < t + w then (1 : ℝ) else 0) * f t = trail f w i := by
  simp only [ite_mul, one_mul, zero_mul]
  exact trail_filter f w i hi

/-- Summing the entries that row `t` reaches is summing the window that starts at `t`. -/
theorem lead_band (f : ℕ → ℝ) (w t : ℕ) :
    ∑ i ∈ range 2048, (if t ≤ i ∧ i < t + w then (1 : ℝ) else 0) * f i = lead f w t := by
  unfold lead
  simp only [ite_mul, one_mul, zero_mul]
  rw [← sum_filter, ← sum_filter]
  refine sum_nbij' (fun i => i - t) (fun j => t + j) ?_ ?_ ?_ ?_ ?_
  · intro i hi
    simp only [mem_filter, mem_range] at hi ⊢
    omega
  · intro i hi
    simp only [mem_filter, mem_range] at hi ⊢
    omega
  · intro i hi
    simp only [mem_filter, mem_range] at hi ⊢
    omega
  · intro i hi
    simp only [mem_filter, mem_range] at hi ⊢
    omega
  · intro i hi
    simp only [mem_filter, mem_range] at hi
    rw [show t + (i - t) = i by omega]

/-- The longest window of each group. -/
def win (g : ℕ) : ℕ := if g = 0 then 2 else if g = 1 then 4 else if g = 2 then 8 else 16

theorem win_pos (g : ℕ) : 0 < win g := by unfold win; split_ifs <;> omega

/-- The number of rows in the window that ends at row `t`. -/
def cnt (g t : ℕ) : ℝ := min ((t : ℝ) + 1) (win g : ℝ)

theorem cnt_ne_zero (g t : ℕ) : cnt g t ≠ 0 := by
  have h : (0 : ℝ) < win g := by exact_mod_cast win_pos g
  have : (0 : ℝ) < cnt g t := lt_min (by positivity) h
  exact this.ne'

/-- The arguments: the pooled branch `V`, the gate `G`, the gradient `C`, the mixing matrices `W` (group, row, column) and
    the gains `SC`. -/
structure Data where
  V : ℕ → ℕ → ℝ
  G : ℕ → ℕ → ℝ
  C : ℕ → ℕ → ℝ
  W : ℕ → ℕ → ℕ → ℝ
  SC : ℕ → ℝ

namespace Data

variable (X : Data)

/-- The pooled rows of one group. -/
def pooled (g i c : ℕ) : ℝ := trail (fun t => X.V t (256 * g + c)) (win g) i / cnt g i - X.V i (256 * g + c)

/-- The mixed rows of one group. -/
def mixed (g i d : ℕ) : ℝ := ∑ c ∈ range 256, X.pooled g i c * X.W g c d

/-- The gradient in the scaled rows. -/
def dms (i k : ℕ) : ℝ := X.C i k * silu (X.G i k)

/-- The gradient in the mixed rows. -/
def dmx (i k : ℕ) : ℝ := X.dms i k * X.SC k

/-- The gradient in the gate. -/
def dg (i k : ℕ) : ℝ := X.C i k * X.mixed (k / 256) i (k % 256) * X.SC k * siluSlope (X.G i k)

/-- The gradient in the gains. -/
def dps (k : ℕ) : ℝ := ∑ i ∈ range 2048, X.dms i k * X.mixed (k / 256) i (k % 256)

/-- The gradient in the mixing matrices. -/
def dpw (g c d : ℕ) : ℝ := ∑ i ∈ range 2048, X.pooled g i c * X.dmx i (256 * g + d)

/-- The gradient in the pooled rows of one group. -/
def dpooled (g i c : ℕ) : ℝ := ∑ d ∈ range 256, X.dmx i (256 * g + d) * X.W g c d

/-- The gradient in the pooled branch, of one group. -/
def dvg (g i c : ℕ) : ℝ := lead (fun t => X.dpooled g t c / cnt g t) (win g) i - X.dpooled g i c

/-- The gradient in the pooled branch. -/
def dv (i k : ℕ) : ℝ := X.dvg (k / 256) i (k % 256)

end Data

end Cert.Pool.Math

end
-- ==== Proof.Sums.lean ====
/-
  Contractions over the extended reals, and arrays read at natural numbers (hand-written, untrusted).
-/
module

public import proofs.«01_k».proof.Proof.Reals

@[expose] public section

set_option backward.isDefEq.respectTransparency.types false
set_option backward.isDefEq.respectTransparency false

noncomputable section

namespace Cert.Sums

open Idealize.ShloMosaic Idealize.ShloMosaic.ValueIdx Cert.Reals

/-- A one-axis contraction of operands that read as functions of the contracted coordinate is the sum of products. -/
theorem dot_sum {sl sr so : Shape} (D : DotDims sl sr so) (n : ℕ) (hr : D.contr.rank = 1)
    (hs : D.contr.size ⟨0, by omega⟩ = n) (lhs : sl.Idx → EReal) (rhs : sr.Idx → EReal) (j : so.Idx) (A B : ℕ → EReal)
    (hA : ∀ k : D.contr.Idx, lhs (D.lhsIdx j k) = A (k ⟨0, by omega⟩).val)
    (hB : ∀ k : D.contr.Idx, rhs (D.rhsIdx j k) = B (k ⟨0, by omega⟩).val) :
    ∑ k : D.contr.Idx, lhs (D.lhsIdx j k) * rhs (D.rhsIdx j k) = ∑ k : Fin n, A k.val * B k.val := by
  rw [← Equiv.sum_comp (contrEquiv1 D n hr hs).symm]
  refine Finset.sum_congr rfl fun k _ => ?_
  rw [hA, hB, contrEquiv1_symm_val D n hr hs k]

/-- An array of two axes as a function of two natural numbers. -/
theorem read_two {a b : ℕ} (z : (⟨2, ![a, b]⟩ : Shape).Idx → EReal) :
    ∃ Z : ℕ → ℕ → EReal, ∀ i, z i = Z (i 0).val (i 1).val := by
  refine ⟨fun p q => if h : p < a ∧ q < b then z (ix2 ⟨p, h.1⟩ ⟨q, h.2⟩) else 0, fun i => ?_⟩
  have h : (i 0).val < a ∧ (i 1).val < b := ⟨(i 0).isLt, (i 1).isLt⟩
  beta_reduce
  rw [dif_pos h]
  refine congrArg z (funext fun x => ?_)
  match x with
  | ⟨0, _⟩ => rfl
  | ⟨1, _⟩ => rfl

/-- An array of three axes as a function of three natural numbers. -/
theorem read_three {a b c : ℕ} (z : (⟨3, ![a, b, c]⟩ : Shape).Idx → EReal) :
    ∃ Z : ℕ → ℕ → ℕ → EReal, ∀ i, z i = Z (i 0).val (i 1).val (i 2).val := by
  refine ⟨fun p q r => if h : p < a ∧ q < b ∧ r < c then z (ix3 ⟨p, h.1⟩ ⟨q, h.2.1⟩ ⟨r, h.2.2⟩) else 0, fun i => ?_⟩
  have h : (i 0).val < a ∧ (i 1).val < b ∧ (i 2).val < c := ⟨(i 0).isLt, (i 1).isLt, (i 2).isLt⟩
  beta_reduce
  rw [dif_pos h]
  refine congrArg z (funext fun x => ?_)
  match x with
  | ⟨0, _⟩ => rfl
  | ⟨1, _⟩ => rfl
  | ⟨2, _⟩ => rfl

end Cert.Sums

end
-- ==== Proof.Pool.Block.lean ====
/-
  What the pooling's backward kernel computes for one group of 256 channels (hand-written, untrusted).

  The kernel forms the windows' sums by doubling: a block is rotated along its rows by 1, 2, 4 and 8, the rows that came
  around the end are replaced by zero, and the block is added. Which sum a group uses is selected by its number.
-/
module

public import proofs.«01_k».proof.Proof.Pool.Math
public import proofs.«01_k».proof.Proof.Sgu.Math
public import proofs.«01_k».proof.Proof.Sums
public import proofs.«01_k».proof.Proof.Gen.PoolIdeal.Skeleton
public import Idealize.ShloMosaic.Lib.KernelVsHost

@[expose] public section

set_option backward.isDefEq.respectTransparency.types false
set_option backward.isDefEq.respectTransparency false

noncomputable section

namespace Cert.Pool.Block

open Idealize.ShloMosaic Idealize.ShloMosaic.ValueIdx Cert.PoolIdeal Cert.PoolIdeal.Gen Cert.Reals Cert.Gate.Math
open Cert.Pool.Math Cert.Sums Finset

theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num

/-- A column spread over a row's 256 entries. -/
theorem spread_apply {α : Type} (v : S2048x1.Idx → α) (j : S2048x256.Idx) :
    broadcastTo S2048x256 v broadcasts_S2048x1_S2048x256 j = v (ValueIdx.ix2 (j 0) 0) :=
  broadcastTo_apply _ _ j _ fun a => by
    match a with
    | ⟨0, _⟩ => rfl
    | ⟨1, _⟩ => rfl

/-- One row spread over the block's 2048 rows. -/
theorem rows_apply (v : FVec Ideal S1x256 .f32) (j : S2048x256.Idx) :
    broadcastTo S2048x256 v broadcasts_S1x256_S2048x256 j = v (ValueIdx.ix2 0 (j 1)) :=
  broadcastTo_apply _ _ j _ fun a => by
    match a with
    | ⟨0, _⟩ => rfl
    | ⟨1, _⟩ => rfl

/-- A column's sum, kept as a row. -/
theorem column_sum (v : FVec Ideal S2048x256 .f32) (f : ℕ → ℝ) (j : S1x256.Idx)
    (h : ∀ k : Fin 2048, v (ValueIdx.ix2 k (j 1)) = ((f k.val : ℝ) : EReal)) :
    shapeCast S1x256 (multiReduction .add [0] S256 v 0x00000000#32 reduces_S2048x256_S256 (.inl rfl) rfl) shapeCasts_S256_S1x256
        j = ((∑ k ∈ range 2048, f k : ℝ) : EReal) := by
  refine (shapeCast_apply _ _ _ (ValueIdx.ix1 (j 1)) ?_).trans ?_
  · rw [Shape.rowMajor_val_one, Shape.rowMajor_val_two]
    have : (j 0).val < 1 := (j 0).isLt
    show (j 1).val = (j 0).val * 256 + (j 1).val
    omega
  · rw [Ideal.multiReduction_add_single]
    refine sum_fin_coe _ f fun k => ?_
    rw [← h k]
    refine congrArg v (funext fun a => ?_)
    match a with
    | ⟨0, _⟩ => rfl
    | ⟨1, _⟩ => rfl

/-- The trailing sum of real values is a real value. -/
theorem trail_coe (f : ℕ → ℝ) (w t : ℕ) : trail (fun s => ((f s : ℝ) : EReal)) w t = ((trail f w t : ℝ) : EReal) := by
  unfold trail
  rw [← sum_coe]
  exact sum_congr rfl fun j _ => by split_ifs <;> rfl

section Levels

variable (w : ℕ) (b : BitVec 32) (x : FVec Ideal S2048x256 .f32)

/-- A block whose rows have sums of `w` entries, added to itself moved down by `w` rows, has sums of `2 w`. -/
theorem trail_step (f : ℕ → ℕ → EReal) (hw : 0 < w ∧ w < 2048) (hb : b.toNat = w)
    (hm : ∀ t : Fin 2048, IntOp.cmpi .sge (BitVec.ofNat 32 t.val) b = if w ≤ t.val then 1#1 else 0#1)
    (hx : ∀ j, x j = trail (fun t => f t (j 1).val) w (j 0).val) (j : S2048x256.Idx) :
    addf x (select (broadcastTo S2048x256 (shapeCast S2048x1 (cmpi .sge (iota .tc S2048x1 32 [0] iota_S2048x1_d0_w32) (broadcast S2048x1 b))
        shapeCasts_S2048x1_S2048x1) broadcasts_S2048x1_S2048x256) (dynamicRotate 0 b none x rotates_S2048x256_d0)
        (broadcast S2048x256 (Scalar.ofBits (F := Ideal) .f32 0x00000000#32))) j
      = trail (fun t => f t (j 1).val) (w + w) (j 0).val := by
  have hj : (j 0).val < 2048 := (j 0).isLt
  rw [addf_apply, ValueIdx.select_apply, shapeCast_self, spread_apply]
  change x j + Scalar.select (IntOp.cmpi .sge (iota .tc S2048x1 32 [0] iota_S2048x1_d0_w32 (ValueIdx.ix2 (j 0) 0)) b) _ _ = _
  rw [iota_single_apply, show IntOp.cmpi .sge (BitVec.ofNat 32 ((ValueIdx.ix2 (n1 := 1) (j 0) 0) 0).val) b = _ from hm (j 0),
    hx, trail_double]
  congr 1
  by_cases e : w ≤ (j 0).val
  · rw [if_pos e, if_pos e]
    refine (dynamicRotate_apply 0 b x rotates_S2048x256_d0 j (ValueIdx.ix2 ⟨(j 0).val - w, by omega⟩ (j 1)) fun a => ?_).trans (hx _)
    match a with
    | ⟨0, _⟩ =>
      refine Eq.trans ?_ (if_pos rfl).symm
      rw [hb]
      show (j 0).val - w = ((j 0).val + 2048 - w % 2048) % 2048
      omega
    | ⟨1, _⟩ => exact Eq.trans rfl (if_neg fun h => Nat.one_ne_zero (congrArg Fin.val h)).symm
  · rw [if_neg e, if_neg e]
    exact Ideal.ofBits_zero_f32

/-- A block whose rows have sums of `w` entries, added to itself moved up by `w` rows, has sums of `2 w`. -/
theorem lead_step (f : ℕ → ℕ → ℝ) (hw : 0 < w ∧ w < 2048) (hb : b.toNat = 2048 - w)
    (hm : ∀ t : Fin 2048, IntOp.cmpi .slt (BitVec.ofNat 32 t.val) b = if t.val < 2048 - w then 1#1 else 0#1)
    (hx : ∀ j, x j = ((lead (fun t => f t (j 1).val) w (j 0).val : ℝ) : EReal)) (j : S2048x256.Idx) :
    addf x (select (broadcastTo S2048x256 (shapeCast S2048x1 (cmpi .slt (iota .tc S2048x1 32 [0] iota_S2048x1_d0_w32) (broadcast S2048x1 b))
        shapeCasts_S2048x1_S2048x1) broadcasts_S2048x1_S2048x256) (dynamicRotate 0 b none x rotates_S2048x256_d0)
        (broadcast S2048x256 (Scalar.ofBits (F := Ideal) .f32 0x00000000#32))) j
      = ((lead (fun t => f t (j 1).val) (w + w) (j 0).val : ℝ) : EReal) := by
  have hj : (j 0).val < 2048 := (j 0).isLt
  rw [addf_apply, ValueIdx.select_apply, shapeCast_self, spread_apply]
  change x j + Scalar.select (IntOp.cmpi .slt (iota .tc S2048x1 32 [0] iota_S2048x1_d0_w32 (ValueIdx.ix2 (j 0) 0)) b) _ _ = _
  rw [iota_single_apply, show IntOp.cmpi .slt (BitVec.ofNat 32 ((ValueIdx.ix2 (n1 := 1) (j 0) 0) 0).val) b = _ from hm (j 0),
    hx, lead_double, EReal.coe_add]
  congr 1
  by_cases e : (j 0).val < 2048 - w
  · rw [if_pos e, if_pos e]
    refine (dynamicRotate_apply 0 b x rotates_S2048x256_d0 j (ValueIdx.ix2 ⟨(j 0).val + w, by omega⟩ (j 1)) fun a => ?_).trans (hx _)
    match a with
    | ⟨0, _⟩ =>
      refine Eq.trans ?_ (if_pos rfl).symm
      rw [hb]
      show (j 0).val + w = ((j 0).val + 2048 - (2048 - w) % 2048) % 2048
      omega
    | ⟨1, _⟩ => exact Eq.trans rfl (if_neg fun h => Nat.one_ne_zero (congrArg Fin.val h)).symm
  · rw [if_neg e, if_neg e]
    exact Ideal.ofBits_zero_f32

end Levels

/-- A choice by the group's number. -/
theorem pick {α : Type} (g : ℕ) (hg : g < 4) (a b c d : α) :
    Scalar.select (Scalar.cmpi .eq (BitVec.ofNat 32 g) 0#32) a (Scalar.select (Scalar.cmpi .eq (BitVec.ofNat 32 g) 1#32) b
      (Scalar.select (Scalar.cmpi .eq (BitVec.ofNat 32 g) 2#32) c d)) = if g = 0 then a else if g = 1 then b else if g = 2 then c else d := by
  interval_cases g <;> rfl

variable (X : Data) (g : ℕ) (hg : g < 4)

section Sums

variable (v : FVec Ideal S2048x256 .f32) (f : ℕ → ℕ → EReal) (hv : ∀ j, v j = f (j 0).val (j 1).val)
include hv

theorem sum_two (j : S2048x256.Idx) : k0_pay2 (F := Ideal) v j = trail (fun t => f t (j 1).val) 2 (j 0).val :=
  trail_step 1 1#32 v f (by decide) rfl (by decide +kernel) (fun j => by rw [hv, trail_one]) j

theorem sum_four (j : S2048x256.Idx) : k0_pay3 (F := Ideal) v j = trail (fun t => f t (j 1).val) 4 (j 0).val :=
  trail_step 2 2#32 (k0_pay2 v) f (by decide) rfl (by decide +kernel) (sum_two v f hv) j

theorem sum_eight (j : S2048x256.Idx) : k0_pay4 (F := Ideal) v j = trail (fun t => f t (j 1).val) 8 (j 0).val :=
  trail_step 4 4#32 (k0_pay3 v) f (by decide) rfl (by decide +kernel) (sum_four v f hv) j

theorem sum_sixteen (j : S2048x256.Idx) : k0_pay5 (F := Ideal) v j = trail (fun t => f t (j 1).val) 16 (j 0).val :=
  trail_step 8 8#32 (k0_pay4 v) f (by decide) rfl (by decide +kernel) (sum_eight v f hv) j

end Sums

/-- The number of rows in each row's window. -/
def count (g : ℕ) : FVec Ideal S2048x1 .f32 :=
  k0_pay7 (F := Ideal) (k0_pay6 (F := Ideal)) (Scalar.cmpi .eq (BitVec.ofNat 32 g) 0#32) (Scalar.cmpi .eq (BitVec.ofNat 32 g) 1#32)
    (Scalar.cmpi .eq (BitVec.ofNat 32 g) 2#32) (Scalar.ofBits .f32 0x41000000#32)

include hg

theorem count_apply (i : S2048x1.Idx) : count g i = ((cnt g (i 0).val : ℝ) : EReal) := by
  have h : ∀ t : Fin 2048, (IntOp.addi (BitVec.ofNat 32 t.val) 1#32).toInt = (t.val : ℤ) + 1 := by decide +kernel
  have hs : k0_pay6 (F := Ideal) i = (((i 0).val + 1 : ℝ) : EReal) := by
    unfold k0_pay6
    change (((IntOp.addi (iota .tc S2048x1 32 [0] iota_S2048x1_d0_w32 i) 1#32).toInt : ℝ) : EReal) = _
    rw [iota_single_apply]
    have := h (i 0)
    change ((((IntOp.addi (BitVec.ofNat 32 (i 0).val) 1#32).toInt : ℤ) : ℝ) : EReal) = _
    rw [this]
    norm_cast
  unfold count k0_pay7
  change min (k0_pay6 (F := Ideal) i) (Scalar.select (Scalar.cmpi .eq (BitVec.ofNat 32 g) 0#32) (Ideal.ofBits .f32 0x40000000#32)
    (Scalar.select (Scalar.cmpi .eq (BitVec.ofNat 32 g) 1#32) (Ideal.ofBits .f32 0x40800000#32)
      (Scalar.select (Scalar.cmpi .eq (BitVec.ofNat 32 g) 2#32) (Ideal.ofBits .f32 0x41000000#32) (Ideal.ofBits .f32 0x41800000#32)))) = _
  have hp := pick g hg (Ideal.ofBits .f32 0x40000000#32) (Ideal.ofBits .f32 0x40800000#32) (Ideal.ofBits .f32 0x41000000#32)
    (Ideal.ofBits .f32 0x41800000#32)
  have hq : (if g = 0 then Ideal.ofBits .f32 0x40000000#32 else if g = 1 then Ideal.ofBits .f32 0x40800000#32
      else if g = 2 then Ideal.ofBits .f32 0x41000000#32 else Ideal.ofBits .f32 0x41800000#32) = (((win g : ℕ) : ℝ) : EReal) := by
    rw [ofBits_two, ofBits_four, ofBits_eight, ofBits_sixteen]
    unfold win
    split_ifs <;> norm_num
  refine (congrArg₂ min hs (hp.trans hq)).trans ?_
  exact (EReal.coe_strictMono.monotone.map_min).symm

section Group

variable (v gt d : FVec Ideal S2048x256 .f32) (pw : FVec Ideal S1x256x256 .f32) (sc : FVec Ideal S1x256 .f32)
  (hv : ∀ j, v j = ((X.V (j 0).val (256 * g + (j 1).val) : ℝ) : EReal))
  (hgt : ∀ j, gt j = ((X.G (j 0).val (256 * g + (j 1).val) : ℝ) : EReal))
  (hd : ∀ j, d j = ((X.C (j 0).val (256 * g + (j 1).val) : ℝ) : EReal))
  (hpw : ∀ j, pw j = ((X.W g (j 1).val (j 2).val : ℝ) : EReal))
  (hsc : ∀ j, sc j = ((X.SC (256 * g + (j 1).val) : ℝ) : EReal))

/-- The pooled rows. -/
def pool (g : ℕ) (v : FVec Ideal S2048x256 .f32) : FVec Ideal S2048x256 .bf16 :=
  k0_pay9 (F := Ideal) (BitVec.ofNat 32 g) v (k0_pay2 v) (k0_pay3 v) (k0_pay4 v) (k0_pay5 v) (k0_pay6 (F := Ideal))
    (Scalar.cmpi .eq (BitVec.ofNat 32 g) 0#32) (Scalar.cmpi .eq (BitVec.ofNat 32 g) 1#32)
    (Scalar.cmpi .eq (BitVec.ofNat 32 g) 2#32) (Scalar.ofBits .f32 0x41000000#32)

/-- … whatever the values are. -/
theorem pool_entry (V : ℕ → ℕ → EReal) (hV : ∀ j, v j = V (j 0).val (256 * g + (j 1).val)) (j : S2048x256.Idx) :
    pool g v j = Ideal.div (trail (fun t => V t (256 * g + (j 1).val)) (win g) (j 0).val) ((cnt g (j 0).val : ℝ) : EReal)
      - V (j 0).val (256 * g + (j 1).val) := by
  have hs : (if g = 0 then k0_pay2 (F := Ideal) v else if g = 1 then k0_pay3 (F := Ideal) v else if g = 2 then k0_pay4 (F := Ideal) v
      else k0_pay5 (F := Ideal) v) j = trail (fun t => V t (256 * g + (j 1).val)) (win g) (j 0).val := by
    unfold win
    split_ifs
    · exact sum_two v (fun t c => V t (256 * g + c)) hV j
    · exact sum_four v (fun t c => V t (256 * g + c)) hV j
    · exact sum_eight v (fun t c => V t (256 * g + c)) hV j
    · exact sum_sixteen v (fun t c => V t (256 * g + c)) hV j
  rw [← pick g hg] at hs
  unfold pool k0_pay9
  rw [ValueIdx.truncf_apply, subf_apply, divf_apply, spread_apply]
  refine (congrArg₂ (fun a b : EReal => Ideal.div a b - v j) hs (count_apply g hg (ValueIdx.ix2 (j 0) 0))).trans ?_
  rw [hV]

include hv in
theorem pool_apply (j : S2048x256.Idx) : pool g v j = ((X.pooled g (j 0).val (j 1).val : ℝ) : EReal) := by
  rw [pool_entry g hg v (fun t k => ((X.V t k : ℝ) : EReal)) hv, trail_coe, div_coe_coe _ (cnt_ne_zero _ _), ← EReal.coe_sub]
  rfl

omit hg in
/-- The group's mixing matrix. -/
theorem pw_entry (W : ℕ → ℕ → EReal) (hW : ∀ j, pw j = W (j 1).val (j 2).val) (j : S256x256.Idx) :
    k0_pay8 (F := Ideal) pw j = W (j 0).val (j 1).val := by
  unfold k0_pay8
  rw [ValueIdx.truncf_apply]
  refine (shapeCast_apply _ _ _ (ValueIdx.ix3 0 (j 0) (j 1)) ?_).trans (hW _)
  rw [Shape.rowMajor_val_three, Shape.rowMajor_val_two]
  show (0 * 256 + (j 0).val) * 256 + (j 1).val = (j 0).val * 256 + (j 1).val
  omega

include hpw in
omit hg in
theorem pw_apply (j : S256x256.Idx) : k0_pay8 (F := Ideal) pw j = ((X.W g (j 0).val (j 1).val : ℝ) : EReal) :=
  pw_entry pw (fun a b => ((X.W g a b : ℝ) : EReal)) hpw j

/-- The mixed rows. -/
def mix (g : ℕ) (v : FVec Ideal S2048x256 .f32) (pw : FVec Ideal S1x256x256 .f32) : FVec Ideal S2048x256 .f32 :=
  k0_pay10 (F := Ideal) (BitVec.ofNat 32 g) v (k0_pay2 v) (k0_pay3 v) (k0_pay4 v) (k0_pay5 v) (k0_pay6 (F := Ideal))
    (Scalar.cmpi .eq (BitVec.ofNat 32 g) 0#32) (Scalar.cmpi .eq (BitVec.ofNat 32 g) 1#32)
    (Scalar.cmpi .eq (BitVec.ofNat 32 g) 2#32) (Scalar.ofBits .f32 0x41000000#32) pw

/-- … whatever the values are. -/
theorem mix_entry (V : ℕ → ℕ → EReal) (W : ℕ → ℕ → EReal) (hV : ∀ j, v j = V (j 0).val (256 * g + (j 1).val))
    (hW : ∀ j, pw j = W (j 1).val (j 2).val) (j : S2048x256.Idx) : mix g v pw j = ∑ c : Fin 256,
      (Ideal.div (trail (fun t => V t (256 * g + c.val)) (win g) (j 0).val) ((cnt g (j 0).val : ℝ) : EReal)
        - V (j 0).val (256 * g + c.val)) * W c.val (j 1).val := by
  unfold mix k0_pay10
  change matmul (F := Ideal) dot_S2048x256_S256x256_S2048x256_1_0_0_1_n_n none (pool g v) (k0_pay8 pw) (constant S2048x256 .f32 0x00000000#32) j = _
  simp only [matmul]
  rw [Ideal.matmul_constant_zero_apply]
  exact dot_sum dot_S2048x256_S256x256_S2048x256_1_0_0_1_n_n 256 rfl rfl (pool g v) (k0_pay8 (F := Ideal) pw) j
    (fun c => Ideal.div (trail (fun t => V t (256 * g + c)) (win g) (j 0).val) ((cnt g (j 0).val : ℝ) : EReal)
      - V (j 0).val (256 * g + c)) (fun c => W c (j 1).val) (fun c => pool_entry g hg v V hV _) (fun c => pw_entry pw W hW _)

include hv hpw in
theorem mix_apply (j : S2048x256.Idx) : mix g v pw j = ((X.mixed g (j 0).val (j 1).val : ℝ) : EReal) := by
  unfold mix k0_pay10
  change matmul (F := Ideal) dot_S2048x256_S256x256_S2048x256_1_0_0_1_n_n none (pool g v) (k0_pay8 pw) (constant S2048x256 .f32 0x00000000#32) j = _
  simp only [matmul]
  rw [Ideal.matmul_constant_zero_apply]
  exact dot_coe dot_S2048x256_S256x256_S2048x256_1_0_0_1_n_n 256 rfl rfl (pool g v) (k0_pay8 (F := Ideal) pw) j (fun c => X.pooled g (j 0).val c)
    (fun c => X.W g c (j 1).val) (fun c => pool_apply X g hg v hv _) (fun c => pw_apply X g pw hpw _)

omit hg

include hgt in
theorem sig_apply (j : S2048x256.Idx) : k0_pay11 (F := Ideal) gt j = ((sig (X.G (j 0).val (256 * g + (j 1).val)) : ℝ) : EReal) := by
  unfold k0_pay11
  change Ideal.div (Ideal.ofBits .f32 0x3F800000#32) (Ideal.ofBits .f32 0x3F800000#32 + Ideal.exp (Ideal.ofBits .f32 0x00000000#32 - gt j)) = _
  rw [hgt]
  exact logistic_sub _

include hgt hd in
theorem dms_apply (j : S2048x256.Idx) : k0_pay13 (F := Ideal) gt (k0_pay11 gt) d j
    = ((X.dms (j 0).val (256 * g + (j 1).val) : ℝ) : EReal) := by
  unfold k0_pay13
  rw [mulf_apply, mulf_apply, sig_apply X g gt hgt, hgt, hd]
  norm_cast

include hgt hd hsc in
theorem dmx_apply (j : S2048x256.Idx) : k0_pay15 (F := Ideal) gt (k0_pay11 gt) d sc j
    = ((X.dmx (j 0).val (256 * g + (j 1).val) : ℝ) : EReal) := by
  unfold k0_pay15
  rw [ValueIdx.truncf_apply, mulf_apply, rows_apply, dms_apply X g gt d hgt hd, hsc]
  norm_cast

include hgt hd hpw hsc in
theorem dpooled_apply (j : S2048x256.Idx) : k0_pay17 (F := Ideal) (k0_pay8 pw) gt (k0_pay11 gt) d sc j
    = ((X.dpooled g (j 0).val (j 1).val : ℝ) : EReal) := by
  unfold k0_pay17
  simp only [matmul]
  rw [Ideal.matmul_constant_zero_apply]
  exact dot_coe dot_S2048x256_S256x256_S2048x256_1_1_0_0_n_n 256 rfl rfl (k0_pay15 (F := Ideal) gt (k0_pay11 gt) d sc) (k0_pay8 (F := Ideal) pw) j
    (fun c => X.dmx (j 0).val (256 * g + c)) (fun c => X.W g (j 1).val c)
    (fun c => dmx_apply X g gt d sc hgt hd hsc _) (fun c => pw_apply X g pw hpw _)

include hg hv hgt hd hsc in
/-- The gradient of the group's mixing matrix. -/
theorem dpw_apply (j : S1x256x256.Idx) : k0_pay16 (F := Ideal) (pool g v) gt (k0_pay11 gt) d sc j
    = ((X.dpw g (j 1).val (j 2).val : ℝ) : EReal) := by
  unfold k0_pay16
  have h0 : (j 0).val < 1 := (j 0).isLt
  refine (shapeCast_apply _ _ _ (ValueIdx.ix2 (j 1) (j 2)) ?_).trans ?_
  · rw [Shape.rowMajor_val_three, Shape.rowMajor_val_two]
    show (j 1).val * 256 + (j 2).val = ((j 0).val * 256 + (j 1).val) * 256 + (j 2).val
    omega
  simp only [matmul]
  rw [Ideal.matmul_constant_zero_apply]
  exact dot_coe dot_S2048x256_S2048x256_S256x256_0_0_1_1_n_n 2048 rfl rfl (pool g v) (k0_pay15 (F := Ideal) gt (k0_pay11 gt) d sc) (ValueIdx.ix2 (j 1) (j 2))
    (fun c => X.pooled g c (j 1).val) (fun c => X.dmx c (256 * g + (j 2).val))
    (fun c => pool_apply X g hg v hv _) (fun c => dmx_apply X g gt d sc hgt hd hsc _)

include hg hv hgt hd hpw in
/-- The gradient of the gains. -/
theorem dps_apply (j : S1x256.Idx) : k0_pay14 (F := Ideal) (mix g v pw) gt (k0_pay11 gt) d j
    = ((∑ i ∈ range 2048, X.dms i (256 * g + (j 1).val) * X.mixed g i (j 1).val : ℝ) : EReal) := by
  unfold k0_pay14
  refine column_sum _ _ j fun k => ?_
  rw [mulf_apply, dms_apply X g gt d hgt hd, mix_apply X g hg v pw hv hpw]
  exact (EReal.coe_mul _ _).symm

include hg hv hgt hd hpw hsc in
/-- The gradient in the gate. -/
theorem dg_apply (j : S2048x256.Idx) :
    k0_pay12 (F := Ideal) (BitVec.ofNat 32 g) v (k0_pay2 v) (k0_pay3 v) (k0_pay4 v) (k0_pay5 v) (k0_pay6 (F := Ideal))
      (Scalar.cmpi .eq (BitVec.ofNat 32 g) 0#32) (Scalar.cmpi .eq (BitVec.ofNat 32 g) 1#32)
      (Scalar.cmpi .eq (BitVec.ofNat 32 g) 2#32) (Scalar.ofBits .f32 0x41000000#32) pw gt d sc j
      = ((X.C (j 0).val (256 * g + (j 1).val) * X.mixed g (j 0).val (j 1).val * X.SC (256 * g + (j 1).val)
          * siluSlope (X.G (j 0).val (256 * g + (j 1).val)) : ℝ) : EReal) := by
  unfold k0_pay12
  change d j * mix g v pw j * broadcastTo S2048x256 sc broadcasts_S1x256_S2048x256 j * (k0_pay11 (F := Ideal) gt j
    * (Ideal.ofBits .f32 0x3F800000#32 + gt j * (Ideal.ofBits .f32 0x3F800000#32 - k0_pay11 (F := Ideal) gt j))) = _
  rw [rows_apply, sig_apply X g gt hgt, mix_apply X g hg v pw hv hpw, hgt, hd, hsc, ofBits_one]
  norm_cast

section Back

include hg hgt hd hpw hsc

/-- The gradient in each window's mean, as a sequence of rows. -/
theorem share_apply (j : S2048x256.Idx) : divf (k0_pay17 (F := Ideal) (k0_pay8 pw) gt (k0_pay11 gt) d sc)
    (broadcastTo S2048x256 (count g) broadcasts_S2048x1_S2048x256) j
      = ((X.dpooled g (j 0).val (j 1).val / cnt g (j 0).val : ℝ) : EReal) := by
  rw [divf_apply, spread_apply, dpooled_apply X g gt d pw sc hgt hd hpw hsc]
  refine (congrArg (fun w : EReal => Ideal.div _ w) (count_apply g hg (ValueIdx.ix2 (j 0) 0))).trans ?_
  exact div_coe_coe _ (cnt_ne_zero _ _)

theorem back_two (j : S2048x256.Idx) : k0_pay18 (F := Ideal) (count g) (k0_pay8 pw) gt (k0_pay11 gt) d sc j
    = ((lead (fun t => X.dpooled g t (j 1).val / cnt g t) 2 (j 0).val : ℝ) : EReal) :=
  lead_step 1 2047#32 _ (fun t c => X.dpooled g t c / cnt g t) (by decide) rfl (by decide +kernel)
    (fun j => by rw [share_apply X g hg gt d pw sc hgt hd hpw hsc, lead_one _ _ (j 0).isLt]) j

theorem back_four (j : S2048x256.Idx) : k0_pay19 (F := Ideal) (count g) (k0_pay8 pw) gt (k0_pay11 gt) d sc j
    = ((lead (fun t => X.dpooled g t (j 1).val / cnt g t) 4 (j 0).val : ℝ) : EReal) :=
  lead_step 2 2046#32 _ (fun t c => X.dpooled g t c / cnt g t) (by decide) rfl (by decide +kernel)
    (back_two X g hg gt d pw sc hgt hd hpw hsc) j

/-- The sums of eight rows. -/
def eight (x : FVec Ideal S2048x256 .f32) : FVec Ideal S2048x256 .f32 :=
  addf x (select (broadcastTo S2048x256 (k0_pay21) broadcasts_S2048x1_S2048x256) (dynamicRotate 0 2044#32 none x rotates_S2048x256_d0)
    (broadcast S2048x256 (Scalar.ofBits (F := Ideal) .f32 0x00000000#32)))

/-- The sums of sixteen rows. -/
def sixteen (x : FVec Ideal S2048x256 .f32) : FVec Ideal S2048x256 .f32 :=
  addf x (select (broadcastTo S2048x256 (shapeCast S2048x1 (cmpi .slt (iota .tc S2048x1 32 [0] iota_S2048x1_d0_w32) (broadcast S2048x1 2040#32))
    shapeCasts_S2048x1_S2048x1) broadcasts_S2048x1_S2048x256) (dynamicRotate 0 2040#32 none x rotates_S2048x256_d0)
    (broadcast S2048x256 (Scalar.ofBits (F := Ideal) .f32 0x00000000#32)))

theorem back_eight (j : S2048x256.Idx) : eight (k0_pay19 (F := Ideal) (count g) (k0_pay8 pw) gt (k0_pay11 gt) d sc) j
    = ((lead (fun t => X.dpooled g t (j 1).val / cnt g t) 8 (j 0).val : ℝ) : EReal) :=
  lead_step 4 2044#32 _ (fun t c => X.dpooled g t c / cnt g t) (by decide) rfl (by decide +kernel)
    (back_four X g hg gt d pw sc hgt hd hpw hsc) j

theorem back_sixteen (j : S2048x256.Idx) : sixteen (eight (k0_pay19 (F := Ideal) (count g) (k0_pay8 pw) gt (k0_pay11 gt) d sc)) j
    = ((lead (fun t => X.dpooled g t (j 1).val / cnt g t) 16 (j 0).val : ℝ) : EReal) :=
  lead_step 8 2040#32 _ (fun t c => X.dpooled g t c / cnt g t) (by decide) rfl (by decide +kernel)
    (back_eight X g hg gt d pw sc hgt hd hpw hsc) j

/-- The gradient in the pooled branch. -/
theorem dv_apply (j : S2048x256.Idx) :
    k0_pay1 (F := Ideal) (BitVec.ofNat 32 g) (k0_pay17 (k0_pay8 pw) gt (k0_pay11 gt) d sc) (iota .tc S2048x1 32 [0] iota_S2048x1_d0_w32)
      (k0_pay18 (count g) (k0_pay8 pw) gt (k0_pay11 gt) d sc) (k0_pay19 (count g) (k0_pay8 pw) gt (k0_pay11 gt) d sc)
      (k0_pay20 (count g) (k0_pay8 pw) gt (k0_pay11 gt) d sc) (Scalar.ofBits .f32 0x00000000#32) k0_pay21 j
      = ((X.dvg g (j 0).val (j 1).val : ℝ) : EReal) := by
  have hs : (if g = 0 then k0_pay18 (F := Ideal) (count g) (k0_pay8 pw) gt (k0_pay11 gt) d sc
      else if g = 1 then k0_pay19 (F := Ideal) (count g) (k0_pay8 pw) gt (k0_pay11 gt) d sc
      else if g = 2 then eight (k0_pay19 (F := Ideal) (count g) (k0_pay8 pw) gt (k0_pay11 gt) d sc)
      else sixteen (eight (k0_pay19 (F := Ideal) (count g) (k0_pay8 pw) gt (k0_pay11 gt) d sc))) j
        = ((lead (fun t => X.dpooled g t (j 1).val / cnt g t) (win g) (j 0).val : ℝ) : EReal) := by
    unfold win
    split_ifs
    · exact back_two X g hg gt d pw sc hgt hd hpw hsc j
    · exact back_four X g hg gt d pw sc hgt hd hpw hsc j
    · exact back_eight X g hg gt d pw sc hgt hd hpw hsc j
    · exact back_sixteen X g hg gt d pw sc hgt hd hpw hsc j
  rw [← pick g hg] at hs
  unfold k0_pay1
  rw [subf_apply]
  refine (congrArg₂ (fun a b : EReal => a - b) hs (dpooled_apply X g gt d pw sc hgt hd hpw hsc j)).trans ?_
  rw [← EReal.coe_sub]
  rfl

end Back

end Group

end Cert.Pool.Block

end
-- ==== Proof.Pool.Blocks.lean ====
/-
  What the pooling's backward kernel leaves in its four result arrays (hand-written, untrusted). Each point of its grid is
  one group of 256 channels.
-/
module

public import proofs.«01_k».proof.Proof.Pool.Block
public import proofs.«01_k».proof.Proof.Product.Math
public import proofs.«01_k».proof.Proof.Gen.PoolIdeal.Value
public import Idealize.ShloMosaic.Lib.Pipeline.ValueKit.Acc
public import Idealize.ShloMosaic.Lib.Pipeline.ValueKit.Tiles
public import Idealize.ShloMosaic.Lib.Tactic

@[expose] public section

set_option backward.isDefEq.respectTransparency.types false
set_option backward.isDefEq.respectTransparency false

noncomputable section

namespace Cert.Pool.Blocks

open Idealize.ShloMosaic Idealize.ShloMosaic.TcCoe Idealize.SL.Sem Idealize.ShloMosaic.ValueIdx
open Cert.PoolIdeal Cert.PoolIdeal.Gen Cert.Pool.Math Cert.Pool.Block Cert.Gate.Math Cert.Reals Finset

/-- The pooled branch and the gate in `Z`, from columns 4096 and 5120 on, the gradient in `C`, from column 1024 on, and the
    other arguments. -/
abbrev data (Z C : ℕ → ℕ → ℝ) (W : ℕ → ℕ → ℕ → ℝ) (SC : ℕ → ℝ) : Data where
  V i k := Z i (4096 + k)
  G i k := Z i (5120 + k)
  C i k := C i (1024 + k)
  W := W
  SC := SC

variable (m : (ℓ : Loc nD τ sig) → Buf (Elt Ideal) ℓ) (c : Dev nD) (Z C : ℕ → ℕ → ℝ) (W : ℕ → ℕ → ℕ → ℝ) (SC : ℕ → ℝ)

/-- The four arguments hold finite values. -/
structure Holds : Prop where
  z : ∀ i : S2048x6144.Idx, m ((c : Thread nD τ).loc main_arg0) i = ((Z (i 0).val (i 1).val : ℝ) : EReal)
  d : ∀ i : S2048x2048.Idx, m ((c : Thread nD τ).loc main_arg1) i = ((C (i 0).val (i 1).val : ℝ) : EReal)
  w : ∀ i : S4x256x256.Idx, m ((c : Thread nD τ).loc main_arg2) i = ((W (i 0).val (i 1).val (i 2).val : ℝ) : EReal)
  sc : ∀ i : S1x1024.Idx, m ((c : Thread nD τ).loc main_arg3) i = ((SC (i 1).val : ℝ) : EReal)

theorem idx_0 : ∀ t : Fin cfg0.N, win0_0.index t 0 = 0 ∧ win0_0.index t 1 = 16 + t.val :=
  (by decide +kernel : ∀ t : Fin grid0.N, win0_0.index t 0 = 0 ∧ win0_0.index t 1 = 16 + t.val)
theorem idx_1 : ∀ t : Fin cfg0.N, win0_1.index t 0 = 0 ∧ win0_1.index t 1 = 20 + t.val :=
  (by decide +kernel : ∀ t : Fin grid0.N, win0_1.index t 0 = 0 ∧ win0_1.index t 1 = 20 + t.val)
theorem idx_2 : ∀ t : Fin cfg0.N, win0_2.index t 0 = 0 ∧ win0_2.index t 1 = 4 + t.val :=
  (by decide +kernel : ∀ t : Fin grid0.N, win0_2.index t 0 = 0 ∧ win0_2.index t 1 = 4 + t.val)
theorem idx_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx_4 : ∀ t : Fin cfg0.N, win0_4.index t 0 = 0 ∧ win0_4.index t 1 = t.val :=
  (by decide +kernel : ∀ t : Fin grid0.N, win0_4.index t 0 = 0 ∧ win0_4.index t 1 = t.val)
theorem idx_5 : ∀ t : Fin cfg0.N, win0_5.index t 0 = 0 ∧ win0_5.index t 1 = t.val :=
  (by decide +kernel : ∀ t : Fin grid0.N, win0_5.index t 0 = 0 ∧ win0_5.index t 1 = t.val)
theorem idx_6 : ∀ t : Fin cfg0.N, win0_6.index t 0 = 0 ∧ win0_6.index t 1 = t.val :=
  (by decide +kernel : ∀ t : Fin grid0.N, win0_6.index t 0 = 0 ∧ win0_6.index t 1 = t.val)
theorem idx_7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)
theorem idx_8 : ∀ t : Fin cfg0.N, win0_8.index t 0 = 0 ∧ win0_8.index t 1 = t.val :=
  (by decide +kernel : ∀ t : Fin grid0.N, win0_8.index t 0 = 0 ∧ win0_8.index t 1 = t.val)

/-- The point's coordinate is its number: the group. -/
theorem coord : ∀ t : Fin cfg0.N, ((grid0.coords t) 0).val = t.val :=
  (by decide +kernel : ∀ t : Fin grid0.N, ((grid0.coords t) 0).val = t.val)

theorem group (t : Fin cfg0.N) : t.val < 4 := by
  have hN : cfg0.N = 4 := N_0
  have := t.isLt
  omega

section
variable (X : Data) (i : grid0.Coords) (g : ℕ) (hg : g < 4) (hi : (i 0).val = g) (x0 x1 x2 : Vec Ideal S2048x256 .f32)
  (x3 : Vec Ideal S1x256x256 .f32) (x4 : Vec Ideal S1x256 .f32)

/-- The body's loads are of whole blocks, so the values it computes first are those of the blocks. -/
theorem load_rows (x : Vec Ideal S2048x256 .f32) : View.ld x r0_0 = x := View.ld_unit_lit _ _ (by decide)
theorem load_weights (x : Vec Ideal S1x256x256 .f32) : View.ld x r0_1 = x := View.ld_unit_lit _ _ (by decide)
theorem load_gains (x : Vec Ideal S1x256 .f32) : View.ld x r0_2 = x := View.ld_unit_lit _ _ (by decide)

theorem val_22 : k0_pay22 i x0 x1 x2 x3 x4 = k0_pay2 x0 := congrArg k0_pay2 (load_rows x0)
theorem val_23 : k0_pay23 i x0 x1 x2 x3 x4 = k0_pay3 x0 := congrArg k0_pay3 (load_rows x0)
theorem val_24 : k0_pay24 i x0 x1 x2 x3 x4 = k0_pay4 x0 := congrArg k0_pay4 (load_rows x0)
theorem val_25 : k0_pay25 i x0 x1 x2 x3 x4 = k0_pay5 x0 := congrArg k0_pay5 (load_rows x0)
theorem val_26 : k0_pay26 i x0 x1 x2 x3 x4 = k0_pay6 (F := Ideal) := by unfold k0_pay26; rfl
include hi in
theorem val_27 : k0_pay27 i x0 x1 x2 x3 x4 = Cert.Pool.Block.count g := by
  unfold k0_pay27 Cert.Pool.Block.count
  rw [val_26, hi]
theorem val_28 : k0_pay28 i x0 x1 x2 x3 x4 = k0_pay8 x3 := congrArg k0_pay8 (load_weights x3)
theorem val_29 : k0_pay29 i x0 x1 x2 x3 x4 = k0_pay11 x1 := congrArg k0_pay11 (load_rows x1)

variable
  (hv : ∀ j, x0 j = ((X.V (j 0).val (256 * g + (j 1).val) : ℝ) : EReal)) (hgt : ∀ j, x1 j = ((X.G (j 0).val (256 * g + (j 1).val) : ℝ) : EReal))
  (hd : ∀ j, x2 j = ((X.C (j 0).val (256 * g + (j 1).val) : ℝ) : EReal)) (hpw : ∀ j, x3 j = ((X.W g (j 1).val (j 2).val : ℝ) : EReal))
  (hsc : ∀ j, x4 j = ((X.SC (256 * g + (j 1).val) : ℝ) : EReal))

include hg hi hgt hd hpw hsc in
/-- A point's block of the gradient in the pooled branch. -/
theorem point_dv (j : S2048x256.Idx) : out0_5 (F := Ideal) i x0 x1 x2 x3 x4 j = ((X.dvg g (j 0).val (j 1).val : ℝ) : EReal) := by
  unfold out0_5
  rw [View.canon_cons_unit_lit _ _ _ (by decide)]
  simp only [val_27 i g hi, val_28, val_29, load_rows, load_gains, hi]
  exact dv_apply X g hg x1 x2 x3 x4 hgt hd hpw hsc j

include hg hi hv hgt hd hpw hsc in
/-- A point's block of the gradient in the gate. -/
theorem point_dg (j : S2048x256.Idx) : out0_6 (F := Ideal) i x0 x1 x2 x3 x4 j = ((X.C (j 0).val (256 * g + (j 1).val)
    * X.mixed g (j 0).val (j 1).val * X.SC (256 * g + (j 1).val) * siluSlope (X.G (j 0).val (256 * g + (j 1).val)) : ℝ) : EReal) := by
  unfold out0_6
  rw [View.canon_cons_unit_lit _ _ _ (by decide)]
  simp only [val_22, val_23, val_24, val_25, val_26, load_rows, load_weights, load_gains, hi]
  exact dg_apply X g hg x0 x1 x2 x3 x4 hv hgt hd hpw hsc j

include hg hi hv hgt hd hsc in
/-- A point's block of the gradient of the mixing matrices. -/
theorem point_dpw (j : S1x256x256.Idx) : out0_7 (F := Ideal) i x0 x1 x2 x3 x4 j = ((X.dpw g (j 1).val (j 2).val : ℝ) : EReal) := by
  unfold out0_7
  rw [View.canon_cons_unit_lit _ _ _ (by decide)]
  simp only [val_22, val_23, val_24, val_25, val_26, val_29, load_rows, load_gains, hi]
  exact dpw_apply X g hg x0 x1 x2 x4 hv hgt hd hsc j

include hg hi hv hgt hd hpw in
/-- A point's block of the gradient of the gains. -/
theorem point_dps (j : S1x256.Idx) : out0_8 (F := Ideal) i x0 x1 x2 x3 x4 j
    = ((∑ k ∈ range 2048, X.dms k (256 * g + (j 1).val) * X.mixed g k (j 1).val : ℝ) : EReal) := by
  unfold out0_8
  rw [View.canon_cons_unit_lit _ _ _ (by decide)]
  simp only [val_22, val_23, val_24, val_25, val_26, val_29, load_rows, load_weights, hi]
  exact dps_apply X g hg x0 x1 x2 x3 hv hgt hd hpw j
end

variable {m c Z C W SC} (H : Holds m c Z C W SC)
include H

theorem block_v (t : Fin cfg0.N) (j : S2048x256.Idx) :
    iblk m c 0 t j = (((data Z C W SC).V (j 0).val (256 * t.val + (j 1).val) : ℝ) : EReal) := by
  unfold iblk
  rw [View.read_apply]
  show m ((c : Thread nD τ).loc main_arg0) _ = _
  refine (H.z _).trans (congrArg (fun r : ℝ => (r : EReal)) (congrArg₂ Z ?_ ?_))
  · show win0_0.index t 0 * 2048 + 1 * (j 0).val = _
    rw [(idx_0 t).1]
    omega
  · show win0_0.index t 1 * 256 + 1 * (j 1).val = _
    rw [(idx_0 t).2]
    omega

theorem block_g (t : Fin cfg0.N) (j : S2048x256.Idx) :
    iblk m c 1 t j = (((data Z C W SC).G (j 0).val (256 * t.val + (j 1).val) : ℝ) : EReal) := by
  unfold iblk
  rw [View.read_apply]
  show m ((c : Thread nD τ).loc main_arg0) _ = _
  refine (H.z _).trans (congrArg (fun r : ℝ => (r : EReal)) (congrArg₂ Z ?_ ?_))
  · show win0_1.index t 0 * 2048 + 1 * (j 0).val = _
    rw [(idx_1 t).1]
    omega
  · show win0_1.index t 1 * 256 + 1 * (j 1).val = _
    rw [(idx_1 t).2]
    omega

theorem block_d (t : Fin cfg0.N) (j : S2048x256.Idx) :
    iblk m c 2 t j = (((data Z C W SC).C (j 0).val (256 * t.val + (j 1).val) : ℝ) : EReal) := by
  unfold iblk
  rw [View.read_apply]
  show m ((c : Thread nD τ).loc main_arg1) _ = _
  refine (H.d _).trans (congrArg (fun r : ℝ => (r : EReal)) (congrArg₂ C ?_ ?_))
  · show win0_2.index t 0 * 2048 + 1 * (j 0).val = _
    rw [(idx_2 t).1]
    omega
  · show win0_2.index t 1 * 256 + 1 * (j 1).val = _
    rw [(idx_2 t).2]
    omega

theorem block_w (t : Fin cfg0.N) (j : S1x256x256.Idx) :
    iblk m c 3 t j = (((data Z C W SC).W t.val (j 1).val (j 2).val : ℝ) : EReal) := by
  have h0 : (j 0).val < 1 := (j 0).isLt
  unfold iblk
  rw [View.read_apply]
  show m ((c : Thread nD τ).loc main_arg2) _ = _
  have e0 : win0_3.index t 0 * 1 + 1 * (j 0).val = t.val := by rw [(idx_3 t).1]; omega
  have e1 : win0_3.index t 1 * 256 + 1 * (j 1).val = (j 1).val := by rw [(idx_3 t).2.1]; omega
  have e2 : win0_3.index t 2 * 256 + 1 * (j 2).val = (j 2).val := by rw [(idx_3 t).2.2]; omega
  refine (H.w _).trans (congrArg (fun r : ℝ => (r : EReal)) ?_)
  show W (win0_3.index t 0 * 1 + 1 * (j 0).val) (win0_3.index t 1 * 256 + 1 * (j 1).val) (win0_3.index t 2 * 256 + 1 * (j 2).val) = _
  rw [e0, e1, e2]

theorem block_sc (t : Fin cfg0.N) (j : S1x256.Idx) :
    iblk m c 4 t j = (((data Z C W SC).SC (256 * t.val + (j 1).val) : ℝ) : EReal) := by
  unfold iblk
  rw [View.read_apply]
  show m ((c : Thread nD τ).loc main_arg3) _ = _
  refine (H.sc _).trans (congrArg (fun r : ℝ => (r : EReal)) (congrArg SC ?_))
  show win0_4.index t 1 * 256 + 1 * (j 1).val = _
  rw [(idx_4 t).2]
  omega

/-- The gradient in the pooled branch. -/
theorem arr_dv : (dats m 0 c).arrAt 5 cfg0.N
    = fun i : S2048x1024.Idx => (((data Z C W SC).dv (i 0).val (i 1).val : ℝ) : EReal) := by
  refine (dats m 0 c).arrAt_eq_of_covers 5 (fun i : S2048x1024.Idx => (((data Z C W SC).dv (i 0).val (i 1).val : ℝ) : EReal))
    (by decide +kernel) fun t _ j => ?_
  have hj : (j 1).val < 256 := (j 1).isLt
  show (dats m 0 c).after 5 t j = _
  rw [after0_5]
  refine (point_dv (data Z C W SC) (grid0.coords t) t.val (group t) (coord t) _ _ _ _ _
    (block_g H t) (block_d H t) (block_w H t) (block_sc H t) j).trans ?_
  show _ = (((data Z C W SC).dv (win0_5.index t 0 * 2048 + 1 * (j 0).val) (win0_5.index t 1 * 256 + 1 * (j 1).val) : ℝ) : EReal)
  rw [(idx_5 t).1, (idx_5 t).2]
  unfold Data.dv
  rw [show (t.val * 256 + 1 * (j 1).val) / 256 = t.val by omega, show (t.val * 256 + 1 * (j 1).val) % 256 = (j 1).val by omega,
    show 0 * 2048 + 1 * (j 0).val = (j 0).val by omega]

/-- The gradient in the gate. -/
theorem arr_dg : (dats m 0 c).arrAt 6 cfg0.N
    = fun i : S2048x1024.Idx => (((data Z C W SC).dg (i 0).val (i 1).val : ℝ) : EReal) := by
  refine (dats m 0 c).arrAt_eq_of_covers 6 (fun i : S2048x1024.Idx => (((data Z C W SC).dg (i 0).val (i 1).val : ℝ) : EReal))
    (by decide +kernel) fun t _ j => ?_
  have hj : (j 1).val < 256 := (j 1).isLt
  show (dats m 0 c).after 6 t j = _
  rw [after0_6]
  refine (point_dg (data Z C W SC) (grid0.coords t) t.val (group t) (coord t) _ _ _ _ _
    (block_v H t) (block_g H t) (block_d H t) (block_w H t) (block_sc H t) j).trans ?_
  show _ = (((data Z C W SC).dg (win0_6.index t 0 * 2048 + 1 * (j 0).val) (win0_6.index t 1 * 256 + 1 * (j 1).val) : ℝ) : EReal)
  rw [(idx_6 t).1, (idx_6 t).2]
  unfold Data.dg
  rw [show (t.val * 256 + 1 * (j 1).val) / 256 = t.val by omega, show (t.val * 256 + 1 * (j 1).val) % 256 = (j 1).val by omega,
    show 0 * 2048 + 1 * (j 0).val = (j 0).val by omega, show t.val * 256 + 1 * (j 1).val = 256 * t.val + (j 1).val by omega]

/-- The gradient of the mixing matrices. -/
theorem arr_dpw : (dats m 0 c).arrAt 7 cfg0.N
    = fun i : S4x256x256.Idx => (((data Z C W SC).dpw (i 0).val (i 1).val (i 2).val : ℝ) : EReal) := by
  refine (dats m 0 c).arrAt_eq_of_covers 7 (fun i : S4x256x256.Idx => (((data Z C W SC).dpw (i 0).val (i 1).val (i 2).val : ℝ) : EReal))
    (by decide +kernel) fun t _ j => ?_
  have h0 : (j 0).val < 1 := (j 0).isLt
  show (dats m 0 c).after 7 t j = _
  rw [after0_7]
  refine (point_dpw (data Z C W SC) (grid0.coords t) t.val (group t) (coord t) _ _ _ _ _
    (block_v H t) (block_g H t) (block_d H t) (block_sc H t) j).trans ?_
  show _ = (((data Z C W SC).dpw (win0_7.index t 0 * 1 + 1 * (j 0).val) (win0_7.index t 1 * 256 + 1 * (j 1).val)
    (win0_7.index t 2 * 256 + 1 * (j 2).val) : ℝ) : EReal)
  rw [(idx_7 t).1, (idx_7 t).2.1, (idx_7 t).2.2, show t.val * 1 + 1 * (j 0).val = t.val by omega,
    show 0 * 256 + 1 * (j 1).val = (j 1).val by omega, show 0 * 256 + 1 * (j 2).val = (j 2).val by omega]

/-- The gradient of the gains. -/
theorem arr_dps : (dats m 0 c).arrAt 8 cfg0.N
    = fun i : S1x1024.Idx => (((data Z C W SC).dps (i 1).val : ℝ) : EReal) := by
  refine (dats m 0 c).arrAt_eq_of_covers 8 (fun i : S1x1024.Idx => (((data Z C W SC).dps (i 1).val : ℝ) : EReal))
    (by decide +kernel) fun t _ j => ?_
  have hj : (j 1).val < 256 := (j 1).isLt
  show (dats m 0 c).after 8 t j = _
  rw [after0_8]
  refine (point_dps (data Z C W SC) (grid0.coords t) t.val (group t) (coord t) _ _ _ _ _
    (block_v H t) (block_g H t) (block_d H t) (block_w H t) j).trans ?_
  show _ = (((data Z C W SC).dps (win0_8.index t 1 * 256 + 1 * (j 1).val) : ℝ) : EReal)
  rw [(idx_8 t).2]
  unfold Data.dps
  rw [show (t.val * 256 + 1 * (j 1).val) / 256 = t.val by omega, show (t.val * 256 + 1 * (j 1).val) % 256 = (j 1).val by omega,
    show t.val * 256 + 1 * (j 1).val = 256 * t.val + (j 1).val by omega]

end Cert.Pool.Blocks

end
-- ==== Proof.Pool.Ref.lean ====
/-
  What the reference of the pooling's backward pass leaves in its four results (hand-written, untrusted).

  The reference states the windows as a matrix of zeros and ones for each group, and the windows' sums as products with it.
-/
module

public import proofs.«01_k».proof.Proof.Pool.Block
public import proofs.«01_k».proof.Proof.Gen.PoolRefIdeal.Read

@[expose] public section

set_option backward.isDefEq.respectTransparency.types false
set_option backward.isDefEq.respectTransparency false

noncomputable section

namespace Cert.Pool.Ref

open Idealize.ShloMosaic Idealize.ShloMosaic.TcCoe Idealize.SL.Sem
open Cert.PoolRefIdeal Cert.PoolRefIdeal.Gen Cert.PoolRefIdeal.Read Cert.Pool.Math Cert.Gate.Math Cert.Reals Finset

/-- A small natural number's word, read as a signed integer. -/
theorem toInt_small (a : ℕ) (h : a < 2147483648) : (BitVec.ofNat 32 a).toInt = (a : ℤ) := by
  have e : (BitVec.ofNat 32 a).toNat = a := by
    rw [BitVec.toNat_ofNat]
    omega
  rw [BitVec.toInt_eq_toNat_of_lt (by rw [e]; omega), e]

/-- Whether row `t` lies in the window of `w` rows that ends at row `i`, computed on words. -/
theorem inside (i t w : ℕ) (hi : i < 2048) (ht : t < 2048) (hw : w < 2048) :
    (IntOp.andi (IntOp.cmpi .sle (BitVec.ofNat 32 t) (BitVec.ofNat 32 i))
      (IntOp.cmpi .slt (BitVec.ofNat 32 i) (IntOp.addi (BitVec.ofNat 32 t) (BitVec.ofNat 32 w)))).toNat
      = if t ≤ i ∧ i < t + w then 1 else 0 := by
  have e1 : IntOp.cmpi .sle (BitVec.ofNat 32 t) (BitVec.ofNat 32 i) = if t ≤ i then 1#1 else 0#1 := by
    change BitVec.ofBool ((BitVec.ofNat 32 t).sle (BitVec.ofNat 32 i)) = _
    rw [BitVec.sle, toInt_small _ (by omega), toInt_small _ (by omega)]
    by_cases h : t ≤ i
    · rw [if_pos h, decide_eq_true (by omega)]; rfl
    · rw [if_neg h, decide_eq_false (by omega)]; rfl
  have e2 : IntOp.cmpi .slt (BitVec.ofNat 32 i) (IntOp.addi (BitVec.ofNat 32 t) (BitVec.ofNat 32 w))
      = if i < t + w then 1#1 else 0#1 := by
    change BitVec.ofBool ((BitVec.ofNat 32 i).slt (BitVec.ofNat 32 t + BitVec.ofNat 32 w)) = _
    rw [← BitVec.ofNat_add, BitVec.slt, toInt_small _ (by omega), toInt_small _ (by omega)]
    by_cases h : i < t + w
    · rw [if_pos h, decide_eq_true (by omega)]; rfl
    · rw [if_neg h, decide_eq_false (by omega)]; rfl
  rw [e1, e2]
  by_cases a : t ≤ i <;> by_cases b : i < t + w <;> simp [a, b] <;> rfl

/-- Where the group-first order puts an entry. -/
theorem fold (i : S4x2048x256.Idx) :
    (idx_main_v2 (idx_main_v3 i) 0).val = (i 1).val ∧ (idx_main_v2 (idx_main_v3 i) 1).val = 256 * (i 0).val + (i 2).val := by
  have h0 : (i 0).val < 4 := (i 0).isLt
  have h1 : (i 1).val < 2048 := (i 1).isLt
  have h2 : (i 2).val < 256 := (i 2).isLt
  constructor
  · show (((i 1).val * 4 + (i 0).val) * 256 + (i 2).val) / 1024 = _
    omega
  · show (((i 1).val * 4 + (i 0).val) * 256 + (i 2).val) % 1024 = _
    omega

/-- … and where an entry of that order belongs. -/
theorem unfold' (i : S2048x1024.Idx) :
    (idx_main_v33 (idx_main_v34 i) 0).val = (i 1).val / 256 ∧ (idx_main_v33 (idx_main_v34 i) 1).val = (i 0).val
      ∧ (idx_main_v33 (idx_main_v34 i) 2).val = (i 1).val % 256 := by
  have h0 : (i 0).val < 2048 := (i 0).isLt
  have h1 : (i 1).val < 1024 := (i 1).isLt
  refine ⟨?_, ?_, ?_⟩
  · show ((i 0).val * 1024 + (i 1).val) / 256 % 4 = _
    omega
  · show ((i 0).val * 1024 + (i 1).val) / 1024 = _
    omega
  · show ((i 0).val * 1024 + (i 1).val) % 256 = _
    omega

/-- The longest window of each group, as a word. -/
theorem v15_eq (i : S4x2048x2048.Idx) : val_main_v15 (F := Ideal) i = BitVec.ofNat 32 (win (i 0).val) := by
  have h0 : (i 0).val < 4 := (i 0).isLt
  rw [val_main_v15_apply, val_main_v14_apply, val_main_v13_apply, val_main_call0_v0_apply, val_main_call0_v1_apply,
    val_main_call1_v0_apply, val_main_call2_v0_apply, val_main_v8_apply, val_main_v10_apply, val_main_v12_apply,
    val_main_v4_apply, val_main_v7_apply, val_main_v9_apply, val_main_v11_apply, val_main_c_apply, val_main_c_0_apply, val_main_c_1_apply,
    val_main_c_2_apply, val_main_c_3_apply, val_main_c_4_apply, val_main_c_5_apply]
  refine (Cert.Pool.Block.pick (i 0).val h0 2#32 4#32 8#32 16#32).trans ?_
  unfold win
  split_ifs <;> rfl

theorem win_le (g : ℕ) : win g ≤ 16 := by unfold win; split_ifs <;> omega

/-- The windows as zeros and ones. -/
theorem v21_eq (i : S4x2048x2048.Idx) : val_main_v21 (F := Ideal) i
    = ((if (i 2).val ≤ (i 1).val ∧ (i 1).val < (i 2).val + win (i 0).val then (1 : ℝ) else 0 : ℝ) : EReal) := by
  rw [val_main_v21_apply, val_main_v20_apply, val_main_v16_apply, val_main_v19_apply, val_main_v18_apply, val_main_v17_apply, v15_eq,
    val_main_v5_apply, val_main_v6_apply]
  have h := inside (i 1).val (i 2).val (win (i 0).val) (i 1).isLt (i 2).isLt (lt_of_le_of_lt (win_le _) (by norm_num))
  change ((BitVec.toNat _ : ℝ) : EReal) = _
  rw [h]
  split_ifs <;> norm_num

/-- The number of rows in a row's window, computed on words. -/
theorem count_word (g t : ℕ) (ht : t < 2048) : min ((((IntOp.addi (BitVec.ofNat 32 t) 1#32).toInt : ℤ) : ℝ) : EReal)
    ((((BitVec.ofNat 32 (win g)).toInt : ℤ) : ℝ) : EReal) = ((cnt g t : ℝ) : EReal) := by
  have hw := win_le g
  have e1 : (IntOp.addi (BitVec.ofNat 32 t) 1#32).toInt = (t + 1 : ℤ) := by
    change (BitVec.ofNat 32 t + BitVec.ofNat 32 1).toInt = _
    rw [← BitVec.ofNat_add, toInt_small _ (by omega)]
    push_cast
    rfl
  rw [e1, toInt_small (win g) (by omega)]
  refine (EReal.coe_strictMono.monotone.map_min).symm.trans ?_
  unfold cnt
  push_cast
  rfl

/-- The number of rows in each row's window. -/
theorem v27_eq (i : S4x2048x1.Idx) : val_main_v27 (F := Ideal) i = ((cnt (i 0).val (i 1).val : ℝ) : EReal) := by
  rw [val_main_v27_apply, val_main_v26_apply, val_main_v24_apply, val_main_v25_apply, v15_eq, val_main_v23_apply, val_main_v22_apply,
    val_main_c_6_apply, val_main_v5_apply]
  exact count_word (i 0).val (i 1).val (i 1).isLt

variable (x0 : FVec Ideal S2048x6144 .f32) (x1 : FVec Ideal S2048x2048 .f32) (x2 : FVec Ideal S4x256x256 .f32)
  (x3 : FVec Ideal S1x1024 .f32) (X : Data)

/-- The arguments hold finite values: those of `X`. -/
structure Reads : Prop where
  v : ∀ i, val_main_v0 (F := Ideal) x0 i = ((X.V (i 0).val (i 1).val : ℝ) : EReal)
  g : ∀ i, val_main_v1 (F := Ideal) x0 i = ((X.G (i 0).val (i 1).val : ℝ) : EReal)
  d : ∀ i, val_main_v39 (F := Ideal) x1 i = ((X.C (i 0).val (i 1).val : ℝ) : EReal)
  w : ∀ i, x2 i = ((X.W (i 0).val (i 1).val (i 2).val : ℝ) : EReal)
  sc : ∀ i, x3 i = ((X.SC (i 1).val : ℝ) : EReal)

variable {x0 x1 x2 x3 X} (H : Reads x0 x1 x2 x3 X)
include H

/-- The pooled branch, groups first. -/
theorem v3_eq (i : S4x2048x256.Idx) : val_main_v3 (F := Ideal) x0 i
    = ((X.V (i 1).val (256 * (i 0).val + (i 2).val) : ℝ) : EReal) := by
  rw [val_main_v3_apply, val_main_v2_apply, H.v, (fold i).1, (fold i).2]

/-- The windows' sums. -/
theorem v28_eq (i : S4x2048x256.Idx) : val_main_v28 (F := Ideal) x0 i
    = ((trail (fun t => X.V t (256 * (i 0).val + (i 2).val)) (win (i 0).val) (i 1).val : ℝ) : EReal) := by
  rw [val_main_v28_apply, sum_fin_coe _ (fun t => (if t ≤ (i 1).val ∧ (i 1).val < t + win (i 0).val then (1 : ℝ) else 0)
      * X.V t (256 * (i 0).val + (i 2).val)) fun k => by rw [v21_eq, v3_eq H]; exact (EReal.coe_mul _ _).symm]
  exact congrArg (fun r : ℝ => (r : EReal)) (trail_band (fun t => X.V t (256 * (i 0).val + (i 2).val)) _ _ (i 1).isLt)

/-- The pooled rows. -/
theorem v31_eq (i : S4x2048x256.Idx) : val_main_v31 (F := Ideal) x0 i = ((X.pooled (i 0).val (i 1).val (i 2).val : ℝ) : EReal) := by
  rw [val_main_v31_apply, val_main_v30_apply, val_main_v29_apply, v28_eq H, v27_eq, v3_eq H]
  change Ideal.div _ ((cnt (i 0).val (i 1).val : ℝ) : EReal) - _ = _
  rw [div_coe_coe _ (cnt_ne_zero _ _)]
  exact (EReal.coe_sub _ _).symm

/-- The mixed rows. -/
theorem v34_eq (i : S2048x1024.Idx) : val_main_v34 (F := Ideal) x0 x2 i
    = ((X.mixed ((i 1).val / 256) (i 0).val ((i 1).val % 256) : ℝ) : EReal) := by
  obtain ⟨e0, e1, e2⟩ := unfold' i
  rw [val_main_v34_apply, val_main_v33_apply]
  generalize idx_main_v33 (idx_main_v34 i) = p at e0 e1 e2
  rw [val_main_v32_apply, sum_fin_coe _ (fun k => X.pooled (p 0).val (p 1).val k * X.W (p 0).val k (p 2).val) fun k => by
    rw [v31_eq H, H.w]; exact (EReal.coe_mul _ _).symm]
  rw [e0, e1, e2]
  rfl

/-- The gate's logistic values. -/
theorem v37_eq (i : S2048x1024.Idx) : val_main_v37_2 (F := Ideal) x0 i = ((sig (X.G (i 0).val (i 1).val) : ℝ) : EReal) := by
  rw [val_main_v37_2_apply, val_main_call3_v4_apply, val_main_call3_cst_0_apply, val_main_call3_v3_apply, val_main_call3_v2_apply,
    val_main_call3_cst_apply, val_main_call3_v1_apply, val_main_call3_v0_apply, H.g]
  exact logistic _

/-- The gradient in the scaled rows. -/
theorem v41_eq (i : S2048x1024.Idx) : val_main_v41 (F := Ideal) x0 x1 i = ((X.dms (i 0).val (i 1).val : ℝ) : EReal) := by
  rw [val_main_v41_apply, val_main_v37_0_apply, H.d, H.g, v37_eq H]
  change ((X.C (i 0).val (i 1).val : ℝ) : EReal) * (((X.G (i 0).val (i 1).val : ℝ) : EReal) * ((sig (X.G (i 0).val (i 1).val) : ℝ) : EReal)) = _
  norm_cast

/-- The gradient in the gate. -/
theorem v42_eq (i : S2048x1024.Idx) : val_main_v42 (F := Ideal) x0 x1 x2 x3 i = ((X.dg (i 0).val (i 1).val : ℝ) : EReal) := by
  rw [val_main_v42_apply, val_main_call4_v1_apply, val_main_call4_v2_apply, val_main_call4_v0_apply, val_main_v40_apply,
    val_main_v36_apply, val_main_v35_apply, val_main_v37_1_apply, val_main_call3_v7_apply, val_main_call3_v6_apply,
    val_main_call3_cst_1_apply, v34_eq H, v37_eq H, H.sc, H.d, H.g]
  change ((X.mixed ((i 1).val / 256) (i 0).val ((i 1).val % 256) : ℝ) : EReal) * ((X.SC (i 1).val : ℝ) : EReal)
      * ((X.C (i 0).val (i 1).val : ℝ) : EReal) * ((sig (X.G (i 0).val (i 1).val) : ℝ) : EReal)
    + ((X.G (i 0).val (i 1).val : ℝ) : EReal) * (((X.mixed ((i 1).val / 256) (i 0).val ((i 1).val % 256) : ℝ) : EReal)
      * ((X.SC (i 1).val : ℝ) : EReal) * ((X.C (i 0).val (i 1).val : ℝ) : EReal))
      * (((sig (X.G (i 0).val (i 1).val) : ℝ) : EReal) * (Ideal.ofBits .f32 0x3F800000#32 - ((sig (X.G (i 0).val (i 1).val) : ℝ) : EReal))) = _
  rw [ofBits_one]
  norm_cast
  unfold Data.dg siluSlope
  ring

/-- The gradient in the gains. -/
theorem v45_eq (i : S1x1024.Idx) : val_main_v45 (F := Ideal) x0 x1 x2 i = ((X.dps (i 1).val : ℝ) : EReal) := by
  have h0 : (i 0).val < 1 := (i 0).isLt
  have e : (idx_main_v45 i 0).val = (i 1).val := by
    show (i 0).val * 1024 + (i 1).val = _
    omega
  rw [val_main_v45_apply]
  generalize idx_main_v45 i = p at e
  rw [val_main_v44_apply, val_main_cst_apply]
  change Ideal.ofBits .f32 0x00000000#32 + _ = _
  rw [sum_fin_coe _ (fun k => X.dms k (p 0).val * X.mixed ((p 0).val / 256) k ((p 0).val % 256)) fun k => by
      rw [val_main_v43_apply, v34_eq H, v41_eq H]; exact (mul_comm _ _).trans (EReal.coe_mul _ _).symm,
    Ideal.ofBits_zero_f32, zero_add, e]
  rfl

/-- The gradient in the mixed rows, groups first. -/
theorem v49_eq (i : S4x2048x256.Idx) : val_main_v49 (F := Ideal) x0 x1 x3 i
    = ((X.dmx (i 1).val (256 * (i 0).val + (i 2).val) : ℝ) : EReal) := by
  have e0 : (idx_main_v48 (idx_main_v49 i) 0).val = (i 1).val := (fold i).1
  have e1 : (idx_main_v48 (idx_main_v49 i) 1).val = 256 * (i 0).val + (i 2).val := (fold i).2
  rw [val_main_v49_apply, val_main_v48_apply]
  generalize idx_main_v48 (idx_main_v49 i) = p at e0 e1
  rw [val_main_v47_apply, val_main_v46_apply, v41_eq H, H.sc]
  refine (EReal.coe_mul _ _).symm.trans ?_
  show ((X.dmx (p 0).val (p 1).val : ℝ) : EReal) = _
  rw [e0, e1]

/-- The gradient of the mixing matrices. -/
theorem v51_eq (i : S4x256x256.Idx) : val_main_v51 (F := Ideal) x0 x1 x3 i
    = ((X.dpw (i 0).val (i 1).val (i 2).val : ℝ) : EReal) := by
  rw [val_main_v51_apply, val_main_v50_apply, sum_fin_coe _ (fun k => X.pooled (i 0).val k (i 1).val
      * X.dmx k (256 * (i 0).val + (i 2).val)) fun k => by
    rw [v49_eq H, v31_eq H]; exact (mul_comm _ _).trans (EReal.coe_mul _ _).symm]
  rfl

/-- The gradient in the pooled rows. -/
theorem v52_eq (i : S4x2048x256.Idx) : val_main_v52 (F := Ideal) x0 x1 x2 x3 i
    = ((X.dpooled (i 0).val (i 1).val (i 2).val : ℝ) : EReal) := by
  rw [val_main_v52_apply, sum_fin_coe _ (fun k => X.dmx (i 1).val (256 * (i 0).val + k) * X.W (i 0).val (i 2).val k) fun k => by
    rw [v49_eq H, H.w]; exact (EReal.coe_mul _ _).symm]
  rfl

/-- The gradient in each window's mean. -/
theorem v55_eq (i : S4x2048x256.Idx) : val_main_v55 (F := Ideal) x0 x1 x2 x3 i
    = ((X.dpooled (i 0).val (i 1).val (i 2).val / cnt (i 0).val (i 1).val : ℝ) : EReal) := by
  rw [val_main_v55_apply, val_main_v54_apply, v52_eq H, v27_eq]
  exact div_coe_coe _ (cnt_ne_zero _ _)

/-- The gradient in the windows' rows. -/
theorem v57_eq (i : S4x2048x256.Idx) : val_main_v57 (F := Ideal) x0 x1 x2 x3 i
    = ((lead (fun t => X.dpooled (i 0).val t (i 2).val / cnt (i 0).val t) (win (i 0).val) (i 1).val : ℝ) : EReal) := by
  rw [val_main_v57_apply, val_main_v56_apply, sum_fin_coe _ (fun t => (if (i 1).val ≤ t ∧ t < (i 1).val + win (i 0).val then (1 : ℝ) else 0)
      * (X.dpooled (i 0).val t (i 2).val / cnt (i 0).val t)) fun k => by
    rw [v55_eq H, v21_eq]; exact (mul_comm _ _).trans (EReal.coe_mul _ _).symm]
  exact congrArg (fun r : ℝ => (r : EReal)) (lead_band (fun t => X.dpooled (i 0).val t (i 2).val / cnt (i 0).val t) _ _)

/-- The gradient in the pooled branch. -/
theorem v60_eq (i : S2048x1024.Idx) : val_main_v60 (F := Ideal) x0 x1 x2 x3 i = ((X.dv (i 0).val (i 1).val : ℝ) : EReal) := by
  have e0 : (idx_main_v59 (idx_main_v60 i) 0).val = (i 1).val / 256 := (unfold' i).1
  have e1 : (idx_main_v59 (idx_main_v60 i) 1).val = (i 0).val := (unfold' i).2.1
  have e2 : (idx_main_v59 (idx_main_v60 i) 2).val = (i 1).val % 256 := (unfold' i).2.2
  rw [val_main_v60_apply, val_main_v59_apply]
  generalize idx_main_v59 (idx_main_v60 i) = p at e0 e1 e2
  rw [val_main_v58_apply, val_main_v53_apply, v52_eq H, v57_eq H]
  change -((X.dpooled (p 0).val (p 1).val (p 2).val : ℝ) : EReal) + _ = _
  rw [← EReal.coe_neg, ← EReal.coe_add, neg_add_eq_sub]
  show ((X.dvg (p 0).val (p 1).val (p 2).val : ℝ) : EReal) = _
  rw [e0, e1, e2]
  rfl

end Cert.Pool.Ref

end
-- ==== Proof.Pool.Claim.lean ====
/-
  The pooling's backward pass: its kernel and its reference leave the same arrays, and the reference's frame (hand-written,
  untrusted).
-/
module

public import proofs.«01_k».proof.Defs
public import proofs.«01_k».proof.Proof.Pool.Blocks
public import proofs.«01_k».proof.Proof.Pool.Ref
public import proofs.«01_k».proof.Proof.Gen.PoolRefIdeal.Run
public import proofs.«01_k».proof.Proof.Gen.Pre_pool_finite

@[expose] public section

set_option backward.isDefEq.respectTransparency.types false
set_option backward.isDefEq.respectTransparency false

noncomputable section

namespace Cert.Pool.Result

open Idealize.ShloMosaic Idealize.ShloMosaic.TcCoe Idealize.SL.Sem
open Cert.Pool.Math Cert.Reals

/-- The reference's run ends with its arguments as they were; it declares no semaphore, so every counter is zero. -/
theorem frame_ref (m : (ℓ : Loc Cert.PoolRefIdeal.nD Cert.PoolRefIdeal.τ Cert.PoolRefIdeal.sig) → Buf (Elt Ideal) ℓ)
    (g : Dev Cert.PoolRefIdeal.nD → PrngReg) :
    θ_run (Cert.PoolRefIdeal.defs (F := Ideal)) (onTc (τ := Cert.PoolRefIdeal.τ) (Cert.PoolRefIdeal.main (F := Ideal)))
      ⟨m, fun _ => 0, g⟩ fun r => (∀ c : Dev Cert.PoolRefIdeal.nD,
        r.2.mem ((c.tc : Thread Cert.PoolRefIdeal.nD Cert.PoolRefIdeal.τ).loc Cert.PoolRefIdeal.main_arg0)
            = m ((c.tc : Thread Cert.PoolRefIdeal.nD Cert.PoolRefIdeal.τ).loc Cert.PoolRefIdeal.main_arg0)
        ∧ r.2.mem ((c.tc : Thread Cert.PoolRefIdeal.nD Cert.PoolRefIdeal.τ).loc Cert.PoolRefIdeal.main_arg1)
            = m ((c.tc : Thread Cert.PoolRefIdeal.nD Cert.PoolRefIdeal.τ).loc Cert.PoolRefIdeal.main_arg1)
        ∧ r.2.mem ((c.tc : Thread Cert.PoolRefIdeal.nD Cert.PoolRefIdeal.τ).loc Cert.PoolRefIdeal.main_arg2)
            = m ((c.tc : Thread Cert.PoolRefIdeal.nD Cert.PoolRefIdeal.τ).loc Cert.PoolRefIdeal.main_arg2)
        ∧ r.2.mem ((c.tc : Thread Cert.PoolRefIdeal.nD Cert.PoolRefIdeal.τ).loc Cert.PoolRefIdeal.main_arg3)
            = m ((c.tc : Thread Cert.PoolRefIdeal.nD Cert.PoolRefIdeal.τ).loc Cert.PoolRefIdeal.main_arg3))
      ∧ r.2.sem = fun _ => 0 :=
  (θ_run Cert.PoolRefIdeal.defs _ _).mono
    (fun r h => ⟨fun c => (h c).2.2.2.2, sem_eq_zero_of_no_sems (by decide) r.2⟩) (Cert.PoolRefIdeal.Value.run m g)

/-- Finite entries of a three-index array as a function of the three coordinates. -/
theorem reals_of_three (x : Cert.PoolIdeal.S4x256x256.Idx → EReal) (h : ∀ i, ∃ r : ℝ, x i = (r : EReal)) :
    ∃ W : ℕ → ℕ → ℕ → ℝ, ∀ i, x i = ((W (i 0).val (i 1).val (i 2).val : ℝ) : EReal) := by
  obtain ⟨Q, hQ⟩ := reals_of_two (fun i : Cert.PoolIdeal.S4x256x256.Idx => (i 0).val) (fun i => 256 * (i 1).val + (i 2).val)
    (fun i j p q => funext fun a => Fin.ext (by
      have hi : (i 2).val < 256 := (i 2).isLt
      have hj : (j 2).val < 256 := (j 2).isLt
      fin_cases a
      · exact p
      · show (i 1).val = (j 1).val
        omega
      · show (i 2).val = (j 2).val
        omega)) x h
  exact ⟨fun a b d => Q a (256 * b + d), hQ⟩

/-- Under the precondition the four arguments of a device hold real numbers. -/
theorem reals (m : (ℓ : Loc Cert.PoolIdeal.nD Cert.PoolIdeal.τ Cert.PoolIdeal.sig) → Buf (Elt Ideal) ℓ)
    (h : Cert.Pre_PoolIdeal_pool_finite m) (c : Dev Cert.PoolIdeal.nD) :
    ∃ Z C W SC, Cert.Pool.Blocks.Holds m c Z C W SC := by
  obtain ⟨h0, h1, h2, h3⟩ := h c
  obtain ⟨Z, hZ⟩ := reals_of_two (fun i : Cert.PoolIdeal.S2048x6144.Idx => (i 0).val) (fun i => (i 1).val)
    (fun i j p q => funext fun a => Fin.ext (by fin_cases a; exacts [p, q])) _
    (fun i => real_of_abs_lt _ (congrFun h0 i))
  obtain ⟨C, hC⟩ := reals_of_two (fun i : Cert.PoolIdeal.S2048x2048.Idx => (i 0).val) (fun i => (i 1).val)
    (fun i j p q => funext fun a => Fin.ext (by fin_cases a; exacts [p, q])) _
    (fun i => real_of_abs_lt _ (congrFun h1 i))
  obtain ⟨W, hW⟩ := reals_of_three _ (fun i => real_of_abs_lt _ (congrFun h2 i))
  obtain ⟨SC, hS⟩ := reals_of_two (fun i : Cert.PoolIdeal.S1x1024.Idx => (i 0).val) (fun i => (i 1).val)
    (fun i j p q => funext fun a => Fin.ext (by fin_cases a; exacts [p, q])) _
    (fun i => real_of_abs_lt _ (congrFun h3 i))
  have z : ∀ i : Cert.PoolIdeal.S1x1024.Idx, (i 0).val = 0 := fun i => by
    have : (i 0).val < 1 := (i 0).isLt
    omega
  exact ⟨Z, C, W, SC 0, hZ, hC, hW, fun i => (hS i).trans (by rw [z i])⟩

/-- The kernel and the reference leave the same gradients. -/
theorem algebraic : Cert.algebraic_PoolIdeal_PoolRefIdeal_pre_pool_finite := by
  intro m g m' g' hpre hagree
  refine ⟨fun c => (Cert.PoolIdeal.Gen.dats m 0 c).arrAt 5 Cert.PoolIdeal.cfg0.N,
    fun c => (Cert.PoolIdeal.Gen.dats m 0 c).arrAt 6 Cert.PoolIdeal.cfg0.N,
    fun c => (Cert.PoolIdeal.Gen.dats m 0 c).arrAt 7 Cert.PoolIdeal.cfg0.N,
    fun c => (Cert.PoolIdeal.Gen.dats m 0 c).arrAt 8 Cert.PoolIdeal.cfg0.N,
    Cert.PoolIdeal.Value.run_blocks m g,
    (θ_run Cert.PoolRefIdeal.defs _ _).mono (fun r h c => ?_) (Cert.PoolRefIdeal.Value.run m' g')⟩
  obtain ⟨Z, C, W, SC, H⟩ := reals m hpre c
  obtain ⟨e0, e1, e2, e3⟩ := hagree c
  obtain ⟨r0, r1, r2, r3, k⟩ := h c
  have R : Cert.Pool.Ref.Reads (m' ((c.tc : Thread Cert.PoolRefIdeal.nD Cert.PoolRefIdeal.τ).loc Cert.PoolRefIdeal.main_arg0))
      (m' ((c.tc : Thread Cert.PoolRefIdeal.nD Cert.PoolRefIdeal.τ).loc Cert.PoolRefIdeal.main_arg1))
      (m' ((c.tc : Thread Cert.PoolRefIdeal.nD Cert.PoolRefIdeal.τ).loc Cert.PoolRefIdeal.main_arg2))
      (m' ((c.tc : Thread Cert.PoolRefIdeal.nD Cert.PoolRefIdeal.τ).loc Cert.PoolRefIdeal.main_arg3))
      (Cert.Pool.Blocks.data Z C W SC) := by
    rw [e0, e1, e2, e3]
    refine ⟨fun i => ?_, fun i => ?_, fun i => ?_, H.w, H.sc⟩
    · refine (Cert.PoolRefIdeal.Read.val_main_v0_apply _ i).trans ((H.z _).trans ?_)
      exact congrArg (fun k : ℕ => ((Z (i 0).val k : ℝ) : EReal)) (by show _ = _ + _; first | rfl | exact Nat.add_comm _ _)
    · refine (Cert.PoolRefIdeal.Read.val_main_v1_apply _ i).trans ((H.z _).trans ?_)
      exact congrArg (fun k : ℕ => ((Z (i 0).val k : ℝ) : EReal)) (by show _ = _ + _; first | rfl | exact Nat.add_comm _ _)
    · refine (Cert.PoolRefIdeal.Read.val_main_v39_apply _ i).trans ((H.d _).trans ?_)
      exact congrArg (fun k : ℕ => ((C (i 0).val k : ℝ) : EReal)) (by show _ = _ + _; first | rfl | exact Nat.add_comm _ _)
  refine ⟨r0.trans ?_, r1.trans ?_, r2.trans ?_, r3.trans ?_, k⟩
  · rw [Cert.PoolRefIdeal.Read.val_main_v60_eq]
    exact (funext fun i => Cert.Pool.Ref.v60_eq R i).trans (Cert.Pool.Blocks.arr_dv H).symm
  · rw [Cert.PoolRefIdeal.Read.val_main_v42_eq]
    exact (funext fun i => Cert.Pool.Ref.v42_eq R i).trans (Cert.Pool.Blocks.arr_dg H).symm
  · rw [Cert.PoolRefIdeal.Read.val_main_v51_eq]
    exact (funext fun i => Cert.Pool.Ref.v51_eq R i).trans (Cert.Pool.Blocks.arr_dpw H).symm
  · rw [Cert.PoolRefIdeal.Read.val_main_v45_eq]
    exact (funext fun i => Cert.Pool.Ref.v45_eq R i).trans (Cert.Pool.Blocks.arr_dps H).symm

end Cert.Pool.Result

end
-- ==== Proof.Gate.Value.lean ====
/-
  The gate of the forward passes, over the extended reals (hand-written, untrusted).
-/
module

public import proofs.«01_k».proof.Proof.Reals

@[expose] public section

noncomputable section

namespace Cert.Forward

open Idealize.ShloMosaic

/-- The logistic value of `x`. -/
def logistic (x : EReal) : EReal :=
  Ideal.div (Ideal.ofBits .f32 0x3F800000#32) (Ideal.ofBits .f32 0x3F800000#32 + Ideal.exp (-x))

/-- The kernels write the negation as a difference from zero. -/
theorem logistic_sub (x : EReal) : Ideal.div (Ideal.ofBits .f32 0x3F800000#32)
    (Ideal.ofBits .f32 0x3F800000#32 + Ideal.exp (Ideal.ofBits .f32 0x00000000#32 - x)) = logistic x := by
  rw [Ideal.ofBits_zero_f32, zero_sub]
  rfl

/-- `x` times its logistic value. -/
def gate (x : EReal) : EReal := x * logistic x

end Cert.Forward

end
-- ==== Proof.Pool.Fwd.lean ====
/-
  Multiscale causal mean pooling, forward (hand-written, untrusted).

  The kernel writes over the second half of an array's columns and leaves the first half; each point of its grid is one
  group of 256 channels. It forms the windows' sums as its backward kernel does. Nothing here needs finite values.
-/
module

public import proofs.«01_k».proof.Proof.Pool.Block
public import proofs.«01_k».proof.Proof.Product.Math
public import proofs.«01_k».proof.Proof.Gate.Value
public import proofs.«01_k».proof.Proof.Gen.PoolFwdIdeal.Value
public import Idealize.ShloMosaic.Lib.Pipeline.ValueKit.Partial
public import Idealize.ShloMosaic.Lib.Tactic

@[expose] public section

set_option backward.isDefEq.respectTransparency.types false
set_option backward.isDefEq.respectTransparency false

noncomputable section

namespace Cert.Pool.Fwd

open Idealize.ShloMosaic Idealize.ShloMosaic.TcCoe Idealize.SL.Sem Idealize.ShloMosaic.ValueIdx
open Cert.PoolFwdIdeal Cert.PoolFwdIdeal.Gen Cert.Pool.Math Cert.Forward Finset

variable (V G : ℕ → ℕ → EReal) (W : ℕ → ℕ → ℕ → EReal) (SC : ℕ → EReal)

/-- The pooled rows of group `g`. -/
def pooled (g i k : ℕ) : EReal :=
  Ideal.div (trail (fun t => V t (256 * g + k)) (win g) i) ((cnt g i : ℝ) : EReal) - V i (256 * g + k)

/-- An entry of the result's written half: row `i`, channel `k` of group `g`. -/
def entry (g i k : ℕ) : EReal :=
  (∑ q : Fin 256, pooled V g i q.val * W g q.val k) * SC (256 * g + k) * gate (G i (256 * g + k))

section
variable (g : ℕ) (hg : g < 4) (v gt : FVec Ideal S2048x256 .f32) (pw : FVec Ideal S1x256x256 .f32) (sc : FVec Ideal S1x256 .f32)
  (hv : ∀ j, v j = V (j 0).val (256 * g + (j 1).val)) (hgt : ∀ j, gt j = G (j 0).val (256 * g + (j 1).val))
  (hpw : ∀ j, pw j = W g (j 1).val (j 2).val) (hsc : ∀ j, sc j = SC (256 * g + (j 1).val))
include hg hv hgt hpw hsc

/-- What a point of the grid stores. -/
theorem point (j : S2048x256.Idx) : k0_pay1 (F := Ideal) (BitVec.ofNat 32 g) v (k0_pay2 v) (k0_pay3 v) (k0_pay4 v) (k0_pay5 v)
    (k0_pay6 (F := Ideal)) (Scalar.cmpi .eq (BitVec.ofNat 32 g) 0#32) (Scalar.cmpi .eq (BitVec.ofNat 32 g) 1#32)
    (Scalar.cmpi .eq (BitVec.ofNat 32 g) 2#32) (Scalar.ofBits .f32 0x41000000#32) pw gt sc j
      = entry V G W SC g (j 0).val (j 1).val := by
  have e1 : broadcastTo S2048x256 sc broadcasts_S1x256_S2048x256 j = sc (ValueIdx.ix2 0 (j 1)) := Cert.Pool.Block.rows_apply sc j
  have e2 := Cert.Pool.Block.mix_entry g hg v pw V (W g) hv hpw j
  unfold k0_pay1
  change Cert.Pool.Block.mix g v pw j * broadcastTo S2048x256 sc broadcasts_S1x256_S2048x256 j * (gt j
    * Ideal.div (Ideal.ofBits .f32 0x3F800000#32) (Ideal.ofBits .f32 0x3F800000#32
      + Ideal.exp (Ideal.ofBits .f32 0x00000000#32 - gt j))) = _
  rw [e1, e2, Ideal.ofBits_zero_f32, zero_sub, hgt, hsc]
  rfl
end

theorem idx_0 : ∀ t : Fin cfg0.N, win0_0.index t 0 = 0 ∧ win0_0.index t 1 = 16 + t.val :=
  (by decide +kernel : ∀ t : Fin grid0.N, win0_0.index t 0 = 0 ∧ win0_0.index t 1 = 16 + t.val)
theorem idx_1 : ∀ t : Fin cfg0.N, win0_1.index t 0 = 0 ∧ win0_1.index t 1 = 20 + t.val :=
  (by decide +kernel : ∀ t : Fin grid0.N, win0_1.index t 0 = 0 ∧ win0_1.index t 1 = 20 + t.val)
theorem idx_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx_3 : ∀ t : Fin cfg0.N, win0_3.index t 0 = 0 ∧ win0_3.index t 1 = t.val :=
  (by decide +kernel : ∀ t : Fin grid0.N, win0_3.index t 0 = 0 ∧ win0_3.index t 1 = t.val)
theorem idx_4 : ∀ t : Fin cfg0.N, win0_4.index t 0 = 0 ∧ win0_4.index t 1 = 4 + t.val :=
  (by decide +kernel : ∀ t : Fin grid0.N, win0_4.index t 0 = 0 ∧ win0_4.index t 1 = 4 + t.val)

/-- The point's coordinate is its number: the group. -/
theorem coord : ∀ t : Fin cfg0.N, ((grid0.coords t) 0).val = t.val :=
  (by decide +kernel : ∀ t : Fin grid0.N, ((grid0.coords t) 0).val = t.val)

theorem group (t : Fin cfg0.N) : t.val < 4 := by
  have hN : cfg0.N = 4 := N_0
  have := t.isLt
  omega

/-- The result: the first half of the columns as they were, the second half the gated pooled rows. -/
def result (Z : ℕ → ℕ → EReal) (cat : FVec Ideal S2048x2048 .bf16) : FVec Ideal S2048x2048 .bf16 := fun i =>
  if (i 1).val < 1024 then cat i else entry (fun t k => Z t (4096 + k)) (fun t k => Z t (5120 + k)) W SC
    (((i 1).val - 1024) / 256) (i 0).val (((i 1).val - 1024) % 256)

variable (m : (ℓ : Loc nD τ sig) → Buf (Elt Ideal) ℓ) (c : Dev nD) (Z : ℕ → ℕ → EReal)

/-- The array the kernel writes over starts as a copy of the last argument. -/
theorem host_cat : Cert.PoolFwdIdeal.Gen.V m c main_v0 = m ((c : Thread nD τ).loc main_arg3) := by
  unfold_abbrev_sides; after_results; rfl

variable {m c Z W SC} (hz : ∀ i : S2048x6144.Idx, m ((c : Thread nD τ).loc main_arg0) i = Z (i 0).val (i 1).val)
  (hw : ∀ i : S4x256x256.Idx, m ((c : Thread nD τ).loc main_arg1) i = W (i 0).val (i 1).val (i 2).val)
  (hs : ∀ i : S1x1024.Idx, m ((c : Thread nD τ).loc main_arg2) i = SC (i 1).val)

include hz in
theorem block_v (t : Fin cfg0.N) (j : S2048x256.Idx) : iblk m c 0 t j = Z (j 0).val (4096 + (256 * t.val + (j 1).val)) := by
  unfold iblk
  rw [View.read_apply]
  show m ((c : Thread nD τ).loc main_arg0) _ = _
  refine (hz _).trans (congrArg₂ Z ?_ ?_)
  · show win0_0.index t 0 * 2048 + 1 * (j 0).val = _
    rw [(idx_0 t).1]
    omega
  · show win0_0.index t 1 * 256 + 1 * (j 1).val = _
    rw [(idx_0 t).2]
    omega

include hz in
theorem block_g (t : Fin cfg0.N) (j : S2048x256.Idx) : iblk m c 1 t j = Z (j 0).val (5120 + (256 * t.val + (j 1).val)) := by
  unfold iblk
  rw [View.read_apply]
  show m ((c : Thread nD τ).loc main_arg0) _ = _
  refine (hz _).trans (congrArg₂ Z ?_ ?_)
  · show win0_1.index t 0 * 2048 + 1 * (j 0).val = _
    rw [(idx_1 t).1]
    omega
  · show win0_1.index t 1 * 256 + 1 * (j 1).val = _
    rw [(idx_1 t).2]
    omega

include hw in
theorem block_w (t : Fin cfg0.N) (j : S1x256x256.Idx) : iblk m c 2 t j = W t.val (j 1).val (j 2).val := by
  have h0 : (j 0).val < 1 := (j 0).isLt
  unfold iblk
  rw [View.read_apply]
  show m ((c : Thread nD τ).loc main_arg1) _ = _
  have e0 : win0_2.index t 0 * 1 + 1 * (j 0).val = t.val := by rw [(idx_2 t).1]; omega
  have e1 : win0_2.index t 1 * 256 + 1 * (j 1).val = (j 1).val := by rw [(idx_2 t).2.1]; omega
  have e2 : win0_2.index t 2 * 256 + 1 * (j 2).val = (j 2).val := by rw [(idx_2 t).2.2]; omega
  refine (hw _).trans ?_
  show W (win0_2.index t 0 * 1 + 1 * (j 0).val) (win0_2.index t 1 * 256 + 1 * (j 1).val) (win0_2.index t 2 * 256 + 1 * (j 2).val) = _
  rw [e0, e1, e2]

include hs in
theorem block_sc (t : Fin cfg0.N) (j : S1x256.Idx) : iblk m c 3 t j = SC (256 * t.val + (j 1).val) := by
  unfold iblk
  rw [View.read_apply]
  show m ((c : Thread nD τ).loc main_arg2) _ = _
  refine (hs _).trans (congrArg SC ?_)
  show win0_3.index t 1 * 256 + 1 * (j 1).val = _
  rw [(idx_3 t).2]
  omega

include hz hw hs in
/-- The array after the run. -/
theorem arr : (dats m 0 c).arrAt 4 cfg0.N = result W SC Z (m ((c : Thread nD τ).loc main_arg3)) := by
  refine (dats m 0 c).arrAt_eq_of_coversWhere_of_agree 4 (result W SC Z (m ((c : Thread nD τ).loc main_arg3))) (fun β => 4 ≤ β (1 : Fin 2))
    (by decide +kernel) (fun t _ j => ?_) (fun j hj => ?_)
  · show (dats m 0 c).after 4 t j = _
    rw [after0_4]
    unfold outsAt0
    frame_out
    rw [coord t]
    refine (point (fun t k => Z t (4096 + k)) (fun t k => Z t (5120 + k)) W SC t.val (group t) (iblk m c 0 t) (iblk m c 1 t)
      (iblk m c 2 t) (iblk m c 3 t) (block_v hz t) (block_g hz t) (block_w hw t) (block_sc hs t) j).trans ?_
    have h1 : (j 1).val < 256 := (j 1).isLt
    have e0 : win0_4.index t 0 * 2048 + 1 * (j 0).val = (j 0).val := by rw [(idx_4 t).1]; omega
    have e1 : win0_4.index t 1 * 256 + 1 * (j 1).val = 1024 + (256 * t.val + (j 1).val) := by rw [(idx_4 t).2]; omega
    symm
    show (if win0_4.index t 1 * 256 + 1 * (j 1).val < 1024 then _ else entry _ _ W SC
      ((win0_4.index t 1 * 256 + 1 * (j 1).val - 1024) / 256) (win0_4.index t 0 * 2048 + 1 * (j 0).val)
      ((win0_4.index t 1 * 256 + 1 * (j 1).val - 1024) % 256)) = _
    rw [e0, e1, if_neg (by omega), show (1024 + (256 * t.val + (j 1).val) - 1024) / 256 = t.val by omega,
      show (1024 + (256 * t.val + (j 1).val) - 1024) % 256 = (j 1).val by omega]
  · have h : (j 1).val < 1024 := by
      have h' : ¬ 4 ≤ (j 1).val / 256 := hj
      omega
    rw [A_eq]
    show Cert.PoolFwdIdeal.Gen.V m c main_v0 j = result W SC Z (m ((c : Thread nD τ).loc main_arg3)) j
    rw [host_cat]
    exact (if_pos h).symm

end Cert.Pool.Fwd

end
-- ==== Proof.Pool.FwdRef.lean ====
/-
  The reference of the pooling's forward pass, and the claim (hand-written, untrusted).

  The reference states the windows as a matrix of zeros and ones for each group. Zero times anything is zero here, so its
  products with that matrix are the windows' sums whatever the values are.
-/
module

public import proofs.«01_k».proof.Defs
public import proofs.«01_k».proof.Proof.Pool.Fwd
public import proofs.«01_k».proof.Proof.Pool.Ref
public import proofs.«01_k».proof.Proof.Gen.PoolFwdRefIdeal.Run
public import proofs.«01_k».proof.Proof.Gen.PoolFwdRefIdeal.Read

@[expose] public section

set_option backward.isDefEq.respectTransparency.types false
set_option backward.isDefEq.respectTransparency false

noncomputable section

namespace Cert.Pool.FwdRef

open Idealize.ShloMosaic Idealize.ShloMosaic.TcCoe Idealize.SL.Sem
open Cert.PoolFwdRefIdeal Cert.PoolFwdRefIdeal.Gen Cert.PoolFwdRefIdeal.Read Cert.Pool.Math Cert.Pool.Fwd Cert.Forward Finset

/-- Where the group-first order puts an entry. -/
theorem fold (i : S4x2048x256.Idx) :
    (idx_main_v1 (idx_main_v2 i) 0).val = (i 1).val ∧ (idx_main_v1 (idx_main_v2 i) 1).val = 256 * (i 0).val + (i 2).val := by
  have h0 : (i 0).val < 4 := (i 0).isLt
  have h1 : (i 1).val < 2048 := (i 1).isLt
  have h2 : (i 2).val < 256 := (i 2).isLt
  constructor
  · show (((i 1).val * 4 + (i 0).val) * 256 + (i 2).val) / 1024 = _
    omega
  · show (((i 1).val * 4 + (i 0).val) * 256 + (i 2).val) % 1024 = _
    omega

/-- … and where an entry of that order belongs. -/
theorem unfold' (i : S2048x1024.Idx) :
    (idx_main_v32 (idx_main_v33 i) 0).val = (i 1).val / 256 ∧ (idx_main_v32 (idx_main_v33 i) 1).val = (i 0).val
      ∧ (idx_main_v32 (idx_main_v33 i) 2).val = (i 1).val % 256 := by
  have h0 : (i 0).val < 2048 := (i 0).isLt
  have h1 : (i 1).val < 1024 := (i 1).isLt
  refine ⟨?_, ?_, ?_⟩
  · show ((i 0).val * 1024 + (i 1).val) / 256 % 4 = _
    omega
  · show ((i 0).val * 1024 + (i 1).val) / 1024 = _
    omega
  · show ((i 0).val * 1024 + (i 1).val) % 256 = _
    omega

/-- The longest window of each group, as a word. -/
theorem v14_eq (i : S4x2048x2048.Idx) : val_main_v14 (F := Ideal) i = BitVec.ofNat 32 (win (i 0).val) := by
  have h0 : (i 0).val < 4 := (i 0).isLt
  rw [val_main_v14_apply, val_main_v13_apply, val_main_v12_apply, val_main_call0_v0_apply, val_main_call0_v1_apply,
    val_main_call1_v0_apply, val_main_call2_v0_apply, val_main_v7_apply, val_main_v9_apply, val_main_v11_apply,
    val_main_v3_apply, val_main_v6_apply, val_main_v8_apply, val_main_v10_apply, val_main_c_apply, val_main_c_0_apply, val_main_c_1_apply,
    val_main_c_2_apply, val_main_c_3_apply, val_main_c_4_apply, val_main_c_5_apply]
  refine (Cert.Pool.Block.pick (i 0).val h0 2#32 4#32 8#32 16#32).trans ?_
  unfold win
  split_ifs <;> rfl

/-- The windows as zeros and ones. -/
theorem v20_eq (i : S4x2048x2048.Idx) : val_main_v20 (F := Ideal) i
    = ((if (i 2).val ≤ (i 1).val ∧ (i 1).val < (i 2).val + win (i 0).val then (1 : ℝ) else 0 : ℝ) : EReal) := by
  rw [val_main_v20_apply, val_main_v19_apply, val_main_v15_apply, val_main_v18_apply, val_main_v17_apply, val_main_v16_apply, v14_eq,
    val_main_v4_apply, val_main_v5_apply]
  have h := Cert.Pool.Ref.inside (i 1).val (i 2).val (win (i 0).val) (i 1).isLt (i 2).isLt
    (lt_of_le_of_lt (Cert.Pool.Ref.win_le _) (by norm_num))
  change ((BitVec.toNat _ : ℝ) : EReal) = _
  rw [h]
  split_ifs <;> norm_num

/-- The number of rows in each row's window. -/
theorem v26_eq (i : S4x2048x1.Idx) : val_main_v26 (F := Ideal) i = ((cnt (i 0).val (i 1).val : ℝ) : EReal) := by
  have h1 : (i 1).val < 2048 := (i 1).isLt
  rw [val_main_v26_apply, val_main_v25_apply, val_main_v23_apply, val_main_v24_apply, v14_eq, val_main_v22_apply, val_main_v21_apply,
    val_main_c_6_apply, val_main_v4_apply]
  exact Cert.Pool.Ref.count_word (i 0).val (i 1).val h1

variable (x0 : FVec Ideal S2048x6144 .f32) (x1 : FVec Ideal S4x256x256 .f32) (x2 : FVec Ideal S1x1024 .f32)
  (x3 : FVec Ideal S2048x2048 .bf16) (Z : ℕ → ℕ → EReal) (W : ℕ → ℕ → ℕ → EReal) (SC : ℕ → EReal)

variable {x0 x1 x2 Z W SC} (hz : ∀ i, x0 i = Z (i 0).val (i 1).val) (hw : ∀ i, x1 i = W (i 0).val (i 1).val (i 2).val)
  (hs : ∀ i, x2 i = SC (i 1).val)

include hz in
/-- The pooled branch, groups first. -/
theorem v2_eq (i : S4x2048x256.Idx) : val_main_v2 (F := Ideal) x0 i = Z (i 1).val (4096 + (256 * (i 0).val + (i 2).val)) := by
  rw [val_main_v2_apply, val_main_v1_apply, val_main_v0_apply, hz]
  show Z (idx_main_v1 (idx_main_v2 i) 0).val (4096 + (idx_main_v1 (idx_main_v2 i) 1).val) = _
  rw [(fold i).1, (fold i).2]

include hz in
/-- The windows' sums. -/
theorem v27_eq (i : S4x2048x256.Idx) : val_main_v27 (F := Ideal) x0 i
    = trail (fun t => Z t (4096 + (256 * (i 0).val + (i 2).val))) (win (i 0).val) (i 1).val := by
  rw [val_main_v27_apply, ← trail_filter _ _ _ (i 1).isLt, Finset.sum_range]
  refine sum_congr rfl fun k _ => ?_
  rw [v20_eq, v2_eq hz]
  change ((if k.val ≤ (i 1).val ∧ (i 1).val < k.val + win (i 0).val then (1 : ℝ) else 0 : ℝ) : EReal)
    * Z k.val (4096 + (256 * (i 0).val + (i 2).val)) = _
  split_ifs
  · exact one_mul _
  · exact zero_mul _

include hz in
/-- The pooled rows. -/
theorem v30_eq (i : S4x2048x256.Idx) : val_main_v30 (F := Ideal) x0 i
    = pooled (fun t k => Z t (4096 + k)) (i 0).val (i 1).val (i 2).val := by
  rw [val_main_v30_apply, val_main_v29_apply, val_main_v28_apply, v27_eq hz, v26_eq, v2_eq hz]
  rfl

include hz hw in
/-- The mixed rows. -/
theorem v33_eq (i : S2048x1024.Idx) : val_main_v33 (F := Ideal) x0 x1 i = ∑ q : Fin 256,
    pooled (fun t k => Z t (4096 + k)) ((i 1).val / 256) (i 0).val q.val * W ((i 1).val / 256) q.val ((i 1).val % 256) := by
  obtain ⟨e0, e1, e2⟩ := unfold' i
  rw [val_main_v33_apply, val_main_v32_apply]
  generalize idx_main_v32 (idx_main_v33 i) = p at e0 e1 e2
  rw [val_main_v31_apply, ← e0, ← e1, ← e2]
  exact sum_congr rfl fun q _ => by rw [v30_eq hz, hw]

include hz hw hs in
/-- The result. -/
theorem ref (i : S2048x2048.Idx) : val_main_v41 (F := Ideal) x0 x1 x2 x3 i = result W SC Z x3 i := by
  obtain ⟨p, q, rfl⟩ : ∃ (p q : Fin 2048), i = ValueIdx.ix2 p q := ⟨i 0, i 1, funext fun a => by
    match a with
    | ⟨0, _⟩ => rfl
    | ⟨1, _⟩ => rfl⟩
  unfold val_main_v41
  by_cases hq : q.val < 1024
  · refine (concatenate_pair_apply_left (t := S2048x2048) 1 (s₁ := S2048x1024) (s₂ := S2048x1024) _ _ _ (ValueIdx.ix2 p q) rfl
      (ValueIdx.ix2 p ⟨q.val, hq⟩) fun x => ?_).trans ?_
    · match x with
      | ⟨0, _⟩ => rfl
      | ⟨1, _⟩ => rfl
    · rw [val_main_v39_apply]
      refine Eq.trans (congrArg x3 (funext fun a => Fin.ext ?_)) (if_pos hq).symm
      match a with
      | ⟨0, _⟩ => rfl
      | ⟨1, _⟩ => rfl
  · have hq2 : q.val < 2048 := q.isLt
    refine (concatenate_pair_apply_right (t := S2048x2048) 1 (s₁ := S2048x1024) (s₂ := S2048x1024) _ _ _ (ValueIdx.ix2 p q) rfl rfl
      (ValueIdx.ix2 p ⟨q.val - 1024, by omega⟩) (fun x hx => ?_) ?_).trans ?_
    · match x with
      | ⟨0, _⟩ => rfl
      | ⟨1, _⟩ => exact absurd rfl hx
    · show q.val - 1024 + 1024 = q.val
      omega
    · refine Eq.trans ?_ (if_neg hq).symm
      have hr : 256 * ((q.val - 1024) / 256) + (q.val - 1024) % 256 = q.val - 1024 := Nat.div_add_mod _ _
      rw [val_main_v40_apply, val_main_v38_apply, val_main_v35_apply, v33_eq hz hw, val_main_v34_apply, hs, val_main_v37_apply,
        val_main_call3_v5_apply, val_main_call3_v4_apply, val_main_call3_cst_0_apply, val_main_call3_v3_apply, val_main_call3_v2_apply,
        val_main_call3_cst_apply, val_main_call3_v1_apply, val_main_call3_v0_apply, val_main_v36_apply, hz]
      show _ = entry _ _ W SC ((q.val - 1024) / 256) p.val ((q.val - 1024) % 256)
      unfold entry
      rw [hr]
      rfl

/-- The reference's run ends with its arguments as they were; it declares no semaphore, so every counter is zero. -/
theorem frame_ref : Cert.quiescent_PoolFwdRefIdeal := fun m g _ =>
  (θ_run Cert.PoolFwdRefIdeal.defs _ _).mono
    (fun r h => ⟨fun c => (h c).2, sem_eq_zero_of_no_sems (by decide) r.2⟩) (Cert.PoolFwdRefIdeal.Value.run m g)

/-- The kernel and the reference leave the same array. -/
theorem algebraic : Cert.algebraic_PoolFwdIdeal_PoolFwdRefIdeal := by
  intro m g m' g' _ hagree
  refine ⟨fun c => (Cert.PoolFwdIdeal.Gen.dats m 0 c).arrAt 4 Cert.PoolFwdIdeal.cfg0.N, Cert.PoolFwdIdeal.Value.run_blocks m g,
    (θ_run Cert.PoolFwdRefIdeal.defs _ _).mono (fun r h c => ?_) (Cert.PoolFwdRefIdeal.Value.run m' g')⟩
  obtain ⟨e0, e1, e2, e3⟩ := hagree c
  refine ⟨(h c).1.trans ?_, (h c).2⟩
  obtain ⟨Z, hz⟩ := Cert.Sums.read_two (a := 2048) (b := 6144) (m ((c : Thread Cert.PoolFwdIdeal.nD Cert.PoolFwdIdeal.τ).loc Cert.PoolFwdIdeal.main_arg0))
  obtain ⟨W, hw⟩ := Cert.Sums.read_three (a := 4) (b := 256) (c := 256) (m ((c : Thread Cert.PoolFwdIdeal.nD Cert.PoolFwdIdeal.τ).loc Cert.PoolFwdIdeal.main_arg1))
  obtain ⟨S, hs⟩ := Cert.Sums.read_two (a := 1) (b := 1024) (m ((c : Thread Cert.PoolFwdIdeal.nD Cert.PoolFwdIdeal.τ).loc Cert.PoolFwdIdeal.main_arg2))
  have hs' : ∀ i : S1x1024.Idx, m ((c : Thread Cert.PoolFwdIdeal.nD Cert.PoolFwdIdeal.τ).loc Cert.PoolFwdIdeal.main_arg2) i = S 0 (i 1).val := fun i => by
    have h0 : (i 0).val < 1 := (i 0).isLt
    rw [hs i, show (i 0).val = 0 by omega]
  rw [Cert.PoolFwdRefIdeal.Read.val_main_v41_eq, e0, e1, e2, e3]
  exact (funext fun i => ref _ hz hw hs' i).trans (arr hz hw hs').symm

end Cert.Pool.FwdRef

end
-- ==== Proof.Sgu.Fwd.lean ====
/-
  The spatial gate, forward: what its kernel leaves, and the sums it is made of (hand-written, untrusted).

  Each point of the kernel's grid is one run of 128 rows, stored as four groups of 256 channels. Nothing here needs finite
  values.
-/
module

public import proofs.«01_k».proof.Proof.Sgu.Loads
public import proofs.«01_k».proof.Proof.Sums
public import proofs.«01_k».proof.Proof.Gate.Value
public import proofs.«01_k».proof.Proof.Product.Math
public import proofs.«01_k».proof.Proof.Gen.SguFwdIdeal.Value
public import Idealize.ShloMosaic.Lib.Pipeline.ValueKit.Tiles
public import Idealize.ShloMosaic.Lib.Tactic

@[expose] public section

set_option backward.isDefEq.respectTransparency.types false
set_option backward.isDefEq.respectTransparency false

noncomputable section

namespace Cert.Sgu.Fwd

open Idealize.ShloMosaic Idealize.ShloMosaic.TcCoe Idealize.SL.Sem Idealize.ShloMosaic.ValueIdx
open Cert.SguFwdIdeal Cert.SguFwdIdeal.Gen Cert.Sgu.Block Cert.Sgu.Loads Cert.Forward Finset

section Rows

variable (V : ℕ → ℕ → EReal) (LG LB : ℕ → EReal)

/-- A row's mean. -/
def mean (i : ℕ) : EReal := Ideal.div (∑ k : Fin 1024, V i k.val) (Ideal.ofBits .f32 0x44800000#32)

/-- A row less its mean. -/
def dev (i k : ℕ) : EReal := V i k - mean V i

/-- A row's factor. -/
def factor (i : ℕ) : EReal := Ideal.rsqrt (Ideal.div (∑ k : Fin 1024, dev V i k.val * dev V i k.val) (Ideal.ofBits .f32 0x44800000#32)
  + Ideal.ofBits .f32 0x358637BD#32)

/-- The normalised rows. -/
def norm (i k : ℕ) : EReal := dev V i k * factor V i * LG k + LB k

variable (n : ℕ) (v : FVec Ideal S128x1024 .f32) (lg lb : FVec Ideal S1x1024 .f32)
  (hv : ∀ j, v j = V (128 * n + (j 0).val) (j 1).val) (hlg : ∀ j, lg j = LG (j 1).val) (hlb : ∀ j, lb j = LB (j 1).val)

include hv

theorem dev_entry (j : S128x1024.Idx) : Cert.SguIdeal.Gen.k0_pay6 (F := Ideal) v j = dev V (128 * n + (j 0).val) (j 1).val := by
  unfold Cert.SguIdeal.Gen.k0_pay6
  rw [subf_apply]
  refine (congrArg (fun b => v j - b) (spread_apply _ j)).trans ?_
  exact congrArg₂ (fun a b : EReal => a - Ideal.div b (Ideal.ofBits .f32 0x44800000#32)) (hv j)
    ((row_entry v (j 0) 0).trans (sum_congr rfl fun k _ => hv _))

theorem factor_entry (i : Fin 128) (z : Fin 1) : Cert.SguIdeal.Gen.k0_pay7 (F := Ideal) v (ValueIdx.ix2 i z) = factor V (128 * n + i.val) := by
  unfold Cert.SguIdeal.Gen.k0_pay7
  refine congrArg (fun b : EReal => Ideal.rsqrt (Ideal.div b (Ideal.ofBits .f32 0x44800000#32) + Ideal.ofBits .f32 0x358637BD#32))
    ((row_entry _ i z).trans (sum_congr rfl fun k _ => ?_))
  rw [mulf_apply]
  exact congrArg₂ (fun a b : EReal => a * b) (dev_entry V n v hv _) (dev_entry V n v hv _)

include hlg hlb in
theorem norm_entry (j : S128x1024.Idx) : k0_pay2 (F := Ideal) v lg lb j = norm V LG LB (128 * n + (j 0).val) (j 1).val := by
  have e : k0_pay2 (F := Ideal) v lg lb = Cert.SguIdeal.Gen.k0_pay9 (F := Ideal) lg v lb := rfl
  have h : Cert.SguIdeal.Gen.k0_pay8 (F := Ideal) v j = dev V (128 * n + (j 0).val) (j 1).val * factor V (128 * n + (j 0).val) := by
    unfold Cert.SguIdeal.Gen.k0_pay8
    rw [mulf_apply]
    exact congrArg₂ (fun a b : EReal => a * b) (dev_entry V n v hv j) ((spread_apply _ j).trans (factor_entry V n v hv (j 0) 0))
  rw [e]
  unfold Cert.SguIdeal.Gen.k0_pay9
  rw [ValueIdx.truncf_apply, addf_apply, mulf_apply]
  refine congrArg₂ (fun a b : EReal => a + b) (congrArg₂ (fun a b : EReal => a * b) h ?_) ?_
  · exact (rows_apply lg j).trans (hlg _)
  · exact (rows_apply lb j).trans (hlb _)

end Rows

variable (U V G : ℕ → ℕ → EReal) (LG LB : ℕ → EReal) (W : ℕ → ℕ → ℕ → EReal) (B : ℕ → ℕ → EReal)

/-- The lower triangle of a group's matrix. -/
def tri (g a b : ℕ) : EReal := if b ≤ a then W g a b else 0

/-- The mixed rows: row `i` mixes the rows of its run. -/
def mix (i k : ℕ) : EReal :=
  (∑ q : Fin 128, tri W (k / 256) (i % 128) q.val * norm V LG LB (128 * (i / 128) + q.val) k) + B (k / 256) (i % 128)

/-- An entry of the result. -/
def entry (i k : ℕ) : EReal := U i k * mix V LG LB W B i k * gate (G i k)

/-- The result. -/
def result : FVec Ideal S2048x1024 .bf16 := fun i => entry U V G LG LB W B (i 0).val (i 1).val

theorem tri_entry (g : ℕ) (w : FVec Ideal S1x128x128 .f32) (hw : ∀ j, w j = W g (j 1).val (j 2).val) (j : S128x128.Idx) :
    k0_pay4 (F := Ideal) w j = tri W g (j 0).val (j 1).val := by
  unfold k0_pay4
  rw [ValueIdx.truncf_apply]
  refine below_entry _ (W g) (fun j => ?_) j
  refine (shapeCast_apply _ _ _ (ValueIdx.ix3 0 (j 0) (j 1)) ?_).trans (hw _)
  rw [Shape.rowMajor_val_three, Shape.rowMajor_val_two]
  show (0 * 128 + (j 0).val) * 128 + (j 1).val = (j 0).val * 128 + (j 1).val
  omega

/-- What the kernel stores of one group: from its channels of the normalised rows, its matrix, its bias, the gate and the
first branch. -/
def stored (vs : FVec Ideal S128x256 .bf16) (w : FVec Ideal S128x128 .bf16) (b g u : FVec Ideal S128x256 .f32) : FVec Ideal S128x256 .bf16 :=
  k0_pay1 (F := Ideal) (addf (matmul (F := Ideal) dot_S128x128_S128x256_S128x256_1_0_0_1_n_n none w vs (constant S128x256 .f32 0x00000000#32))
    (shapeCast S128x256 b shapeCasts_S128x256_S128x256)) g u

section Stores

variable (vn : FVec Ideal S128x1024 .bf16) (w : FVec Ideal S128x128 .bf16) (b g u : FVec Ideal S128x256 .f32)

/-- The kernel's four stores are the same computation, written apart. -/
theorem stored_zero : k0_pay8 (F := Ideal) vn w b g u = stored (extractStridedSlice S128x256 ![0, 0] vn slices_S128x1024_o0_0_S128x256) w b g u :=
  rfl

theorem stored_one : k0_pay10 (F := Ideal) (k0_pay9 vn w b) g u
    = stored (extractStridedSlice S128x256 ![0, 256] vn slices_S128x1024_o0_256_S128x256) w b g u := rfl

theorem stored_two : k0_pay11 (F := Ideal) vn w b g u
    = stored (extractStridedSlice S128x256 ![0, 512] vn slices_S128x1024_o0_512_S128x256) w b g u := rfl

theorem stored_three : k0_pay1 (F := Ideal) (k0_pay12 vn w b) g u
    = stored (extractStridedSlice S128x256 ![0, 768] vn slices_S128x1024_o0_768_S128x256) w b g u := rfl

variable (x0 x1 x2 x6 : Vec Ideal S128x1024 .f32) (x3 x4 : Vec Ideal S1x1024 .f32) (x5 : Vec Ideal S4x128x128 .f32) (x : Vec Ideal S1x128x128 .f32)

/-- So are the four masked matrices. -/
theorem masked_one : k0_pay5 (F := Ideal) x = k0_pay4 x := rfl

theorem masked_two : k0_pay6 (F := Ideal) (k0_pay14 x0 x1 x2 x3 x4 x5 x6) x = k0_pay4 x := rfl

theorem masked_three : k0_pay7 (F := Ideal) (k0_pay14 x0 x1 x2 x3 x4 x5 x6) x = k0_pay4 x := rfl

/-- The normalised rows, from the whole blocks. -/
theorem normal : k0_pay13 (F := Ideal) x0 x1 x2 x3 x4 x5 x6 = k0_pay2 x1 x3 x4 := by
  unfold k0_pay13
  rw [View.ld_unit_lit _ x1 (by decide), View.ld_unit_lit _ x3 (by decide), View.ld_unit_lit _ x4 (by decide)]

end Stores

section Group

variable (n o : ℕ) (ho : o % 256 = 0)
  (vs : FVec Ideal S128x256 .bf16) (hvs : ∀ j, vs j = norm V LG LB (128 * n + (j 0).val) (o + (j 1).val))
  (w : FVec Ideal S128x128 .bf16) (hw : ∀ j, w j = tri W (o / 256) (j 0).val (j 1).val)
  (b g u : FVec Ideal S128x256 .f32) (hb : ∀ j, b j = B ((o + (j 1).val) / 256) (j 0).val)
  (hg : ∀ j, g j = G (128 * n + (j 0).val) (o + (j 1).val)) (hu : ∀ j, u j = U (128 * n + (j 0).val) (o + (j 1).val))
include ho hvs hw hb hg hu

theorem stored_entry (j : S128x256.Idx) : stored vs w b g u j = entry U V G LG LB W B (128 * n + (j 0).val) (o + (j 1).val) := by
  have h0 : (j 0).val < 128 := (j 0).isLt
  have h1 : (j 1).val < 256 := (j 1).isLt
  have hm : matmul (F := Ideal) dot_S128x128_S128x256_S128x256_1_0_0_1_n_n none w vs (constant S128x256 .f32 0x00000000#32) j
      = ∑ q : Fin 128, tri W (o / 256) (j 0).val q.val * norm V LG LB (128 * n + q.val) (o + (j 1).val) := by
    simp only [matmul]
    rw [Ideal.matmul_constant_zero_apply]
    exact Cert.Sums.dot_sum dot_S128x128_S128x256_S128x256_1_0_0_1_n_n 128 rfl rfl w vs j (fun c => tri W (o / 256) (j 0).val c)
      (fun c => norm V LG LB (128 * n + c) (o + (j 1).val)) (fun c => hw _) (fun c => hvs _)
  unfold stored k0_pay1
  change u j * (matmul (F := Ideal) dot_S128x128_S128x256_S128x256_1_0_0_1_n_n none w vs (constant S128x256 .f32 0x00000000#32) j
    + shapeCast S128x256 b shapeCasts_S128x256_S128x256 j) * (g j * Ideal.div (Ideal.ofBits .f32 0x3F800000#32)
      (Ideal.ofBits .f32 0x3F800000#32 + Ideal.exp (Ideal.ofBits .f32 0x00000000#32 - g j))) = _
  rw [hm, shapeCast_self, logistic_sub, hb, hg, hu]
  unfold entry mix
  rw [show (o + (j 1).val) / 256 = o / 256 by omega, show (128 * n + (j 0).val) % 128 = (j 0).val by omega,
    show (128 * n + (j 0).val) / 128 = n by omega]
  rfl

end Group

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 1 :=
  (by decide +kernel : ∀ t : Fin grid0.N, win0_1.index t 0 = t.val ∧ win0_1.index t 1 = 1)
theorem idx_2 : ∀ t : Fin cfg0.N, win0_2.index t 0 = t.val ∧ win0_2.index t 1 = 2 :=
  (by decide +kernel : ∀ t : Fin grid0.N, win0_2.index t 0 = t.val ∧ win0_2.index t 1 = 2)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = t.val ∧ win0_7.index t 1 = 0 :=
  (by decide +kernel : ∀ t : Fin grid0.N, win0_7.index t 0 = t.val ∧ win0_7.index t 1 = 0)

variable (m : (ℓ : Loc nD τ sig) → Buf (Elt Ideal) ℓ) (c : Dev nD) (Z : ℕ → ℕ → EReal)

/-- The arguments, read at natural numbers. -/
structure Args : Prop where
  z : ∀ i : S2048x4096.Idx, m ((c : Thread nD τ).loc main_arg0) i = Z (i 0).val (i 1).val
  lg : ∀ i : S1x1024.Idx, m ((c : Thread nD τ).loc main_arg1) i = LG (i 1).val
  lb : ∀ i : S1x1024.Idx, m ((c : Thread nD τ).loc main_arg2) i = LB (i 1).val
  w : ∀ i : S4x128x128.Idx, m ((c : Thread nD τ).loc main_arg3) i = W (i 0).val (i 1).val (i 2).val
  b : ∀ i : S4x128.Idx, m ((c : Thread nD τ).loc main_arg4) i = B (i 0).val (i 1).val

variable {LG LB W B m c Z} (H : Args LG LB W B m c Z)
include H

theorem block_u (t : Fin cfg0.N) (j : S128x1024.Idx) : iblk m c 0 t j = Z (128 * t.val + (j 0).val) (j 1).val := by
  unfold iblk
  rw [View.read_apply]
  show m ((c : Thread nD τ).loc main_arg0) _ = _
  refine (H.z _).trans (congrArg₂ Z ?_ ?_)
  · show win0_0.index t 0 * 128 + 1 * (j 0).val = _
    rw [(idx_0 t).1]
    omega
  · show win0_0.index t 1 * 1024 + 1 * (j 1).val = _
    rw [(idx_0 t).2]
    omega

theorem block_v (t : Fin cfg0.N) (j : S128x1024.Idx) : iblk m c 1 t j = Z (128 * t.val + (j 0).val) (1024 + (j 1).val) := by
  unfold iblk
  rw [View.read_apply]
  show m ((c : Thread nD τ).loc main_arg0) _ = _
  refine (H.z _).trans (congrArg₂ Z ?_ ?_)
  · show win0_1.index t 0 * 128 + 1 * (j 0).val = _
    rw [(idx_1 t).1]
    omega
  · show win0_1.index t 1 * 1024 + 1 * (j 1).val = _
    rw [(idx_1 t).2]
    omega

theorem block_g (t : Fin cfg0.N) (j : S128x1024.Idx) : iblk m c 2 t j = Z (128 * t.val + (j 0).val) (2048 + (j 1).val) := by
  unfold iblk
  rw [View.read_apply]
  show m ((c : Thread nD τ).loc main_arg0) _ = _
  refine (H.z _).trans (congrArg₂ Z ?_ ?_)
  · show win0_2.index t 0 * 128 + 1 * (j 0).val = _
    rw [(idx_2 t).1]
    omega
  · show win0_2.index t 1 * 1024 + 1 * (j 1).val = _
    rw [(idx_2 t).2]
    omega

theorem block_lg (t : Fin cfg0.N) (j : S1x1024.Idx) : iblk m c 3 t j = LG (j 1).val := by
  unfold iblk
  rw [View.read_apply]
  show m ((c : Thread nD τ).loc main_arg1) _ = _
  refine (H.lg _).trans (congrArg LG ?_)
  show win0_3.index t 1 * 1024 + 1 * (j 1).val = _
  rw [(idx_3 t).2]
  omega

theorem block_lb (t : Fin cfg0.N) (j : S1x1024.Idx) : iblk m c 4 t j = LB (j 1).val := by
  unfold iblk
  rw [View.read_apply]
  show m ((c : Thread nD τ).loc main_arg2) _ = _
  refine (H.lb _).trans (congrArg LB ?_)
  show win0_4.index t 1 * 1024 + 1 * (j 1).val = _
  rw [(idx_4 t).2]
  omega

theorem block_w (t : Fin cfg0.N) (j : S4x128x128.Idx) : iblk m c 5 t j = W (j 0).val (j 1).val (j 2).val := by
  unfold iblk
  rw [View.read_apply]
  show m ((c : Thread nD τ).loc main_arg3) _ = _
  have e0 : win0_5.index t 0 * 4 + 1 * (j 0).val = (j 0).val := by rw [(idx_5 t).1]; omega
  have e1 : win0_5.index t 1 * 128 + 1 * (j 1).val = (j 1).val := by rw [(idx_5 t).2.1]; omega
  have e2 : win0_5.index t 2 * 128 + 1 * (j 2).val = (j 2).val := by rw [(idx_5 t).2.2]; omega
  refine (H.w _).trans ?_
  show W (win0_5.index t 0 * 4 + 1 * (j 0).val) (win0_5.index t 1 * 128 + 1 * (j 1).val) (win0_5.index t 2 * 128 + 1 * (j 2).val) = _
  rw [e0, e1, e2]

/-- The host spreads each group's bias over the group's 256 channels. -/
theorem host_b (j : S128x1024.Idx) : Cert.SguFwdIdeal.Gen.V m c main_v2 j = B ((j 1).val / 256) (j 0).val := by
  have h0 : (j 0).val < 128 := (j 0).isLt
  have h1 : (j 1).val < 1024 := (j 1).isLt
  have e : Cert.SguFwdIdeal.Gen.V m c main_v2 = shapeCast S128x1024 (broadcastInDim S128x4x256 ![0, 1] bcast_S128x4_S128x4x256_0_1
      (transpose S128x4 [1, 0] (m ((c : Thread nD τ).loc main_arg4)) transposes_S4x128_S128x4_1_0)) shapeCasts_S128x4x256_S128x1024 := by
    unfold_abbrev_sides; after_results; rfl
  rw [e]
  refine (shapeCast_apply _ _ _ (ValueIdx.ix3 (j 0) ⟨(j 1).val / 256, by omega⟩ ⟨(j 1).val % 256, by omega⟩) ?_).trans ?_
  · rw [Shape.rowMajor_val_three, Shape.rowMajor_val_two]
    show ((j 0).val * 4 + (j 1).val / 256) * 256 + (j 1).val % 256 = (j 0).val * 1024 + (j 1).val
    omega
  refine (broadcastInDim_apply _ _ _ _ (ValueIdx.ix2 (j 0) ⟨(j 1).val / 256, by omega⟩) fun a => ?_).trans ?_
  · match a with
    | ⟨0, _⟩ => rfl
    | ⟨1, _⟩ => rfl
  refine (transpose_apply _ _ _ _ (ValueIdx.ix2 ⟨(j 1).val / 256, by omega⟩ (j 0)) fun b => ?_).trans
    (H.b (ValueIdx.ix2 ⟨(j 1).val / 256, by omega⟩ (j 0)))
  match b with
  | ⟨0, _⟩ => rfl
  | ⟨1, _⟩ => rfl

theorem block_b (t : Fin cfg0.N) (j : S128x1024.Idx) : iblk m c 6 t j = B ((j 1).val / 256) (j 0).val := by
  unfold iblk
  rw [View.read_apply]
  show Cert.SguFwdIdeal.Gen.V m c main_v2 _ = _
  refine (host_b H _).trans (congrArg₂ (fun a b => B (b / 256) a) ?_ ?_)
  · show win0_6.index t 0 * 128 + 1 * (j 0).val = _
    rw [(idx_6 t).1]
    omega
  · show win0_6.index t 1 * 1024 + 1 * (j 1).val = _
    rw [(idx_6 t).2]
    omega

/-- One group's store, as part of the block the point of the grid leaves. -/
theorem tile (t : Fin cfg0.N) (g o : ℕ) (e : o = 256 * g) (inb : ∀ a, ![0, o] a + ![128, 256] a ≤ S128x1024.size a)
    (inw : ∀ a, ![g, 0, 0] a + ![1, 128, 128] a ≤ S4x128x128.size a) (hs : S128x1024.Slices ![0, o] S128x256) (y : S128x1024.Idx) :
    View.TileAt (Val := Elt Ideal) (e := .bf16) y ![0, o] ![128, 256]
      (stored (extractStridedSlice S128x256 ![0, o] (k0_pay2 (F := Ideal) (iblk m c 1 t) (iblk m c 3 t) (iblk m c 4 t)) hs)
        (k0_pay4 (F := Ideal) (View.ld (iblk m c 5 t) (Rect.unit (s := S4x128x128) ![g, 0, 0] ![1, 128, 128] inw)))
        (View.ld (iblk m c 6 t) (Rect.unit (s := S128x1024) ![0, o] ![128, 256] inb))
        (View.ld (iblk m c 2 t) (Rect.unit (s := S128x1024) ![0, o] ![128, 256] inb))
        (View.ld (iblk m c 0 t) (Rect.unit (s := S128x1024) ![0, o] ![128, 256] inb)))
      (entry Z (fun i k => Z i (1024 + k)) (fun i k => Z i (2048 + k)) LG LB W B (128 * t.val + (y 0).val) (y 1).val) := by
  intro j hj
  have e0 : (y 0).val = (j 0).val := (hj 0).trans (by show 0 + _ = _; omega)
  have e1 : (y 1).val = o + (j 1).val := hj 1
  rw [e0, e1]
  refine stored_entry Z _ _ LG LB W B t.val o (by omega) _ (fun j => ?_) _ (fun j => ?_) _ _ _ (fun j => ?_) (fun j => ?_) (fun j => ?_) j
  · exact slice_cols _ (fun a k => norm (fun i k => Z i (1024 + k)) LG LB (128 * t.val + a) k) o
      (norm_entry (fun i k => Z i (1024 + k)) LG LB t.val _ _ _ (block_v H t) (block_lg H t) (block_lb H t)) hs j
  · rw [show o / 256 = g by omega]
    exact tri_entry W g _ (fun j => ld_group _ W g (block_w H t) inw j) j
  · exact ld_cols _ (fun a k => B (k / 256) a) o (block_b H t) inb j
  · exact ld_cols _ (fun a k => Z (128 * t.val + a) (2048 + k)) o (block_g H t) inb j
  · exact ld_cols _ (fun a k => Z (128 * t.val + a) k) o (block_u H t) inb j

/-- What a point of the grid leaves. -/
theorem out (t : Fin cfg0.N) (y : S128x1024.Idx) : out0_7 (F := Ideal) (iblk m c 0 t) (iblk m c 1 t) (iblk m c 2 t) (iblk m c 3 t)
    (iblk m c 4 t) (iblk m c 5 t) (iblk m c 6 t) y
      = entry Z (fun i k => Z i (1024 + k)) (fun i k => Z i (2048 + k)) LG LB W B (128 * t.val + (y 0).val) (y 1).val := by
  frame_out
  rw [normal, masked_three, masked_two, masked_one, stored_three, stored_two, stored_one, stored_zero]
  refine View.canon_eq_of_allAt _ y _ (View.cover_of_tiled_head _ _ _ (by rfl) y) ?_
  refine View.allAt_cons_unit _ _ _ _ _ (tile H t 3 768 rfl _ _ _ y) ?_
  refine View.allAt_cons_unit _ _ _ _ _ (tile H t 2 512 rfl _ _ _ y) ?_
  refine View.allAt_cons_unit _ _ _ _ _ (tile H t 1 256 rfl _ _ _ y) ?_
  exact View.allAt_cons_unit _ _ _ _ _ (tile H t 0 0 rfl _ _ _ y) (View.allAt_nil _ _)

/-- The array after the run. -/
theorem arr : (dats m 0 c).arrAt 7 cfg0.N = result Z (fun i k => Z i (1024 + k)) (fun i k => Z i (2048 + k)) LG LB W B := by
  refine (dats m 0 c).arrAt_eq_of_covers 7 (result Z (fun i k => Z i (1024 + k)) (fun i k => Z i (2048 + k)) LG LB W B) (by decide +kernel) fun t _ j => ?_
  show (dats m 0 c).after 7 t j = _
  rw [after0_7]
  refine (out H t j).trans ?_
  symm
  show entry _ _ _ LG LB W B (win0_7.index t 0 * 128 + 1 * (j 0).val) (win0_7.index t 1 * 1024 + 1 * (j 1).val) = _
  rw [(idx_7 t).1, (idx_7 t).2, show t.val * 128 + 1 * (j 0).val = 128 * t.val + (j 0).val by omega,
    show 0 * 1024 + 1 * (j 1).val = (j 1).val by omega]

end Cert.Sgu.Fwd

end
-- ==== Proof.Sgu.FwdRef.lean ====
/-
  The reference of the spatial gate's forward pass, and the claim (hand-written, untrusted).
-/
module

public import proofs.«01_k».proof.Defs
public import proofs.«01_k».proof.Proof.Sgu.Fwd
public import proofs.«01_k».proof.Proof.Gen.SguFwdRefIdeal.Run
public import proofs.«01_k».proof.Proof.Gen.SguFwdRefIdeal.Read

@[expose] public section

set_option backward.isDefEq.respectTransparency.types false
set_option backward.isDefEq.respectTransparency false

noncomputable section

namespace Cert.Sgu.FwdRef

open Idealize.ShloMosaic Idealize.ShloMosaic.TcCoe Idealize.SL.Sem
open Cert.SguFwdRefIdeal Cert.SguFwdRefIdeal.Gen Cert.SguFwdRefIdeal.Read Cert.Sgu.Fwd Cert.Forward Finset

/-- Where the channel-first order puts an entry: group, row of the run, and run beside channel. -/
theorem fold (i : S4x128x4096.Idx) :
    (idx_main_v29 (idx_main_v30 (idx_main_v31 i)) 0).val = 128 * ((i 2).val / 256) + (i 1).val
      ∧ (idx_main_v29 (idx_main_v30 (idx_main_v31 i)) 1).val = 256 * (i 0).val + (i 2).val % 256 := by
  have h0 : (i 0).val < 4 := (i 0).isLt
  have h1 : (i 1).val < 128 := (i 1).isLt
  have h2 : (i 2).val < 4096 := (i 2).isLt
  have e0 : (idx_main_v31 i 0).val = (i 0).val := by
    show (((i 0).val * 128 + (i 1).val) * 4096 + (i 2).val) / 524288 = _; omega
  have e1 : (idx_main_v31 i 1).val = (i 1).val := by
    show (((i 0).val * 128 + (i 1).val) * 4096 + (i 2).val) / 4096 % 128 = _; omega
  have e2 : (idx_main_v31 i 2).val = (i 2).val / 256 := by
    show (((i 0).val * 128 + (i 1).val) * 4096 + (i 2).val) / 256 % 16 = _; omega
  have e3 : (idx_main_v31 i 3).val = (i 2).val % 256 := by
    show (((i 0).val * 128 + (i 1).val) * 4096 + (i 2).val) % 256 = _; omega
  constructor
  · show ((((idx_main_v31 i 2).val * 128 + (idx_main_v31 i 1).val) * 4 + (idx_main_v31 i 0).val) * 256 + (idx_main_v31 i 3).val) / 1024 = _
    rw [e0, e1, e2, e3]; omega
  · show ((((idx_main_v31 i 2).val * 128 + (idx_main_v31 i 1).val) * 4 + (idx_main_v31 i 0).val) * 256 + (idx_main_v31 i 3).val) % 1024 = _
    rw [e0, e1, e2, e3]; omega

/-- … and where an entry of that order belongs. -/
theorem unfold' (i : S2048x1024.Idx) :
    (idx_main_v36 (idx_main_v37 (idx_main_v38 i)) 0).val = (i 1).val / 256
      ∧ (idx_main_v36 (idx_main_v37 (idx_main_v38 i)) 1).val = (i 0).val % 128
      ∧ (idx_main_v36 (idx_main_v37 (idx_main_v38 i)) 2).val = 256 * ((i 0).val / 128) + (i 1).val % 256 := by
  have h0 : (i 0).val < 2048 := (i 0).isLt
  have h1 : (i 1).val < 1024 := (i 1).isLt
  have e0 : (idx_main_v38 i 0).val = (i 0).val / 128 := by
    show ((i 0).val * 1024 + (i 1).val) / 131072 = _; omega
  have e1 : (idx_main_v38 i 1).val = (i 0).val % 128 := by
    show ((i 0).val * 1024 + (i 1).val) / 1024 % 128 = _; omega
  have e2 : (idx_main_v38 i 2).val = (i 1).val / 256 := by
    show ((i 0).val * 1024 + (i 1).val) / 256 % 4 = _; omega
  have e3 : (idx_main_v38 i 3).val = (i 1).val % 256 := by
    show ((i 0).val * 1024 + (i 1).val) % 256 = _; omega
  refine ⟨?_, ?_, ?_⟩
  · show ((((idx_main_v38 i 2).val * 128 + (idx_main_v38 i 1).val) * 16 + (idx_main_v38 i 0).val) * 256 + (idx_main_v38 i 3).val) / 524288 = _
    rw [e0, e1, e2, e3]; omega
  · show ((((idx_main_v38 i 2).val * 128 + (idx_main_v38 i 1).val) * 16 + (idx_main_v38 i 0).val) * 256 + (idx_main_v38 i 3).val) / 4096 % 128 = _
    rw [e0, e1, e2, e3]
    have h : ((((i 1).val / 256 * 128 + (i 0).val % 128) * 16 + (i 0).val / 128) * 256 + (i 1).val % 256) / 4096
        = (i 1).val / 256 * 128 + (i 0).val % 128 := by omega
    rw [h]
    omega
  · show ((((idx_main_v38 i 2).val * 128 + (idx_main_v38 i 1).val) * 16 + (idx_main_v38 i 0).val) * 256 + (idx_main_v38 i 3).val) % 4096 = _
    rw [e0, e1, e2, e3]; omega

/-- The lower triangle as a mask. -/
theorem mask_eq (i : S4x128x128.Idx) : val_main_call1_v0 (F := Ideal) i = if (i 2).val ≤ (i 1).val then 1#1 else 0#1 := by
  have h : ∀ a b : Fin 128, Scalar.select (IntOp.cmpi .sge (IntOp.addi (BitVec.ofNat 32 a.val) 0#32) (BitVec.ofNat 32 b.val)) 1#1 0#1
      = if b.val ≤ a.val then 1#1 else 0#1 := by
    decide +kernel
  rw [val_main_call1_v0_apply, val_main_v26_apply, val_main_v25_apply, val_main_call0_v4_apply, val_main_call0_v2_apply,
    val_main_call0_v0_apply, val_main_call0_v1_apply, val_main_call0_c_apply, val_main_call0_v3_apply, val_main_v24_apply,
    val_main_c_apply, val_main_call0_v5_apply, val_main_call0_c_0_apply]
  exact h (i 1) (i 2)

variable {x0 : FVec Ideal S2048x4096 .f32} {x1 x2 : FVec Ideal S1x1024 .f32} {x3 : FVec Ideal S4x128x128 .f32} {x4 : FVec Ideal S4x128 .f32}
  {Z : ℕ → ℕ → EReal} {LG LB : ℕ → EReal} {W : ℕ → ℕ → ℕ → EReal} {B : ℕ → ℕ → EReal}
  (hz : ∀ i, x0 i = Z (i 0).val (i 1).val) (hlg : ∀ i, x1 i = LG (i 1).val) (hlb : ∀ i, x2 i = LB (i 1).val)
  (hw : ∀ i, x3 i = W (i 0).val (i 1).val (i 2).val) (hb : ∀ i, x4 i = B (i 0).val (i 1).val)

include hw in
/-- The lower triangles. -/
theorem v28_eq (i : S4x128x128.Idx) : val_main_v28 (F := Ideal) x3 i = tri W (i 0).val (i 1).val (i 2).val := by
  rw [val_main_v28_apply, mask_eq, val_main_v27_apply, val_main_cst_4_apply, hw]
  unfold tri
  by_cases h : (i 2).val ≤ (i 1).val
  · rw [if_pos h, if_pos h]
    rfl
  · rw [if_neg h, if_neg h]
    exact Ideal.ofBits_zero_f32

section Rows
include hz

theorem v1_eq (i : S2048x1024.Idx) : val_main_v1 (F := Ideal) x0 i = Z (i 0).val (1024 + (i 1).val) := by
  rw [val_main_v1_apply, hz]

/-- The rows' means. -/
theorem v5_eq (i : S2048x1.Idx) : val_main_v5 (F := Ideal) x0 i = mean (fun i k => Z i (1024 + k)) (i 0).val := by
  rw [val_main_v5_apply, val_main_v3_apply, val_main_v2_apply, val_main_cst_apply, val_main_v4_apply, val_main_cst_0_apply]
  refine congrArg (fun a : EReal => Ideal.div a (Ideal.ofBits .f32 0x44800000#32))
    ((congrArg (fun a : EReal => a + _) Ideal.ofBits_zero_f32).trans ((zero_add _).trans ?_))
  exact sum_congr rfl fun k _ => v1_eq hz _

/-- The rows less their means. -/
theorem v7_eq (i : S2048x1024.Idx) : val_main_v7 (F := Ideal) x0 i = dev (fun i k => Z i (1024 + k)) (i 0).val (i 1).val := by
  rw [val_main_v7_apply, val_main_v6_apply, v5_eq hz, v1_eq hz]
  rfl

theorem v14_eq (i : S2048x1024.Idx) : val_main_v14 (F := Ideal) x0 i = dev (fun i k => Z i (1024 + k)) (i 0).val (i 1).val := by
  rw [val_main_v14_apply, val_main_v13_apply, v5_eq hz, v1_eq hz]
  rfl

/-- The rows' factors. -/
theorem v17_eq (i : S2048x1.Idx) : val_main_v17 (F := Ideal) x0 i = factor (fun i k => Z i (1024 + k)) (i 0).val := by
  rw [val_main_v17_apply, val_main_v16_apply, val_main_v12_apply, val_main_v10_apply, val_main_v9_apply, val_main_cst_1_apply,
    val_main_v11_apply, val_main_cst_2_apply, val_main_v15_apply, val_main_cst_3_apply]
  refine congrArg (fun a : EReal => Ideal.rsqrt (Ideal.div a (Ideal.ofBits .f32 0x44800000#32) + Ideal.ofBits .f32 0x358637BD#32))
    ((congrArg (fun a : EReal => a + _) Ideal.ofBits_zero_f32).trans ((zero_add _).trans ?_))
  exact sum_congr rfl fun k _ => by rw [val_main_v8_apply, v7_eq hz]; rfl

include hlg hlb in
/-- The normalised rows. -/
theorem v23_eq (i : S2048x1024.Idx) : val_main_v23 (F := Ideal) x0 x1 x2 i = norm (fun i k => Z i (1024 + k)) LG LB (i 0).val (i 1).val := by
  rw [val_main_v23_apply, val_main_v21_apply, val_main_v19_apply, v14_eq hz, val_main_v18_apply, v17_eq hz, val_main_v20_apply,
    val_main_v22_apply, hlg, hlb]
  rfl

include hlg hlb in
/-- The normalised rows, channels first. -/
theorem v31_eq (i : S4x128x4096.Idx) : val_main_v31 (F := Ideal) x0 x1 x2 i
    = norm (fun i k => Z i (1024 + k)) LG LB (128 * ((i 2).val / 256) + (i 1).val) (256 * (i 0).val + (i 2).val % 256) := by
  rw [val_main_v31_apply, val_main_v30_apply, val_main_v29_apply, v23_eq hz hlg hlb, (fold i).1, (fold i).2]

include hlg hlb hw hb in
/-- The mixed rows. -/
theorem v38_eq (i : S2048x1024.Idx) : val_main_v38 (F := Ideal) x0 x1 x2 x3 x4 i
    = mix (fun i k => Z i (1024 + k)) LG LB W B (i 0).val (i 1).val := by
  have h0 : (i 0).val < 2048 := (i 0).isLt
  have h1 : (i 1).val < 1024 := (i 1).isLt
  obtain ⟨e0, e1, e2⟩ := unfold' i
  rw [val_main_v38_apply, val_main_v37_apply, val_main_v36_apply]
  generalize idx_main_v36 (idx_main_v37 (idx_main_v38 i)) = p at e0 e1 e2
  rw [val_main_v35_apply, val_main_v34_apply, val_main_v33_apply, hb, val_main_v32_apply]
  refine congrArg₂ (fun a b : EReal => a + b) (sum_congr rfl fun q _ => ?_) ?_
  · rw [v28_eq hw, v31_eq hz hlg hlb]
    show tri W (p 0).val (p 1).val q.val * norm _ LG LB (128 * ((p 2).val / 256) + q.val) (256 * (p 0).val + (p 2).val % 256) = _
    rw [e0, e1, e2, show (256 * ((i 0).val / 128) + (i 1).val % 256) / 256 = (i 0).val / 128 by omega,
      show 256 * ((i 1).val / 256) + (256 * ((i 0).val / 128) + (i 1).val % 256) % 256 = (i 1).val by omega]
  · show B (p 0).val (p 1).val = _
    rw [e0, e1]

include hlg hlb hw hb in
/-- The result. -/
theorem ref (i : S2048x1024.Idx) : val_main_v43 (F := Ideal) x0 x1 x2 x3 x4 i
    = result Z (fun i k => Z i (1024 + k)) (fun i k => Z i (2048 + k)) LG LB W B i := by
  rw [val_main_v43_apply, val_main_v42_apply, val_main_v39_apply, val_main_v0_apply, v38_eq hz hlg hlb hw hb, val_main_v41_apply,
    val_main_call2_v5_apply, val_main_call2_v4_apply, val_main_call2_cst_0_apply, val_main_call2_v3_apply, val_main_call2_v2_apply,
    val_main_call2_cst_apply, val_main_call2_v1_apply, val_main_call2_v0_apply, val_main_v40_apply, hz, hz]
  rfl

end Rows

/-- The reference's run ends with its arguments as they were; it declares no semaphore, so every counter is zero. -/
theorem frame_ref : Cert.quiescent_SguFwdRefIdeal := fun m g _ =>
  (θ_run Cert.SguFwdRefIdeal.defs _ _).mono
    (fun r h => ⟨fun c => (h c).2, sem_eq_zero_of_no_sems (by decide) r.2⟩) (Cert.SguFwdRefIdeal.Value.run m g)

/-- The kernel and the reference leave the same array. -/
theorem algebraic : Cert.algebraic_SguFwdIdeal_SguFwdRefIdeal := by
  intro m g m' g' _ hagree
  refine ⟨fun c => (Cert.SguFwdIdeal.Gen.dats m 0 c).arrAt 7 Cert.SguFwdIdeal.cfg0.N, Cert.SguFwdIdeal.Value.run_blocks m g,
    (θ_run Cert.SguFwdRefIdeal.defs _ _).mono (fun r h c => ?_) (Cert.SguFwdRefIdeal.Value.run m' g')⟩
  obtain ⟨e0, e1, e2, e3, e4⟩ := hagree c
  refine ⟨(h c).1.trans ?_, (h c).2⟩
  obtain ⟨Z, hz⟩ := Cert.Sums.read_two (a := 2048) (b := 4096) (m ((c : Thread Cert.SguFwdIdeal.nD Cert.SguFwdIdeal.τ).loc Cert.SguFwdIdeal.main_arg0))
  obtain ⟨LG, hlg⟩ := Cert.Sums.read_two (a := 1) (b := 1024) (m ((c : Thread Cert.SguFwdIdeal.nD Cert.SguFwdIdeal.τ).loc Cert.SguFwdIdeal.main_arg1))
  obtain ⟨LB, hlb⟩ := Cert.Sums.read_two (a := 1) (b := 1024) (m ((c : Thread Cert.SguFwdIdeal.nD Cert.SguFwdIdeal.τ).loc Cert.SguFwdIdeal.main_arg2))
  obtain ⟨W, hw⟩ := Cert.Sums.read_three (a := 4) (b := 128) (c := 128) (m ((c : Thread Cert.SguFwdIdeal.nD Cert.SguFwdIdeal.τ).loc Cert.SguFwdIdeal.main_arg3))
  obtain ⟨B, hb⟩ := Cert.Sums.read_two (a := 4) (b := 128) (m ((c : Thread Cert.SguFwdIdeal.nD Cert.SguFwdIdeal.τ).loc Cert.SguFwdIdeal.main_arg4))
  have H : Args (LG 0) (LB 0) W B m c Z := by
    refine ⟨hz, fun i => ?_, fun i => ?_, hw, hb⟩
    · have h0 : (i 0).val < 1 := (i 0).isLt
      rw [hlg i, show (i 0).val = 0 by omega]
    · have h0 : (i 0).val < 1 := (i 0).isLt
      rw [hlb i, show (i 0).val = 0 by omega]
  rw [Cert.SguFwdRefIdeal.Read.val_main_v43_eq, e0, e1, e2, e3, e4]
  exact (funext fun i => ref H.z H.lg H.lb H.w H.b i).trans (arr H).symm

end Cert.Sgu.FwdRef

end
-- ==== Proof.Gate.Fwd.lean ====
/-
  The gated unit, forward: its kernel and its reference leave the same array (hand-written, untrusted).

  Each point of the kernel's grid joins a block of 1024 rows to the gated rows beside it. Nothing here needs finite values.
-/
module

public import proofs.«01_k».proof.Defs
public import proofs.«01_k».proof.Proof.Gate.Value
public import proofs.«01_k».proof.Proof.Sums
public import proofs.«01_k».proof.Proof.Product.Math
public import proofs.«01_k».proof.Proof.Gen.GluFwdIdeal.Value
public import proofs.«01_k».proof.Proof.Gen.GluFwdRefIdeal.Run
public import proofs.«01_k».proof.Proof.Gen.GluFwdRefIdeal.Read
public import Idealize.ShloMosaic.Lib.Tactic

@[expose] public section

set_option backward.isDefEq.respectTransparency.types false
set_option backward.isDefEq.respectTransparency false

noncomputable section

namespace Cert.Forward.Unit

open Idealize.ShloMosaic Idealize.ShloMosaic.TcCoe Idealize.SL.Sem Idealize.ShloMosaic.ValueIdx
open Cert.GluFwdIdeal Cert.GluFwdIdeal.Gen Cert.Forward

/-- An entry of the gated rows: `T` holds the unit's two halves side by side, `Z` the gate from column 3584 on. -/
def entry (T Z : ℕ → ℕ → EReal) (i k : ℕ) : EReal := T i k * logistic (T i (512 + k)) * gate (Z i (3584 + k))

/-- The result: the third argument, then the gated rows. -/
def result (T Z : ℕ → ℕ → EReal) (x : FVec Ideal S2048x1024 .bf16) : FVec Ideal S2048x1536 .bf16 := fun i =>
  if h : (i 1).val < 1024 then x (ValueIdx.ix2 (i 0) ⟨(i 1).val, h⟩) else entry T Z (i 0).val ((i 1).val - 1024)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 1 :=
  (by decide +kernel : ∀ t : Fin grid0.N, win0_1.index t 0 = t.val ∧ win0_1.index t 1 = 1)
theorem idx_2 : ∀ t : Fin cfg0.N, win0_2.index t 0 = t.val ∧ win0_2.index t 1 = 7 :=
  (by decide +kernel : ∀ t : Fin grid0.N, win0_2.index t 0 = t.val ∧ win0_2.index t 1 = 7)
theorem idx_3 : ∀ t : Fin cfg0.N, win0_3.index t 0 = t.val ∧ win0_3.index t 1 = 0 :=
  (by decide +kernel : ∀ t : Fin grid0.N, win0_3.index t 0 = t.val ∧ win0_3.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)

variable {m : (ℓ : Loc nD τ sig) → Buf (Elt Ideal) ℓ} {c : Dev nD} {T Z : ℕ → ℕ → EReal}
  (ht : ∀ i : S2048x1024.Idx, m ((c : Thread nD τ).loc main_arg0) i = T (i 0).val (i 1).val)
  (hz : ∀ i : S2048x4096.Idx, m ((c : Thread nD τ).loc main_arg1) i = Z (i 0).val (i 1).val)

include ht in
theorem block_a (t : Fin cfg0.N) (j : S1024x512.Idx) : iblk m c 0 t j = T (1024 * t.val + (j 0).val) (j 1).val := by
  unfold iblk
  rw [View.read_apply]
  show m ((c : Thread nD τ).loc main_arg0) _ = _
  refine (ht _).trans (congrArg₂ T ?_ ?_)
  · show win0_0.index t 0 * 1024 + 1 * (j 0).val = _
    rw [(idx_0 t).1]
    omega
  · show win0_0.index t 1 * 512 + 1 * (j 1).val = _
    rw [(idx_0 t).2]
    omega

include ht in
theorem block_b (t : Fin cfg0.N) (j : S1024x512.Idx) : iblk m c 1 t j = T (1024 * t.val + (j 0).val) (512 + (j 1).val) := by
  unfold iblk
  rw [View.read_apply]
  show m ((c : Thread nD τ).loc main_arg0) _ = _
  refine (ht _).trans (congrArg₂ T ?_ ?_)
  · show win0_1.index t 0 * 1024 + 1 * (j 0).val = _
    rw [(idx_1 t).1]
    omega
  · show win0_1.index t 1 * 512 + 1 * (j 1).val = _
    rw [(idx_1 t).2]
    omega

include hz in
theorem block_g (t : Fin cfg0.N) (j : S1024x512.Idx) : iblk m c 2 t j = Z (1024 * t.val + (j 0).val) (3584 + (j 1).val) := by
  unfold iblk
  rw [View.read_apply]
  show m ((c : Thread nD τ).loc main_arg1) _ = _
  refine (hz _).trans (congrArg₂ Z ?_ ?_)
  · show win0_2.index t 0 * 1024 + 1 * (j 0).val = _
    rw [(idx_2 t).1]
    omega
  · show win0_2.index t 1 * 512 + 1 * (j 1).val = _
    rw [(idx_2 t).2]
    omega

theorem block_c (t : Fin cfg0.N) (j : S1024x1024.Idx) (p : S2048x1024.Idx) (h0 : (p 0).val = 1024 * t.val + (j 0).val)
    (h1 : (p 1).val = (j 1).val) : iblk m c 3 t j = m ((c : Thread nD τ).loc main_arg2) p := by
  unfold iblk
  rw [View.read_apply]
  show m ((c : Thread nD τ).loc main_arg2) _ = _
  refine congrArg (m ((c : Thread nD τ).loc main_arg2)) (funext fun a => Fin.ext ?_)
  match a with
  | ⟨0, _⟩ =>
    show win0_3.index t 0 * 1024 + 1 * (j 0).val = (p 0).val
    rw [(idx_3 t).1, h0]
    omega
  | ⟨1, _⟩ =>
    show win0_3.index t 1 * 1024 + 1 * (j 1).val = (p 1).val
    rw [(idx_3 t).2, h1]
    omega

/-- What a point of the grid leaves, from its blocks. -/
theorem out (n : ℕ) (a b g : FVec Ideal S1024x512 .f32) (x : FVec Ideal S1024x1024 .bf16) (X : FVec Ideal S2048x1024 .bf16)
    (ha : ∀ j, a j = T (1024 * n + (j 0).val) (j 1).val) (hb : ∀ j, b j = T (1024 * n + (j 0).val) (512 + (j 1).val))
    (hg : ∀ j, g j = Z (1024 * n + (j 0).val) (3584 + (j 1).val))
    (hx : ∀ (j : S1024x1024.Idx) (p : S2048x1024.Idx), (p 0).val = 1024 * n + (j 0).val → (p 1).val = (j 1).val → x j = X p)
    (j : S1024x1536.Idx) (p : S2048x1536.Idx) (h0 : (p 0).val = 1024 * n + (j 0).val)
    (h1 : (p 1).val = (j 1).val) : k0_pay1 (F := Ideal) a b g x j = result T Z X p := by
  have hj : (j 1).val < 1536 := (j 1).isLt
  unfold k0_pay1 result
  by_cases h : (j 1).val < 1024
  · rw [dif_pos (by omega)]
    refine (concatenate_pair_apply_left (t := S1024x1536) 1 (s₁ := S1024x1024) (s₂ := S1024x512) _ _ _ j rfl
      (ValueIdx.ix2 (j 0) ⟨(j 1).val, h⟩) fun x => ?_).trans (hx _ _ h0 h1)
    match x with
    | ⟨0, _⟩ => rfl
    | ⟨1, _⟩ => rfl
  · rw [dif_neg (by omega), h0, h1]
    refine (concatenate_pair_apply_right (t := S1024x1536) 1 (s₁ := S1024x1024) (s₂ := S1024x512) _ _ _ j rfl rfl
      (ValueIdx.ix2 (j 0) ⟨(j 1).val - 1024, by omega⟩) (fun x hx => ?_) ?_).trans ?_
    · match x with
      | ⟨0, _⟩ => rfl
      | ⟨1, _⟩ => exact absurd rfl hx
    · show (j 1).val - 1024 + 1024 = (j 1).val
      omega
    · have key : ∀ q : S1024x512.Idx, (q 0).val = (j 0).val → (q 1).val = (j 1).val - 1024 →
          a q * Ideal.div (Ideal.ofBits .f32 0x3F800000#32)
            (Ideal.ofBits .f32 0x3F800000#32 + Ideal.exp (Ideal.ofBits .f32 0x00000000#32 - b q))
          * (g q * Ideal.div (Ideal.ofBits .f32 0x3F800000#32)
            (Ideal.ofBits .f32 0x3F800000#32 + Ideal.exp (Ideal.ofBits .f32 0x00000000#32 - g q)))
          = entry T Z (1024 * n + (j 0).val) ((j 1).val - 1024) := fun q q0 q1 => by
        rw [logistic_sub, logistic_sub, ha, hb, hg, q0, q1]
        rfl
      exact key _ rfl rfl

include ht hz in
/-- The array after the run. -/
theorem arr : (dats m 0 c).arrAt 4 cfg0.N = result T Z (m ((c : Thread nD τ).loc main_arg2)) := by
  refine (dats m 0 c).arrAt_eq_of_covers 4 (result T Z (m ((c : Thread nD τ).loc main_arg2))) (by decide +kernel) fun t _ j => ?_
  show (dats m 0 c).after 4 t j = _
  rw [after0_4]
  frame_out
  refine out t.val _ _ _ _ _ (block_a ht t) (block_b ht t) (block_g hz t) (block_c t) j _ ?_ ?_
  · show win0_4.index t 0 * 1024 + 1 * (j 0).val = _
    rw [(idx_4 t).1]
    omega
  · show win0_4.index t 1 * 1536 + 1 * (j 1).val = _
    rw [(idx_4 t).2]
    omega

open Cert.GluFwdRefIdeal.Read in
/-- The reference's result. -/
theorem ref (x0 : FVec Ideal S2048x1024 .f32) (x1 : FVec Ideal S2048x4096 .f32) (x2 : FVec Ideal S2048x1024 .bf16)
    (h0 : ∀ i, x0 i = T (i 0).val (i 1).val) (h1 : ∀ i, x1 i = Z (i 0).val (i 1).val) (i : S2048x1536.Idx) :
    val_main_v13 (F := Ideal) x0 x1 x2 i = result T Z x2 i := by
  have hi : (i 1).val < 1536 := (i 1).isLt
  unfold val_main_v13 result
  by_cases h : (i 1).val < 1024
  · rw [dif_pos h]
    refine concatenate_pair_apply_left (t := S2048x1536) 1 (s₁ := S2048x1024) (s₂ := Cert.GluFwdRefIdeal.S2048x512) _ _ _ i rfl
      (ValueIdx.ix2 (i 0) ⟨(i 1).val, h⟩) fun x => ?_
    match x with
    | ⟨0, _⟩ => rfl
    | ⟨1, _⟩ => rfl
  · rw [dif_neg h]
    refine (concatenate_pair_apply_right (t := S2048x1536) 1 (s₁ := S2048x1024) (s₂ := Cert.GluFwdRefIdeal.S2048x512) _ _ _ i rfl rfl
      (ValueIdx.ix2 (i 0) ⟨(i 1).val - 1024, by omega⟩) (fun x hx => ?_) ?_).trans ?_
    · match x with
      | ⟨0, _⟩ => rfl
      | ⟨1, _⟩ => exact absurd rfl hx
    · show (i 1).val - 1024 + 1024 = (i 1).val
      omega
    · rw [val_main_v12_apply, val_main_v11_apply, val_main_v8_apply, val_main_v0_apply, val_main_v7_apply, val_main_v6_apply,
        val_main_cst_0_apply, val_main_v5_apply, val_main_v4_apply, val_main_cst_apply, val_main_v3_apply, val_main_v2_apply,
        val_main_v1_apply, val_main_v10_apply, val_main_call0_v5_apply, val_main_call0_v4_apply, val_main_call0_cst_0_apply,
        val_main_call0_v3_apply, val_main_call0_v2_apply, val_main_call0_cst_apply, val_main_call0_v1_apply, val_main_call0_v0_apply,
        val_main_v9_apply, h0, h0, h1]
      rfl

/-- The reference's run ends with its arguments as they were; it declares no semaphore, so every counter is zero. -/
theorem frame_ref : Cert.quiescent_GluFwdRefIdeal := fun m g _ =>
  (θ_run Cert.GluFwdRefIdeal.defs _ _).mono
    (fun r h => ⟨fun c => (h c).2, sem_eq_zero_of_no_sems (by decide) r.2⟩) (Cert.GluFwdRefIdeal.Value.run m g)

/-- The kernel and the reference leave the same array. -/
theorem algebraic : Cert.algebraic_GluFwdIdeal_GluFwdRefIdeal := by
  intro m g m' g' _ hagree
  refine ⟨fun c => (dats m 0 c).arrAt 4 cfg0.N, Cert.GluFwdIdeal.Value.run_blocks m g,
    (θ_run Cert.GluFwdRefIdeal.defs _ _).mono (fun r h c => ?_) (Cert.GluFwdRefIdeal.Value.run m' g')⟩
  obtain ⟨e0, e1, e2⟩ := hagree c
  refine ⟨(h c).1.trans ?_, (h c).2⟩
  obtain ⟨T, ht⟩ := Cert.Sums.read_two (a := 2048) (b := 1024) (m ((c : Thread nD τ).loc main_arg0))
  obtain ⟨Z, hz⟩ := Cert.Sums.read_two (a := 2048) (b := 4096) (m ((c : Thread nD τ).loc main_arg1))
  rw [Cert.GluFwdRefIdeal.Read.val_main_v13_eq, e0, e1, e2]
  exact (funext fun i => ref _ _ _ ht hz i).trans (arr ht hz).symm

end Cert.Forward.Unit

end
-- ==== Proof.lean ====
/-
  The proof of `Cert.Claim`: each program's frame, and that each kernel leaves what its reference leaves
  (hand-written, untrusted).
-/
module

public import proofs.«01_k».proof.Defs
public import proofs.«01_k».proof.Proof.Gen.Xattn.Frame
public import proofs.«01_k».proof.Proof.Gen.XattnIdeal.Frame
public import proofs.«01_k».proof.Proof.Gen.InAbDx.Frame
public import proofs.«01_k».proof.Proof.Gen.InAbDxIdeal.Frame
public import proofs.«01_k».proof.Proof.Gen.InAbDw.Frame
public import proofs.«01_k».proof.Proof.Gen.InAbDwIdeal.Frame
public import proofs.«01_k».proof.Proof.Gen.InCdDx.Frame
public import proofs.«01_k».proof.Proof.Gen.InCdDxIdeal.Frame
public import proofs.«01_k».proof.Proof.Gen.InCdDw.Frame
public import proofs.«01_k».proof.Proof.Gen.InCdDwIdeal.Frame
public import proofs.«01_k».proof.Proof.Gen.OutAbDx.Frame
public import proofs.«01_k».proof.Proof.Gen.OutAbDxIdeal.Frame
public import proofs.«01_k».proof.Proof.Gen.OutAbDw.Frame
public import proofs.«01_k».proof.Proof.Gen.OutAbDwIdeal.Frame
public import proofs.«01_k».proof.Proof.Gen.OutCdDx.Frame
public import proofs.«01_k».proof.Proof.Gen.OutCdDxIdeal.Frame
public import proofs.«01_k».proof.Proof.Gen.OutCdDw.Frame
public import proofs.«01_k».proof.Proof.Gen.OutCdDwIdeal.Frame
public import proofs.«01_k».proof.Proof.Gen.XoDx.Frame
public import proofs.«01_k».proof.Proof.Gen.XoDxIdeal.Frame
public import proofs.«01_k».proof.Proof.Gen.XoDw.Frame
public import proofs.«01_k».proof.Proof.Gen.XoDwIdeal.Frame
public import proofs.«01_k».proof.Proof.Gen.XqDx.Frame
public import proofs.«01_k».proof.Proof.Gen.XqDxIdeal.Frame
public import proofs.«01_k».proof.Proof.Gen.XqDw.Frame
public import proofs.«01_k».proof.Proof.Gen.XqDwIdeal.Frame
public import proofs.«01_k».proof.Proof.Gen.XkvDx.Frame
public import proofs.«01_k».proof.Proof.Gen.XkvDxIdeal.Frame
public import proofs.«01_k».proof.Proof.Gen.XkvDw.Frame
public import proofs.«01_k».proof.Proof.Gen.XkvDwIdeal.Frame
public import proofs.«01_k».proof.Proof.Gen.GluDx.Frame
public import proofs.«01_k».proof.Proof.Gen.GluDxIdeal.Frame
public import proofs.«01_k».proof.Proof.Gen.GluDw.Frame
public import proofs.«01_k».proof.Proof.Gen.GluDwIdeal.Frame
public import proofs.«01_k».proof.Proof.Gen.InAb.Frame
public import proofs.«01_k».proof.Proof.Gen.InAbIdeal.Frame
public import proofs.«01_k».proof.Proof.Gen.OutAb.Frame
public import proofs.«01_k».proof.Proof.Gen.OutAbIdeal.Frame
public import proofs.«01_k».proof.Proof.Gen.InCd.Frame
public import proofs.«01_k».proof.Proof.Gen.InCdIdeal.Frame
public import proofs.«01_k».proof.Proof.Gen.OutCd.Frame
public import proofs.«01_k».proof.Proof.Gen.OutCdIdeal.Frame
public import proofs.«01_k».proof.Proof.Gen.GluT.Frame
public import proofs.«01_k».proof.Proof.Gen.GluTIdeal.Frame
public import proofs.«01_k».proof.Proof.Gen.Xq.Frame
public import proofs.«01_k».proof.Proof.Gen.XqIdeal.Frame
public import proofs.«01_k».proof.Proof.Gen.Xkv.Frame
public import proofs.«01_k».proof.Proof.Gen.XkvIdeal.Frame
public import proofs.«01_k».proof.Proof.Gen.Xo.Frame
public import proofs.«01_k».proof.Proof.Gen.XoIdeal.Frame
public import proofs.«01_k».proof.Proof.Gen.XattnFwd.Frame
public import proofs.«01_k».proof.Proof.Gen.XattnFwdIdeal.Frame
public import proofs.«01_k».proof.Proof.Gen.XattnFwdIdeal.Value
public import proofs.«01_k».proof.Proof.Gen.XattnFwdRefIdeal.Run
public import proofs.«01_k».proof.Proof.Gen.XattnFwdRefIdeal.Read
public import proofs.«01_k».proof.Proof.Gen.XkvDxTop.Frame
public import proofs.«01_k».proof.Proof.Gen.XkvDxTopIdeal.Frame
public import proofs.«01_k».proof.Proof.Gen.XkvDxTopIdeal.Value
public import proofs.«01_k».proof.Proof.Gen.XkvDxTopRefIdeal.Run
public import proofs.«01_k».proof.Proof.Gen.XkvDxTopRefIdeal.Read
public import proofs.«01_k».proof.Proof.Gen.AdamInAb.Frame
public import proofs.«01_k».proof.Proof.Gen.AdamInAbIdeal.Frame
public import proofs.«01_k».proof.Proof.Gen.AdamInAbIdeal.Value
public import proofs.«01_k».proof.Proof.Gen.AdamInAbRefIdeal.Run
public import proofs.«01_k».proof.Proof.Gen.AdamInAbRefIdeal.Read
public import proofs.«01_k».proof.Proof.Gen.AdamInCd.Frame
public import proofs.«01_k».proof.Proof.Gen.AdamInCdIdeal.Frame
public import proofs.«01_k».proof.Proof.Gen.AdamInCdIdeal.Value
public import proofs.«01_k».proof.Proof.Gen.AdamInCdRefIdeal.Run
public import proofs.«01_k».proof.Proof.Gen.AdamInCdRefIdeal.Read
public import proofs.«01_k».proof.Proof.Gen.AdamOutAb.Frame
public import proofs.«01_k».proof.Proof.Gen.AdamOutAbIdeal.Frame
public import proofs.«01_k».proof.Proof.Gen.AdamOutAbIdeal.Value
public import proofs.«01_k».proof.Proof.Gen.AdamOutAbRefIdeal.Run
public import proofs.«01_k».proof.Proof.Gen.AdamOutAbRefIdeal.Read
public import proofs.«01_k».proof.Proof.Gen.AdamOutCd.Frame
public import proofs.«01_k».proof.Proof.Gen.AdamOutCdIdeal.Frame
public import proofs.«01_k».proof.Proof.Gen.AdamOutCdIdeal.Value
public import proofs.«01_k».proof.Proof.Gen.AdamOutCdRefIdeal.Run
public import proofs.«01_k».proof.Proof.Gen.AdamOutCdRefIdeal.Read
public import proofs.«01_k».proof.Proof.Gen.AdamSq.Frame
public import proofs.«01_k».proof.Proof.Gen.AdamSqIdeal.Frame
public import proofs.«01_k».proof.Proof.Gen.AdamSqIdeal.Value
public import proofs.«01_k».proof.Proof.Gen.AdamSqRefIdeal.Run
public import proofs.«01_k».proof.Proof.Gen.AdamSqRefIdeal.Read
public import proofs.«01_k».proof.Proof.Gen.AdamXkv.Frame
public import proofs.«01_k».proof.Proof.Gen.AdamXkvIdeal.Frame
public import proofs.«01_k».proof.Proof.Gen.AdamXkvIdeal.Value
public import proofs.«01_k».proof.Proof.Gen.AdamXkvRefIdeal.Run
public import proofs.«01_k».proof.Proof.Gen.AdamXkvRefIdeal.Read
public import proofs.«01_k».proof.Proof.Gen.AdamGlu.Frame
public import proofs.«01_k».proof.Proof.Gen.AdamGluIdeal.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamPool.Frame
public import proofs.«01_k».proof.Proof.Gen.AdamPoolIdeal.Frame
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.Rms.Frame
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.RmsMem.Frame
public import proofs.«01_k».proof.Proof.Gen.RmsMemIdeal.Frame
public import proofs.«01_k».proof.Proof.Gen.RmsMemIdeal.Value
public import proofs.«01_k».proof.Proof.Gen.RmsMemRefIdeal.Run
public import proofs.«01_k».proof.Proof.Gen.RmsMemRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Sgu.Frame
public import proofs.«01_k».proof.Proof.Gen.SguIdeal.Frame
public import proofs.«01_k».proof.Proof.Gen.SguIdeal.Value
public import proofs.«01_k».proof.Proof.Gen.SguRefIdeal.Run
public import proofs.«01_k».proof.Proof.Gen.SguRefIdeal.Read
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.PoolFwd.Frame
public import proofs.«01_k».proof.Proof.Gen.PoolFwdIdeal.Frame
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Gen.SguFwd.Frame
public import proofs.«01_k».proof.Proof.Gen.SguFwdIdeal.Frame
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.GluFwd.Frame
public import proofs.«01_k».proof.Proof.Gen.GluFwdIdeal.Frame
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.Gen.Pre_pool_finite
public import proofs.«01_k».proof.Proof.Gen.Pre_sgu_finite
public import proofs.«01_k».proof.Proof.Gen.Pre_rms_finite
public import proofs.«01_k».proof.Proof.Gen.Pre_gate_finite
public import proofs.«01_k».proof.Proof.Xattn.Claim
public import proofs.«01_k».proof.Proof.Product.InAbDx
public import proofs.«01_k».proof.Proof.Product.InAbDw
public import proofs.«01_k».proof.Proof.Product.InCdDx
public import proofs.«01_k».proof.Proof.Product.InCdDw
public import proofs.«01_k».proof.Proof.Product.OutAbDx
public import proofs.«01_k».proof.Proof.Product.OutAbDw
public import proofs.«01_k».proof.Proof.Product.OutCdDx
public import proofs.«01_k».proof.Proof.Product.OutCdDw
public import proofs.«01_k».proof.Proof.Product.XoDx
public import proofs.«01_k».proof.Proof.Product.XoDw
public import proofs.«01_k».proof.Proof.Product.XqDx
public import proofs.«01_k».proof.Proof.Product.XqDw
public import proofs.«01_k».proof.Proof.Product.XkvDx
public import proofs.«01_k».proof.Proof.Product.XkvDw
public import proofs.«01_k».proof.Proof.Product.GluDx
public import proofs.«01_k».proof.Proof.Product.GluDw
public import proofs.«01_k».proof.Proof.Product.InAb
public import proofs.«01_k».proof.Proof.Product.OutAb
public import proofs.«01_k».proof.Proof.Product.InCd
public import proofs.«01_k».proof.Proof.Product.OutCd
public import proofs.«01_k».proof.Proof.Product.GluT
public import proofs.«01_k».proof.Proof.Product.Xq
public import proofs.«01_k».proof.Proof.Product.Xkv
public import proofs.«01_k».proof.Proof.Product.Xo
public import proofs.«01_k».proof.Proof.Product.XkvDxTop
public import proofs.«01_k».proof.Proof.XattnFwd.Claim
public import proofs.«01_k».proof.Proof.Adam.InAb
public import proofs.«01_k».proof.Proof.Adam.InCd
public import proofs.«01_k».proof.Proof.Adam.OutAb
public import proofs.«01_k».proof.Proof.Adam.OutCd
public import proofs.«01_k».proof.Proof.Adam.Sq
public import proofs.«01_k».proof.Proof.Adam.Xkv
public import proofs.«01_k».proof.Proof.Adam.Glu
public import proofs.«01_k».proof.Proof.Adam.Pool
public import proofs.«01_k».proof.Proof.Rms.Claim
public import proofs.«01_k».proof.Proof.Rms.Fwd
public import proofs.«01_k».proof.Proof.Rms.Mem
public import proofs.«01_k».proof.Proof.Gate.Claim
public import proofs.«01_k».proof.Proof.Sgu.Claim
public import proofs.«01_k».proof.Proof.Pool.Claim
public import proofs.«01_k».proof.Proof.Pool.FwdRef
public import proofs.«01_k».proof.Proof.Sgu.FwdRef
public import proofs.«01_k».proof.Proof.Gate.Fwd

@[expose] public section

noncomputable section

namespace Cert.Proof

open Idealize.ShloMosaic Idealize.SL.Sem

/-- Every claim, in the order in which they are stated: the programs' side conditions, the frames, then for each kernel that
its idealization changes nothing and that it leaves what its reference leaves. -/
theorem claim : Cert.Claim :=
  ⟨Cert.Xattn.Gen.facts, Cert.XattnIdeal.Gen.facts, Cert.XattnRefIdeal.Gen.facts,
    Cert.InAbDx.Gen.facts, Cert.InAbDxIdeal.Gen.facts, Cert.InAbDxRefIdeal.Gen.facts,
    Cert.InAbDw.Gen.facts, Cert.InAbDwIdeal.Gen.facts, Cert.InAbDwRefIdeal.Gen.facts,
    Cert.InCdDx.Gen.facts, Cert.InCdDxIdeal.Gen.facts, Cert.InCdDxRefIdeal.Gen.facts,
    Cert.InCdDw.Gen.facts, Cert.InCdDwIdeal.Gen.facts, Cert.InCdDwRefIdeal.Gen.facts,
    Cert.OutAbDx.Gen.facts, Cert.OutAbDxIdeal.Gen.facts, Cert.OutAbDxRefIdeal.Gen.facts,
    Cert.OutAbDw.Gen.facts, Cert.OutAbDwIdeal.Gen.facts, Cert.OutAbDwRefIdeal.Gen.facts,
    Cert.OutCdDx.Gen.facts, Cert.OutCdDxIdeal.Gen.facts, Cert.OutCdDxRefIdeal.Gen.facts,
    Cert.OutCdDw.Gen.facts, Cert.OutCdDwIdeal.Gen.facts, Cert.OutCdDwRefIdeal.Gen.facts,
    Cert.XoDx.Gen.facts, Cert.XoDxIdeal.Gen.facts, Cert.XoDxRefIdeal.Gen.facts,
    Cert.XoDw.Gen.facts, Cert.XoDwIdeal.Gen.facts, Cert.XoDwRefIdeal.Gen.facts,
    Cert.XqDx.Gen.facts, Cert.XqDxIdeal.Gen.facts, Cert.XqDxRefIdeal.Gen.facts,
    Cert.XqDw.Gen.facts, Cert.XqDwIdeal.Gen.facts, Cert.XqDwRefIdeal.Gen.facts,
    Cert.XkvDx.Gen.facts, Cert.XkvDxIdeal.Gen.facts, Cert.XkvDxRefIdeal.Gen.facts,
    Cert.XkvDw.Gen.facts, Cert.XkvDwIdeal.Gen.facts, Cert.XkvDwRefIdeal.Gen.facts,
    Cert.GluDx.Gen.facts, Cert.GluDxIdeal.Gen.facts, Cert.GluDxRefIdeal.Gen.facts,
    Cert.GluDw.Gen.facts, Cert.GluDwIdeal.Gen.facts, Cert.GluDwRefIdeal.Gen.facts,
    Cert.InAb.Gen.facts, Cert.InAbIdeal.Gen.facts, Cert.InAbRefIdeal.Gen.facts,
    Cert.OutAb.Gen.facts, Cert.OutAbIdeal.Gen.facts, Cert.OutAbRefIdeal.Gen.facts,
    Cert.InCd.Gen.facts, Cert.InCdIdeal.Gen.facts, Cert.InCdRefIdeal.Gen.facts,
    Cert.OutCd.Gen.facts, Cert.OutCdIdeal.Gen.facts, Cert.OutCdRefIdeal.Gen.facts,
    Cert.GluT.Gen.facts, Cert.GluTIdeal.Gen.facts, Cert.GluTRefIdeal.Gen.facts,
    Cert.Xq.Gen.facts, Cert.XqIdeal.Gen.facts, Cert.XqRefIdeal.Gen.facts,
    Cert.Xkv.Gen.facts, Cert.XkvIdeal.Gen.facts, Cert.XkvRefIdeal.Gen.facts,
    Cert.Xo.Gen.facts, Cert.XoIdeal.Gen.facts, Cert.XoRefIdeal.Gen.facts,
    Cert.XattnFwd.Gen.facts, Cert.XattnFwdIdeal.Gen.facts, Cert.XattnFwdRefIdeal.Gen.facts,
    Cert.XkvDxTop.Gen.facts, Cert.XkvDxTopIdeal.Gen.facts, Cert.XkvDxTopRefIdeal.Gen.facts,
    Cert.AdamInAb.Gen.facts, Cert.AdamInAbIdeal.Gen.facts, Cert.AdamInAbRefIdeal.Gen.facts,
    Cert.AdamInCd.Gen.facts, Cert.AdamInCdIdeal.Gen.facts, Cert.AdamInCdRefIdeal.Gen.facts,
    Cert.AdamOutAb.Gen.facts, Cert.AdamOutAbIdeal.Gen.facts, Cert.AdamOutAbRefIdeal.Gen.facts,
    Cert.AdamOutCd.Gen.facts, Cert.AdamOutCdIdeal.Gen.facts, Cert.AdamOutCdRefIdeal.Gen.facts,
    Cert.AdamSq.Gen.facts, Cert.AdamSqIdeal.Gen.facts, Cert.AdamSqRefIdeal.Gen.facts,
    Cert.AdamXkv.Gen.facts, Cert.AdamXkvIdeal.Gen.facts, Cert.AdamXkvRefIdeal.Gen.facts,
    Cert.AdamGlu.Gen.facts, Cert.AdamGluIdeal.Gen.facts, Cert.AdamGluRefIdeal.Gen.facts,
    Cert.AdamPool.Gen.facts, Cert.AdamPoolIdeal.Gen.facts, Cert.AdamPoolRefIdeal.Gen.facts,
    Cert.Rms.Gen.facts, Cert.RmsIdeal.Gen.facts, Cert.RmsRefIdeal.Gen.facts,
    Cert.RmsFwd.Gen.facts, Cert.RmsFwdIdeal.Gen.facts, Cert.RmsFwdRefIdeal.Gen.facts,
    Cert.RmsMem.Gen.facts, Cert.RmsMemIdeal.Gen.facts, Cert.RmsMemRefIdeal.Gen.facts,
    Cert.Gate.Gen.facts, Cert.GateIdeal.Gen.facts, Cert.GateRefIdeal.Gen.facts,
    Cert.Sgu.Gen.facts, Cert.SguIdeal.Gen.facts, Cert.SguRefIdeal.Gen.facts,
    Cert.Pool.Gen.facts, Cert.PoolIdeal.Gen.facts, Cert.PoolRefIdeal.Gen.facts,
    Cert.PoolFwd.Gen.facts, Cert.PoolFwdIdeal.Gen.facts, Cert.PoolFwdRefIdeal.Gen.facts,
    Cert.SguFwd.Gen.facts, Cert.SguFwdIdeal.Gen.facts, Cert.SguFwdRefIdeal.Gen.facts,
    Cert.GluFwd.Gen.facts, Cert.GluFwdIdeal.Gen.facts, Cert.GluFwdRefIdeal.Gen.facts,
    Cert.Pre_xattn_finite.Gen.facts,
    Cert.Pre_rms_finite.Gen.facts,
    Cert.Pre_gate_finite.Gen.facts,
    Cert.Pre_sgu_finite.Gen.facts,
    Cert.Pre_pool_finite.Gen.facts,

    fun m ρ _ => Cert.Xattn.Gen.frame m ρ, fun m ρ _ => Cert.XattnIdeal.Gen.frame m ρ, fun m ρ _ => Cert.XattnIdeal.Gen.frame m ρ,
    fun m ρ _ => Cert.Xattn.Result.frame_ref m ρ, fun m ρ _ => Cert.Xattn.Result.frame_ref m ρ,
    fun m ρ _ => Cert.InAbDx.Gen.frame m ρ, fun m ρ _ => Cert.InAbDxIdeal.Gen.frame m ρ, Cert.Product.InAbDx.frame_ref,
    fun m ρ _ => Cert.InAbDw.Gen.frame m ρ, fun m ρ _ => Cert.InAbDwIdeal.Gen.frame m ρ, Cert.Product.InAbDw.frame_ref,
    fun m ρ _ => Cert.InCdDx.Gen.frame m ρ, fun m ρ _ => Cert.InCdDxIdeal.Gen.frame m ρ, Cert.Product.InCdDx.frame_ref,
    fun m ρ _ => Cert.InCdDw.Gen.frame m ρ, fun m ρ _ => Cert.InCdDwIdeal.Gen.frame m ρ, Cert.Product.InCdDw.frame_ref,
    fun m ρ _ => Cert.OutAbDx.Gen.frame m ρ, fun m ρ _ => Cert.OutAbDxIdeal.Gen.frame m ρ, Cert.Product.OutAbDx.frame_ref,
    fun m ρ _ => Cert.OutAbDw.Gen.frame m ρ, fun m ρ _ => Cert.OutAbDwIdeal.Gen.frame m ρ, Cert.Product.OutAbDw.frame_ref,
    fun m ρ _ => Cert.OutCdDx.Gen.frame m ρ, fun m ρ _ => Cert.OutCdDxIdeal.Gen.frame m ρ, Cert.Product.OutCdDx.frame_ref,
    fun m ρ _ => Cert.OutCdDw.Gen.frame m ρ, fun m ρ _ => Cert.OutCdDwIdeal.Gen.frame m ρ, Cert.Product.OutCdDw.frame_ref,
    fun m ρ _ => Cert.XoDx.Gen.frame m ρ, fun m ρ _ => Cert.XoDxIdeal.Gen.frame m ρ, Cert.Product.XoDx.frame_ref,
    fun m ρ _ => Cert.XoDw.Gen.frame m ρ, fun m ρ _ => Cert.XoDwIdeal.Gen.frame m ρ, Cert.Product.XoDw.frame_ref,
    fun m ρ _ => Cert.XqDx.Gen.frame m ρ, fun m ρ _ => Cert.XqDxIdeal.Gen.frame m ρ, Cert.Product.XqDx.frame_ref,
    fun m ρ _ => Cert.XqDw.Gen.frame m ρ, fun m ρ _ => Cert.XqDwIdeal.Gen.frame m ρ, Cert.Product.XqDw.frame_ref,
    fun m ρ _ => Cert.XkvDx.Gen.frame m ρ, fun m ρ _ => Cert.XkvDxIdeal.Gen.frame m ρ, Cert.Product.XkvDx.frame_ref,
    fun m ρ _ => Cert.XkvDw.Gen.frame m ρ, fun m ρ _ => Cert.XkvDwIdeal.Gen.frame m ρ, Cert.Product.XkvDw.frame_ref,
    fun m ρ _ => Cert.GluDx.Gen.frame m ρ, fun m ρ _ => Cert.GluDxIdeal.Gen.frame m ρ, Cert.Product.GluDx.frame_ref,
    fun m ρ _ => Cert.GluDw.Gen.frame m ρ, fun m ρ _ => Cert.GluDwIdeal.Gen.frame m ρ, Cert.Product.GluDw.frame_ref,
    fun m ρ _ => Cert.InAb.Gen.frame m ρ, fun m ρ _ => Cert.InAbIdeal.Gen.frame m ρ, Cert.Product.InAb.frame_ref,
    fun m ρ _ => Cert.OutAb.Gen.frame m ρ, fun m ρ _ => Cert.OutAbIdeal.Gen.frame m ρ, Cert.Product.OutAb.frame_ref,
    fun m ρ _ => Cert.InCd.Gen.frame m ρ, fun m ρ _ => Cert.InCdIdeal.Gen.frame m ρ, Cert.Product.InCd.frame_ref,
    fun m ρ _ => Cert.OutCd.Gen.frame m ρ, fun m ρ _ => Cert.OutCdIdeal.Gen.frame m ρ, Cert.Product.OutCd.frame_ref,
    fun m ρ _ => Cert.GluT.Gen.frame m ρ, fun m ρ _ => Cert.GluTIdeal.Gen.frame m ρ, Cert.Product.GluT.frame_ref,
    fun m ρ _ => Cert.Xq.Gen.frame m ρ, fun m ρ _ => Cert.XqIdeal.Gen.frame m ρ, Cert.Product.Xq.frame_ref,
    fun m ρ _ => Cert.Xkv.Gen.frame m ρ, fun m ρ _ => Cert.XkvIdeal.Gen.frame m ρ, Cert.Product.Xkv.frame_ref,
    fun m ρ _ => Cert.Xo.Gen.frame m ρ, fun m ρ _ => Cert.XoIdeal.Gen.frame m ρ, Cert.Product.Xo.frame_ref,
    fun m ρ _ => Cert.XattnFwd.Gen.frame m ρ, fun m ρ _ => Cert.XattnFwdIdeal.Gen.frame m ρ, Cert.XattnFwd.Result.frame_ref,
    fun m ρ _ => Cert.XkvDxTop.Gen.frame m ρ, fun m ρ _ => Cert.XkvDxTopIdeal.Gen.frame m ρ, Cert.Product.XkvDxTop.frame_ref,
    fun m ρ _ => Cert.AdamInAb.Gen.frame m ρ, fun m ρ _ => Cert.AdamInAbIdeal.Gen.frame m ρ, Cert.Adam.InAb.frame_ref,
    fun m ρ _ => Cert.AdamInCd.Gen.frame m ρ, fun m ρ _ => Cert.AdamInCdIdeal.Gen.frame m ρ, Cert.Adam.InCd.frame_ref,
    fun m ρ _ => Cert.AdamOutAb.Gen.frame m ρ, fun m ρ _ => Cert.AdamOutAbIdeal.Gen.frame m ρ, Cert.Adam.OutAb.frame_ref,
    fun m ρ _ => Cert.AdamOutCd.Gen.frame m ρ, fun m ρ _ => Cert.AdamOutCdIdeal.Gen.frame m ρ, Cert.Adam.OutCd.frame_ref,
    fun m ρ _ => Cert.AdamSq.Gen.frame m ρ, fun m ρ _ => Cert.AdamSqIdeal.Gen.frame m ρ, Cert.Adam.Sq.frame_ref,
    fun m ρ _ => Cert.AdamXkv.Gen.frame m ρ, fun m ρ _ => Cert.AdamXkvIdeal.Gen.frame m ρ, Cert.Adam.Xkv.frame_ref,
    fun m ρ _ => Cert.AdamGlu.Gen.frame m ρ, fun m ρ _ => Cert.AdamGluIdeal.Gen.frame m ρ, Cert.Adam.Glu.frame_ref,
    fun m ρ _ => Cert.AdamPool.Gen.frame m ρ, fun m ρ _ => Cert.AdamPoolIdeal.Gen.frame m ρ, Cert.Adam.Pool.frame_ref,
    fun m ρ _ => Cert.Rms.Gen.frame m ρ, fun m ρ _ => Cert.RmsIdeal.Gen.frame m ρ, fun m ρ _ => Cert.RmsIdeal.Gen.frame m ρ,
    fun m ρ _ => Cert.Rms.Result.frame_ref m ρ, fun m ρ _ => Cert.Rms.Result.frame_ref m ρ,
    fun m ρ _ => Cert.RmsFwd.Gen.frame m ρ, fun m ρ _ => Cert.RmsFwdIdeal.Gen.frame m ρ, Cert.NormFwd.frame_ref,
    fun m ρ _ => Cert.RmsMem.Gen.frame m ρ, fun m ρ _ => Cert.RmsMemIdeal.Gen.frame m ρ, Cert.NormMem.frame_ref,
    fun m ρ _ => Cert.Gate.Gen.frame m ρ, fun m ρ _ => Cert.GateIdeal.Gen.frame m ρ, fun m ρ _ => Cert.GateIdeal.Gen.frame m ρ,
    fun m ρ _ => Cert.Gate.Result.frame_ref m ρ, fun m ρ _ => Cert.Gate.Result.frame_ref m ρ,
    fun m ρ _ => Cert.Sgu.Gen.frame m ρ, fun m ρ _ => Cert.SguIdeal.Gen.frame m ρ, fun m ρ _ => Cert.SguIdeal.Gen.frame m ρ,
    fun m ρ _ => Cert.Sgu.Result.frame_ref m ρ, fun m ρ _ => Cert.Sgu.Result.frame_ref m ρ,
    fun m ρ _ => Cert.Pool.Gen.frame m ρ, fun m ρ _ => Cert.PoolIdeal.Gen.frame m ρ, fun m ρ _ => Cert.PoolIdeal.Gen.frame m ρ,
    fun m ρ _ => Cert.Pool.Result.frame_ref m ρ, fun m ρ _ => Cert.Pool.Result.frame_ref m ρ,
    fun m ρ _ => Cert.PoolFwd.Gen.frame m ρ, fun m ρ _ => Cert.PoolFwdIdeal.Gen.frame m ρ, Cert.Pool.FwdRef.frame_ref,
    fun m ρ _ => Cert.SguFwd.Gen.frame m ρ, fun m ρ _ => Cert.SguFwdIdeal.Gen.frame m ρ, Cert.Sgu.FwdRef.frame_ref,
    fun m ρ _ => Cert.GluFwd.Gen.frame m ρ, fun m ρ _ => Cert.GluFwdIdeal.Gen.frame m ρ, Cert.Forward.Unit.frame_ref,
    trivial, Cert.Xattn.Result.algebraic,
    trivial, Cert.Product.InAbDx.algebraic,
    trivial, Cert.Product.InAbDw.algebraic,
    trivial, Cert.Product.InCdDx.algebraic,
    trivial, Cert.Product.InCdDw.algebraic,
    trivial, Cert.Product.OutAbDx.algebraic,
    trivial, Cert.Product.OutAbDw.algebraic,
    trivial, Cert.Product.OutCdDx.algebraic,
    trivial, Cert.Product.OutCdDw.algebraic,
    trivial, Cert.Product.XoDx.algebraic,
    trivial, Cert.Product.XoDw.algebraic,
    trivial, Cert.Product.XqDx.algebraic,
    trivial, Cert.Product.XqDw.algebraic,
    trivial, Cert.Product.XkvDx.algebraic,
    trivial, Cert.Product.XkvDw.algebraic,
    trivial, Cert.Product.GluDx.algebraic,
    trivial, Cert.Product.GluDw.algebraic,
    trivial, Cert.Product.InAb.algebraic,
    trivial, Cert.Product.OutAb.algebraic,
    trivial, Cert.Product.InCd.algebraic,
    trivial, Cert.Product.OutCd.algebraic,
    trivial, Cert.Product.GluT.algebraic,
    trivial, Cert.Product.Xq.algebraic,
    trivial, Cert.Product.Xkv.algebraic,
    trivial, Cert.Product.Xo.algebraic,
    trivial, Cert.XattnFwd.Result.algebraic,
    trivial, Cert.Product.XkvDxTop.algebraic,
    trivial, Cert.Adam.InAb.algebraic,
    trivial, Cert.Adam.InCd.algebraic,
    trivial, Cert.Adam.OutAb.algebraic,
    trivial, Cert.Adam.OutCd.algebraic,
    trivial, Cert.Adam.Sq.algebraic,
    trivial, Cert.Adam.Xkv.algebraic,
    trivial, Cert.Adam.Glu.algebraic,
    trivial, Cert.Adam.Pool.algebraic,
    trivial, Cert.Rms.Result.algebraic,
    trivial, Cert.NormFwd.algebraic,
    trivial, Cert.NormMem.algebraic,
    trivial, Cert.Gate.Result.algebraic,
    trivial, Cert.Sgu.Result.algebraic,
    trivial, Cert.Pool.Result.algebraic,
    trivial, Cert.Pool.FwdRef.algebraic,
    trivial, Cert.Sgu.FwdRef.algebraic,
    trivial, Cert.Forward.Unit.algebraic⟩

end Cert.Proof

end
